-- ==== Defs.lean ====
def Pre_Kernel [hPre_plan_tables : Cert.Pre_plan_tables.Facts] (m : (ℓ : Loc Cert.Kernel.nD Cert.Kernel.τ Cert.Kernel.sig) → Buf (Elt Bits) ℓ) : Prop :=
  ∀ c : Dev Cert.Kernel.nD,
    (Cert.Pre_plan_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_plan_tables : Cert.Pre_plan_tables.Facts] (m : (ℓ : Loc Cert.KernelIdeal.nD Cert.KernelIdeal.τ Cert.KernelIdeal.sig) → Buf (Elt Ideal) ℓ) : Prop :=
  ∀ c : Dev Cert.KernelIdeal.nD,
    (Cert.Pre_plan_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plan_tables [hPre_plan_tables : Cert.Pre_plan_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Combine [hPre_row_groups : Cert.Pre_row_groups.Facts] (m : (ℓ : Loc Cert.Combine.nD Cert.Combine.τ Cert.Combine.sig) → Buf (Elt Bits) ℓ) : Prop :=
  ∀ c : Dev Cert.Combine.nD,
    (Cert.Pre_row_groups.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5))) = (fun _ => 1#1)

def Pre_CombineIdeal [hPre_row_groups : Cert.Pre_row_groups.Facts] (m : (ℓ : Loc Cert.CombineIdeal.nD Cert.CombineIdeal.τ Cert.CombineIdeal.sig) → Buf (Elt Ideal) ℓ) : Prop :=
  ∀ c : Dev Cert.CombineIdeal.nD,
    (Cert.Pre_row_groups.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_row_groups [hPre_row_groups : Cert.Pre_row_groups.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_row_groups.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def quiescent_Kernel [hKernel : Cert.Kernel.Facts] [hPre_plan_tables : Cert.Pre_plan_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_plan_tables : Cert.Pre_plan_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_plan_tables [hReferenceIdeal : Cert.ReferenceIdeal.Facts] [hPre_plan_tables : Cert.Pre_plan_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plan_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Combine [hCombine : Cert.Combine.Facts] [hPre_row_groups : Cert.Pre_row_groups.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] [hPre_row_groups : Cert.Pre_row_groups.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_CombineReferenceIdeal_pre_row_groups [hCombineReferenceIdeal : Cert.CombineReferenceIdeal.Facts] [hPre_row_groups : Cert.Pre_row_groups.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_row_groups m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan_tables : Cert.Pre_plan_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Combine_CombineIdeal : Prop :=
  True

def algebraic_CombineIdeal_CombineReferenceIdeal [hCombineIdeal : Cert.CombineIdeal.Facts] [hCombineReferenceIdeal : Cert.CombineReferenceIdeal.Facts] [hPre_row_groups : Cert.Pre_row_groups.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v57) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hPre_plan_tables : Cert.Pre_plan_tables.Facts) (hPre_row_groups : Cert.Pre_row_groups.Facts),
    quiescent_Kernel (hKernel := hKernel) (hPre_plan_tables := hPre_plan_tables)
    ∧ quiescent_KernelIdeal (hKernelIdeal := hKernelIdeal) (hPre_plan_tables := hPre_plan_tables)
    ∧ quiescent_ReferenceIdeal (hReferenceIdeal := hReferenceIdeal)
    ∧ quiescent_ReferenceIdeal_pre_plan_tables (hReferenceIdeal := hReferenceIdeal) (hPre_plan_tables := hPre_plan_tables)
    ∧ quiescent_Combine (hCombine := hCombine) (hPre_row_groups := hPre_row_groups)
    ∧ quiescent_CombineIdeal (hCombineIdeal := hCombineIdeal) (hPre_row_groups := hPre_row_groups)
    ∧ quiescent_CombineReferenceIdeal (hCombineReferenceIdeal := hCombineReferenceIdeal)
    ∧ quiescent_CombineReferenceIdeal_pre_row_groups (hCombineReferenceIdeal := hCombineReferenceIdeal) (hPre_row_groups := hPre_row_groups)
    ∧ preserves_Kernel_KernelIdeal
    ∧ algebraic_KernelIdeal_ReferenceIdeal (hKernelIdeal := hKernelIdeal) (hReferenceIdeal := hReferenceIdeal) (hPre_plan_tables := hPre_plan_tables)
    ∧ preserves_Combine_CombineIdeal
    ∧ algebraic_CombineIdeal_CombineReferenceIdeal (hCombineIdeal := hCombineIdeal) (hCombineReferenceIdeal := hCombineReferenceIdeal) (hPre_row_groups := hPre_row_groups)
-- ==== Pre_plan_tables.lean ====
abbrev S196 : Shape := ⟨1, ![196]⟩
abbrev S32 : Shape := ⟨1, ![32]⟩
abbrev S6272 : Shape := ⟨1, ![6272]⟩
abbrev S40960x640 : Shape := ⟨2, ![40960, 640]⟩
abbrev S32x1024x512 : Shape := ⟨3, ![32, 1024, 512]⟩
abbrev S32x512x1024 : Shape := ⟨3, ![32, 512, 1024]⟩
abbrev S196x32 : Shape := ⟨2, ![196, 32]⟩
abbrev S_ : Shape := ⟨0, ![]⟩
abbrev S196x1 : Shape := ⟨2, ![196, 1]⟩
abbrev S1x32 : Shape := ⟨2, ![1, 32]⟩
abbrev S1 : Shape := ⟨1, ![1]⟩
abbrev S31 : Shape := ⟨1, ![31]⟩

class Facts : Prop where
  shapeCasts_S6272_S196x32 : S6272.ShapeCasts S196x32
  bcast_S_S196x32 : S_.BroadcastsInDim S196x32 (![] : Fin 0 → Fin S196x32.rank)
  bcast_S196_S196x1_0 : S196.BroadcastsInDim S196x1 (![0] : Fin 1 → Fin S196x1.rank)
  bcast_S32_S1x32_1 : S32.BroadcastsInDim S1x32 (![1] : Fin 1 → Fin S1x32.rank)
  bcast_S_S196x1 : S_.BroadcastsInDim S196x1 (![] : Fin 0 → Fin S196x1.rank)
  bcast_S196x1_S196x32_0_1 : S196x1.BroadcastsInDim S196x32 (![0, 1] : Fin 2 → Fin S196x32.rank)
  bcast_S_S1 : S_.BroadcastsInDim S1 (![] : Fin 0 → Fin S1.rank)
  slices_S32_S31_0 : S32.Slices ![0] S31
  concatenates_S1_S31_S32_d0 : Shape.Concatenates [S1, S31] S32 0
  bcast_S1x32_S196x32_0_1 : S1x32.BroadcastsInDim S196x32 (![0, 1] : Fin 2 → Fin S196x32.rank)
  slices_S32_S1_31 : S32.Slices ![31] S1
  shapeCasts_S1_S_ : S1.ShapeCasts S_

variable [Facts]

def fn_part2 {F : FTy → Type} [FloatOps F] (main_arg1 : IVec S32 32) (main_arg2 : IVec S32 32) (main_v11 : IVec S196x1 32) (main_v13 : IVec S196x1 32) (main_v15 : IVec S1x32 32) (main_v34 : IVec S_ 32) (main_v37 : IVec S196x32 1) (main_v38 : IVec S_ 1) : IVec S196x32 1 :=
  let main_v39 : IVec S196x32 1 := broadcastInDim S196x32 ![] bcast_S_S196x32 main_v38
  let main_v40 : IVec S196x32 1 := andi main_v37 main_v39
  let main_v41 : IVec S196x32 32 := broadcastInDim S196x32 ![0, 1] bcast_S196x1_S196x32_0_1 main_v11
  let main_v42 : IVec S196x32 32 := broadcastInDim S196x32 ![0, 1] bcast_S1x32_S196x32_0_1 main_v15
  let main_v43 : IVec S196x32 1 := cmpi .ne main_v41 main_v42
  let main_v44 : IVec S196x1 32 := broadcastInDim S196x1 ![] bcast_S_S196x1 main_v34
  let main_v45 : IVec S196x1 1 := cmpi .sge main_v13 main_v44
  let main_v46 : IVec S196x32 1 := broadcastInDim S196x32 ![0, 1] bcast_S196x1_S196x32_0_1 main_v45
  let main_v47 : IVec S196x32 1 := ori main_v43 main_v46
  let main_v48 : IVec S1x32 32 := broadcastInDim S1x32 ![1] bcast_S32_S1x32_1 main_arg1
  let main_v49 : IVec S196x32 32 := broadcastInDim S196x32 ![0, 1] bcast_S1x32_S196x32_0_1 main_v48
  let main_v50 : IVec S196x32 32 := broadcastInDim S196x32 ![0, 1] bcast_S196x1_S196x32_0_1 main_v13
  let main_v51 : IVec S196x32 1 := cmpi .sle main_v49 main_v50
  let main_v52 : IVec S1x32 32 := broadcastInDim S1x32 ![1] bcast_S32_S1x32_1 main_arg2
  let main_v53 : IVec S196x32 32 := broadcastInDim S196x32 ![0, 1] bcast_S196x1_S196x32_0_1 main_v13
  let main_v54 : IVec S196x32 32 := broadcastInDim S196x32 ![0, 1] bcast_S1x32_S196x32_0_1 main_v52
  let main_v55 : IVec S196x32 1 := cmpi .slt main_v53 main_v54
  let main_v56 : IVec S196x32 1 := andi main_v51 main_v55
  let main_v57 : IVec S196x32 1 := ori main_v47 main_v56
  let main_v58 : IVec S196x32 1 := andi main_v40 main_v57
  main_v58

def fn_part1 {F : FTy → Type} [FloatOps F] (main_arg1 : IVec S32 32) (main_arg2 : IVec S32 32) (main_v10 : IVec S196x32 1) (main_v11 : IVec S196x1 32) (main_v13 : IVec S196x1 32) (main_v15 : IVec S1x32 32) (main_v18 : IVec S196x32 1) : IVec S196x32 1 :=
  let main_v19 : IVec S196x32 1 := andi main_v10 main_v18
  let main_c_4 : IVec S_ 32 := constantI S_ 32 32#32
  let main_v20 : IVec S196x1 32 := broadcastInDim S196x1 ![] bcast_S_S196x1 main_c_4
  let main_v21 : IVec S196x1 1 := cmpi .slt main_v11 main_v20
  let main_v22 : IVec S196x32 1 := broadcastInDim S196x32 ![0, 1] bcast_S196x1_S196x32_0_1 main_v21
  let main_v23 : IVec S196x32 1 := andi main_v19 main_v22
  let main_c_5 : IVec S_ 32 := constantI S_ 32 0#32
  let main_v24 : IVec S1 32 := broadcastInDim S1 ![] bcast_S_S1 main_c_5
  let main_v25 : IVec S31 32 := (extractStridedSlice S31 ![0] · slices_S32_S31_0) main_arg2
  let main_v26 : IVec S32 32 := (fun a b => concatenate S32 0 [⟨S1, a⟩, ⟨S31, b⟩] concatenates_S1_S31_S32_d0) main_v24 main_v25
  let main_v27 : IVec S32 1 := cmpi .eq main_arg1 main_v26
  let main_v28 : IVec S32 1 := cmpi .sle main_arg1 main_arg2
  let main_v29 : IVec S32 1 := andi main_v27 main_v28
  let main_v30 : IVec S1x32 1 := broadcastInDim S1x32 ![1] bcast_S32_S1x32_1 main_v29
  let main_v31 : IVec S196x32 1 := broadcastInDim S196x32 ![0, 1] bcast_S1x32_S196x32_0_1 main_v30
  let main_v32 : IVec S196x32 1 := andi main_v23 main_v31
  let main_v33 : IVec S1 32 := (extractStridedSlice S1 ![31] · slices_S32_S1_31) main_arg2
  let main_v34 : IVec S_ 32 := shapeCast S_ main_v33 shapeCasts_S1_S_
  let main_c_6 : IVec S_ 32 := constantI S_ 32 1#32
  let main_v35 : IVec S_ 1 := cmpi .sge main_v34 main_c_6
  let main_v36 : IVec S196x32 1 := broadcastInDim S196x32 ![] bcast_S_S196x32 main_v35
  let main_v37 : IVec S196x32 1 := andi main_v32 main_v36
  let main_c_7 : IVec S_ 32 := constantI S_ 32 192#32
  let main_v38 : IVec S_ 1 := cmpi .sle main_v34 main_c_7
  fn_part2 (F := F) main_arg1 main_arg2 main_v11 main_v13 main_v15 main_v34 main_v37 main_v38

def fn {F : FTy → Type} [FloatOps F] (main_arg0 : IVec S196 32) (main_arg1 : IVec S32 32) (main_arg2 : IVec S32 32) (main_arg3 : IVec S6272 32) (main_arg4 : IVec S40960x640 32) (main_arg5 : FVec F S32x1024x512 .f32) (main_arg6 : FVec F S32x1024x512 .f32) (main_arg7 : FVec F S32x512x1024 .f32) : IVec S196x32 1 :=
  let main_v0 : IVec S196x32 32 := shapeCast S196x32 main_arg3 shapeCasts_S6272_S196x32
  let main_c : IVec S_ 32 := constantI S_ 32 0#32
  let main_v1 : IVec S196x32 32 := broadcastInDim S196x32 ![] bcast_S_S196x32 main_c
  let main_v2 : IVec S196x32 1 := cmpi .sge main_v0 main_v1
  let main_c_0 : IVec S_ 32 := constantI S_ 32 40952#32
  let main_v3 : IVec S196x32 32 := broadcastInDim S196x32 ![] bcast_S_S196x32 main_c_0
  let main_v4 : IVec S196x32 1 := cmpi .sle main_v0 main_v3
  let main_v5 : IVec S196x32 1 := andi main_v2 main_v4
  let main_c_1 : IVec S_ 32 := constantI S_ 32 7#32
  let main_v6 : IVec S196x32 32 := broadcastInDim S196x32 ![] bcast_S_S196x32 main_c_1
  let main_v7 : IVec S196x32 32 := andi main_v0 main_v6
  let main_c_2 : IVec S_ 32 := constantI S_ 32 0#32
  let main_v8 : IVec S196x32 32 := broadcastInDim S196x32 ![] bcast_S_S196x32 main_c_2
  let main_v9 : IVec S196x32 1 := cmpi .eq main_v7 main_v8
  let main_v10 : IVec S196x32 1 := andi main_v5 main_v9
  let main_v11 : IVec S196x1 32 := broadcastInDim S196x1 ![0] bcast_S196_S196x1_0 main_arg0
  let main_v12 : IVec S196 32 := iotaInDim S196 32 0
  let main_v13 : IVec S196x1 32 := broadcastInDim S196x1 ![0] bcast_S196_S196x1_0 main_v12
  let main_v14 : IVec S32 32 := iotaInDim S32 32 0
  let main_v15 : IVec S1x32 32 := broadcastInDim S1x32 ![1] bcast_S32_S1x32_1 main_v14
  let main_c_3 : IVec S_ 32 := constantI S_ 32 0#32
  let main_v16 : IVec S196x1 32 := broadcastInDim S196x1 ![] bcast_S_S196x1 main_c_3
  let main_v17 : IVec S196x1 1 := cmpi .sge main_v11 main_v16
  let main_v18 : IVec S196x32 1 := broadcastInDim S196x32 ![0, 1] bcast_S196x1_S196x32_0_1 main_v17
  fn_part1 (F := F) main_arg1 main_arg2 main_v10 main_v11 main_v13 main_v15 main_v18
-- ==== Pre_row_groups.lean ====
abbrev S5120 : Shape := ⟨1, ![5120]⟩
abbrev S32 : Shape := ⟨1, ![32]⟩
abbrev S16384x1024 : Shape := ⟨2, ![16384, 1024]⟩
abbrev S16384x128 : Shape := ⟨2, ![16384, 128]⟩
abbrev S1x1024 : Shape := ⟨2, ![1, 1024]⟩
abbrev S49152x1024 : Shape := ⟨2, ![49152, 1024]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : IVec S5120 32) (main_arg1 : IVec S32 32) (main_arg2 : FVec F S16384x1024 .f32) (main_arg3 : FVec F S16384x128 .f32) (main_arg4 : FVec F S1x1024 .f32) (main_arg5 : FVec F S49152x1024 .f32) : IVec S5120 1 :=
  let main_c : IVec S_ 32 := constantI S_ 32 0#32
  let main_v0 : IVec S5120 32 := broadcastInDim S5120 ![] bcast_S_S5120 main_c
  let main_v1 : IVec S5120 1 := cmpi .sge main_arg0 main_v0
  let main_c_0 : IVec S_ 32 := constantI S_ 32 49144#32
  let main_v2 : IVec S5120 32 := broadcastInDim S5120 ![] bcast_S_S5120 main_c_0
  let main_v3 : IVec S5120 1 := cmpi .sle main_arg0 main_v2
  let main_v4 : IVec S5120 1 := andi main_v1 main_v3
  let main_c_1 : IVec S_ 32 := constantI S_ 32 7#32
  let main_v5 : IVec S5120 32 := broadcastInDim S5120 ![] bcast_S_S5120 main_c_1
  let main_v6 : IVec S5120 32 := andi main_arg0 main_v5
  let main_c_2 : IVec S_ 32 := constantI S_ 32 0#32
  let main_v7 : IVec S5120 32 := broadcastInDim S5120 ![] bcast_S_S5120 main_c_2
  let main_v8 : IVec S5120 1 := cmpi .eq main_v6 main_v7
  let main_v9 : IVec S5120 1 := andi main_v4 main_v8
  main_v9
-- ==== Kernel.lean ====
abbrev S196 : Shape := ⟨1, ![196]⟩
abbrev S32 : Shape := ⟨1, ![32]⟩
abbrev S6272 : Shape := ⟨1, ![6272]⟩
abbrev S40960x640 : Shape := ⟨2, ![40960, 640]⟩
abbrev S32x1024x512 : Shape := ⟨3, ![32, 1024, 512]⟩
abbrev S32x512x1024 : Shape := ⟨3, ![32, 512, 1024]⟩
abbrev S49152x1024 : Shape := ⟨2, ![49152, 1024]⟩
abbrev S256x1024 : Shape := ⟨2, ![256, 1024]⟩
abbrev S5x256x640 : Shape := ⟨3, ![5, 256, 640]⟩
abbrev S1024x512 : Shape := ⟨2, ![1024, 512]⟩
abbrev S512x1024 : Shape := ⟨2, ![512, 1024]⟩
abbrev S5 : Shape := ⟨1, ![5]⟩
abbrev S3 : Shape := ⟨1, ![3]⟩
abbrev S1 : Shape := ⟨1, ![1]⟩
abbrev S_ : Shape := ⟨0, ![]⟩
abbrev S1x8x640 : Shape := ⟨3, ![1, 8, 640]⟩
abbrev S8x640 : Shape := ⟨2, ![8, 640]⟩
abbrev S1x1024x512 : Shape := ⟨3, ![1, 1024, 512]⟩
abbrev S1x512x1024 : Shape := ⟨3, ![1, 512, 1024]⟩
abbrev S1x256x640 : Shape := ⟨3, ![1, 256, 640]⟩
abbrev S256x640 : Shape := ⟨2, ![256, 640]⟩
abbrev S256x512 : Shape := ⟨2, ![256, 512]⟩
abbrev S256x128 : Shape := ⟨2, ![256, 128]⟩
abbrev S256x1 : Shape := ⟨2, ![256, 1]⟩

abbrev nBuf : Space → Nat
  | .hbm => 5
  | .vmem => 9
  | .smem => 4
  | _ => 0

abbrev bufTy : (tb : Table) → Fin (tcTables nBuf tb) → BufTy
  | .hbm, ⟨0, _⟩ => ⟨S40960x640, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S49152x1024, .f32⟩
  | .local _ .vmem, ⟨0, _⟩ => ⟨S256x1024, .f32⟩
  | .local _ .vmem, ⟨1, _⟩ => ⟨S256x1024, .f32⟩
  | .local _ .vmem, ⟨2, _⟩ => ⟨S5x256x640, .i32⟩
  | .local _ .vmem, ⟨3, _⟩ => ⟨S1024x512, .f32⟩
  | .local _ .vmem, ⟨4, _⟩ => ⟨S1024x512, .f32⟩
  | .local _ .vmem, ⟨5, _⟩ => ⟨S512x1024, .f32⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .smem, ⟨0, _⟩ => ⟨S196, .i32⟩
  | .local _ .smem, ⟨1, _⟩ => ⟨S32, .i32⟩
  | .local _ .smem, ⟨2, _⟩ => ⟨S32, .i32⟩
  | .local _ .smem, ⟨3, _⟩ => ⟨S6272, .i32⟩
  | _, _ => ⟨S40960x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![192], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v11 : Index := Scalar.indexCast arg0
  ![v11.toNat]
def k0_cond1 (i : grid0.Coords) : BitVec 1 :=
  let arg0 : BitVec 32 := BitVec.ofNat 32 (i 0).val
  let c0_i32_3 : BitVec 32 := 0#32
  let v13 : BitVec 1 := Scalar.cmpi .eq arg0 c0_i32_3
  let v14 : BitVec 32 := Scalar.extui v13
  let c0_i32_4 : BitVec 32 := 0#32
  let v15 : BitVec 1 := Scalar.cmpi .ne v14 c0_i32_4
  v15

def k0_mult1 (v25 : BitVec 32) : BitVec 32 :=
  v25

def k0_off2 (v25 : BitVec 32) : Fin 2 → Nat :=
  let v26 : BitVec 32 := v25
  let c0_i32_12 : BitVec 32 := 0#32
  ![v26.toNat, 0]

def k0_chk1 (i : grid0.Coords) (v25 : BitVec 32) : Prop :=
  (∀ (k0_h1 : k0_cond1 i = 1#1), 8 ∣ (k0_mult1 v25).toNat) ∧
  (∀ (k0_h1 : k0_cond1 i = 1#1), ∀ a, (k0_off2 v25) a + S8x640.size a ≤ S40960x640.size a)
theorem k0_mult1_dvd : ∀ (i : grid0.Coords) (v25 : BitVec 32) (k0_hw1 : k0_chk1 i v25), ∀ (k0_h1 : k0_cond1 i = 1#1), 8 ∣ (k0_mult1 v25).toNat := fun i v25 k0_hw1 k0_h1 => k0_hw1.1 k0_h1
theorem k0_off2_inb : ∀ (i : grid0.Coords) (v25 : BitVec 32) (k0_hw1 : k0_chk1 i v25), ∀ (k0_h1 : k0_cond1 i = 1#1), ∀ a, (k0_off2 v25) a + S8x640.size a ≤ S40960x640.size a := fun i v25 k0_hw1 k0_h1 => k0_hw1.2 k0_h1

def k0_mult2 (v32 : BitVec 32) : BitVec 32 :=
  v32

def k0_off3 (v32 : BitVec 32) : Fin 2 → Nat :=
  let v33 : BitVec 32 := v32
  let c0_i32_16 : BitVec 32 := 0#32
  ![v33.toNat, 0]

def k0_chk2 (i : grid0.Coords) (v32 : BitVec 32) : Prop :=
  (∀ (k0_h1 : k0_cond1 i = 1#1), 8 ∣ (k0_mult2 v32).toNat) ∧
  (∀ (k0_h1 : k0_cond1 i = 1#1), ∀ a, (k0_off3 v32) a + S8x640.size a ≤ S40960x640.size a)
theorem k0_mult2_dvd : ∀ (i : grid0.Coords) (v32 : BitVec 32) (k0_hw2 : k0_chk2 i v32), ∀ (k0_h1 : k0_cond1 i = 1#1), 8 ∣ (k0_mult2 v32).toNat := fun i v32 k0_hw2 k0_h1 => k0_hw2.1 k0_h1
theorem k0_off3_inb : ∀ (i : grid0.Coords) (v32 : BitVec 32) (k0_hw2 : k0_chk2 i v32), ∀ (k0_h1 : k0_cond1 i = 1#1), ∀ a, (k0_off3 v32) a + S8x640.size a ≤ S40960x640.size a := fun i v32 k0_hw2 k0_h1 => k0_hw2.2 k0_h1

def k0_mult3 (v39 : BitVec 32) : BitVec 32 :=
  v39

def k0_off4 (v39 : BitVec 32) : Fin 2 → Nat :=
  let v40 : BitVec 32 := v39
  let c0_i32_20 : BitVec 32 := 0#32
  ![v40.toNat, 0]

def k0_chk3 (i : grid0.Coords) (v39 : BitVec 32) : Prop :=
  (∀ (k0_h1 : k0_cond1 i = 1#1), 8 ∣ (k0_mult3 v39).toNat) ∧
  (∀ (k0_h1 : k0_cond1 i = 1#1), ∀ a, (k0_off4 v39) a + S8x640.size a ≤ S40960x640.size a)
theorem k0_mult3_dvd : ∀ (i : grid0.Coords) (v39 : BitVec 32) (k0_hw3 : k0_chk3 i v39), ∀ (k0_h1 : k0_cond1 i = 1#1), 8 ∣ (k0_mult3 v39).toNat := fun i v39 k0_hw3 k0_h1 => k0_hw3.1 k0_h1
theorem k0_off4_inb : ∀ (i : grid0.Coords) (v39 : BitVec 32) (k0_hw3 : k0_chk3 i v39), ∀ (k0_h1 : k0_cond1 i = 1#1), ∀ a, (k0_off4 v39) a + S8x640.size a ≤ S40960x640.size a := fun i v39 k0_hw3 k0_h1 => k0_hw3.2 k0_h1

def k0_mult4 (v46 : BitVec 32) : BitVec 32 :=
  v46

def k0_off5 (v46 : BitVec 32) : Fin 2 → Nat :=
  let v47 : BitVec 32 := v46
  let c0_i32_24 : BitVec 32 := 0#32
  ![v47.toNat, 0]

def k0_chk4 (i : grid0.Coords) (v46 : BitVec 32) : Prop :=
  (∀ (k0_h1 : k0_cond1 i = 1#1), 8 ∣ (k0_mult4 v46).toNat) ∧
  (∀ (k0_h1 : k0_cond1 i = 1#1), ∀ a, (k0_off5 v46) a + S8x640.size a ≤ S40960x640.size a)
theorem k0_mult4_dvd : ∀ (i : grid0.Coords) (v46 : BitVec 32) (k0_hw4 : k0_chk4 i v46), ∀ (k0_h1 : k0_cond1 i = 1#1), 8 ∣ (k0_mult4 v46).toNat := fun i v46 k0_hw4 k0_h1 => k0_hw4.1 k0_h1
theorem k0_off5_inb : ∀ (i : grid0.Coords) (v46 : BitVec 32) (k0_hw4 : k0_chk4 i v46), ∀ (k0_h1 : k0_cond1 i = 1#1), ∀ a, (k0_off5 v46) a + S8x640.size a ≤ S40960x640.size a := fun i v46 k0_hw4 k0_h1 => k0_hw4.2 k0_h1

def k0_mult5 (v53 : BitVec 32) : BitVec 32 :=
  v53

def k0_off6 (v53 : BitVec 32) : Fin 2 → Nat :=
  let v54 : BitVec 32 := v53
  let c0_i32_28 : BitVec 32 := 0#32
  ![v54.toNat, 0]

def k0_chk5 (i : grid0.Coords) (v53 : BitVec 32) : Prop :=
  (∀ (k0_h1 : k0_cond1 i = 1#1), 8 ∣ (k0_mult5 v53).toNat) ∧
  (∀ (k0_h1 : k0_cond1 i = 1#1), ∀ a, (k0_off6 v53) a + S8x640.size a ≤ S40960x640.size a)
theorem k0_mult5_dvd : ∀ (i : grid0.Coords) (v53 : BitVec 32) (k0_hw5 : k0_chk5 i v53), ∀ (k0_h1 : k0_cond1 i = 1#1), 8 ∣ (k0_mult5 v53).toNat := fun i v53 k0_hw5 k0_h1 => k0_hw5.1 k0_h1
theorem k0_off6_inb : ∀ (i : grid0.Coords) (v53 : BitVec 32) (k0_hw5 : k0_chk5 i v53), ∀ (k0_h1 : k0_cond1 i = 1#1), ∀ a, (k0_off6 v53) a + S8x640.size a ≤ S40960x640.size a := fun i v53 k0_hw5 k0_h1 => k0_hw5.2 k0_h1

def k0_mult6 (v60 : BitVec 32) : BitVec 32 :=
  v60

def k0_off7 (v60 : BitVec 32) : Fin 2 → Nat :=
  let v61 : BitVec 32 := v60
  let c0_i32_32 : BitVec 32 := 0#32
  ![v61.toNat, 0]

def k0_chk6 (i : grid0.Coords) (v60 : BitVec 32) : Prop :=
  (∀ (k0_h1 : k0_cond1 i = 1#1), 8 ∣ (k0_mult6 v60).toNat) ∧
  (∀ (k0_h1 : k0_cond1 i = 1#1), ∀ a, (k0_off7 v60) a + S8x640.size a ≤ S40960x640.size a)
theorem k0_mult6_dvd : ∀ (i : grid0.Coords) (v60 : BitVec 32) (k0_hw6 : k0_chk6 i v60), ∀ (k0_h1 : k0_cond1 i = 1#1), 8 ∣ (k0_mult6 v60).toNat := fun i v60 k0_hw6 k0_h1 => k0_hw6.1 k0_h1
theorem k0_off7_inb : ∀ (i : grid0.Coords) (v60 : BitVec 32) (k0_hw6 : k0_chk6 i v60), ∀ (k0_h1 : k0_cond1 i = 1#1), ∀ a, (k0_off7 v60) a + S8x640.size a ≤ S40960x640.size a := fun i v60 k0_hw6 k0_h1 => k0_hw6.2 k0_h1

def k0_mult7 (v67 : BitVec 32) : BitVec 32 :=
  v67

def k0_off8 (v67 : BitVec 32) : Fin 2 → Nat :=
  let v68 : BitVec 32 := v67
  let c0_i32_36 : BitVec 32 := 0#32
  ![v68.toNat, 0]

def k0_chk7 (i : grid0.Coords) (v67 : BitVec 32) : Prop :=
  (∀ (k0_h1 : k0_cond1 i = 1#1), 8 ∣ (k0_mult7 v67).toNat) ∧
  (∀ (k0_h1 : k0_cond1 i = 1#1), ∀ a, (k0_off8 v67) a + S8x640.size a ≤ S40960x640.size a)
theorem k0_mult7_dvd : ∀ (i : grid0.Coords) (v67 : BitVec 32) (k0_hw7 : k0_chk7 i v67), ∀ (k0_h1 : k0_cond1 i = 1#1), 8 ∣ (k0_mult7 v67).toNat := fun i v67 k0_hw7 k0_h1 => k0_hw7.1 k0_h1
theorem k0_off8_inb : ∀ (i : grid0.Coords) (v67 : BitVec 32) (k0_hw7 : k0_chk7 i v67), ∀ (k0_h1 : k0_cond1 i = 1#1), ∀ a, (k0_off8 v67) a + S8x640.size a ≤ S40960x640.size a := fun i v67 k0_hw7 k0_h1 => k0_hw7.2 k0_h1

def k0_mult8 (v74 : BitVec 32) : BitVec 32 :=
  v74

def k0_off9 (v74 : BitVec 32) : Fin 2 → Nat :=
  let v75 : BitVec 32 := v74
  let c0_i32_40 : BitVec 32 := 0#32
  ![v75.toNat, 0]

def k0_chk8 (i : grid0.Coords) (v74 : BitVec 32) : Prop :=
  (∀ (k0_h1 : k0_cond1 i = 1#1), 8 ∣ (k0_mult8 v74).toNat) ∧
  (∀ (k0_h1 : k0_cond1 i = 1#1), ∀ a, (k0_off9 v74) a + S8x640.size a ≤ S40960x640.size a)
theorem k0_mult8_dvd : ∀ (i : grid0.Coords) (v74 : BitVec 32) (k0_hw8 : k0_chk8 i v74), ∀ (k0_h1 : k0_cond1 i = 1#1), 8 ∣ (k0_mult8 v74).toNat := fun i v74 k0_hw8 k0_h1 => k0_hw8.1 k0_h1
theorem k0_off9_inb : ∀ (i : grid0.Coords) (v74 : BitVec 32) (k0_hw8 : k0_chk8 i v74), ∀ (k0_h1 : k0_cond1 i = 1#1), ∀ a, (k0_off9 v74) a + S8x640.size a ≤ S40960x640.size a := fun i v74 k0_hw8 k0_h1 => k0_hw8.2 k0_h1

def k0_mult9 (v81 : BitVec 32) : BitVec 32 :=
  v81

def k0_off10 (v81 : BitVec 32) : Fin 2 → Nat :=
  let v82 : BitVec 32 := v81
  let c0_i32_44 : BitVec 32 := 0#32
  ![v82.toNat, 0]

def k0_chk9 (i : grid0.Coords) (v81 : BitVec 32) : Prop :=
  (∀ (k0_h1 : k0_cond1 i = 1#1), 8 ∣ (k0_mult9 v81).toNat) ∧
  (∀ (k0_h1 : k0_cond1 i = 1#1), ∀ a, (k0_off10 v81) a + S8x640.size a ≤ S40960x640.size a)
theorem k0_mult9_dvd : ∀ (i : grid0.Coords) (v81 : BitVec 32) (k0_hw9 : k0_chk9 i v81), ∀ (k0_h1 : k0_cond1 i = 1#1), 8 ∣ (k0_mult9 v81).toNat := fun i v81 k0_hw9 k0_h1 => k0_hw9.1 k0_h1
theorem k0_off10_inb : ∀ (i : grid0.Coords) (v81 : BitVec 32) (k0_hw9 : k0_chk9 i v81), ∀ (k0_h1 : k0_cond1 i = 1#1), ∀ a, (k0_off10 v81) a + S8x640.size a ≤ S40960x640.size a := fun i v81 k0_hw9 k0_h1 => k0_hw9.2 k0_h1

def k0_mult10 (v88 : BitVec 32) : BitVec 32 :=
  v88

def k0_off11 (v88 : BitVec 32) : Fin 2 → Nat :=
  let v89 : BitVec 32 := v88
  let c0_i32_48 : BitVec 32 := 0#32
  ![v89.toNat, 0]

def k0_chk10 (i : grid0.Coords) (v88 : BitVec 32) : Prop :=
  (∀ (k0_h1 : k0_cond1 i = 1#1), 8 ∣ (k0_mult10 v88).toNat) ∧
  (∀ (k0_h1 : k0_cond1 i = 1#1), ∀ a, (k0_off11 v88) a + S8x640.size a ≤ S40960x640.size a)
theorem k0_mult10_dvd : ∀ (i : grid0.Coords) (v88 : BitVec 32) (k0_hw10 : k0_chk10 i v88), ∀ (k0_h1 : k0_cond1 i = 1#1), 8 ∣ (k0_mult10 v88).toNat := fun i v88 k0_hw10 k0_h1 => k0_hw10.1 k0_h1
theorem k0_off11_inb : ∀ (i : grid0.Coords) (v88 : BitVec 32) (k0_hw10 : k0_chk10 i v88), ∀ (k0_h1 : k0_cond1 i = 1#1), ∀ a, (k0_off11 v88) a + S8x640.size a ≤ S40960x640.size a := fun i v88 k0_hw10 k0_h1 => k0_hw10.2 k0_h1

def k0_mult11 (v95 : BitVec 32) : BitVec 32 :=
  v95

def k0_off12 (v95 : BitVec 32) : Fin 2 → Nat :=
  let v96 : BitVec 32 := v95
  let c0_i32_52 : BitVec 32 := 0#32
  ![v96.toNat, 0]

def k0_chk11 (i : grid0.Coords) (v95 : BitVec 32) : Prop :=
  (∀ (k0_h1 : k0_cond1 i = 1#1), 8 ∣ (k0_mult11 v95).toNat) ∧
  (∀ (k0_h1 : k0_cond1 i = 1#1), ∀ a, (k0_off12 v95) a + S8x640.size a ≤ S40960x640.size a)
theorem k0_mult11_dvd : ∀ (i : grid0.Coords) (v95 : BitVec 32) (k0_hw11 : k0_chk11 i v95), ∀ (k0_h1 : k0_cond1 i = 1#1), 8 ∣ (k0_mult11 v95).toNat := fun i v95 k0_hw11 k0_h1 => k0_hw11.1 k0_h1
theorem k0_off12_inb : ∀ (i : grid0.Coords) (v95 : BitVec 32) (k0_hw11 : k0_chk11 i v95), ∀ (k0_h1 : k0_cond1 i = 1#1), ∀ a, (k0_off12 v95) a + S8x640.size a ≤ S40960x640.size a := fun i v95 k0_hw11 k0_h1 => k0_hw11.2 k0_h1

def k0_mult12 (v102 : BitVec 32) : BitVec 32 :=
  v102

def k0_off13 (v102 : BitVec 32) : Fin 2 → Nat :=
  let v103 : BitVec 32 := v102
  let c0_i32_56 : BitVec 32 := 0#32
  ![v103.toNat, 0]

def k0_chk12 (i : grid0.Coords) (v102 : BitVec 32) : Prop :=
  (∀ (k0_h1 : k0_cond1 i = 1#1), 8 ∣ (k0_mult12 v102).toNat) ∧
  (∀ (k0_h1 : k0_cond1 i = 1#1), ∀ a, (k0_off13 v102) a + S8x640.size a ≤ S40960x640.size a)
theorem k0_mult12_dvd : ∀ (i : grid0.Coords) (v102 : BitVec 32) (k0_hw12 : k0_chk12 i v102), ∀ (k0_h1 : k0_cond1 i = 1#1), 8 ∣ (k0_mult12 v102).toNat := fun i v102 k0_hw12 k0_h1 => k0_hw12.1 k0_h1
theorem k0_off13_inb : ∀ (i : grid0.Coords) (v102 : BitVec 32) (k0_hw12 : k0_chk12 i v102), ∀ (k0_h1 : k0_cond1 i = 1#1), ∀ a, (k0_off13 v102) a + S8x640.size a ≤ S40960x640.size a := fun i v102 k0_hw12 k0_h1 => k0_hw12.2 k0_h1

def k0_mult13 (v109 : BitVec 32) : BitVec 32 :=
  v109

def k0_off14 (v109 : BitVec 32) : Fin 2 → Nat :=
  let v110 : BitVec 32 := v109
  let c0_i32_60 : BitVec 32 := 0#32
  ![v110.toNat, 0]

def k0_chk13 (i : grid0.Coords) (v109 : BitVec 32) : Prop :=
  (∀ (k0_h1 : k0_cond1 i = 1#1), 8 ∣ (k0_mult13 v109).toNat) ∧
  (∀ (k0_h1 : k0_cond1 i = 1#1), ∀ a, (k0_off14 v109) a + S8x640.size a ≤ S40960x640.size a)
theorem k0_mult13_dvd : ∀ (i : grid0.Coords) (v109 : BitVec 32) (k0_hw13 : k0_chk13 i v109), ∀ (k0_h1 : k0_cond1 i = 1#1), 8 ∣ (k0_mult13 v109).toNat := fun i v109 k0_hw13 k0_h1 => k0_hw13.1 k0_h1
theorem k0_off14_inb : ∀ (i : grid0.Coords) (v109 : BitVec 32) (k0_hw13 : k0_chk13 i v109), ∀ (k0_h1 : k0_cond1 i = 1#1), ∀ a, (k0_off14 v109) a + S8x640.size a ≤ S40960x640.size a := fun i v109 k0_hw13 k0_h1 => k0_hw13.2 k0_h1

def k0_mult14 (v116 : BitVec 32) : BitVec 32 :=
  v116

def k0_off15 (v116 : BitVec 32) : Fin 2 → Nat :=
  let v117 : BitVec 32 := v116
  let c0_i32_64 : BitVec 32 := 0#32
  ![v117.toNat, 0]

def k0_chk14 (i : grid0.Coords) (v116 : BitVec 32) : Prop :=
  (∀ (k0_h1 : k0_cond1 i = 1#1), 8 ∣ (k0_mult14 v116).toNat) ∧
  (∀ (k0_h1 : k0_cond1 i = 1#1), ∀ a, (k0_off15 v116) a + S8x640.size a ≤ S40960x640.size a)
theorem k0_mult14_dvd : ∀ (i : grid0.Coords) (v116 : BitVec 32) (k0_hw14 : k0_chk14 i v116), ∀ (k0_h1 : k0_cond1 i = 1#1), 8 ∣ (k0_mult14 v116).toNat := fun i v116 k0_hw14 k0_h1 => k0_hw14.1 k0_h1
theorem k0_off15_inb : ∀ (i : grid0.Coords) (v116 : BitVec 32) (k0_hw14 : k0_chk14 i v116), ∀ (k0_h1 : k0_cond1 i = 1#1), ∀ a, (k0_off15 v116) a + S8x640.size a ≤ S40960x640.size a := fun i v116 k0_hw14 k0_h1 => k0_hw14.2 k0_h1

def k0_mult15 (v123 : BitVec 32) : BitVec 32 :=
  v123

def k0_off16 (v123 : BitVec 32) : Fin 2 → Nat :=
  let v124 : BitVec 32 := v123
  let c0_i32_68 : BitVec 32 := 0#32
  ![v124.toNat, 0]

def k0_chk15 (i : grid0.Coords) (v123 : BitVec 32) : Prop :=
  (∀ (k0_h1 : k0_cond1 i = 1#1), 8 ∣ (k0_mult15 v123).toNat) ∧
  (∀ (k0_h1 : k0_cond1 i = 1#1), ∀ a, (k0_off16 v123) a + S8x640.size a ≤ S40960x640.size a)
theorem k0_mult15_dvd : ∀ (i : grid0.Coords) (v123 : BitVec 32) (k0_hw15 : k0_chk15 i v123), ∀ (k0_h1 : k0_cond1 i = 1#1), 8 ∣ (k0_mult15 v123).toNat := fun i v123 k0_hw15 k0_h1 => k0_hw15.1 k0_h1
theorem k0_off16_inb : ∀ (i : grid0.Coords) (v123 : BitVec 32) (k0_hw15 : k0_chk15 i v123), ∀ (k0_h1 : k0_cond1 i = 1#1), ∀ a, (k0_off16 v123) a + S8x640.size a ≤ S40960x640.size a := fun i v123 k0_hw15 k0_h1 => k0_hw15.2 k0_h1

def k0_mult16 (v130 : BitVec 32) : BitVec 32 :=
  v130

def k0_off17 (v130 : BitVec 32) : Fin 2 → Nat :=
  let v131 : BitVec 32 := v130
  let c0_i32_72 : BitVec 32 := 0#32
  ![v131.toNat, 0]

def k0_chk16 (i : grid0.Coords) (v130 : BitVec 32) : Prop :=
  (∀ (k0_h1 : k0_cond1 i = 1#1), 8 ∣ (k0_mult16 v130).toNat) ∧
  (∀ (k0_h1 : k0_cond1 i = 1#1), ∀ a, (k0_off17 v130) a + S8x640.size a ≤ S40960x640.size a)
theorem k0_mult16_dvd : ∀ (i : grid0.Coords) (v130 : BitVec 32) (k0_hw16 : k0_chk16 i v130), ∀ (k0_h1 : k0_cond1 i = 1#1), 8 ∣ (k0_mult16 v130).toNat := fun i v130 k0_hw16 k0_h1 => k0_hw16.1 k0_h1
theorem k0_off17_inb : ∀ (i : grid0.Coords) (v130 : BitVec 32) (k0_hw16 : k0_chk16 i v130), ∀ (k0_h1 : k0_cond1 i = 1#1), ∀ a, (k0_off17 v130) a + S8x640.size a ≤ S40960x640.size a := fun i v130 k0_hw16 k0_h1 => k0_hw16.2 k0_h1

def k0_mult17 (v137 : BitVec 32) : BitVec 32 :=
  v137

def k0_off18 (v137 : BitVec 32) : Fin 2 → Nat :=
  let v138 : BitVec 32 := v137
  let c0_i32_76 : BitVec 32 := 0#32
  ![v138.toNat, 0]

def k0_chk17 (i : grid0.Coords) (v137 : BitVec 32) : Prop :=
  (∀ (k0_h1 : k0_cond1 i = 1#1), 8 ∣ (k0_mult17 v137).toNat) ∧
  (∀ (k0_h1 : k0_cond1 i = 1#1), ∀ a, (k0_off18 v137) a + S8x640.size a ≤ S40960x640.size a)
theorem k0_mult17_dvd : ∀ (i : grid0.Coords) (v137 : BitVec 32) (k0_hw17 : k0_chk17 i v137), ∀ (k0_h1 : k0_cond1 i = 1#1), 8 ∣ (k0_mult17 v137).toNat := fun i v137 k0_hw17 k0_h1 => k0_hw17.1 k0_h1
theorem k0_off18_inb : ∀ (i : grid0.Coords) (v137 : BitVec 32) (k0_hw17 : k0_chk17 i v137), ∀ (k0_h1 : k0_cond1 i = 1#1), ∀ a, (k0_off18 v137) a + S8x640.size a ≤ S40960x640.size a := fun i v137 k0_hw17 k0_h1 => k0_hw17.2 k0_h1

def k0_mult18 (v144 : BitVec 32) : BitVec 32 :=
  v144

def k0_off19 (v144 : BitVec 32) : Fin 2 → Nat :=
  let v145 : BitVec 32 := v144
  let c0_i32_80 : BitVec 32 := 0#32
  ![v145.toNat, 0]

def k0_chk18 (i : grid0.Coords) (v144 : BitVec 32) : Prop :=
  (∀ (k0_h1 : k0_cond1 i = 1#1), 8 ∣ (k0_mult18 v144).toNat) ∧
  (∀ (k0_h1 : k0_cond1 i = 1#1), ∀ a, (k0_off19 v144) a + S8x640.size a ≤ S40960x640.size a)
theorem k0_mult18_dvd : ∀ (i : grid0.Coords) (v144 : BitVec 32) (k0_hw18 : k0_chk18 i v144), ∀ (k0_h1 : k0_cond1 i = 1#1), 8 ∣ (k0_mult18 v144).toNat := fun i v144 k0_hw18 k0_h1 => k0_hw18.1 k0_h1
theorem k0_off19_inb : ∀ (i : grid0.Coords) (v144 : BitVec 32) (k0_hw18 : k0_chk18 i v144), ∀ (k0_h1 : k0_cond1 i = 1#1), ∀ a, (k0_off19 v144) a + S8x640.size a ≤ S40960x640.size a := fun i v144 k0_hw18 k0_h1 => k0_hw18.2 k0_h1

def k0_mult19 (v151 : BitVec 32) : BitVec 32 :=
  v151

def k0_off20 (v151 : BitVec 32) : Fin 2 → Nat :=
  let v152 : BitVec 32 := v151
  let c0_i32_84 : BitVec 32 := 0#32
  ![v152.toNat, 0]

def k0_chk19 (i : grid0.Coords) (v151 : BitVec 32) : Prop :=
  (∀ (k0_h1 : k0_cond1 i = 1#1), 8 ∣ (k0_mult19 v151).toNat) ∧
  (∀ (k0_h1 : k0_cond1 i = 1#1), ∀ a, (k0_off20 v151) a + S8x640.size a ≤ S40960x640.size a)
theorem k0_mult19_dvd : ∀ (i : grid0.Coords) (v151 : BitVec 32) (k0_hw19 : k0_chk19 i v151), ∀ (k0_h1 : k0_cond1 i = 1#1), 8 ∣ (k0_mult19 v151).toNat := fun i v151 k0_hw19 k0_h1 => k0_hw19.1 k0_h1
theorem k0_off20_inb : ∀ (i : grid0.Coords) (v151 : BitVec 32) (k0_hw19 : k0_chk19 i v151), ∀ (k0_h1 : k0_cond1 i = 1#1), ∀ a, (k0_off20 v151) a + S8x640.size a ≤ S40960x640.size a := fun i v151 k0_hw19 k0_h1 => k0_hw19.2 k0_h1

def k0_mult20 (v158 : BitVec 32) : BitVec 32 :=
  v158

def k0_off21 (v158 : BitVec 32) : Fin 2 → Nat :=
  let v159 : BitVec 32 := v158
  let c0_i32_88 : BitVec 32 := 0#32
  ![v159.toNat, 0]

def k0_chk20 (i : grid0.Coords) (v158 : BitVec 32) : Prop :=
  (∀ (k0_h1 : k0_cond1 i = 1#1), 8 ∣ (k0_mult20 v158).toNat) ∧
  (∀ (k0_h1 : k0_cond1 i = 1#1), ∀ a, (k0_off21 v158) a + S8x640.size a ≤ S40960x640.size a)
theorem k0_mult20_dvd : ∀ (i : grid0.Coords) (v158 : BitVec 32) (k0_hw20 : k0_chk20 i v158), ∀ (k0_h1 : k0_cond1 i = 1#1), 8 ∣ (k0_mult20 v158).toNat := fun i v158 k0_hw20 k0_h1 => k0_hw20.1 k0_h1
theorem k0_off21_inb : ∀ (i : grid0.Coords) (v158 : BitVec 32) (k0_hw20 : k0_chk20 i v158), ∀ (k0_h1 : k0_cond1 i = 1#1), ∀ a, (k0_off21 v158) a + S8x640.size a ≤ S40960x640.size a := fun i v158 k0_hw20 k0_h1 => k0_hw20.2 k0_h1

def k0_mult21 (v165 : BitVec 32) : BitVec 32 :=
  v165

def k0_off22 (v165 : BitVec 32) : Fin 2 → Nat :=
  let v166 : BitVec 32 := v165
  let c0_i32_92 : BitVec 32 := 0#32
  ![v166.toNat, 0]

def k0_chk21 (i : grid0.Coords) (v165 : BitVec 32) : Prop :=
  (∀ (k0_h1 : k0_cond1 i = 1#1), 8 ∣ (k0_mult21 v165).toNat) ∧
  (∀ (k0_h1 : k0_cond1 i = 1#1), ∀ a, (k0_off22 v165) a + S8x640.size a ≤ S40960x640.size a)
theorem k0_mult21_dvd : ∀ (i : grid0.Coords) (v165 : BitVec 32) (k0_hw21 : k0_chk21 i v165), ∀ (k0_h1 : k0_cond1 i = 1#1), 8 ∣ (k0_mult21 v165).toNat := fun i v165 k0_hw21 k0_h1 => k0_hw21.1 k0_h1
theorem k0_off22_inb : ∀ (i : grid0.Coords) (v165 : BitVec 32) (k0_hw21 : k0_chk21 i v165), ∀ (k0_h1 : k0_cond1 i = 1#1), ∀ a, (k0_off22 v165) a + S8x640.size a ≤ S40960x640.size a := fun i v165 k0_hw21 k0_h1 => k0_hw21.2 k0_h1

def k0_mult22 (v172 : BitVec 32) : BitVec 32 :=
  v172

def k0_off23 (v172 : BitVec 32) : Fin 2 → Nat :=
  let v173 : BitVec 32 := v172
  let c0_i32_96 : BitVec 32 := 0#32
  ![v173.toNat, 0]

def k0_chk22 (i : grid0.Coords) (v172 : BitVec 32) : Prop :=
  (∀ (k0_h1 : k0_cond1 i = 1#1), 8 ∣ (k0_mult22 v172).toNat) ∧
  (∀ (k0_h1 : k0_cond1 i = 1#1), ∀ a, (k0_off23 v172) a + S8x640.size a ≤ S40960x640.size a)
theorem k0_mult22_dvd : ∀ (i : grid0.Coords) (v172 : BitVec 32) (k0_hw22 : k0_chk22 i v172), ∀ (k0_h1 : k0_cond1 i = 1#1), 8 ∣ (k0_mult22 v172).toNat := fun i v172 k0_hw22 k0_h1 => k0_hw22.1 k0_h1
theorem k0_off23_inb : ∀ (i : grid0.Coords) (v172 : BitVec 32) (k0_hw22 : k0_chk22 i v172), ∀ (k0_h1 : k0_cond1 i = 1#1), ∀ a, (k0_off23 v172) a + S8x640.size a ≤ S40960x640.size a := fun i v172 k0_hw22 k0_h1 => k0_hw22.2 k0_h1

def k0_mult23 (v179 : BitVec 32) : BitVec 32 :=
  v179

def k0_off24 (v179 : BitVec 32) : Fin 2 → Nat :=
  let v180 : BitVec 32 := v179
  let c0_i32_100 : BitVec 32 := 0#32
  ![v180.toNat, 0]

def k0_chk23 (i : grid0.Coords) (v179 : BitVec 32) : Prop :=
  (∀ (k0_h1 : k0_cond1 i = 1#1), 8 ∣ (k0_mult23 v179).toNat) ∧
  (∀ (k0_h1 : k0_cond1 i = 1#1), ∀ a, (k0_off24 v179) a + S8x640.size a ≤ S40960x640.size a)
theorem k0_mult23_dvd : ∀ (i : grid0.Coords) (v179 : BitVec 32) (k0_hw23 : k0_chk23 i v179), ∀ (k0_h1 : k0_cond1 i = 1#1), 8 ∣ (k0_mult23 v179).toNat := fun i v179 k0_hw23 k0_h1 => k0_hw23.1 k0_h1
theorem k0_off24_inb : ∀ (i : grid0.Coords) (v179 : BitVec 32) (k0_hw23 : k0_chk23 i v179), ∀ (k0_h1 : k0_cond1 i = 1#1), ∀ a, (k0_off24 v179) a + S8x640.size a ≤ S40960x640.size a := fun i v179 k0_hw23 k0_h1 => k0_hw23.2 k0_h1

def k0_mult24 (v186 : BitVec 32) : BitVec 32 :=
  v186

def k0_off25 (v186 : BitVec 32) : Fin 2 → Nat :=
  let v187 : BitVec 32 := v186
  let c0_i32_104 : BitVec 32 := 0#32
  ![v187.toNat, 0]

def k0_chk24 (i : grid0.Coords) (v186 : BitVec 32) : Prop :=
  (∀ (k0_h1 : k0_cond1 i = 1#1), 8 ∣ (k0_mult24 v186).toNat) ∧
  (∀ (k0_h1 : k0_cond1 i = 1#1), ∀ a, (k0_off25 v186) a + S8x640.size a ≤ S40960x640.size a)
theorem k0_mult24_dvd : ∀ (i : grid0.Coords) (v186 : BitVec 32) (k0_hw24 : k0_chk24 i v186), ∀ (k0_h1 : k0_cond1 i = 1#1), 8 ∣ (k0_mult24 v186).toNat := fun i v186 k0_hw24 k0_h1 => k0_hw24.1 k0_h1
theorem k0_off25_inb : ∀ (i : grid0.Coords) (v186 : BitVec 32) (k0_hw24 : k0_chk24 i v186), ∀ (k0_h1 : k0_cond1 i = 1#1), ∀ a, (k0_off25 v186) a + S8x640.size a ≤ S40960x640.size a := fun i v186 k0_hw24 k0_h1 => k0_hw24.2 k0_h1

def k0_mult25 (v193 : BitVec 32) : BitVec 32 :=
  v193

def k0_off26 (v193 : BitVec 32) : Fin 2 → Nat :=
  let v194 : BitVec 32 := v193
  let c0_i32_108 : BitVec 32 := 0#32
  ![v194.toNat, 0]

def k0_chk25 (i : grid0.Coords) (v193 : BitVec 32) : Prop :=
  (∀ (k0_h1 : k0_cond1 i = 1#1), 8 ∣ (k0_mult25 v193).toNat) ∧
  (∀ (k0_h1 : k0_cond1 i = 1#1), ∀ a, (k0_off26 v193) a + S8x640.size a ≤ S40960x640.size a)
theorem k0_mult25_dvd : ∀ (i : grid0.Coords) (v193 : BitVec 32) (k0_hw25 : k0_chk25 i v193), ∀ (k0_h1 : k0_cond1 i = 1#1), 8 ∣ (k0_mult25 v193).toNat := fun i v193 k0_hw25 k0_h1 => k0_hw25.1 k0_h1
theorem k0_off26_inb : ∀ (i : grid0.Coords) (v193 : BitVec 32) (k0_hw25 : k0_chk25 i v193), ∀ (k0_h1 : k0_cond1 i = 1#1), ∀ a, (k0_off26 v193) a + S8x640.size a ≤ S40960x640.size a := fun i v193 k0_hw25 k0_h1 => k0_hw25.2 k0_h1

def k0_mult26 (v200 : BitVec 32) : BitVec 32 :=
  v200

def k0_off27 (v200 : BitVec 32) : Fin 2 → Nat :=
  let v201 : BitVec 32 := v200
  let c0_i32_112 : BitVec 32 := 0#32
  ![v201.toNat, 0]

def k0_chk26 (i : grid0.Coords) (v200 : BitVec 32) : Prop :=
  (∀ (k0_h1 : k0_cond1 i = 1#1), 8 ∣ (k0_mult26 v200).toNat) ∧
  (∀ (k0_h1 : k0_cond1 i = 1#1), ∀ a, (k0_off27 v200) a + S8x640.size a ≤ S40960x640.size a)
theorem k0_mult26_dvd : ∀ (i : grid0.Coords) (v200 : BitVec 32) (k0_hw26 : k0_chk26 i v200), ∀ (k0_h1 : k0_cond1 i = 1#1), 8 ∣ (k0_mult26 v200).toNat := fun i v200 k0_hw26 k0_h1 => k0_hw26.1 k0_h1
theorem k0_off27_inb : ∀ (i : grid0.Coords) (v200 : BitVec 32) (k0_hw26 : k0_chk26 i v200), ∀ (k0_h1 : k0_cond1 i = 1#1), ∀ a, (k0_off27 v200) a + S8x640.size a ≤ S40960x640.size a := fun i v200 k0_hw26 k0_h1 => k0_hw26.2 k0_h1

def k0_mult27 (v207 : BitVec 32) : BitVec 32 :=
  v207

def k0_off28 (v207 : BitVec 32) : Fin 2 → Nat :=
  let v208 : BitVec 32 := v207
  let c0_i32_116 : BitVec 32 := 0#32
  ![v208.toNat, 0]

def k0_chk27 (i : grid0.Coords) (v207 : BitVec 32) : Prop :=
  (∀ (k0_h1 : k0_cond1 i = 1#1), 8 ∣ (k0_mult27 v207).toNat) ∧
  (∀ (k0_h1 : k0_cond1 i = 1#1), ∀ a, (k0_off28 v207) a + S8x640.size a ≤ S40960x640.size a)
theorem k0_mult27_dvd : ∀ (i : grid0.Coords) (v207 : BitVec 32) (k0_hw27 : k0_chk27 i v207), ∀ (k0_h1 : k0_cond1 i = 1#1), 8 ∣ (k0_mult27 v207).toNat := fun i v207 k0_hw27 k0_h1 => k0_hw27.1 k0_h1
theorem k0_off28_inb : ∀ (i : grid0.Coords) (v207 : BitVec 32) (k0_hw27 : k0_chk27 i v207), ∀ (k0_h1 : k0_cond1 i = 1#1), ∀ a, (k0_off28 v207) a + S8x640.size a ≤ S40960x640.size a := fun i v207 k0_hw27 k0_h1 => k0_hw27.2 k0_h1

def k0_mult28 (v214 : BitVec 32) : BitVec 32 :=
  v214

def k0_off29 (v214 : BitVec 32) : Fin 2 → Nat :=
  let v215 : BitVec 32 := v214
  let c0_i32_120 : BitVec 32 := 0#32
  ![v215.toNat, 0]

def k0_chk28 (i : grid0.Coords) (v214 : BitVec 32) : Prop :=
  (∀ (k0_h1 : k0_cond1 i = 1#1), 8 ∣ (k0_mult28 v214).toNat) ∧
  (∀ (k0_h1 : k0_cond1 i = 1#1), ∀ a, (k0_off29 v214) a + S8x640.size a ≤ S40960x640.size a)
theorem k0_mult28_dvd : ∀ (i : grid0.Coords) (v214 : BitVec 32) (k0_hw28 : k0_chk28 i v214), ∀ (k0_h1 : k0_cond1 i = 1#1), 8 ∣ (k0_mult28 v214).toNat := fun i v214 k0_hw28 k0_h1 => k0_hw28.1 k0_h1
theorem k0_off29_inb : ∀ (i : grid0.Coords) (v214 : BitVec 32) (k0_hw28 : k0_chk28 i v214), ∀ (k0_h1 : k0_cond1 i = 1#1), ∀ a, (k0_off29 v214) a + S8x640.size a ≤ S40960x640.size a := fun i v214 k0_hw28 k0_h1 => k0_hw28.2 k0_h1

def k0_mult29 (v221 : BitVec 32) : BitVec 32 :=
  v221

def k0_off30 (v221 : BitVec 32) : Fin 2 → Nat :=
  let v222 : BitVec 32 := v221
  let c0_i32_124 : BitVec 32 := 0#32
  ![v222.toNat, 0]

def k0_chk29 (i : grid0.Coords) (v221 : BitVec 32) : Prop :=
  (∀ (k0_h1 : k0_cond1 i = 1#1), 8 ∣ (k0_mult29 v221).toNat) ∧
  (∀ (k0_h1 : k0_cond1 i = 1#1), ∀ a, (k0_off30 v221) a + S8x640.size a ≤ S40960x640.size a)
theorem k0_mult29_dvd : ∀ (i : grid0.Coords) (v221 : BitVec 32) (k0_hw29 : k0_chk29 i v221), ∀ (k0_h1 : k0_cond1 i = 1#1), 8 ∣ (k0_mult29 v221).toNat := fun i v221 k0_hw29 k0_h1 => k0_hw29.1 k0_h1
theorem k0_off30_inb : ∀ (i : grid0.Coords) (v221 : BitVec 32) (k0_hw29 : k0_chk29 i v221), ∀ (k0_h1 : k0_cond1 i = 1#1), ∀ a, (k0_off30 v221) a + S8x640.size a ≤ S40960x640.size a := fun i v221 k0_hw29 k0_h1 => k0_hw29.2 k0_h1

def k0_mult30 (v228 : BitVec 32) : BitVec 32 :=
  v228

def k0_off31 (v228 : BitVec 32) : Fin 2 → Nat :=
  let v229 : BitVec 32 := v228
  let c0_i32_128 : BitVec 32 := 0#32
  ![v229.toNat, 0]

def k0_chk30 (i : grid0.Coords) (v228 : BitVec 32) : Prop :=
  (∀ (k0_h1 : k0_cond1 i = 1#1), 8 ∣ (k0_mult30 v228).toNat) ∧
  (∀ (k0_h1 : k0_cond1 i = 1#1), ∀ a, (k0_off31 v228) a + S8x640.size a ≤ S40960x640.size a)
theorem k0_mult30_dvd : ∀ (i : grid0.Coords) (v228 : BitVec 32) (k0_hw30 : k0_chk30 i v228), ∀ (k0_h1 : k0_cond1 i = 1#1), 8 ∣ (k0_mult30 v228).toNat := fun i v228 k0_hw30 k0_h1 => k0_hw30.1 k0_h1
theorem k0_off31_inb : ∀ (i : grid0.Coords) (v228 : BitVec 32) (k0_hw30 : k0_chk30 i v228), ∀ (k0_h1 : k0_cond1 i = 1#1), ∀ a, (k0_off31 v228) a + S8x640.size a ≤ S40960x640.size a := fun i v228 k0_hw30 k0_h1 => k0_hw30.2 k0_h1

def k0_mult31 (v235 : BitVec 32) : BitVec 32 :=
  v235

def k0_off32 (v235 : BitVec 32) : Fin 2 → Nat :=
  let v236 : BitVec 32 := v235
  let c0_i32_132 : BitVec 32 := 0#32
  ![v236.toNat, 0]

def k0_chk31 (i : grid0.Coords) (v235 : BitVec 32) : Prop :=
  (∀ (k0_h1 : k0_cond1 i = 1#1), 8 ∣ (k0_mult31 v235).toNat) ∧
  (∀ (k0_h1 : k0_cond1 i = 1#1), ∀ a, (k0_off32 v235) a + S8x640.size a ≤ S40960x640.size a)
theorem k0_mult31_dvd : ∀ (i : grid0.Coords) (v235 : BitVec 32) (k0_hw31 : k0_chk31 i v235), ∀ (k0_h1 : k0_cond1 i = 1#1), 8 ∣ (k0_mult31 v235).toNat := fun i v235 k0_hw31 k0_h1 => k0_hw31.1 k0_h1
theorem k0_off32_inb : ∀ (i : grid0.Coords) (v235 : BitVec 32) (k0_hw31 : k0_chk31 i v235), ∀ (k0_h1 : k0_cond1 i = 1#1), ∀ a, (k0_off32 v235) a + S8x640.size a ≤ S40960x640.size a := fun i v235 k0_hw31 k0_h1 => k0_hw31.2 k0_h1

def k0_mult32 (v242 : BitVec 32) : BitVec 32 :=
  v242

def k0_off33 (v242 : BitVec 32) : Fin 2 → Nat :=
  let v243 : BitVec 32 := v242
  let c0_i32_137 : BitVec 32 := 0#32
  ![v243.toNat, 0]

def k0_chk32 (i : grid0.Coords) (v242 : BitVec 32) : Prop :=
  (∀ (k0_h1 : k0_cond1 i = 1#1), 8 ∣ (k0_mult32 v242).toNat) ∧
  (∀ (k0_h1 : k0_cond1 i = 1#1), ∀ a, (k0_off33 v242) a + S8x640.size a ≤ S40960x640.size a)
theorem k0_mult32_dvd : ∀ (i : grid0.Coords) (v242 : BitVec 32) (k0_hw32 : k0_chk32 i v242), ∀ (k0_h1 : k0_cond1 i = 1#1), 8 ∣ (k0_mult32 v242).toNat := fun i v242 k0_hw32 k0_h1 => k0_hw32.1 k0_h1
theorem k0_off33_inb : ∀ (i : grid0.Coords) (v242 : BitVec 32) (k0_hw32 : k0_chk32 i v242), ∀ (k0_h1 : k0_cond1 i = 1#1), ∀ a, (k0_off33 v242) a + S8x640.size a ≤ S40960x640.size a := fun i v242 k0_hw32 k0_h1 => k0_hw32.2 k0_h1

def k0_mult33 (v249 : BitVec 32) : BitVec 32 :=
  v249

def k0_off34 (v249 : BitVec 32) : Fin 2 → Nat :=
  let v250 : BitVec 32 := v249
  let c0_i32_142 : BitVec 32 := 0#32
  ![v250.toNat, 0]

def k0_chk33 (i : grid0.Coords) (v249 : BitVec 32) : Prop :=
  (∀ (k0_h1 : k0_cond1 i = 1#1), 8 ∣ (k0_mult33 v249).toNat) ∧
  (∀ (k0_h1 : k0_cond1 i = 1#1), ∀ a, (k0_off34 v249) a + S8x640.size a ≤ S40960x640.size a)
theorem k0_mult33_dvd : ∀ (i : grid0.Coords) (v249 : BitVec 32) (k0_hw33 : k0_chk33 i v249), ∀ (k0_h1 : k0_cond1 i = 1#1), 8 ∣ (k0_mult33 v249).toNat := fun i v249 k0_hw33 k0_h1 => k0_hw33.1 k0_h1
theorem k0_off34_inb : ∀ (i : grid0.Coords) (v249 : BitVec 32) (k0_hw33 : k0_chk33 i v249), ∀ (k0_h1 : k0_cond1 i = 1#1), ∀ a, (k0_off34 v249) a + S8x640.size a ≤ S40960x640.size a := fun i v249 k0_hw33 k0_h1 => k0_hw33.2 k0_h1

def k0_mult34 (v256 : BitVec 32) : BitVec 32 :=
  v256

def k0_off35 (v256 : BitVec 32) : Fin 2 → Nat :=
  let v257 : BitVec 32 := v256
  let c0_i32_147 : BitVec 32 := 0#32
  ![v257.toNat, 0]

def k0_chk34 (i : grid0.Coords) (v256 : BitVec 32) : Prop :=
  (∀ (k0_h1 : k0_cond1 i = 1#1), 8 ∣ (k0_mult34 v256).toNat) ∧
  (∀ (k0_h1 : k0_cond1 i = 1#1), ∀ a, (k0_off35 v256) a + S8x640.size a ≤ S40960x640.size a)
theorem k0_mult34_dvd : ∀ (i : grid0.Coords) (v256 : BitVec 32) (k0_hw34 : k0_chk34 i v256), ∀ (k0_h1 : k0_cond1 i = 1#1), 8 ∣ (k0_mult34 v256).toNat := fun i v256 k0_hw34 k0_h1 => k0_hw34.1 k0_h1
theorem k0_off35_inb : ∀ (i : grid0.Coords) (v256 : BitVec 32) (k0_hw34 : k0_chk34 i v256), ∀ (k0_h1 : k0_cond1 i = 1#1), ∀ a, (k0_off35 v256) a + S8x640.size a ≤ S40960x640.size a := fun i v256 k0_hw34 k0_h1 => k0_hw34.2 k0_h1

def k0_mult35 (v263 : BitVec 32) : BitVec 32 :=
  v263

def k0_off36 (v263 : BitVec 32) : Fin 2 → Nat :=
  let v264 : BitVec 32 := v263
  let c0_i32_152 : BitVec 32 := 0#32
  ![v264.toNat, 0]

def k0_chk35 (i : grid0.Coords) (v263 : BitVec 32) : Prop :=
  (∀ (k0_h1 : k0_cond1 i = 1#1), 8 ∣ (k0_mult35 v263).toNat) ∧
  (∀ (k0_h1 : k0_cond1 i = 1#1), ∀ a, (k0_off36 v263) a + S8x640.size a ≤ S40960x640.size a)
theorem k0_mult35_dvd : ∀ (i : grid0.Coords) (v263 : BitVec 32) (k0_hw35 : k0_chk35 i v263), ∀ (k0_h1 : k0_cond1 i = 1#1), 8 ∣ (k0_mult35 v263).toNat := fun i v263 k0_hw35 k0_h1 => k0_hw35.1 k0_h1
theorem k0_off36_inb : ∀ (i : grid0.Coords) (v263 : BitVec 32) (k0_hw35 : k0_chk35 i v263), ∀ (k0_h1 : k0_cond1 i = 1#1), ∀ a, (k0_off36 v263) a + S8x640.size a ≤ S40960x640.size a := fun i v263 k0_hw35 k0_h1 => k0_hw35.2 k0_h1

def k0_mult36 (v270 : BitVec 32) : BitVec 32 :=
  v270

def k0_off37 (v270 : BitVec 32) : Fin 2 → Nat :=
  let v271 : BitVec 32 := v270
  let c0_i32_157 : BitVec 32 := 0#32
  ![v271.toNat, 0]

def k0_chk36 (i : grid0.Coords) (v270 : BitVec 32) : Prop :=
  (∀ (k0_h1 : k0_cond1 i = 1#1), 8 ∣ (k0_mult36 v270).toNat) ∧
  (∀ (k0_h1 : k0_cond1 i = 1#1), ∀ a, (k0_off37 v270) a + S8x640.size a ≤ S40960x640.size a)
theorem k0_mult36_dvd : ∀ (i : grid0.Coords) (v270 : BitVec 32) (k0_hw36 : k0_chk36 i v270), ∀ (k0_h1 : k0_cond1 i = 1#1), 8 ∣ (k0_mult36 v270).toNat := fun i v270 k0_hw36 k0_h1 => k0_hw36.1 k0_h1
theorem k0_off37_inb : ∀ (i : grid0.Coords) (v270 : BitVec 32) (k0_hw36 : k0_chk36 i v270), ∀ (k0_h1 : k0_cond1 i = 1#1), ∀ a, (k0_off37 v270) a + S8x640.size a ≤ S40960x640.size a := fun i v270 k0_hw36 k0_h1 => k0_hw36.2 k0_h1

def k0_mult37 (v277 : BitVec 32) : BitVec 32 :=
  v277

def k0_off38 (v277 : BitVec 32) : Fin 2 → Nat :=
  let v278 : BitVec 32 := v277
  let c0_i32_162 : BitVec 32 := 0#32
  ![v278.toNat, 0]

def k0_chk37 (i : grid0.Coords) (v277 : BitVec 32) : Prop :=
  (∀ (k0_h1 : k0_cond1 i = 1#1), 8 ∣ (k0_mult37 v277).toNat) ∧
  (∀ (k0_h1 : k0_cond1 i = 1#1), ∀ a, (k0_off38 v277) a + S8x640.size a ≤ S40960x640.size a)
theorem k0_mult37_dvd : ∀ (i : grid0.Coords) (v277 : BitVec 32) (k0_hw37 : k0_chk37 i v277), ∀ (k0_h1 : k0_cond1 i = 1#1), 8 ∣ (k0_mult37 v277).toNat := fun i v277 k0_hw37 k0_h1 => k0_hw37.1 k0_h1
theorem k0_off38_inb : ∀ (i : grid0.Coords) (v277 : BitVec 32) (k0_hw37 : k0_chk37 i v277), ∀ (k0_h1 : k0_cond1 i = 1#1), ∀ a, (k0_off38 v277) a + S8x640.size a ≤ S40960x640.size a := fun i v277 k0_hw37 k0_h1 => k0_hw37.2 k0_h1

def k0_mult38 (v284 : BitVec 32) : BitVec 32 :=
  v284

def k0_off39 (v284 : BitVec 32) : Fin 2 → Nat :=
  let v285 : BitVec 32 := v284
  let c0_i32_167 : BitVec 32 := 0#32
  ![v285.toNat, 0]

def k0_chk38 (i : grid0.Coords) (v284 : BitVec 32) : Prop :=
  (∀ (k0_h1 : k0_cond1 i = 1#1), 8 ∣ (k0_mult38 v284).toNat) ∧
  (∀ (k0_h1 : k0_cond1 i = 1#1), ∀ a, (k0_off39 v284) a + S8x640.size a ≤ S40960x640.size a)
theorem k0_mult38_dvd : ∀ (i : grid0.Coords) (v284 : BitVec 32) (k0_hw38 : k0_chk38 i v284), ∀ (k0_h1 : k0_cond1 i = 1#1), 8 ∣ (k0_mult38 v284).toNat := fun i v284 k0_hw38 k0_h1 => k0_hw38.1 k0_h1
theorem k0_off39_inb : ∀ (i : grid0.Coords) (v284 : BitVec 32) (k0_hw38 : k0_chk38 i v284), ∀ (k0_h1 : k0_cond1 i = 1#1), ∀ a, (k0_off39 v284) a + S8x640.size a ≤ S40960x640.size a := fun i v284 k0_hw38 k0_h1 => k0_hw38.2 k0_h1

def k0_mult39 (v291 : BitVec 32) : BitVec 32 :=
  v291

def k0_off40 (v291 : BitVec 32) : Fin 2 → Nat :=
  let v292 : BitVec 32 := v291
  let c0_i32_172 : BitVec 32 := 0#32
  ![v292.toNat, 0]

def k0_chk39 (i : grid0.Coords) (v291 : BitVec 32) : Prop :=
  (∀ (k0_h1 : k0_cond1 i = 1#1), 8 ∣ (k0_mult39 v291).toNat) ∧
  (∀ (k0_h1 : k0_cond1 i = 1#1), ∀ a, (k0_off40 v291) a + S8x640.size a ≤ S40960x640.size a)
theorem k0_mult39_dvd : ∀ (i : grid0.Coords) (v291 : BitVec 32) (k0_hw39 : k0_chk39 i v291), ∀ (k0_h1 : k0_cond1 i = 1#1), 8 ∣ (k0_mult39 v291).toNat := fun i v291 k0_hw39 k0_h1 => k0_hw39.1 k0_h1
theorem k0_off40_inb : ∀ (i : grid0.Coords) (v291 : BitVec 32) (k0_hw39 : k0_chk39 i v291), ∀ (k0_h1 : k0_cond1 i = 1#1), ∀ a, (k0_off40 v291) a + S8x640.size a ≤ S40960x640.size a := fun i v291 k0_hw39 k0_h1 => k0_hw39.2 k0_h1

def k0_mult40 (v298 : BitVec 32) : BitVec 32 :=
  v298

def k0_off41 (v298 : BitVec 32) : Fin 2 → Nat :=
  let v299 : BitVec 32 := v298
  let c0_i32_177 : BitVec 32 := 0#32
  ![v299.toNat, 0]

def k0_chk40 (i : grid0.Coords) (v298 : BitVec 32) : Prop :=
  (∀ (k0_h1 : k0_cond1 i = 1#1), 8 ∣ (k0_mult40 v298).toNat) ∧
  (∀ (k0_h1 : k0_cond1 i = 1#1), ∀ a, (k0_off41 v298) a + S8x640.size a ≤ S40960x640.size a)
theorem k0_mult40_dvd : ∀ (i : grid0.Coords) (v298 : BitVec 32) (k0_hw40 : k0_chk40 i v298), ∀ (k0_h1 : k0_cond1 i = 1#1), 8 ∣ (k0_mult40 v298).toNat := fun i v298 k0_hw40 k0_h1 => k0_hw40.1 k0_h1
theorem k0_off41_inb : ∀ (i : grid0.Coords) (v298 : BitVec 32) (k0_hw40 : k0_chk40 i v298), ∀ (k0_h1 : k0_cond1 i = 1#1), ∀ a, (k0_off41 v298) a + S8x640.size a ≤ S40960x640.size a := fun i v298 k0_hw40 k0_h1 => k0_hw40.2 k0_h1

def k0_mult41 (v305 : BitVec 32) : BitVec 32 :=
  v305

def k0_off42 (v305 : BitVec 32) : Fin 2 → Nat :=
  let v306 : BitVec 32 := v305
  let c0_i32_182 : BitVec 32 := 0#32
  ![v306.toNat, 0]

def k0_chk41 (i : grid0.Coords) (v305 : BitVec 32) : Prop :=
  (∀ (k0_h1 : k0_cond1 i = 1#1), 8 ∣ (k0_mult41 v305).toNat) ∧
  (∀ (k0_h1 : k0_cond1 i = 1#1), ∀ a, (k0_off42 v305) a + S8x640.size a ≤ S40960x640.size a)
theorem k0_mult41_dvd : ∀ (i : grid0.Coords) (v305 : BitVec 32) (k0_hw41 : k0_chk41 i v305), ∀ (k0_h1 : k0_cond1 i = 1#1), 8 ∣ (k0_mult41 v305).toNat := fun i v305 k0_hw41 k0_h1 => k0_hw41.1 k0_h1
theorem k0_off42_inb : ∀ (i : grid0.Coords) (v305 : BitVec 32) (k0_hw41 : k0_chk41 i v305), ∀ (k0_h1 : k0_cond1 i = 1#1), ∀ a, (k0_off42 v305) a + S8x640.size a ≤ S40960x640.size a := fun i v305 k0_hw41 k0_h1 => k0_hw41.2 k0_h1

def k0_mult42 (v312 : BitVec 32) : BitVec 32 :=
  v312

def k0_off43 (v312 : BitVec 32) : Fin 2 → Nat :=
  let v313 : BitVec 32 := v312
  let c0_i32_187 : BitVec 32 := 0#32
  ![v313.toNat, 0]

def k0_chk42 (i : grid0.Coords) (v312 : BitVec 32) : Prop :=
  (∀ (k0_h1 : k0_cond1 i = 1#1), 8 ∣ (k0_mult42 v312).toNat) ∧
  (∀ (k0_h1 : k0_cond1 i = 1#1), ∀ a, (k0_off43 v312) a + S8x640.size a ≤ S40960x640.size a)
theorem k0_mult42_dvd : ∀ (i : grid0.Coords) (v312 : BitVec 32) (k0_hw42 : k0_chk42 i v312), ∀ (k0_h1 : k0_cond1 i = 1#1), 8 ∣ (k0_mult42 v312).toNat := fun i v312 k0_hw42 k0_h1 => k0_hw42.1 k0_h1
theorem k0_off43_inb : ∀ (i : grid0.Coords) (v312 : BitVec 32) (k0_hw42 : k0_chk42 i v312), ∀ (k0_h1 : k0_cond1 i = 1#1), ∀ a, (k0_off43 v312) a + S8x640.size a ≤ S40960x640.size a := fun i v312 k0_hw42 k0_h1 => k0_hw42.2 k0_h1

def k0_mult43 (v319 : BitVec 32) : BitVec 32 :=
  v319

def k0_off44 (v319 : BitVec 32) : Fin 2 → Nat :=
  let v320 : BitVec 32 := v319
  let c0_i32_192 : BitVec 32 := 0#32
  ![v320.toNat, 0]

def k0_chk43 (i : grid0.Coords) (v319 : BitVec 32) : Prop :=
  (∀ (k0_h1 : k0_cond1 i = 1#1), 8 ∣ (k0_mult43 v319).toNat) ∧
  (∀ (k0_h1 : k0_cond1 i = 1#1), ∀ a, (k0_off44 v319) a + S8x640.size a ≤ S40960x640.size a)
theorem k0_mult43_dvd : ∀ (i : grid0.Coords) (v319 : BitVec 32) (k0_hw43 : k0_chk43 i v319), ∀ (k0_h1 : k0_cond1 i = 1#1), 8 ∣ (k0_mult43 v319).toNat := fun i v319 k0_hw43 k0_h1 => k0_hw43.1 k0_h1
theorem k0_off44_inb : ∀ (i : grid0.Coords) (v319 : BitVec 32) (k0_hw43 : k0_chk43 i v319), ∀ (k0_h1 : k0_cond1 i = 1#1), ∀ a, (k0_off44 v319) a + S8x640.size a ≤ S40960x640.size a := fun i v319 k0_hw43 k0_h1 => k0_hw43.2 k0_h1

def k0_mult44 (v326 : BitVec 32) : BitVec 32 :=
  v326

def k0_off45 (v326 : BitVec 32) : Fin 2 → Nat :=
  let v327 : BitVec 32 := v326
  let c0_i32_197 : BitVec 32 := 0#32
  ![v327.toNat, 0]

def k0_chk44 (i : grid0.Coords) (v326 : BitVec 32) : Prop :=
  (∀ (k0_h1 : k0_cond1 i = 1#1), 8 ∣ (k0_mult44 v326).toNat) ∧
  (∀ (k0_h1 : k0_cond1 i = 1#1), ∀ a, (k0_off45 v326) a + S8x640.size a ≤ S40960x640.size a)
theorem k0_mult44_dvd : ∀ (i : grid0.Coords) (v326 : BitVec 32) (k0_hw44 : k0_chk44 i v326), ∀ (k0_h1 : k0_cond1 i = 1#1), 8 ∣ (k0_mult44 v326).toNat := fun i v326 k0_hw44 k0_h1 => k0_hw44.1 k0_h1
theorem k0_off45_inb : ∀ (i : grid0.Coords) (v326 : BitVec 32) (k0_hw44 : k0_chk44 i v326), ∀ (k0_h1 : k0_cond1 i = 1#1), ∀ a, (k0_off45 v326) a + S8x640.size a ≤ S40960x640.size a := fun i v326 k0_hw44 k0_h1 => k0_hw44.2 k0_h1

def k0_mult45 (v333 : BitVec 32) : BitVec 32 :=
  v333

def k0_off46 (v333 : BitVec 32) : Fin 2 → Nat :=
  let v334 : BitVec 32 := v333
  let c0_i32_202 : BitVec 32 := 0#32
  ![v334.toNat, 0]

def k0_chk45 (i : grid0.Coords) (v333 : BitVec 32) : Prop :=
  (∀ (k0_h1 : k0_cond1 i = 1#1), 8 ∣ (k0_mult45 v333).toNat) ∧
  (∀ (k0_h1 : k0_cond1 i = 1#1), ∀ a, (k0_off46 v333) a + S8x640.size a ≤ S40960x640.size a)
theorem k0_mult45_dvd : ∀ (i : grid0.Coords) (v333 : BitVec 32) (k0_hw45 : k0_chk45 i v333), ∀ (k0_h1 : k0_cond1 i = 1#1), 8 ∣ (k0_mult45 v333).toNat := fun i v333 k0_hw45 k0_h1 => k0_hw45.1 k0_h1
theorem k0_off46_inb : ∀ (i : grid0.Coords) (v333 : BitVec 32) (k0_hw45 : k0_chk45 i v333), ∀ (k0_h1 : k0_cond1 i = 1#1), ∀ a, (k0_off46 v333) a + S8x640.size a ≤ S40960x640.size a := fun i v333 k0_hw45 k0_h1 => k0_hw45.2 k0_h1

def k0_mult46 (v340 : BitVec 32) : BitVec 32 :=
  v340

def k0_off47 (v340 : BitVec 32) : Fin 2 → Nat :=
  let v341 : BitVec 32 := v340
  let c0_i32_207 : BitVec 32 := 0#32
  ![v341.toNat, 0]

def k0_chk46 (i : grid0.Coords) (v340 : BitVec 32) : Prop :=
  (∀ (k0_h1 : k0_cond1 i = 1#1), 8 ∣ (k0_mult46 v340).toNat) ∧
  (∀ (k0_h1 : k0_cond1 i = 1#1), ∀ a, (k0_off47 v340) a + S8x640.size a ≤ S40960x640.size a)
theorem k0_mult46_dvd : ∀ (i : grid0.Coords) (v340 : BitVec 32) (k0_hw46 : k0_chk46 i v340), ∀ (k0_h1 : k0_cond1 i = 1#1), 8 ∣ (k0_mult46 v340).toNat := fun i v340 k0_hw46 k0_h1 => k0_hw46.1 k0_h1
theorem k0_off47_inb : ∀ (i : grid0.Coords) (v340 : BitVec 32) (k0_hw46 : k0_chk46 i v340), ∀ (k0_h1 : k0_cond1 i = 1#1), ∀ a, (k0_off47 v340) a + S8x640.size a ≤ S40960x640.size a := fun i v340 k0_hw46 k0_h1 => k0_hw46.2 k0_h1

def k0_mult47 (v347 : BitVec 32) : BitVec 32 :=
  v347

def k0_off48 (v347 : BitVec 32) : Fin 2 → Nat :=
  let v348 : BitVec 32 := v347
  let c0_i32_212 : BitVec 32 := 0#32
  ![v348.toNat, 0]

def k0_chk47 (i : grid0.Coords) (v347 : BitVec 32) : Prop :=
  (∀ (k0_h1 : k0_cond1 i = 1#1), 8 ∣ (k0_mult47 v347).toNat) ∧
  (∀ (k0_h1 : k0_cond1 i = 1#1), ∀ a, (k0_off48 v347) a + S8x640.size a ≤ S40960x640.size a)
theorem k0_mult47_dvd : ∀ (i : grid0.Coords) (v347 : BitVec 32) (k0_hw47 : k0_chk47 i v347), ∀ (k0_h1 : k0_cond1 i = 1#1), 8 ∣ (k0_mult47 v347).toNat := fun i v347 k0_hw47 k0_h1 => k0_hw47.1 k0_h1
theorem k0_off48_inb : ∀ (i : grid0.Coords) (v347 : BitVec 32) (k0_hw47 : k0_chk47 i v347), ∀ (k0_h1 : k0_cond1 i = 1#1), ∀ a, (k0_off48 v347) a + S8x640.size a ≤ S40960x640.size a := fun i v347 k0_hw47 k0_h1 => k0_hw47.2 k0_h1

def k0_mult48 (v354 : BitVec 32) : BitVec 32 :=
  v354

def k0_off49 (v354 : BitVec 32) : Fin 2 → Nat :=
  let v355 : BitVec 32 := v354
  let c0_i32_217 : BitVec 32 := 0#32
  ![v355.toNat, 0]

def k0_chk48 (i : grid0.Coords) (v354 : BitVec 32) : Prop :=
  (∀ (k0_h1 : k0_cond1 i = 1#1), 8 ∣ (k0_mult48 v354).toNat) ∧
  (∀ (k0_h1 : k0_cond1 i = 1#1), ∀ a, (k0_off49 v354) a + S8x640.size a ≤ S40960x640.size a)
theorem k0_mult48_dvd : ∀ (i : grid0.Coords) (v354 : BitVec 32) (k0_hw48 : k0_chk48 i v354), ∀ (k0_h1 : k0_cond1 i = 1#1), 8 ∣ (k0_mult48 v354).toNat := fun i v354 k0_hw48 k0_h1 => k0_hw48.1 k0_h1
theorem k0_off49_inb : ∀ (i : grid0.Coords) (v354 : BitVec 32) (k0_hw48 : k0_chk48 i v354), ∀ (k0_h1 : k0_cond1 i = 1#1), ∀ a, (k0_off49 v354) a + S8x640.size a ≤ S40960x640.size a := fun i v354 k0_hw48 k0_h1 => k0_hw48.2 k0_h1

def k0_mult49 (v361 : BitVec 32) : BitVec 32 :=
  v361

def k0_off50 (v361 : BitVec 32) : Fin 2 → Nat :=
  let v362 : BitVec 32 := v361
  let c0_i32_222 : BitVec 32 := 0#32
  ![v362.toNat, 0]

def k0_chk49 (i : grid0.Coords) (v361 : BitVec 32) : Prop :=
  (∀ (k0_h1 : k0_cond1 i = 1#1), 8 ∣ (k0_mult49 v361).toNat) ∧
  (∀ (k0_h1 : k0_cond1 i = 1#1), ∀ a, (k0_off50 v361) a + S8x640.size a ≤ S40960x640.size a)
theorem k0_mult49_dvd : ∀ (i : grid0.Coords) (v361 : BitVec 32) (k0_hw49 : k0_chk49 i v361), ∀ (k0_h1 : k0_cond1 i = 1#1), 8 ∣ (k0_mult49 v361).toNat := fun i v361 k0_hw49 k0_h1 => k0_hw49.1 k0_h1
theorem k0_off50_inb : ∀ (i : grid0.Coords) (v361 : BitVec 32) (k0_hw49 : k0_chk49 i v361), ∀ (k0_h1 : k0_cond1 i = 1#1), ∀ a, (k0_off50 v361) a + S8x640.size a ≤ S40960x640.size a := fun i v361 k0_hw49 k0_h1 => k0_hw49.2 k0_h1

def k0_mult50 (v368 : BitVec 32) : BitVec 32 :=
  v368

def k0_off51 (v368 : BitVec 32) : Fin 2 → Nat :=
  let v369 : BitVec 32 := v368
  let c0_i32_227 : BitVec 32 := 0#32
  ![v369.toNat, 0]

def k0_chk50 (i : grid0.Coords) (v368 : BitVec 32) : Prop :=
  (∀ (k0_h1 : k0_cond1 i = 1#1), 8 ∣ (k0_mult50 v368).toNat) ∧
  (∀ (k0_h1 : k0_cond1 i = 1#1), ∀ a, (k0_off51 v368) a + S8x640.size a ≤ S40960x640.size a)
theorem k0_mult50_dvd : ∀ (i : grid0.Coords) (v368 : BitVec 32) (k0_hw50 : k0_chk50 i v368), ∀ (k0_h1 : k0_cond1 i = 1#1), 8 ∣ (k0_mult50 v368).toNat := fun i v368 k0_hw50 k0_h1 => k0_hw50.1 k0_h1
theorem k0_off51_inb : ∀ (i : grid0.Coords) (v368 : BitVec 32) (k0_hw50 : k0_chk50 i v368), ∀ (k0_h1 : k0_cond1 i = 1#1), ∀ a, (k0_off51 v368) a + S8x640.size a ≤ S40960x640.size a := fun i v368 k0_hw50 k0_h1 => k0_hw50.2 k0_h1

def k0_mult51 (v375 : BitVec 32) : BitVec 32 :=
  v375

def k0_off52 (v375 : BitVec 32) : Fin 2 → Nat :=
  let v376 : BitVec 32 := v375
  let c0_i32_232 : BitVec 32 := 0#32
  ![v376.toNat, 0]

def k0_chk51 (i : grid0.Coords) (v375 : BitVec 32) : Prop :=
  (∀ (k0_h1 : k0_cond1 i = 1#1), 8 ∣ (k0_mult51 v375).toNat) ∧
  (∀ (k0_h1 : k0_cond1 i = 1#1), ∀ a, (k0_off52 v375) a + S8x640.size a ≤ S40960x640.size a)
theorem k0_mult51_dvd : ∀ (i : grid0.Coords) (v375 : BitVec 32) (k0_hw51 : k0_chk51 i v375), ∀ (k0_h1 : k0_cond1 i = 1#1), 8 ∣ (k0_mult51 v375).toNat := fun i v375 k0_hw51 k0_h1 => k0_hw51.1 k0_h1
theorem k0_off52_inb : ∀ (i : grid0.Coords) (v375 : BitVec 32) (k0_hw51 : k0_chk51 i v375), ∀ (k0_h1 : k0_cond1 i = 1#1), ∀ a, (k0_off52 v375) a + S8x640.size a ≤ S40960x640.size a := fun i v375 k0_hw51 k0_h1 => k0_hw51.2 k0_h1

def k0_mult52 (v382 : BitVec 32) : BitVec 32 :=
  v382

def k0_off53 (v382 : BitVec 32) : Fin 2 → Nat :=
  let v383 : BitVec 32 := v382
  let c0_i32_237 : BitVec 32 := 0#32
  ![v383.toNat, 0]

def k0_chk52 (i : grid0.Coords) (v382 : BitVec 32) : Prop :=
  (∀ (k0_h1 : k0_cond1 i = 1#1), 8 ∣ (k0_mult52 v382).toNat) ∧
  (∀ (k0_h1 : k0_cond1 i = 1#1), ∀ a, (k0_off53 v382) a + S8x640.size a ≤ S40960x640.size a)
theorem k0_mult52_dvd : ∀ (i : grid0.Coords) (v382 : BitVec 32) (k0_hw52 : k0_chk52 i v382), ∀ (k0_h1 : k0_cond1 i = 1#1), 8 ∣ (k0_mult52 v382).toNat := fun i v382 k0_hw52 k0_h1 => k0_hw52.1 k0_h1
theorem k0_off53_inb : ∀ (i : grid0.Coords) (v382 : BitVec 32) (k0_hw52 : k0_chk52 i v382), ∀ (k0_h1 : k0_cond1 i = 1#1), ∀ a, (k0_off53 v382) a + S8x640.size a ≤ S40960x640.size a := fun i v382 k0_hw52 k0_h1 => k0_hw52.2 k0_h1

def k0_mult53 (v389 : BitVec 32) : BitVec 32 :=
  v389

def k0_off54 (v389 : BitVec 32) : Fin 2 → Nat :=
  let v390 : BitVec 32 := v389
  let c0_i32_242 : BitVec 32 := 0#32
  ![v390.toNat, 0]

def k0_chk53 (i : grid0.Coords) (v389 : BitVec 32) : Prop :=
  (∀ (k0_h1 : k0_cond1 i = 1#1), 8 ∣ (k0_mult53 v389).toNat) ∧
  (∀ (k0_h1 : k0_cond1 i = 1#1), ∀ a, (k0_off54 v389) a + S8x640.size a ≤ S40960x640.size a)
theorem k0_mult53_dvd : ∀ (i : grid0.Coords) (v389 : BitVec 32) (k0_hw53 : k0_chk53 i v389), ∀ (k0_h1 : k0_cond1 i = 1#1), 8 ∣ (k0_mult53 v389).toNat := fun i v389 k0_hw53 k0_h1 => k0_hw53.1 k0_h1
theorem k0_off54_inb : ∀ (i : grid0.Coords) (v389 : BitVec 32) (k0_hw53 : k0_chk53 i v389), ∀ (k0_h1 : k0_cond1 i = 1#1), ∀ a, (k0_off54 v389) a + S8x640.size a ≤ S40960x640.size a := fun i v389 k0_hw53 k0_h1 => k0_hw53.2 k0_h1

def k0_mult54 (v396 : BitVec 32) : BitVec 32 :=
  v396

def k0_off55 (v396 : BitVec 32) : Fin 2 → Nat :=
  let v397 : BitVec 32 := v396
  let c0_i32_247 : BitVec 32 := 0#32
  ![v397.toNat, 0]

def k0_chk54 (i : grid0.Coords) (v396 : BitVec 32) : Prop :=
  (∀ (k0_h1 : k0_cond1 i = 1#1), 8 ∣ (k0_mult54 v396).toNat) ∧
  (∀ (k0_h1 : k0_cond1 i = 1#1), ∀ a, (k0_off55 v396) a + S8x640.size a ≤ S40960x640.size a)
theorem k0_mult54_dvd : ∀ (i : grid0.Coords) (v396 : BitVec 32) (k0_hw54 : k0_chk54 i v396), ∀ (k0_h1 : k0_cond1 i = 1#1), 8 ∣ (k0_mult54 v396).toNat := fun i v396 k0_hw54 k0_h1 => k0_hw54.1 k0_h1
theorem k0_off55_inb : ∀ (i : grid0.Coords) (v396 : BitVec 32) (k0_hw54 : k0_chk54 i v396), ∀ (k0_h1 : k0_cond1 i = 1#1), ∀ a, (k0_off55 v396) a + S8x640.size a ≤ S40960x640.size a := fun i v396 k0_hw54 k0_h1 => k0_hw54.2 k0_h1

def k0_mult55 (v403 : BitVec 32) : BitVec 32 :=
  v403

def k0_off56 (v403 : BitVec 32) : Fin 2 → Nat :=
  let v404 : BitVec 32 := v403
  let c0_i32_252 : BitVec 32 := 0#32
  ![v404.toNat, 0]

def k0_chk55 (i : grid0.Coords) (v403 : BitVec 32) : Prop :=
  (∀ (k0_h1 : k0_cond1 i = 1#1), 8 ∣ (k0_mult55 v403).toNat) ∧
  (∀ (k0_h1 : k0_cond1 i = 1#1), ∀ a, (k0_off56 v403) a + S8x640.size a ≤ S40960x640.size a)
theorem k0_mult55_dvd : ∀ (i : grid0.Coords) (v403 : BitVec 32) (k0_hw55 : k0_chk55 i v403), ∀ (k0_h1 : k0_cond1 i = 1#1), 8 ∣ (k0_mult55 v403).toNat := fun i v403 k0_hw55 k0_h1 => k0_hw55.1 k0_h1
theorem k0_off56_inb : ∀ (i : grid0.Coords) (v403 : BitVec 32) (k0_hw55 : k0_chk55 i v403), ∀ (k0_h1 : k0_cond1 i = 1#1), ∀ a, (k0_off56 v403) a + S8x640.size a ≤ S40960x640.size a := fun i v403 k0_hw55 k0_h1 => k0_hw55.2 k0_h1

def k0_mult56 (v410 : BitVec 32) : BitVec 32 :=
  v410

def k0_off57 (v410 : BitVec 32) : Fin 2 → Nat :=
  let v411 : BitVec 32 := v410
  let c0_i32_257 : BitVec 32 := 0#32
  ![v411.toNat, 0]

def k0_chk56 (i : grid0.Coords) (v410 : BitVec 32) : Prop :=
  (∀ (k0_h1 : k0_cond1 i = 1#1), 8 ∣ (k0_mult56 v410).toNat) ∧
  (∀ (k0_h1 : k0_cond1 i = 1#1), ∀ a, (k0_off57 v410) a + S8x640.size a ≤ S40960x640.size a)
theorem k0_mult56_dvd : ∀ (i : grid0.Coords) (v410 : BitVec 32) (k0_hw56 : k0_chk56 i v410), ∀ (k0_h1 : k0_cond1 i = 1#1), 8 ∣ (k0_mult56 v410).toNat := fun i v410 k0_hw56 k0_h1 => k0_hw56.1 k0_h1
theorem k0_off57_inb : ∀ (i : grid0.Coords) (v410 : BitVec 32) (k0_hw56 : k0_chk56 i v410), ∀ (k0_h1 : k0_cond1 i = 1#1), ∀ a, (k0_off57 v410) a + S8x640.size a ≤ S40960x640.size a := fun i v410 k0_hw56 k0_h1 => k0_hw56.2 k0_h1

def k0_mult57 (v417 : BitVec 32) : BitVec 32 :=
  v417

def k0_off58 (v417 : BitVec 32) : Fin 2 → Nat :=
  let v418 : BitVec 32 := v417
  let c0_i32_262 : BitVec 32 := 0#32
  ![v418.toNat, 0]

def k0_chk57 (i : grid0.Coords) (v417 : BitVec 32) : Prop :=
  (∀ (k0_h1 : k0_cond1 i = 1#1), 8 ∣ (k0_mult57 v417).toNat) ∧
  (∀ (k0_h1 : k0_cond1 i = 1#1), ∀ a, (k0_off58 v417) a + S8x640.size a ≤ S40960x640.size a)
theorem k0_mult57_dvd : ∀ (i : grid0.Coords) (v417 : BitVec 32) (k0_hw57 : k0_chk57 i v417), ∀ (k0_h1 : k0_cond1 i = 1#1), 8 ∣ (k0_mult57 v417).toNat := fun i v417 k0_hw57 k0_h1 => k0_hw57.1 k0_h1
theorem k0_off58_inb : ∀ (i : grid0.Coords) (v417 : BitVec 32) (k0_hw57 : k0_chk57 i v417), ∀ (k0_h1 : k0_cond1 i = 1#1), ∀ a, (k0_off58 v417) a + S8x640.size a ≤ S40960x640.size a := fun i v417 k0_hw57 k0_h1 => k0_hw57.2 k0_h1

def k0_mult58 (v424 : BitVec 32) : BitVec 32 :=
  v424

def k0_off59 (v424 : BitVec 32) : Fin 2 → Nat :=
  let v425 : BitVec 32 := v424
  let c0_i32_267 : BitVec 32 := 0#32
  ![v425.toNat, 0]

def k0_chk58 (i : grid0.Coords) (v424 : BitVec 32) : Prop :=
  (∀ (k0_h1 : k0_cond1 i = 1#1), 8 ∣ (k0_mult58 v424).toNat) ∧
  (∀ (k0_h1 : k0_cond1 i = 1#1), ∀ a, (k0_off59 v424) a + S8x640.size a ≤ S40960x640.size a)
theorem k0_mult58_dvd : ∀ (i : grid0.Coords) (v424 : BitVec 32) (k0_hw58 : k0_chk58 i v424), ∀ (k0_h1 : k0_cond1 i = 1#1), 8 ∣ (k0_mult58 v424).toNat := fun i v424 k0_hw58 k0_h1 => k0_hw58.1 k0_h1
theorem k0_off59_inb : ∀ (i : grid0.Coords) (v424 : BitVec 32) (k0_hw58 : k0_chk58 i v424), ∀ (k0_h1 : k0_cond1 i = 1#1), ∀ a, (k0_off59 v424) a + S8x640.size a ≤ S40960x640.size a := fun i v424 k0_hw58 k0_h1 => k0_hw58.2 k0_h1

def k0_mult59 (v431 : BitVec 32) : BitVec 32 :=
  v431

def k0_off60 (v431 : BitVec 32) : Fin 2 → Nat :=
  let v432 : BitVec 32 := v431
  let c0_i32_272 : BitVec 32 := 0#32
  ![v432.toNat, 0]

def k0_chk59 (i : grid0.Coords) (v431 : BitVec 32) : Prop :=
  (∀ (k0_h1 : k0_cond1 i = 1#1), 8 ∣ (k0_mult59 v431).toNat) ∧
  (∀ (k0_h1 : k0_cond1 i = 1#1), ∀ a, (k0_off60 v431) a + S8x640.size a ≤ S40960x640.size a)
theorem k0_mult59_dvd : ∀ (i : grid0.Coords) (v431 : BitVec 32) (k0_hw59 : k0_chk59 i v431), ∀ (k0_h1 : k0_cond1 i = 1#1), 8 ∣ (k0_mult59 v431).toNat := fun i v431 k0_hw59 k0_h1 => k0_hw59.1 k0_h1
theorem k0_off60_inb : ∀ (i : grid0.Coords) (v431 : BitVec 32) (k0_hw59 : k0_chk59 i v431), ∀ (k0_h1 : k0_cond1 i = 1#1), ∀ a, (k0_off60 v431) a + S8x640.size a ≤ S40960x640.size a := fun i v431 k0_hw59 k0_h1 => k0_hw59.2 k0_h1

def k0_mult60 (v438 : BitVec 32) : BitVec 32 :=
  v438

def k0_off61 (v438 : BitVec 32) : Fin 2 → Nat :=
  let v439 : BitVec 32 := v438
  let c0_i32_277 : BitVec 32 := 0#32
  ![v439.toNat, 0]

def k0_chk60 (i : grid0.Coords) (v438 : BitVec 32) : Prop :=
  (∀ (k0_h1 : k0_cond1 i = 1#1), 8 ∣ (k0_mult60 v438).toNat) ∧
  (∀ (k0_h1 : k0_cond1 i = 1#1), ∀ a, (k0_off61 v438) a + S8x640.size a ≤ S40960x640.size a)
theorem k0_mult60_dvd : ∀ (i : grid0.Coords) (v438 : BitVec 32) (k0_hw60 : k0_chk60 i v438), ∀ (k0_h1 : k0_cond1 i = 1#1), 8 ∣ (k0_mult60 v438).toNat := fun i v438 k0_hw60 k0_h1 => k0_hw60.1 k0_h1
theorem k0_off61_inb : ∀ (i : grid0.Coords) (v438 : BitVec 32) (k0_hw60 : k0_chk60 i v438), ∀ (k0_h1 : k0_cond1 i = 1#1), ∀ a, (k0_off61 v438) a + S8x640.size a ≤ S40960x640.size a := fun i v438 k0_hw60 k0_h1 => k0_hw60.2 k0_h1

def k0_mult61 (v445 : BitVec 32) : BitVec 32 :=
  v445

def k0_off62 (v445 : BitVec 32) : Fin 2 → Nat :=
  let v446 : BitVec 32 := v445
  let c0_i32_282 : BitVec 32 := 0#32
  ![v446.toNat, 0]

def k0_chk61 (i : grid0.Coords) (v445 : BitVec 32) : Prop :=
  (∀ (k0_h1 : k0_cond1 i = 1#1), 8 ∣ (k0_mult61 v445).toNat) ∧
  (∀ (k0_h1 : k0_cond1 i = 1#1), ∀ a, (k0_off62 v445) a + S8x640.size a ≤ S40960x640.size a)
theorem k0_mult61_dvd : ∀ (i : grid0.Coords) (v445 : BitVec 32) (k0_hw61 : k0_chk61 i v445), ∀ (k0_h1 : k0_cond1 i = 1#1), 8 ∣ (k0_mult61 v445).toNat := fun i v445 k0_hw61 k0_h1 => k0_hw61.1 k0_h1
theorem k0_off62_inb : ∀ (i : grid0.Coords) (v445 : BitVec 32) (k0_hw61 : k0_chk61 i v445), ∀ (k0_h1 : k0_cond1 i = 1#1), ∀ a, (k0_off62 v445) a + S8x640.size a ≤ S40960x640.size a := fun i v445 k0_hw61 k0_h1 => k0_hw61.2 k0_h1

def k0_mult62 (v452 : BitVec 32) : BitVec 32 :=
  v452

def k0_off63 (v452 : BitVec 32) : Fin 2 → Nat :=
  let v453 : BitVec 32 := v452
  let c0_i32_287 : BitVec 32 := 0#32
  ![v453.toNat, 0]

def k0_chk62 (i : grid0.Coords) (v452 : BitVec 32) : Prop :=
  (∀ (k0_h1 : k0_cond1 i = 1#1), 8 ∣ (k0_mult62 v452).toNat) ∧
  (∀ (k0_h1 : k0_cond1 i = 1#1), ∀ a, (k0_off63 v452) a + S8x640.size a ≤ S40960x640.size a)
theorem k0_mult62_dvd : ∀ (i : grid0.Coords) (v452 : BitVec 32) (k0_hw62 : k0_chk62 i v452), ∀ (k0_h1 : k0_cond1 i = 1#1), 8 ∣ (k0_mult62 v452).toNat := fun i v452 k0_hw62 k0_h1 => k0_hw62.1 k0_h1
theorem k0_off63_inb : ∀ (i : grid0.Coords) (v452 : BitVec 32) (k0_hw62 : k0_chk62 i v452), ∀ (k0_h1 : k0_cond1 i = 1#1), ∀ a, (k0_off63 v452) a + S8x640.size a ≤ S40960x640.size a := fun i v452 k0_hw62 k0_h1 => k0_hw62.2 k0_h1

def k0_mult63 (v459 : BitVec 32) : BitVec 32 :=
  v459

def k0_off64 (v459 : BitVec 32) : Fin 2 → Nat :=
  let v460 : BitVec 32 := v459
  let c0_i32_292 : BitVec 32 := 0#32
  ![v460.toNat, 0]

def k0_chk63 (i : grid0.Coords) (v459 : BitVec 32) : Prop :=
  (∀ (k0_h1 : k0_cond1 i = 1#1), 8 ∣ (k0_mult63 v459).toNat) ∧
  (∀ (k0_h1 : k0_cond1 i = 1#1), ∀ a, (k0_off64 v459) a + S8x640.size a ≤ S40960x640.size a)
theorem k0_mult63_dvd : ∀ (i : grid0.Coords) (v459 : BitVec 32) (k0_hw63 : k0_chk63 i v459), ∀ (k0_h1 : k0_cond1 i = 1#1), 8 ∣ (k0_mult63 v459).toNat := fun i v459 k0_hw63 k0_h1 => k0_hw63.1 k0_h1
theorem k0_off64_inb : ∀ (i : grid0.Coords) (v459 : BitVec 32) (k0_hw63 : k0_chk63 i v459), ∀ (k0_h1 : k0_cond1 i = 1#1), ∀ a, (k0_off64 v459) a + S8x640.size a ≤ S40960x640.size a := fun i v459 k0_hw63 k0_h1 => k0_hw63.2 k0_h1

def k0_mult64 (v466 : BitVec 32) : BitVec 32 :=
  v466

def k0_off65 (v466 : BitVec 32) : Fin 2 → Nat :=
  let v467 : BitVec 32 := v466
  let c0_i32_297 : BitVec 32 := 0#32
  ![v467.toNat, 0]

def k0_chk64 (i : grid0.Coords) (v466 : BitVec 32) : Prop :=
  (∀ (k0_h1 : k0_cond1 i = 1#1), 8 ∣ (k0_mult64 v466).toNat) ∧
  (∀ (k0_h1 : k0_cond1 i = 1#1), ∀ a, (k0_off65 v466) a + S8x640.size a ≤ S40960x640.size a)
theorem k0_mult64_dvd : ∀ (i : grid0.Coords) (v466 : BitVec 32) (k0_hw64 : k0_chk64 i v466), ∀ (k0_h1 : k0_cond1 i = 1#1), 8 ∣ (k0_mult64 v466).toNat := fun i v466 k0_hw64 k0_h1 => k0_hw64.1 k0_h1
theorem k0_off65_inb : ∀ (i : grid0.Coords) (v466 : BitVec 32) (k0_hw64 : k0_chk64 i v466), ∀ (k0_h1 : k0_cond1 i = 1#1), ∀ a, (k0_off65 v466) a + S8x640.size a ≤ S40960x640.size a := fun i v466 k0_hw64 k0_h1 => k0_hw64.2 k0_h1

def k0_mult65 (v473 : BitVec 32) : BitVec 32 :=
  v473

def k0_off66 (v473 : BitVec 32) : Fin 2 → Nat :=
  let v474 : BitVec 32 := v473
  let c0_i32_301 : BitVec 32 := 0#32
  ![v474.toNat, 0]

def k0_chk65 (i : grid0.Coords) (v473 : BitVec 32) : Prop :=
  (∀ (k0_h1 : k0_cond1 i = 1#1), 8 ∣ (k0_mult65 v473).toNat) ∧
  (∀ (k0_h1 : k0_cond1 i = 1#1), ∀ a, (k0_off66 v473) a + S8x640.size a ≤ S40960x640.size a)
theorem k0_mult65_dvd : ∀ (i : grid0.Coords) (v473 : BitVec 32) (k0_hw65 : k0_chk65 i v473), ∀ (k0_h1 : k0_cond1 i = 1#1), 8 ∣ (k0_mult65 v473).toNat := fun i v473 k0_hw65 k0_h1 => k0_hw65.1 k0_h1
theorem k0_off66_inb : ∀ (i : grid0.Coords) (v473 : BitVec 32) (k0_hw65 : k0_chk65 i v473), ∀ (k0_h1 : k0_cond1 i = 1#1), ∀ a, (k0_off66 v473) a + S8x640.size a ≤ S40960x640.size a := fun i v473 k0_hw65 k0_h1 => k0_hw65.2 k0_h1

def k0_mult66 (v480 : BitVec 32) : BitVec 32 :=
  v480

def k0_off67 (v480 : BitVec 32) : Fin 2 → Nat :=
  let v481 : BitVec 32 := v480
  let c0_i32_306 : BitVec 32 := 0#32
  ![v481.toNat, 0]

def k0_chk66 (i : grid0.Coords) (v480 : BitVec 32) : Prop :=
  (∀ (k0_h1 : k0_cond1 i = 1#1), 8 ∣ (k0_mult66 v480).toNat) ∧
  (∀ (k0_h1 : k0_cond1 i = 1#1), ∀ a, (k0_off67 v480) a + S8x640.size a ≤ S40960x640.size a)
theorem k0_mult66_dvd : ∀ (i : grid0.Coords) (v480 : BitVec 32) (k0_hw66 : k0_chk66 i v480), ∀ (k0_h1 : k0_cond1 i = 1#1), 8 ∣ (k0_mult66 v480).toNat := fun i v480 k0_hw66 k0_h1 => k0_hw66.1 k0_h1
theorem k0_off67_inb : ∀ (i : grid0.Coords) (v480 : BitVec 32) (k0_hw66 : k0_chk66 i v480), ∀ (k0_h1 : k0_cond1 i = 1#1), ∀ a, (k0_off67 v480) a + S8x640.size a ≤ S40960x640.size a := fun i v480 k0_hw66 k0_h1 => k0_hw66.2 k0_h1

def k0_mult67 (v487 : BitVec 32) : BitVec 32 :=
  v487

def k0_off68 (v487 : BitVec 32) : Fin 2 → Nat :=
  let v488 : BitVec 32 := v487
  let c0_i32_311 : BitVec 32 := 0#32
  ![v488.toNat, 0]

def k0_chk67 (i : grid0.Coords) (v487 : BitVec 32) : Prop :=
  (∀ (k0_h1 : k0_cond1 i = 1#1), 8 ∣ (k0_mult67 v487).toNat) ∧
  (∀ (k0_h1 : k0_cond1 i = 1#1), ∀ a, (k0_off68 v487) a + S8x640.size a ≤ S40960x640.size a)
theorem k0_mult67_dvd : ∀ (i : grid0.Coords) (v487 : BitVec 32) (k0_hw67 : k0_chk67 i v487), ∀ (k0_h1 : k0_cond1 i = 1#1), 8 ∣ (k0_mult67 v487).toNat := fun i v487 k0_hw67 k0_h1 => k0_hw67.1 k0_h1
theorem k0_off68_inb : ∀ (i : grid0.Coords) (v487 : BitVec 32) (k0_hw67 : k0_chk67 i v487), ∀ (k0_h1 : k0_cond1 i = 1#1), ∀ a, (k0_off68 v487) a + S8x640.size a ≤ S40960x640.size a := fun i v487 k0_hw67 k0_h1 => k0_hw67.2 k0_h1

def k0_mult68 (v494 : BitVec 32) : BitVec 32 :=
  v494

def k0_off69 (v494 : BitVec 32) : Fin 2 → Nat :=
  let v495 : BitVec 32 := v494
  let c0_i32_316 : BitVec 32 := 0#32
  ![v495.toNat, 0]

def k0_chk68 (i : grid0.Coords) (v494 : BitVec 32) : Prop :=
  (∀ (k0_h1 : k0_cond1 i = 1#1), 8 ∣ (k0_mult68 v494).toNat) ∧
  (∀ (k0_h1 : k0_cond1 i = 1#1), ∀ a, (k0_off69 v494) a + S8x640.size a ≤ S40960x640.size a)
theorem k0_mult68_dvd : ∀ (i : grid0.Coords) (v494 : BitVec 32) (k0_hw68 : k0_chk68 i v494), ∀ (k0_h1 : k0_cond1 i = 1#1), 8 ∣ (k0_mult68 v494).toNat := fun i v494 k0_hw68 k0_h1 => k0_hw68.1 k0_h1
theorem k0_off69_inb : ∀ (i : grid0.Coords) (v494 : BitVec 32) (k0_hw68 : k0_chk68 i v494), ∀ (k0_h1 : k0_cond1 i = 1#1), ∀ a, (k0_off69 v494) a + S8x640.size a ≤ S40960x640.size a := fun i v494 k0_hw68 k0_h1 => k0_hw68.2 k0_h1

def k0_mult69 (v501 : BitVec 32) : BitVec 32 :=
  v501

def k0_off70 (v501 : BitVec 32) : Fin 2 → Nat :=
  let v502 : BitVec 32 := v501
  let c0_i32_321 : BitVec 32 := 0#32
  ![v502.toNat, 0]

def k0_chk69 (i : grid0.Coords) (v501 : BitVec 32) : Prop :=
  (∀ (k0_h1 : k0_cond1 i = 1#1), 8 ∣ (k0_mult69 v501).toNat) ∧
  (∀ (k0_h1 : k0_cond1 i = 1#1), ∀ a, (k0_off70 v501) a + S8x640.size a ≤ S40960x640.size a)
theorem k0_mult69_dvd : ∀ (i : grid0.Coords) (v501 : BitVec 32) (k0_hw69 : k0_chk69 i v501), ∀ (k0_h1 : k0_cond1 i = 1#1), 8 ∣ (k0_mult69 v501).toNat := fun i v501 k0_hw69 k0_h1 => k0_hw69.1 k0_h1
theorem k0_off70_inb : ∀ (i : grid0.Coords) (v501 : BitVec 32) (k0_hw69 : k0_chk69 i v501), ∀ (k0_h1 : k0_cond1 i = 1#1), ∀ a, (k0_off70 v501) a + S8x640.size a ≤ S40960x640.size a := fun i v501 k0_hw69 k0_h1 => k0_hw69.2 k0_h1

def k0_mult70 (v508 : BitVec 32) : BitVec 32 :=
  v508

def k0_off71 (v508 : BitVec 32) : Fin 2 → Nat :=
  let v509 : BitVec 32 := v508
  let c0_i32_326 : BitVec 32 := 0#32
  ![v509.toNat, 0]

def k0_chk70 (i : grid0.Coords) (v508 : BitVec 32) : Prop :=
  (∀ (k0_h1 : k0_cond1 i = 1#1), 8 ∣ (k0_mult70 v508).toNat) ∧
  (∀ (k0_h1 : k0_cond1 i = 1#1), ∀ a, (k0_off71 v508) a + S8x640.size a ≤ S40960x640.size a)
theorem k0_mult70_dvd : ∀ (i : grid0.Coords) (v508 : BitVec 32) (k0_hw70 : k0_chk70 i v508), ∀ (k0_h1 : k0_cond1 i = 1#1), 8 ∣ (k0_mult70 v508).toNat := fun i v508 k0_hw70 k0_h1 => k0_hw70.1 k0_h1
theorem k0_off71_inb : ∀ (i : grid0.Coords) (v508 : BitVec 32) (k0_hw70 : k0_chk70 i v508), ∀ (k0_h1 : k0_cond1 i = 1#1), ∀ a, (k0_off71 v508) a + S8x640.size a ≤ S40960x640.size a := fun i v508 k0_hw70 k0_h1 => k0_hw70.2 k0_h1

def k0_mult71 (v515 : BitVec 32) : BitVec 32 :=
  v515

def k0_off72 (v515 : BitVec 32) : Fin 2 → Nat :=
  let v516 : BitVec 32 := v515
  let c0_i32_331 : BitVec 32 := 0#32
  ![v516.toNat, 0]

def k0_chk71 (i : grid0.Coords) (v515 : BitVec 32) : Prop :=
  (∀ (k0_h1 : k0_cond1 i = 1#1), 8 ∣ (k0_mult71 v515).toNat) ∧
  (∀ (k0_h1 : k0_cond1 i = 1#1), ∀ a, (k0_off72 v515) a + S8x640.size a ≤ S40960x640.size a)
theorem k0_mult71_dvd : ∀ (i : grid0.Coords) (v515 : BitVec 32) (k0_hw71 : k0_chk71 i v515), ∀ (k0_h1 : k0_cond1 i = 1#1), 8 ∣ (k0_mult71 v515).toNat := fun i v515 k0_hw71 k0_h1 => k0_hw71.1 k0_h1
theorem k0_off72_inb : ∀ (i : grid0.Coords) (v515 : BitVec 32) (k0_hw71 : k0_chk71 i v515), ∀ (k0_h1 : k0_cond1 i = 1#1), ∀ a, (k0_off72 v515) a + S8x640.size a ≤ S40960x640.size a := fun i v515 k0_hw71 k0_h1 => k0_hw71.2 k0_h1

def k0_mult72 (v522 : BitVec 32) : BitVec 32 :=
  v522

def k0_off73 (v522 : BitVec 32) : Fin 2 → Nat :=
  let v523 : BitVec 32 := v522
  let c0_i32_336 : BitVec 32 := 0#32
  ![v523.toNat, 0]

def k0_chk72 (i : grid0.Coords) (v522 : BitVec 32) : Prop :=
  (∀ (k0_h1 : k0_cond1 i = 1#1), 8 ∣ (k0_mult72 v522).toNat) ∧
  (∀ (k0_h1 : k0_cond1 i = 1#1), ∀ a, (k0_off73 v522) a + S8x640.size a ≤ S40960x640.size a)
theorem k0_mult72_dvd : ∀ (i : grid0.Coords) (v522 : BitVec 32) (k0_hw72 : k0_chk72 i v522), ∀ (k0_h1 : k0_cond1 i = 1#1), 8 ∣ (k0_mult72 v522).toNat := fun i v522 k0_hw72 k0_h1 => k0_hw72.1 k0_h1
theorem k0_off73_inb : ∀ (i : grid0.Coords) (v522 : BitVec 32) (k0_hw72 : k0_chk72 i v522), ∀ (k0_h1 : k0_cond1 i = 1#1), ∀ a, (k0_off73 v522) a + S8x640.size a ≤ S40960x640.size a := fun i v522 k0_hw72 k0_h1 => k0_hw72.2 k0_h1

def k0_mult73 (v529 : BitVec 32) : BitVec 32 :=
  v529

def k0_off74 (v529 : BitVec 32) : Fin 2 → Nat :=
  let v530 : BitVec 32 := v529
  let c0_i32_341 : BitVec 32 := 0#32
  ![v530.toNat, 0]

def k0_chk73 (i : grid0.Coords) (v529 : BitVec 32) : Prop :=
  (∀ (k0_h1 : k0_cond1 i = 1#1), 8 ∣ (k0_mult73 v529).toNat) ∧
  (∀ (k0_h1 : k0_cond1 i = 1#1), ∀ a, (k0_off74 v529) a + S8x640.size a ≤ S40960x640.size a)
theorem k0_mult73_dvd : ∀ (i : grid0.Coords) (v529 : BitVec 32) (k0_hw73 : k0_chk73 i v529), ∀ (k0_h1 : k0_cond1 i = 1#1), 8 ∣ (k0_mult73 v529).toNat := fun i v529 k0_hw73 k0_h1 => k0_hw73.1 k0_h1
theorem k0_off74_inb : ∀ (i : grid0.Coords) (v529 : BitVec 32) (k0_hw73 : k0_chk73 i v529), ∀ (k0_h1 : k0_cond1 i = 1#1), ∀ a, (k0_off74 v529) a + S8x640.size a ≤ S40960x640.size a := fun i v529 k0_hw73 k0_h1 => k0_hw73.2 k0_h1

def k0_mult74 (v536 : BitVec 32) : BitVec 32 :=
  v536

def k0_off75 (v536 : BitVec 32) : Fin 2 → Nat :=
  let v537 : BitVec 32 := v536
  let c0_i32_346 : BitVec 32 := 0#32
  ![v537.toNat, 0]

def k0_chk74 (i : grid0.Coords) (v536 : BitVec 32) : Prop :=
  (∀ (k0_h1 : k0_cond1 i = 1#1), 8 ∣ (k0_mult74 v536).toNat) ∧
  (∀ (k0_h1 : k0_cond1 i = 1#1), ∀ a, (k0_off75 v536) a + S8x640.size a ≤ S40960x640.size a)
theorem k0_mult74_dvd : ∀ (i : grid0.Coords) (v536 : BitVec 32) (k0_hw74 : k0_chk74 i v536), ∀ (k0_h1 : k0_cond1 i = 1#1), 8 ∣ (k0_mult74 v536).toNat := fun i v536 k0_hw74 k0_h1 => k0_hw74.1 k0_h1
theorem k0_off75_inb : ∀ (i : grid0.Coords) (v536 : BitVec 32) (k0_hw74 : k0_chk74 i v536), ∀ (k0_h1 : k0_cond1 i = 1#1), ∀ a, (k0_off75 v536) a + S8x640.size a ≤ S40960x640.size a := fun i v536 k0_hw74 k0_h1 => k0_hw74.2 k0_h1

def k0_mult75 (v543 : BitVec 32) : BitVec 32 :=
  v543

def k0_off76 (v543 : BitVec 32) : Fin 2 → Nat :=
  let v544 : BitVec 32 := v543
  let c0_i32_351 : BitVec 32 := 0#32
  ![v544.toNat, 0]

def k0_chk75 (i : grid0.Coords) (v543 : BitVec 32) : Prop :=
  (∀ (k0_h1 : k0_cond1 i = 1#1), 8 ∣ (k0_mult75 v543).toNat) ∧
  (∀ (k0_h1 : k0_cond1 i = 1#1), ∀ a, (k0_off76 v543) a + S8x640.size a ≤ S40960x640.size a)
theorem k0_mult75_dvd : ∀ (i : grid0.Coords) (v543 : BitVec 32) (k0_hw75 : k0_chk75 i v543), ∀ (k0_h1 : k0_cond1 i = 1#1), 8 ∣ (k0_mult75 v543).toNat := fun i v543 k0_hw75 k0_h1 => k0_hw75.1 k0_h1
theorem k0_off76_inb : ∀ (i : grid0.Coords) (v543 : BitVec 32) (k0_hw75 : k0_chk75 i v543), ∀ (k0_h1 : k0_cond1 i = 1#1), ∀ a, (k0_off76 v543) a + S8x640.size a ≤ S40960x640.size a := fun i v543 k0_hw75 k0_h1 => k0_hw75.2 k0_h1

def k0_mult76 (v550 : BitVec 32) : BitVec 32 :=
  v550

def k0_off77 (v550 : BitVec 32) : Fin 2 → Nat :=
  let v551 : BitVec 32 := v550
  let c0_i32_356 : BitVec 32 := 0#32
  ![v551.toNat, 0]

def k0_chk76 (i : grid0.Coords) (v550 : BitVec 32) : Prop :=
  (∀ (k0_h1 : k0_cond1 i = 1#1), 8 ∣ (k0_mult76 v550).toNat) ∧
  (∀ (k0_h1 : k0_cond1 i = 1#1), ∀ a, (k0_off77 v550) a + S8x640.size a ≤ S40960x640.size a)
theorem k0_mult76_dvd : ∀ (i : grid0.Coords) (v550 : BitVec 32) (k0_hw76 : k0_chk76 i v550), ∀ (k0_h1 : k0_cond1 i = 1#1), 8 ∣ (k0_mult76 v550).toNat := fun i v550 k0_hw76 k0_h1 => k0_hw76.1 k0_h1
theorem k0_off77_inb : ∀ (i : grid0.Coords) (v550 : BitVec 32) (k0_hw76 : k0_chk76 i v550), ∀ (k0_h1 : k0_cond1 i = 1#1), ∀ a, (k0_off77 v550) a + S8x640.size a ≤ S40960x640.size a := fun i v550 k0_hw76 k0_h1 => k0_hw76.2 k0_h1

def k0_mult77 (v557 : BitVec 32) : BitVec 32 :=
  v557

def k0_off78 (v557 : BitVec 32) : Fin 2 → Nat :=
  let v558 : BitVec 32 := v557
  let c0_i32_361 : BitVec 32 := 0#32
  ![v558.toNat, 0]

def k0_chk77 (i : grid0.Coords) (v557 : BitVec 32) : Prop :=
  (∀ (k0_h1 : k0_cond1 i = 1#1), 8 ∣ (k0_mult77 v557).toNat) ∧
  (∀ (k0_h1 : k0_cond1 i = 1#1), ∀ a, (k0_off78 v557) a + S8x640.size a ≤ S40960x640.size a)
theorem k0_mult77_dvd : ∀ (i : grid0.Coords) (v557 : BitVec 32) (k0_hw77 : k0_chk77 i v557), ∀ (k0_h1 : k0_cond1 i = 1#1), 8 ∣ (k0_mult77 v557).toNat := fun i v557 k0_hw77 k0_h1 => k0_hw77.1 k0_h1
theorem k0_off78_inb : ∀ (i : grid0.Coords) (v557 : BitVec 32) (k0_hw77 : k0_chk77 i v557), ∀ (k0_h1 : k0_cond1 i = 1#1), ∀ a, (k0_off78 v557) a + S8x640.size a ≤ S40960x640.size a := fun i v557 k0_hw77 k0_h1 => k0_hw77.2 k0_h1

def k0_mult78 (v564 : BitVec 32) : BitVec 32 :=
  v564

def k0_off79 (v564 : BitVec 32) : Fin 2 → Nat :=
  let v565 : BitVec 32 := v564
  let c0_i32_366 : BitVec 32 := 0#32
  ![v565.toNat, 0]

def k0_chk78 (i : grid0.Coords) (v564 : BitVec 32) : Prop :=
  (∀ (k0_h1 : k0_cond1 i = 1#1), 8 ∣ (k0_mult78 v564).toNat) ∧
  (∀ (k0_h1 : k0_cond1 i = 1#1), ∀ a, (k0_off79 v564) a + S8x640.size a ≤ S40960x640.size a)
theorem k0_mult78_dvd : ∀ (i : grid0.Coords) (v564 : BitVec 32) (k0_hw78 : k0_chk78 i v564), ∀ (k0_h1 : k0_cond1 i = 1#1), 8 ∣ (k0_mult78 v564).toNat := fun i v564 k0_hw78 k0_h1 => k0_hw78.1 k0_h1
theorem k0_off79_inb : ∀ (i : grid0.Coords) (v564 : BitVec 32) (k0_hw78 : k0_chk78 i v564), ∀ (k0_h1 : k0_cond1 i = 1#1), ∀ a, (k0_off79 v564) a + S8x640.size a ≤ S40960x640.size a := fun i v564 k0_hw78 k0_h1 => k0_hw78.2 k0_h1

def k0_mult79 (v571 : BitVec 32) : BitVec 32 :=
  v571

def k0_off80 (v571 : BitVec 32) : Fin 2 → Nat :=
  let v572 : BitVec 32 := v571
  let c0_i32_371 : BitVec 32 := 0#32
  ![v572.toNat, 0]

def k0_chk79 (i : grid0.Coords) (v571 : BitVec 32) : Prop :=
  (∀ (k0_h1 : k0_cond1 i = 1#1), 8 ∣ (k0_mult79 v571).toNat) ∧
  (∀ (k0_h1 : k0_cond1 i = 1#1), ∀ a, (k0_off80 v571) a + S8x640.size a ≤ S40960x640.size a)
theorem k0_mult79_dvd : ∀ (i : grid0.Coords) (v571 : BitVec 32) (k0_hw79 : k0_chk79 i v571), ∀ (k0_h1 : k0_cond1 i = 1#1), 8 ∣ (k0_mult79 v571).toNat := fun i v571 k0_hw79 k0_h1 => k0_hw79.1 k0_h1
theorem k0_off80_inb : ∀ (i : grid0.Coords) (v571 : BitVec 32) (k0_hw79 : k0_chk79 i v571), ∀ (k0_h1 : k0_cond1 i = 1#1), ∀ a, (k0_off80 v571) a + S8x640.size a ≤ S40960x640.size a := fun i v571 k0_hw79 k0_h1 => k0_hw79.2 k0_h1

def k0_mult80 (v578 : BitVec 32) : BitVec 32 :=
  v578

def k0_off81 (v578 : BitVec 32) : Fin 2 → Nat :=
  let v579 : BitVec 32 := v578
  let c0_i32_376 : BitVec 32 := 0#32
  ![v579.toNat, 0]

def k0_chk80 (i : grid0.Coords) (v578 : BitVec 32) : Prop :=
  (∀ (k0_h1 : k0_cond1 i = 1#1), 8 ∣ (k0_mult80 v578).toNat) ∧
  (∀ (k0_h1 : k0_cond1 i = 1#1), ∀ a, (k0_off81 v578) a + S8x640.size a ≤ S40960x640.size a)
theorem k0_mult80_dvd : ∀ (i : grid0.Coords) (v578 : BitVec 32) (k0_hw80 : k0_chk80 i v578), ∀ (k0_h1 : k0_cond1 i = 1#1), 8 ∣ (k0_mult80 v578).toNat := fun i v578 k0_hw80 k0_h1 => k0_hw80.1 k0_h1
theorem k0_off81_inb : ∀ (i : grid0.Coords) (v578 : BitVec 32) (k0_hw80 : k0_chk80 i v578), ∀ (k0_h1 : k0_cond1 i = 1#1), ∀ a, (k0_off81 v578) a + S8x640.size a ≤ S40960x640.size a := fun i v578 k0_hw80 k0_h1 => k0_hw80.2 k0_h1

def k0_mult81 (v585 : BitVec 32) : BitVec 32 :=
  v585

def k0_off82 (v585 : BitVec 32) : Fin 2 → Nat :=
  let v586 : BitVec 32 := v585
  let c0_i32_381 : BitVec 32 := 0#32
  ![v586.toNat, 0]

def k0_chk81 (i : grid0.Coords) (v585 : BitVec 32) : Prop :=
  (∀ (k0_h1 : k0_cond1 i = 1#1), 8 ∣ (k0_mult81 v585).toNat) ∧
  (∀ (k0_h1 : k0_cond1 i = 1#1), ∀ a, (k0_off82 v585) a + S8x640.size a ≤ S40960x640.size a)
theorem k0_mult81_dvd : ∀ (i : grid0.Coords) (v585 : BitVec 32) (k0_hw81 : k0_chk81 i v585), ∀ (k0_h1 : k0_cond1 i = 1#1), 8 ∣ (k0_mult81 v585).toNat := fun i v585 k0_hw81 k0_h1 => k0_hw81.1 k0_h1
theorem k0_off82_inb : ∀ (i : grid0.Coords) (v585 : BitVec 32) (k0_hw81 : k0_chk81 i v585), ∀ (k0_h1 : k0_cond1 i = 1#1), ∀ a, (k0_off82 v585) a + S8x640.size a ≤ S40960x640.size a := fun i v585 k0_hw81 k0_h1 => k0_hw81.2 k0_h1

def k0_mult82 (v592 : BitVec 32) : BitVec 32 :=
  v592

def k0_off83 (v592 : BitVec 32) : Fin 2 → Nat :=
  let v593 : BitVec 32 := v592
  let c0_i32_386 : BitVec 32 := 0#32
  ![v593.toNat, 0]

def k0_chk82 (i : grid0.Coords) (v592 : BitVec 32) : Prop :=
  (∀ (k0_h1 : k0_cond1 i = 1#1), 8 ∣ (k0_mult82 v592).toNat) ∧
  (∀ (k0_h1 : k0_cond1 i = 1#1), ∀ a, (k0_off83 v592) a + S8x640.size a ≤ S40960x640.size a)
theorem k0_mult82_dvd : ∀ (i : grid0.Coords) (v592 : BitVec 32) (k0_hw82 : k0_chk82 i v592), ∀ (k0_h1 : k0_cond1 i = 1#1), 8 ∣ (k0_mult82 v592).toNat := fun i v592 k0_hw82 k0_h1 => k0_hw82.1 k0_h1
theorem k0_off83_inb : ∀ (i : grid0.Coords) (v592 : BitVec 32) (k0_hw82 : k0_chk82 i v592), ∀ (k0_h1 : k0_cond1 i = 1#1), ∀ a, (k0_off83 v592) a + S8x640.size a ≤ S40960x640.size a := fun i v592 k0_hw82 k0_h1 => k0_hw82.2 k0_h1

def k0_mult83 (v599 : BitVec 32) : BitVec 32 :=
  v599

def k0_off84 (v599 : BitVec 32) : Fin 2 → Nat :=
  let v600 : BitVec 32 := v599
  let c0_i32_391 : BitVec 32 := 0#32
  ![v600.toNat, 0]

def k0_chk83 (i : grid0.Coords) (v599 : BitVec 32) : Prop :=
  (∀ (k0_h1 : k0_cond1 i = 1#1), 8 ∣ (k0_mult83 v599).toNat) ∧
  (∀ (k0_h1 : k0_cond1 i = 1#1), ∀ a, (k0_off84 v599) a + S8x640.size a ≤ S40960x640.size a)
theorem k0_mult83_dvd : ∀ (i : grid0.Coords) (v599 : BitVec 32) (k0_hw83 : k0_chk83 i v599), ∀ (k0_h1 : k0_cond1 i = 1#1), 8 ∣ (k0_mult83 v599).toNat := fun i v599 k0_hw83 k0_h1 => k0_hw83.1 k0_h1
theorem k0_off84_inb : ∀ (i : grid0.Coords) (v599 : BitVec 32) (k0_hw83 : k0_chk83 i v599), ∀ (k0_h1 : k0_cond1 i = 1#1), ∀ a, (k0_off84 v599) a + S8x640.size a ≤ S40960x640.size a := fun i v599 k0_hw83 k0_h1 => k0_hw83.2 k0_h1

def k0_mult84 (v606 : BitVec 32) : BitVec 32 :=
  v606

def k0_off85 (v606 : BitVec 32) : Fin 2 → Nat :=
  let v607 : BitVec 32 := v606
  let c0_i32_396 : BitVec 32 := 0#32
  ![v607.toNat, 0]

def k0_chk84 (i : grid0.Coords) (v606 : BitVec 32) : Prop :=
  (∀ (k0_h1 : k0_cond1 i = 1#1), 8 ∣ (k0_mult84 v606).toNat) ∧
  (∀ (k0_h1 : k0_cond1 i = 1#1), ∀ a, (k0_off85 v606) a + S8x640.size a ≤ S40960x640.size a)
theorem k0_mult84_dvd : ∀ (i : grid0.Coords) (v606 : BitVec 32) (k0_hw84 : k0_chk84 i v606), ∀ (k0_h1 : k0_cond1 i = 1#1), 8 ∣ (k0_mult84 v606).toNat := fun i v606 k0_hw84 k0_h1 => k0_hw84.1 k0_h1
theorem k0_off85_inb : ∀ (i : grid0.Coords) (v606 : BitVec 32) (k0_hw84 : k0_chk84 i v606), ∀ (k0_h1 : k0_cond1 i = 1#1), ∀ a, (k0_off85 v606) a + S8x640.size a ≤ S40960x640.size a := fun i v606 k0_hw84 k0_h1 => k0_hw84.2 k0_h1

def k0_mult85 (v613 : BitVec 32) : BitVec 32 :=
  v613

def k0_off86 (v613 : BitVec 32) : Fin 2 → Nat :=
  let v614 : BitVec 32 := v613
  let c0_i32_401 : BitVec 32 := 0#32
  ![v614.toNat, 0]

def k0_chk85 (i : grid0.Coords) (v613 : BitVec 32) : Prop :=
  (∀ (k0_h1 : k0_cond1 i = 1#1), 8 ∣ (k0_mult85 v613).toNat) ∧
  (∀ (k0_h1 : k0_cond1 i = 1#1), ∀ a, (k0_off86 v613) a + S8x640.size a ≤ S40960x640.size a)
theorem k0_mult85_dvd : ∀ (i : grid0.Coords) (v613 : BitVec 32) (k0_hw85 : k0_chk85 i v613), ∀ (k0_h1 : k0_cond1 i = 1#1), 8 ∣ (k0_mult85 v613).toNat := fun i v613 k0_hw85 k0_h1 => k0_hw85.1 k0_h1
theorem k0_off86_inb : ∀ (i : grid0.Coords) (v613 : BitVec 32) (k0_hw85 : k0_chk85 i v613), ∀ (k0_h1 : k0_cond1 i = 1#1), ∀ a, (k0_off86 v613) a + S8x640.size a ≤ S40960x640.size a := fun i v613 k0_hw85 k0_h1 => k0_hw85.2 k0_h1

def k0_mult86 (v620 : BitVec 32) : BitVec 32 :=
  v620

def k0_off87 (v620 : BitVec 32) : Fin 2 → Nat :=
  let v621 : BitVec 32 := v620
  let c0_i32_406 : BitVec 32 := 0#32
  ![v621.toNat, 0]

def k0_chk86 (i : grid0.Coords) (v620 : BitVec 32) : Prop :=
  (∀ (k0_h1 : k0_cond1 i = 1#1), 8 ∣ (k0_mult86 v620).toNat) ∧
  (∀ (k0_h1 : k0_cond1 i = 1#1), ∀ a, (k0_off87 v620) a + S8x640.size a ≤ S40960x640.size a)
theorem k0_mult86_dvd : ∀ (i : grid0.Coords) (v620 : BitVec 32) (k0_hw86 : k0_chk86 i v620), ∀ (k0_h1 : k0_cond1 i = 1#1), 8 ∣ (k0_mult86 v620).toNat := fun i v620 k0_hw86 k0_h1 => k0_hw86.1 k0_h1
theorem k0_off87_inb : ∀ (i : grid0.Coords) (v620 : BitVec 32) (k0_hw86 : k0_chk86 i v620), ∀ (k0_h1 : k0_cond1 i = 1#1), ∀ a, (k0_off87 v620) a + S8x640.size a ≤ S40960x640.size a := fun i v620 k0_hw86 k0_h1 => k0_hw86.2 k0_h1

def k0_mult87 (v627 : BitVec 32) : BitVec 32 :=
  v627

def k0_off88 (v627 : BitVec 32) : Fin 2 → Nat :=
  let v628 : BitVec 32 := v627
  let c0_i32_411 : BitVec 32 := 0#32
  ![v628.toNat, 0]

def k0_chk87 (i : grid0.Coords) (v627 : BitVec 32) : Prop :=
  (∀ (k0_h1 : k0_cond1 i = 1#1), 8 ∣ (k0_mult87 v627).toNat) ∧
  (∀ (k0_h1 : k0_cond1 i = 1#1), ∀ a, (k0_off88 v627) a + S8x640.size a ≤ S40960x640.size a)
theorem k0_mult87_dvd : ∀ (i : grid0.Coords) (v627 : BitVec 32) (k0_hw87 : k0_chk87 i v627), ∀ (k0_h1 : k0_cond1 i = 1#1), 8 ∣ (k0_mult87 v627).toNat := fun i v627 k0_hw87 k0_h1 => k0_hw87.1 k0_h1
theorem k0_off88_inb : ∀ (i : grid0.Coords) (v627 : BitVec 32) (k0_hw87 : k0_chk87 i v627), ∀ (k0_h1 : k0_cond1 i = 1#1), ∀ a, (k0_off88 v627) a + S8x640.size a ≤ S40960x640.size a := fun i v627 k0_hw87 k0_h1 => k0_hw87.2 k0_h1

def k0_mult88 (v634 : BitVec 32) : BitVec 32 :=
  v634

def k0_off89 (v634 : BitVec 32) : Fin 2 → Nat :=
  let v635 : BitVec 32 := v634
  let c0_i32_416 : BitVec 32 := 0#32
  ![v635.toNat, 0]

def k0_chk88 (i : grid0.Coords) (v634 : BitVec 32) : Prop :=
  (∀ (k0_h1 : k0_cond1 i = 1#1), 8 ∣ (k0_mult88 v634).toNat) ∧
  (∀ (k0_h1 : k0_cond1 i = 1#1), ∀ a, (k0_off89 v634) a + S8x640.size a ≤ S40960x640.size a)
theorem k0_mult88_dvd : ∀ (i : grid0.Coords) (v634 : BitVec 32) (k0_hw88 : k0_chk88 i v634), ∀ (k0_h1 : k0_cond1 i = 1#1), 8 ∣ (k0_mult88 v634).toNat := fun i v634 k0_hw88 k0_h1 => k0_hw88.1 k0_h1
theorem k0_off89_inb : ∀ (i : grid0.Coords) (v634 : BitVec 32) (k0_hw88 : k0_chk88 i v634), ∀ (k0_h1 : k0_cond1 i = 1#1), ∀ a, (k0_off89 v634) a + S8x640.size a ≤ S40960x640.size a := fun i v634 k0_hw88 k0_h1 => k0_hw88.2 k0_h1

def k0_mult89 (v641 : BitVec 32) : BitVec 32 :=
  v641

def k0_off90 (v641 : BitVec 32) : Fin 2 → Nat :=
  let v642 : BitVec 32 := v641
  let c0_i32_421 : BitVec 32 := 0#32
  ![v642.toNat, 0]

def k0_chk89 (i : grid0.Coords) (v641 : BitVec 32) : Prop :=
  (∀ (k0_h1 : k0_cond1 i = 1#1), 8 ∣ (k0_mult89 v641).toNat) ∧
  (∀ (k0_h1 : k0_cond1 i = 1#1), ∀ a, (k0_off90 v641) a + S8x640.size a ≤ S40960x640.size a)
theorem k0_mult89_dvd : ∀ (i : grid0.Coords) (v641 : BitVec 32) (k0_hw89 : k0_chk89 i v641), ∀ (k0_h1 : k0_cond1 i = 1#1), 8 ∣ (k0_mult89 v641).toNat := fun i v641 k0_hw89 k0_h1 => k0_hw89.1 k0_h1
theorem k0_off90_inb : ∀ (i : grid0.Coords) (v641 : BitVec 32) (k0_hw89 : k0_chk89 i v641), ∀ (k0_h1 : k0_cond1 i = 1#1), ∀ a, (k0_off90 v641) a + S8x640.size a ≤ S40960x640.size a := fun i v641 k0_hw89 k0_h1 => k0_hw89.2 k0_h1

def k0_mult90 (v648 : BitVec 32) : BitVec 32 :=
  v648

def k0_off91 (v648 : BitVec 32) : Fin 2 → Nat :=
  let v649 : BitVec 32 := v648
  let c0_i32_426 : BitVec 32 := 0#32
  ![v649.toNat, 0]

def k0_chk90 (i : grid0.Coords) (v648 : BitVec 32) : Prop :=
  (∀ (k0_h1 : k0_cond1 i = 1#1), 8 ∣ (k0_mult90 v648).toNat) ∧
  (∀ (k0_h1 : k0_cond1 i = 1#1), ∀ a, (k0_off91 v648) a + S8x640.size a ≤ S40960x640.size a)
theorem k0_mult90_dvd : ∀ (i : grid0.Coords) (v648 : BitVec 32) (k0_hw90 : k0_chk90 i v648), ∀ (k0_h1 : k0_cond1 i = 1#1), 8 ∣ (k0_mult90 v648).toNat := fun i v648 k0_hw90 k0_h1 => k0_hw90.1 k0_h1
theorem k0_off91_inb : ∀ (i : grid0.Coords) (v648 : BitVec 32) (k0_hw90 : k0_chk90 i v648), ∀ (k0_h1 : k0_cond1 i = 1#1), ∀ a, (k0_off91 v648) a + S8x640.size a ≤ S40960x640.size a := fun i v648 k0_hw90 k0_h1 => k0_hw90.2 k0_h1

def k0_mult91 (v655 : BitVec 32) : BitVec 32 :=
  v655

def k0_off92 (v655 : BitVec 32) : Fin 2 → Nat :=
  let v656 : BitVec 32 := v655
  let c0_i32_431 : BitVec 32 := 0#32
  ![v656.toNat, 0]

def k0_chk91 (i : grid0.Coords) (v655 : BitVec 32) : Prop :=
  (∀ (k0_h1 : k0_cond1 i = 1#1), 8 ∣ (k0_mult91 v655).toNat) ∧
  (∀ (k0_h1 : k0_cond1 i = 1#1), ∀ a, (k0_off92 v655) a + S8x640.size a ≤ S40960x640.size a)
theorem k0_mult91_dvd : ∀ (i : grid0.Coords) (v655 : BitVec 32) (k0_hw91 : k0_chk91 i v655), ∀ (k0_h1 : k0_cond1 i = 1#1), 8 ∣ (k0_mult91 v655).toNat := fun i v655 k0_hw91 k0_h1 => k0_hw91.1 k0_h1
theorem k0_off92_inb : ∀ (i : grid0.Coords) (v655 : BitVec 32) (k0_hw91 : k0_chk91 i v655), ∀ (k0_h1 : k0_cond1 i = 1#1), ∀ a, (k0_off92 v655) a + S8x640.size a ≤ S40960x640.size a := fun i v655 k0_hw91 k0_h1 => k0_hw91.2 k0_h1

def k0_mult92 (v662 : BitVec 32) : BitVec 32 :=
  v662

def k0_off93 (v662 : BitVec 32) : Fin 2 → Nat :=
  let v663 : BitVec 32 := v662
  let c0_i32_436 : BitVec 32 := 0#32
  ![v663.toNat, 0]

def k0_chk92 (i : grid0.Coords) (v662 : BitVec 32) : Prop :=
  (∀ (k0_h1 : k0_cond1 i = 1#1), 8 ∣ (k0_mult92 v662).toNat) ∧
  (∀ (k0_h1 : k0_cond1 i = 1#1), ∀ a, (k0_off93 v662) a + S8x640.size a ≤ S40960x640.size a)
theorem k0_mult92_dvd : ∀ (i : grid0.Coords) (v662 : BitVec 32) (k0_hw92 : k0_chk92 i v662), ∀ (k0_h1 : k0_cond1 i = 1#1), 8 ∣ (k0_mult92 v662).toNat := fun i v662 k0_hw92 k0_h1 => k0_hw92.1 k0_h1
theorem k0_off93_inb : ∀ (i : grid0.Coords) (v662 : BitVec 32) (k0_hw92 : k0_chk92 i v662), ∀ (k0_h1 : k0_cond1 i = 1#1), ∀ a, (k0_off93 v662) a + S8x640.size a ≤ S40960x640.size a := fun i v662 k0_hw92 k0_h1 => k0_hw92.2 k0_h1

def k0_mult93 (v669 : BitVec 32) : BitVec 32 :=
  v669

def k0_off94 (v669 : BitVec 32) : Fin 2 → Nat :=
  let v670 : BitVec 32 := v669
  let c0_i32_441 : BitVec 32 := 0#32
  ![v670.toNat, 0]

def k0_chk93 (i : grid0.Coords) (v669 : BitVec 32) : Prop :=
  (∀ (k0_h1 : k0_cond1 i = 1#1), 8 ∣ (k0_mult93 v669).toNat) ∧
  (∀ (k0_h1 : k0_cond1 i = 1#1), ∀ a, (k0_off94 v669) a + S8x640.size a ≤ S40960x640.size a)
theorem k0_mult93_dvd : ∀ (i : grid0.Coords) (v669 : BitVec 32) (k0_hw93 : k0_chk93 i v669), ∀ (k0_h1 : k0_cond1 i = 1#1), 8 ∣ (k0_mult93 v669).toNat := fun i v669 k0_hw93 k0_h1 => k0_hw93.1 k0_h1
theorem k0_off94_inb : ∀ (i : grid0.Coords) (v669 : BitVec 32) (k0_hw93 : k0_chk93 i v669), ∀ (k0_h1 : k0_cond1 i = 1#1), ∀ a, (k0_off94 v669) a + S8x640.size a ≤ S40960x640.size a := fun i v669 k0_hw93 k0_h1 => k0_hw93.2 k0_h1

def k0_mult94 (v676 : BitVec 32) : BitVec 32 :=
  v676

def k0_off95 (v676 : BitVec 32) : Fin 2 → Nat :=
  let v677 : BitVec 32 := v676
  let c0_i32_446 : BitVec 32 := 0#32
  ![v677.toNat, 0]

def k0_chk94 (i : grid0.Coords) (v676 : BitVec 32) : Prop :=
  (∀ (k0_h1 : k0_cond1 i = 1#1), 8 ∣ (k0_mult94 v676).toNat) ∧
  (∀ (k0_h1 : k0_cond1 i = 1#1), ∀ a, (k0_off95 v676) a + S8x640.size a ≤ S40960x640.size a)
theorem k0_mult94_dvd : ∀ (i : grid0.Coords) (v676 : BitVec 32) (k0_hw94 : k0_chk94 i v676), ∀ (k0_h1 : k0_cond1 i = 1#1), 8 ∣ (k0_mult94 v676).toNat := fun i v676 k0_hw94 k0_h1 => k0_hw94.1 k0_h1
theorem k0_off95_inb : ∀ (i : grid0.Coords) (v676 : BitVec 32) (k0_hw94 : k0_chk94 i v676), ∀ (k0_h1 : k0_cond1 i = 1#1), ∀ a, (k0_off95 v676) a + S8x640.size a ≤ S40960x640.size a := fun i v676 k0_hw94 k0_h1 => k0_hw94.2 k0_h1

def k0_mult95 (v683 : BitVec 32) : BitVec 32 :=
  v683

def k0_off96 (v683 : BitVec 32) : Fin 2 → Nat :=
  let v684 : BitVec 32 := v683
  let c0_i32_451 : BitVec 32 := 0#32
  ![v684.toNat, 0]

def k0_chk95 (i : grid0.Coords) (v683 : BitVec 32) : Prop :=
  (∀ (k0_h1 : k0_cond1 i = 1#1), 8 ∣ (k0_mult95 v683).toNat) ∧
  (∀ (k0_h1 : k0_cond1 i = 1#1), ∀ a, (k0_off96 v683) a + S8x640.size a ≤ S40960x640.size a)
theorem k0_mult95_dvd : ∀ (i : grid0.Coords) (v683 : BitVec 32) (k0_hw95 : k0_chk95 i v683), ∀ (k0_h1 : k0_cond1 i = 1#1), 8 ∣ (k0_mult95 v683).toNat := fun i v683 k0_hw95 k0_h1 => k0_hw95.1 k0_h1
theorem k0_off96_inb : ∀ (i : grid0.Coords) (v683 : BitVec 32) (k0_hw95 : k0_chk95 i v683), ∀ (k0_h1 : k0_cond1 i = 1#1), ∀ a, (k0_off96 v683) a + S8x640.size a ≤ S40960x640.size a := fun i v683 k0_hw95 k0_h1 => k0_hw95.2 k0_h1

def k0_mult96 (v690 : BitVec 32) : BitVec 32 :=
  v690

def k0_off97 (v690 : BitVec 32) : Fin 2 → Nat :=
  let v691 : BitVec 32 := v690
  let c0_i32_456 : BitVec 32 := 0#32
  ![v691.toNat, 0]

def k0_chk96 (i : grid0.Coords) (v690 : BitVec 32) : Prop :=
  (∀ (k0_h1 : k0_cond1 i = 1#1), 8 ∣ (k0_mult96 v690).toNat) ∧
  (∀ (k0_h1 : k0_cond1 i = 1#1), ∀ a, (k0_off97 v690) a + S8x640.size a ≤ S40960x640.size a)
theorem k0_mult96_dvd : ∀ (i : grid0.Coords) (v690 : BitVec 32) (k0_hw96 : k0_chk96 i v690), ∀ (k0_h1 : k0_cond1 i = 1#1), 8 ∣ (k0_mult96 v690).toNat := fun i v690 k0_hw96 k0_h1 => k0_hw96.1 k0_h1
theorem k0_off97_inb : ∀ (i : grid0.Coords) (v690 : BitVec 32) (k0_hw96 : k0_chk96 i v690), ∀ (k0_h1 : k0_cond1 i = 1#1), ∀ a, (k0_off97 v690) a + S8x640.size a ≤ S40960x640.size a := fun i v690 k0_hw96 k0_h1 => k0_hw96.2 k0_h1

def k0_mult97 (v697 : BitVec 32) : BitVec 32 :=
  v697

def k0_off98 (v697 : BitVec 32) : Fin 2 → Nat :=
  let v698 : BitVec 32 := v697
  let c0_i32_460 : BitVec 32 := 0#32
  ![v698.toNat, 0]

def k0_chk97 (i : grid0.Coords) (v697 : BitVec 32) : Prop :=
  (∀ (k0_h1 : k0_cond1 i = 1#1), 8 ∣ (k0_mult97 v697).toNat) ∧
  (∀ (k0_h1 : k0_cond1 i = 1#1), ∀ a, (k0_off98 v697) a + S8x640.size a ≤ S40960x640.size a)
theorem k0_mult97_dvd : ∀ (i : grid0.Coords) (v697 : BitVec 32) (k0_hw97 : k0_chk97 i v697), ∀ (k0_h1 : k0_cond1 i = 1#1), 8 ∣ (k0_mult97 v697).toNat := fun i v697 k0_hw97 k0_h1 => k0_hw97.1 k0_h1
theorem k0_off98_inb : ∀ (i : grid0.Coords) (v697 : BitVec 32) (k0_hw97 : k0_chk97 i v697), ∀ (k0_h1 : k0_cond1 i = 1#1), ∀ a, (k0_off98 v697) a + S8x640.size a ≤ S40960x640.size a := fun i v697 k0_hw97 k0_h1 => k0_hw97.2 k0_h1

def k0_mult98 (v704 : BitVec 32) : BitVec 32 :=
  v704

def k0_off99 (v704 : BitVec 32) : Fin 2 → Nat :=
  let v705 : BitVec 32 := v704
  let c0_i32_465 : BitVec 32 := 0#32
  ![v705.toNat, 0]

def k0_chk98 (i : grid0.Coords) (v704 : BitVec 32) : Prop :=
  (∀ (k0_h1 : k0_cond1 i = 1#1), 8 ∣ (k0_mult98 v704).toNat) ∧
  (∀ (k0_h1 : k0_cond1 i = 1#1), ∀ a, (k0_off99 v704) a + S8x640.size a ≤ S40960x640.size a)
theorem k0_mult98_dvd : ∀ (i : grid0.Coords) (v704 : BitVec 32) (k0_hw98 : k0_chk98 i v704), ∀ (k0_h1 : k0_cond1 i = 1#1), 8 ∣ (k0_mult98 v704).toNat := fun i v704 k0_hw98 k0_h1 => k0_hw98.1 k0_h1
theorem k0_off99_inb : ∀ (i : grid0.Coords) (v704 : BitVec 32) (k0_hw98 : k0_chk98 i v704), ∀ (k0_h1 : k0_cond1 i = 1#1), ∀ a, (k0_off99 v704) a + S8x640.size a ≤ S40960x640.size a := fun i v704 k0_hw98 k0_h1 => k0_hw98.2 k0_h1

def k0_mult99 (v711 : BitVec 32) : BitVec 32 :=
  v711

def k0_off100 (v711 : BitVec 32) : Fin 2 → Nat :=
  let v712 : BitVec 32 := v711
  let c0_i32_470 : BitVec 32 := 0#32
  ![v712.toNat, 0]

def k0_chk99 (i : grid0.Coords) (v711 : BitVec 32) : Prop :=
  (∀ (k0_h1 : k0_cond1 i = 1#1), 8 ∣ (k0_mult99 v711).toNat) ∧
  (∀ (k0_h1 : k0_cond1 i = 1#1), ∀ a, (k0_off100 v711) a + S8x640.size a ≤ S40960x640.size a)
theorem k0_mult99_dvd : ∀ (i : grid0.Coords) (v711 : BitVec 32) (k0_hw99 : k0_chk99 i v711), ∀ (k0_h1 : k0_cond1 i = 1#1), 8 ∣ (k0_mult99 v711).toNat := fun i v711 k0_hw99 k0_h1 => k0_hw99.1 k0_h1
theorem k0_off100_inb : ∀ (i : grid0.Coords) (v711 : BitVec 32) (k0_hw99 : k0_chk99 i v711), ∀ (k0_h1 : k0_cond1 i = 1#1), ∀ a, (k0_off100 v711) a + S8x640.size a ≤ S40960x640.size a := fun i v711 k0_hw99 k0_h1 => k0_hw99.2 k0_h1

def k0_mult100 (v718 : BitVec 32) : BitVec 32 :=
  v718

def k0_off101 (v718 : BitVec 32) : Fin 2 → Nat :=
  let v719 : BitVec 32 := v718
  let c0_i32_475 : BitVec 32 := 0#32
  ![v719.toNat, 0]

def k0_chk100 (i : grid0.Coords) (v718 : BitVec 32) : Prop :=
  (∀ (k0_h1 : k0_cond1 i = 1#1), 8 ∣ (k0_mult100 v718).toNat) ∧
  (∀ (k0_h1 : k0_cond1 i = 1#1), ∀ a, (k0_off101 v718) a + S8x640.size a ≤ S40960x640.size a)
theorem k0_mult100_dvd : ∀ (i : grid0.Coords) (v718 : BitVec 32) (k0_hw100 : k0_chk100 i v718), ∀ (k0_h1 : k0_cond1 i = 1#1), 8 ∣ (k0_mult100 v718).toNat := fun i v718 k0_hw100 k0_h1 => k0_hw100.1 k0_h1
theorem k0_off101_inb : ∀ (i : grid0.Coords) (v718 : BitVec 32) (k0_hw100 : k0_chk100 i v718), ∀ (k0_h1 : k0_cond1 i = 1#1), ∀ a, (k0_off101 v718) a + S8x640.size a ≤ S40960x640.size a := fun i v718 k0_hw100 k0_h1 => k0_hw100.2 k0_h1

def k0_mult101 (v725 : BitVec 32) : BitVec 32 :=
  v725

def k0_off102 (v725 : BitVec 32) : Fin 2 → Nat :=
  let v726 : BitVec 32 := v725
  let c0_i32_480 : BitVec 32 := 0#32
  ![v726.toNat, 0]

def k0_chk101 (i : grid0.Coords) (v725 : BitVec 32) : Prop :=
  (∀ (k0_h1 : k0_cond1 i = 1#1), 8 ∣ (k0_mult101 v725).toNat) ∧
  (∀ (k0_h1 : k0_cond1 i = 1#1), ∀ a, (k0_off102 v725) a + S8x640.size a ≤ S40960x640.size a)
theorem k0_mult101_dvd : ∀ (i : grid0.Coords) (v725 : BitVec 32) (k0_hw101 : k0_chk101 i v725), ∀ (k0_h1 : k0_cond1 i = 1#1), 8 ∣ (k0_mult101 v725).toNat := fun i v725 k0_hw101 k0_h1 => k0_hw101.1 k0_h1
theorem k0_off102_inb : ∀ (i : grid0.Coords) (v725 : BitVec 32) (k0_hw101 : k0_chk101 i v725), ∀ (k0_h1 : k0_cond1 i = 1#1), ∀ a, (k0_off102 v725) a + S8x640.size a ≤ S40960x640.size a := fun i v725 k0_hw101 k0_h1 => k0_hw101.2 k0_h1

def k0_mult102 (v732 : BitVec 32) : BitVec 32 :=
  v732

def k0_off103 (v732 : BitVec 32) : Fin 2 → Nat :=
  let v733 : BitVec 32 := v732
  let c0_i32_485 : BitVec 32 := 0#32
  ![v733.toNat, 0]

def k0_chk102 (i : grid0.Coords) (v732 : BitVec 32) : Prop :=
  (∀ (k0_h1 : k0_cond1 i = 1#1), 8 ∣ (k0_mult102 v732).toNat) ∧
  (∀ (k0_h1 : k0_cond1 i = 1#1), ∀ a, (k0_off103 v732) a + S8x640.size a ≤ S40960x640.size a)
theorem k0_mult102_dvd : ∀ (i : grid0.Coords) (v732 : BitVec 32) (k0_hw102 : k0_chk102 i v732), ∀ (k0_h1 : k0_cond1 i = 1#1), 8 ∣ (k0_mult102 v732).toNat := fun i v732 k0_hw102 k0_h1 => k0_hw102.1 k0_h1
theorem k0_off103_inb : ∀ (i : grid0.Coords) (v732 : BitVec 32) (k0_hw102 : k0_chk102 i v732), ∀ (k0_h1 : k0_cond1 i = 1#1), ∀ a, (k0_off103 v732) a + S8x640.size a ≤ S40960x640.size a := fun i v732 k0_hw102 k0_h1 => k0_hw102.2 k0_h1

def k0_mult103 (v739 : BitVec 32) : BitVec 32 :=
  v739

def k0_off104 (v739 : BitVec 32) : Fin 2 → Nat :=
  let v740 : BitVec 32 := v739
  let c0_i32_490 : BitVec 32 := 0#32
  ![v740.toNat, 0]

def k0_chk103 (i : grid0.Coords) (v739 : BitVec 32) : Prop :=
  (∀ (k0_h1 : k0_cond1 i = 1#1), 8 ∣ (k0_mult103 v739).toNat) ∧
  (∀ (k0_h1 : k0_cond1 i = 1#1), ∀ a, (k0_off104 v739) a + S8x640.size a ≤ S40960x640.size a)
theorem k0_mult103_dvd : ∀ (i : grid0.Coords) (v739 : BitVec 32) (k0_hw103 : k0_chk103 i v739), ∀ (k0_h1 : k0_cond1 i = 1#1), 8 ∣ (k0_mult103 v739).toNat := fun i v739 k0_hw103 k0_h1 => k0_hw103.1 k0_h1
theorem k0_off104_inb : ∀ (i : grid0.Coords) (v739 : BitVec 32) (k0_hw103 : k0_chk103 i v739), ∀ (k0_h1 : k0_cond1 i = 1#1), ∀ a, (k0_off104 v739) a + S8x640.size a ≤ S40960x640.size a := fun i v739 k0_hw103 k0_h1 => k0_hw103.2 k0_h1

def k0_mult104 (v746 : BitVec 32) : BitVec 32 :=
  v746

def k0_off105 (v746 : BitVec 32) : Fin 2 → Nat :=
  let v747 : BitVec 32 := v746
  let c0_i32_495 : BitVec 32 := 0#32
  ![v747.toNat, 0]

def k0_chk104 (i : grid0.Coords) (v746 : BitVec 32) : Prop :=
  (∀ (k0_h1 : k0_cond1 i = 1#1), 8 ∣ (k0_mult104 v746).toNat) ∧
  (∀ (k0_h1 : k0_cond1 i = 1#1), ∀ a, (k0_off105 v746) a + S8x640.size a ≤ S40960x640.size a)
theorem k0_mult104_dvd : ∀ (i : grid0.Coords) (v746 : BitVec 32) (k0_hw104 : k0_chk104 i v746), ∀ (k0_h1 : k0_cond1 i = 1#1), 8 ∣ (k0_mult104 v746).toNat := fun i v746 k0_hw104 k0_h1 => k0_hw104.1 k0_h1
theorem k0_off105_inb : ∀ (i : grid0.Coords) (v746 : BitVec 32) (k0_hw104 : k0_chk104 i v746), ∀ (k0_h1 : k0_cond1 i = 1#1), ∀ a, (k0_off105 v746) a + S8x640.size a ≤ S40960x640.size a := fun i v746 k0_hw104 k0_h1 => k0_hw104.2 k0_h1

def k0_mult105 (v753 : BitVec 32) : BitVec 32 :=
  v753

def k0_off106 (v753 : BitVec 32) : Fin 2 → Nat :=
  let v754 : BitVec 32 := v753
  let c0_i32_500 : BitVec 32 := 0#32
  ![v754.toNat, 0]

def k0_chk105 (i : grid0.Coords) (v753 : BitVec 32) : Prop :=
  (∀ (k0_h1 : k0_cond1 i = 1#1), 8 ∣ (k0_mult105 v753).toNat) ∧
  (∀ (k0_h1 : k0_cond1 i = 1#1), ∀ a, (k0_off106 v753) a + S8x640.size a ≤ S40960x640.size a)
theorem k0_mult105_dvd : ∀ (i : grid0.Coords) (v753 : BitVec 32) (k0_hw105 : k0_chk105 i v753), ∀ (k0_h1 : k0_cond1 i = 1#1), 8 ∣ (k0_mult105 v753).toNat := fun i v753 k0_hw105 k0_h1 => k0_hw105.1 k0_h1
theorem k0_off106_inb : ∀ (i : grid0.Coords) (v753 : BitVec 32) (k0_hw105 : k0_chk105 i v753), ∀ (k0_h1 : k0_cond1 i = 1#1), ∀ a, (k0_off106 v753) a + S8x640.size a ≤ S40960x640.size a := fun i v753 k0_hw105 k0_h1 => k0_hw105.2 k0_h1

def k0_mult106 (v760 : BitVec 32) : BitVec 32 :=
  v760

def k0_off107 (v760 : BitVec 32) : Fin 2 → Nat :=
  let v761 : BitVec 32 := v760
  let c0_i32_505 : BitVec 32 := 0#32
  ![v761.toNat, 0]

def k0_chk106 (i : grid0.Coords) (v760 : BitVec 32) : Prop :=
  (∀ (k0_h1 : k0_cond1 i = 1#1), 8 ∣ (k0_mult106 v760).toNat) ∧
  (∀ (k0_h1 : k0_cond1 i = 1#1), ∀ a, (k0_off107 v760) a + S8x640.size a ≤ S40960x640.size a)
theorem k0_mult106_dvd : ∀ (i : grid0.Coords) (v760 : BitVec 32) (k0_hw106 : k0_chk106 i v760), ∀ (k0_h1 : k0_cond1 i = 1#1), 8 ∣ (k0_mult106 v760).toNat := fun i v760 k0_hw106 k0_h1 => k0_hw106.1 k0_h1
theorem k0_off107_inb : ∀ (i : grid0.Coords) (v760 : BitVec 32) (k0_hw106 : k0_chk106 i v760), ∀ (k0_h1 : k0_cond1 i = 1#1), ∀ a, (k0_off107 v760) a + S8x640.size a ≤ S40960x640.size a := fun i v760 k0_hw106 k0_h1 => k0_hw106.2 k0_h1

def k0_mult107 (v767 : BitVec 32) : BitVec 32 :=
  v767

def k0_off108 (v767 : BitVec 32) : Fin 2 → Nat :=
  let v768 : BitVec 32 := v767
  let c0_i32_510 : BitVec 32 := 0#32
  ![v768.toNat, 0]

def k0_chk107 (i : grid0.Coords) (v767 : BitVec 32) : Prop :=
  (∀ (k0_h1 : k0_cond1 i = 1#1), 8 ∣ (k0_mult107 v767).toNat) ∧
  (∀ (k0_h1 : k0_cond1 i = 1#1), ∀ a, (k0_off108 v767) a + S8x640.size a ≤ S40960x640.size a)
theorem k0_mult107_dvd : ∀ (i : grid0.Coords) (v767 : BitVec 32) (k0_hw107 : k0_chk107 i v767), ∀ (k0_h1 : k0_cond1 i = 1#1), 8 ∣ (k0_mult107 v767).toNat := fun i v767 k0_hw107 k0_h1 => k0_hw107.1 k0_h1
theorem k0_off108_inb : ∀ (i : grid0.Coords) (v767 : BitVec 32) (k0_hw107 : k0_chk107 i v767), ∀ (k0_h1 : k0_cond1 i = 1#1), ∀ a, (k0_off108 v767) a + S8x640.size a ≤ S40960x640.size a := fun i v767 k0_hw107 k0_h1 => k0_hw107.2 k0_h1

def k0_mult108 (v774 : BitVec 32) : BitVec 32 :=
  v774

def k0_off109 (v774 : BitVec 32) : Fin 2 → Nat :=
  let v775 : BitVec 32 := v774
  let c0_i32_515 : BitVec 32 := 0#32
  ![v775.toNat, 0]

def k0_chk108 (i : grid0.Coords) (v774 : BitVec 32) : Prop :=
  (∀ (k0_h1 : k0_cond1 i = 1#1), 8 ∣ (k0_mult108 v774).toNat) ∧
  (∀ (k0_h1 : k0_cond1 i = 1#1), ∀ a, (k0_off109 v774) a + S8x640.size a ≤ S40960x640.size a)
theorem k0_mult108_dvd : ∀ (i : grid0.Coords) (v774 : BitVec 32) (k0_hw108 : k0_chk108 i v774), ∀ (k0_h1 : k0_cond1 i = 1#1), 8 ∣ (k0_mult108 v774).toNat := fun i v774 k0_hw108 k0_h1 => k0_hw108.1 k0_h1
theorem k0_off109_inb : ∀ (i : grid0.Coords) (v774 : BitVec 32) (k0_hw108 : k0_chk108 i v774), ∀ (k0_h1 : k0_cond1 i = 1#1), ∀ a, (k0_off109 v774) a + S8x640.size a ≤ S40960x640.size a := fun i v774 k0_hw108 k0_h1 => k0_hw108.2 k0_h1

def k0_mult109 (v781 : BitVec 32) : BitVec 32 :=
  v781

def k0_off110 (v781 : BitVec 32) : Fin 2 → Nat :=
  let v782 : BitVec 32 := v781
  let c0_i32_520 : BitVec 32 := 0#32
  ![v782.toNat, 0]

def k0_chk109 (i : grid0.Coords) (v781 : BitVec 32) : Prop :=
  (∀ (k0_h1 : k0_cond1 i = 1#1), 8 ∣ (k0_mult109 v781).toNat) ∧
  (∀ (k0_h1 : k0_cond1 i = 1#1), ∀ a, (k0_off110 v781) a + S8x640.size a ≤ S40960x640.size a)
theorem k0_mult109_dvd : ∀ (i : grid0.Coords) (v781 : BitVec 32) (k0_hw109 : k0_chk109 i v781), ∀ (k0_h1 : k0_cond1 i = 1#1), 8 ∣ (k0_mult109 v781).toNat := fun i v781 k0_hw109 k0_h1 => k0_hw109.1 k0_h1
theorem k0_off110_inb : ∀ (i : grid0.Coords) (v781 : BitVec 32) (k0_hw109 : k0_chk109 i v781), ∀ (k0_h1 : k0_cond1 i = 1#1), ∀ a, (k0_off110 v781) a + S8x640.size a ≤ S40960x640.size a := fun i v781 k0_hw109 k0_h1 => k0_hw109.2 k0_h1

def k0_mult110 (v788 : BitVec 32) : BitVec 32 :=
  v788

def k0_off111 (v788 : BitVec 32) : Fin 2 → Nat :=
  let v789 : BitVec 32 := v788
  let c0_i32_525 : BitVec 32 := 0#32
  ![v789.toNat, 0]

def k0_chk110 (i : grid0.Coords) (v788 : BitVec 32) : Prop :=
  (∀ (k0_h1 : k0_cond1 i = 1#1), 8 ∣ (k0_mult110 v788).toNat) ∧
  (∀ (k0_h1 : k0_cond1 i = 1#1), ∀ a, (k0_off111 v788) a + S8x640.size a ≤ S40960x640.size a)
theorem k0_mult110_dvd : ∀ (i : grid0.Coords) (v788 : BitVec 32) (k0_hw110 : k0_chk110 i v788), ∀ (k0_h1 : k0_cond1 i = 1#1), 8 ∣ (k0_mult110 v788).toNat := fun i v788 k0_hw110 k0_h1 => k0_hw110.1 k0_h1
theorem k0_off111_inb : ∀ (i : grid0.Coords) (v788 : BitVec 32) (k0_hw110 : k0_chk110 i v788), ∀ (k0_h1 : k0_cond1 i = 1#1), ∀ a, (k0_off111 v788) a + S8x640.size a ≤ S40960x640.size a := fun i v788 k0_hw110 k0_h1 => k0_hw110.2 k0_h1

def k0_mult111 (v795 : BitVec 32) : BitVec 32 :=
  v795

def k0_off112 (v795 : BitVec 32) : Fin 2 → Nat :=
  let v796 : BitVec 32 := v795
  let c0_i32_530 : BitVec 32 := 0#32
  ![v796.toNat, 0]

def k0_chk111 (i : grid0.Coords) (v795 : BitVec 32) : Prop :=
  (∀ (k0_h1 : k0_cond1 i = 1#1), 8 ∣ (k0_mult111 v795).toNat) ∧
  (∀ (k0_h1 : k0_cond1 i = 1#1), ∀ a, (k0_off112 v795) a + S8x640.size a ≤ S40960x640.size a)
theorem k0_mult111_dvd : ∀ (i : grid0.Coords) (v795 : BitVec 32) (k0_hw111 : k0_chk111 i v795), ∀ (k0_h1 : k0_cond1 i = 1#1), 8 ∣ (k0_mult111 v795).toNat := fun i v795 k0_hw111 k0_h1 => k0_hw111.1 k0_h1
theorem k0_off112_inb : ∀ (i : grid0.Coords) (v795 : BitVec 32) (k0_hw111 : k0_chk111 i v795), ∀ (k0_h1 : k0_cond1 i = 1#1), ∀ a, (k0_off112 v795) a + S8x640.size a ≤ S40960x640.size a := fun i v795 k0_hw111 k0_h1 => k0_hw111.2 k0_h1

def k0_mult112 (v802 : BitVec 32) : BitVec 32 :=
  v802

def k0_off113 (v802 : BitVec 32) : Fin 2 → Nat :=
  let v803 : BitVec 32 := v802
  let c0_i32_535 : BitVec 32 := 0#32
  ![v803.toNat, 0]

def k0_chk112 (i : grid0.Coords) (v802 : BitVec 32) : Prop :=
  (∀ (k0_h1 : k0_cond1 i = 1#1), 8 ∣ (k0_mult112 v802).toNat) ∧
  (∀ (k0_h1 : k0_cond1 i = 1#1), ∀ a, (k0_off113 v802) a + S8x640.size a ≤ S40960x640.size a)
theorem k0_mult112_dvd : ∀ (i : grid0.Coords) (v802 : BitVec 32) (k0_hw112 : k0_chk112 i v802), ∀ (k0_h1 : k0_cond1 i = 1#1), 8 ∣ (k0_mult112 v802).toNat := fun i v802 k0_hw112 k0_h1 => k0_hw112.1 k0_h1
theorem k0_off113_inb : ∀ (i : grid0.Coords) (v802 : BitVec 32) (k0_hw112 : k0_chk112 i v802), ∀ (k0_h1 : k0_cond1 i = 1#1), ∀ a, (k0_off113 v802) a + S8x640.size a ≤ S40960x640.size a := fun i v802 k0_hw112 k0_h1 => k0_hw112.2 k0_h1

def k0_mult113 (v809 : BitVec 32) : BitVec 32 :=
  v809

def k0_off114 (v809 : BitVec 32) : Fin 2 → Nat :=
  let v810 : BitVec 32 := v809
  let c0_i32_540 : BitVec 32 := 0#32
  ![v810.toNat, 0]

def k0_chk113 (i : grid0.Coords) (v809 : BitVec 32) : Prop :=
  (∀ (k0_h1 : k0_cond1 i = 1#1), 8 ∣ (k0_mult113 v809).toNat) ∧
  (∀ (k0_h1 : k0_cond1 i = 1#1), ∀ a, (k0_off114 v809) a + S8x640.size a ≤ S40960x640.size a)
theorem k0_mult113_dvd : ∀ (i : grid0.Coords) (v809 : BitVec 32) (k0_hw113 : k0_chk113 i v809), ∀ (k0_h1 : k0_cond1 i = 1#1), 8 ∣ (k0_mult113 v809).toNat := fun i v809 k0_hw113 k0_h1 => k0_hw113.1 k0_h1
theorem k0_off114_inb : ∀ (i : grid0.Coords) (v809 : BitVec 32) (k0_hw113 : k0_chk113 i v809), ∀ (k0_h1 : k0_cond1 i = 1#1), ∀ a, (k0_off114 v809) a + S8x640.size a ≤ S40960x640.size a := fun i v809 k0_hw113 k0_h1 => k0_hw113.2 k0_h1

def k0_mult114 (v816 : BitVec 32) : BitVec 32 :=
  v816

def k0_off115 (v816 : BitVec 32) : Fin 2 → Nat :=
  let v817 : BitVec 32 := v816
  let c0_i32_545 : BitVec 32 := 0#32
  ![v817.toNat, 0]

def k0_chk114 (i : grid0.Coords) (v816 : BitVec 32) : Prop :=
  (∀ (k0_h1 : k0_cond1 i = 1#1), 8 ∣ (k0_mult114 v816).toNat) ∧
  (∀ (k0_h1 : k0_cond1 i = 1#1), ∀ a, (k0_off115 v816) a + S8x640.size a ≤ S40960x640.size a)
theorem k0_mult114_dvd : ∀ (i : grid0.Coords) (v816 : BitVec 32) (k0_hw114 : k0_chk114 i v816), ∀ (k0_h1 : k0_cond1 i = 1#1), 8 ∣ (k0_mult114 v816).toNat := fun i v816 k0_hw114 k0_h1 => k0_hw114.1 k0_h1
theorem k0_off115_inb : ∀ (i : grid0.Coords) (v816 : BitVec 32) (k0_hw114 : k0_chk114 i v816), ∀ (k0_h1 : k0_cond1 i = 1#1), ∀ a, (k0_off115 v816) a + S8x640.size a ≤ S40960x640.size a := fun i v816 k0_hw114 k0_h1 => k0_hw114.2 k0_h1

def k0_mult115 (v823 : BitVec 32) : BitVec 32 :=
  v823

def k0_off116 (v823 : BitVec 32) : Fin 2 → Nat :=
  let v824 : BitVec 32 := v823
  let c0_i32_550 : BitVec 32 := 0#32
  ![v824.toNat, 0]

def k0_chk115 (i : grid0.Coords) (v823 : BitVec 32) : Prop :=
  (∀ (k0_h1 : k0_cond1 i = 1#1), 8 ∣ (k0_mult115 v823).toNat) ∧
  (∀ (k0_h1 : k0_cond1 i = 1#1), ∀ a, (k0_off116 v823) a + S8x640.size a ≤ S40960x640.size a)
theorem k0_mult115_dvd : ∀ (i : grid0.Coords) (v823 : BitVec 32) (k0_hw115 : k0_chk115 i v823), ∀ (k0_h1 : k0_cond1 i = 1#1), 8 ∣ (k0_mult115 v823).toNat := fun i v823 k0_hw115 k0_h1 => k0_hw115.1 k0_h1
theorem k0_off116_inb : ∀ (i : grid0.Coords) (v823 : BitVec 32) (k0_hw115 : k0_chk115 i v823), ∀ (k0_h1 : k0_cond1 i = 1#1), ∀ a, (k0_off116 v823) a + S8x640.size a ≤ S40960x640.size a := fun i v823 k0_hw115 k0_h1 => k0_hw115.2 k0_h1

def k0_mult116 (v830 : BitVec 32) : BitVec 32 :=
  v830

def k0_off117 (v830 : BitVec 32) : Fin 2 → Nat :=
  let v831 : BitVec 32 := v830
  let c0_i32_555 : BitVec 32 := 0#32
  ![v831.toNat, 0]

def k0_chk116 (i : grid0.Coords) (v830 : BitVec 32) : Prop :=
  (∀ (k0_h1 : k0_cond1 i = 1#1), 8 ∣ (k0_mult116 v830).toNat) ∧
  (∀ (k0_h1 : k0_cond1 i = 1#1), ∀ a, (k0_off117 v830) a + S8x640.size a ≤ S40960x640.size a)
theorem k0_mult116_dvd : ∀ (i : grid0.Coords) (v830 : BitVec 32) (k0_hw116 : k0_chk116 i v830), ∀ (k0_h1 : k0_cond1 i = 1#1), 8 ∣ (k0_mult116 v830).toNat := fun i v830 k0_hw116 k0_h1 => k0_hw116.1 k0_h1
theorem k0_off117_inb : ∀ (i : grid0.Coords) (v830 : BitVec 32) (k0_hw116 : k0_chk116 i v830), ∀ (k0_h1 : k0_cond1 i = 1#1), ∀ a, (k0_off117 v830) a + S8x640.size a ≤ S40960x640.size a := fun i v830 k0_hw116 k0_h1 => k0_hw116.2 k0_h1

def k0_mult117 (v837 : BitVec 32) : BitVec 32 :=
  v837

def k0_off118 (v837 : BitVec 32) : Fin 2 → Nat :=
  let v838 : BitVec 32 := v837
  let c0_i32_560 : BitVec 32 := 0#32
  ![v838.toNat, 0]

def k0_chk117 (i : grid0.Coords) (v837 : BitVec 32) : Prop :=
  (∀ (k0_h1 : k0_cond1 i = 1#1), 8 ∣ (k0_mult117 v837).toNat) ∧
  (∀ (k0_h1 : k0_cond1 i = 1#1), ∀ a, (k0_off118 v837) a + S8x640.size a ≤ S40960x640.size a)
theorem k0_mult117_dvd : ∀ (i : grid0.Coords) (v837 : BitVec 32) (k0_hw117 : k0_chk117 i v837), ∀ (k0_h1 : k0_cond1 i = 1#1), 8 ∣ (k0_mult117 v837).toNat := fun i v837 k0_hw117 k0_h1 => k0_hw117.1 k0_h1
theorem k0_off118_inb : ∀ (i : grid0.Coords) (v837 : BitVec 32) (k0_hw117 : k0_chk117 i v837), ∀ (k0_h1 : k0_cond1 i = 1#1), ∀ a, (k0_off118 v837) a + S8x640.size a ≤ S40960x640.size a := fun i v837 k0_hw117 k0_h1 => k0_hw117.2 k0_h1

def k0_mult118 (v844 : BitVec 32) : BitVec 32 :=
  v844

def k0_off119 (v844 : BitVec 32) : Fin 2 → Nat :=
  let v845 : BitVec 32 := v844
  let c0_i32_565 : BitVec 32 := 0#32
  ![v845.toNat, 0]

def k0_chk118 (i : grid0.Coords) (v844 : BitVec 32) : Prop :=
  (∀ (k0_h1 : k0_cond1 i = 1#1), 8 ∣ (k0_mult118 v844).toNat) ∧
  (∀ (k0_h1 : k0_cond1 i = 1#1), ∀ a, (k0_off119 v844) a + S8x640.size a ≤ S40960x640.size a)
theorem k0_mult118_dvd : ∀ (i : grid0.Coords) (v844 : BitVec 32) (k0_hw118 : k0_chk118 i v844), ∀ (k0_h1 : k0_cond1 i = 1#1), 8 ∣ (k0_mult118 v844).toNat := fun i v844 k0_hw118 k0_h1 => k0_hw118.1 k0_h1
theorem k0_off119_inb : ∀ (i : grid0.Coords) (v844 : BitVec 32) (k0_hw118 : k0_chk118 i v844), ∀ (k0_h1 : k0_cond1 i = 1#1), ∀ a, (k0_off119 v844) a + S8x640.size a ≤ S40960x640.size a := fun i v844 k0_hw118 k0_h1 => k0_hw118.2 k0_h1

def k0_mult119 (v851 : BitVec 32) : BitVec 32 :=
  v851

def k0_off120 (v851 : BitVec 32) : Fin 2 → Nat :=
  let v852 : BitVec 32 := v851
  let c0_i32_570 : BitVec 32 := 0#32
  ![v852.toNat, 0]

def k0_chk119 (i : grid0.Coords) (v851 : BitVec 32) : Prop :=
  (∀ (k0_h1 : k0_cond1 i = 1#1), 8 ∣ (k0_mult119 v851).toNat) ∧
  (∀ (k0_h1 : k0_cond1 i = 1#1), ∀ a, (k0_off120 v851) a + S8x640.size a ≤ S40960x640.size a)
theorem k0_mult119_dvd : ∀ (i : grid0.Coords) (v851 : BitVec 32) (k0_hw119 : k0_chk119 i v851), ∀ (k0_h1 : k0_cond1 i = 1#1), 8 ∣ (k0_mult119 v851).toNat := fun i v851 k0_hw119 k0_h1 => k0_hw119.1 k0_h1
theorem k0_off120_inb : ∀ (i : grid0.Coords) (v851 : BitVec 32) (k0_hw119 : k0_chk119 i v851), ∀ (k0_h1 : k0_cond1 i = 1#1), ∀ a, (k0_off120 v851) a + S8x640.size a ≤ S40960x640.size a := fun i v851 k0_hw119 k0_h1 => k0_hw119.2 k0_h1

def k0_mult120 (v858 : BitVec 32) : BitVec 32 :=
  v858

def k0_off121 (v858 : BitVec 32) : Fin 2 → Nat :=
  let v859 : BitVec 32 := v858
  let c0_i32_575 : BitVec 32 := 0#32
  ![v859.toNat, 0]

def k0_chk120 (i : grid0.Coords) (v858 : BitVec 32) : Prop :=
  (∀ (k0_h1 : k0_cond1 i = 1#1), 8 ∣ (k0_mult120 v858).toNat) ∧
  (∀ (k0_h1 : k0_cond1 i = 1#1), ∀ a, (k0_off121 v858) a + S8x640.size a ≤ S40960x640.size a)
theorem k0_mult120_dvd : ∀ (i : grid0.Coords) (v858 : BitVec 32) (k0_hw120 : k0_chk120 i v858), ∀ (k0_h1 : k0_cond1 i = 1#1), 8 ∣ (k0_mult120 v858).toNat := fun i v858 k0_hw120 k0_h1 => k0_hw120.1 k0_h1
theorem k0_off121_inb : ∀ (i : grid0.Coords) (v858 : BitVec 32) (k0_hw120 : k0_chk120 i v858), ∀ (k0_h1 : k0_cond1 i = 1#1), ∀ a, (k0_off121 v858) a + S8x640.size a ≤ S40960x640.size a := fun i v858 k0_hw120 k0_h1 => k0_hw120.2 k0_h1

def k0_mult121 (v865 : BitVec 32) : BitVec 32 :=
  v865

def k0_off122 (v865 : BitVec 32) : Fin 2 → Nat :=
  let v866 : BitVec 32 := v865
  let c0_i32_580 : BitVec 32 := 0#32
  ![v866.toNat, 0]

def k0_chk121 (i : grid0.Coords) (v865 : BitVec 32) : Prop :=
  (∀ (k0_h1 : k0_cond1 i = 1#1), 8 ∣ (k0_mult121 v865).toNat) ∧
  (∀ (k0_h1 : k0_cond1 i = 1#1), ∀ a, (k0_off122 v865) a + S8x640.size a ≤ S40960x640.size a)
theorem k0_mult121_dvd : ∀ (i : grid0.Coords) (v865 : BitVec 32) (k0_hw121 : k0_chk121 i v865), ∀ (k0_h1 : k0_cond1 i = 1#1), 8 ∣ (k0_mult121 v865).toNat := fun i v865 k0_hw121 k0_h1 => k0_hw121.1 k0_h1
theorem k0_off122_inb : ∀ (i : grid0.Coords) (v865 : BitVec 32) (k0_hw121 : k0_chk121 i v865), ∀ (k0_h1 : k0_cond1 i = 1#1), ∀ a, (k0_off122 v865) a + S8x640.size a ≤ S40960x640.size a := fun i v865 k0_hw121 k0_h1 => k0_hw121.2 k0_h1

def k0_mult122 (v872 : BitVec 32) : BitVec 32 :=
  v872

def k0_off123 (v872 : BitVec 32) : Fin 2 → Nat :=
  let v873 : BitVec 32 := v872
  let c0_i32_585 : BitVec 32 := 0#32
  ![v873.toNat, 0]

def k0_chk122 (i : grid0.Coords) (v872 : BitVec 32) : Prop :=
  (∀ (k0_h1 : k0_cond1 i = 1#1), 8 ∣ (k0_mult122 v872).toNat) ∧
  (∀ (k0_h1 : k0_cond1 i = 1#1), ∀ a, (k0_off123 v872) a + S8x640.size a ≤ S40960x640.size a)
theorem k0_mult122_dvd : ∀ (i : grid0.Coords) (v872 : BitVec 32) (k0_hw122 : k0_chk122 i v872), ∀ (k0_h1 : k0_cond1 i = 1#1), 8 ∣ (k0_mult122 v872).toNat := fun i v872 k0_hw122 k0_h1 => k0_hw122.1 k0_h1
theorem k0_off123_inb : ∀ (i : grid0.Coords) (v872 : BitVec 32) (k0_hw122 : k0_chk122 i v872), ∀ (k0_h1 : k0_cond1 i = 1#1), ∀ a, (k0_off123 v872) a + S8x640.size a ≤ S40960x640.size a := fun i v872 k0_hw122 k0_h1 => k0_hw122.2 k0_h1

def k0_mult123 (v879 : BitVec 32) : BitVec 32 :=
  v879

def k0_off124 (v879 : BitVec 32) : Fin 2 → Nat :=
  let v880 : BitVec 32 := v879
  let c0_i32_590 : BitVec 32 := 0#32
  ![v880.toNat, 0]

def k0_chk123 (i : grid0.Coords) (v879 : BitVec 32) : Prop :=
  (∀ (k0_h1 : k0_cond1 i = 1#1), 8 ∣ (k0_mult123 v879).toNat) ∧
  (∀ (k0_h1 : k0_cond1 i = 1#1), ∀ a, (k0_off124 v879) a + S8x640.size a ≤ S40960x640.size a)
theorem k0_mult123_dvd : ∀ (i : grid0.Coords) (v879 : BitVec 32) (k0_hw123 : k0_chk123 i v879), ∀ (k0_h1 : k0_cond1 i = 1#1), 8 ∣ (k0_mult123 v879).toNat := fun i v879 k0_hw123 k0_h1 => k0_hw123.1 k0_h1
theorem k0_off124_inb : ∀ (i : grid0.Coords) (v879 : BitVec 32) (k0_hw123 : k0_chk123 i v879), ∀ (k0_h1 : k0_cond1 i = 1#1), ∀ a, (k0_off124 v879) a + S8x640.size a ≤ S40960x640.size a := fun i v879 k0_hw123 k0_h1 => k0_hw123.2 k0_h1

def k0_mult124 (v886 : BitVec 32) : BitVec 32 :=
  v886

def k0_off125 (v886 : BitVec 32) : Fin 2 → Nat :=
  let v887 : BitVec 32 := v886
  let c0_i32_595 : BitVec 32 := 0#32
  ![v887.toNat, 0]

def k0_chk124 (i : grid0.Coords) (v886 : BitVec 32) : Prop :=
  (∀ (k0_h1 : k0_cond1 i = 1#1), 8 ∣ (k0_mult124 v886).toNat) ∧
  (∀ (k0_h1 : k0_cond1 i = 1#1), ∀ a, (k0_off125 v886) a + S8x640.size a ≤ S40960x640.size a)
theorem k0_mult124_dvd : ∀ (i : grid0.Coords) (v886 : BitVec 32) (k0_hw124 : k0_chk124 i v886), ∀ (k0_h1 : k0_cond1 i = 1#1), 8 ∣ (k0_mult124 v886).toNat := fun i v886 k0_hw124 k0_h1 => k0_hw124.1 k0_h1
theorem k0_off125_inb : ∀ (i : grid0.Coords) (v886 : BitVec 32) (k0_hw124 : k0_chk124 i v886), ∀ (k0_h1 : k0_cond1 i = 1#1), ∀ a, (k0_off125 v886) a + S8x640.size a ≤ S40960x640.size a := fun i v886 k0_hw124 k0_h1 => k0_hw124.2 k0_h1

def k0_mult125 (v893 : BitVec 32) : BitVec 32 :=
  v893

def k0_off126 (v893 : BitVec 32) : Fin 2 → Nat :=
  let v894 : BitVec 32 := v893
  let c0_i32_600 : BitVec 32 := 0#32
  ![v894.toNat, 0]

def k0_chk125 (i : grid0.Coords) (v893 : BitVec 32) : Prop :=
  (∀ (k0_h1 : k0_cond1 i = 1#1), 8 ∣ (k0_mult125 v893).toNat) ∧
  (∀ (k0_h1 : k0_cond1 i = 1#1), ∀ a, (k0_off126 v893) a + S8x640.size a ≤ S40960x640.size a)
theorem k0_mult125_dvd : ∀ (i : grid0.Coords) (v893 : BitVec 32) (k0_hw125 : k0_chk125 i v893), ∀ (k0_h1 : k0_cond1 i = 1#1), 8 ∣ (k0_mult125 v893).toNat := fun i v893 k0_hw125 k0_h1 => k0_hw125.1 k0_h1
theorem k0_off126_inb : ∀ (i : grid0.Coords) (v893 : BitVec 32) (k0_hw125 : k0_chk125 i v893), ∀ (k0_h1 : k0_cond1 i = 1#1), ∀ a, (k0_off126 v893) a + S8x640.size a ≤ S40960x640.size a := fun i v893 k0_hw125 k0_h1 => k0_hw125.2 k0_h1

def k0_mult126 (v900 : BitVec 32) : BitVec 32 :=
  v900

def k0_off127 (v900 : BitVec 32) : Fin 2 → Nat :=
  let v901 : BitVec 32 := v900
  let c0_i32_605 : BitVec 32 := 0#32
  ![v901.toNat, 0]

def k0_chk126 (i : grid0.Coords) (v900 : BitVec 32) : Prop :=
  (∀ (k0_h1 : k0_cond1 i = 1#1), 8 ∣ (k0_mult126 v900).toNat) ∧
  (∀ (k0_h1 : k0_cond1 i = 1#1), ∀ a, (k0_off127 v900) a + S8x640.size a ≤ S40960x640.size a)
theorem k0_mult126_dvd : ∀ (i : grid0.Coords) (v900 : BitVec 32) (k0_hw126 : k0_chk126 i v900), ∀ (k0_h1 : k0_cond1 i = 1#1), 8 ∣ (k0_mult126 v900).toNat := fun i v900 k0_hw126 k0_h1 => k0_hw126.1 k0_h1
theorem k0_off127_inb : ∀ (i : grid0.Coords) (v900 : BitVec 32) (k0_hw126 : k0_chk126 i v900), ∀ (k0_h1 : k0_cond1 i = 1#1), ∀ a, (k0_off127 v900) a + S8x640.size a ≤ S40960x640.size a := fun i v900 k0_hw126 k0_h1 => k0_hw126.2 k0_h1

def k0_mult127 (v907 : BitVec 32) : BitVec 32 :=
  v907

def k0_off128 (v907 : BitVec 32) : Fin 2 → Nat :=
  let v908 : BitVec 32 := v907
  let c0_i32_610 : BitVec 32 := 0#32
  ![v908.toNat, 0]

def k0_chk127 (i : grid0.Coords) (v907 : BitVec 32) : Prop :=
  (∀ (k0_h1 : k0_cond1 i = 1#1), 8 ∣ (k0_mult127 v907).toNat) ∧
  (∀ (k0_h1 : k0_cond1 i = 1#1), ∀ a, (k0_off128 v907) a + S8x640.size a ≤ S40960x640.size a)
theorem k0_mult127_dvd : ∀ (i : grid0.Coords) (v907 : BitVec 32) (k0_hw127 : k0_chk127 i v907), ∀ (k0_h1 : k0_cond1 i = 1#1), 8 ∣ (k0_mult127 v907).toNat := fun i v907 k0_hw127 k0_h1 => k0_hw127.1 k0_h1
theorem k0_off128_inb : ∀ (i : grid0.Coords) (v907 : BitVec 32) (k0_hw127 : k0_chk127 i v907), ∀ (k0_h1 : k0_cond1 i = 1#1), ∀ a, (k0_off128 v907) a + S8x640.size a ≤ S40960x640.size a := fun i v907 k0_hw127 k0_h1 => k0_hw127.2 k0_h1

def k0_mult128 (v914 : BitVec 32) : BitVec 32 :=
  v914

def k0_off129 (v914 : BitVec 32) : Fin 2 → Nat :=
  let v915 : BitVec 32 := v914
  let c0_i32_615 : BitVec 32 := 0#32
  ![v915.toNat, 0]

def k0_chk128 (i : grid0.Coords) (v914 : BitVec 32) : Prop :=
  (∀ (k0_h1 : k0_cond1 i = 1#1), 8 ∣ (k0_mult128 v914).toNat) ∧
  (∀ (k0_h1 : k0_cond1 i = 1#1), ∀ a, (k0_off129 v914) a + S8x640.size a ≤ S40960x640.size a)
theorem k0_mult128_dvd : ∀ (i : grid0.Coords) (v914 : BitVec 32) (k0_hw128 : k0_chk128 i v914), ∀ (k0_h1 : k0_cond1 i = 1#1), 8 ∣ (k0_mult128 v914).toNat := fun i v914 k0_hw128 k0_h1 => k0_hw128.1 k0_h1
theorem k0_off129_inb : ∀ (i : grid0.Coords) (v914 : BitVec 32) (k0_hw128 : k0_chk128 i v914), ∀ (k0_h1 : k0_cond1 i = 1#1), ∀ a, (k0_off129 v914) a + S8x640.size a ≤ S40960x640.size a := fun i v914 k0_hw128 k0_h1 => k0_hw128.2 k0_h1

def k0_off130 (v12 : BitVec 32) : Fin 3 → Nat :=
  let c0_i32_617 : BitVec 32 := 0#32
  let c0_i32_618 : BitVec 32 := 0#32
  ![v12.toNat, 0, 0]

def k0_off131 (v12 : BitVec 32) : Fin 3 → Nat :=
  let c0_i32_623 : BitVec 32 := 0#32
  let c0_i32_624 : BitVec 32 := 0#32
  ![v12.toNat, 0, 0]
def k0_off132 (i : grid0.Coords) : Fin 1 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off133 (i : grid0.Coords) : Fin 3 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  let c0_i32_9 : BitVec 32 := 0#32
  ![v9.toNat, 0, 0]
def k0_off134 (v12 : BitVec 32) : Fin 1 → Nat :=
  let v30 : Index := Scalar.indexCast v12
  ![v30.toNat]
def k0_cond2 (i : grid0.Coords) (v10 : BitVec 32) : BitVec 1 :=
  let arg0 : BitVec 32 := BitVec.ofNat 32 (i 0).val
  let v16 : BitVec 1 := Scalar.cmpi .slt arg0 v10
  let v17 : BitVec 32 := Scalar.extui v16
  let c0_i32_5 : BitVec 32 := 0#32
  let v18 : BitVec 1 := Scalar.cmpi .ne v17 c0_i32_5
  v18

def k0_chk129 (i : grid0.Coords) (v10 : BitVec 32) (v12 : BitVec 32) : Prop :=
  (∀ (k0_h1 : k0_cond1 i = 1#1), ∀ a, (k0_off130 v12) a + S1x1024x512.size a ≤ S32x1024x512.size a) ∧
  (∀ (k0_h1 : k0_cond1 i = 1#1), ∀ a, (k0_off131 v12) a + S1x512x1024.size a ≤ S32x512x1024.size a) ∧
  (∀ (k0_h2 : k0_cond2 i v10 = 1#1), ∀ a, (k0_off134 v12) a + S1.size a ≤ S32.size a)
theorem k0_off130_inb : ∀ (i : grid0.Coords) (v10 : BitVec 32) (v12 : BitVec 32) (k0_hw129 : k0_chk129 i v10 v12), ∀ (k0_h1 : k0_cond1 i = 1#1), ∀ a, (k0_off130 v12) a + S1x1024x512.size a ≤ S32x1024x512.size a := fun i v10 v12 k0_hw129 k0_h1 => k0_hw129.1 k0_h1
theorem k0_off131_inb : ∀ (i : grid0.Coords) (v10 : BitVec 32) (v12 : BitVec 32) (k0_hw129 : k0_chk129 i v10 v12), ∀ (k0_h1 : k0_cond1 i = 1#1), ∀ a, (k0_off131 v12) a + S1x512x1024.size a ≤ S32x512x1024.size a := fun i v10 v12 k0_hw129 k0_h1 => k0_hw129.2.1 k0_h1
theorem k0_off134_inb : ∀ (i : grid0.Coords) (v10 : BitVec 32) (v12 : BitVec 32) (k0_hw129 : k0_chk129 i v10 v12), ∀ (k0_h2 : k0_cond2 i v10 = 1#1), ∀ a, (k0_off134 v12) a + S1.size a ≤ S32.size a := fun i v10 v12 k0_hw129 k0_h2 => k0_hw129.2.2 k0_h2

def k0_off135 (v12 : BitVec 32) : Fin 3 → Nat :=
  let c0_i32_136 : BitVec 32 := 0#32
  let c0_i32_137 : BitVec 32 := 0#32
  ![v12.toNat, 0, 0]
def k0_cond3 (i : grid0.Coords) (v31 : BitVec 32) : BitVec 1 :=
  let arg0 : BitVec 32 := BitVec.ofNat 32 (i 0).val
  let v32 : BitVec 1 := Scalar.cmpi .eq arg0 v31
  let v33 : BitVec 32 := Scalar.extui v32
  let c0_i32_12 : BitVec 32 := 0#32
  let v34 : BitVec 1 := Scalar.cmpi .ne v33 c0_i32_12
  v34

def k0_off136 (v12 : BitVec 32) : Fin 3 → Nat :=
  let c0_i32_142 : BitVec 32 := 0#32
  let c0_i32_143 : BitVec 32 := 0#32
  ![v12.toNat, 0, 0]
def k0_off137 (v12 : BitVec 32) : Fin 1 → Nat :=
  let v433 : Index := Scalar.indexCast v12
  ![v433.toNat]

def k0_chk130 (i : grid0.Coords) (v10 : BitVec 32) (v12 : BitVec 32) (v31 : BitVec 32) : Prop :=
  (∀ (k0_h2 : k0_cond2 i v10 = 1#1), ∀ (k0_h3 : k0_cond3 i v31 = 1#1), ∀ a, (k0_off135 v12) a + S1x1024x512.size a ≤ S32x1024x512.size a) ∧
  (∀ (k0_h2 : k0_cond2 i v10 = 1#1), ∀ (k0_h3 : k0_cond3 i v31 = 1#1), ∀ a, (k0_off136 v12) a + S1x512x1024.size a ≤ S32x512x1024.size a) ∧
  (∀ (k0_h2 : k0_cond2 i v10 = 1#1), ∀ (k0_h3 : k0_cond3 i v31 = 1#1), ∀ a, (k0_off137 v12) a + S1.size a ≤ S32.size a)
theorem k0_off135_inb : ∀ (i : grid0.Coords) (v10 : BitVec 32) (v12 : BitVec 32) (v31 : BitVec 32) (k0_hw130 : k0_chk130 i v10 v12 v31), ∀ (k0_h2 : k0_cond2 i v10 = 1#1), ∀ (k0_h3 : k0_cond3 i v31 = 1#1), ∀ a, (k0_off135 v12) a + S1x1024x512.size a ≤ S32x1024x512.size a := fun i v10 v12 v31 k0_hw130 k0_h2 k0_h3 => k0_hw130.1 k0_h2 k0_h3
theorem k0_off136_inb : ∀ (i : grid0.Coords) (v10 : BitVec 32) (v12 : BitVec 32) (v31 : BitVec 32) (k0_hw130 : k0_chk130 i v10 v12 v31), ∀ (k0_h2 : k0_cond2 i v10 = 1#1), ∀ (k0_h3 : k0_cond3 i v31 = 1#1), ∀ a, (k0_off136 v12) a + S1x512x1024.size a ≤ S32x512x1024.size a := fun i v10 v12 v31 k0_hw130 k0_h2 k0_h3 => k0_hw130.2.1 k0_h2 k0_h3
theorem k0_off137_inb : ∀ (i : grid0.Coords) (v10 : BitVec 32) (v12 : BitVec 32) (v31 : BitVec 32) (k0_hw130 : k0_chk130 i v10 v12 v31), ∀ (k0_h2 : k0_cond2 i v10 = 1#1), ∀ (k0_h3 : k0_cond3 i v31 = 1#1), ∀ a, (k0_off137 v12) a + S1.size a ≤ S32.size a := fun i v10 v12 v31 k0_hw130 k0_h2 k0_h3 => k0_hw130.2.2 k0_h2 k0_h3

def k0_off138 (v12 : BitVec 32) : Fin 1 → Nat :=
  let v438 : Index := Scalar.indexCast v12
  ![v438.toNat]
def k0_cond4 (v10 : BitVec 32) (v434 : BitVec 32) : BitVec 1 :=
  let v435 : BitVec 1 := Scalar.cmpi .slt v434 v10
  let v436 : BitVec 32 := Scalar.extui v435
  let c0_i32_156 : BitVec 32 := 0#32
  let v437 : BitVec 1 := Scalar.cmpi .ne v436 c0_i32_156
  v437

def k0_chk131 (i : grid0.Coords) (v10 : BitVec 32) (v12 : BitVec 32) (v31 : BitVec 32) (v434 : BitVec 32) : Prop :=
  (∀ (k0_h2 : k0_cond2 i v10 = 1#1), ∀ (k0_h3 : k0_cond3 i v31 = 1#1), ∀ (k0_h4 : k0_cond4 v10 v434 = 1#1), ∀ a, (k0_off138 v12) a + S1.size a ≤ S32.size a)
theorem k0_off138_inb : ∀ (i : grid0.Coords) (v10 : BitVec 32) (v12 : BitVec 32) (v31 : BitVec 32) (v434 : BitVec 32) (k0_hw131 : k0_chk131 i v10 v12 v31 v434), ∀ (k0_h2 : k0_cond2 i v10 = 1#1), ∀ (k0_h3 : k0_cond3 i v31 = 1#1), ∀ (k0_h4 : k0_cond4 v10 v434 = 1#1), ∀ a, (k0_off138 v12) a + S1.size a ≤ S32.size a := fun i v10 v12 v31 v434 k0_hw131 k0_h2 k0_h3 k0_h4 => k0_hw131 k0_h2 k0_h3 k0_h4

def k0_off139 (v439 : BitVec 32) : Fin 1 → Nat :=
  let v440 : Index := Scalar.indexCast v439
  ![v440.toNat]

def k0_chk132 (i : grid0.Coords) (v10 : BitVec 32) (v31 : BitVec 32) (v434 : BitVec 32) (v439 : BitVec 32) : Prop :=
  (∀ (k0_h2 : k0_cond2 i v10 = 1#1), ∀ (k0_h3 : k0_cond3 i v31 = 1#1), ∀ (k0_h4 : k0_cond4 v10 v434 = 1#1), ∀ a, (k0_off139 v439) a + S1.size a ≤ S196.size a)
theorem k0_off139_inb : ∀ (i : grid0.Coords) (v10 : BitVec 32) (v31 : BitVec 32) (v434 : BitVec 32) (v439 : BitVec 32) (k0_hw132 : k0_chk132 i v10 v31 v434 v439), ∀ (k0_h2 : k0_cond2 i v10 = 1#1), ∀ (k0_h3 : k0_cond3 i v31 = 1#1), ∀ (k0_h4 : k0_cond4 v10 v434 = 1#1), ∀ a, (k0_off139 v439) a + S1.size a ≤ S196.size a := fun i v10 v31 v434 v439 k0_hw132 k0_h2 k0_h3 k0_h4 => k0_hw132 k0_h2 k0_h3 k0_h4

def k0_off140 (v441 : BitVec 32) : Fin 3 → Nat :=
  let c0_i32_158 : BitVec 32 := 0#32
  let c0_i32_159 : BitVec 32 := 0#32
  ![v441.toNat, 0, 0]

def k0_off141 (v441 : BitVec 32) : Fin 3 → Nat :=
  let c0_i32_164 : BitVec 32 := 0#32
  let c0_i32_165 : BitVec 32 := 0#32
  ![v441.toNat, 0, 0]

def k0_chk133 (i : grid0.Coords) (v10 : BitVec 32) (v31 : BitVec 32) (v434 : BitVec 32) (v441 : BitVec 32) : Prop :=
  (∀ (k0_h2 : k0_cond2 i v10 = 1#1), ∀ (k0_h3 : k0_cond3 i v31 = 1#1), ∀ (k0_h4 : k0_cond4 v10 v434 = 1#1), ∀ a, (k0_off140 v441) a + S1x1024x512.size a ≤ S32x1024x512.size a) ∧
  (∀ (k0_h2 : k0_cond2 i v10 = 1#1), ∀ (k0_h3 : k0_cond3 i v31 = 1#1), ∀ (k0_h4 : k0_cond4 v10 v434 = 1#1), ∀ a, (k0_off141 v441) a + S1x512x1024.size a ≤ S32x512x1024.size a)
theorem k0_off140_inb : ∀ (i : grid0.Coords) (v10 : BitVec 32) (v31 : BitVec 32) (v434 : BitVec 32) (v441 : BitVec 32) (k0_hw133 : k0_chk133 i v10 v31 v434 v441), ∀ (k0_h2 : k0_cond2 i v10 = 1#1), ∀ (k0_h3 : k0_cond3 i v31 = 1#1), ∀ (k0_h4 : k0_cond4 v10 v434 = 1#1), ∀ a, (k0_off140 v441) a + S1x1024x512.size a ≤ S32x1024x512.size a := fun i v10 v31 v434 v441 k0_hw133 k0_h2 k0_h3 k0_h4 => k0_hw133.1 k0_h2 k0_h3 k0_h4
theorem k0_off141_inb : ∀ (i : grid0.Coords) (v10 : BitVec 32) (v31 : BitVec 32) (v434 : BitVec 32) (v441 : BitVec 32) (k0_hw133 : k0_chk133 i v10 v31 v434 v441), ∀ (k0_h2 : k0_cond2 i v10 = 1#1), ∀ (k0_h3 : k0_cond3 i v31 = 1#1), ∀ (k0_h4 : k0_cond4 v10 v434 = 1#1), ∀ a, (k0_off141 v441) a + S1x512x1024.size a ≤ S32x512x1024.size a := fun i v10 v31 v434 v441 k0_hw133 k0_h2 k0_h3 k0_h4 => k0_hw133.2 k0_h2 k0_h3 k0_h4

def k0_off142 (i : grid0.Coords) : Fin 1 → Nat :=
  let arg0 : BitVec 32 := BitVec.ofNat 32 (i 0).val
  let c4_i32 : BitVec 32 := 4#32
  let v35 : BitVec 32 := Scalar.addi arg0 c4_i32
  let c32_i32 : BitVec 32 := 32#32
  let v47 : BitVec 32 := Scalar.muli v35 c32_i32
  let c0_i32_20 : BitVec 32 := 0#32
  let v48 : BitVec 32 := Scalar.addi v47 c0_i32_20
  let v49 : Index := Scalar.indexCast v48
  ![v49.toNat]
def k0_mult129 (v50 : BitVec 32) : BitVec 32 :=
  v50

def k0_off143 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off144 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c0_i32_21 : BitVec 32 := 0#32
  let c0_i32_22 : BitVec 32 := 0#32
  ![v46.toNat, 0, 0]
def k0_off145 (v50 : BitVec 32) : Fin 2 → Nat :=
  let v51 : BitVec 32 := v50
  let c0_i32_23 : BitVec 32 := 0#32
  ![v51.toNat, 0]

def k0_chk134 (i : grid0.Coords) (v10 : BitVec 32) (v50 : BitVec 32) : Prop :=
  (∀ (k0_h2 : k0_cond2 i v10 = 1#1), 8 ∣ (k0_mult129 v50).toNat) ∧
  (∀ (k0_h2 : k0_cond2 i v10 = 1#1), ∀ a, (k0_off145 v50) a + S8x640.size a ≤ S40960x640.size a)
theorem k0_mult129_dvd : ∀ (i : grid0.Coords) (v10 : BitVec 32) (v50 : BitVec 32) (k0_hw134 : k0_chk134 i v10 v50), ∀ (k0_h2 : k0_cond2 i v10 = 1#1), 8 ∣ (k0_mult129 v50).toNat := fun i v10 v50 k0_hw134 k0_h2 => k0_hw134.1 k0_h2
theorem k0_off145_inb : ∀ (i : grid0.Coords) (v10 : BitVec 32) (v50 : BitVec 32) (k0_hw134 : k0_chk134 i v10 v50), ∀ (k0_h2 : k0_cond2 i v10 = 1#1), ∀ a, (k0_off145 v50) a + S8x640.size a ≤ S40960x640.size a := fun i v10 v50 k0_hw134 k0_h2 => k0_hw134.2 k0_h2

def k0_off146 (i : grid0.Coords) : Fin 1 → Nat :=
  let arg0 : BitVec 32 := BitVec.ofNat 32 (i 0).val
  let c4_i32 : BitVec 32 := 4#32
  let v35 : BitVec 32 := Scalar.addi arg0 c4_i32
  let c32_i32_24 : BitVec 32 := 32#32
  let v57 : BitVec 32 := Scalar.muli v35 c32_i32_24
  let c1_i32_25 : BitVec 32 := 1#32
  let v58 : BitVec 32 := Scalar.addi v57 c1_i32_25
  let v59 : Index := Scalar.indexCast v58
  ![v59.toNat]
def k0_mult130 (v60 : BitVec 32) : BitVec 32 :=
  v60

def k0_off147 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off148 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c8_i32 : BitVec 32 := 8#32
  let c0_i32_26 : BitVec 32 := 0#32
  ![v46.toNat, 8, 0]
def k0_off149 (v60 : BitVec 32) : Fin 2 → Nat :=
  let v61 : BitVec 32 := v60
  let c0_i32_27 : BitVec 32 := 0#32
  ![v61.toNat, 0]

def k0_chk135 (i : grid0.Coords) (v10 : BitVec 32) (v60 : BitVec 32) : Prop :=
  (∀ (k0_h2 : k0_cond2 i v10 = 1#1), 8 ∣ (k0_mult130 v60).toNat) ∧
  (∀ (k0_h2 : k0_cond2 i v10 = 1#1), ∀ a, (k0_off149 v60) a + S8x640.size a ≤ S40960x640.size a)
theorem k0_mult130_dvd : ∀ (i : grid0.Coords) (v10 : BitVec 32) (v60 : BitVec 32) (k0_hw135 : k0_chk135 i v10 v60), ∀ (k0_h2 : k0_cond2 i v10 = 1#1), 8 ∣ (k0_mult130 v60).toNat := fun i v10 v60 k0_hw135 k0_h2 => k0_hw135.1 k0_h2
theorem k0_off149_inb : ∀ (i : grid0.Coords) (v10 : BitVec 32) (v60 : BitVec 32) (k0_hw135 : k0_chk135 i v10 v60), ∀ (k0_h2 : k0_cond2 i v10 = 1#1), ∀ a, (k0_off149 v60) a + S8x640.size a ≤ S40960x640.size a := fun i v10 v60 k0_hw135 k0_h2 => k0_hw135.2 k0_h2

def k0_off150 (i : grid0.Coords) : Fin 1 → Nat :=
  let arg0 : BitVec 32 := BitVec.ofNat 32 (i 0).val
  let c4_i32 : BitVec 32 := 4#32
  let v35 : BitVec 32 := Scalar.addi arg0 c4_i32
  let c32_i32_28 : BitVec 32 := 32#32
  let v67 : BitVec 32 := Scalar.muli v35 c32_i32_28
  let c2_i32 : BitVec 32 := 2#32
  let v68 : BitVec 32 := Scalar.addi v67 c2_i32
  let v69 : Index := Scalar.indexCast v68
  ![v69.toNat]
def k0_mult131 (v70 : BitVec 32) : BitVec 32 :=
  v70

def k0_off151 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off152 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c16_i32 : BitVec 32 := 16#32
  let c0_i32_29 : BitVec 32 := 0#32
  ![v46.toNat, 16, 0]
def k0_off153 (v70 : BitVec 32) : Fin 2 → Nat :=
  let v71 : BitVec 32 := v70
  let c0_i32_30 : BitVec 32 := 0#32
  ![v71.toNat, 0]

def k0_chk136 (i : grid0.Coords) (v10 : BitVec 32) (v70 : BitVec 32) : Prop :=
  (∀ (k0_h2 : k0_cond2 i v10 = 1#1), 8 ∣ (k0_mult131 v70).toNat) ∧
  (∀ (k0_h2 : k0_cond2 i v10 = 1#1), ∀ a, (k0_off153 v70) a + S8x640.size a ≤ S40960x640.size a)
theorem k0_mult131_dvd : ∀ (i : grid0.Coords) (v10 : BitVec 32) (v70 : BitVec 32) (k0_hw136 : k0_chk136 i v10 v70), ∀ (k0_h2 : k0_cond2 i v10 = 1#1), 8 ∣ (k0_mult131 v70).toNat := fun i v10 v70 k0_hw136 k0_h2 => k0_hw136.1 k0_h2
theorem k0_off153_inb : ∀ (i : grid0.Coords) (v10 : BitVec 32) (v70 : BitVec 32) (k0_hw136 : k0_chk136 i v10 v70), ∀ (k0_h2 : k0_cond2 i v10 = 1#1), ∀ a, (k0_off153 v70) a + S8x640.size a ≤ S40960x640.size a := fun i v10 v70 k0_hw136 k0_h2 => k0_hw136.2 k0_h2

def k0_off154 (i : grid0.Coords) : Fin 1 → Nat :=
  let arg0 : BitVec 32 := BitVec.ofNat 32 (i 0).val
  let c4_i32 : BitVec 32 := 4#32
  let v35 : BitVec 32 := Scalar.addi arg0 c4_i32
  let c32_i32_31 : BitVec 32 := 32#32
  let v77 : BitVec 32 := Scalar.muli v35 c32_i32_31
  let c3_i32 : BitVec 32 := 3#32
  let v78 : BitVec 32 := Scalar.addi v77 c3_i32
  let v79 : Index := Scalar.indexCast v78
  ![v79.toNat]
def k0_mult132 (v80 : BitVec 32) : BitVec 32 :=
  v80

def k0_off155 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off156 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c24_i32 : BitVec 32 := 24#32
  let c0_i32_32 : BitVec 32 := 0#32
  ![v46.toNat, 24, 0]
def k0_off157 (v80 : BitVec 32) : Fin 2 → Nat :=
  let v81 : BitVec 32 := v80
  let c0_i32_33 : BitVec 32 := 0#32
  ![v81.toNat, 0]

def k0_chk137 (i : grid0.Coords) (v10 : BitVec 32) (v80 : BitVec 32) : Prop :=
  (∀ (k0_h2 : k0_cond2 i v10 = 1#1), 8 ∣ (k0_mult132 v80).toNat) ∧
  (∀ (k0_h2 : k0_cond2 i v10 = 1#1), ∀ a, (k0_off157 v80) a + S8x640.size a ≤ S40960x640.size a)
theorem k0_mult132_dvd : ∀ (i : grid0.Coords) (v10 : BitVec 32) (v80 : BitVec 32) (k0_hw137 : k0_chk137 i v10 v80), ∀ (k0_h2 : k0_cond2 i v10 = 1#1), 8 ∣ (k0_mult132 v80).toNat := fun i v10 v80 k0_hw137 k0_h2 => k0_hw137.1 k0_h2
theorem k0_off157_inb : ∀ (i : grid0.Coords) (v10 : BitVec 32) (v80 : BitVec 32) (k0_hw137 : k0_chk137 i v10 v80), ∀ (k0_h2 : k0_cond2 i v10 = 1#1), ∀ a, (k0_off157 v80) a + S8x640.size a ≤ S40960x640.size a := fun i v10 v80 k0_hw137 k0_h2 => k0_hw137.2 k0_h2

def k0_off158 (i : grid0.Coords) : Fin 1 → Nat :=
  let arg0 : BitVec 32 := BitVec.ofNat 32 (i 0).val
  let c4_i32 : BitVec 32 := 4#32
  let v35 : BitVec 32 := Scalar.addi arg0 c4_i32
  let c32_i32_34 : BitVec 32 := 32#32
  let v87 : BitVec 32 := Scalar.muli v35 c32_i32_34
  let c4_i32_35 : BitVec 32 := 4#32
  let v88 : BitVec 32 := Scalar.addi v87 c4_i32_35
  let v89 : Index := Scalar.indexCast v88
  ![v89.toNat]
def k0_mult133 (v90 : BitVec 32) : BitVec 32 :=
  v90

def k0_off159 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off160 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c32_i32_36 : BitVec 32 := 32#32
  let c0_i32_37 : BitVec 32 := 0#32
  ![v46.toNat, 32, 0]
def k0_off161 (v90 : BitVec 32) : Fin 2 → Nat :=
  let v91 : BitVec 32 := v90
  let c0_i32_38 : BitVec 32 := 0#32
  ![v91.toNat, 0]

def k0_chk138 (i : grid0.Coords) (v10 : BitVec 32) (v90 : BitVec 32) : Prop :=
  (∀ (k0_h2 : k0_cond2 i v10 = 1#1), 8 ∣ (k0_mult133 v90).toNat) ∧
  (∀ (k0_h2 : k0_cond2 i v10 = 1#1), ∀ a, (k0_off161 v90) a + S8x640.size a ≤ S40960x640.size a)
theorem k0_mult133_dvd : ∀ (i : grid0.Coords) (v10 : BitVec 32) (v90 : BitVec 32) (k0_hw138 : k0_chk138 i v10 v90), ∀ (k0_h2 : k0_cond2 i v10 = 1#1), 8 ∣ (k0_mult133 v90).toNat := fun i v10 v90 k0_hw138 k0_h2 => k0_hw138.1 k0_h2
theorem k0_off161_inb : ∀ (i : grid0.Coords) (v10 : BitVec 32) (v90 : BitVec 32) (k0_hw138 : k0_chk138 i v10 v90), ∀ (k0_h2 : k0_cond2 i v10 = 1#1), ∀ a, (k0_off161 v90) a + S8x640.size a ≤ S40960x640.size a := fun i v10 v90 k0_hw138 k0_h2 => k0_hw138.2 k0_h2

def k0_off162 (i : grid0.Coords) : Fin 1 → Nat :=
  let arg0 : BitVec 32 := BitVec.ofNat 32 (i 0).val
  let c4_i32 : BitVec 32 := 4#32
  let v35 : BitVec 32 := Scalar.addi arg0 c4_i32
  let c32_i32_39 : BitVec 32 := 32#32
  let v97 : BitVec 32 := Scalar.muli v35 c32_i32_39
  let c5_i32_40 : BitVec 32 := 5#32
  let v98 : BitVec 32 := Scalar.addi v97 c5_i32_40
  let v99 : Index := Scalar.indexCast v98
  ![v99.toNat]
def k0_mult134 (v100 : BitVec 32) : BitVec 32 :=
  v100

def k0_off163 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off164 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c40_i32 : BitVec 32 := 40#32
  let c0_i32_41 : BitVec 32 := 0#32
  ![v46.toNat, 40, 0]
def k0_off165 (v100 : BitVec 32) : Fin 2 → Nat :=
  let v101 : BitVec 32 := v100
  let c0_i32_42 : BitVec 32 := 0#32
  ![v101.toNat, 0]

def k0_chk139 (i : grid0.Coords) (v10 : BitVec 32) (v100 : BitVec 32) : Prop :=
  (∀ (k0_h2 : k0_cond2 i v10 = 1#1), 8 ∣ (k0_mult134 v100).toNat) ∧
  (∀ (k0_h2 : k0_cond2 i v10 = 1#1), ∀ a, (k0_off165 v100) a + S8x640.size a ≤ S40960x640.size a)
theorem k0_mult134_dvd : ∀ (i : grid0.Coords) (v10 : BitVec 32) (v100 : BitVec 32) (k0_hw139 : k0_chk139 i v10 v100), ∀ (k0_h2 : k0_cond2 i v10 = 1#1), 8 ∣ (k0_mult134 v100).toNat := fun i v10 v100 k0_hw139 k0_h2 => k0_hw139.1 k0_h2
theorem k0_off165_inb : ∀ (i : grid0.Coords) (v10 : BitVec 32) (v100 : BitVec 32) (k0_hw139 : k0_chk139 i v10 v100), ∀ (k0_h2 : k0_cond2 i v10 = 1#1), ∀ a, (k0_off165 v100) a + S8x640.size a ≤ S40960x640.size a := fun i v10 v100 k0_hw139 k0_h2 => k0_hw139.2 k0_h2

def k0_off166 (i : grid0.Coords) : Fin 1 → Nat :=
  let arg0 : BitVec 32 := BitVec.ofNat 32 (i 0).val
  let c4_i32 : BitVec 32 := 4#32
  let v35 : BitVec 32 := Scalar.addi arg0 c4_i32
  let c32_i32_43 : BitVec 32 := 32#32
  let v107 : BitVec 32 := Scalar.muli v35 c32_i32_43
  let c6_i32 : BitVec 32 := 6#32
  let v108 : BitVec 32 := Scalar.addi v107 c6_i32
  let v109 : Index := Scalar.indexCast v108
  ![v109.toNat]
def k0_mult135 (v110 : BitVec 32) : BitVec 32 :=
  v110

def k0_off167 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off168 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c48_i32 : BitVec 32 := 48#32
  let c0_i32_44 : BitVec 32 := 0#32
  ![v46.toNat, 48, 0]
def k0_off169 (v110 : BitVec 32) : Fin 2 → Nat :=
  let v111 : BitVec 32 := v110
  let c0_i32_45 : BitVec 32 := 0#32
  ![v111.toNat, 0]

def k0_chk140 (i : grid0.Coords) (v10 : BitVec 32) (v110 : BitVec 32) : Prop :=
  (∀ (k0_h2 : k0_cond2 i v10 = 1#1), 8 ∣ (k0_mult135 v110).toNat) ∧
  (∀ (k0_h2 : k0_cond2 i v10 = 1#1), ∀ a, (k0_off169 v110) a + S8x640.size a ≤ S40960x640.size a)
theorem k0_mult135_dvd : ∀ (i : grid0.Coords) (v10 : BitVec 32) (v110 : BitVec 32) (k0_hw140 : k0_chk140 i v10 v110), ∀ (k0_h2 : k0_cond2 i v10 = 1#1), 8 ∣ (k0_mult135 v110).toNat := fun i v10 v110 k0_hw140 k0_h2 => k0_hw140.1 k0_h2
theorem k0_off169_inb : ∀ (i : grid0.Coords) (v10 : BitVec 32) (v110 : BitVec 32) (k0_hw140 : k0_chk140 i v10 v110), ∀ (k0_h2 : k0_cond2 i v10 = 1#1), ∀ a, (k0_off169 v110) a + S8x640.size a ≤ S40960x640.size a := fun i v10 v110 k0_hw140 k0_h2 => k0_hw140.2 k0_h2

def k0_off170 (i : grid0.Coords) : Fin 1 → Nat :=
  let arg0 : BitVec 32 := BitVec.ofNat 32 (i 0).val
  let c4_i32 : BitVec 32 := 4#32
  let v35 : BitVec 32 := Scalar.addi arg0 c4_i32
  let c32_i32_46 : BitVec 32 := 32#32
  let v117 : BitVec 32 := Scalar.muli v35 c32_i32_46
  let c7_i32 : BitVec 32 := 7#32
  let v118 : BitVec 32 := Scalar.addi v117 c7_i32
  let v119 : Index := Scalar.indexCast v118
  ![v119.toNat]
def k0_mult136 (v120 : BitVec 32) : BitVec 32 :=
  v120

def k0_off171 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off172 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c56_i32 : BitVec 32 := 56#32
  let c0_i32_47 : BitVec 32 := 0#32
  ![v46.toNat, 56, 0]
def k0_off173 (v120 : BitVec 32) : Fin 2 → Nat :=
  let v121 : BitVec 32 := v120
  let c0_i32_48 : BitVec 32 := 0#32
  ![v121.toNat, 0]

def k0_chk141 (i : grid0.Coords) (v10 : BitVec 32) (v120 : BitVec 32) : Prop :=
  (∀ (k0_h2 : k0_cond2 i v10 = 1#1), 8 ∣ (k0_mult136 v120).toNat) ∧
  (∀ (k0_h2 : k0_cond2 i v10 = 1#1), ∀ a, (k0_off173 v120) a + S8x640.size a ≤ S40960x640.size a)
theorem k0_mult136_dvd : ∀ (i : grid0.Coords) (v10 : BitVec 32) (v120 : BitVec 32) (k0_hw141 : k0_chk141 i v10 v120), ∀ (k0_h2 : k0_cond2 i v10 = 1#1), 8 ∣ (k0_mult136 v120).toNat := fun i v10 v120 k0_hw141 k0_h2 => k0_hw141.1 k0_h2
theorem k0_off173_inb : ∀ (i : grid0.Coords) (v10 : BitVec 32) (v120 : BitVec 32) (k0_hw141 : k0_chk141 i v10 v120), ∀ (k0_h2 : k0_cond2 i v10 = 1#1), ∀ a, (k0_off173 v120) a + S8x640.size a ≤ S40960x640.size a := fun i v10 v120 k0_hw141 k0_h2 => k0_hw141.2 k0_h2

def k0_off174 (i : grid0.Coords) : Fin 1 → Nat :=
  let arg0 : BitVec 32 := BitVec.ofNat 32 (i 0).val
  let c4_i32 : BitVec 32 := 4#32
  let v35 : BitVec 32 := Scalar.addi arg0 c4_i32
  let c32_i32_49 : BitVec 32 := 32#32
  let v127 : BitVec 32 := Scalar.muli v35 c32_i32_49
  let c8_i32_50 : BitVec 32 := 8#32
  let v128 : BitVec 32 := Scalar.addi v127 c8_i32_50
  let v129 : Index := Scalar.indexCast v128
  ![v129.toNat]
def k0_mult137 (v130 : BitVec 32) : BitVec 32 :=
  v130

def k0_off175 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off176 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c64_i32 : BitVec 32 := 64#32
  let c0_i32_51 : BitVec 32 := 0#32
  ![v46.toNat, 64, 0]
def k0_off177 (v130 : BitVec 32) : Fin 2 → Nat :=
  let v131 : BitVec 32 := v130
  let c0_i32_52 : BitVec 32 := 0#32
  ![v131.toNat, 0]

def k0_chk142 (i : grid0.Coords) (v10 : BitVec 32) (v130 : BitVec 32) : Prop :=
  (∀ (k0_h2 : k0_cond2 i v10 = 1#1), 8 ∣ (k0_mult137 v130).toNat) ∧
  (∀ (k0_h2 : k0_cond2 i v10 = 1#1), ∀ a, (k0_off177 v130) a + S8x640.size a ≤ S40960x640.size a)
theorem k0_mult137_dvd : ∀ (i : grid0.Coords) (v10 : BitVec 32) (v130 : BitVec 32) (k0_hw142 : k0_chk142 i v10 v130), ∀ (k0_h2 : k0_cond2 i v10 = 1#1), 8 ∣ (k0_mult137 v130).toNat := fun i v10 v130 k0_hw142 k0_h2 => k0_hw142.1 k0_h2
theorem k0_off177_inb : ∀ (i : grid0.Coords) (v10 : BitVec 32) (v130 : BitVec 32) (k0_hw142 : k0_chk142 i v10 v130), ∀ (k0_h2 : k0_cond2 i v10 = 1#1), ∀ a, (k0_off177 v130) a + S8x640.size a ≤ S40960x640.size a := fun i v10 v130 k0_hw142 k0_h2 => k0_hw142.2 k0_h2

def k0_off178 (i : grid0.Coords) : Fin 1 → Nat :=
  let arg0 : BitVec 32 := BitVec.ofNat 32 (i 0).val
  let c4_i32 : BitVec 32 := 4#32
  let v35 : BitVec 32 := Scalar.addi arg0 c4_i32
  let c32_i32_53 : BitVec 32 := 32#32
  let v137 : BitVec 32 := Scalar.muli v35 c32_i32_53
  let c9_i32 : BitVec 32 := 9#32
  let v138 : BitVec 32 := Scalar.addi v137 c9_i32
  let v139 : Index := Scalar.indexCast v138
  ![v139.toNat]
def k0_mult138 (v140 : BitVec 32) : BitVec 32 :=
  v140

def k0_off179 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off180 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c72_i32 : BitVec 32 := 72#32
  let c0_i32_54 : BitVec 32 := 0#32
  ![v46.toNat, 72, 0]
def k0_off181 (v140 : BitVec 32) : Fin 2 → Nat :=
  let v141 : BitVec 32 := v140
  let c0_i32_55 : BitVec 32 := 0#32
  ![v141.toNat, 0]

def k0_chk143 (i : grid0.Coords) (v10 : BitVec 32) (v140 : BitVec 32) : Prop :=
  (∀ (k0_h2 : k0_cond2 i v10 = 1#1), 8 ∣ (k0_mult138 v140).toNat) ∧
  (∀ (k0_h2 : k0_cond2 i v10 = 1#1), ∀ a, (k0_off181 v140) a + S8x640.size a ≤ S40960x640.size a)
theorem k0_mult138_dvd : ∀ (i : grid0.Coords) (v10 : BitVec 32) (v140 : BitVec 32) (k0_hw143 : k0_chk143 i v10 v140), ∀ (k0_h2 : k0_cond2 i v10 = 1#1), 8 ∣ (k0_mult138 v140).toNat := fun i v10 v140 k0_hw143 k0_h2 => k0_hw143.1 k0_h2
theorem k0_off181_inb : ∀ (i : grid0.Coords) (v10 : BitVec 32) (v140 : BitVec 32) (k0_hw143 : k0_chk143 i v10 v140), ∀ (k0_h2 : k0_cond2 i v10 = 1#1), ∀ a, (k0_off181 v140) a + S8x640.size a ≤ S40960x640.size a := fun i v10 v140 k0_hw143 k0_h2 => k0_hw143.2 k0_h2

def k0_off182 (i : grid0.Coords) : Fin 1 → Nat :=
  let arg0 : BitVec 32 := BitVec.ofNat 32 (i 0).val
  let c4_i32 : BitVec 32 := 4#32
  let v35 : BitVec 32 := Scalar.addi arg0 c4_i32
  let c32_i32_56 : BitVec 32 := 32#32
  let v147 : BitVec 32 := Scalar.muli v35 c32_i32_56
  let c10_i32 : BitVec 32 := 10#32
  let v148 : BitVec 32 := Scalar.addi v147 c10_i32
  let v149 : Index := Scalar.indexCast v148
  ![v149.toNat]
def k0_mult139 (v150 : BitVec 32) : BitVec 32 :=
  v150

def k0_off183 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off184 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c80_i32 : BitVec 32 := 80#32
  let c0_i32_57 : BitVec 32 := 0#32
  ![v46.toNat, 80, 0]
def k0_off185 (v150 : BitVec 32) : Fin 2 → Nat :=
  let v151 : BitVec 32 := v150
  let c0_i32_58 : BitVec 32 := 0#32
  ![v151.toNat, 0]

def k0_chk144 (i : grid0.Coords) (v10 : BitVec 32) (v150 : BitVec 32) : Prop :=
  (∀ (k0_h2 : k0_cond2 i v10 = 1#1), 8 ∣ (k0_mult139 v150).toNat) ∧
  (∀ (k0_h2 : k0_cond2 i v10 = 1#1), ∀ a, (k0_off185 v150) a + S8x640.size a ≤ S40960x640.size a)
theorem k0_mult139_dvd : ∀ (i : grid0.Coords) (v10 : BitVec 32) (v150 : BitVec 32) (k0_hw144 : k0_chk144 i v10 v150), ∀ (k0_h2 : k0_cond2 i v10 = 1#1), 8 ∣ (k0_mult139 v150).toNat := fun i v10 v150 k0_hw144 k0_h2 => k0_hw144.1 k0_h2
theorem k0_off185_inb : ∀ (i : grid0.Coords) (v10 : BitVec 32) (v150 : BitVec 32) (k0_hw144 : k0_chk144 i v10 v150), ∀ (k0_h2 : k0_cond2 i v10 = 1#1), ∀ a, (k0_off185 v150) a + S8x640.size a ≤ S40960x640.size a := fun i v10 v150 k0_hw144 k0_h2 => k0_hw144.2 k0_h2

def k0_off186 (i : grid0.Coords) : Fin 1 → Nat :=
  let arg0 : BitVec 32 := BitVec.ofNat 32 (i 0).val
  let c4_i32 : BitVec 32 := 4#32
  let v35 : BitVec 32 := Scalar.addi arg0 c4_i32
  let c32_i32_59 : BitVec 32 := 32#32
  let v157 : BitVec 32 := Scalar.muli v35 c32_i32_59
  let c11_i32 : BitVec 32 := 11#32
  let v158 : BitVec 32 := Scalar.addi v157 c11_i32
  let v159 : Index := Scalar.indexCast v158
  ![v159.toNat]
def k0_mult140 (v160 : BitVec 32) : BitVec 32 :=
  v160

def k0_off187 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off188 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c88_i32 : BitVec 32 := 88#32
  let c0_i32_60 : BitVec 32 := 0#32
  ![v46.toNat, 88, 0]
def k0_off189 (v160 : BitVec 32) : Fin 2 → Nat :=
  let v161 : BitVec 32 := v160
  let c0_i32_61 : BitVec 32 := 0#32
  ![v161.toNat, 0]

def k0_chk145 (i : grid0.Coords) (v10 : BitVec 32) (v160 : BitVec 32) : Prop :=
  (∀ (k0_h2 : k0_cond2 i v10 = 1#1), 8 ∣ (k0_mult140 v160).toNat) ∧
  (∀ (k0_h2 : k0_cond2 i v10 = 1#1), ∀ a, (k0_off189 v160) a + S8x640.size a ≤ S40960x640.size a)
theorem k0_mult140_dvd : ∀ (i : grid0.Coords) (v10 : BitVec 32) (v160 : BitVec 32) (k0_hw145 : k0_chk145 i v10 v160), ∀ (k0_h2 : k0_cond2 i v10 = 1#1), 8 ∣ (k0_mult140 v160).toNat := fun i v10 v160 k0_hw145 k0_h2 => k0_hw145.1 k0_h2
theorem k0_off189_inb : ∀ (i : grid0.Coords) (v10 : BitVec 32) (v160 : BitVec 32) (k0_hw145 : k0_chk145 i v10 v160), ∀ (k0_h2 : k0_cond2 i v10 = 1#1), ∀ a, (k0_off189 v160) a + S8x640.size a ≤ S40960x640.size a := fun i v10 v160 k0_hw145 k0_h2 => k0_hw145.2 k0_h2

def k0_off190 (i : grid0.Coords) : Fin 1 → Nat :=
  let arg0 : BitVec 32 := BitVec.ofNat 32 (i 0).val
  let c4_i32 : BitVec 32 := 4#32
  let v35 : BitVec 32 := Scalar.addi arg0 c4_i32
  let c32_i32_62 : BitVec 32 := 32#32
  let v167 : BitVec 32 := Scalar.muli v35 c32_i32_62
  let c12_i32 : BitVec 32 := 12#32
  let v168 : BitVec 32 := Scalar.addi v167 c12_i32
  let v169 : Index := Scalar.indexCast v168
  ![v169.toNat]
def k0_mult141 (v170 : BitVec 32) : BitVec 32 :=
  v170

def k0_off191 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off192 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c96_i32 : BitVec 32 := 96#32
  let c0_i32_63 : BitVec 32 := 0#32
  ![v46.toNat, 96, 0]
def k0_off193 (v170 : BitVec 32) : Fin 2 → Nat :=
  let v171 : BitVec 32 := v170
  let c0_i32_64 : BitVec 32 := 0#32
  ![v171.toNat, 0]

def k0_chk146 (i : grid0.Coords) (v10 : BitVec 32) (v170 : BitVec 32) : Prop :=
  (∀ (k0_h2 : k0_cond2 i v10 = 1#1), 8 ∣ (k0_mult141 v170).toNat) ∧
  (∀ (k0_h2 : k0_cond2 i v10 = 1#1), ∀ a, (k0_off193 v170) a + S8x640.size a ≤ S40960x640.size a)
theorem k0_mult141_dvd : ∀ (i : grid0.Coords) (v10 : BitVec 32) (v170 : BitVec 32) (k0_hw146 : k0_chk146 i v10 v170), ∀ (k0_h2 : k0_cond2 i v10 = 1#1), 8 ∣ (k0_mult141 v170).toNat := fun i v10 v170 k0_hw146 k0_h2 => k0_hw146.1 k0_h2
theorem k0_off193_inb : ∀ (i : grid0.Coords) (v10 : BitVec 32) (v170 : BitVec 32) (k0_hw146 : k0_chk146 i v10 v170), ∀ (k0_h2 : k0_cond2 i v10 = 1#1), ∀ a, (k0_off193 v170) a + S8x640.size a ≤ S40960x640.size a := fun i v10 v170 k0_hw146 k0_h2 => k0_hw146.2 k0_h2

def k0_off194 (i : grid0.Coords) : Fin 1 → Nat :=
  let arg0 : BitVec 32 := BitVec.ofNat 32 (i 0).val
  let c4_i32 : BitVec 32 := 4#32
  let v35 : BitVec 32 := Scalar.addi arg0 c4_i32
  let c32_i32_65 : BitVec 32 := 32#32
  let v177 : BitVec 32 := Scalar.muli v35 c32_i32_65
  let c13_i32 : BitVec 32 := 13#32
  let v178 : BitVec 32 := Scalar.addi v177 c13_i32
  let v179 : Index := Scalar.indexCast v178
  ![v179.toNat]
def k0_mult142 (v180 : BitVec 32) : BitVec 32 :=
  v180

def k0_off195 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off196 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c104_i32 : BitVec 32 := 104#32
  let c0_i32_66 : BitVec 32 := 0#32
  ![v46.toNat, 104, 0]
def k0_off197 (v180 : BitVec 32) : Fin 2 → Nat :=
  let v181 : BitVec 32 := v180
  let c0_i32_67 : BitVec 32 := 0#32
  ![v181.toNat, 0]

def k0_chk147 (i : grid0.Coords) (v10 : BitVec 32) (v180 : BitVec 32) : Prop :=
  (∀ (k0_h2 : k0_cond2 i v10 = 1#1), 8 ∣ (k0_mult142 v180).toNat) ∧
  (∀ (k0_h2 : k0_cond2 i v10 = 1#1), ∀ a, (k0_off197 v180) a + S8x640.size a ≤ S40960x640.size a)
theorem k0_mult142_dvd : ∀ (i : grid0.Coords) (v10 : BitVec 32) (v180 : BitVec 32) (k0_hw147 : k0_chk147 i v10 v180), ∀ (k0_h2 : k0_cond2 i v10 = 1#1), 8 ∣ (k0_mult142 v180).toNat := fun i v10 v180 k0_hw147 k0_h2 => k0_hw147.1 k0_h2
theorem k0_off197_inb : ∀ (i : grid0.Coords) (v10 : BitVec 32) (v180 : BitVec 32) (k0_hw147 : k0_chk147 i v10 v180), ∀ (k0_h2 : k0_cond2 i v10 = 1#1), ∀ a, (k0_off197 v180) a + S8x640.size a ≤ S40960x640.size a := fun i v10 v180 k0_hw147 k0_h2 => k0_hw147.2 k0_h2

def k0_off198 (i : grid0.Coords) : Fin 1 → Nat :=
  let arg0 : BitVec 32 := BitVec.ofNat 32 (i 0).val
  let c4_i32 : BitVec 32 := 4#32
  let v35 : BitVec 32 := Scalar.addi arg0 c4_i32
  let c32_i32_68 : BitVec 32 := 32#32
  let v187 : BitVec 32 := Scalar.muli v35 c32_i32_68
  let c14_i32 : BitVec 32 := 14#32
  let v188 : BitVec 32 := Scalar.addi v187 c14_i32
  let v189 : Index := Scalar.indexCast v188
  ![v189.toNat]
def k0_mult143 (v190 : BitVec 32) : BitVec 32 :=
  v190

def k0_off199 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off200 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c112_i32 : BitVec 32 := 112#32
  let c0_i32_69 : BitVec 32 := 0#32
  ![v46.toNat, 112, 0]
def k0_off201 (v190 : BitVec 32) : Fin 2 → Nat :=
  let v191 : BitVec 32 := v190
  let c0_i32_70 : BitVec 32 := 0#32
  ![v191.toNat, 0]

def k0_chk148 (i : grid0.Coords) (v10 : BitVec 32) (v190 : BitVec 32) : Prop :=
  (∀ (k0_h2 : k0_cond2 i v10 = 1#1), 8 ∣ (k0_mult143 v190).toNat) ∧
  (∀ (k0_h2 : k0_cond2 i v10 = 1#1), ∀ a, (k0_off201 v190) a + S8x640.size a ≤ S40960x640.size a)
theorem k0_mult143_dvd : ∀ (i : grid0.Coords) (v10 : BitVec 32) (v190 : BitVec 32) (k0_hw148 : k0_chk148 i v10 v190), ∀ (k0_h2 : k0_cond2 i v10 = 1#1), 8 ∣ (k0_mult143 v190).toNat := fun i v10 v190 k0_hw148 k0_h2 => k0_hw148.1 k0_h2
theorem k0_off201_inb : ∀ (i : grid0.Coords) (v10 : BitVec 32) (v190 : BitVec 32) (k0_hw148 : k0_chk148 i v10 v190), ∀ (k0_h2 : k0_cond2 i v10 = 1#1), ∀ a, (k0_off201 v190) a + S8x640.size a ≤ S40960x640.size a := fun i v10 v190 k0_hw148 k0_h2 => k0_hw148.2 k0_h2

def k0_off202 (i : grid0.Coords) : Fin 1 → Nat :=
  let arg0 : BitVec 32 := BitVec.ofNat 32 (i 0).val
  let c4_i32 : BitVec 32 := 4#32
  let v35 : BitVec 32 := Scalar.addi arg0 c4_i32
  let c32_i32_71 : BitVec 32 := 32#32
  let v197 : BitVec 32 := Scalar.muli v35 c32_i32_71
  let c15_i32 : BitVec 32 := 15#32
  let v198 : BitVec 32 := Scalar.addi v197 c15_i32
  let v199 : Index := Scalar.indexCast v198
  ![v199.toNat]
def k0_mult144 (v200 : BitVec 32) : BitVec 32 :=
  v200

def k0_off203 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off204 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c120_i32 : BitVec 32 := 120#32
  let c0_i32_72 : BitVec 32 := 0#32
  ![v46.toNat, 120, 0]
def k0_off205 (v200 : BitVec 32) : Fin 2 → Nat :=
  let v201 : BitVec 32 := v200
  let c0_i32_73 : BitVec 32 := 0#32
  ![v201.toNat, 0]

def k0_chk149 (i : grid0.Coords) (v10 : BitVec 32) (v200 : BitVec 32) : Prop :=
  (∀ (k0_h2 : k0_cond2 i v10 = 1#1), 8 ∣ (k0_mult144 v200).toNat) ∧
  (∀ (k0_h2 : k0_cond2 i v10 = 1#1), ∀ a, (k0_off205 v200) a + S8x640.size a ≤ S40960x640.size a)
theorem k0_mult144_dvd : ∀ (i : grid0.Coords) (v10 : BitVec 32) (v200 : BitVec 32) (k0_hw149 : k0_chk149 i v10 v200), ∀ (k0_h2 : k0_cond2 i v10 = 1#1), 8 ∣ (k0_mult144 v200).toNat := fun i v10 v200 k0_hw149 k0_h2 => k0_hw149.1 k0_h2
theorem k0_off205_inb : ∀ (i : grid0.Coords) (v10 : BitVec 32) (v200 : BitVec 32) (k0_hw149 : k0_chk149 i v10 v200), ∀ (k0_h2 : k0_cond2 i v10 = 1#1), ∀ a, (k0_off205 v200) a + S8x640.size a ≤ S40960x640.size a := fun i v10 v200 k0_hw149 k0_h2 => k0_hw149.2 k0_h2

def k0_off206 (i : grid0.Coords) : Fin 1 → Nat :=
  let arg0 : BitVec 32 := BitVec.ofNat 32 (i 0).val
  let c4_i32 : BitVec 32 := 4#32
  let v35 : BitVec 32 := Scalar.addi arg0 c4_i32
  let c32_i32_74 : BitVec 32 := 32#32
  let v207 : BitVec 32 := Scalar.muli v35 c32_i32_74
  let c16_i32_75 : BitVec 32 := 16#32
  let v208 : BitVec 32 := Scalar.addi v207 c16_i32_75
  let v209 : Index := Scalar.indexCast v208
  ![v209.toNat]
def k0_mult145 (v210 : BitVec 32) : BitVec 32 :=
  v210

def k0_off207 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off208 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c128_i32 : BitVec 32 := 128#32
  let c0_i32_76 : BitVec 32 := 0#32
  ![v46.toNat, 128, 0]
def k0_off209 (v210 : BitVec 32) : Fin 2 → Nat :=
  let v211 : BitVec 32 := v210
  let c0_i32_77 : BitVec 32 := 0#32
  ![v211.toNat, 0]

def k0_chk150 (i : grid0.Coords) (v10 : BitVec 32) (v210 : BitVec 32) : Prop :=
  (∀ (k0_h2 : k0_cond2 i v10 = 1#1), 8 ∣ (k0_mult145 v210).toNat) ∧
  (∀ (k0_h2 : k0_cond2 i v10 = 1#1), ∀ a, (k0_off209 v210) a + S8x640.size a ≤ S40960x640.size a)
theorem k0_mult145_dvd : ∀ (i : grid0.Coords) (v10 : BitVec 32) (v210 : BitVec 32) (k0_hw150 : k0_chk150 i v10 v210), ∀ (k0_h2 : k0_cond2 i v10 = 1#1), 8 ∣ (k0_mult145 v210).toNat := fun i v10 v210 k0_hw150 k0_h2 => k0_hw150.1 k0_h2
theorem k0_off209_inb : ∀ (i : grid0.Coords) (v10 : BitVec 32) (v210 : BitVec 32) (k0_hw150 : k0_chk150 i v10 v210), ∀ (k0_h2 : k0_cond2 i v10 = 1#1), ∀ a, (k0_off209 v210) a + S8x640.size a ≤ S40960x640.size a := fun i v10 v210 k0_hw150 k0_h2 => k0_hw150.2 k0_h2

def k0_off210 (i : grid0.Coords) : Fin 1 → Nat :=
  let arg0 : BitVec 32 := BitVec.ofNat 32 (i 0).val
  let c4_i32 : BitVec 32 := 4#32
  let v35 : BitVec 32 := Scalar.addi arg0 c4_i32
  let c32_i32_78 : BitVec 32 := 32#32
  let v217 : BitVec 32 := Scalar.muli v35 c32_i32_78
  let c17_i32 : BitVec 32 := 17#32
  let v218 : BitVec 32 := Scalar.addi v217 c17_i32
  let v219 : Index := Scalar.indexCast v218
  ![v219.toNat]
def k0_mult146 (v220 : BitVec 32) : BitVec 32 :=
  v220

def k0_off211 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off212 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c136_i32 : BitVec 32 := 136#32
  let c0_i32_79 : BitVec 32 := 0#32
  ![v46.toNat, 136, 0]
def k0_off213 (v220 : BitVec 32) : Fin 2 → Nat :=
  let v221 : BitVec 32 := v220
  let c0_i32_80 : BitVec 32 := 0#32
  ![v221.toNat, 0]

def k0_chk151 (i : grid0.Coords) (v10 : BitVec 32) (v220 : BitVec 32) : Prop :=
  (∀ (k0_h2 : k0_cond2 i v10 = 1#1), 8 ∣ (k0_mult146 v220).toNat) ∧
  (∀ (k0_h2 : k0_cond2 i v10 = 1#1), ∀ a, (k0_off213 v220) a + S8x640.size a ≤ S40960x640.size a)
theorem k0_mult146_dvd : ∀ (i : grid0.Coords) (v10 : BitVec 32) (v220 : BitVec 32) (k0_hw151 : k0_chk151 i v10 v220), ∀ (k0_h2 : k0_cond2 i v10 = 1#1), 8 ∣ (k0_mult146 v220).toNat := fun i v10 v220 k0_hw151 k0_h2 => k0_hw151.1 k0_h2
theorem k0_off213_inb : ∀ (i : grid0.Coords) (v10 : BitVec 32) (v220 : BitVec 32) (k0_hw151 : k0_chk151 i v10 v220), ∀ (k0_h2 : k0_cond2 i v10 = 1#1), ∀ a, (k0_off213 v220) a + S8x640.size a ≤ S40960x640.size a := fun i v10 v220 k0_hw151 k0_h2 => k0_hw151.2 k0_h2

def k0_off214 (i : grid0.Coords) : Fin 1 → Nat :=
  let arg0 : BitVec 32 := BitVec.ofNat 32 (i 0).val
  let c4_i32 : BitVec 32 := 4#32
  let v35 : BitVec 32 := Scalar.addi arg0 c4_i32
  let c32_i32_81 : BitVec 32 := 32#32
  let v227 : BitVec 32 := Scalar.muli v35 c32_i32_81
  let c18_i32 : BitVec 32 := 18#32
  let v228 : BitVec 32 := Scalar.addi v227 c18_i32
  let v229 : Index := Scalar.indexCast v228
  ![v229.toNat]
def k0_mult147 (v230 : BitVec 32) : BitVec 32 :=
  v230

def k0_off215 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off216 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c144_i32 : BitVec 32 := 144#32
  let c0_i32_82 : BitVec 32 := 0#32
  ![v46.toNat, 144, 0]
def k0_off217 (v230 : BitVec 32) : Fin 2 → Nat :=
  let v231 : BitVec 32 := v230
  let c0_i32_83 : BitVec 32 := 0#32
  ![v231.toNat, 0]

def k0_chk152 (i : grid0.Coords) (v10 : BitVec 32) (v230 : BitVec 32) : Prop :=
  (∀ (k0_h2 : k0_cond2 i v10 = 1#1), 8 ∣ (k0_mult147 v230).toNat) ∧
  (∀ (k0_h2 : k0_cond2 i v10 = 1#1), ∀ a, (k0_off217 v230) a + S8x640.size a ≤ S40960x640.size a)
theorem k0_mult147_dvd : ∀ (i : grid0.Coords) (v10 : BitVec 32) (v230 : BitVec 32) (k0_hw152 : k0_chk152 i v10 v230), ∀ (k0_h2 : k0_cond2 i v10 = 1#1), 8 ∣ (k0_mult147 v230).toNat := fun i v10 v230 k0_hw152 k0_h2 => k0_hw152.1 k0_h2
theorem k0_off217_inb : ∀ (i : grid0.Coords) (v10 : BitVec 32) (v230 : BitVec 32) (k0_hw152 : k0_chk152 i v10 v230), ∀ (k0_h2 : k0_cond2 i v10 = 1#1), ∀ a, (k0_off217 v230) a + S8x640.size a ≤ S40960x640.size a := fun i v10 v230 k0_hw152 k0_h2 => k0_hw152.2 k0_h2

def k0_off218 (i : grid0.Coords) : Fin 1 → Nat :=
  let arg0 : BitVec 32 := BitVec.ofNat 32 (i 0).val
  let c4_i32 : BitVec 32 := 4#32
  let v35 : BitVec 32 := Scalar.addi arg0 c4_i32
  let c32_i32_84 : BitVec 32 := 32#32
  let v237 : BitVec 32 := Scalar.muli v35 c32_i32_84
  let c19_i32 : BitVec 32 := 19#32
  let v238 : BitVec 32 := Scalar.addi v237 c19_i32
  let v239 : Index := Scalar.indexCast v238
  ![v239.toNat]
def k0_mult148 (v240 : BitVec 32) : BitVec 32 :=
  v240

def k0_off219 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off220 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c152_i32 : BitVec 32 := 152#32
  let c0_i32_85 : BitVec 32 := 0#32
  ![v46.toNat, 152, 0]
def k0_off221 (v240 : BitVec 32) : Fin 2 → Nat :=
  let v241 : BitVec 32 := v240
  let c0_i32_86 : BitVec 32 := 0#32
  ![v241.toNat, 0]

def k0_chk153 (i : grid0.Coords) (v10 : BitVec 32) (v240 : BitVec 32) : Prop :=
  (∀ (k0_h2 : k0_cond2 i v10 = 1#1), 8 ∣ (k0_mult148 v240).toNat) ∧
  (∀ (k0_h2 : k0_cond2 i v10 = 1#1), ∀ a, (k0_off221 v240) a + S8x640.size a ≤ S40960x640.size a)
theorem k0_mult148_dvd : ∀ (i : grid0.Coords) (v10 : BitVec 32) (v240 : BitVec 32) (k0_hw153 : k0_chk153 i v10 v240), ∀ (k0_h2 : k0_cond2 i v10 = 1#1), 8 ∣ (k0_mult148 v240).toNat := fun i v10 v240 k0_hw153 k0_h2 => k0_hw153.1 k0_h2
theorem k0_off221_inb : ∀ (i : grid0.Coords) (v10 : BitVec 32) (v240 : BitVec 32) (k0_hw153 : k0_chk153 i v10 v240), ∀ (k0_h2 : k0_cond2 i v10 = 1#1), ∀ a, (k0_off221 v240) a + S8x640.size a ≤ S40960x640.size a := fun i v10 v240 k0_hw153 k0_h2 => k0_hw153.2 k0_h2

def k0_off222 (i : grid0.Coords) : Fin 1 → Nat :=
  let arg0 : BitVec 32 := BitVec.ofNat 32 (i 0).val
  let c4_i32 : BitVec 32 := 4#32
  let v35 : BitVec 32 := Scalar.addi arg0 c4_i32
  let c32_i32_87 : BitVec 32 := 32#32
  let v247 : BitVec 32 := Scalar.muli v35 c32_i32_87
  let c20_i32 : BitVec 32 := 20#32
  let v248 : BitVec 32 := Scalar.addi v247 c20_i32
  let v249 : Index := Scalar.indexCast v248
  ![v249.toNat]
def k0_mult149 (v250 : BitVec 32) : BitVec 32 :=
  v250

def k0_off223 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off224 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c160_i32 : BitVec 32 := 160#32
  let c0_i32_88 : BitVec 32 := 0#32
  ![v46.toNat, 160, 0]
def k0_off225 (v250 : BitVec 32) : Fin 2 → Nat :=
  let v251 : BitVec 32 := v250
  let c0_i32_89 : BitVec 32 := 0#32
  ![v251.toNat, 0]

def k0_chk154 (i : grid0.Coords) (v10 : BitVec 32) (v250 : BitVec 32) : Prop :=
  (∀ (k0_h2 : k0_cond2 i v10 = 1#1), 8 ∣ (k0_mult149 v250).toNat) ∧
  (∀ (k0_h2 : k0_cond2 i v10 = 1#1), ∀ a, (k0_off225 v250) a + S8x640.size a ≤ S40960x640.size a)
theorem k0_mult149_dvd : ∀ (i : grid0.Coords) (v10 : BitVec 32) (v250 : BitVec 32) (k0_hw154 : k0_chk154 i v10 v250), ∀ (k0_h2 : k0_cond2 i v10 = 1#1), 8 ∣ (k0_mult149 v250).toNat := fun i v10 v250 k0_hw154 k0_h2 => k0_hw154.1 k0_h2
theorem k0_off225_inb : ∀ (i : grid0.Coords) (v10 : BitVec 32) (v250 : BitVec 32) (k0_hw154 : k0_chk154 i v10 v250), ∀ (k0_h2 : k0_cond2 i v10 = 1#1), ∀ a, (k0_off225 v250) a + S8x640.size a ≤ S40960x640.size a := fun i v10 v250 k0_hw154 k0_h2 => k0_hw154.2 k0_h2

def k0_off226 (i : grid0.Coords) : Fin 1 → Nat :=
  let arg0 : BitVec 32 := BitVec.ofNat 32 (i 0).val
  let c4_i32 : BitVec 32 := 4#32
  let v35 : BitVec 32 := Scalar.addi arg0 c4_i32
  let c32_i32_90 : BitVec 32 := 32#32
  let v257 : BitVec 32 := Scalar.muli v35 c32_i32_90
  let c21_i32 : BitVec 32 := 21#32
  let v258 : BitVec 32 := Scalar.addi v257 c21_i32
  let v259 : Index := Scalar.indexCast v258
  ![v259.toNat]
def k0_mult150 (v260 : BitVec 32) : BitVec 32 :=
  v260

def k0_off227 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off228 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c168_i32 : BitVec 32 := 168#32
  let c0_i32_91 : BitVec 32 := 0#32
  ![v46.toNat, 168, 0]
def k0_off229 (v260 : BitVec 32) : Fin 2 → Nat :=
  let v261 : BitVec 32 := v260
  let c0_i32_92 : BitVec 32 := 0#32
  ![v261.toNat, 0]

def k0_chk155 (i : grid0.Coords) (v10 : BitVec 32) (v260 : BitVec 32) : Prop :=
  (∀ (k0_h2 : k0_cond2 i v10 = 1#1), 8 ∣ (k0_mult150 v260).toNat) ∧
  (∀ (k0_h2 : k0_cond2 i v10 = 1#1), ∀ a, (k0_off229 v260) a + S8x640.size a ≤ S40960x640.size a)
theorem k0_mult150_dvd : ∀ (i : grid0.Coords) (v10 : BitVec 32) (v260 : BitVec 32) (k0_hw155 : k0_chk155 i v10 v260), ∀ (k0_h2 : k0_cond2 i v10 = 1#1), 8 ∣ (k0_mult150 v260).toNat := fun i v10 v260 k0_hw155 k0_h2 => k0_hw155.1 k0_h2
theorem k0_off229_inb : ∀ (i : grid0.Coords) (v10 : BitVec 32) (v260 : BitVec 32) (k0_hw155 : k0_chk155 i v10 v260), ∀ (k0_h2 : k0_cond2 i v10 = 1#1), ∀ a, (k0_off229 v260) a + S8x640.size a ≤ S40960x640.size a := fun i v10 v260 k0_hw155 k0_h2 => k0_hw155.2 k0_h2

def k0_off230 (i : grid0.Coords) : Fin 1 → Nat :=
  let arg0 : BitVec 32 := BitVec.ofNat 32 (i 0).val
  let c4_i32 : BitVec 32 := 4#32
  let v35 : BitVec 32 := Scalar.addi arg0 c4_i32
  let c32_i32_93 : BitVec 32 := 32#32
  let v267 : BitVec 32 := Scalar.muli v35 c32_i32_93
  let c22_i32 : BitVec 32 := 22#32
  let v268 : BitVec 32 := Scalar.addi v267 c22_i32
  let v269 : Index := Scalar.indexCast v268
  ![v269.toNat]
def k0_mult151 (v270 : BitVec 32) : BitVec 32 :=
  v270

def k0_off231 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off232 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c176_i32 : BitVec 32 := 176#32
  let c0_i32_94 : BitVec 32 := 0#32
  ![v46.toNat, 176, 0]
def k0_off233 (v270 : BitVec 32) : Fin 2 → Nat :=
  let v271 : BitVec 32 := v270
  let c0_i32_95 : BitVec 32 := 0#32
  ![v271.toNat, 0]

def k0_chk156 (i : grid0.Coords) (v10 : BitVec 32) (v270 : BitVec 32) : Prop :=
  (∀ (k0_h2 : k0_cond2 i v10 = 1#1), 8 ∣ (k0_mult151 v270).toNat) ∧
  (∀ (k0_h2 : k0_cond2 i v10 = 1#1), ∀ a, (k0_off233 v270) a + S8x640.size a ≤ S40960x640.size a)
theorem k0_mult151_dvd : ∀ (i : grid0.Coords) (v10 : BitVec 32) (v270 : BitVec 32) (k0_hw156 : k0_chk156 i v10 v270), ∀ (k0_h2 : k0_cond2 i v10 = 1#1), 8 ∣ (k0_mult151 v270).toNat := fun i v10 v270 k0_hw156 k0_h2 => k0_hw156.1 k0_h2
theorem k0_off233_inb : ∀ (i : grid0.Coords) (v10 : BitVec 32) (v270 : BitVec 32) (k0_hw156 : k0_chk156 i v10 v270), ∀ (k0_h2 : k0_cond2 i v10 = 1#1), ∀ a, (k0_off233 v270) a + S8x640.size a ≤ S40960x640.size a := fun i v10 v270 k0_hw156 k0_h2 => k0_hw156.2 k0_h2

def k0_off234 (i : grid0.Coords) : Fin 1 → Nat :=
  let arg0 : BitVec 32 := BitVec.ofNat 32 (i 0).val
  let c4_i32 : BitVec 32 := 4#32
  let v35 : BitVec 32 := Scalar.addi arg0 c4_i32
  let c32_i32_96 : BitVec 32 := 32#32
  let v277 : BitVec 32 := Scalar.muli v35 c32_i32_96
  let c23_i32 : BitVec 32 := 23#32
  let v278 : BitVec 32 := Scalar.addi v277 c23_i32
  let v279 : Index := Scalar.indexCast v278
  ![v279.toNat]
def k0_mult152 (v280 : BitVec 32) : BitVec 32 :=
  v280

def k0_off235 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off236 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c184_i32 : BitVec 32 := 184#32
  let c0_i32_97 : BitVec 32 := 0#32
  ![v46.toNat, 184, 0]
def k0_off237 (v280 : BitVec 32) : Fin 2 → Nat :=
  let v281 : BitVec 32 := v280
  let c0_i32_98 : BitVec 32 := 0#32
  ![v281.toNat, 0]

def k0_chk157 (i : grid0.Coords) (v10 : BitVec 32) (v280 : BitVec 32) : Prop :=
  (∀ (k0_h2 : k0_cond2 i v10 = 1#1), 8 ∣ (k0_mult152 v280).toNat) ∧
  (∀ (k0_h2 : k0_cond2 i v10 = 1#1), ∀ a, (k0_off237 v280) a + S8x640.size a ≤ S40960x640.size a)
theorem k0_mult152_dvd : ∀ (i : grid0.Coords) (v10 : BitVec 32) (v280 : BitVec 32) (k0_hw157 : k0_chk157 i v10 v280), ∀ (k0_h2 : k0_cond2 i v10 = 1#1), 8 ∣ (k0_mult152 v280).toNat := fun i v10 v280 k0_hw157 k0_h2 => k0_hw157.1 k0_h2
theorem k0_off237_inb : ∀ (i : grid0.Coords) (v10 : BitVec 32) (v280 : BitVec 32) (k0_hw157 : k0_chk157 i v10 v280), ∀ (k0_h2 : k0_cond2 i v10 = 1#1), ∀ a, (k0_off237 v280) a + S8x640.size a ≤ S40960x640.size a := fun i v10 v280 k0_hw157 k0_h2 => k0_hw157.2 k0_h2

def k0_off238 (i : grid0.Coords) : Fin 1 → Nat :=
  let arg0 : BitVec 32 := BitVec.ofNat 32 (i 0).val
  let c4_i32 : BitVec 32 := 4#32
  let v35 : BitVec 32 := Scalar.addi arg0 c4_i32
  let c32_i32_99 : BitVec 32 := 32#32
  let v287 : BitVec 32 := Scalar.muli v35 c32_i32_99
  let c24_i32_100 : BitVec 32 := 24#32
  let v288 : BitVec 32 := Scalar.addi v287 c24_i32_100
  let v289 : Index := Scalar.indexCast v288
  ![v289.toNat]
def k0_mult153 (v290 : BitVec 32) : BitVec 32 :=
  v290

def k0_off239 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off240 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c192_i32 : BitVec 32 := 192#32
  let c0_i32_101 : BitVec 32 := 0#32
  ![v46.toNat, 192, 0]
def k0_off241 (v290 : BitVec 32) : Fin 2 → Nat :=
  let v291 : BitVec 32 := v290
  let c0_i32_102 : BitVec 32 := 0#32
  ![v291.toNat, 0]

def k0_chk158 (i : grid0.Coords) (v10 : BitVec 32) (v290 : BitVec 32) : Prop :=
  (∀ (k0_h2 : k0_cond2 i v10 = 1#1), 8 ∣ (k0_mult153 v290).toNat) ∧
  (∀ (k0_h2 : k0_cond2 i v10 = 1#1), ∀ a, (k0_off241 v290) a + S8x640.size a ≤ S40960x640.size a)
theorem k0_mult153_dvd : ∀ (i : grid0.Coords) (v10 : BitVec 32) (v290 : BitVec 32) (k0_hw158 : k0_chk158 i v10 v290), ∀ (k0_h2 : k0_cond2 i v10 = 1#1), 8 ∣ (k0_mult153 v290).toNat := fun i v10 v290 k0_hw158 k0_h2 => k0_hw158.1 k0_h2
theorem k0_off241_inb : ∀ (i : grid0.Coords) (v10 : BitVec 32) (v290 : BitVec 32) (k0_hw158 : k0_chk158 i v10 v290), ∀ (k0_h2 : k0_cond2 i v10 = 1#1), ∀ a, (k0_off241 v290) a + S8x640.size a ≤ S40960x640.size a := fun i v10 v290 k0_hw158 k0_h2 => k0_hw158.2 k0_h2

def k0_off242 (i : grid0.Coords) : Fin 1 → Nat :=
  let arg0 : BitVec 32 := BitVec.ofNat 32 (i 0).val
  let c4_i32 : BitVec 32 := 4#32
  let v35 : BitVec 32 := Scalar.addi arg0 c4_i32
  let c32_i32_103 : BitVec 32 := 32#32
  let v297 : BitVec 32 := Scalar.muli v35 c32_i32_103
  let c25_i32 : BitVec 32 := 25#32
  let v298 : BitVec 32 := Scalar.addi v297 c25_i32
  let v299 : Index := Scalar.indexCast v298
  ![v299.toNat]
def k0_mult154 (v300 : BitVec 32) : BitVec 32 :=
  v300

def k0_off243 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off244 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c200_i32 : BitVec 32 := 200#32
  let c0_i32_104 : BitVec 32 := 0#32
  ![v46.toNat, 200, 0]
def k0_off245 (v300 : BitVec 32) : Fin 2 → Nat :=
  let v301 : BitVec 32 := v300
  let c0_i32_105 : BitVec 32 := 0#32
  ![v301.toNat, 0]

def k0_chk159 (i : grid0.Coords) (v10 : BitVec 32) (v300 : BitVec 32) : Prop :=
  (∀ (k0_h2 : k0_cond2 i v10 = 1#1), 8 ∣ (k0_mult154 v300).toNat) ∧
  (∀ (k0_h2 : k0_cond2 i v10 = 1#1), ∀ a, (k0_off245 v300) a + S8x640.size a ≤ S40960x640.size a)
theorem k0_mult154_dvd : ∀ (i : grid0.Coords) (v10 : BitVec 32) (v300 : BitVec 32) (k0_hw159 : k0_chk159 i v10 v300), ∀ (k0_h2 : k0_cond2 i v10 = 1#1), 8 ∣ (k0_mult154 v300).toNat := fun i v10 v300 k0_hw159 k0_h2 => k0_hw159.1 k0_h2
theorem k0_off245_inb : ∀ (i : grid0.Coords) (v10 : BitVec 32) (v300 : BitVec 32) (k0_hw159 : k0_chk159 i v10 v300), ∀ (k0_h2 : k0_cond2 i v10 = 1#1), ∀ a, (k0_off245 v300) a + S8x640.size a ≤ S40960x640.size a := fun i v10 v300 k0_hw159 k0_h2 => k0_hw159.2 k0_h2

def k0_off246 (i : grid0.Coords) : Fin 1 → Nat :=
  let arg0 : BitVec 32 := BitVec.ofNat 32 (i 0).val
  let c4_i32 : BitVec 32 := 4#32
  let v35 : BitVec 32 := Scalar.addi arg0 c4_i32
  let c32_i32_106 : BitVec 32 := 32#32
  let v307 : BitVec 32 := Scalar.muli v35 c32_i32_106
  let c26_i32 : BitVec 32 := 26#32
  let v308 : BitVec 32 := Scalar.addi v307 c26_i32
  let v309 : Index := Scalar.indexCast v308
  ![v309.toNat]
def k0_mult155 (v310 : BitVec 32) : BitVec 32 :=
  v310

def k0_off247 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off248 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c208_i32 : BitVec 32 := 208#32
  let c0_i32_107 : BitVec 32 := 0#32
  ![v46.toNat, 208, 0]
def k0_off249 (v310 : BitVec 32) : Fin 2 → Nat :=
  let v311 : BitVec 32 := v310
  let c0_i32_108 : BitVec 32 := 0#32
  ![v311.toNat, 0]

def k0_chk160 (i : grid0.Coords) (v10 : BitVec 32) (v310 : BitVec 32) : Prop :=
  (∀ (k0_h2 : k0_cond2 i v10 = 1#1), 8 ∣ (k0_mult155 v310).toNat) ∧
  (∀ (k0_h2 : k0_cond2 i v10 = 1#1), ∀ a, (k0_off249 v310) a + S8x640.size a ≤ S40960x640.size a)
theorem k0_mult155_dvd : ∀ (i : grid0.Coords) (v10 : BitVec 32) (v310 : BitVec 32) (k0_hw160 : k0_chk160 i v10 v310), ∀ (k0_h2 : k0_cond2 i v10 = 1#1), 8 ∣ (k0_mult155 v310).toNat := fun i v10 v310 k0_hw160 k0_h2 => k0_hw160.1 k0_h2
theorem k0_off249_inb : ∀ (i : grid0.Coords) (v10 : BitVec 32) (v310 : BitVec 32) (k0_hw160 : k0_chk160 i v10 v310), ∀ (k0_h2 : k0_cond2 i v10 = 1#1), ∀ a, (k0_off249 v310) a + S8x640.size a ≤ S40960x640.size a := fun i v10 v310 k0_hw160 k0_h2 => k0_hw160.2 k0_h2

def k0_off250 (i : grid0.Coords) : Fin 1 → Nat :=
  let arg0 : BitVec 32 := BitVec.ofNat 32 (i 0).val
  let c4_i32 : BitVec 32 := 4#32
  let v35 : BitVec 32 := Scalar.addi arg0 c4_i32
  let c32_i32_109 : BitVec 32 := 32#32
  let v317 : BitVec 32 := Scalar.muli v35 c32_i32_109
  let c27_i32 : BitVec 32 := 27#32
  let v318 : BitVec 32 := Scalar.addi v317 c27_i32
  let v319 : Index := Scalar.indexCast v318
  ![v319.toNat]
def k0_mult156 (v320 : BitVec 32) : BitVec 32 :=
  v320

def k0_off251 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off252 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c216_i32 : BitVec 32 := 216#32
  let c0_i32_110 : BitVec 32 := 0#32
  ![v46.toNat, 216, 0]
def k0_off253 (v320 : BitVec 32) : Fin 2 → Nat :=
  let v321 : BitVec 32 := v320
  let c0_i32_111 : BitVec 32 := 0#32
  ![v321.toNat, 0]

def k0_chk161 (i : grid0.Coords) (v10 : BitVec 32) (v320 : BitVec 32) : Prop :=
  (∀ (k0_h2 : k0_cond2 i v10 = 1#1), 8 ∣ (k0_mult156 v320).toNat) ∧
  (∀ (k0_h2 : k0_cond2 i v10 = 1#1), ∀ a, (k0_off253 v320) a + S8x640.size a ≤ S40960x640.size a)
theorem k0_mult156_dvd : ∀ (i : grid0.Coords) (v10 : BitVec 32) (v320 : BitVec 32) (k0_hw161 : k0_chk161 i v10 v320), ∀ (k0_h2 : k0_cond2 i v10 = 1#1), 8 ∣ (k0_mult156 v320).toNat := fun i v10 v320 k0_hw161 k0_h2 => k0_hw161.1 k0_h2
theorem k0_off253_inb : ∀ (i : grid0.Coords) (v10 : BitVec 32) (v320 : BitVec 32) (k0_hw161 : k0_chk161 i v10 v320), ∀ (k0_h2 : k0_cond2 i v10 = 1#1), ∀ a, (k0_off253 v320) a + S8x640.size a ≤ S40960x640.size a := fun i v10 v320 k0_hw161 k0_h2 => k0_hw161.2 k0_h2

def k0_off254 (i : grid0.Coords) : Fin 1 → Nat :=
  let arg0 : BitVec 32 := BitVec.ofNat 32 (i 0).val
  let c4_i32 : BitVec 32 := 4#32
  let v35 : BitVec 32 := Scalar.addi arg0 c4_i32
  let c32_i32_112 : BitVec 32 := 32#32
  let v327 : BitVec 32 := Scalar.muli v35 c32_i32_112
  let c28_i32 : BitVec 32 := 28#32
  let v328 : BitVec 32 := Scalar.addi v327 c28_i32
  let v329 : Index := Scalar.indexCast v328
  ![v329.toNat]
def k0_mult157 (v330 : BitVec 32) : BitVec 32 :=
  v330

def k0_off255 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off256 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c224_i32 : BitVec 32 := 224#32
  let c0_i32_113 : BitVec 32 := 0#32
  ![v46.toNat, 224, 0]
def k0_off257 (v330 : BitVec 32) : Fin 2 → Nat :=
  let v331 : BitVec 32 := v330
  let c0_i32_114 : BitVec 32 := 0#32
  ![v331.toNat, 0]

def k0_chk162 (i : grid0.Coords) (v10 : BitVec 32) (v330 : BitVec 32) : Prop :=
  (∀ (k0_h2 : k0_cond2 i v10 = 1#1), 8 ∣ (k0_mult157 v330).toNat) ∧
  (∀ (k0_h2 : k0_cond2 i v10 = 1#1), ∀ a, (k0_off257 v330) a + S8x640.size a ≤ S40960x640.size a)
theorem k0_mult157_dvd : ∀ (i : grid0.Coords) (v10 : BitVec 32) (v330 : BitVec 32) (k0_hw162 : k0_chk162 i v10 v330), ∀ (k0_h2 : k0_cond2 i v10 = 1#1), 8 ∣ (k0_mult157 v330).toNat := fun i v10 v330 k0_hw162 k0_h2 => k0_hw162.1 k0_h2
theorem k0_off257_inb : ∀ (i : grid0.Coords) (v10 : BitVec 32) (v330 : BitVec 32) (k0_hw162 : k0_chk162 i v10 v330), ∀ (k0_h2 : k0_cond2 i v10 = 1#1), ∀ a, (k0_off257 v330) a + S8x640.size a ≤ S40960x640.size a := fun i v10 v330 k0_hw162 k0_h2 => k0_hw162.2 k0_h2

def k0_off258 (i : grid0.Coords) : Fin 1 → Nat :=
  let arg0 : BitVec 32 := BitVec.ofNat 32 (i 0).val
  let c4_i32 : BitVec 32 := 4#32
  let v35 : BitVec 32 := Scalar.addi arg0 c4_i32
  let c32_i32_115 : BitVec 32 := 32#32
  let v337 : BitVec 32 := Scalar.muli v35 c32_i32_115
  let c29_i32 : BitVec 32 := 29#32
  let v338 : BitVec 32 := Scalar.addi v337 c29_i32
  let v339 : Index := Scalar.indexCast v338
  ![v339.toNat]
def k0_mult158 (v340 : BitVec 32) : BitVec 32 :=
  v340

def k0_off259 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off260 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c232_i32 : BitVec 32 := 232#32
  let c0_i32_116 : BitVec 32 := 0#32
  ![v46.toNat, 232, 0]
def k0_off261 (v340 : BitVec 32) : Fin 2 → Nat :=
  let v341 : BitVec 32 := v340
  let c0_i32_117 : BitVec 32 := 0#32
  ![v341.toNat, 0]

def k0_chk163 (i : grid0.Coords) (v10 : BitVec 32) (v340 : BitVec 32) : Prop :=
  (∀ (k0_h2 : k0_cond2 i v10 = 1#1), 8 ∣ (k0_mult158 v340).toNat) ∧
  (∀ (k0_h2 : k0_cond2 i v10 = 1#1), ∀ a, (k0_off261 v340) a + S8x640.size a ≤ S40960x640.size a)
theorem k0_mult158_dvd : ∀ (i : grid0.Coords) (v10 : BitVec 32) (v340 : BitVec 32) (k0_hw163 : k0_chk163 i v10 v340), ∀ (k0_h2 : k0_cond2 i v10 = 1#1), 8 ∣ (k0_mult158 v340).toNat := fun i v10 v340 k0_hw163 k0_h2 => k0_hw163.1 k0_h2
theorem k0_off261_inb : ∀ (i : grid0.Coords) (v10 : BitVec 32) (v340 : BitVec 32) (k0_hw163 : k0_chk163 i v10 v340), ∀ (k0_h2 : k0_cond2 i v10 = 1#1), ∀ a, (k0_off261 v340) a + S8x640.size a ≤ S40960x640.size a := fun i v10 v340 k0_hw163 k0_h2 => k0_hw163.2 k0_h2

def k0_off262 (i : grid0.Coords) : Fin 1 → Nat :=
  let arg0 : BitVec 32 := BitVec.ofNat 32 (i 0).val
  let c4_i32 : BitVec 32 := 4#32
  let v35 : BitVec 32 := Scalar.addi arg0 c4_i32
  let c32_i32_118 : BitVec 32 := 32#32
  let v347 : BitVec 32 := Scalar.muli v35 c32_i32_118
  let c30_i32 : BitVec 32 := 30#32
  let v348 : BitVec 32 := Scalar.addi v347 c30_i32
  let v349 : Index := Scalar.indexCast v348
  ![v349.toNat]
def k0_mult159 (v350 : BitVec 32) : BitVec 32 :=
  v350

def k0_off263 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off264 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c240_i32 : BitVec 32 := 240#32
  let c0_i32_119 : BitVec 32 := 0#32
  ![v46.toNat, 240, 0]
def k0_off265 (v350 : BitVec 32) : Fin 2 → Nat :=
  let v351 : BitVec 32 := v350
  let c0_i32_120 : BitVec 32 := 0#32
  ![v351.toNat, 0]

def k0_chk164 (i : grid0.Coords) (v10 : BitVec 32) (v350 : BitVec 32) : Prop :=
  (∀ (k0_h2 : k0_cond2 i v10 = 1#1), 8 ∣ (k0_mult159 v350).toNat) ∧
  (∀ (k0_h2 : k0_cond2 i v10 = 1#1), ∀ a, (k0_off265 v350) a + S8x640.size a ≤ S40960x640.size a)
theorem k0_mult159_dvd : ∀ (i : grid0.Coords) (v10 : BitVec 32) (v350 : BitVec 32) (k0_hw164 : k0_chk164 i v10 v350), ∀ (k0_h2 : k0_cond2 i v10 = 1#1), 8 ∣ (k0_mult159 v350).toNat := fun i v10 v350 k0_hw164 k0_h2 => k0_hw164.1 k0_h2
theorem k0_off265_inb : ∀ (i : grid0.Coords) (v10 : BitVec 32) (v350 : BitVec 32) (k0_hw164 : k0_chk164 i v10 v350), ∀ (k0_h2 : k0_cond2 i v10 = 1#1), ∀ a, (k0_off265 v350) a + S8x640.size a ≤ S40960x640.size a := fun i v10 v350 k0_hw164 k0_h2 => k0_hw164.2 k0_h2

def k0_off266 (i : grid0.Coords) : Fin 1 → Nat :=
  let arg0 : BitVec 32 := BitVec.ofNat 32 (i 0).val
  let c4_i32 : BitVec 32 := 4#32
  let v35 : BitVec 32 := Scalar.addi arg0 c4_i32
  let c32_i32_121 : BitVec 32 := 32#32
  let v357 : BitVec 32 := Scalar.muli v35 c32_i32_121
  let c31_i32 : BitVec 32 := 31#32
  let v358 : BitVec 32 := Scalar.addi v357 c31_i32
  let v359 : Index := Scalar.indexCast v358
  ![v359.toNat]
def k0_mult160 (v360 : BitVec 32) : BitVec 32 :=
  v360

def k0_off267 (i : grid0.Coords) : Fin 1 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  ![v46.toNat]
def k0_off268 (i : grid0.Coords) : Fin 3 → Nat :=
  let arg0 : BitVec 32 := BitVec.ofNat 32 (i 0).val
  let c4_i32_13 : BitVec 32 := 4#32
  let v36 : BitVec 32 := Scalar.addi arg0 c4_i32_13
  let c5_i32_14 : BitVec 32 := 5#32
  let c0_i32_15 : BitVec 32 := 0#32
  let v37 : BitVec 1 := Scalar.cmpi .eq c5_i32_14 c0_i32_15
  let c1_i32_16 : BitVec 32 := 1#32
  let v38 : BitVec 32 := Scalar.select v37 c1_i32_16 c5_i32_14
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c248_i32 : BitVec 32 := 248#32
  let c0_i32_122 : BitVec 32 := 0#32
  ![v46.toNat, 248, 0]
def k0_off269 (v360 : BitVec 32) : Fin 2 → Nat :=
  let v361 : BitVec 32 := v360
  let c0_i32_123 : BitVec 32 := 0#32
  ![v361.toNat, 0]

def k0_chk165 (i : grid0.Coords) (v10 : BitVec 32) (v360 : BitVec 32) : Prop :=
  (∀ (k0_h2 : k0_cond2 i v10 = 1#1), 8 ∣ (k0_mult160 v360).toNat) ∧
  (∀ (k0_h2 : k0_cond2 i v10 = 1#1), ∀ a, (k0_off269 v360) a + S8x640.size a ≤ S40960x640.size a)
theorem k0_mult160_dvd : ∀ (i : grid0.Coords) (v10 : BitVec 32) (v360 : BitVec 32) (k0_hw165 : k0_chk165 i v10 v360), ∀ (k0_h2 : k0_cond2 i v10 = 1#1), 8 ∣ (k0_mult160 v360).toNat := fun i v10 v360 k0_hw165 k0_h2 => k0_hw165.1 k0_h2
theorem k0_off269_inb : ∀ (i : grid0.Coords) (v10 : BitVec 32) (v360 : BitVec 32) (k0_hw165 : k0_chk165 i v10 v360), ∀ (k0_h2 : k0_cond2 i v10 = 1#1), ∀ a, (k0_off269 v360) a + S8x640.size a ≤ S40960x640.size a := fun i v10 v360 k0_hw165 k0_h2 => k0_hw165.2 k0_h2

def k0_off270 (i : grid0.Coords) : Fin 3 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v367 : Index := Scalar.indexCast v9
  let c0 : Index := 0#32
  let c0_124 : Index := 0#32
  ![v367.toNat, 0, 0]
def k0_off271 (i : grid0.Coords) : Fin 1 → Nat :=
  let arg0 : BitVec 32 := BitVec.ofNat 32 (i 0).val
  let c4_i32 : BitVec 32 := 4#32
  let v25 : BitVec 32 := Scalar.addi arg0 c4_i32
  let c32_i32 : BitVec 32 := 32#32
  let v37 : BitVec 32 := Scalar.muli v25 c32_i32
  let c0_i32_15 : BitVec 32 := 0#32
  let v38 : BitVec 32 := Scalar.addi v37 c0_i32_15
  let v39 : Index := Scalar.indexCast v38
  ![v39.toNat]
def k0_mult161 (v40 : BitVec 32) : BitVec 32 :=
  v40
def k0_cond5 (i : grid0.Coords) (v10 : BitVec 32) : BitVec 1 :=
  let arg0 : BitVec 32 := BitVec.ofNat 32 (i 0).val
  let v19 : BitVec 1 := Scalar.cmpi .sge arg0 v10
  let v20 : BitVec 32 := Scalar.extui v19
  let c0_i32_6 : BitVec 32 := 0#32
  let v21 : BitVec 1 := Scalar.cmpi .ne v20 c0_i32_6
  v21

def k0_off272 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off273 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_16 : BitVec 32 := 0#32
  let c0_i32_17 : BitVec 32 := 0#32
  ![v36.toNat, 0, 0]
def k0_off274 (v40 : BitVec 32) : Fin 2 → Nat :=
  let v41 : BitVec 32 := v40
  let c0_i32_18 : BitVec 32 := 0#32
  ![v41.toNat, 0]

def k0_chk166 (i : grid0.Coords) (v10 : BitVec 32) (v40 : BitVec 32) : Prop :=
  (∀ (k0_h5 : k0_cond5 i v10 = 1#1), 8 ∣ (k0_mult161 v40).toNat) ∧
  (∀ (k0_h5 : k0_cond5 i v10 = 1#1), ∀ a, (k0_off274 v40) a + S8x640.size a ≤ S40960x640.size a)
theorem k0_mult161_dvd : ∀ (i : grid0.Coords) (v10 : BitVec 32) (v40 : BitVec 32) (k0_hw166 : k0_chk166 i v10 v40), ∀ (k0_h5 : k0_cond5 i v10 = 1#1), 8 ∣ (k0_mult161 v40).toNat := fun i v10 v40 k0_hw166 k0_h5 => k0_hw166.1 k0_h5
theorem k0_off274_inb : ∀ (i : grid0.Coords) (v10 : BitVec 32) (v40 : BitVec 32) (k0_hw166 : k0_chk166 i v10 v40), ∀ (k0_h5 : k0_cond5 i v10 = 1#1), ∀ a, (k0_off274 v40) a + S8x640.size a ≤ S40960x640.size a := fun i v10 v40 k0_hw166 k0_h5 => k0_hw166.2 k0_h5

def k0_off275 (i : grid0.Coords) : Fin 1 → Nat :=
  let arg0 : BitVec 32 := BitVec.ofNat 32 (i 0).val
  let c4_i32 : BitVec 32 := 4#32
  let v25 : BitVec 32 := Scalar.addi arg0 c4_i32
  let c32_i32_19 : BitVec 32 := 32#32
  let v47 : BitVec 32 := Scalar.muli v25 c32_i32_19
  let c1_i32_20 : BitVec 32 := 1#32
  let v48 : BitVec 32 := Scalar.addi v47 c1_i32_20
  let v49 : Index := Scalar.indexCast v48
  ![v49.toNat]
def k0_mult162 (v50 : BitVec 32) : BitVec 32 :=
  v50

def k0_off276 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off277 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c8_i32 : BitVec 32 := 8#32
  let c0_i32_21 : BitVec 32 := 0#32
  ![v36.toNat, 8, 0]
def k0_off278 (v50 : BitVec 32) : Fin 2 → Nat :=
  let v51 : BitVec 32 := v50
  let c0_i32_22 : BitVec 32 := 0#32
  ![v51.toNat, 0]

def k0_chk167 (i : grid0.Coords) (v10 : BitVec 32) (v50 : BitVec 32) : Prop :=
  (∀ (k0_h5 : k0_cond5 i v10 = 1#1), 8 ∣ (k0_mult162 v50).toNat) ∧
  (∀ (k0_h5 : k0_cond5 i v10 = 1#1), ∀ a, (k0_off278 v50) a + S8x640.size a ≤ S40960x640.size a)
theorem k0_mult162_dvd : ∀ (i : grid0.Coords) (v10 : BitVec 32) (v50 : BitVec 32) (k0_hw167 : k0_chk167 i v10 v50), ∀ (k0_h5 : k0_cond5 i v10 = 1#1), 8 ∣ (k0_mult162 v50).toNat := fun i v10 v50 k0_hw167 k0_h5 => k0_hw167.1 k0_h5
theorem k0_off278_inb : ∀ (i : grid0.Coords) (v10 : BitVec 32) (v50 : BitVec 32) (k0_hw167 : k0_chk167 i v10 v50), ∀ (k0_h5 : k0_cond5 i v10 = 1#1), ∀ a, (k0_off278 v50) a + S8x640.size a ≤ S40960x640.size a := fun i v10 v50 k0_hw167 k0_h5 => k0_hw167.2 k0_h5

def k0_off279 (i : grid0.Coords) : Fin 1 → Nat :=
  let arg0 : BitVec 32 := BitVec.ofNat 32 (i 0).val
  let c4_i32 : BitVec 32 := 4#32
  let v25 : BitVec 32 := Scalar.addi arg0 c4_i32
  let c32_i32_23 : BitVec 32 := 32#32
  let v57 : BitVec 32 := Scalar.muli v25 c32_i32_23
  let c2_i32 : BitVec 32 := 2#32
  let v58 : BitVec 32 := Scalar.addi v57 c2_i32
  let v59 : Index := Scalar.indexCast v58
  ![v59.toNat]
def k0_mult163 (v60 : BitVec 32) : BitVec 32 :=
  v60

def k0_off280 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off281 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c16_i32 : BitVec 32 := 16#32
  let c0_i32_24 : BitVec 32 := 0#32
  ![v36.toNat, 16, 0]
def k0_off282 (v60 : BitVec 32) : Fin 2 → Nat :=
  let v61 : BitVec 32 := v60
  let c0_i32_25 : BitVec 32 := 0#32
  ![v61.toNat, 0]

def k0_chk168 (i : grid0.Coords) (v10 : BitVec 32) (v60 : BitVec 32) : Prop :=
  (∀ (k0_h5 : k0_cond5 i v10 = 1#1), 8 ∣ (k0_mult163 v60).toNat) ∧
  (∀ (k0_h5 : k0_cond5 i v10 = 1#1), ∀ a, (k0_off282 v60) a + S8x640.size a ≤ S40960x640.size a)
theorem k0_mult163_dvd : ∀ (i : grid0.Coords) (v10 : BitVec 32) (v60 : BitVec 32) (k0_hw168 : k0_chk168 i v10 v60), ∀ (k0_h5 : k0_cond5 i v10 = 1#1), 8 ∣ (k0_mult163 v60).toNat := fun i v10 v60 k0_hw168 k0_h5 => k0_hw168.1 k0_h5
theorem k0_off282_inb : ∀ (i : grid0.Coords) (v10 : BitVec 32) (v60 : BitVec 32) (k0_hw168 : k0_chk168 i v10 v60), ∀ (k0_h5 : k0_cond5 i v10 = 1#1), ∀ a, (k0_off282 v60) a + S8x640.size a ≤ S40960x640.size a := fun i v10 v60 k0_hw168 k0_h5 => k0_hw168.2 k0_h5

def k0_off283 (i : grid0.Coords) : Fin 1 → Nat :=
  let arg0 : BitVec 32 := BitVec.ofNat 32 (i 0).val
  let c4_i32 : BitVec 32 := 4#32
  let v25 : BitVec 32 := Scalar.addi arg0 c4_i32
  let c32_i32_26 : BitVec 32 := 32#32
  let v67 : BitVec 32 := Scalar.muli v25 c32_i32_26
  let c3_i32 : BitVec 32 := 3#32
  let v68 : BitVec 32 := Scalar.addi v67 c3_i32
  let v69 : Index := Scalar.indexCast v68
  ![v69.toNat]
def k0_mult164 (v70 : BitVec 32) : BitVec 32 :=
  v70

def k0_off284 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off285 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c24_i32 : BitVec 32 := 24#32
  let c0_i32_27 : BitVec 32 := 0#32
  ![v36.toNat, 24, 0]
def k0_off286 (v70 : BitVec 32) : Fin 2 → Nat :=
  let v71 : BitVec 32 := v70
  let c0_i32_28 : BitVec 32 := 0#32
  ![v71.toNat, 0]

def k0_chk169 (i : grid0.Coords) (v10 : BitVec 32) (v70 : BitVec 32) : Prop :=
  (∀ (k0_h5 : k0_cond5 i v10 = 1#1), 8 ∣ (k0_mult164 v70).toNat) ∧
  (∀ (k0_h5 : k0_cond5 i v10 = 1#1), ∀ a, (k0_off286 v70) a + S8x640.size a ≤ S40960x640.size a)
theorem k0_mult164_dvd : ∀ (i : grid0.Coords) (v10 : BitVec 32) (v70 : BitVec 32) (k0_hw169 : k0_chk169 i v10 v70), ∀ (k0_h5 : k0_cond5 i v10 = 1#1), 8 ∣ (k0_mult164 v70).toNat := fun i v10 v70 k0_hw169 k0_h5 => k0_hw169.1 k0_h5
theorem k0_off286_inb : ∀ (i : grid0.Coords) (v10 : BitVec 32) (v70 : BitVec 32) (k0_hw169 : k0_chk169 i v10 v70), ∀ (k0_h5 : k0_cond5 i v10 = 1#1), ∀ a, (k0_off286 v70) a + S8x640.size a ≤ S40960x640.size a := fun i v10 v70 k0_hw169 k0_h5 => k0_hw169.2 k0_h5

def k0_off287 (i : grid0.Coords) : Fin 1 → Nat :=
  let arg0 : BitVec 32 := BitVec.ofNat 32 (i 0).val
  let c4_i32 : BitVec 32 := 4#32
  let v25 : BitVec 32 := Scalar.addi arg0 c4_i32
  let c32_i32_29 : BitVec 32 := 32#32
  let v77 : BitVec 32 := Scalar.muli v25 c32_i32_29
  let c4_i32_30 : BitVec 32 := 4#32
  let v78 : BitVec 32 := Scalar.addi v77 c4_i32_30
  let v79 : Index := Scalar.indexCast v78
  ![v79.toNat]
def k0_mult165 (v80 : BitVec 32) : BitVec 32 :=
  v80

def k0_off288 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off289 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c32_i32_31 : BitVec 32 := 32#32
  let c0_i32_32 : BitVec 32 := 0#32
  ![v36.toNat, 32, 0]
def k0_off290 (v80 : BitVec 32) : Fin 2 → Nat :=
  let v81 : BitVec 32 := v80
  let c0_i32_33 : BitVec 32 := 0#32
  ![v81.toNat, 0]

def k0_chk170 (i : grid0.Coords) (v10 : BitVec 32) (v80 : BitVec 32) : Prop :=
  (∀ (k0_h5 : k0_cond5 i v10 = 1#1), 8 ∣ (k0_mult165 v80).toNat) ∧
  (∀ (k0_h5 : k0_cond5 i v10 = 1#1), ∀ a, (k0_off290 v80) a + S8x640.size a ≤ S40960x640.size a)
theorem k0_mult165_dvd : ∀ (i : grid0.Coords) (v10 : BitVec 32) (v80 : BitVec 32) (k0_hw170 : k0_chk170 i v10 v80), ∀ (k0_h5 : k0_cond5 i v10 = 1#1), 8 ∣ (k0_mult165 v80).toNat := fun i v10 v80 k0_hw170 k0_h5 => k0_hw170.1 k0_h5
theorem k0_off290_inb : ∀ (i : grid0.Coords) (v10 : BitVec 32) (v80 : BitVec 32) (k0_hw170 : k0_chk170 i v10 v80), ∀ (k0_h5 : k0_cond5 i v10 = 1#1), ∀ a, (k0_off290 v80) a + S8x640.size a ≤ S40960x640.size a := fun i v10 v80 k0_hw170 k0_h5 => k0_hw170.2 k0_h5

def k0_off291 (i : grid0.Coords) : Fin 1 → Nat :=
  let arg0 : BitVec 32 := BitVec.ofNat 32 (i 0).val
  let c4_i32 : BitVec 32 := 4#32
  let v25 : BitVec 32 := Scalar.addi arg0 c4_i32
  let c32_i32_34 : BitVec 32 := 32#32
  let v87 : BitVec 32 := Scalar.muli v25 c32_i32_34
  let c5_i32_35 : BitVec 32 := 5#32
  let v88 : BitVec 32 := Scalar.addi v87 c5_i32_35
  let v89 : Index := Scalar.indexCast v88
  ![v89.toNat]
def k0_mult166 (v90 : BitVec 32) : BitVec 32 :=
  v90

def k0_off292 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off293 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c40_i32 : BitVec 32 := 40#32
  let c0_i32_36 : BitVec 32 := 0#32
  ![v36.toNat, 40, 0]
def k0_off294 (v90 : BitVec 32) : Fin 2 → Nat :=
  let v91 : BitVec 32 := v90
  let c0_i32_37 : BitVec 32 := 0#32
  ![v91.toNat, 0]

def k0_chk171 (i : grid0.Coords) (v10 : BitVec 32) (v90 : BitVec 32) : Prop :=
  (∀ (k0_h5 : k0_cond5 i v10 = 1#1), 8 ∣ (k0_mult166 v90).toNat) ∧
  (∀ (k0_h5 : k0_cond5 i v10 = 1#1), ∀ a, (k0_off294 v90) a + S8x640.size a ≤ S40960x640.size a)
theorem k0_mult166_dvd : ∀ (i : grid0.Coords) (v10 : BitVec 32) (v90 : BitVec 32) (k0_hw171 : k0_chk171 i v10 v90), ∀ (k0_h5 : k0_cond5 i v10 = 1#1), 8 ∣ (k0_mult166 v90).toNat := fun i v10 v90 k0_hw171 k0_h5 => k0_hw171.1 k0_h5
theorem k0_off294_inb : ∀ (i : grid0.Coords) (v10 : BitVec 32) (v90 : BitVec 32) (k0_hw171 : k0_chk171 i v10 v90), ∀ (k0_h5 : k0_cond5 i v10 = 1#1), ∀ a, (k0_off294 v90) a + S8x640.size a ≤ S40960x640.size a := fun i v10 v90 k0_hw171 k0_h5 => k0_hw171.2 k0_h5

def k0_off295 (i : grid0.Coords) : Fin 1 → Nat :=
  let arg0 : BitVec 32 := BitVec.ofNat 32 (i 0).val
  let c4_i32 : BitVec 32 := 4#32
  let v25 : BitVec 32 := Scalar.addi arg0 c4_i32
  let c32_i32_38 : BitVec 32 := 32#32
  let v97 : BitVec 32 := Scalar.muli v25 c32_i32_38
  let c6_i32 : BitVec 32 := 6#32
  let v98 : BitVec 32 := Scalar.addi v97 c6_i32
  let v99 : Index := Scalar.indexCast v98
  ![v99.toNat]
def k0_mult167 (v100 : BitVec 32) : BitVec 32 :=
  v100

def k0_off296 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off297 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c48_i32 : BitVec 32 := 48#32
  let c0_i32_39 : BitVec 32 := 0#32
  ![v36.toNat, 48, 0]
def k0_off298 (v100 : BitVec 32) : Fin 2 → Nat :=
  let v101 : BitVec 32 := v100
  let c0_i32_40 : BitVec 32 := 0#32
  ![v101.toNat, 0]

def k0_chk172 (i : grid0.Coords) (v10 : BitVec 32) (v100 : BitVec 32) : Prop :=
  (∀ (k0_h5 : k0_cond5 i v10 = 1#1), 8 ∣ (k0_mult167 v100).toNat) ∧
  (∀ (k0_h5 : k0_cond5 i v10 = 1#1), ∀ a, (k0_off298 v100) a + S8x640.size a ≤ S40960x640.size a)
theorem k0_mult167_dvd : ∀ (i : grid0.Coords) (v10 : BitVec 32) (v100 : BitVec 32) (k0_hw172 : k0_chk172 i v10 v100), ∀ (k0_h5 : k0_cond5 i v10 = 1#1), 8 ∣ (k0_mult167 v100).toNat := fun i v10 v100 k0_hw172 k0_h5 => k0_hw172.1 k0_h5
theorem k0_off298_inb : ∀ (i : grid0.Coords) (v10 : BitVec 32) (v100 : BitVec 32) (k0_hw172 : k0_chk172 i v10 v100), ∀ (k0_h5 : k0_cond5 i v10 = 1#1), ∀ a, (k0_off298 v100) a + S8x640.size a ≤ S40960x640.size a := fun i v10 v100 k0_hw172 k0_h5 => k0_hw172.2 k0_h5

def k0_off299 (i : grid0.Coords) : Fin 1 → Nat :=
  let arg0 : BitVec 32 := BitVec.ofNat 32 (i 0).val
  let c4_i32 : BitVec 32 := 4#32
  let v25 : BitVec 32 := Scalar.addi arg0 c4_i32
  let c32_i32_41 : BitVec 32 := 32#32
  let v107 : BitVec 32 := Scalar.muli v25 c32_i32_41
  let c7_i32 : BitVec 32 := 7#32
  let v108 : BitVec 32 := Scalar.addi v107 c7_i32
  let v109 : Index := Scalar.indexCast v108
  ![v109.toNat]
def k0_mult168 (v110 : BitVec 32) : BitVec 32 :=
  v110

def k0_off300 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off301 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c56_i32 : BitVec 32 := 56#32
  let c0_i32_42 : BitVec 32 := 0#32
  ![v36.toNat, 56, 0]
def k0_off302 (v110 : BitVec 32) : Fin 2 → Nat :=
  let v111 : BitVec 32 := v110
  let c0_i32_43 : BitVec 32 := 0#32
  ![v111.toNat, 0]

def k0_chk173 (i : grid0.Coords) (v10 : BitVec 32) (v110 : BitVec 32) : Prop :=
  (∀ (k0_h5 : k0_cond5 i v10 = 1#1), 8 ∣ (k0_mult168 v110).toNat) ∧
  (∀ (k0_h5 : k0_cond5 i v10 = 1#1), ∀ a, (k0_off302 v110) a + S8x640.size a ≤ S40960x640.size a)
theorem k0_mult168_dvd : ∀ (i : grid0.Coords) (v10 : BitVec 32) (v110 : BitVec 32) (k0_hw173 : k0_chk173 i v10 v110), ∀ (k0_h5 : k0_cond5 i v10 = 1#1), 8 ∣ (k0_mult168 v110).toNat := fun i v10 v110 k0_hw173 k0_h5 => k0_hw173.1 k0_h5
theorem k0_off302_inb : ∀ (i : grid0.Coords) (v10 : BitVec 32) (v110 : BitVec 32) (k0_hw173 : k0_chk173 i v10 v110), ∀ (k0_h5 : k0_cond5 i v10 = 1#1), ∀ a, (k0_off302 v110) a + S8x640.size a ≤ S40960x640.size a := fun i v10 v110 k0_hw173 k0_h5 => k0_hw173.2 k0_h5

def k0_off303 (i : grid0.Coords) : Fin 1 → Nat :=
  let arg0 : BitVec 32 := BitVec.ofNat 32 (i 0).val
  let c4_i32 : BitVec 32 := 4#32
  let v25 : BitVec 32 := Scalar.addi arg0 c4_i32
  let c32_i32_44 : BitVec 32 := 32#32
  let v117 : BitVec 32 := Scalar.muli v25 c32_i32_44
  let c8_i32_45 : BitVec 32 := 8#32
  let v118 : BitVec 32 := Scalar.addi v117 c8_i32_45
  let v119 : Index := Scalar.indexCast v118
  ![v119.toNat]
def k0_mult169 (v120 : BitVec 32) : BitVec 32 :=
  v120

def k0_off304 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off305 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c64_i32 : BitVec 32 := 64#32
  let c0_i32_46 : BitVec 32 := 0#32
  ![v36.toNat, 64, 0]
def k0_off306 (v120 : BitVec 32) : Fin 2 → Nat :=
  let v121 : BitVec 32 := v120
  let c0_i32_47 : BitVec 32 := 0#32
  ![v121.toNat, 0]

def k0_chk174 (i : grid0.Coords) (v10 : BitVec 32) (v120 : BitVec 32) : Prop :=
  (∀ (k0_h5 : k0_cond5 i v10 = 1#1), 8 ∣ (k0_mult169 v120).toNat) ∧
  (∀ (k0_h5 : k0_cond5 i v10 = 1#1), ∀ a, (k0_off306 v120) a + S8x640.size a ≤ S40960x640.size a)
theorem k0_mult169_dvd : ∀ (i : grid0.Coords) (v10 : BitVec 32) (v120 : BitVec 32) (k0_hw174 : k0_chk174 i v10 v120), ∀ (k0_h5 : k0_cond5 i v10 = 1#1), 8 ∣ (k0_mult169 v120).toNat := fun i v10 v120 k0_hw174 k0_h5 => k0_hw174.1 k0_h5
theorem k0_off306_inb : ∀ (i : grid0.Coords) (v10 : BitVec 32) (v120 : BitVec 32) (k0_hw174 : k0_chk174 i v10 v120), ∀ (k0_h5 : k0_cond5 i v10 = 1#1), ∀ a, (k0_off306 v120) a + S8x640.size a ≤ S40960x640.size a := fun i v10 v120 k0_hw174 k0_h5 => k0_hw174.2 k0_h5

def k0_off307 (i : grid0.Coords) : Fin 1 → Nat :=
  let arg0 : BitVec 32 := BitVec.ofNat 32 (i 0).val
  let c4_i32 : BitVec 32 := 4#32
  let v25 : BitVec 32 := Scalar.addi arg0 c4_i32
  let c32_i32_48 : BitVec 32 := 32#32
  let v127 : BitVec 32 := Scalar.muli v25 c32_i32_48
  let c9_i32 : BitVec 32 := 9#32
  let v128 : BitVec 32 := Scalar.addi v127 c9_i32
  let v129 : Index := Scalar.indexCast v128
  ![v129.toNat]
def k0_mult170 (v130 : BitVec 32) : BitVec 32 :=
  v130

def k0_off308 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off309 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c72_i32 : BitVec 32 := 72#32
  let c0_i32_49 : BitVec 32 := 0#32
  ![v36.toNat, 72, 0]
def k0_off310 (v130 : BitVec 32) : Fin 2 → Nat :=
  let v131 : BitVec 32 := v130
  let c0_i32_50 : BitVec 32 := 0#32
  ![v131.toNat, 0]

def k0_chk175 (i : grid0.Coords) (v10 : BitVec 32) (v130 : BitVec 32) : Prop :=
  (∀ (k0_h5 : k0_cond5 i v10 = 1#1), 8 ∣ (k0_mult170 v130).toNat) ∧
  (∀ (k0_h5 : k0_cond5 i v10 = 1#1), ∀ a, (k0_off310 v130) a + S8x640.size a ≤ S40960x640.size a)
theorem k0_mult170_dvd : ∀ (i : grid0.Coords) (v10 : BitVec 32) (v130 : BitVec 32) (k0_hw175 : k0_chk175 i v10 v130), ∀ (k0_h5 : k0_cond5 i v10 = 1#1), 8 ∣ (k0_mult170 v130).toNat := fun i v10 v130 k0_hw175 k0_h5 => k0_hw175.1 k0_h5
theorem k0_off310_inb : ∀ (i : grid0.Coords) (v10 : BitVec 32) (v130 : BitVec 32) (k0_hw175 : k0_chk175 i v10 v130), ∀ (k0_h5 : k0_cond5 i v10 = 1#1), ∀ a, (k0_off310 v130) a + S8x640.size a ≤ S40960x640.size a := fun i v10 v130 k0_hw175 k0_h5 => k0_hw175.2 k0_h5

def k0_off311 (i : grid0.Coords) : Fin 1 → Nat :=
  let arg0 : BitVec 32 := BitVec.ofNat 32 (i 0).val
  let c4_i32 : BitVec 32 := 4#32
  let v25 : BitVec 32 := Scalar.addi arg0 c4_i32
  let c32_i32_51 : BitVec 32 := 32#32
  let v137 : BitVec 32 := Scalar.muli v25 c32_i32_51
  let c10_i32 : BitVec 32 := 10#32
  let v138 : BitVec 32 := Scalar.addi v137 c10_i32
  let v139 : Index := Scalar.indexCast v138
  ![v139.toNat]
def k0_mult171 (v140 : BitVec 32) : BitVec 32 :=
  v140

def k0_off312 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off313 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c80_i32 : BitVec 32 := 80#32
  let c0_i32_52 : BitVec 32 := 0#32
  ![v36.toNat, 80, 0]
def k0_off314 (v140 : BitVec 32) : Fin 2 → Nat :=
  let v141 : BitVec 32 := v140
  let c0_i32_53 : BitVec 32 := 0#32
  ![v141.toNat, 0]

def k0_chk176 (i : grid0.Coords) (v10 : BitVec 32) (v140 : BitVec 32) : Prop :=
  (∀ (k0_h5 : k0_cond5 i v10 = 1#1), 8 ∣ (k0_mult171 v140).toNat) ∧
  (∀ (k0_h5 : k0_cond5 i v10 = 1#1), ∀ a, (k0_off314 v140) a + S8x640.size a ≤ S40960x640.size a)
theorem k0_mult171_dvd : ∀ (i : grid0.Coords) (v10 : BitVec 32) (v140 : BitVec 32) (k0_hw176 : k0_chk176 i v10 v140), ∀ (k0_h5 : k0_cond5 i v10 = 1#1), 8 ∣ (k0_mult171 v140).toNat := fun i v10 v140 k0_hw176 k0_h5 => k0_hw176.1 k0_h5
theorem k0_off314_inb : ∀ (i : grid0.Coords) (v10 : BitVec 32) (v140 : BitVec 32) (k0_hw176 : k0_chk176 i v10 v140), ∀ (k0_h5 : k0_cond5 i v10 = 1#1), ∀ a, (k0_off314 v140) a + S8x640.size a ≤ S40960x640.size a := fun i v10 v140 k0_hw176 k0_h5 => k0_hw176.2 k0_h5

def k0_off315 (i : grid0.Coords) : Fin 1 → Nat :=
  let arg0 : BitVec 32 := BitVec.ofNat 32 (i 0).val
  let c4_i32 : BitVec 32 := 4#32
  let v25 : BitVec 32 := Scalar.addi arg0 c4_i32
  let c32_i32_54 : BitVec 32 := 32#32
  let v147 : BitVec 32 := Scalar.muli v25 c32_i32_54
  let c11_i32 : BitVec 32 := 11#32
  let v148 : BitVec 32 := Scalar.addi v147 c11_i32
  let v149 : Index := Scalar.indexCast v148
  ![v149.toNat]
def k0_mult172 (v150 : BitVec 32) : BitVec 32 :=
  v150

def k0_off316 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off317 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c88_i32 : BitVec 32 := 88#32
  let c0_i32_55 : BitVec 32 := 0#32
  ![v36.toNat, 88, 0]
def k0_off318 (v150 : BitVec 32) : Fin 2 → Nat :=
  let v151 : BitVec 32 := v150
  let c0_i32_56 : BitVec 32 := 0#32
  ![v151.toNat, 0]

def k0_chk177 (i : grid0.Coords) (v10 : BitVec 32) (v150 : BitVec 32) : Prop :=
  (∀ (k0_h5 : k0_cond5 i v10 = 1#1), 8 ∣ (k0_mult172 v150).toNat) ∧
  (∀ (k0_h5 : k0_cond5 i v10 = 1#1), ∀ a, (k0_off318 v150) a + S8x640.size a ≤ S40960x640.size a)
theorem k0_mult172_dvd : ∀ (i : grid0.Coords) (v10 : BitVec 32) (v150 : BitVec 32) (k0_hw177 : k0_chk177 i v10 v150), ∀ (k0_h5 : k0_cond5 i v10 = 1#1), 8 ∣ (k0_mult172 v150).toNat := fun i v10 v150 k0_hw177 k0_h5 => k0_hw177.1 k0_h5
theorem k0_off318_inb : ∀ (i : grid0.Coords) (v10 : BitVec 32) (v150 : BitVec 32) (k0_hw177 : k0_chk177 i v10 v150), ∀ (k0_h5 : k0_cond5 i v10 = 1#1), ∀ a, (k0_off318 v150) a + S8x640.size a ≤ S40960x640.size a := fun i v10 v150 k0_hw177 k0_h5 => k0_hw177.2 k0_h5

def k0_off319 (i : grid0.Coords) : Fin 1 → Nat :=
  let arg0 : BitVec 32 := BitVec.ofNat 32 (i 0).val
  let c4_i32 : BitVec 32 := 4#32
  let v25 : BitVec 32 := Scalar.addi arg0 c4_i32
  let c32_i32_57 : BitVec 32 := 32#32
  let v157 : BitVec 32 := Scalar.muli v25 c32_i32_57
  let c12_i32 : BitVec 32 := 12#32
  let v158 : BitVec 32 := Scalar.addi v157 c12_i32
  let v159 : Index := Scalar.indexCast v158
  ![v159.toNat]
def k0_mult173 (v160 : BitVec 32) : BitVec 32 :=
  v160

def k0_off320 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off321 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c96_i32 : BitVec 32 := 96#32
  let c0_i32_58 : BitVec 32 := 0#32
  ![v36.toNat, 96, 0]
def k0_off322 (v160 : BitVec 32) : Fin 2 → Nat :=
  let v161 : BitVec 32 := v160
  let c0_i32_59 : BitVec 32 := 0#32
  ![v161.toNat, 0]

def k0_chk178 (i : grid0.Coords) (v10 : BitVec 32) (v160 : BitVec 32) : Prop :=
  (∀ (k0_h5 : k0_cond5 i v10 = 1#1), 8 ∣ (k0_mult173 v160).toNat) ∧
  (∀ (k0_h5 : k0_cond5 i v10 = 1#1), ∀ a, (k0_off322 v160) a + S8x640.size a ≤ S40960x640.size a)
theorem k0_mult173_dvd : ∀ (i : grid0.Coords) (v10 : BitVec 32) (v160 : BitVec 32) (k0_hw178 : k0_chk178 i v10 v160), ∀ (k0_h5 : k0_cond5 i v10 = 1#1), 8 ∣ (k0_mult173 v160).toNat := fun i v10 v160 k0_hw178 k0_h5 => k0_hw178.1 k0_h5
theorem k0_off322_inb : ∀ (i : grid0.Coords) (v10 : BitVec 32) (v160 : BitVec 32) (k0_hw178 : k0_chk178 i v10 v160), ∀ (k0_h5 : k0_cond5 i v10 = 1#1), ∀ a, (k0_off322 v160) a + S8x640.size a ≤ S40960x640.size a := fun i v10 v160 k0_hw178 k0_h5 => k0_hw178.2 k0_h5

def k0_off323 (i : grid0.Coords) : Fin 1 → Nat :=
  let arg0 : BitVec 32 := BitVec.ofNat 32 (i 0).val
  let c4_i32 : BitVec 32 := 4#32
  let v25 : BitVec 32 := Scalar.addi arg0 c4_i32
  let c32_i32_60 : BitVec 32 := 32#32
  let v167 : BitVec 32 := Scalar.muli v25 c32_i32_60
  let c13_i32 : BitVec 32 := 13#32
  let v168 : BitVec 32 := Scalar.addi v167 c13_i32
  let v169 : Index := Scalar.indexCast v168
  ![v169.toNat]
def k0_mult174 (v170 : BitVec 32) : BitVec 32 :=
  v170

def k0_off324 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off325 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c104_i32 : BitVec 32 := 104#32
  let c0_i32_61 : BitVec 32 := 0#32
  ![v36.toNat, 104, 0]
def k0_off326 (v170 : BitVec 32) : Fin 2 → Nat :=
  let v171 : BitVec 32 := v170
  let c0_i32_62 : BitVec 32 := 0#32
  ![v171.toNat, 0]

def k0_chk179 (i : grid0.Coords) (v10 : BitVec 32) (v170 : BitVec 32) : Prop :=
  (∀ (k0_h5 : k0_cond5 i v10 = 1#1), 8 ∣ (k0_mult174 v170).toNat) ∧
  (∀ (k0_h5 : k0_cond5 i v10 = 1#1), ∀ a, (k0_off326 v170) a + S8x640.size a ≤ S40960x640.size a)
theorem k0_mult174_dvd : ∀ (i : grid0.Coords) (v10 : BitVec 32) (v170 : BitVec 32) (k0_hw179 : k0_chk179 i v10 v170), ∀ (k0_h5 : k0_cond5 i v10 = 1#1), 8 ∣ (k0_mult174 v170).toNat := fun i v10 v170 k0_hw179 k0_h5 => k0_hw179.1 k0_h5
theorem k0_off326_inb : ∀ (i : grid0.Coords) (v10 : BitVec 32) (v170 : BitVec 32) (k0_hw179 : k0_chk179 i v10 v170), ∀ (k0_h5 : k0_cond5 i v10 = 1#1), ∀ a, (k0_off326 v170) a + S8x640.size a ≤ S40960x640.size a := fun i v10 v170 k0_hw179 k0_h5 => k0_hw179.2 k0_h5

def k0_off327 (i : grid0.Coords) : Fin 1 → Nat :=
  let arg0 : BitVec 32 := BitVec.ofNat 32 (i 0).val
  let c4_i32 : BitVec 32 := 4#32
  let v25 : BitVec 32 := Scalar.addi arg0 c4_i32
  let c32_i32_63 : BitVec 32 := 32#32
  let v177 : BitVec 32 := Scalar.muli v25 c32_i32_63
  let c14_i32 : BitVec 32 := 14#32
  let v178 : BitVec 32 := Scalar.addi v177 c14_i32
  let v179 : Index := Scalar.indexCast v178
  ![v179.toNat]
def k0_mult175 (v180 : BitVec 32) : BitVec 32 :=
  v180

def k0_off328 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off329 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c112_i32 : BitVec 32 := 112#32
  let c0_i32_64 : BitVec 32 := 0#32
  ![v36.toNat, 112, 0]
def k0_off330 (v180 : BitVec 32) : Fin 2 → Nat :=
  let v181 : BitVec 32 := v180
  let c0_i32_65 : BitVec 32 := 0#32
  ![v181.toNat, 0]

def k0_chk180 (i : grid0.Coords) (v10 : BitVec 32) (v180 : BitVec 32) : Prop :=
  (∀ (k0_h5 : k0_cond5 i v10 = 1#1), 8 ∣ (k0_mult175 v180).toNat) ∧
  (∀ (k0_h5 : k0_cond5 i v10 = 1#1), ∀ a, (k0_off330 v180) a + S8x640.size a ≤ S40960x640.size a)
theorem k0_mult175_dvd : ∀ (i : grid0.Coords) (v10 : BitVec 32) (v180 : BitVec 32) (k0_hw180 : k0_chk180 i v10 v180), ∀ (k0_h5 : k0_cond5 i v10 = 1#1), 8 ∣ (k0_mult175 v180).toNat := fun i v10 v180 k0_hw180 k0_h5 => k0_hw180.1 k0_h5
theorem k0_off330_inb : ∀ (i : grid0.Coords) (v10 : BitVec 32) (v180 : BitVec 32) (k0_hw180 : k0_chk180 i v10 v180), ∀ (k0_h5 : k0_cond5 i v10 = 1#1), ∀ a, (k0_off330 v180) a + S8x640.size a ≤ S40960x640.size a := fun i v10 v180 k0_hw180 k0_h5 => k0_hw180.2 k0_h5

def k0_off331 (i : grid0.Coords) : Fin 1 → Nat :=
  let arg0 : BitVec 32 := BitVec.ofNat 32 (i 0).val
  let c4_i32 : BitVec 32 := 4#32
  let v25 : BitVec 32 := Scalar.addi arg0 c4_i32
  let c32_i32_66 : BitVec 32 := 32#32
  let v187 : BitVec 32 := Scalar.muli v25 c32_i32_66
  let c15_i32 : BitVec 32 := 15#32
  let v188 : BitVec 32 := Scalar.addi v187 c15_i32
  let v189 : Index := Scalar.indexCast v188
  ![v189.toNat]
def k0_mult176 (v190 : BitVec 32) : BitVec 32 :=
  v190

def k0_off332 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off333 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c120_i32 : BitVec 32 := 120#32
  let c0_i32_67 : BitVec 32 := 0#32
  ![v36.toNat, 120, 0]
def k0_off334 (v190 : BitVec 32) : Fin 2 → Nat :=
  let v191 : BitVec 32 := v190
  let c0_i32_68 : BitVec 32 := 0#32
  ![v191.toNat, 0]

def k0_chk181 (i : grid0.Coords) (v10 : BitVec 32) (v190 : BitVec 32) : Prop :=
  (∀ (k0_h5 : k0_cond5 i v10 = 1#1), 8 ∣ (k0_mult176 v190).toNat) ∧
  (∀ (k0_h5 : k0_cond5 i v10 = 1#1), ∀ a, (k0_off334 v190) a + S8x640.size a ≤ S40960x640.size a)
theorem k0_mult176_dvd : ∀ (i : grid0.Coords) (v10 : BitVec 32) (v190 : BitVec 32) (k0_hw181 : k0_chk181 i v10 v190), ∀ (k0_h5 : k0_cond5 i v10 = 1#1), 8 ∣ (k0_mult176 v190).toNat := fun i v10 v190 k0_hw181 k0_h5 => k0_hw181.1 k0_h5
theorem k0_off334_inb : ∀ (i : grid0.Coords) (v10 : BitVec 32) (v190 : BitVec 32) (k0_hw181 : k0_chk181 i v10 v190), ∀ (k0_h5 : k0_cond5 i v10 = 1#1), ∀ a, (k0_off334 v190) a + S8x640.size a ≤ S40960x640.size a := fun i v10 v190 k0_hw181 k0_h5 => k0_hw181.2 k0_h5

def k0_off335 (i : grid0.Coords) : Fin 1 → Nat :=
  let arg0 : BitVec 32 := BitVec.ofNat 32 (i 0).val
  let c4_i32 : BitVec 32 := 4#32
  let v25 : BitVec 32 := Scalar.addi arg0 c4_i32
  let c32_i32_69 : BitVec 32 := 32#32
  let v197 : BitVec 32 := Scalar.muli v25 c32_i32_69
  let c16_i32_70 : BitVec 32 := 16#32
  let v198 : BitVec 32 := Scalar.addi v197 c16_i32_70
  let v199 : Index := Scalar.indexCast v198
  ![v199.toNat]
def k0_mult177 (v200 : BitVec 32) : BitVec 32 :=
  v200

def k0_off336 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off337 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c128_i32 : BitVec 32 := 128#32
  let c0_i32_71 : BitVec 32 := 0#32
  ![v36.toNat, 128, 0]
def k0_off338 (v200 : BitVec 32) : Fin 2 → Nat :=
  let v201 : BitVec 32 := v200
  let c0_i32_72 : BitVec 32 := 0#32
  ![v201.toNat, 0]

def k0_chk182 (i : grid0.Coords) (v10 : BitVec 32) (v200 : BitVec 32) : Prop :=
  (∀ (k0_h5 : k0_cond5 i v10 = 1#1), 8 ∣ (k0_mult177 v200).toNat) ∧
  (∀ (k0_h5 : k0_cond5 i v10 = 1#1), ∀ a, (k0_off338 v200) a + S8x640.size a ≤ S40960x640.size a)
theorem k0_mult177_dvd : ∀ (i : grid0.Coords) (v10 : BitVec 32) (v200 : BitVec 32) (k0_hw182 : k0_chk182 i v10 v200), ∀ (k0_h5 : k0_cond5 i v10 = 1#1), 8 ∣ (k0_mult177 v200).toNat := fun i v10 v200 k0_hw182 k0_h5 => k0_hw182.1 k0_h5
theorem k0_off338_inb : ∀ (i : grid0.Coords) (v10 : BitVec 32) (v200 : BitVec 32) (k0_hw182 : k0_chk182 i v10 v200), ∀ (k0_h5 : k0_cond5 i v10 = 1#1), ∀ a, (k0_off338 v200) a + S8x640.size a ≤ S40960x640.size a := fun i v10 v200 k0_hw182 k0_h5 => k0_hw182.2 k0_h5

def k0_off339 (i : grid0.Coords) : Fin 1 → Nat :=
  let arg0 : BitVec 32 := BitVec.ofNat 32 (i 0).val
  let c4_i32 : BitVec 32 := 4#32
  let v25 : BitVec 32 := Scalar.addi arg0 c4_i32
  let c32_i32_73 : BitVec 32 := 32#32
  let v207 : BitVec 32 := Scalar.muli v25 c32_i32_73
  let c17_i32 : BitVec 32 := 17#32
  let v208 : BitVec 32 := Scalar.addi v207 c17_i32
  let v209 : Index := Scalar.indexCast v208
  ![v209.toNat]
def k0_mult178 (v210 : BitVec 32) : BitVec 32 :=
  v210

def k0_off340 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off341 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c136_i32 : BitVec 32 := 136#32
  let c0_i32_74 : BitVec 32 := 0#32
  ![v36.toNat, 136, 0]
def k0_off342 (v210 : BitVec 32) : Fin 2 → Nat :=
  let v211 : BitVec 32 := v210
  let c0_i32_75 : BitVec 32 := 0#32
  ![v211.toNat, 0]

def k0_chk183 (i : grid0.Coords) (v10 : BitVec 32) (v210 : BitVec 32) : Prop :=
  (∀ (k0_h5 : k0_cond5 i v10 = 1#1), 8 ∣ (k0_mult178 v210).toNat) ∧
  (∀ (k0_h5 : k0_cond5 i v10 = 1#1), ∀ a, (k0_off342 v210) a + S8x640.size a ≤ S40960x640.size a)
theorem k0_mult178_dvd : ∀ (i : grid0.Coords) (v10 : BitVec 32) (v210 : BitVec 32) (k0_hw183 : k0_chk183 i v10 v210), ∀ (k0_h5 : k0_cond5 i v10 = 1#1), 8 ∣ (k0_mult178 v210).toNat := fun i v10 v210 k0_hw183 k0_h5 => k0_hw183.1 k0_h5
theorem k0_off342_inb : ∀ (i : grid0.Coords) (v10 : BitVec 32) (v210 : BitVec 32) (k0_hw183 : k0_chk183 i v10 v210), ∀ (k0_h5 : k0_cond5 i v10 = 1#1), ∀ a, (k0_off342 v210) a + S8x640.size a ≤ S40960x640.size a := fun i v10 v210 k0_hw183 k0_h5 => k0_hw183.2 k0_h5

def k0_off343 (i : grid0.Coords) : Fin 1 → Nat :=
  let arg0 : BitVec 32 := BitVec.ofNat 32 (i 0).val
  let c4_i32 : BitVec 32 := 4#32
  let v25 : BitVec 32 := Scalar.addi arg0 c4_i32
  let c32_i32_76 : BitVec 32 := 32#32
  let v217 : BitVec 32 := Scalar.muli v25 c32_i32_76
  let c18_i32 : BitVec 32 := 18#32
  let v218 : BitVec 32 := Scalar.addi v217 c18_i32
  let v219 : Index := Scalar.indexCast v218
  ![v219.toNat]
def k0_mult179 (v220 : BitVec 32) : BitVec 32 :=
  v220

def k0_off344 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off345 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c144_i32 : BitVec 32 := 144#32
  let c0_i32_77 : BitVec 32 := 0#32
  ![v36.toNat, 144, 0]
def k0_off346 (v220 : BitVec 32) : Fin 2 → Nat :=
  let v221 : BitVec 32 := v220
  let c0_i32_78 : BitVec 32 := 0#32
  ![v221.toNat, 0]

def k0_chk184 (i : grid0.Coords) (v10 : BitVec 32) (v220 : BitVec 32) : Prop :=
  (∀ (k0_h5 : k0_cond5 i v10 = 1#1), 8 ∣ (k0_mult179 v220).toNat) ∧
  (∀ (k0_h5 : k0_cond5 i v10 = 1#1), ∀ a, (k0_off346 v220) a + S8x640.size a ≤ S40960x640.size a)
theorem k0_mult179_dvd : ∀ (i : grid0.Coords) (v10 : BitVec 32) (v220 : BitVec 32) (k0_hw184 : k0_chk184 i v10 v220), ∀ (k0_h5 : k0_cond5 i v10 = 1#1), 8 ∣ (k0_mult179 v220).toNat := fun i v10 v220 k0_hw184 k0_h5 => k0_hw184.1 k0_h5
theorem k0_off346_inb : ∀ (i : grid0.Coords) (v10 : BitVec 32) (v220 : BitVec 32) (k0_hw184 : k0_chk184 i v10 v220), ∀ (k0_h5 : k0_cond5 i v10 = 1#1), ∀ a, (k0_off346 v220) a + S8x640.size a ≤ S40960x640.size a := fun i v10 v220 k0_hw184 k0_h5 => k0_hw184.2 k0_h5

def k0_off347 (i : grid0.Coords) : Fin 1 → Nat :=
  let arg0 : BitVec 32 := BitVec.ofNat 32 (i 0).val
  let c4_i32 : BitVec 32 := 4#32
  let v25 : BitVec 32 := Scalar.addi arg0 c4_i32
  let c32_i32_79 : BitVec 32 := 32#32
  let v227 : BitVec 32 := Scalar.muli v25 c32_i32_79
  let c19_i32 : BitVec 32 := 19#32
  let v228 : BitVec 32 := Scalar.addi v227 c19_i32
  let v229 : Index := Scalar.indexCast v228
  ![v229.toNat]
def k0_mult180 (v230 : BitVec 32) : BitVec 32 :=
  v230

def k0_off348 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off349 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c152_i32 : BitVec 32 := 152#32
  let c0_i32_80 : BitVec 32 := 0#32
  ![v36.toNat, 152, 0]
def k0_off350 (v230 : BitVec 32) : Fin 2 → Nat :=
  let v231 : BitVec 32 := v230
  let c0_i32_81 : BitVec 32 := 0#32
  ![v231.toNat, 0]

def k0_chk185 (i : grid0.Coords) (v10 : BitVec 32) (v230 : BitVec 32) : Prop :=
  (∀ (k0_h5 : k0_cond5 i v10 = 1#1), 8 ∣ (k0_mult180 v230).toNat) ∧
  (∀ (k0_h5 : k0_cond5 i v10 = 1#1), ∀ a, (k0_off350 v230) a + S8x640.size a ≤ S40960x640.size a)
theorem k0_mult180_dvd : ∀ (i : grid0.Coords) (v10 : BitVec 32) (v230 : BitVec 32) (k0_hw185 : k0_chk185 i v10 v230), ∀ (k0_h5 : k0_cond5 i v10 = 1#1), 8 ∣ (k0_mult180 v230).toNat := fun i v10 v230 k0_hw185 k0_h5 => k0_hw185.1 k0_h5
theorem k0_off350_inb : ∀ (i : grid0.Coords) (v10 : BitVec 32) (v230 : BitVec 32) (k0_hw185 : k0_chk185 i v10 v230), ∀ (k0_h5 : k0_cond5 i v10 = 1#1), ∀ a, (k0_off350 v230) a + S8x640.size a ≤ S40960x640.size a := fun i v10 v230 k0_hw185 k0_h5 => k0_hw185.2 k0_h5

def k0_off351 (i : grid0.Coords) : Fin 1 → Nat :=
  let arg0 : BitVec 32 := BitVec.ofNat 32 (i 0).val
  let c4_i32 : BitVec 32 := 4#32
  let v25 : BitVec 32 := Scalar.addi arg0 c4_i32
  let c32_i32_82 : BitVec 32 := 32#32
  let v237 : BitVec 32 := Scalar.muli v25 c32_i32_82
  let c20_i32 : BitVec 32 := 20#32
  let v238 : BitVec 32 := Scalar.addi v237 c20_i32
  let v239 : Index := Scalar.indexCast v238
  ![v239.toNat]
def k0_mult181 (v240 : BitVec 32) : BitVec 32 :=
  v240

def k0_off352 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off353 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c160_i32 : BitVec 32 := 160#32
  let c0_i32_83 : BitVec 32 := 0#32
  ![v36.toNat, 160, 0]
def k0_off354 (v240 : BitVec 32) : Fin 2 → Nat :=
  let v241 : BitVec 32 := v240
  let c0_i32_84 : BitVec 32 := 0#32
  ![v241.toNat, 0]

def k0_chk186 (i : grid0.Coords) (v10 : BitVec 32) (v240 : BitVec 32) : Prop :=
  (∀ (k0_h5 : k0_cond5 i v10 = 1#1), 8 ∣ (k0_mult181 v240).toNat) ∧
  (∀ (k0_h5 : k0_cond5 i v10 = 1#1), ∀ a, (k0_off354 v240) a + S8x640.size a ≤ S40960x640.size a)
theorem k0_mult181_dvd : ∀ (i : grid0.Coords) (v10 : BitVec 32) (v240 : BitVec 32) (k0_hw186 : k0_chk186 i v10 v240), ∀ (k0_h5 : k0_cond5 i v10 = 1#1), 8 ∣ (k0_mult181 v240).toNat := fun i v10 v240 k0_hw186 k0_h5 => k0_hw186.1 k0_h5
theorem k0_off354_inb : ∀ (i : grid0.Coords) (v10 : BitVec 32) (v240 : BitVec 32) (k0_hw186 : k0_chk186 i v10 v240), ∀ (k0_h5 : k0_cond5 i v10 = 1#1), ∀ a, (k0_off354 v240) a + S8x640.size a ≤ S40960x640.size a := fun i v10 v240 k0_hw186 k0_h5 => k0_hw186.2 k0_h5

def k0_off355 (i : grid0.Coords) : Fin 1 → Nat :=
  let arg0 : BitVec 32 := BitVec.ofNat 32 (i 0).val
  let c4_i32 : BitVec 32 := 4#32
  let v25 : BitVec 32 := Scalar.addi arg0 c4_i32
  let c32_i32_85 : BitVec 32 := 32#32
  let v247 : BitVec 32 := Scalar.muli v25 c32_i32_85
  let c21_i32 : BitVec 32 := 21#32
  let v248 : BitVec 32 := Scalar.addi v247 c21_i32
  let v249 : Index := Scalar.indexCast v248
  ![v249.toNat]
def k0_mult182 (v250 : BitVec 32) : BitVec 32 :=
  v250

def k0_off356 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off357 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c168_i32 : BitVec 32 := 168#32
  let c0_i32_86 : BitVec 32 := 0#32
  ![v36.toNat, 168, 0]
def k0_off358 (v250 : BitVec 32) : Fin 2 → Nat :=
  let v251 : BitVec 32 := v250
  let c0_i32_87 : BitVec 32 := 0#32
  ![v251.toNat, 0]

def k0_chk187 (i : grid0.Coords) (v10 : BitVec 32) (v250 : BitVec 32) : Prop :=
  (∀ (k0_h5 : k0_cond5 i v10 = 1#1), 8 ∣ (k0_mult182 v250).toNat) ∧
  (∀ (k0_h5 : k0_cond5 i v10 = 1#1), ∀ a, (k0_off358 v250) a + S8x640.size a ≤ S40960x640.size a)
theorem k0_mult182_dvd : ∀ (i : grid0.Coords) (v10 : BitVec 32) (v250 : BitVec 32) (k0_hw187 : k0_chk187 i v10 v250), ∀ (k0_h5 : k0_cond5 i v10 = 1#1), 8 ∣ (k0_mult182 v250).toNat := fun i v10 v250 k0_hw187 k0_h5 => k0_hw187.1 k0_h5
theorem k0_off358_inb : ∀ (i : grid0.Coords) (v10 : BitVec 32) (v250 : BitVec 32) (k0_hw187 : k0_chk187 i v10 v250), ∀ (k0_h5 : k0_cond5 i v10 = 1#1), ∀ a, (k0_off358 v250) a + S8x640.size a ≤ S40960x640.size a := fun i v10 v250 k0_hw187 k0_h5 => k0_hw187.2 k0_h5

def k0_off359 (i : grid0.Coords) : Fin 1 → Nat :=
  let arg0 : BitVec 32 := BitVec.ofNat 32 (i 0).val
  let c4_i32 : BitVec 32 := 4#32
  let v25 : BitVec 32 := Scalar.addi arg0 c4_i32
  let c32_i32_88 : BitVec 32 := 32#32
  let v257 : BitVec 32 := Scalar.muli v25 c32_i32_88
  let c22_i32 : BitVec 32 := 22#32
  let v258 : BitVec 32 := Scalar.addi v257 c22_i32
  let v259 : Index := Scalar.indexCast v258
  ![v259.toNat]
def k0_mult183 (v260 : BitVec 32) : BitVec 32 :=
  v260

def k0_off360 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off361 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c176_i32 : BitVec 32 := 176#32
  let c0_i32_89 : BitVec 32 := 0#32
  ![v36.toNat, 176, 0]
def k0_off362 (v260 : BitVec 32) : Fin 2 → Nat :=
  let v261 : BitVec 32 := v260
  let c0_i32_90 : BitVec 32 := 0#32
  ![v261.toNat, 0]

def k0_chk188 (i : grid0.Coords) (v10 : BitVec 32) (v260 : BitVec 32) : Prop :=
  (∀ (k0_h5 : k0_cond5 i v10 = 1#1), 8 ∣ (k0_mult183 v260).toNat) ∧
  (∀ (k0_h5 : k0_cond5 i v10 = 1#1), ∀ a, (k0_off362 v260) a + S8x640.size a ≤ S40960x640.size a)
theorem k0_mult183_dvd : ∀ (i : grid0.Coords) (v10 : BitVec 32) (v260 : BitVec 32) (k0_hw188 : k0_chk188 i v10 v260), ∀ (k0_h5 : k0_cond5 i v10 = 1#1), 8 ∣ (k0_mult183 v260).toNat := fun i v10 v260 k0_hw188 k0_h5 => k0_hw188.1 k0_h5
theorem k0_off362_inb : ∀ (i : grid0.Coords) (v10 : BitVec 32) (v260 : BitVec 32) (k0_hw188 : k0_chk188 i v10 v260), ∀ (k0_h5 : k0_cond5 i v10 = 1#1), ∀ a, (k0_off362 v260) a + S8x640.size a ≤ S40960x640.size a := fun i v10 v260 k0_hw188 k0_h5 => k0_hw188.2 k0_h5

def k0_off363 (i : grid0.Coords) : Fin 1 → Nat :=
  let arg0 : BitVec 32 := BitVec.ofNat 32 (i 0).val
  let c4_i32 : BitVec 32 := 4#32
  let v25 : BitVec 32 := Scalar.addi arg0 c4_i32
  let c32_i32_91 : BitVec 32 := 32#32
  let v267 : BitVec 32 := Scalar.muli v25 c32_i32_91
  let c23_i32 : BitVec 32 := 23#32
  let v268 : BitVec 32 := Scalar.addi v267 c23_i32
  let v269 : Index := Scalar.indexCast v268
  ![v269.toNat]
def k0_mult184 (v270 : BitVec 32) : BitVec 32 :=
  v270

def k0_off364 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off365 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c184_i32 : BitVec 32 := 184#32
  let c0_i32_92 : BitVec 32 := 0#32
  ![v36.toNat, 184, 0]
def k0_off366 (v270 : BitVec 32) : Fin 2 → Nat :=
  let v271 : BitVec 32 := v270
  let c0_i32_93 : BitVec 32 := 0#32
  ![v271.toNat, 0]

def k0_chk189 (i : grid0.Coords) (v10 : BitVec 32) (v270 : BitVec 32) : Prop :=
  (∀ (k0_h5 : k0_cond5 i v10 = 1#1), 8 ∣ (k0_mult184 v270).toNat) ∧
  (∀ (k0_h5 : k0_cond5 i v10 = 1#1), ∀ a, (k0_off366 v270) a + S8x640.size a ≤ S40960x640.size a)
theorem k0_mult184_dvd : ∀ (i : grid0.Coords) (v10 : BitVec 32) (v270 : BitVec 32) (k0_hw189 : k0_chk189 i v10 v270), ∀ (k0_h5 : k0_cond5 i v10 = 1#1), 8 ∣ (k0_mult184 v270).toNat := fun i v10 v270 k0_hw189 k0_h5 => k0_hw189.1 k0_h5
theorem k0_off366_inb : ∀ (i : grid0.Coords) (v10 : BitVec 32) (v270 : BitVec 32) (k0_hw189 : k0_chk189 i v10 v270), ∀ (k0_h5 : k0_cond5 i v10 = 1#1), ∀ a, (k0_off366 v270) a + S8x640.size a ≤ S40960x640.size a := fun i v10 v270 k0_hw189 k0_h5 => k0_hw189.2 k0_h5

def k0_off367 (i : grid0.Coords) : Fin 1 → Nat :=
  let arg0 : BitVec 32 := BitVec.ofNat 32 (i 0).val
  let c4_i32 : BitVec 32 := 4#32
  let v25 : BitVec 32 := Scalar.addi arg0 c4_i32
  let c32_i32_94 : BitVec 32 := 32#32
  let v277 : BitVec 32 := Scalar.muli v25 c32_i32_94
  let c24_i32_95 : BitVec 32 := 24#32
  let v278 : BitVec 32 := Scalar.addi v277 c24_i32_95
  let v279 : Index := Scalar.indexCast v278
  ![v279.toNat]
def k0_mult185 (v280 : BitVec 32) : BitVec 32 :=
  v280

def k0_off368 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off369 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c192_i32 : BitVec 32 := 192#32
  let c0_i32_96 : BitVec 32 := 0#32
  ![v36.toNat, 192, 0]
def k0_off370 (v280 : BitVec 32) : Fin 2 → Nat :=
  let v281 : BitVec 32 := v280
  let c0_i32_97 : BitVec 32 := 0#32
  ![v281.toNat, 0]

def k0_chk190 (i : grid0.Coords) (v10 : BitVec 32) (v280 : BitVec 32) : Prop :=
  (∀ (k0_h5 : k0_cond5 i v10 = 1#1), 8 ∣ (k0_mult185 v280).toNat) ∧
  (∀ (k0_h5 : k0_cond5 i v10 = 1#1), ∀ a, (k0_off370 v280) a + S8x640.size a ≤ S40960x640.size a)
theorem k0_mult185_dvd : ∀ (i : grid0.Coords) (v10 : BitVec 32) (v280 : BitVec 32) (k0_hw190 : k0_chk190 i v10 v280), ∀ (k0_h5 : k0_cond5 i v10 = 1#1), 8 ∣ (k0_mult185 v280).toNat := fun i v10 v280 k0_hw190 k0_h5 => k0_hw190.1 k0_h5
theorem k0_off370_inb : ∀ (i : grid0.Coords) (v10 : BitVec 32) (v280 : BitVec 32) (k0_hw190 : k0_chk190 i v10 v280), ∀ (k0_h5 : k0_cond5 i v10 = 1#1), ∀ a, (k0_off370 v280) a + S8x640.size a ≤ S40960x640.size a := fun i v10 v280 k0_hw190 k0_h5 => k0_hw190.2 k0_h5

def k0_off371 (i : grid0.Coords) : Fin 1 → Nat :=
  let arg0 : BitVec 32 := BitVec.ofNat 32 (i 0).val
  let c4_i32 : BitVec 32 := 4#32
  let v25 : BitVec 32 := Scalar.addi arg0 c4_i32
  let c32_i32_98 : BitVec 32 := 32#32
  let v287 : BitVec 32 := Scalar.muli v25 c32_i32_98
  let c25_i32 : BitVec 32 := 25#32
  let v288 : BitVec 32 := Scalar.addi v287 c25_i32
  let v289 : Index := Scalar.indexCast v288
  ![v289.toNat]
def k0_mult186 (v290 : BitVec 32) : BitVec 32 :=
  v290

def k0_off372 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off373 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c200_i32 : BitVec 32 := 200#32
  let c0_i32_99 : BitVec 32 := 0#32
  ![v36.toNat, 200, 0]
def k0_off374 (v290 : BitVec 32) : Fin 2 → Nat :=
  let v291 : BitVec 32 := v290
  let c0_i32_100 : BitVec 32 := 0#32
  ![v291.toNat, 0]

def k0_chk191 (i : grid0.Coords) (v10 : BitVec 32) (v290 : BitVec 32) : Prop :=
  (∀ (k0_h5 : k0_cond5 i v10 = 1#1), 8 ∣ (k0_mult186 v290).toNat) ∧
  (∀ (k0_h5 : k0_cond5 i v10 = 1#1), ∀ a, (k0_off374 v290) a + S8x640.size a ≤ S40960x640.size a)
theorem k0_mult186_dvd : ∀ (i : grid0.Coords) (v10 : BitVec 32) (v290 : BitVec 32) (k0_hw191 : k0_chk191 i v10 v290), ∀ (k0_h5 : k0_cond5 i v10 = 1#1), 8 ∣ (k0_mult186 v290).toNat := fun i v10 v290 k0_hw191 k0_h5 => k0_hw191.1 k0_h5
theorem k0_off374_inb : ∀ (i : grid0.Coords) (v10 : BitVec 32) (v290 : BitVec 32) (k0_hw191 : k0_chk191 i v10 v290), ∀ (k0_h5 : k0_cond5 i v10 = 1#1), ∀ a, (k0_off374 v290) a + S8x640.size a ≤ S40960x640.size a := fun i v10 v290 k0_hw191 k0_h5 => k0_hw191.2 k0_h5

def k0_off375 (i : grid0.Coords) : Fin 1 → Nat :=
  let arg0 : BitVec 32 := BitVec.ofNat 32 (i 0).val
  let c4_i32 : BitVec 32 := 4#32
  let v25 : BitVec 32 := Scalar.addi arg0 c4_i32
  let c32_i32_101 : BitVec 32 := 32#32
  let v297 : BitVec 32 := Scalar.muli v25 c32_i32_101
  let c26_i32 : BitVec 32 := 26#32
  let v298 : BitVec 32 := Scalar.addi v297 c26_i32
  let v299 : Index := Scalar.indexCast v298
  ![v299.toNat]
def k0_mult187 (v300 : BitVec 32) : BitVec 32 :=
  v300

def k0_off376 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off377 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c208_i32 : BitVec 32 := 208#32
  let c0_i32_102 : BitVec 32 := 0#32
  ![v36.toNat, 208, 0]
def k0_off378 (v300 : BitVec 32) : Fin 2 → Nat :=
  let v301 : BitVec 32 := v300
  let c0_i32_103 : BitVec 32 := 0#32
  ![v301.toNat, 0]

def k0_chk192 (i : grid0.Coords) (v10 : BitVec 32) (v300 : BitVec 32) : Prop :=
  (∀ (k0_h5 : k0_cond5 i v10 = 1#1), 8 ∣ (k0_mult187 v300).toNat) ∧
  (∀ (k0_h5 : k0_cond5 i v10 = 1#1), ∀ a, (k0_off378 v300) a + S8x640.size a ≤ S40960x640.size a)
theorem k0_mult187_dvd : ∀ (i : grid0.Coords) (v10 : BitVec 32) (v300 : BitVec 32) (k0_hw192 : k0_chk192 i v10 v300), ∀ (k0_h5 : k0_cond5 i v10 = 1#1), 8 ∣ (k0_mult187 v300).toNat := fun i v10 v300 k0_hw192 k0_h5 => k0_hw192.1 k0_h5
theorem k0_off378_inb : ∀ (i : grid0.Coords) (v10 : BitVec 32) (v300 : BitVec 32) (k0_hw192 : k0_chk192 i v10 v300), ∀ (k0_h5 : k0_cond5 i v10 = 1#1), ∀ a, (k0_off378 v300) a + S8x640.size a ≤ S40960x640.size a := fun i v10 v300 k0_hw192 k0_h5 => k0_hw192.2 k0_h5

def k0_off379 (i : grid0.Coords) : Fin 1 → Nat :=
  let arg0 : BitVec 32 := BitVec.ofNat 32 (i 0).val
  let c4_i32 : BitVec 32 := 4#32
  let v25 : BitVec 32 := Scalar.addi arg0 c4_i32
  let c32_i32_104 : BitVec 32 := 32#32
  let v307 : BitVec 32 := Scalar.muli v25 c32_i32_104
  let c27_i32 : BitVec 32 := 27#32
  let v308 : BitVec 32 := Scalar.addi v307 c27_i32
  let v309 : Index := Scalar.indexCast v308
  ![v309.toNat]
def k0_mult188 (v310 : BitVec 32) : BitVec 32 :=
  v310

def k0_off380 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off381 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c216_i32 : BitVec 32 := 216#32
  let c0_i32_105 : BitVec 32 := 0#32
  ![v36.toNat, 216, 0]
def k0_off382 (v310 : BitVec 32) : Fin 2 → Nat :=
  let v311 : BitVec 32 := v310
  let c0_i32_106 : BitVec 32 := 0#32
  ![v311.toNat, 0]

def k0_chk193 (i : grid0.Coords) (v10 : BitVec 32) (v310 : BitVec 32) : Prop :=
  (∀ (k0_h5 : k0_cond5 i v10 = 1#1), 8 ∣ (k0_mult188 v310).toNat) ∧
  (∀ (k0_h5 : k0_cond5 i v10 = 1#1), ∀ a, (k0_off382 v310) a + S8x640.size a ≤ S40960x640.size a)
theorem k0_mult188_dvd : ∀ (i : grid0.Coords) (v10 : BitVec 32) (v310 : BitVec 32) (k0_hw193 : k0_chk193 i v10 v310), ∀ (k0_h5 : k0_cond5 i v10 = 1#1), 8 ∣ (k0_mult188 v310).toNat := fun i v10 v310 k0_hw193 k0_h5 => k0_hw193.1 k0_h5
theorem k0_off382_inb : ∀ (i : grid0.Coords) (v10 : BitVec 32) (v310 : BitVec 32) (k0_hw193 : k0_chk193 i v10 v310), ∀ (k0_h5 : k0_cond5 i v10 = 1#1), ∀ a, (k0_off382 v310) a + S8x640.size a ≤ S40960x640.size a := fun i v10 v310 k0_hw193 k0_h5 => k0_hw193.2 k0_h5

def k0_off383 (i : grid0.Coords) : Fin 1 → Nat :=
  let arg0 : BitVec 32 := BitVec.ofNat 32 (i 0).val
  let c4_i32 : BitVec 32 := 4#32
  let v25 : BitVec 32 := Scalar.addi arg0 c4_i32
  let c32_i32_107 : BitVec 32 := 32#32
  let v317 : BitVec 32 := Scalar.muli v25 c32_i32_107
  let c28_i32 : BitVec 32 := 28#32
  let v318 : BitVec 32 := Scalar.addi v317 c28_i32
  let v319 : Index := Scalar.indexCast v318
  ![v319.toNat]
def k0_mult189 (v320 : BitVec 32) : BitVec 32 :=
  v320

def k0_off384 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off385 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c224_i32 : BitVec 32 := 224#32
  let c0_i32_108 : BitVec 32 := 0#32
  ![v36.toNat, 224, 0]
def k0_off386 (v320 : BitVec 32) : Fin 2 → Nat :=
  let v321 : BitVec 32 := v320
  let c0_i32_109 : BitVec 32 := 0#32
  ![v321.toNat, 0]

def k0_chk194 (i : grid0.Coords) (v10 : BitVec 32) (v320 : BitVec 32) : Prop :=
  (∀ (k0_h5 : k0_cond5 i v10 = 1#1), 8 ∣ (k0_mult189 v320).toNat) ∧
  (∀ (k0_h5 : k0_cond5 i v10 = 1#1), ∀ a, (k0_off386 v320) a + S8x640.size a ≤ S40960x640.size a)
theorem k0_mult189_dvd : ∀ (i : grid0.Coords) (v10 : BitVec 32) (v320 : BitVec 32) (k0_hw194 : k0_chk194 i v10 v320), ∀ (k0_h5 : k0_cond5 i v10 = 1#1), 8 ∣ (k0_mult189 v320).toNat := fun i v10 v320 k0_hw194 k0_h5 => k0_hw194.1 k0_h5
theorem k0_off386_inb : ∀ (i : grid0.Coords) (v10 : BitVec 32) (v320 : BitVec 32) (k0_hw194 : k0_chk194 i v10 v320), ∀ (k0_h5 : k0_cond5 i v10 = 1#1), ∀ a, (k0_off386 v320) a + S8x640.size a ≤ S40960x640.size a := fun i v10 v320 k0_hw194 k0_h5 => k0_hw194.2 k0_h5

def k0_off387 (i : grid0.Coords) : Fin 1 → Nat :=
  let arg0 : BitVec 32 := BitVec.ofNat 32 (i 0).val
  let c4_i32 : BitVec 32 := 4#32
  let v25 : BitVec 32 := Scalar.addi arg0 c4_i32
  let c32_i32_110 : BitVec 32 := 32#32
  let v327 : BitVec 32 := Scalar.muli v25 c32_i32_110
  let c29_i32 : BitVec 32 := 29#32
  let v328 : BitVec 32 := Scalar.addi v327 c29_i32
  let v329 : Index := Scalar.indexCast v328
  ![v329.toNat]
def k0_mult190 (v330 : BitVec 32) : BitVec 32 :=
  v330

def k0_off388 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off389 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c232_i32 : BitVec 32 := 232#32
  let c0_i32_111 : BitVec 32 := 0#32
  ![v36.toNat, 232, 0]
def k0_off390 (v330 : BitVec 32) : Fin 2 → Nat :=
  let v331 : BitVec 32 := v330
  let c0_i32_112 : BitVec 32 := 0#32
  ![v331.toNat, 0]

def k0_chk195 (i : grid0.Coords) (v10 : BitVec 32) (v330 : BitVec 32) : Prop :=
  (∀ (k0_h5 : k0_cond5 i v10 = 1#1), 8 ∣ (k0_mult190 v330).toNat) ∧
  (∀ (k0_h5 : k0_cond5 i v10 = 1#1), ∀ a, (k0_off390 v330) a + S8x640.size a ≤ S40960x640.size a)
theorem k0_mult190_dvd : ∀ (i : grid0.Coords) (v10 : BitVec 32) (v330 : BitVec 32) (k0_hw195 : k0_chk195 i v10 v330), ∀ (k0_h5 : k0_cond5 i v10 = 1#1), 8 ∣ (k0_mult190 v330).toNat := fun i v10 v330 k0_hw195 k0_h5 => k0_hw195.1 k0_h5
theorem k0_off390_inb : ∀ (i : grid0.Coords) (v10 : BitVec 32) (v330 : BitVec 32) (k0_hw195 : k0_chk195 i v10 v330), ∀ (k0_h5 : k0_cond5 i v10 = 1#1), ∀ a, (k0_off390 v330) a + S8x640.size a ≤ S40960x640.size a := fun i v10 v330 k0_hw195 k0_h5 => k0_hw195.2 k0_h5

def k0_off391 (i : grid0.Coords) : Fin 1 → Nat :=
  let arg0 : BitVec 32 := BitVec.ofNat 32 (i 0).val
  let c4_i32 : BitVec 32 := 4#32
  let v25 : BitVec 32 := Scalar.addi arg0 c4_i32
  let c32_i32_113 : BitVec 32 := 32#32
  let v337 : BitVec 32 := Scalar.muli v25 c32_i32_113
  let c30_i32 : BitVec 32 := 30#32
  let v338 : BitVec 32 := Scalar.addi v337 c30_i32
  let v339 : Index := Scalar.indexCast v338
  ![v339.toNat]
def k0_mult191 (v340 : BitVec 32) : BitVec 32 :=
  v340

def k0_off392 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off393 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c240_i32 : BitVec 32 := 240#32
  let c0_i32_114 : BitVec 32 := 0#32
  ![v36.toNat, 240, 0]
def k0_off394 (v340 : BitVec 32) : Fin 2 → Nat :=
  let v341 : BitVec 32 := v340
  let c0_i32_115 : BitVec 32 := 0#32
  ![v341.toNat, 0]

def k0_chk196 (i : grid0.Coords) (v10 : BitVec 32) (v340 : BitVec 32) : Prop :=
  (∀ (k0_h5 : k0_cond5 i v10 = 1#1), 8 ∣ (k0_mult191 v340).toNat) ∧
  (∀ (k0_h5 : k0_cond5 i v10 = 1#1), ∀ a, (k0_off394 v340) a + S8x640.size a ≤ S40960x640.size a)
theorem k0_mult191_dvd : ∀ (i : grid0.Coords) (v10 : BitVec 32) (v340 : BitVec 32) (k0_hw196 : k0_chk196 i v10 v340), ∀ (k0_h5 : k0_cond5 i v10 = 1#1), 8 ∣ (k0_mult191 v340).toNat := fun i v10 v340 k0_hw196 k0_h5 => k0_hw196.1 k0_h5
theorem k0_off394_inb : ∀ (i : grid0.Coords) (v10 : BitVec 32) (v340 : BitVec 32) (k0_hw196 : k0_chk196 i v10 v340), ∀ (k0_h5 : k0_cond5 i v10 = 1#1), ∀ a, (k0_off394 v340) a + S8x640.size a ≤ S40960x640.size a := fun i v10 v340 k0_hw196 k0_h5 => k0_hw196.2 k0_h5

def k0_off395 (i : grid0.Coords) : Fin 1 → Nat :=
  let arg0 : BitVec 32 := BitVec.ofNat 32 (i 0).val
  let c4_i32 : BitVec 32 := 4#32
  let v25 : BitVec 32 := Scalar.addi arg0 c4_i32
  let c32_i32_116 : BitVec 32 := 32#32
  let v347 : BitVec 32 := Scalar.muli v25 c32_i32_116
  let c31_i32 : BitVec 32 := 31#32
  let v348 : BitVec 32 := Scalar.addi v347 c31_i32
  let v349 : Index := Scalar.indexCast v348
  ![v349.toNat]
def k0_mult192 (v350 : BitVec 32) : BitVec 32 :=
  v350

def k0_off396 (i : grid0.Coords) : Fin 1 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off397 (i : grid0.Coords) : Fin 3 → Nat :=
  let arg0 : BitVec 32 := BitVec.ofNat 32 (i 0).val
  let c4_i32_8 : BitVec 32 := 4#32
  let v26 : BitVec 32 := Scalar.addi arg0 c4_i32_8
  let c5_i32_9 : BitVec 32 := 5#32
  let c0_i32_10 : BitVec 32 := 0#32
  let v27 : BitVec 1 := Scalar.cmpi .eq c5_i32_9 c0_i32_10
  let c1_i32_11 : BitVec 32 := 1#32
  let v28 : BitVec 32 := Scalar.select v27 c1_i32_11 c5_i32_9
  let v29 : BitVec 32 := Scalar.remsi v26 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c248_i32 : BitVec 32 := 248#32
  let c0_i32_117 : BitVec 32 := 0#32
  ![v36.toNat, 248, 0]
def k0_off398 (v350 : BitVec 32) : Fin 2 → Nat :=
  let v351 : BitVec 32 := v350
  let c0_i32_118 : BitVec 32 := 0#32
  ![v351.toNat, 0]

def k0_chk197 (i : grid0.Coords) (v10 : BitVec 32) (v350 : BitVec 32) : Prop :=
  (∀ (k0_h5 : k0_cond5 i v10 = 1#1), 8 ∣ (k0_mult192 v350).toNat) ∧
  (∀ (k0_h5 : k0_cond5 i v10 = 1#1), ∀ a, (k0_off398 v350) a + S8x640.size a ≤ S40960x640.size a)
theorem k0_mult192_dvd : ∀ (i : grid0.Coords) (v10 : BitVec 32) (v350 : BitVec 32) (k0_hw197 : k0_chk197 i v10 v350), ∀ (k0_h5 : k0_cond5 i v10 = 1#1), 8 ∣ (k0_mult192 v350).toNat := fun i v10 v350 k0_hw197 k0_h5 => k0_hw197.1 k0_h5
theorem k0_off398_inb : ∀ (i : grid0.Coords) (v10 : BitVec 32) (v350 : BitVec 32) (k0_hw197 : k0_chk197 i v10 v350), ∀ (k0_h5 : k0_cond5 i v10 = 1#1), ∀ a, (k0_off398 v350) a + S8x640.size a ≤ S40960x640.size a := fun i v10 v350 k0_hw197 k0_h5 => k0_hw197.2 k0_h5

def k0_off399 (i : grid0.Coords) : Fin 1 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off400 (i : grid0.Coords) : Fin 3 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_119 : BitVec 32 := 0#32
  let c0_i32_120 : BitVec 32 := 0#32
  ![v9.toNat, 0, 0]
def k0_cond6 (i : grid0.Coords) : BitVec 1 :=
  let arg0 : BitVec 32 := BitVec.ofNat 32 (i 0).val
  let c191_i32 : BitVec 32 := 191#32
  let v22 : BitVec 1 := Scalar.cmpi .eq arg0 c191_i32
  let v23 : BitVec 32 := Scalar.extui v22
  let c0_i32_7 : BitVec 32 := 0#32
  let v24 : BitVec 1 := Scalar.cmpi .ne v23 c0_i32_7
  v24

def k0_off401 (i : grid0.Coords) (c1_i32_8 : BitVec 32) : Fin 1 → Nat :=
  let arg0 : BitVec 32 := BitVec.ofNat 32 (i 0).val
  let v25 : BitVec 32 := Scalar.addi arg0 c1_i32_8
  let c5_i32_9 : BitVec 32 := 5#32
  let c0_i32_10 : BitVec 32 := 0#32
  let v26 : BitVec 1 := Scalar.cmpi .eq c5_i32_9 c0_i32_10
  let c1_i32_11 : BitVec 32 := 1#32
  let v27 : BitVec 32 := Scalar.select v26 c1_i32_11 c5_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  ![v35.toNat]
def k0_off402 (i : grid0.Coords) (c1_i32_8 : BitVec 32) : Fin 3 → Nat :=
  let arg0 : BitVec 32 := BitVec.ofNat 32 (i 0).val
  let v25 : BitVec 32 := Scalar.addi arg0 c1_i32_8
  let c5_i32_9 : BitVec 32 := 5#32
  let c0_i32_10 : BitVec 32 := 0#32
  let v26 : BitVec 1 := Scalar.cmpi .eq c5_i32_9 c0_i32_10
  let c1_i32_11 : BitVec 32 := 1#32
  let v27 : BitVec 32 := Scalar.select v26 c1_i32_11 c5_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let c0_i32_15 : BitVec 32 := 0#32
  let c0_i32_16 : BitVec 32 := 0#32
  ![v35.toNat, 0, 0]
def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S196 : Shape := ⟨1, ![196]⟩
abbrev S32 : Shape := ⟨1, ![32]⟩
abbrev S6272 : Shape := ⟨1, ![6272]⟩
abbrev S40960x640 : Shape := ⟨2, ![40960, 640]⟩
abbrev S32x1024x512 : Shape := ⟨3, ![32, 1024, 512]⟩
abbrev S32x512x1024 : Shape := ⟨3, ![32, 512, 1024]⟩
abbrev S6144 : Shape := ⟨1, ![6144]⟩
abbrev S6144x1 : Shape := ⟨2, ![6144, 1]⟩
abbrev S8 : Shape := ⟨1, ![8]⟩
abbrev S1x8 : Shape := ⟨2, ![1, 8]⟩
abbrev S6144x8 : Shape := ⟨2, ![6144, 8]⟩
abbrev S49152 : Shape := ⟨1, ![49152]⟩
abbrev S_ : Shape := ⟨0, ![]⟩
abbrev S49152x1 : Shape := ⟨2, ![49152, 1]⟩
abbrev S49152x640 : Shape := ⟨2, ![49152, 640]⟩
abbrev S49152x640x2 : Shape := ⟨3, ![49152, 640, 2]⟩
abbrev S49152x512x1 : Shape := ⟨3, ![49152, 512, 1]⟩
abbrev S49152x512 : Shape := ⟨2, ![49152, 512]⟩
abbrev S49152x1024 : Shape := ⟨2, ![49152, 1024]⟩
abbrev S49152x128x1 : Shape := ⟨3, ![49152, 128, 1]⟩
abbrev S49152x128 : Shape := ⟨2, ![49152, 128]⟩
abbrev S192 : Shape := ⟨1, ![192]⟩
abbrev S192x1 : Shape := ⟨2, ![192, 1]⟩
abbrev S192x256 : Shape := ⟨2, ![192, 256]⟩
abbrev S1 : Shape := ⟨1, ![1]⟩
abbrev S1x32 : Shape := ⟨2, ![1, 32]⟩
abbrev S49152x32 : Shape := ⟨2, ![49152, 32]⟩
abbrev S32x512x49152 : Shape := ⟨3, ![32, 512, 49152]⟩
abbrev S32x49152x512 : Shape := ⟨3, ![32, 49152, 512]⟩
abbrev S32x49152 : Shape := ⟨2, ![32, 49152]⟩
abbrev S32x49152x1 : Shape := ⟨3, ![32, 49152, 1]⟩
abbrev S32x49152x1024 : Shape := ⟨3, ![32, 49152, 1024]⟩

abbrev nBuf : Space → Nat
  | .hbm => 104
  | .vmem => 0
  | .smem => 0
  | _ => 0

abbrev bufTy : (tb : Table) → Fin (tcTables nBuf tb) → BufTy
  | .hbm, ⟨0, _⟩ => ⟨S196, .i32⟩
  | .hbm, ⟨1, _⟩ => ⟨S32, .i32⟩
  | .hbm, ⟨2, _⟩ => ⟨S32, .i32⟩
  | .hbm, ⟨3, _⟩ => ⟨S6272, .i32⟩
  | .hbm, ⟨4, _⟩ => ⟨S40960x640, .i32⟩
  | .hbm, ⟨5, _⟩ => ⟨S32x1024x512, .f32⟩
  | .hbm, ⟨6, _⟩ => ⟨S32x1024x512, .f32⟩
  | .hbm, ⟨7, _⟩ => ⟨S32x512x1024, .f32⟩
  | .hbm, ⟨8, _⟩ => ⟨S6144, .i32⟩
  | .hbm, ⟨9, _⟩ => ⟨S6144x1, .i32⟩
  | .hbm, ⟨10, _⟩ => ⟨S8, .i32⟩
  | .hbm, ⟨11, _⟩ => ⟨S1x8, .i32⟩
  | .hbm, ⟨12, _⟩ => ⟨S6144x8, .i32⟩
  | .hbm, ⟨13, _⟩ => ⟨S6144x8, .i32⟩
  | .hbm, ⟨14, _⟩ => ⟨S6144x8, .i32⟩
  | .hbm, ⟨15, _⟩ => ⟨S49152, .i32⟩
  | .hbm, ⟨16, _⟩ => ⟨S_, .i32⟩
  | .hbm, ⟨17, _⟩ => ⟨S49152, .i32⟩
  | .hbm, ⟨18, _⟩ => ⟨S49152, .i1⟩
  | .hbm, ⟨19, _⟩ => ⟨S_, .i32⟩
  | .hbm, ⟨20, _⟩ => ⟨S49152, .i32⟩
  | .hbm, ⟨21, _⟩ => ⟨S49152, .i32⟩
  | .hbm, ⟨22, _⟩ => ⟨S49152, .i32⟩
  | .hbm, ⟨23, _⟩ => ⟨S49152x1, .i32⟩
  | .hbm, ⟨24, _⟩ => ⟨S49152x640, .i32⟩
  | .hbm, ⟨25, _⟩ => ⟨S49152x640x2, .bf16⟩
  | .hbm, ⟨26, _⟩ => ⟨S49152x640x2, .f32⟩
  | .hbm, ⟨27, _⟩ => ⟨S49152x512x1, .f32⟩
  | .hbm, ⟨28, _⟩ => ⟨S49152x512, .f32⟩
  | .hbm, ⟨29, _⟩ => ⟨S49152x512x1, .f32⟩
  | .hbm, ⟨30, _⟩ => ⟨S49152x512, .f32⟩
  | .hbm, ⟨31, _⟩ => ⟨S49152x1024, .f32⟩
  | .hbm, ⟨32, _⟩ => ⟨S49152x128x1, .f32⟩
  | .hbm, ⟨33, _⟩ => ⟨S49152x128, .f32⟩
  | .hbm, ⟨34, _⟩ => ⟨S49152x1, .f32⟩
  | .hbm, ⟨35, _⟩ => ⟨S49152, .f32⟩
  | .hbm, ⟨36, _⟩ => ⟨S49152x1, .f32⟩
  | .hbm, ⟨37, _⟩ => ⟨S49152, .f32⟩
  | .hbm, ⟨38, _⟩ => ⟨S49152, .f32⟩
  | .hbm, ⟨39, _⟩ => ⟨S49152x1, .f32⟩
  | .hbm, ⟨40, _⟩ => ⟨S49152, .f32⟩
  | .hbm, ⟨41, _⟩ => ⟨S49152, .f32⟩
  | .hbm, ⟨42, _⟩ => ⟨S49152x1, .f32⟩
  | .hbm, ⟨43, _⟩ => ⟨S49152, .f32⟩
  | .hbm, ⟨44, _⟩ => ⟨S49152x1, .f32⟩
  | .hbm, ⟨45, _⟩ => ⟨S49152, .f32⟩
  | .hbm, ⟨46, _⟩ => ⟨S49152, .f32⟩
  | .hbm, ⟨47, _⟩ => ⟨S49152x1, .f32⟩
  | .hbm, ⟨48, _⟩ => ⟨S49152, .f32⟩
  | .hbm, ⟨49, _⟩ => ⟨S49152, .f32⟩
  | .hbm, ⟨50, _⟩ => ⟨S192, .i32⟩
  | .hbm, ⟨51, _⟩ => ⟨S192x1, .i32⟩
  | .hbm, ⟨52, _⟩ => ⟨S192x256, .i32⟩
  | .hbm, ⟨53, _⟩ => ⟨S49152, .i32⟩
  | .hbm, ⟨54, _⟩ => ⟨S192, .i32⟩
  | .hbm, ⟨55, _⟩ => ⟨S1, .i32⟩
  | .hbm, ⟨56, _⟩ => ⟨S_, .i32⟩
  | .hbm, ⟨57, _⟩ => ⟨S192, .i32⟩
  | .hbm, ⟨58, _⟩ => ⟨S192, .i1⟩
  | .hbm, ⟨59, _⟩ => ⟨S192x1, .i1⟩
  | .hbm, ⟨60, _⟩ => ⟨S192x256, .i1⟩
  | .hbm, ⟨61, _⟩ => ⟨S49152, .i1⟩
  | .hbm, ⟨62, _⟩ => ⟨S49152x1, .f32⟩
  | .hbm, ⟨63, _⟩ => ⟨S49152, .f32⟩
  | .hbm, ⟨64, _⟩ => ⟨S49152, .f32⟩
  | .hbm, ⟨65, _⟩ => ⟨S49152, .i1⟩
  | .hbm, ⟨66, _⟩ => ⟨S49152, .f32⟩
  | .hbm, ⟨67, _⟩ => ⟨S_, .f32⟩
  | .hbm, ⟨68, _⟩ => ⟨S_, .f32⟩
  | .hbm, ⟨69, _⟩ => ⟨S49152, .f32⟩
  | .hbm, ⟨70, _⟩ => ⟨S49152, .f32⟩
  | .hbm, ⟨71, _⟩ => ⟨S49152x1, .i32⟩
  | .hbm, ⟨72, _⟩ => ⟨S32, .i32⟩
  | .hbm, ⟨73, _⟩ => ⟨S1x32, .i32⟩
  | .hbm, ⟨74, _⟩ => ⟨S49152x32, .i32⟩
  | .hbm, ⟨75, _⟩ => ⟨S49152x32, .i32⟩
  | .hbm, ⟨76, _⟩ => ⟨S49152x32, .i1⟩
  | .hbm, ⟨77, _⟩ => ⟨S49152x1, .f32⟩
  | .hbm, ⟨78, _⟩ => ⟨S_, .f32⟩
  | .hbm, ⟨79, _⟩ => ⟨S_, .f32⟩
  | .hbm, ⟨80, _⟩ => ⟨S49152x32, .f32⟩
  | .hbm, ⟨81, _⟩ => ⟨S49152x32, .f32⟩
  | .hbm, ⟨82, _⟩ => ⟨S49152x32, .f32⟩
  | .hbm, ⟨83, _⟩ => ⟨S32x512x49152, .f32⟩
  | .hbm, ⟨84, _⟩ => ⟨S32x49152x512, .f32⟩
  | .hbm, ⟨85, _⟩ => ⟨S32x49152x512, .f32⟩
  | .hbm, ⟨86, _⟩ => ⟨S32x49152x512, .f32⟩
  | .hbm, ⟨87, _⟩ => ⟨S_, .f32⟩
  | .hbm, ⟨88, _⟩ => ⟨S32x49152x512, .f32⟩
  | .hbm, ⟨89, _⟩ => ⟨S32x49152x512, .f32⟩
  | .hbm, ⟨90, _⟩ => ⟨S_, .f32⟩
  | .hbm, ⟨91, _⟩ => ⟨S32x49152x512, .f32⟩
  | .hbm, ⟨92, _⟩ => ⟨S32x49152x512, .f32⟩
  | .hbm, ⟨93, _⟩ => ⟨S32x49152x512, .f32⟩
  | .hbm, ⟨94, _⟩ => ⟨S32x512x49152, .f32⟩
  | .hbm, ⟨95, _⟩ => ⟨S32x49152x512, .f32⟩
  | .hbm, ⟨96, _⟩ => ⟨S32x49152x512, .f32⟩
  | .hbm, ⟨97, _⟩ => ⟨S32x49152, .f32⟩
  | .hbm, ⟨98, _⟩ => ⟨S32x49152x1, .f32⟩
  | .hbm, ⟨99, _⟩ => ⟨S32x49152x1024, .f32⟩
  | .hbm, ⟨100, _⟩ => ⟨S32x49152x1024, .f32⟩
  | .hbm, ⟨101, _⟩ => ⟨S32x49152x1024, .f32⟩
  | .hbm, ⟨102, _⟩ => ⟨S_, .f32⟩
  | .hbm, ⟨103, _⟩ => ⟨S49152x1024, .f32⟩
  | _, _ => ⟨S196, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_1 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_2 : Ref sig .tc := ⟨.hbm, 102, rfl⟩
abbrev main_v77 : Ref sig .tc := ⟨.hbm, 103, rfl⟩

abbrev nD : Nat := 1
abbrev τ : Topo := Topo.v7x

variable {F : FTy → Type} [FloatOps F]
-- ==== Combine.lean ====
abbrev S5120 : Shape := ⟨1, ![5120]⟩
abbrev S32 : Shape := ⟨1, ![32]⟩
abbrev S16384x1024 : Shape := ⟨2, ![16384, 1024]⟩
abbrev S16384x128 : Shape := ⟨2, ![16384, 128]⟩
abbrev S1x1024 : Shape := ⟨2, ![1, 1024]⟩
abbrev S49152x1024 : Shape := ⟨2, ![49152, 1024]⟩
abbrev S512x1024 : Shape := ⟨2, ![512, 1024]⟩
abbrev S512x128 : Shape := ⟨2, ![512, 128]⟩
abbrev S4x1280x1024 : Shape := ⟨3, ![4, 1280, 1024]⟩
abbrev S4 : Shape := ⟨1, ![4]⟩
abbrev S1 : Shape := ⟨1, ![1]⟩
abbrev S_ : Shape := ⟨0, ![]⟩
abbrev S1x8x1024 : Shape := ⟨3, ![1, 8, 1024]⟩
abbrev S8x1024 : Shape := ⟨2, ![8, 1024]⟩
abbrev S1x1280x1024 : Shape := ⟨3, ![1, 1280, 1024]⟩
abbrev S1280x1024 : Shape := ⟨2, ![1280, 1024]⟩
abbrev S1280x1 : Shape := ⟨2, ![1280, 1]⟩
abbrev S512x1280 : Shape := ⟨2, ![512, 1280]⟩
abbrev S512x1 : Shape := ⟨2, ![512, 1]⟩
abbrev S512 : Shape := ⟨1, ![512]⟩

abbrev nBuf : Space → Nat
  | .hbm => 5
  | .vmem => 8
  | .smem => 2
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x1024, .f32⟩
  | .hbm, ⟨3, _⟩ => ⟨S49152x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S4x1280x1024, .f32⟩
  | .local _ .smem, ⟨0, _⟩ => ⟨S5120, .i32⟩
  | .local _ .smem, ⟨1, _⟩ => ⟨S32, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_25 : BitVec 32 := 0#32
  let c20_i32 : BitVec 32 := 20#32
  let v67 : BitVec 32 := Scalar.addi c0_i32_25 c20_i32
  let c1_i32_26 : BitVec 32 := 1#32
  ⟨c0_i32_25, v67, c1_i32_26⟩
def k0_off1 (k0_t1 : Fin k0_t1_loop.trips) : Fin 1 → Nat :=
  let c0_i32_38 : BitVec 32 := 0#32
  let c0_i32_25 : BitVec 32 := 0#32
  let c1_i32_26 : BitVec 32 := 1#32
  let arg10 : BitVec 32 := Scf.iv c0_i32_25 c1_i32_26 k0_t1
  let c8_i32_36 : BitVec 32 := 8#32
  let v70 : BitVec 32 := Scalar.muli arg10 c8_i32_36
  let c0_i32_37 : BitVec 32 := 0#32
  let v71 : BitVec 32 := Scalar.addi v70 c0_i32_37
  let v72 : BitVec 32 := Scalar.addi c0_i32_38 v71
  let v73 : Index := Scalar.indexCast v72
  ![v73.toNat]
def k0_mult1 (v74 : BitVec 32) : BitVec 32 :=
  v74

def k0_mult2 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_36 : BitVec 32 := 8#32
  let v70 : BitVec 32 := Scalar.muli arg10 c8_i32_36
  let c0_i32_37 : BitVec 32 := 0#32
  let v71 : BitVec 32 := Scalar.addi v70 c0_i32_37
  let c8_i32_39 : BitVec 32 := 8#32
  let v76 : BitVec 32 := Scalar.muli v71 c8_i32_39
  v76
def k0_off2 (k0_t1 : Fin k0_t1_loop.trips) : Fin 3 → Nat :=
  let c0_i32_40 : BitVec 32 := 0#32
  let c0_i32_25 : BitVec 32 := 0#32
  let c1_i32_26 : BitVec 32 := 1#32
  let arg10 : BitVec 32 := Scf.iv c0_i32_25 c1_i32_26 k0_t1
  let c8_i32_36 : BitVec 32 := 8#32
  let v70 : BitVec 32 := Scalar.muli arg10 c8_i32_36
  let c0_i32_37 : BitVec 32 := 0#32
  let v71 : BitVec 32 := Scalar.addi v70 c0_i32_37
  let c8_i32_39 : BitVec 32 := 8#32
  let v76 : BitVec 32 := Scalar.muli v71 c8_i32_39
  let v77 : BitVec 32 := v76
  let c0_i32_42 : BitVec 32 := 0#32
  ![0, v77.toNat, 0]
def k0_off3 (v74 : BitVec 32) : Fin 2 → Nat :=
  let v75 : BitVec 32 := v74
  let c0_i32_43 : BitVec 32 := 0#32
  ![v75.toNat, 0]

def k0_chk1 (i : grid0.Coords) (v74 : BitVec 32) : Prop :=
  (∀ (k0_h1 : k0_cond1 i = 1#1), 8 ∣ (k0_mult1 v74).toNat) ∧
  (∀ (k0_h1 : k0_cond1 i = 1#1), ∀ a, (k0_off3 v74) a + S8x1024.size a ≤ S49152x1024.size a)
theorem k0_mult1_dvd : ∀ (i : grid0.Coords) (v74 : BitVec 32) (k0_hw1 : k0_chk1 i v74), ∀ (k0_h1 : k0_cond1 i = 1#1), 8 ∣ (k0_mult1 v74).toNat := fun i v74 k0_hw1 k0_h1 => k0_hw1.1 k0_h1
theorem k0_off3_inb : ∀ (i : grid0.Coords) (v74 : BitVec 32) (k0_hw1 : k0_chk1 i v74), ∀ (k0_h1 : k0_cond1 i = 1#1), ∀ a, (k0_off3 v74) a + S8x1024.size a ≤ S49152x1024.size a := fun i v74 k0_hw1 k0_h1 => k0_hw1.2 k0_h1

def k0_off4 (k0_t1 : Fin k0_t1_loop.trips) : Fin 1 → Nat :=
  let c0_i32_46 : BitVec 32 := 0#32
  let c0_i32_25 : BitVec 32 := 0#32
  let c1_i32_26 : BitVec 32 := 1#32
  let arg10 : BitVec 32 := Scf.iv c0_i32_25 c1_i32_26 k0_t1
  let c8_i32_44 : BitVec 32 := 8#32
  let v83 : BitVec 32 := Scalar.muli arg10 c8_i32_44
  let c1_i32_45 : BitVec 32 := 1#32
  let v84 : BitVec 32 := Scalar.addi v83 c1_i32_45
  let v85 : BitVec 32 := Scalar.addi c0_i32_46 v84
  let v86 : Index := Scalar.indexCast v85
  ![v86.toNat]
def k0_mult3 (v87 : BitVec 32) : BitVec 32 :=
  v87

def k0_mult4 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_44 : BitVec 32 := 8#32
  let v83 : BitVec 32 := Scalar.muli arg10 c8_i32_44
  let c1_i32_45 : BitVec 32 := 1#32
  let v84 : BitVec 32 := Scalar.addi v83 c1_i32_45
  let c8_i32_47 : BitVec 32 := 8#32
  let v89 : BitVec 32 := Scalar.muli v84 c8_i32_47
  v89
def k0_off5 (k0_t1 : Fin k0_t1_loop.trips) : Fin 3 → Nat :=
  let c0_i32_48 : BitVec 32 := 0#32
  let c0_i32_25 : BitVec 32 := 0#32
  let c1_i32_26 : BitVec 32 := 1#32
  let arg10 : BitVec 32 := Scf.iv c0_i32_25 c1_i32_26 k0_t1
  let c8_i32_44 : BitVec 32 := 8#32
  let v83 : BitVec 32 := Scalar.muli arg10 c8_i32_44
  let c1_i32_45 : BitVec 32 := 1#32
  let v84 : BitVec 32 := Scalar.addi v83 c1_i32_45
  let c8_i32_47 : BitVec 32 := 8#32
  let v89 : BitVec 32 := Scalar.muli v84 c8_i32_47
  let v90 : BitVec 32 := v89
  let c0_i32_50 : BitVec 32 := 0#32
  ![0, v90.toNat, 0]
def k0_off6 (v87 : BitVec 32) : Fin 2 → Nat :=
  let v88 : BitVec 32 := v87
  let c0_i32_51 : BitVec 32 := 0#32
  ![v88.toNat, 0]

def k0_chk2 (i : grid0.Coords) (v87 : BitVec 32) : Prop :=
  (∀ (k0_h1 : k0_cond1 i = 1#1), 8 ∣ (k0_mult3 v87).toNat) ∧
  (∀ (k0_h1 : k0_cond1 i = 1#1), ∀ a, (k0_off6 v87) a + S8x1024.size a ≤ S49152x1024.size a)
theorem k0_mult3_dvd : ∀ (i : grid0.Coords) (v87 : BitVec 32) (k0_hw2 : k0_chk2 i v87), ∀ (k0_h1 : k0_cond1 i = 1#1), 8 ∣ (k0_mult3 v87).toNat := fun i v87 k0_hw2 k0_h1 => k0_hw2.1 k0_h1
theorem k0_off6_inb : ∀ (i : grid0.Coords) (v87 : BitVec 32) (k0_hw2 : k0_chk2 i v87), ∀ (k0_h1 : k0_cond1 i = 1#1), ∀ a, (k0_off6 v87) a + S8x1024.size a ≤ S49152x1024.size a := fun i v87 k0_hw2 k0_h1 => k0_hw2.2 k0_h1

def k0_off7 (k0_t1 : Fin k0_t1_loop.trips) : Fin 1 → Nat :=
  let c0_i32_53 : BitVec 32 := 0#32
  let c0_i32_25 : BitVec 32 := 0#32
  let c1_i32_26 : BitVec 32 := 1#32
  let arg10 : BitVec 32 := Scf.iv c0_i32_25 c1_i32_26 k0_t1
  let c8_i32_52 : BitVec 32 := 8#32
  let v96 : BitVec 32 := Scalar.muli arg10 c8_i32_52
  let c2_i32 : BitVec 32 := 2#32
  let v97 : BitVec 32 := Scalar.addi v96 c2_i32
  let v98 : BitVec 32 := Scalar.addi c0_i32_53 v97
  let v99 : Index := Scalar.indexCast v98
  ![v99.toNat]
def k0_mult5 (v100 : BitVec 32) : BitVec 32 :=
  v100

def k0_mult6 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_52 : BitVec 32 := 8#32
  let v96 : BitVec 32 := Scalar.muli arg10 c8_i32_52
  let c2_i32 : BitVec 32 := 2#32
  let v97 : BitVec 32 := Scalar.addi v96 c2_i32
  let c8_i32_54 : BitVec 32 := 8#32
  let v102 : BitVec 32 := Scalar.muli v97 c8_i32_54
  v102
def k0_off8 (k0_t1 : Fin k0_t1_loop.trips) : Fin 3 → Nat :=
  let c0_i32_55 : BitVec 32 := 0#32
  let c0_i32_25 : BitVec 32 := 0#32
  let c1_i32_26 : BitVec 32 := 1#32
  let arg10 : BitVec 32 := Scf.iv c0_i32_25 c1_i32_26 k0_t1
  let c8_i32_52 : BitVec 32 := 8#32
  let v96 : BitVec 32 := Scalar.muli arg10 c8_i32_52
  let c2_i32 : BitVec 32 := 2#32
  let v97 : BitVec 32 := Scalar.addi v96 c2_i32
  let c8_i32_54 : BitVec 32 := 8#32
  let v102 : BitVec 32 := Scalar.muli v97 c8_i32_54
  let v103 : BitVec 32 := v102
  let c0_i32_57 : BitVec 32 := 0#32
  ![0, v103.toNat, 0]
def k0_off9 (v100 : BitVec 32) : Fin 2 → Nat :=
  let v101 : BitVec 32 := v100
  let c0_i32_58 : BitVec 32 := 0#32
  ![v101.toNat, 0]

def k0_chk3 (i : grid0.Coords) (v100 : BitVec 32) : Prop :=
  (∀ (k0_h1 : k0_cond1 i = 1#1), 8 ∣ (k0_mult5 v100).toNat) ∧
  (∀ (k0_h1 : k0_cond1 i = 1#1), ∀ a, (k0_off9 v100) a + S8x1024.size a ≤ S49152x1024.size a)
theorem k0_mult5_dvd : ∀ (i : grid0.Coords) (v100 : BitVec 32) (k0_hw3 : k0_chk3 i v100), ∀ (k0_h1 : k0_cond1 i = 1#1), 8 ∣ (k0_mult5 v100).toNat := fun i v100 k0_hw3 k0_h1 => k0_hw3.1 k0_h1
theorem k0_off9_inb : ∀ (i : grid0.Coords) (v100 : BitVec 32) (k0_hw3 : k0_chk3 i v100), ∀ (k0_h1 : k0_cond1 i = 1#1), ∀ a, (k0_off9 v100) a + S8x1024.size a ≤ S49152x1024.size a := fun i v100 k0_hw3 k0_h1 => k0_hw3.2 k0_h1

def k0_off10 (k0_t1 : Fin k0_t1_loop.trips) : Fin 1 → Nat :=
  let c0_i32_61 : BitVec 32 := 0#32
  let c0_i32_25 : BitVec 32 := 0#32
  let c1_i32_26 : BitVec 32 := 1#32
  let arg10 : BitVec 32 := Scf.iv c0_i32_25 c1_i32_26 k0_t1
  let c8_i32_59 : BitVec 32 := 8#32
  let v109 : BitVec 32 := Scalar.muli arg10 c8_i32_59
  let c3_i32_60 : BitVec 32 := 3#32
  let v110 : BitVec 32 := Scalar.addi v109 c3_i32_60
  let v111 : BitVec 32 := Scalar.addi c0_i32_61 v110
  let v112 : Index := Scalar.indexCast v111
  ![v112.toNat]
def k0_mult7 (v113 : BitVec 32) : BitVec 32 :=
  v113

def k0_mult8 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_59 : BitVec 32 := 8#32
  let v109 : BitVec 32 := Scalar.muli arg10 c8_i32_59
  let c3_i32_60 : BitVec 32 := 3#32
  let v110 : BitVec 32 := Scalar.addi v109 c3_i32_60
  let c8_i32_62 : BitVec 32 := 8#32
  let v115 : BitVec 32 := Scalar.muli v110 c8_i32_62
  v115
def k0_off11 (k0_t1 : Fin k0_t1_loop.trips) : Fin 3 → Nat :=
  let c0_i32_63 : BitVec 32 := 0#32
  let c0_i32_25 : BitVec 32 := 0#32
  let c1_i32_26 : BitVec 32 := 1#32
  let arg10 : BitVec 32 := Scf.iv c0_i32_25 c1_i32_26 k0_t1
  let c8_i32_59 : BitVec 32 := 8#32
  let v109 : BitVec 32 := Scalar.muli arg10 c8_i32_59
  let c3_i32_60 : BitVec 32 := 3#32
  let v110 : BitVec 32 := Scalar.addi v109 c3_i32_60
  let c8_i32_62 : BitVec 32 := 8#32
  let v115 : BitVec 32 := Scalar.muli v110 c8_i32_62
  let v116 : BitVec 32 := v115
  let c0_i32_65 : BitVec 32 := 0#32
  ![0, v116.toNat, 0]
def k0_off12 (v113 : BitVec 32) : Fin 2 → Nat :=
  let v114 : BitVec 32 := v113
  let c0_i32_66 : BitVec 32 := 0#32
  ![v114.toNat, 0]

def k0_chk4 (i : grid0.Coords) (v113 : BitVec 32) : Prop :=
  (∀ (k0_h1 : k0_cond1 i = 1#1), 8 ∣ (k0_mult7 v113).toNat) ∧
  (∀ (k0_h1 : k0_cond1 i = 1#1), ∀ a, (k0_off12 v113) a + S8x1024.size a ≤ S49152x1024.size a)
theorem k0_mult7_dvd : ∀ (i : grid0.Coords) (v113 : BitVec 32) (k0_hw4 : k0_chk4 i v113), ∀ (k0_h1 : k0_cond1 i = 1#1), 8 ∣ (k0_mult7 v113).toNat := fun i v113 k0_hw4 k0_h1 => k0_hw4.1 k0_h1
theorem k0_off12_inb : ∀ (i : grid0.Coords) (v113 : BitVec 32) (k0_hw4 : k0_chk4 i v113), ∀ (k0_h1 : k0_cond1 i = 1#1), ∀ a, (k0_off12 v113) a + S8x1024.size a ≤ S49152x1024.size a := fun i v113 k0_hw4 k0_h1 => k0_hw4.2 k0_h1

def k0_off13 (k0_t1 : Fin k0_t1_loop.trips) : Fin 1 → Nat :=
  let c0_i32_69 : BitVec 32 := 0#32
  let c0_i32_25 : BitVec 32 := 0#32
  let c1_i32_26 : BitVec 32 := 1#32
  let arg10 : BitVec 32 := Scf.iv c0_i32_25 c1_i32_26 k0_t1
  let c8_i32_67 : BitVec 32 := 8#32
  let v122 : BitVec 32 := Scalar.muli arg10 c8_i32_67
  let c4_i32_68 : BitVec 32 := 4#32
  let v123 : BitVec 32 := Scalar.addi v122 c4_i32_68
  let v124 : BitVec 32 := Scalar.addi c0_i32_69 v123
  let v125 : Index := Scalar.indexCast v124
  ![v125.toNat]
def k0_mult9 (v126 : BitVec 32) : BitVec 32 :=
  v126

def k0_mult10 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_67 : BitVec 32 := 8#32
  let v122 : BitVec 32 := Scalar.muli arg10 c8_i32_67
  let c4_i32_68 : BitVec 32 := 4#32
  let v123 : BitVec 32 := Scalar.addi v122 c4_i32_68
  let c8_i32_70 : BitVec 32 := 8#32
  let v128 : BitVec 32 := Scalar.muli v123 c8_i32_70
  v128
def k0_off14 (k0_t1 : Fin k0_t1_loop.trips) : Fin 3 → Nat :=
  let c0_i32_71 : BitVec 32 := 0#32
  let c0_i32_25 : BitVec 32 := 0#32
  let c1_i32_26 : BitVec 32 := 1#32
  let arg10 : BitVec 32 := Scf.iv c0_i32_25 c1_i32_26 k0_t1
  let c8_i32_67 : BitVec 32 := 8#32
  let v122 : BitVec 32 := Scalar.muli arg10 c8_i32_67
  let c4_i32_68 : BitVec 32 := 4#32
  let v123 : BitVec 32 := Scalar.addi v122 c4_i32_68
  let c8_i32_70 : BitVec 32 := 8#32
  let v128 : BitVec 32 := Scalar.muli v123 c8_i32_70
  let v129 : BitVec 32 := v128
  let c0_i32_73 : BitVec 32 := 0#32
  ![0, v129.toNat, 0]
def k0_off15 (v126 : BitVec 32) : Fin 2 → Nat :=
  let v127 : BitVec 32 := v126
  let c0_i32_74 : BitVec 32 := 0#32
  ![v127.toNat, 0]

def k0_chk5 (i : grid0.Coords) (v126 : BitVec 32) : Prop :=
  (∀ (k0_h1 : k0_cond1 i = 1#1), 8 ∣ (k0_mult9 v126).toNat) ∧
  (∀ (k0_h1 : k0_cond1 i = 1#1), ∀ a, (k0_off15 v126) a + S8x1024.size a ≤ S49152x1024.size a)
theorem k0_mult9_dvd : ∀ (i : grid0.Coords) (v126 : BitVec 32) (k0_hw5 : k0_chk5 i v126), ∀ (k0_h1 : k0_cond1 i = 1#1), 8 ∣ (k0_mult9 v126).toNat := fun i v126 k0_hw5 k0_h1 => k0_hw5.1 k0_h1
theorem k0_off15_inb : ∀ (i : grid0.Coords) (v126 : BitVec 32) (k0_hw5 : k0_chk5 i v126), ∀ (k0_h1 : k0_cond1 i = 1#1), ∀ a, (k0_off15 v126) a + S8x1024.size a ≤ S49152x1024.size a := fun i v126 k0_hw5 k0_h1 => k0_hw5.2 k0_h1

def k0_off16 (k0_t1 : Fin k0_t1_loop.trips) : Fin 1 → Nat :=
  let c0_i32_76 : BitVec 32 := 0#32
  let c0_i32_25 : BitVec 32 := 0#32
  let c1_i32_26 : BitVec 32 := 1#32
  let arg10 : BitVec 32 := Scf.iv c0_i32_25 c1_i32_26 k0_t1
  let c8_i32_75 : BitVec 32 := 8#32
  let v135 : BitVec 32 := Scalar.muli arg10 c8_i32_75
  let c5_i32 : BitVec 32 := 5#32
  let v136 : BitVec 32 := Scalar.addi v135 c5_i32
  let v137 : BitVec 32 := Scalar.addi c0_i32_76 v136
  let v138 : Index := Scalar.indexCast v137
  ![v138.toNat]
def k0_mult11 (v139 : BitVec 32) : BitVec 32 :=
  v139

def k0_mult12 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_75 : BitVec 32 := 8#32
  let v135 : BitVec 32 := Scalar.muli arg10 c8_i32_75
  let c5_i32 : BitVec 32 := 5#32
  let v136 : BitVec 32 := Scalar.addi v135 c5_i32
  let c8_i32_77 : BitVec 32 := 8#32
  let v141 : BitVec 32 := Scalar.muli v136 c8_i32_77
  v141
def k0_off17 (k0_t1 : Fin k0_t1_loop.trips) : Fin 3 → Nat :=
  let c0_i32_78 : BitVec 32 := 0#32
  let c0_i32_25 : BitVec 32 := 0#32
  let c1_i32_26 : BitVec 32 := 1#32
  let arg10 : BitVec 32 := Scf.iv c0_i32_25 c1_i32_26 k0_t1
  let c8_i32_75 : BitVec 32 := 8#32
  let v135 : BitVec 32 := Scalar.muli arg10 c8_i32_75
  let c5_i32 : BitVec 32 := 5#32
  let v136 : BitVec 32 := Scalar.addi v135 c5_i32
  let c8_i32_77 : BitVec 32 := 8#32
  let v141 : BitVec 32 := Scalar.muli v136 c8_i32_77
  let v142 : BitVec 32 := v141
  let c0_i32_80 : BitVec 32 := 0#32
  ![0, v142.toNat, 0]
def k0_off18 (v139 : BitVec 32) : Fin 2 → Nat :=
  let v140 : BitVec 32 := v139
  let c0_i32_81 : BitVec 32 := 0#32
  ![v140.toNat, 0]

def k0_chk6 (i : grid0.Coords) (v139 : BitVec 32) : Prop :=
  (∀ (k0_h1 : k0_cond1 i = 1#1), 8 ∣ (k0_mult11 v139).toNat) ∧
  (∀ (k0_h1 : k0_cond1 i = 1#1), ∀ a, (k0_off18 v139) a + S8x1024.size a ≤ S49152x1024.size a)
theorem k0_mult11_dvd : ∀ (i : grid0.Coords) (v139 : BitVec 32) (k0_hw6 : k0_chk6 i v139), ∀ (k0_h1 : k0_cond1 i = 1#1), 8 ∣ (k0_mult11 v139).toNat := fun i v139 k0_hw6 k0_h1 => k0_hw6.1 k0_h1
theorem k0_off18_inb : ∀ (i : grid0.Coords) (v139 : BitVec 32) (k0_hw6 : k0_chk6 i v139), ∀ (k0_h1 : k0_cond1 i = 1#1), ∀ a, (k0_off18 v139) a + S8x1024.size a ≤ S49152x1024.size a := fun i v139 k0_hw6 k0_h1 => k0_hw6.2 k0_h1

def k0_off19 (k0_t1 : Fin k0_t1_loop.trips) : Fin 1 → Nat :=
  let c0_i32_83 : BitVec 32 := 0#32
  let c0_i32_25 : BitVec 32 := 0#32
  let c1_i32_26 : BitVec 32 := 1#32
  let arg10 : BitVec 32 := Scf.iv c0_i32_25 c1_i32_26 k0_t1
  let c8_i32_82 : BitVec 32 := 8#32
  let v148 : BitVec 32 := Scalar.muli arg10 c8_i32_82
  let c6_i32 : BitVec 32 := 6#32
  let v149 : BitVec 32 := Scalar.addi v148 c6_i32
  let v150 : BitVec 32 := Scalar.addi c0_i32_83 v149
  let v151 : Index := Scalar.indexCast v150
  ![v151.toNat]
def k0_mult13 (v152 : BitVec 32) : BitVec 32 :=
  v152

def k0_mult14 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_82 : BitVec 32 := 8#32
  let v148 : BitVec 32 := Scalar.muli arg10 c8_i32_82
  let c6_i32 : BitVec 32 := 6#32
  let v149 : BitVec 32 := Scalar.addi v148 c6_i32
  let c8_i32_84 : BitVec 32 := 8#32
  let v154 : BitVec 32 := Scalar.muli v149 c8_i32_84
  v154
def k0_off20 (k0_t1 : Fin k0_t1_loop.trips) : Fin 3 → Nat :=
  let c0_i32_85 : BitVec 32 := 0#32
  let c0_i32_25 : BitVec 32 := 0#32
  let c1_i32_26 : BitVec 32 := 1#32
  let arg10 : BitVec 32 := Scf.iv c0_i32_25 c1_i32_26 k0_t1
  let c8_i32_82 : BitVec 32 := 8#32
  let v148 : BitVec 32 := Scalar.muli arg10 c8_i32_82
  let c6_i32 : BitVec 32 := 6#32
  let v149 : BitVec 32 := Scalar.addi v148 c6_i32
  let c8_i32_84 : BitVec 32 := 8#32
  let v154 : BitVec 32 := Scalar.muli v149 c8_i32_84
  let v155 : BitVec 32 := v154
  let c0_i32_87 : BitVec 32 := 0#32
  ![0, v155.toNat, 0]
def k0_off21 (v152 : BitVec 32) : Fin 2 → Nat :=
  let v153 : BitVec 32 := v152
  let c0_i32_88 : BitVec 32 := 0#32
  ![v153.toNat, 0]

def k0_chk7 (i : grid0.Coords) (v152 : BitVec 32) : Prop :=
  (∀ (k0_h1 : k0_cond1 i = 1#1), 8 ∣ (k0_mult13 v152).toNat) ∧
  (∀ (k0_h1 : k0_cond1 i = 1#1), ∀ a, (k0_off21 v152) a + S8x1024.size a ≤ S49152x1024.size a)
theorem k0_mult13_dvd : ∀ (i : grid0.Coords) (v152 : BitVec 32) (k0_hw7 : k0_chk7 i v152), ∀ (k0_h1 : k0_cond1 i = 1#1), 8 ∣ (k0_mult13 v152).toNat := fun i v152 k0_hw7 k0_h1 => k0_hw7.1 k0_h1
theorem k0_off21_inb : ∀ (i : grid0.Coords) (v152 : BitVec 32) (k0_hw7 : k0_chk7 i v152), ∀ (k0_h1 : k0_cond1 i = 1#1), ∀ a, (k0_off21 v152) a + S8x1024.size a ≤ S49152x1024.size a := fun i v152 k0_hw7 k0_h1 => k0_hw7.2 k0_h1

def k0_off22 (k0_t1 : Fin k0_t1_loop.trips) : Fin 1 → Nat :=
  let c0_i32_90 : BitVec 32 := 0#32
  let c0_i32_25 : BitVec 32 := 0#32
  let c1_i32_26 : BitVec 32 := 1#32
  let arg10 : BitVec 32 := Scf.iv c0_i32_25 c1_i32_26 k0_t1
  let c8_i32_89 : BitVec 32 := 8#32
  let v161 : BitVec 32 := Scalar.muli arg10 c8_i32_89
  let c7_i32 : BitVec 32 := 7#32
  let v162 : BitVec 32 := Scalar.addi v161 c7_i32
  let v163 : BitVec 32 := Scalar.addi c0_i32_90 v162
  let v164 : Index := Scalar.indexCast v163
  ![v164.toNat]
def k0_mult15 (v165 : BitVec 32) : BitVec 32 :=
  v165

def k0_mult16 (k0_t1 : Fin k0_t1_loop.trips) : BitVec 32 :=
  let c0_i32_25 : BitVec 32 := 0#32
  let c1_i32_26 : BitVec 32 := 1#32
  let arg10 : BitVec 32 := Scf.iv c0_i32_25 c1_i32_26 k0_t1
  let c8_i32_89 : BitVec 32 := 8#32
  let v161 : BitVec 32 := Scalar.muli arg10 c8_i32_89
  let c7_i32 : BitVec 32 := 7#32
  let v162 : BitVec 32 := Scalar.addi v161 c7_i32
  let c8_i32_91 : BitVec 32 := 8#32
  let v167 : BitVec 32 := Scalar.muli v162 c8_i32_91
  v167
def k0_off23 (k0_t1 : Fin k0_t1_loop.trips) : Fin 3 → Nat :=
  let c0_i32_92 : BitVec 32 := 0#32
  let c0_i32_25 : BitVec 32 := 0#32
  let c1_i32_26 : BitVec 32 := 1#32
  let arg10 : BitVec 32 := Scf.iv c0_i32_25 c1_i32_26 k0_t1
  let c8_i32_89 : BitVec 32 := 8#32
  let v161 : BitVec 32 := Scalar.muli arg10 c8_i32_89
  let c7_i32 : BitVec 32 := 7#32
  let v162 : BitVec 32 := Scalar.addi v161 c7_i32
  let c8_i32_91 : BitVec 32 := 8#32
  let v167 : BitVec 32 := Scalar.muli v162 c8_i32_91
  let v168 : BitVec 32 := v167
  let c0_i32_94 : BitVec 32 := 0#32
  ![0, v168.toNat, 0]
def k0_off24 (v165 : BitVec 32) : Fin 2 → Nat :=
  let v166 : BitVec 32 := v165
  let c0_i32_95 : BitVec 32 := 0#32
  ![v166.toNat, 0]

def k0_chk8 (i : grid0.Coords) (v165 : BitVec 32) : Prop :=
  (∀ (k0_h1 : k0_cond1 i = 1#1), 8 ∣ (k0_mult15 v165).toNat) ∧
  (∀ (k0_h1 : k0_cond1 i = 1#1), ∀ a, (k0_off24 v165) a + S8x1024.size a ≤ S49152x1024.size a)
theorem k0_mult15_dvd : ∀ (i : grid0.Coords) (v165 : BitVec 32) (k0_hw8 : k0_chk8 i v165), ∀ (k0_h1 : k0_cond1 i = 1#1), 8 ∣ (k0_mult15 v165).toNat := fun i v165 k0_hw8 k0_h1 => k0_hw8.1 k0_h1
theorem k0_off24_inb : ∀ (i : grid0.Coords) (v165 : BitVec 32) (k0_hw8 : k0_chk8 i v165), ∀ (k0_h1 : k0_cond1 i = 1#1), ∀ a, (k0_off24 v165) a + S8x1024.size a ≤ S49152x1024.size a := fun i v165 k0_hw8 k0_h1 => k0_hw8.2 k0_h1

@[reducible] def k0_t2_loop : Scf.Loop 32 :=
  let c0_i32_28 : BitVec 32 := 0#32
  let c20_i32_29 : BitVec 32 := 20#32
  let v68 : BitVec 32 := Scalar.addi c0_i32_28 c20_i32_29
  let c1_i32_30 : BitVec 32 := 1#32
  ⟨c0_i32_28, v68, c1_i32_30⟩
def k0_off25 (k0_t2 : Fin k0_t2_loop.trips) : Fin 1 → Nat :=
  let c160_i32 : BitVec 32 := 160#32
  let c0_i32_28 : BitVec 32 := 0#32
  let c1_i32_30 : BitVec 32 := 1#32
  let arg10 : BitVec 32 := Scf.iv c0_i32_28 c1_i32_30 k0_t2
  let c8_i32_36 : BitVec 32 := 8#32
  let v70 : BitVec 32 := Scalar.muli arg10 c8_i32_36
  let c0_i32_37 : BitVec 32 := 0#32
  let v71 : BitVec 32 := Scalar.addi v70 c0_i32_37
  let v72 : BitVec 32 := Scalar.addi c160_i32 v71
  let v73 : Index := Scalar.indexCast v72
  ![v73.toNat]
def k0_mult17 (v74 : BitVec 32) : BitVec 32 :=
  v74

def k0_mult18 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_36 : BitVec 32 := 8#32
  let v70 : BitVec 32 := Scalar.muli arg10 c8_i32_36
  let c0_i32_37 : BitVec 32 := 0#32
  let v71 : BitVec 32 := Scalar.addi v70 c0_i32_37
  let c8_i32_38 : BitVec 32 := 8#32
  let v76 : BitVec 32 := Scalar.muli v71 c8_i32_38
  v76
def k0_off26 (k0_t2 : Fin k0_t2_loop.trips) : Fin 3 → Nat :=
  let c1_i32_39 : BitVec 32 := 1#32
  let c0_i32_28 : BitVec 32 := 0#32
  let c1_i32_30 : BitVec 32 := 1#32
  let arg10 : BitVec 32 := Scf.iv c0_i32_28 c1_i32_30 k0_t2
  let c8_i32_36 : BitVec 32 := 8#32
  let v70 : BitVec 32 := Scalar.muli arg10 c8_i32_36
  let c0_i32_37 : BitVec 32 := 0#32
  let v71 : BitVec 32 := Scalar.addi v70 c0_i32_37
  let c8_i32_38 : BitVec 32 := 8#32
  let v76 : BitVec 32 := Scalar.muli v71 c8_i32_38
  let v77 : BitVec 32 := v76
  let c0_i32_41 : BitVec 32 := 0#32
  ![1, v77.toNat, 0]
def k0_off27 (v74 : BitVec 32) : Fin 2 → Nat :=
  let v75 : BitVec 32 := v74
  let c0_i32_42 : BitVec 32 := 0#32
  ![v75.toNat, 0]

def k0_chk9 (i : grid0.Coords) (v74 : BitVec 32) : Prop :=
  (∀ (k0_h1 : k0_cond1 i = 1#1), 8 ∣ (k0_mult17 v74).toNat) ∧
  (∀ (k0_h1 : k0_cond1 i = 1#1), ∀ a, (k0_off27 v74) a + S8x1024.size a ≤ S49152x1024.size a)
theorem k0_mult17_dvd : ∀ (i : grid0.Coords) (v74 : BitVec 32) (k0_hw9 : k0_chk9 i v74), ∀ (k0_h1 : k0_cond1 i = 1#1), 8 ∣ (k0_mult17 v74).toNat := fun i v74 k0_hw9 k0_h1 => k0_hw9.1 k0_h1
theorem k0_off27_inb : ∀ (i : grid0.Coords) (v74 : BitVec 32) (k0_hw9 : k0_chk9 i v74), ∀ (k0_h1 : k0_cond1 i = 1#1), ∀ a, (k0_off27 v74) a + S8x1024.size a ≤ S49152x1024.size a := fun i v74 k0_hw9 k0_h1 => k0_hw9.2 k0_h1

def k0_off28 (k0_t2 : Fin k0_t2_loop.trips) : Fin 1 → Nat :=
  let c160_i32_45 : BitVec 32 := 160#32
  let c0_i32_28 : BitVec 32 := 0#32
  let c1_i32_30 : BitVec 32 := 1#32
  let arg10 : BitVec 32 := Scf.iv c0_i32_28 c1_i32_30 k0_t2
  let c8_i32_43 : BitVec 32 := 8#32
  let v83 : BitVec 32 := Scalar.muli arg10 c8_i32_43
  let c1_i32_44 : BitVec 32 := 1#32
  let v84 : BitVec 32 := Scalar.addi v83 c1_i32_44
  let v85 : BitVec 32 := Scalar.addi c160_i32_45 v84
  let v86 : Index := Scalar.indexCast v85
  ![v86.toNat]
def k0_mult19 (v87 : BitVec 32) : BitVec 32 :=
  v87

def k0_mult20 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_43 : BitVec 32 := 8#32
  let v83 : BitVec 32 := Scalar.muli arg10 c8_i32_43
  let c1_i32_44 : BitVec 32 := 1#32
  let v84 : BitVec 32 := Scalar.addi v83 c1_i32_44
  let c8_i32_46 : BitVec 32 := 8#32
  let v89 : BitVec 32 := Scalar.muli v84 c8_i32_46
  v89
def k0_off29 (k0_t2 : Fin k0_t2_loop.trips) : Fin 3 → Nat :=
  let c1_i32_47 : BitVec 32 := 1#32
  let c0_i32_28 : BitVec 32 := 0#32
  let c1_i32_30 : BitVec 32 := 1#32
  let arg10 : BitVec 32 := Scf.iv c0_i32_28 c1_i32_30 k0_t2
  let c8_i32_43 : BitVec 32 := 8#32
  let v83 : BitVec 32 := Scalar.muli arg10 c8_i32_43
  let c1_i32_44 : BitVec 32 := 1#32
  let v84 : BitVec 32 := Scalar.addi v83 c1_i32_44
  let c8_i32_46 : BitVec 32 := 8#32
  let v89 : BitVec 32 := Scalar.muli v84 c8_i32_46
  let v90 : BitVec 32 := v89
  let c0_i32_49 : BitVec 32 := 0#32
  ![1, v90.toNat, 0]
def k0_off30 (v87 : BitVec 32) : Fin 2 → Nat :=
  let v88 : BitVec 32 := v87
  let c0_i32_50 : BitVec 32 := 0#32
  ![v88.toNat, 0]

def k0_chk10 (i : grid0.Coords) (v87 : BitVec 32) : Prop :=
  (∀ (k0_h1 : k0_cond1 i = 1#1), 8 ∣ (k0_mult19 v87).toNat) ∧
  (∀ (k0_h1 : k0_cond1 i = 1#1), ∀ a, (k0_off30 v87) a + S8x1024.size a ≤ S49152x1024.size a)
theorem k0_mult19_dvd : ∀ (i : grid0.Coords) (v87 : BitVec 32) (k0_hw10 : k0_chk10 i v87), ∀ (k0_h1 : k0_cond1 i = 1#1), 8 ∣ (k0_mult19 v87).toNat := fun i v87 k0_hw10 k0_h1 => k0_hw10.1 k0_h1
theorem k0_off30_inb : ∀ (i : grid0.Coords) (v87 : BitVec 32) (k0_hw10 : k0_chk10 i v87), ∀ (k0_h1 : k0_cond1 i = 1#1), ∀ a, (k0_off30 v87) a + S8x1024.size a ≤ S49152x1024.size a := fun i v87 k0_hw10 k0_h1 => k0_hw10.2 k0_h1

def k0_off31 (k0_t2 : Fin k0_t2_loop.trips) : Fin 1 → Nat :=
  let c160_i32_52 : BitVec 32 := 160#32
  let c0_i32_28 : BitVec 32 := 0#32
  let c1_i32_30 : BitVec 32 := 1#32
  let arg10 : BitVec 32 := Scf.iv c0_i32_28 c1_i32_30 k0_t2
  let c8_i32_51 : BitVec 32 := 8#32
  let v96 : BitVec 32 := Scalar.muli arg10 c8_i32_51
  let c2_i32 : BitVec 32 := 2#32
  let v97 : BitVec 32 := Scalar.addi v96 c2_i32
  let v98 : BitVec 32 := Scalar.addi c160_i32_52 v97
  let v99 : Index := Scalar.indexCast v98
  ![v99.toNat]
def k0_mult21 (v100 : BitVec 32) : BitVec 32 :=
  v100

def k0_mult22 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_51 : BitVec 32 := 8#32
  let v96 : BitVec 32 := Scalar.muli arg10 c8_i32_51
  let c2_i32 : BitVec 32 := 2#32
  let v97 : BitVec 32 := Scalar.addi v96 c2_i32
  let c8_i32_53 : BitVec 32 := 8#32
  let v102 : BitVec 32 := Scalar.muli v97 c8_i32_53
  v102
def k0_off32 (k0_t2 : Fin k0_t2_loop.trips) : Fin 3 → Nat :=
  let c1_i32_54 : BitVec 32 := 1#32
  let c0_i32_28 : BitVec 32 := 0#32
  let c1_i32_30 : BitVec 32 := 1#32
  let arg10 : BitVec 32 := Scf.iv c0_i32_28 c1_i32_30 k0_t2
  let c8_i32_51 : BitVec 32 := 8#32
  let v96 : BitVec 32 := Scalar.muli arg10 c8_i32_51
  let c2_i32 : BitVec 32 := 2#32
  let v97 : BitVec 32 := Scalar.addi v96 c2_i32
  let c8_i32_53 : BitVec 32 := 8#32
  let v102 : BitVec 32 := Scalar.muli v97 c8_i32_53
  let v103 : BitVec 32 := v102
  let c0_i32_56 : BitVec 32 := 0#32
  ![1, v103.toNat, 0]
def k0_off33 (v100 : BitVec 32) : Fin 2 → Nat :=
  let v101 : BitVec 32 := v100
  let c0_i32_57 : BitVec 32 := 0#32
  ![v101.toNat, 0]

def k0_chk11 (i : grid0.Coords) (v100 : BitVec 32) : Prop :=
  (∀ (k0_h1 : k0_cond1 i = 1#1), 8 ∣ (k0_mult21 v100).toNat) ∧
  (∀ (k0_h1 : k0_cond1 i = 1#1), ∀ a, (k0_off33 v100) a + S8x1024.size a ≤ S49152x1024.size a)
theorem k0_mult21_dvd : ∀ (i : grid0.Coords) (v100 : BitVec 32) (k0_hw11 : k0_chk11 i v100), ∀ (k0_h1 : k0_cond1 i = 1#1), 8 ∣ (k0_mult21 v100).toNat := fun i v100 k0_hw11 k0_h1 => k0_hw11.1 k0_h1
theorem k0_off33_inb : ∀ (i : grid0.Coords) (v100 : BitVec 32) (k0_hw11 : k0_chk11 i v100), ∀ (k0_h1 : k0_cond1 i = 1#1), ∀ a, (k0_off33 v100) a + S8x1024.size a ≤ S49152x1024.size a := fun i v100 k0_hw11 k0_h1 => k0_hw11.2 k0_h1

def k0_off34 (k0_t2 : Fin k0_t2_loop.trips) : Fin 1 → Nat :=
  let c160_i32_60 : BitVec 32 := 160#32
  let c0_i32_28 : BitVec 32 := 0#32
  let c1_i32_30 : BitVec 32 := 1#32
  let arg10 : BitVec 32 := Scf.iv c0_i32_28 c1_i32_30 k0_t2
  let c8_i32_58 : BitVec 32 := 8#32
  let v109 : BitVec 32 := Scalar.muli arg10 c8_i32_58
  let c3_i32_59 : BitVec 32 := 3#32
  let v110 : BitVec 32 := Scalar.addi v109 c3_i32_59
  let v111 : BitVec 32 := Scalar.addi c160_i32_60 v110
  let v112 : Index := Scalar.indexCast v111
  ![v112.toNat]
def k0_mult23 (v113 : BitVec 32) : BitVec 32 :=
  v113

def k0_mult24 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_58 : BitVec 32 := 8#32
  let v109 : BitVec 32 := Scalar.muli arg10 c8_i32_58
  let c3_i32_59 : BitVec 32 := 3#32
  let v110 : BitVec 32 := Scalar.addi v109 c3_i32_59
  let c8_i32_61 : BitVec 32 := 8#32
  let v115 : BitVec 32 := Scalar.muli v110 c8_i32_61
  v115
def k0_off35 (k0_t2 : Fin k0_t2_loop.trips) : Fin 3 → Nat :=
  let c1_i32_62 : BitVec 32 := 1#32
  let c0_i32_28 : BitVec 32 := 0#32
  let c1_i32_30 : BitVec 32 := 1#32
  let arg10 : BitVec 32 := Scf.iv c0_i32_28 c1_i32_30 k0_t2
  let c8_i32_58 : BitVec 32 := 8#32
  let v109 : BitVec 32 := Scalar.muli arg10 c8_i32_58
  let c3_i32_59 : BitVec 32 := 3#32
  let v110 : BitVec 32 := Scalar.addi v109 c3_i32_59
  let c8_i32_61 : BitVec 32 := 8#32
  let v115 : BitVec 32 := Scalar.muli v110 c8_i32_61
  let v116 : BitVec 32 := v115
  let c0_i32_64 : BitVec 32 := 0#32
  ![1, v116.toNat, 0]
def k0_off36 (v113 : BitVec 32) : Fin 2 → Nat :=
  let v114 : BitVec 32 := v113
  let c0_i32_65 : BitVec 32 := 0#32
  ![v114.toNat, 0]

def k0_chk12 (i : grid0.Coords) (v113 : BitVec 32) : Prop :=
  (∀ (k0_h1 : k0_cond1 i = 1#1), 8 ∣ (k0_mult23 v113).toNat) ∧
  (∀ (k0_h1 : k0_cond1 i = 1#1), ∀ a, (k0_off36 v113) a + S8x1024.size a ≤ S49152x1024.size a)
theorem k0_mult23_dvd : ∀ (i : grid0.Coords) (v113 : BitVec 32) (k0_hw12 : k0_chk12 i v113), ∀ (k0_h1 : k0_cond1 i = 1#1), 8 ∣ (k0_mult23 v113).toNat := fun i v113 k0_hw12 k0_h1 => k0_hw12.1 k0_h1
theorem k0_off36_inb : ∀ (i : grid0.Coords) (v113 : BitVec 32) (k0_hw12 : k0_chk12 i v113), ∀ (k0_h1 : k0_cond1 i = 1#1), ∀ a, (k0_off36 v113) a + S8x1024.size a ≤ S49152x1024.size a := fun i v113 k0_hw12 k0_h1 => k0_hw12.2 k0_h1

def k0_off37 (k0_t2 : Fin k0_t2_loop.trips) : Fin 1 → Nat :=
  let c160_i32_68 : BitVec 32 := 160#32
  let c0_i32_28 : BitVec 32 := 0#32
  let c1_i32_30 : BitVec 32 := 1#32
  let arg10 : BitVec 32 := Scf.iv c0_i32_28 c1_i32_30 k0_t2
  let c8_i32_66 : BitVec 32 := 8#32
  let v122 : BitVec 32 := Scalar.muli arg10 c8_i32_66
  let c4_i32_67 : BitVec 32 := 4#32
  let v123 : BitVec 32 := Scalar.addi v122 c4_i32_67
  let v124 : BitVec 32 := Scalar.addi c160_i32_68 v123
  let v125 : Index := Scalar.indexCast v124
  ![v125.toNat]
def k0_mult25 (v126 : BitVec 32) : BitVec 32 :=
  v126

def k0_mult26 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_66 : BitVec 32 := 8#32
  let v122 : BitVec 32 := Scalar.muli arg10 c8_i32_66
  let c4_i32_67 : BitVec 32 := 4#32
  let v123 : BitVec 32 := Scalar.addi v122 c4_i32_67
  let c8_i32_69 : BitVec 32 := 8#32
  let v128 : BitVec 32 := Scalar.muli v123 c8_i32_69
  v128
def k0_off38 (k0_t2 : Fin k0_t2_loop.trips) : Fin 3 → Nat :=
  let c1_i32_70 : BitVec 32 := 1#32
  let c0_i32_28 : BitVec 32 := 0#32
  let c1_i32_30 : BitVec 32 := 1#32
  let arg10 : BitVec 32 := Scf.iv c0_i32_28 c1_i32_30 k0_t2
  let c8_i32_66 : BitVec 32 := 8#32
  let v122 : BitVec 32 := Scalar.muli arg10 c8_i32_66
  let c4_i32_67 : BitVec 32 := 4#32
  let v123 : BitVec 32 := Scalar.addi v122 c4_i32_67
  let c8_i32_69 : BitVec 32 := 8#32
  let v128 : BitVec 32 := Scalar.muli v123 c8_i32_69
  let v129 : BitVec 32 := v128
  let c0_i32_72 : BitVec 32 := 0#32
  ![1, v129.toNat, 0]
def k0_off39 (v126 : BitVec 32) : Fin 2 → Nat :=
  let v127 : BitVec 32 := v126
  let c0_i32_73 : BitVec 32 := 0#32
  ![v127.toNat, 0]

def k0_chk13 (i : grid0.Coords) (v126 : BitVec 32) : Prop :=
  (∀ (k0_h1 : k0_cond1 i = 1#1), 8 ∣ (k0_mult25 v126).toNat) ∧
  (∀ (k0_h1 : k0_cond1 i = 1#1), ∀ a, (k0_off39 v126) a + S8x1024.size a ≤ S49152x1024.size a)
theorem k0_mult25_dvd : ∀ (i : grid0.Coords) (v126 : BitVec 32) (k0_hw13 : k0_chk13 i v126), ∀ (k0_h1 : k0_cond1 i = 1#1), 8 ∣ (k0_mult25 v126).toNat := fun i v126 k0_hw13 k0_h1 => k0_hw13.1 k0_h1
theorem k0_off39_inb : ∀ (i : grid0.Coords) (v126 : BitVec 32) (k0_hw13 : k0_chk13 i v126), ∀ (k0_h1 : k0_cond1 i = 1#1), ∀ a, (k0_off39 v126) a + S8x1024.size a ≤ S49152x1024.size a := fun i v126 k0_hw13 k0_h1 => k0_hw13.2 k0_h1

def k0_off40 (k0_t2 : Fin k0_t2_loop.trips) : Fin 1 → Nat :=
  let c160_i32_75 : BitVec 32 := 160#32
  let c0_i32_28 : BitVec 32 := 0#32
  let c1_i32_30 : BitVec 32 := 1#32
  let arg10 : BitVec 32 := Scf.iv c0_i32_28 c1_i32_30 k0_t2
  let c8_i32_74 : BitVec 32 := 8#32
  let v135 : BitVec 32 := Scalar.muli arg10 c8_i32_74
  let c5_i32 : BitVec 32 := 5#32
  let v136 : BitVec 32 := Scalar.addi v135 c5_i32
  let v137 : BitVec 32 := Scalar.addi c160_i32_75 v136
  let v138 : Index := Scalar.indexCast v137
  ![v138.toNat]
def k0_mult27 (v139 : BitVec 32) : BitVec 32 :=
  v139

def k0_mult28 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_74 : BitVec 32 := 8#32
  let v135 : BitVec 32 := Scalar.muli arg10 c8_i32_74
  let c5_i32 : BitVec 32 := 5#32
  let v136 : BitVec 32 := Scalar.addi v135 c5_i32
  let c8_i32_76 : BitVec 32 := 8#32
  let v141 : BitVec 32 := Scalar.muli v136 c8_i32_76
  v141
def k0_off41 (k0_t2 : Fin k0_t2_loop.trips) : Fin 3 → Nat :=
  let c1_i32_77 : BitVec 32 := 1#32
  let c0_i32_28 : BitVec 32 := 0#32
  let c1_i32_30 : BitVec 32 := 1#32
  let arg10 : BitVec 32 := Scf.iv c0_i32_28 c1_i32_30 k0_t2
  let c8_i32_74 : BitVec 32 := 8#32
  let v135 : BitVec 32 := Scalar.muli arg10 c8_i32_74
  let c5_i32 : BitVec 32 := 5#32
  let v136 : BitVec 32 := Scalar.addi v135 c5_i32
  let c8_i32_76 : BitVec 32 := 8#32
  let v141 : BitVec 32 := Scalar.muli v136 c8_i32_76
  let v142 : BitVec 32 := v141
  let c0_i32_79 : BitVec 32 := 0#32
  ![1, v142.toNat, 0]
def k0_off42 (v139 : BitVec 32) : Fin 2 → Nat :=
  let v140 : BitVec 32 := v139
  let c0_i32_80 : BitVec 32 := 0#32
  ![v140.toNat, 0]

def k0_chk14 (i : grid0.Coords) (v139 : BitVec 32) : Prop :=
  (∀ (k0_h1 : k0_cond1 i = 1#1), 8 ∣ (k0_mult27 v139).toNat) ∧
  (∀ (k0_h1 : k0_cond1 i = 1#1), ∀ a, (k0_off42 v139) a + S8x1024.size a ≤ S49152x1024.size a)
theorem k0_mult27_dvd : ∀ (i : grid0.Coords) (v139 : BitVec 32) (k0_hw14 : k0_chk14 i v139), ∀ (k0_h1 : k0_cond1 i = 1#1), 8 ∣ (k0_mult27 v139).toNat := fun i v139 k0_hw14 k0_h1 => k0_hw14.1 k0_h1
theorem k0_off42_inb : ∀ (i : grid0.Coords) (v139 : BitVec 32) (k0_hw14 : k0_chk14 i v139), ∀ (k0_h1 : k0_cond1 i = 1#1), ∀ a, (k0_off42 v139) a + S8x1024.size a ≤ S49152x1024.size a := fun i v139 k0_hw14 k0_h1 => k0_hw14.2 k0_h1

def k0_off43 (k0_t2 : Fin k0_t2_loop.trips) : Fin 1 → Nat :=
  let c160_i32_82 : BitVec 32 := 160#32
  let c0_i32_28 : BitVec 32 := 0#32
  let c1_i32_30 : BitVec 32 := 1#32
  let arg10 : BitVec 32 := Scf.iv c0_i32_28 c1_i32_30 k0_t2
  let c8_i32_81 : BitVec 32 := 8#32
  let v148 : BitVec 32 := Scalar.muli arg10 c8_i32_81
  let c6_i32 : BitVec 32 := 6#32
  let v149 : BitVec 32 := Scalar.addi v148 c6_i32
  let v150 : BitVec 32 := Scalar.addi c160_i32_82 v149
  let v151 : Index := Scalar.indexCast v150
  ![v151.toNat]
def k0_mult29 (v152 : BitVec 32) : BitVec 32 :=
  v152

def k0_mult30 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_81 : BitVec 32 := 8#32
  let v148 : BitVec 32 := Scalar.muli arg10 c8_i32_81
  let c6_i32 : BitVec 32 := 6#32
  let v149 : BitVec 32 := Scalar.addi v148 c6_i32
  let c8_i32_83 : BitVec 32 := 8#32
  let v154 : BitVec 32 := Scalar.muli v149 c8_i32_83
  v154
def k0_off44 (k0_t2 : Fin k0_t2_loop.trips) : Fin 3 → Nat :=
  let c1_i32_84 : BitVec 32 := 1#32
  let c0_i32_28 : BitVec 32 := 0#32
  let c1_i32_30 : BitVec 32 := 1#32
  let arg10 : BitVec 32 := Scf.iv c0_i32_28 c1_i32_30 k0_t2
  let c8_i32_81 : BitVec 32 := 8#32
  let v148 : BitVec 32 := Scalar.muli arg10 c8_i32_81
  let c6_i32 : BitVec 32 := 6#32
  let v149 : BitVec 32 := Scalar.addi v148 c6_i32
  let c8_i32_83 : BitVec 32 := 8#32
  let v154 : BitVec 32 := Scalar.muli v149 c8_i32_83
  let v155 : BitVec 32 := v154
  let c0_i32_86 : BitVec 32 := 0#32
  ![1, v155.toNat, 0]
def k0_off45 (v152 : BitVec 32) : Fin 2 → Nat :=
  let v153 : BitVec 32 := v152
  let c0_i32_87 : BitVec 32 := 0#32
  ![v153.toNat, 0]

def k0_chk15 (i : grid0.Coords) (v152 : BitVec 32) : Prop :=
  (∀ (k0_h1 : k0_cond1 i = 1#1), 8 ∣ (k0_mult29 v152).toNat) ∧
  (∀ (k0_h1 : k0_cond1 i = 1#1), ∀ a, (k0_off45 v152) a + S8x1024.size a ≤ S49152x1024.size a)
theorem k0_mult29_dvd : ∀ (i : grid0.Coords) (v152 : BitVec 32) (k0_hw15 : k0_chk15 i v152), ∀ (k0_h1 : k0_cond1 i = 1#1), 8 ∣ (k0_mult29 v152).toNat := fun i v152 k0_hw15 k0_h1 => k0_hw15.1 k0_h1
theorem k0_off45_inb : ∀ (i : grid0.Coords) (v152 : BitVec 32) (k0_hw15 : k0_chk15 i v152), ∀ (k0_h1 : k0_cond1 i = 1#1), ∀ a, (k0_off45 v152) a + S8x1024.size a ≤ S49152x1024.size a := fun i v152 k0_hw15 k0_h1 => k0_hw15.2 k0_h1

def k0_off46 (k0_t2 : Fin k0_t2_loop.trips) : Fin 1 → Nat :=
  let c160_i32_89 : BitVec 32 := 160#32
  let c0_i32_28 : BitVec 32 := 0#32
  let c1_i32_30 : BitVec 32 := 1#32
  let arg10 : BitVec 32 := Scf.iv c0_i32_28 c1_i32_30 k0_t2
  let c8_i32_88 : BitVec 32 := 8#32
  let v161 : BitVec 32 := Scalar.muli arg10 c8_i32_88
  let c7_i32 : BitVec 32 := 7#32
  let v162 : BitVec 32 := Scalar.addi v161 c7_i32
  let v163 : BitVec 32 := Scalar.addi c160_i32_89 v162
  let v164 : Index := Scalar.indexCast v163
  ![v164.toNat]
def k0_mult31 (v165 : BitVec 32) : BitVec 32 :=
  v165

def k0_mult32 (k0_t2 : Fin k0_t2_loop.trips) : BitVec 32 :=
  let c0_i32_28 : BitVec 32 := 0#32
  let c1_i32_30 : BitVec 32 := 1#32
  let arg10 : BitVec 32 := Scf.iv c0_i32_28 c1_i32_30 k0_t2
  let c8_i32_88 : BitVec 32 := 8#32
  let v161 : BitVec 32 := Scalar.muli arg10 c8_i32_88
  let c7_i32 : BitVec 32 := 7#32
  let v162 : BitVec 32 := Scalar.addi v161 c7_i32
  let c8_i32_90 : BitVec 32 := 8#32
  let v167 : BitVec 32 := Scalar.muli v162 c8_i32_90
  v167
def k0_off47 (k0_t2 : Fin k0_t2_loop.trips) : Fin 3 → Nat :=
  let c1_i32_91 : BitVec 32 := 1#32
  let c0_i32_28 : BitVec 32 := 0#32
  let c1_i32_30 : BitVec 32 := 1#32
  let arg10 : BitVec 32 := Scf.iv c0_i32_28 c1_i32_30 k0_t2
  let c8_i32_88 : BitVec 32 := 8#32
  let v161 : BitVec 32 := Scalar.muli arg10 c8_i32_88
  let c7_i32 : BitVec 32 := 7#32
  let v162 : BitVec 32 := Scalar.addi v161 c7_i32
  let c8_i32_90 : BitVec 32 := 8#32
  let v167 : BitVec 32 := Scalar.muli v162 c8_i32_90
  let v168 : BitVec 32 := v167
  let c0_i32_93 : BitVec 32 := 0#32
  ![1, v168.toNat, 0]
def k0_off48 (v165 : BitVec 32) : Fin 2 → Nat :=
  let v166 : BitVec 32 := v165
  let c0_i32_94 : BitVec 32 := 0#32
  ![v166.toNat, 0]

def k0_chk16 (i : grid0.Coords) (v165 : BitVec 32) : Prop :=
  (∀ (k0_h1 : k0_cond1 i = 1#1), 8 ∣ (k0_mult31 v165).toNat) ∧
  (∀ (k0_h1 : k0_cond1 i = 1#1), ∀ a, (k0_off48 v165) a + S8x1024.size a ≤ S49152x1024.size a)
theorem k0_mult31_dvd : ∀ (i : grid0.Coords) (v165 : BitVec 32) (k0_hw16 : k0_chk16 i v165), ∀ (k0_h1 : k0_cond1 i = 1#1), 8 ∣ (k0_mult31 v165).toNat := fun i v165 k0_hw16 k0_h1 => k0_hw16.1 k0_h1
theorem k0_off48_inb : ∀ (i : grid0.Coords) (v165 : BitVec 32) (k0_hw16 : k0_chk16 i v165), ∀ (k0_h1 : k0_cond1 i = 1#1), ∀ a, (k0_off48 v165) a + S8x1024.size a ≤ S49152x1024.size a := fun i v165 k0_hw16 k0_h1 => k0_hw16.2 k0_h1

@[reducible] def k0_t3_loop : Scf.Loop 32 :=
  let c0_i32_32 : BitVec 32 := 0#32
  let c20_i32_33 : BitVec 32 := 20#32
  let v69 : BitVec 32 := Scalar.addi c0_i32_32 c20_i32_33
  let c1_i32_34 : BitVec 32 := 1#32
  ⟨c0_i32_32, v69, c1_i32_34⟩
def k0_off49 (k0_t3 : Fin k0_t3_loop.trips) : Fin 1 → Nat :=
  let c320_i32 : BitVec 32 := 320#32
  let c0_i32_32 : BitVec 32 := 0#32
  let c1_i32_34 : BitVec 32 := 1#32
  let arg10 : BitVec 32 := Scf.iv c0_i32_32 c1_i32_34 k0_t3
  let c8_i32_36 : BitVec 32 := 8#32
  let v70 : BitVec 32 := Scalar.muli arg10 c8_i32_36
  let c0_i32_37 : BitVec 32 := 0#32
  let v71 : BitVec 32 := Scalar.addi v70 c0_i32_37
  let v72 : BitVec 32 := Scalar.addi c320_i32 v71
  let v73 : Index := Scalar.indexCast v72
  ![v73.toNat]
def k0_mult33 (v74 : BitVec 32) : BitVec 32 :=
  v74

def k0_mult34 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_36 : BitVec 32 := 8#32
  let v70 : BitVec 32 := Scalar.muli arg10 c8_i32_36
  let c0_i32_37 : BitVec 32 := 0#32
  let v71 : BitVec 32 := Scalar.addi v70 c0_i32_37
  let c8_i32_38 : BitVec 32 := 8#32
  let v76 : BitVec 32 := Scalar.muli v71 c8_i32_38
  v76
def k0_off50 (k0_t3 : Fin k0_t3_loop.trips) : Fin 3 → Nat :=
  let c2_i32 : BitVec 32 := 2#32
  let c0_i32_32 : BitVec 32 := 0#32
  let c1_i32_34 : BitVec 32 := 1#32
  let arg10 : BitVec 32 := Scf.iv c0_i32_32 c1_i32_34 k0_t3
  let c8_i32_36 : BitVec 32 := 8#32
  let v70 : BitVec 32 := Scalar.muli arg10 c8_i32_36
  let c0_i32_37 : BitVec 32 := 0#32
  let v71 : BitVec 32 := Scalar.addi v70 c0_i32_37
  let c8_i32_38 : BitVec 32 := 8#32
  let v76 : BitVec 32 := Scalar.muli v71 c8_i32_38
  let v77 : BitVec 32 := v76
  let c0_i32_40 : BitVec 32 := 0#32
  ![2, v77.toNat, 0]
def k0_off51 (v74 : BitVec 32) : Fin 2 → Nat :=
  let v75 : BitVec 32 := v74
  let c0_i32_41 : BitVec 32 := 0#32
  ![v75.toNat, 0]

def k0_chk17 (i : grid0.Coords) (v74 : BitVec 32) : Prop :=
  (∀ (k0_h1 : k0_cond1 i = 1#1), 8 ∣ (k0_mult33 v74).toNat) ∧
  (∀ (k0_h1 : k0_cond1 i = 1#1), ∀ a, (k0_off51 v74) a + S8x1024.size a ≤ S49152x1024.size a)
theorem k0_mult33_dvd : ∀ (i : grid0.Coords) (v74 : BitVec 32) (k0_hw17 : k0_chk17 i v74), ∀ (k0_h1 : k0_cond1 i = 1#1), 8 ∣ (k0_mult33 v74).toNat := fun i v74 k0_hw17 k0_h1 => k0_hw17.1 k0_h1
theorem k0_off51_inb : ∀ (i : grid0.Coords) (v74 : BitVec 32) (k0_hw17 : k0_chk17 i v74), ∀ (k0_h1 : k0_cond1 i = 1#1), ∀ a, (k0_off51 v74) a + S8x1024.size a ≤ S49152x1024.size a := fun i v74 k0_hw17 k0_h1 => k0_hw17.2 k0_h1

def k0_off52 (k0_t3 : Fin k0_t3_loop.trips) : Fin 1 → Nat :=
  let c320_i32_44 : BitVec 32 := 320#32
  let c0_i32_32 : BitVec 32 := 0#32
  let c1_i32_34 : BitVec 32 := 1#32
  let arg10 : BitVec 32 := Scf.iv c0_i32_32 c1_i32_34 k0_t3
  let c8_i32_42 : BitVec 32 := 8#32
  let v83 : BitVec 32 := Scalar.muli arg10 c8_i32_42
  let c1_i32_43 : BitVec 32 := 1#32
  let v84 : BitVec 32 := Scalar.addi v83 c1_i32_43
  let v85 : BitVec 32 := Scalar.addi c320_i32_44 v84
  let v86 : Index := Scalar.indexCast v85
  ![v86.toNat]
def k0_mult35 (v87 : BitVec 32) : BitVec 32 :=
  v87

def k0_mult36 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_42 : BitVec 32 := 8#32
  let v83 : BitVec 32 := Scalar.muli arg10 c8_i32_42
  let c1_i32_43 : BitVec 32 := 1#32
  let v84 : BitVec 32 := Scalar.addi v83 c1_i32_43
  let c8_i32_45 : BitVec 32 := 8#32
  let v89 : BitVec 32 := Scalar.muli v84 c8_i32_45
  v89
def k0_off53 (k0_t3 : Fin k0_t3_loop.trips) : Fin 3 → Nat :=
  let c2_i32_46 : BitVec 32 := 2#32
  let c0_i32_32 : BitVec 32 := 0#32
  let c1_i32_34 : BitVec 32 := 1#32
  let arg10 : BitVec 32 := Scf.iv c0_i32_32 c1_i32_34 k0_t3
  let c8_i32_42 : BitVec 32 := 8#32
  let v83 : BitVec 32 := Scalar.muli arg10 c8_i32_42
  let c1_i32_43 : BitVec 32 := 1#32
  let v84 : BitVec 32 := Scalar.addi v83 c1_i32_43
  let c8_i32_45 : BitVec 32 := 8#32
  let v89 : BitVec 32 := Scalar.muli v84 c8_i32_45
  let v90 : BitVec 32 := v89
  let c0_i32_48 : BitVec 32 := 0#32
  ![2, v90.toNat, 0]
def k0_off54 (v87 : BitVec 32) : Fin 2 → Nat :=
  let v88 : BitVec 32 := v87
  let c0_i32_49 : BitVec 32 := 0#32
  ![v88.toNat, 0]

def k0_chk18 (i : grid0.Coords) (v87 : BitVec 32) : Prop :=
  (∀ (k0_h1 : k0_cond1 i = 1#1), 8 ∣ (k0_mult35 v87).toNat) ∧
  (∀ (k0_h1 : k0_cond1 i = 1#1), ∀ a, (k0_off54 v87) a + S8x1024.size a ≤ S49152x1024.size a)
theorem k0_mult35_dvd : ∀ (i : grid0.Coords) (v87 : BitVec 32) (k0_hw18 : k0_chk18 i v87), ∀ (k0_h1 : k0_cond1 i = 1#1), 8 ∣ (k0_mult35 v87).toNat := fun i v87 k0_hw18 k0_h1 => k0_hw18.1 k0_h1
theorem k0_off54_inb : ∀ (i : grid0.Coords) (v87 : BitVec 32) (k0_hw18 : k0_chk18 i v87), ∀ (k0_h1 : k0_cond1 i = 1#1), ∀ a, (k0_off54 v87) a + S8x1024.size a ≤ S49152x1024.size a := fun i v87 k0_hw18 k0_h1 => k0_hw18.2 k0_h1

def k0_off55 (k0_t3 : Fin k0_t3_loop.trips) : Fin 1 → Nat :=
  let c320_i32_52 : BitVec 32 := 320#32
  let c0_i32_32 : BitVec 32 := 0#32
  let c1_i32_34 : BitVec 32 := 1#32
  let arg10 : BitVec 32 := Scf.iv c0_i32_32 c1_i32_34 k0_t3
  let c8_i32_50 : BitVec 32 := 8#32
  let v96 : BitVec 32 := Scalar.muli arg10 c8_i32_50
  let c2_i32_51 : BitVec 32 := 2#32
  let v97 : BitVec 32 := Scalar.addi v96 c2_i32_51
  let v98 : BitVec 32 := Scalar.addi c320_i32_52 v97
  let v99 : Index := Scalar.indexCast v98
  ![v99.toNat]
def k0_mult37 (v100 : BitVec 32) : BitVec 32 :=
  v100

def k0_mult38 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_50 : BitVec 32 := 8#32
  let v96 : BitVec 32 := Scalar.muli arg10 c8_i32_50
  let c2_i32_51 : BitVec 32 := 2#32
  let v97 : BitVec 32 := Scalar.addi v96 c2_i32_51
  let c8_i32_53 : BitVec 32 := 8#32
  let v102 : BitVec 32 := Scalar.muli v97 c8_i32_53
  v102
def k0_off56 (k0_t3 : Fin k0_t3_loop.trips) : Fin 3 → Nat :=
  let c2_i32_54 : BitVec 32 := 2#32
  let c0_i32_32 : BitVec 32 := 0#32
  let c1_i32_34 : BitVec 32 := 1#32
  let arg10 : BitVec 32 := Scf.iv c0_i32_32 c1_i32_34 k0_t3
  let c8_i32_50 : BitVec 32 := 8#32
  let v96 : BitVec 32 := Scalar.muli arg10 c8_i32_50
  let c2_i32_51 : BitVec 32 := 2#32
  let v97 : BitVec 32 := Scalar.addi v96 c2_i32_51
  let c8_i32_53 : BitVec 32 := 8#32
  let v102 : BitVec 32 := Scalar.muli v97 c8_i32_53
  let v103 : BitVec 32 := v102
  let c0_i32_56 : BitVec 32 := 0#32
  ![2, v103.toNat, 0]
def k0_off57 (v100 : BitVec 32) : Fin 2 → Nat :=
  let v101 : BitVec 32 := v100
  let c0_i32_57 : BitVec 32 := 0#32
  ![v101.toNat, 0]

def k0_chk19 (i : grid0.Coords) (v100 : BitVec 32) : Prop :=
  (∀ (k0_h1 : k0_cond1 i = 1#1), 8 ∣ (k0_mult37 v100).toNat) ∧
  (∀ (k0_h1 : k0_cond1 i = 1#1), ∀ a, (k0_off57 v100) a + S8x1024.size a ≤ S49152x1024.size a)
theorem k0_mult37_dvd : ∀ (i : grid0.Coords) (v100 : BitVec 32) (k0_hw19 : k0_chk19 i v100), ∀ (k0_h1 : k0_cond1 i = 1#1), 8 ∣ (k0_mult37 v100).toNat := fun i v100 k0_hw19 k0_h1 => k0_hw19.1 k0_h1
theorem k0_off57_inb : ∀ (i : grid0.Coords) (v100 : BitVec 32) (k0_hw19 : k0_chk19 i v100), ∀ (k0_h1 : k0_cond1 i = 1#1), ∀ a, (k0_off57 v100) a + S8x1024.size a ≤ S49152x1024.size a := fun i v100 k0_hw19 k0_h1 => k0_hw19.2 k0_h1

def k0_off58 (k0_t3 : Fin k0_t3_loop.trips) : Fin 1 → Nat :=
  let c320_i32_60 : BitVec 32 := 320#32
  let c0_i32_32 : BitVec 32 := 0#32
  let c1_i32_34 : BitVec 32 := 1#32
  let arg10 : BitVec 32 := Scf.iv c0_i32_32 c1_i32_34 k0_t3
  let c8_i32_58 : BitVec 32 := 8#32
  let v109 : BitVec 32 := Scalar.muli arg10 c8_i32_58
  let c3_i32_59 : BitVec 32 := 3#32
  let v110 : BitVec 32 := Scalar.addi v109 c3_i32_59
  let v111 : BitVec 32 := Scalar.addi c320_i32_60 v110
  let v112 : Index := Scalar.indexCast v111
  ![v112.toNat]
def k0_mult39 (v113 : BitVec 32) : BitVec 32 :=
  v113

def k0_mult40 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_58 : BitVec 32 := 8#32
  let v109 : BitVec 32 := Scalar.muli arg10 c8_i32_58
  let c3_i32_59 : BitVec 32 := 3#32
  let v110 : BitVec 32 := Scalar.addi v109 c3_i32_59
  let c8_i32_61 : BitVec 32 := 8#32
  let v115 : BitVec 32 := Scalar.muli v110 c8_i32_61
  v115
def k0_off59 (k0_t3 : Fin k0_t3_loop.trips) : Fin 3 → Nat :=
  let c2_i32_62 : BitVec 32 := 2#32
  let c0_i32_32 : BitVec 32 := 0#32
  let c1_i32_34 : BitVec 32 := 1#32
  let arg10 : BitVec 32 := Scf.iv c0_i32_32 c1_i32_34 k0_t3
  let c8_i32_58 : BitVec 32 := 8#32
  let v109 : BitVec 32 := Scalar.muli arg10 c8_i32_58
  let c3_i32_59 : BitVec 32 := 3#32
  let v110 : BitVec 32 := Scalar.addi v109 c3_i32_59
  let c8_i32_61 : BitVec 32 := 8#32
  let v115 : BitVec 32 := Scalar.muli v110 c8_i32_61
  let v116 : BitVec 32 := v115
  let c0_i32_64 : BitVec 32 := 0#32
  ![2, v116.toNat, 0]
def k0_off60 (v113 : BitVec 32) : Fin 2 → Nat :=
  let v114 : BitVec 32 := v113
  let c0_i32_65 : BitVec 32 := 0#32
  ![v114.toNat, 0]

def k0_chk20 (i : grid0.Coords) (v113 : BitVec 32) : Prop :=
  (∀ (k0_h1 : k0_cond1 i = 1#1), 8 ∣ (k0_mult39 v113).toNat) ∧
  (∀ (k0_h1 : k0_cond1 i = 1#1), ∀ a, (k0_off60 v113) a + S8x1024.size a ≤ S49152x1024.size a)
theorem k0_mult39_dvd : ∀ (i : grid0.Coords) (v113 : BitVec 32) (k0_hw20 : k0_chk20 i v113), ∀ (k0_h1 : k0_cond1 i = 1#1), 8 ∣ (k0_mult39 v113).toNat := fun i v113 k0_hw20 k0_h1 => k0_hw20.1 k0_h1
theorem k0_off60_inb : ∀ (i : grid0.Coords) (v113 : BitVec 32) (k0_hw20 : k0_chk20 i v113), ∀ (k0_h1 : k0_cond1 i = 1#1), ∀ a, (k0_off60 v113) a + S8x1024.size a ≤ S49152x1024.size a := fun i v113 k0_hw20 k0_h1 => k0_hw20.2 k0_h1

def k0_off61 (k0_t3 : Fin k0_t3_loop.trips) : Fin 1 → Nat :=
  let c320_i32_68 : BitVec 32 := 320#32
  let c0_i32_32 : BitVec 32 := 0#32
  let c1_i32_34 : BitVec 32 := 1#32
  let arg10 : BitVec 32 := Scf.iv c0_i32_32 c1_i32_34 k0_t3
  let c8_i32_66 : BitVec 32 := 8#32
  let v122 : BitVec 32 := Scalar.muli arg10 c8_i32_66
  let c4_i32_67 : BitVec 32 := 4#32
  let v123 : BitVec 32 := Scalar.addi v122 c4_i32_67
  let v124 : BitVec 32 := Scalar.addi c320_i32_68 v123
  let v125 : Index := Scalar.indexCast v124
  ![v125.toNat]
def k0_mult41 (v126 : BitVec 32) : BitVec 32 :=
  v126

def k0_mult42 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_66 : BitVec 32 := 8#32
  let v122 : BitVec 32 := Scalar.muli arg10 c8_i32_66
  let c4_i32_67 : BitVec 32 := 4#32
  let v123 : BitVec 32 := Scalar.addi v122 c4_i32_67
  let c8_i32_69 : BitVec 32 := 8#32
  let v128 : BitVec 32 := Scalar.muli v123 c8_i32_69
  v128
def k0_off62 (k0_t3 : Fin k0_t3_loop.trips) : Fin 3 → Nat :=
  let c2_i32_70 : BitVec 32 := 2#32
  let c0_i32_32 : BitVec 32 := 0#32
  let c1_i32_34 : BitVec 32 := 1#32
  let arg10 : BitVec 32 := Scf.iv c0_i32_32 c1_i32_34 k0_t3
  let c8_i32_66 : BitVec 32 := 8#32
  let v122 : BitVec 32 := Scalar.muli arg10 c8_i32_66
  let c4_i32_67 : BitVec 32 := 4#32
  let v123 : BitVec 32 := Scalar.addi v122 c4_i32_67
  let c8_i32_69 : BitVec 32 := 8#32
  let v128 : BitVec 32 := Scalar.muli v123 c8_i32_69
  let v129 : BitVec 32 := v128
  let c0_i32_72 : BitVec 32 := 0#32
  ![2, v129.toNat, 0]
def k0_off63 (v126 : BitVec 32) : Fin 2 → Nat :=
  let v127 : BitVec 32 := v126
  let c0_i32_73 : BitVec 32 := 0#32
  ![v127.toNat, 0]

def k0_chk21 (i : grid0.Coords) (v126 : BitVec 32) : Prop :=
  (∀ (k0_h1 : k0_cond1 i = 1#1), 8 ∣ (k0_mult41 v126).toNat) ∧
  (∀ (k0_h1 : k0_cond1 i = 1#1), ∀ a, (k0_off63 v126) a + S8x1024.size a ≤ S49152x1024.size a)
theorem k0_mult41_dvd : ∀ (i : grid0.Coords) (v126 : BitVec 32) (k0_hw21 : k0_chk21 i v126), ∀ (k0_h1 : k0_cond1 i = 1#1), 8 ∣ (k0_mult41 v126).toNat := fun i v126 k0_hw21 k0_h1 => k0_hw21.1 k0_h1
theorem k0_off63_inb : ∀ (i : grid0.Coords) (v126 : BitVec 32) (k0_hw21 : k0_chk21 i v126), ∀ (k0_h1 : k0_cond1 i = 1#1), ∀ a, (k0_off63 v126) a + S8x1024.size a ≤ S49152x1024.size a := fun i v126 k0_hw21 k0_h1 => k0_hw21.2 k0_h1

def k0_off64 (k0_t3 : Fin k0_t3_loop.trips) : Fin 1 → Nat :=
  let c320_i32_75 : BitVec 32 := 320#32
  let c0_i32_32 : BitVec 32 := 0#32
  let c1_i32_34 : BitVec 32 := 1#32
  let arg10 : BitVec 32 := Scf.iv c0_i32_32 c1_i32_34 k0_t3
  let c8_i32_74 : BitVec 32 := 8#32
  let v135 : BitVec 32 := Scalar.muli arg10 c8_i32_74
  let c5_i32 : BitVec 32 := 5#32
  let v136 : BitVec 32 := Scalar.addi v135 c5_i32
  let v137 : BitVec 32 := Scalar.addi c320_i32_75 v136
  let v138 : Index := Scalar.indexCast v137
  ![v138.toNat]
def k0_mult43 (v139 : BitVec 32) : BitVec 32 :=
  v139

def k0_mult44 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_74 : BitVec 32 := 8#32
  let v135 : BitVec 32 := Scalar.muli arg10 c8_i32_74
  let c5_i32 : BitVec 32 := 5#32
  let v136 : BitVec 32 := Scalar.addi v135 c5_i32
  let c8_i32_76 : BitVec 32 := 8#32
  let v141 : BitVec 32 := Scalar.muli v136 c8_i32_76
  v141
def k0_off65 (k0_t3 : Fin k0_t3_loop.trips) : Fin 3 → Nat :=
  let c2_i32_77 : BitVec 32 := 2#32
  let c0_i32_32 : BitVec 32 := 0#32
  let c1_i32_34 : BitVec 32 := 1#32
  let arg10 : BitVec 32 := Scf.iv c0_i32_32 c1_i32_34 k0_t3
  let c8_i32_74 : BitVec 32 := 8#32
  let v135 : BitVec 32 := Scalar.muli arg10 c8_i32_74
  let c5_i32 : BitVec 32 := 5#32
  let v136 : BitVec 32 := Scalar.addi v135 c5_i32
  let c8_i32_76 : BitVec 32 := 8#32
  let v141 : BitVec 32 := Scalar.muli v136 c8_i32_76
  let v142 : BitVec 32 := v141
  let c0_i32_79 : BitVec 32 := 0#32
  ![2, v142.toNat, 0]
def k0_off66 (v139 : BitVec 32) : Fin 2 → Nat :=
  let v140 : BitVec 32 := v139
  let c0_i32_80 : BitVec 32 := 0#32
  ![v140.toNat, 0]

def k0_chk22 (i : grid0.Coords) (v139 : BitVec 32) : Prop :=
  (∀ (k0_h1 : k0_cond1 i = 1#1), 8 ∣ (k0_mult43 v139).toNat) ∧
  (∀ (k0_h1 : k0_cond1 i = 1#1), ∀ a, (k0_off66 v139) a + S8x1024.size a ≤ S49152x1024.size a)
theorem k0_mult43_dvd : ∀ (i : grid0.Coords) (v139 : BitVec 32) (k0_hw22 : k0_chk22 i v139), ∀ (k0_h1 : k0_cond1 i = 1#1), 8 ∣ (k0_mult43 v139).toNat := fun i v139 k0_hw22 k0_h1 => k0_hw22.1 k0_h1
theorem k0_off66_inb : ∀ (i : grid0.Coords) (v139 : BitVec 32) (k0_hw22 : k0_chk22 i v139), ∀ (k0_h1 : k0_cond1 i = 1#1), ∀ a, (k0_off66 v139) a + S8x1024.size a ≤ S49152x1024.size a := fun i v139 k0_hw22 k0_h1 => k0_hw22.2 k0_h1

def k0_off67 (k0_t3 : Fin k0_t3_loop.trips) : Fin 1 → Nat :=
  let c320_i32_82 : BitVec 32 := 320#32
  let c0_i32_32 : BitVec 32 := 0#32
  let c1_i32_34 : BitVec 32 := 1#32
  let arg10 : BitVec 32 := Scf.iv c0_i32_32 c1_i32_34 k0_t3
  let c8_i32_81 : BitVec 32 := 8#32
  let v148 : BitVec 32 := Scalar.muli arg10 c8_i32_81
  let c6_i32 : BitVec 32 := 6#32
  let v149 : BitVec 32 := Scalar.addi v148 c6_i32
  let v150 : BitVec 32 := Scalar.addi c320_i32_82 v149
  let v151 : Index := Scalar.indexCast v150
  ![v151.toNat]
def k0_mult45 (v152 : BitVec 32) : BitVec 32 :=
  v152

def k0_mult46 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_81 : BitVec 32 := 8#32
  let v148 : BitVec 32 := Scalar.muli arg10 c8_i32_81
  let c6_i32 : BitVec 32 := 6#32
  let v149 : BitVec 32 := Scalar.addi v148 c6_i32
  let c8_i32_83 : BitVec 32 := 8#32
  let v154 : BitVec 32 := Scalar.muli v149 c8_i32_83
  v154
def k0_off68 (k0_t3 : Fin k0_t3_loop.trips) : Fin 3 → Nat :=
  let c2_i32_84 : BitVec 32 := 2#32
  let c0_i32_32 : BitVec 32 := 0#32
  let c1_i32_34 : BitVec 32 := 1#32
  let arg10 : BitVec 32 := Scf.iv c0_i32_32 c1_i32_34 k0_t3
  let c8_i32_81 : BitVec 32 := 8#32
  let v148 : BitVec 32 := Scalar.muli arg10 c8_i32_81
  let c6_i32 : BitVec 32 := 6#32
  let v149 : BitVec 32 := Scalar.addi v148 c6_i32
  let c8_i32_83 : BitVec 32 := 8#32
  let v154 : BitVec 32 := Scalar.muli v149 c8_i32_83
  let v155 : BitVec 32 := v154
  let c0_i32_86 : BitVec 32 := 0#32
  ![2, v155.toNat, 0]
def k0_off69 (v152 : BitVec 32) : Fin 2 → Nat :=
  let v153 : BitVec 32 := v152
  let c0_i32_87 : BitVec 32 := 0#32
  ![v153.toNat, 0]

def k0_chk23 (i : grid0.Coords) (v152 : BitVec 32) : Prop :=
  (∀ (k0_h1 : k0_cond1 i = 1#1), 8 ∣ (k0_mult45 v152).toNat) ∧
  (∀ (k0_h1 : k0_cond1 i = 1#1), ∀ a, (k0_off69 v152) a + S8x1024.size a ≤ S49152x1024.size a)
theorem k0_mult45_dvd : ∀ (i : grid0.Coords) (v152 : BitVec 32) (k0_hw23 : k0_chk23 i v152), ∀ (k0_h1 : k0_cond1 i = 1#1), 8 ∣ (k0_mult45 v152).toNat := fun i v152 k0_hw23 k0_h1 => k0_hw23.1 k0_h1
theorem k0_off69_inb : ∀ (i : grid0.Coords) (v152 : BitVec 32) (k0_hw23 : k0_chk23 i v152), ∀ (k0_h1 : k0_cond1 i = 1#1), ∀ a, (k0_off69 v152) a + S8x1024.size a ≤ S49152x1024.size a := fun i v152 k0_hw23 k0_h1 => k0_hw23.2 k0_h1

def k0_off70 (k0_t3 : Fin k0_t3_loop.trips) : Fin 1 → Nat :=
  let c320_i32_89 : BitVec 32 := 320#32
  let c0_i32_32 : BitVec 32 := 0#32
  let c1_i32_34 : BitVec 32 := 1#32
  let arg10 : BitVec 32 := Scf.iv c0_i32_32 c1_i32_34 k0_t3
  let c8_i32_88 : BitVec 32 := 8#32
  let v161 : BitVec 32 := Scalar.muli arg10 c8_i32_88
  let c7_i32 : BitVec 32 := 7#32
  let v162 : BitVec 32 := Scalar.addi v161 c7_i32
  let v163 : BitVec 32 := Scalar.addi c320_i32_89 v162
  let v164 : Index := Scalar.indexCast v163
  ![v164.toNat]
def k0_mult47 (v165 : BitVec 32) : BitVec 32 :=
  v165

def k0_mult48 (k0_t3 : Fin k0_t3_loop.trips) : BitVec 32 :=
  let c0_i32_32 : BitVec 32 := 0#32
  let c1_i32_34 : BitVec 32 := 1#32
  let arg10 : BitVec 32 := Scf.iv c0_i32_32 c1_i32_34 k0_t3
  let c8_i32_88 : BitVec 32 := 8#32
  let v161 : BitVec 32 := Scalar.muli arg10 c8_i32_88
  let c7_i32 : BitVec 32 := 7#32
  let v162 : BitVec 32 := Scalar.addi v161 c7_i32
  let c8_i32_90 : BitVec 32 := 8#32
  let v167 : BitVec 32 := Scalar.muli v162 c8_i32_90
  v167
def k0_off71 (k0_t3 : Fin k0_t3_loop.trips) : Fin 3 → Nat :=
  let c2_i32_91 : BitVec 32 := 2#32
  let c0_i32_32 : BitVec 32 := 0#32
  let c1_i32_34 : BitVec 32 := 1#32
  let arg10 : BitVec 32 := Scf.iv c0_i32_32 c1_i32_34 k0_t3
  let c8_i32_88 : BitVec 32 := 8#32
  let v161 : BitVec 32 := Scalar.muli arg10 c8_i32_88
  let c7_i32 : BitVec 32 := 7#32
  let v162 : BitVec 32 := Scalar.addi v161 c7_i32
  let c8_i32_90 : BitVec 32 := 8#32
  let v167 : BitVec 32 := Scalar.muli v162 c8_i32_90
  let v168 : BitVec 32 := v167
  let c0_i32_93 : BitVec 32 := 0#32
  ![2, v168.toNat, 0]
def k0_off72 (v165 : BitVec 32) : Fin 2 → Nat :=
  let v166 : BitVec 32 := v165
  let c0_i32_94 : BitVec 32 := 0#32
  ![v166.toNat, 0]

def k0_chk24 (i : grid0.Coords) (v165 : BitVec 32) : Prop :=
  (∀ (k0_h1 : k0_cond1 i = 1#1), 8 ∣ (k0_mult47 v165).toNat) ∧
  (∀ (k0_h1 : k0_cond1 i = 1#1), ∀ a, (k0_off72 v165) a + S8x1024.size a ≤ S49152x1024.size a)
theorem k0_mult47_dvd : ∀ (i : grid0.Coords) (v165 : BitVec 32) (k0_hw24 : k0_chk24 i v165), ∀ (k0_h1 : k0_cond1 i = 1#1), 8 ∣ (k0_mult47 v165).toNat := fun i v165 k0_hw24 k0_h1 => k0_hw24.1 k0_h1
theorem k0_off72_inb : ∀ (i : grid0.Coords) (v165 : BitVec 32) (k0_hw24 : k0_chk24 i v165), ∀ (k0_h1 : k0_cond1 i = 1#1), ∀ a, (k0_off72 v165) a + S8x1024.size a ≤ S49152x1024.size a := fun i v165 k0_hw24 k0_h1 => k0_hw24.2 k0_h1

def k0_cond2 (i : grid0.Coords) : BitVec 1 :=
  let arg0 : BitVec 32 := BitVec.ofNat 32 (i 0).val
  let c3_i32 : BitVec 32 := 3#32
  let v13 : BitVec 32 := Scalar.addi arg0 c3_i32
  let c32_i32 : BitVec 32 := 32#32
  let v14 : BitVec 1 := Scalar.cmpi .slt v13 c32_i32
  let v15 : BitVec 32 := Scalar.extui v14
  let c0_i32_5 : BitVec 32 := 0#32
  let v16 : BitVec 1 := Scalar.cmpi .ne v15 c0_i32_5
  v16

@[reducible] def k0_t4_loop : Scf.Loop 32 :=
  let c0_i32_33 : BitVec 32 := 0#32
  let c20_i32 : BitVec 32 := 20#32
  let v79 : BitVec 32 := Scalar.addi c0_i32_33 c20_i32
  let c1_i32_34 : BitVec 32 := 1#32
  ⟨c0_i32_33, v79, c1_i32_34⟩
def k0_off73 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32 : BitVec 32 := 160#32
  let v82 : BitVec 32 := Scalar.muli v67 c160_i32
  let c0_i32_33 : BitVec 32 := 0#32
  let c1_i32_34 : BitVec 32 := 1#32
  let arg10 : BitVec 32 := Scf.iv c0_i32_33 c1_i32_34 k0_t4
  let c8_i32_36 : BitVec 32 := 8#32
  let v80 : BitVec 32 := Scalar.muli arg10 c8_i32_36
  let c0_i32_37 : BitVec 32 := 0#32
  let v81 : BitVec 32 := Scalar.addi v80 c0_i32_37
  let v83 : BitVec 32 := Scalar.addi v82 v81
  let v84 : Index := Scalar.indexCast v83
  ![v84.toNat]
def k0_mult49 (v85 : BitVec 32) : BitVec 32 :=
  v85

def k0_mult50 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_36 : BitVec 32 := 8#32
  let v80 : BitVec 32 := Scalar.muli arg10 c8_i32_36
  let c0_i32_37 : BitVec 32 := 0#32
  let v81 : BitVec 32 := Scalar.addi v80 c0_i32_37
  let c8_i32_38 : BitVec 32 := 8#32
  let v87 : BitVec 32 := Scalar.muli v81 c8_i32_38
  v87
def k0_off74 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off75 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_36 : BitVec 32 := 8#32
  let v80 : BitVec 32 := Scalar.muli arg10 c8_i32_36
  let c0_i32_37 : BitVec 32 := 0#32
  let v81 : BitVec 32 := Scalar.addi v80 c0_i32_37
  let c8_i32_38 : BitVec 32 := 8#32
  let v87 : BitVec 32 := Scalar.muli v81 c8_i32_38
  let v88 : BitVec 32 := v87
  let c0_i32_39 : BitVec 32 := 0#32
  ![v78.toNat, v88.toNat, 0]
def k0_off76 (v85 : BitVec 32) : Fin 2 → Nat :=
  let v86 : BitVec 32 := v85
  let c0_i32_40 : BitVec 32 := 0#32
  ![v86.toNat, 0]

def k0_chk25 (i : grid0.Coords) (v85 : BitVec 32) : Prop :=
  (∀ (k0_h2 : k0_cond2 i = 1#1), 8 ∣ (k0_mult49 v85).toNat) ∧
  (∀ (k0_h2 : k0_cond2 i = 1#1), ∀ a, (k0_off76 v85) a + S8x1024.size a ≤ S49152x1024.size a)
theorem k0_mult49_dvd : ∀ (i : grid0.Coords) (v85 : BitVec 32) (k0_hw25 : k0_chk25 i v85), ∀ (k0_h2 : k0_cond2 i = 1#1), 8 ∣ (k0_mult49 v85).toNat := fun i v85 k0_hw25 k0_h2 => k0_hw25.1 k0_h2
theorem k0_off76_inb : ∀ (i : grid0.Coords) (v85 : BitVec 32) (k0_hw25 : k0_chk25 i v85), ∀ (k0_h2 : k0_cond2 i = 1#1), ∀ a, (k0_off76 v85) a + S8x1024.size a ≤ S49152x1024.size a := fun i v85 k0_hw25 k0_h2 => k0_hw25.2 k0_h2

def k0_off77 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_43 : BitVec 32 := 160#32
  let v96 : BitVec 32 := Scalar.muli v67 c160_i32_43
  let c0_i32_33 : BitVec 32 := 0#32
  let c1_i32_34 : BitVec 32 := 1#32
  let arg10 : BitVec 32 := Scf.iv c0_i32_33 c1_i32_34 k0_t4
  let c8_i32_41 : BitVec 32 := 8#32
  let v94 : BitVec 32 := Scalar.muli arg10 c8_i32_41
  let c1_i32_42 : BitVec 32 := 1#32
  let v95 : BitVec 32 := Scalar.addi v94 c1_i32_42
  let v97 : BitVec 32 := Scalar.addi v96 v95
  let v98 : Index := Scalar.indexCast v97
  ![v98.toNat]
def k0_mult51 (v99 : BitVec 32) : BitVec 32 :=
  v99

def k0_mult52 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_41 : BitVec 32 := 8#32
  let v94 : BitVec 32 := Scalar.muli arg10 c8_i32_41
  let c1_i32_42 : BitVec 32 := 1#32
  let v95 : BitVec 32 := Scalar.addi v94 c1_i32_42
  let c8_i32_44 : BitVec 32 := 8#32
  let v101 : BitVec 32 := Scalar.muli v95 c8_i32_44
  v101
def k0_off78 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off79 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_41 : BitVec 32 := 8#32
  let v94 : BitVec 32 := Scalar.muli arg10 c8_i32_41
  let c1_i32_42 : BitVec 32 := 1#32
  let v95 : BitVec 32 := Scalar.addi v94 c1_i32_42
  let c8_i32_44 : BitVec 32 := 8#32
  let v101 : BitVec 32 := Scalar.muli v95 c8_i32_44
  let v102 : BitVec 32 := v101
  let c0_i32_45 : BitVec 32 := 0#32
  ![v78.toNat, v102.toNat, 0]
def k0_off80 (v99 : BitVec 32) : Fin 2 → Nat :=
  let v100 : BitVec 32 := v99
  let c0_i32_46 : BitVec 32 := 0#32
  ![v100.toNat, 0]

def k0_chk26 (i : grid0.Coords) (v99 : BitVec 32) : Prop :=
  (∀ (k0_h2 : k0_cond2 i = 1#1), 8 ∣ (k0_mult51 v99).toNat) ∧
  (∀ (k0_h2 : k0_cond2 i = 1#1), ∀ a, (k0_off80 v99) a + S8x1024.size a ≤ S49152x1024.size a)
theorem k0_mult51_dvd : ∀ (i : grid0.Coords) (v99 : BitVec 32) (k0_hw26 : k0_chk26 i v99), ∀ (k0_h2 : k0_cond2 i = 1#1), 8 ∣ (k0_mult51 v99).toNat := fun i v99 k0_hw26 k0_h2 => k0_hw26.1 k0_h2
theorem k0_off80_inb : ∀ (i : grid0.Coords) (v99 : BitVec 32) (k0_hw26 : k0_chk26 i v99), ∀ (k0_h2 : k0_cond2 i = 1#1), ∀ a, (k0_off80 v99) a + S8x1024.size a ≤ S49152x1024.size a := fun i v99 k0_hw26 k0_h2 => k0_hw26.2 k0_h2

def k0_off81 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_48 : BitVec 32 := 160#32
  let v110 : BitVec 32 := Scalar.muli v67 c160_i32_48
  let c0_i32_33 : BitVec 32 := 0#32
  let c1_i32_34 : BitVec 32 := 1#32
  let arg10 : BitVec 32 := Scf.iv c0_i32_33 c1_i32_34 k0_t4
  let c8_i32_47 : BitVec 32 := 8#32
  let v108 : BitVec 32 := Scalar.muli arg10 c8_i32_47
  let c2_i32 : BitVec 32 := 2#32
  let v109 : BitVec 32 := Scalar.addi v108 c2_i32
  let v111 : BitVec 32 := Scalar.addi v110 v109
  let v112 : Index := Scalar.indexCast v111
  ![v112.toNat]
def k0_mult53 (v113 : BitVec 32) : BitVec 32 :=
  v113

def k0_mult54 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_47 : BitVec 32 := 8#32
  let v108 : BitVec 32 := Scalar.muli arg10 c8_i32_47
  let c2_i32 : BitVec 32 := 2#32
  let v109 : BitVec 32 := Scalar.addi v108 c2_i32
  let c8_i32_49 : BitVec 32 := 8#32
  let v115 : BitVec 32 := Scalar.muli v109 c8_i32_49
  v115
def k0_off82 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off83 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_47 : BitVec 32 := 8#32
  let v108 : BitVec 32 := Scalar.muli arg10 c8_i32_47
  let c2_i32 : BitVec 32 := 2#32
  let v109 : BitVec 32 := Scalar.addi v108 c2_i32
  let c8_i32_49 : BitVec 32 := 8#32
  let v115 : BitVec 32 := Scalar.muli v109 c8_i32_49
  let v116 : BitVec 32 := v115
  let c0_i32_50 : BitVec 32 := 0#32
  ![v78.toNat, v116.toNat, 0]
def k0_off84 (v113 : BitVec 32) : Fin 2 → Nat :=
  let v114 : BitVec 32 := v113
  let c0_i32_51 : BitVec 32 := 0#32
  ![v114.toNat, 0]

def k0_chk27 (i : grid0.Coords) (v113 : BitVec 32) : Prop :=
  (∀ (k0_h2 : k0_cond2 i = 1#1), 8 ∣ (k0_mult53 v113).toNat) ∧
  (∀ (k0_h2 : k0_cond2 i = 1#1), ∀ a, (k0_off84 v113) a + S8x1024.size a ≤ S49152x1024.size a)
theorem k0_mult53_dvd : ∀ (i : grid0.Coords) (v113 : BitVec 32) (k0_hw27 : k0_chk27 i v113), ∀ (k0_h2 : k0_cond2 i = 1#1), 8 ∣ (k0_mult53 v113).toNat := fun i v113 k0_hw27 k0_h2 => k0_hw27.1 k0_h2
theorem k0_off84_inb : ∀ (i : grid0.Coords) (v113 : BitVec 32) (k0_hw27 : k0_chk27 i v113), ∀ (k0_h2 : k0_cond2 i = 1#1), ∀ a, (k0_off84 v113) a + S8x1024.size a ≤ S49152x1024.size a := fun i v113 k0_hw27 k0_h2 => k0_hw27.2 k0_h2

def k0_off85 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_54 : BitVec 32 := 160#32
  let v124 : BitVec 32 := Scalar.muli v67 c160_i32_54
  let c0_i32_33 : BitVec 32 := 0#32
  let c1_i32_34 : BitVec 32 := 1#32
  let arg10 : BitVec 32 := Scf.iv c0_i32_33 c1_i32_34 k0_t4
  let c8_i32_52 : BitVec 32 := 8#32
  let v122 : BitVec 32 := Scalar.muli arg10 c8_i32_52
  let c3_i32_53 : BitVec 32 := 3#32
  let v123 : BitVec 32 := Scalar.addi v122 c3_i32_53
  let v125 : BitVec 32 := Scalar.addi v124 v123
  let v126 : Index := Scalar.indexCast v125
  ![v126.toNat]
def k0_mult55 (v127 : BitVec 32) : BitVec 32 :=
  v127

def k0_mult56 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_52 : BitVec 32 := 8#32
  let v122 : BitVec 32 := Scalar.muli arg10 c8_i32_52
  let c3_i32_53 : BitVec 32 := 3#32
  let v123 : BitVec 32 := Scalar.addi v122 c3_i32_53
  let c8_i32_55 : BitVec 32 := 8#32
  let v129 : BitVec 32 := Scalar.muli v123 c8_i32_55
  v129
def k0_off86 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off87 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_52 : BitVec 32 := 8#32
  let v122 : BitVec 32 := Scalar.muli arg10 c8_i32_52
  let c3_i32_53 : BitVec 32 := 3#32
  let v123 : BitVec 32 := Scalar.addi v122 c3_i32_53
  let c8_i32_55 : BitVec 32 := 8#32
  let v129 : BitVec 32 := Scalar.muli v123 c8_i32_55
  let v130 : BitVec 32 := v129
  let c0_i32_56 : BitVec 32 := 0#32
  ![v78.toNat, v130.toNat, 0]
def k0_off88 (v127 : BitVec 32) : Fin 2 → Nat :=
  let v128 : BitVec 32 := v127
  let c0_i32_57 : BitVec 32 := 0#32
  ![v128.toNat, 0]

def k0_chk28 (i : grid0.Coords) (v127 : BitVec 32) : Prop :=
  (∀ (k0_h2 : k0_cond2 i = 1#1), 8 ∣ (k0_mult55 v127).toNat) ∧
  (∀ (k0_h2 : k0_cond2 i = 1#1), ∀ a, (k0_off88 v127) a + S8x1024.size a ≤ S49152x1024.size a)
theorem k0_mult55_dvd : ∀ (i : grid0.Coords) (v127 : BitVec 32) (k0_hw28 : k0_chk28 i v127), ∀ (k0_h2 : k0_cond2 i = 1#1), 8 ∣ (k0_mult55 v127).toNat := fun i v127 k0_hw28 k0_h2 => k0_hw28.1 k0_h2
theorem k0_off88_inb : ∀ (i : grid0.Coords) (v127 : BitVec 32) (k0_hw28 : k0_chk28 i v127), ∀ (k0_h2 : k0_cond2 i = 1#1), ∀ a, (k0_off88 v127) a + S8x1024.size a ≤ S49152x1024.size a := fun i v127 k0_hw28 k0_h2 => k0_hw28.2 k0_h2

def k0_off89 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_60 : BitVec 32 := 160#32
  let v138 : BitVec 32 := Scalar.muli v67 c160_i32_60
  let c0_i32_33 : BitVec 32 := 0#32
  let c1_i32_34 : BitVec 32 := 1#32
  let arg10 : BitVec 32 := Scf.iv c0_i32_33 c1_i32_34 k0_t4
  let c8_i32_58 : BitVec 32 := 8#32
  let v136 : BitVec 32 := Scalar.muli arg10 c8_i32_58
  let c4_i32_59 : BitVec 32 := 4#32
  let v137 : BitVec 32 := Scalar.addi v136 c4_i32_59
  let v139 : BitVec 32 := Scalar.addi v138 v137
  let v140 : Index := Scalar.indexCast v139
  ![v140.toNat]
def k0_mult57 (v141 : BitVec 32) : BitVec 32 :=
  v141

def k0_mult58 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_58 : BitVec 32 := 8#32
  let v136 : BitVec 32 := Scalar.muli arg10 c8_i32_58
  let c4_i32_59 : BitVec 32 := 4#32
  let v137 : BitVec 32 := Scalar.addi v136 c4_i32_59
  let c8_i32_61 : BitVec 32 := 8#32
  let v143 : BitVec 32 := Scalar.muli v137 c8_i32_61
  v143
def k0_off90 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off91 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_58 : BitVec 32 := 8#32
  let v136 : BitVec 32 := Scalar.muli arg10 c8_i32_58
  let c4_i32_59 : BitVec 32 := 4#32
  let v137 : BitVec 32 := Scalar.addi v136 c4_i32_59
  let c8_i32_61 : BitVec 32 := 8#32
  let v143 : BitVec 32 := Scalar.muli v137 c8_i32_61
  let v144 : BitVec 32 := v143
  let c0_i32_62 : BitVec 32 := 0#32
  ![v78.toNat, v144.toNat, 0]
def k0_off92 (v141 : BitVec 32) : Fin 2 → Nat :=
  let v142 : BitVec 32 := v141
  let c0_i32_63 : BitVec 32 := 0#32
  ![v142.toNat, 0]

def k0_chk29 (i : grid0.Coords) (v141 : BitVec 32) : Prop :=
  (∀ (k0_h2 : k0_cond2 i = 1#1), 8 ∣ (k0_mult57 v141).toNat) ∧
  (∀ (k0_h2 : k0_cond2 i = 1#1), ∀ a, (k0_off92 v141) a + S8x1024.size a ≤ S49152x1024.size a)
theorem k0_mult57_dvd : ∀ (i : grid0.Coords) (v141 : BitVec 32) (k0_hw29 : k0_chk29 i v141), ∀ (k0_h2 : k0_cond2 i = 1#1), 8 ∣ (k0_mult57 v141).toNat := fun i v141 k0_hw29 k0_h2 => k0_hw29.1 k0_h2
theorem k0_off92_inb : ∀ (i : grid0.Coords) (v141 : BitVec 32) (k0_hw29 : k0_chk29 i v141), ∀ (k0_h2 : k0_cond2 i = 1#1), ∀ a, (k0_off92 v141) a + S8x1024.size a ≤ S49152x1024.size a := fun i v141 k0_hw29 k0_h2 => k0_hw29.2 k0_h2

def k0_off93 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_65 : BitVec 32 := 160#32
  let v152 : BitVec 32 := Scalar.muli v67 c160_i32_65
  let c0_i32_33 : BitVec 32 := 0#32
  let c1_i32_34 : BitVec 32 := 1#32
  let arg10 : BitVec 32 := Scf.iv c0_i32_33 c1_i32_34 k0_t4
  let c8_i32_64 : BitVec 32 := 8#32
  let v150 : BitVec 32 := Scalar.muli arg10 c8_i32_64
  let c5_i32 : BitVec 32 := 5#32
  let v151 : BitVec 32 := Scalar.addi v150 c5_i32
  let v153 : BitVec 32 := Scalar.addi v152 v151
  let v154 : Index := Scalar.indexCast v153
  ![v154.toNat]
def k0_mult59 (v155 : BitVec 32) : BitVec 32 :=
  v155

def k0_mult60 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_64 : BitVec 32 := 8#32
  let v150 : BitVec 32 := Scalar.muli arg10 c8_i32_64
  let c5_i32 : BitVec 32 := 5#32
  let v151 : BitVec 32 := Scalar.addi v150 c5_i32
  let c8_i32_66 : BitVec 32 := 8#32
  let v157 : BitVec 32 := Scalar.muli v151 c8_i32_66
  v157
def k0_off94 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off95 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_64 : BitVec 32 := 8#32
  let v150 : BitVec 32 := Scalar.muli arg10 c8_i32_64
  let c5_i32 : BitVec 32 := 5#32
  let v151 : BitVec 32 := Scalar.addi v150 c5_i32
  let c8_i32_66 : BitVec 32 := 8#32
  let v157 : BitVec 32 := Scalar.muli v151 c8_i32_66
  let v158 : BitVec 32 := v157
  let c0_i32_67 : BitVec 32 := 0#32
  ![v78.toNat, v158.toNat, 0]
def k0_off96 (v155 : BitVec 32) : Fin 2 → Nat :=
  let v156 : BitVec 32 := v155
  let c0_i32_68 : BitVec 32 := 0#32
  ![v156.toNat, 0]

def k0_chk30 (i : grid0.Coords) (v155 : BitVec 32) : Prop :=
  (∀ (k0_h2 : k0_cond2 i = 1#1), 8 ∣ (k0_mult59 v155).toNat) ∧
  (∀ (k0_h2 : k0_cond2 i = 1#1), ∀ a, (k0_off96 v155) a + S8x1024.size a ≤ S49152x1024.size a)
theorem k0_mult59_dvd : ∀ (i : grid0.Coords) (v155 : BitVec 32) (k0_hw30 : k0_chk30 i v155), ∀ (k0_h2 : k0_cond2 i = 1#1), 8 ∣ (k0_mult59 v155).toNat := fun i v155 k0_hw30 k0_h2 => k0_hw30.1 k0_h2
theorem k0_off96_inb : ∀ (i : grid0.Coords) (v155 : BitVec 32) (k0_hw30 : k0_chk30 i v155), ∀ (k0_h2 : k0_cond2 i = 1#1), ∀ a, (k0_off96 v155) a + S8x1024.size a ≤ S49152x1024.size a := fun i v155 k0_hw30 k0_h2 => k0_hw30.2 k0_h2

def k0_off97 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_70 : BitVec 32 := 160#32
  let v166 : BitVec 32 := Scalar.muli v67 c160_i32_70
  let c0_i32_33 : BitVec 32 := 0#32
  let c1_i32_34 : BitVec 32 := 1#32
  let arg10 : BitVec 32 := Scf.iv c0_i32_33 c1_i32_34 k0_t4
  let c8_i32_69 : BitVec 32 := 8#32
  let v164 : BitVec 32 := Scalar.muli arg10 c8_i32_69
  let c6_i32 : BitVec 32 := 6#32
  let v165 : BitVec 32 := Scalar.addi v164 c6_i32
  let v167 : BitVec 32 := Scalar.addi v166 v165
  let v168 : Index := Scalar.indexCast v167
  ![v168.toNat]
def k0_mult61 (v169 : BitVec 32) : BitVec 32 :=
  v169

def k0_mult62 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_69 : BitVec 32 := 8#32
  let v164 : BitVec 32 := Scalar.muli arg10 c8_i32_69
  let c6_i32 : BitVec 32 := 6#32
  let v165 : BitVec 32 := Scalar.addi v164 c6_i32
  let c8_i32_71 : BitVec 32 := 8#32
  let v171 : BitVec 32 := Scalar.muli v165 c8_i32_71
  v171
def k0_off98 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off99 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_69 : BitVec 32 := 8#32
  let v164 : BitVec 32 := Scalar.muli arg10 c8_i32_69
  let c6_i32 : BitVec 32 := 6#32
  let v165 : BitVec 32 := Scalar.addi v164 c6_i32
  let c8_i32_71 : BitVec 32 := 8#32
  let v171 : BitVec 32 := Scalar.muli v165 c8_i32_71
  let v172 : BitVec 32 := v171
  let c0_i32_72 : BitVec 32 := 0#32
  ![v78.toNat, v172.toNat, 0]
def k0_off100 (v169 : BitVec 32) : Fin 2 → Nat :=
  let v170 : BitVec 32 := v169
  let c0_i32_73 : BitVec 32 := 0#32
  ![v170.toNat, 0]

def k0_chk31 (i : grid0.Coords) (v169 : BitVec 32) : Prop :=
  (∀ (k0_h2 : k0_cond2 i = 1#1), 8 ∣ (k0_mult61 v169).toNat) ∧
  (∀ (k0_h2 : k0_cond2 i = 1#1), ∀ a, (k0_off100 v169) a + S8x1024.size a ≤ S49152x1024.size a)
theorem k0_mult61_dvd : ∀ (i : grid0.Coords) (v169 : BitVec 32) (k0_hw31 : k0_chk31 i v169), ∀ (k0_h2 : k0_cond2 i = 1#1), 8 ∣ (k0_mult61 v169).toNat := fun i v169 k0_hw31 k0_h2 => k0_hw31.1 k0_h2
theorem k0_off100_inb : ∀ (i : grid0.Coords) (v169 : BitVec 32) (k0_hw31 : k0_chk31 i v169), ∀ (k0_h2 : k0_cond2 i = 1#1), ∀ a, (k0_off100 v169) a + S8x1024.size a ≤ S49152x1024.size a := fun i v169 k0_hw31 k0_h2 => k0_hw31.2 k0_h2

def k0_off101 (i : grid0.Coords) (k0_t4 : Fin k0_t4_loop.trips) : Fin 1 → Nat :=
  let arg0 : BitVec 32 := BitVec.ofNat 32 (i 0).val
  let c3_i32_25 : BitVec 32 := 3#32
  let v67 : BitVec 32 := Scalar.addi arg0 c3_i32_25
  let c160_i32_75 : BitVec 32 := 160#32
  let v180 : BitVec 32 := Scalar.muli v67 c160_i32_75
  let c0_i32_33 : BitVec 32 := 0#32
  let c1_i32_34 : BitVec 32 := 1#32
  let arg10 : BitVec 32 := Scf.iv c0_i32_33 c1_i32_34 k0_t4
  let c8_i32_74 : BitVec 32 := 8#32
  let v178 : BitVec 32 := Scalar.muli arg10 c8_i32_74
  let c7_i32 : BitVec 32 := 7#32
  let v179 : BitVec 32 := Scalar.addi v178 c7_i32
  let v181 : BitVec 32 := Scalar.addi v180 v179
  let v182 : Index := Scalar.indexCast v181
  ![v182.toNat]
def k0_mult63 (v183 : BitVec 32) : BitVec 32 :=
  v183

def k0_mult64 (k0_t4 : Fin k0_t4_loop.trips) : BitVec 32 :=
  let c0_i32_33 : BitVec 32 := 0#32
  let c1_i32_34 : BitVec 32 := 1#32
  let arg10 : BitVec 32 := Scf.iv c0_i32_33 c1_i32_34 k0_t4
  let c8_i32_74 : BitVec 32 := 8#32
  let v178 : BitVec 32 := Scalar.muli arg10 c8_i32_74
  let c7_i32 : BitVec 32 := 7#32
  let v179 : BitVec 32 := Scalar.addi v178 c7_i32
  let c8_i32_76 : BitVec 32 := 8#32
  let v185 : BitVec 32 := Scalar.muli v179 c8_i32_76
  v185
def k0_off102 (i : grid0.Coords) : Fin 1 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  ![v78.toNat]
def k0_off103 (i : grid0.Coords) (k0_t4 : Fin k0_t4_loop.trips) : Fin 3 → Nat :=
  let arg0 : BitVec 32 := BitVec.ofNat 32 (i 0).val
  let c3_i32_26 : BitVec 32 := 3#32
  let v68 : BitVec 32 := Scalar.addi arg0 c3_i32_26
  let c4_i32_27 : BitVec 32 := 4#32
  let c0_i32_28 : BitVec 32 := 0#32
  let v69 : BitVec 1 := Scalar.cmpi .eq c4_i32_27 c0_i32_28
  let c1_i32_29 : BitVec 32 := 1#32
  let v70 : BitVec 32 := Scalar.select v69 c1_i32_29 c4_i32_27
  let v71 : BitVec 32 := Scalar.remsi v68 v70
  let c0_i32_31 : BitVec 32 := 0#32
  let v73 : BitVec 1 := Scalar.cmpi .slt v71 c0_i32_31
  let c0_i32_32 : BitVec 32 := 0#32
  let v74 : BitVec 1 := Scalar.cmpi .slt v70 c0_i32_32
  let v75 : BitVec 1 := Scalar.xori v73 v74
  let c0_i32_30 : BitVec 32 := 0#32
  let v72 : BitVec 1 := Scalar.cmpi .ne v71 c0_i32_30
  let v76 : BitVec 1 := Scalar.andi v75 v72
  let v77 : BitVec 32 := Scalar.addi v71 v70
  let v78 : BitVec 32 := Scalar.select v76 v77 v71
  let c0_i32_33 : BitVec 32 := 0#32
  let c1_i32_34 : BitVec 32 := 1#32
  let arg10 : BitVec 32 := Scf.iv c0_i32_33 c1_i32_34 k0_t4
  let c8_i32_74 : BitVec 32 := 8#32
  let v178 : BitVec 32 := Scalar.muli arg10 c8_i32_74
  let c7_i32 : BitVec 32 := 7#32
  let v179 : BitVec 32 := Scalar.addi v178 c7_i32
  let c8_i32_76 : BitVec 32 := 8#32
  let v185 : BitVec 32 := Scalar.muli v179 c8_i32_76
  let v186 : BitVec 32 := v185
  let c0_i32_77 : BitVec 32 := 0#32
  ![v78.toNat, v186.toNat, 0]
def k0_off104 (v183 : BitVec 32) : Fin 2 → Nat :=
  let v184 : BitVec 32 := v183
  let c0_i32_78 : BitVec 32 := 0#32
  ![v184.toNat, 0]

def k0_chk32 (i : grid0.Coords) (v183 : BitVec 32) : Prop :=
  (∀ (k0_h2 : k0_cond2 i = 1#1), 8 ∣ (k0_mult63 v183).toNat) ∧
  (∀ (k0_h2 : k0_cond2 i = 1#1), ∀ a, (k0_off104 v183) a + S8x1024.size a ≤ S49152x1024.size a)
theorem k0_mult63_dvd : ∀ (i : grid0.Coords) (v183 : BitVec 32) (k0_hw32 : k0_chk32 i v183), ∀ (k0_h2 : k0_cond2 i = 1#1), 8 ∣ (k0_mult63 v183).toNat := fun i v183 k0_hw32 k0_h2 => k0_hw32.1 k0_h2
theorem k0_off104_inb : ∀ (i : grid0.Coords) (v183 : BitVec 32) (k0_hw32 : k0_chk32 i v183), ∀ (k0_h2 : k0_cond2 i = 1#1), ∀ a, (k0_off104 v183) a + S8x1024.size a ≤ S49152x1024.size a := fun i v183 k0_hw32 k0_h2 => k0_hw32.2 k0_h2

def k0_off105 (i : grid0.Coords) : Fin 1 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off106 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c0_i32_7 : BitVec 32 := 0#32
  ![v9.toNat, 0, 0]
def k0_off107 (i : grid0.Coords) : Fin 1 → Nat :=
  let arg0 : BitVec 32 := BitVec.ofNat 32 (i 0).val
  let v23 : Index := Scalar.indexCast arg0
  ![v23.toNat]
def k0_off108 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : Index := Scalar.indexCast v9
  let c0 : Index := 0#32
  let c0_10 : Index := 0#32
  ![v28.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S5120 : Shape := ⟨1, ![5120]⟩
abbrev S32 : Shape := ⟨1, ![32]⟩
abbrev S16384x1024 : Shape := ⟨2, ![16384, 1024]⟩
abbrev S16384x128 : Shape := ⟨2, ![16384, 128]⟩
abbrev S1x1024 : Shape := ⟨2, ![1, 1024]⟩
abbrev S49152x1024 : Shape := ⟨2, ![49152, 1024]⟩
abbrev S5120x1 : Shape := ⟨2, ![5120, 1]⟩
abbrev S8 : Shape := ⟨1, ![8]⟩
abbrev S1x8 : Shape := ⟨2, ![1, 8]⟩
abbrev S5120x8 : Shape := ⟨2, ![5120, 8]⟩
abbrev S40960 : Shape := ⟨1, ![40960]⟩
abbrev S1280 : Shape := ⟨1, ![1280]⟩
abbrev S1x1280 : Shape := ⟨2, ![1, 1280]⟩
abbrev S32x1 : Shape := ⟨2, ![32, 1]⟩
abbrev S_ : Shape := ⟨0, ![]⟩
abbrev S32x1280 : Shape := ⟨2, ![32, 1280]⟩
abbrev S32x1280x1 : Shape := ⟨3, ![32, 1280, 1]⟩
abbrev S40960x1 : Shape := ⟨2, ![40960, 1]⟩
abbrev S40960x1024 : Shape := ⟨2, ![40960, 1024]⟩
abbrev S32x1280x1024 : Shape := ⟨3, ![32, 1280, 1024]⟩
abbrev S16384x1 : Shape := ⟨2, ![16384, 1]⟩
abbrev S16384 : Shape := ⟨1, ![16384]⟩
abbrev S32x512x1 : Shape := ⟨3, ![32, 512, 1]⟩
abbrev S1x1x1280 : Shape := ⟨3, ![1, 1, 1280]⟩
abbrev S32x512x1280 : Shape := ⟨3, ![32, 512, 1280]⟩
abbrev S32x512x1280x1 : Shape := ⟨4, ![32, 512, 1280, 1]⟩
abbrev S32x1x1280x1024 : Shape := ⟨4, ![32, 1, 1280, 1024]⟩
abbrev S32x512x1280x1024 : Shape := ⟨4, ![32, 512, 1280, 1024]⟩
abbrev S32x512x1024 : Shape := ⟨3, ![32, 512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S5120, .i32⟩
  | .hbm, ⟨1, _⟩ => ⟨S32, .i32⟩
  | .hbm, ⟨2, _⟩ => ⟨S16384x1024, .f32⟩
  | .hbm, ⟨3, _⟩ => ⟨S16384x128, .f32⟩
  | .hbm, ⟨4, _⟩ => ⟨S1x1024, .f32⟩
  | .hbm, ⟨5, _⟩ => ⟨S49152x1024, .f32⟩
  | .hbm, ⟨6, _⟩ => ⟨S5120x1, .i32⟩
  | .hbm, ⟨7, _⟩ => ⟨S8, .i32⟩
  | .hbm, ⟨8, _⟩ => ⟨S1x8, .i32⟩
  | .hbm, ⟨9, _⟩ => ⟨S5120x8, .i32⟩
  | .hbm, ⟨10, _⟩ => ⟨S5120x8, .i32⟩
  | .hbm, ⟨11, _⟩ => ⟨S5120x8, .i32⟩
  | .hbm, ⟨12, _⟩ => ⟨S40960, .i32⟩
  | .hbm, ⟨13, _⟩ => ⟨S1280, .i32⟩
  | .hbm, ⟨14, _⟩ => ⟨S1x1280, .i32⟩
  | .hbm, ⟨15, _⟩ => ⟨S32x1, .i32⟩
  | .hbm, ⟨16, _⟩ => ⟨S_, .i32⟩
  | .hbm, ⟨17, _⟩ => ⟨S32x1, .i32⟩
  | .hbm, ⟨18, _⟩ => ⟨S32x1, .i32⟩
  | .hbm, ⟨19, _⟩ => ⟨S32x1280, .i32⟩
  | .hbm, ⟨20, _⟩ => ⟨S32x1280, .i32⟩
  | .hbm, ⟨21, _⟩ => ⟨S32x1280, .i1⟩
  | .hbm, ⟨22, _⟩ => ⟨S32x1280x1, .i1⟩
  | .hbm, ⟨23, _⟩ => ⟨S_, .i32⟩
  | .hbm, ⟨24, _⟩ => ⟨S40960, .i32⟩
  | .hbm, ⟨25, _⟩ => ⟨S40960, .i1⟩
  | .hbm, ⟨26, _⟩ => ⟨S_, .i32⟩
  | .hbm, ⟨27, _⟩ => ⟨S40960, .i32⟩
  | .hbm, ⟨28, _⟩ => ⟨S40960, .i32⟩
  | .hbm, ⟨29, _⟩ => ⟨S40960, .i32⟩
  | .hbm, ⟨30, _⟩ => ⟨S40960x1, .i32⟩
  | .hbm, ⟨31, _⟩ => ⟨S40960x1024, .f32⟩
  | .hbm, ⟨32, _⟩ => ⟨S32x1280x1024, .f32⟩
  | .hbm, ⟨33, _⟩ => ⟨S_, .f32⟩
  | .hbm, ⟨34, _⟩ => ⟨S_, .f32⟩
  | .hbm, ⟨35, _⟩ => ⟨S32x1280x1024, .i1⟩
  | .hbm, ⟨36, _⟩ => ⟨S32x1280x1024, .f32⟩
  | .hbm, ⟨37, _⟩ => ⟨S32x1280x1024, .f32⟩
  | .hbm, ⟨38, _⟩ => ⟨S16384x1, .f32⟩
  | .hbm, ⟨39, _⟩ => ⟨S16384, .f32⟩
  | .hbm, ⟨40, _⟩ => ⟨S32x512x1, .f32⟩
  | .hbm, ⟨41, _⟩ => ⟨S16384x1, .f32⟩
  | .hbm, ⟨42, _⟩ => ⟨S16384, .f32⟩
  | .hbm, ⟨43, _⟩ => ⟨S32x512x1, .f32⟩
  | .hbm, ⟨44, _⟩ => ⟨S1280, .f32⟩
  | .hbm, ⟨45, _⟩ => ⟨S1x1x1280, .f32⟩
  | .hbm, ⟨46, _⟩ => ⟨S32x512x1280, .f32⟩
  | .hbm, ⟨47, _⟩ => ⟨S32x512x1280, .f32⟩
  | .hbm, ⟨48, _⟩ => ⟨S32x512x1280, .i1⟩
  | .hbm, ⟨49, _⟩ => ⟨S32x512x1280, .f32⟩
  | .hbm, ⟨50, _⟩ => ⟨S32x512x1280, .f32⟩
  | .hbm, ⟨51, _⟩ => ⟨S32x512x1280, .i1⟩
  | .hbm, ⟨52, _⟩ => ⟨S32x512x1280, .i1⟩
  | .hbm, ⟨53, _⟩ => ⟨S32x512x1280x1, .i1⟩
  | .hbm, ⟨54, _⟩ => ⟨S32x1x1280x1024, .f32⟩
  | .hbm, ⟨55, _⟩ => ⟨S_, .f32⟩
  | .hbm, ⟨56, _⟩ => ⟨S_, .f32⟩
  | .hbm, ⟨57, _⟩ => ⟨S32x512x1280x1024, .i1⟩
  | .hbm, ⟨58, _⟩ => ⟨S32x512x1280x1024, .f32⟩
  | .hbm, ⟨59, _⟩ => ⟨S32x512x1280x1024, .f32⟩
  | .hbm, ⟨60, _⟩ => ⟨S32x512x1280x1024, .f32⟩
  | .hbm, ⟨61, _⟩ => ⟨S_, .f32⟩
  | .hbm, ⟨62, _⟩ => ⟨S32x512x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | _, _ => ⟨S5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.Steps.lean ====
/-
  The kernel's buffers and tables as plain functions, and the geometry of its gather: which elements of the ring
  buffer the copy of one group of eight rows writes, which rows of the packed array it reads, which semaphore it
  signals, and that what it leaves in the ring is the gathered tile. A group is named by its slot `s` (of five) and
  its number `j` (of thirty-two); the tile by its number `T`.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

/-! ## The tables and the packed rows, read at natural numbers -/

/-- Word `k` of a table of `n` words (zero past its end). -/
def at1 {n : ℕ} (f : (⟨1, ![n]⟩ : Shape).Idx → BitVec 32) (k : ℕ) : BitVec 32 :=
  if h : k < n then f (ix1 ⟨k, h⟩) else 0

theorem at1_of_lt {n : ℕ} (f : (⟨1, ![n]⟩ : Shape).Idx → BitVec 32) {k : ℕ} (h : k < n) : at1 f k = f (ix1 ⟨k, h⟩) := dif_pos h

/-- Row `r` of the packed array (taken modulo the number of rows, so that every natural names one). -/
def rowIx (r : ℕ) (l : Fin 640) : S40960x640.Idx := ix2 ⟨r % 40960, Nat.mod_lt _ (by decide)⟩ l

/-- The row of the packed array that row `r` of tile `T` is gathered from. -/
def srcRow (src : S6272.Idx → BitVec 32) (T r : ℕ) : ℕ := (at1 src (32 * T + r / 8)).toNat + r % 8

/-- Contents of the ring buffer with tile `T` in every slot: row `r` of each slot is the packed row the table names. -/
def tileBuf (X : S40960x640.Idx → BitVec 32) (src : S6272.Idx → BitVec 32) (T : ℕ) : S5x256x640.Idx → BitVec 32 :=
  fun i => X (rowIx (srcRow src T (i 1).val) (i 2))

/-! ## The element sets of the ring buffer and of the packed array -/

/-- Group `j` of slot `s` in the ring buffer: eight rows. -/
def grp (s j : ℕ) : Finset S5x256x640.Idx := Finset.univ.filter fun i => (i 0).val = s ∧ (i 1).val / 8 = j
/-- Slot `s` of the ring buffer. -/
def slot (s : ℕ) : Finset S5x256x640.Idx := Finset.univ.filter fun i => (i 0).val = s
/-- The eight rows of the packed array from row `r`. -/
def rows8 (r : ℕ) : Finset S40960x640.Idx := Finset.univ.filter fun i => r ≤ (i 0).val ∧ (i 0).val < r + 8

theorem mem_grp {s j : ℕ} {i : S5x256x640.Idx} : i ∈ grp s j ↔ (i 0).val = s ∧ (i 1).val / 8 = j := by
  unfold grp; rw [Finset.mem_filter]; exact and_iff_right (Finset.mem_univ _)
theorem mem_slot {s : ℕ} {i : S5x256x640.Idx} : i ∈ slot s ↔ (i 0).val = s := by
  unfold slot; rw [Finset.mem_filter]; exact and_iff_right (Finset.mem_univ _)
theorem mem_rows8 {r : ℕ} {i : S40960x640.Idx} : i ∈ rows8 r ↔ r ≤ (i 0).val ∧ (i 0).val < r + 8 := by
  unfold rows8; rw [Finset.mem_filter]; exact and_iff_right (Finset.mem_univ _)

/-- The ring buffer's group as the kernel names it. -/
abbrev dstM (off : Fin 3 → ℕ) (h : ∀ a, off a + S1x8x640.size a ≤ S5x256x640.size a) : Memref sig .tc .vmem S8x640 .i32 :=
  ((Memref.whole cc0_scratch0 : Memref sig .tc .vmem S5x256x640 .i32).slice (Rect.unit (s := S5x256x640) off S1x8x640.size h) (fun _ => rfl)).squeeze S8x640 squeezes_S1x8x640_S8x640
/-- Eight rows of the packed array as the kernel names them. -/
abbrev srcM (off : Fin 2 → ℕ) (h : ∀ a, off a + S8x640.size a ≤ S40960x640.size a) : Memref sig .tc .hbm S8x640 .i32 :=
  (Memref.whole main_arg4 : Memref sig .tc .hbm S40960x640 .i32).slice (Rect.unit (s := S40960x640) off S8x640.size h) (fun _ => rfl)
/-- A slot of the ring buffer as a wait names it. -/
abbrev slotM (off : Fin 3 → ℕ) (h : ∀ a, off a + S1x256x640.size a ≤ S5x256x640.size a) : Memref sig .tc .vmem S256x640 .i32 :=
  ((Memref.whole cc0_scratch0 : Memref sig .tc .vmem S5x256x640 .i32).slice (Rect.unit (s := S5x256x640) off S1x256x640.size h) (fun _ => rfl)).squeeze S256x640 squeezes_S1x256x640_S256x640

theorem dst_set {off : Fin 3 → ℕ} {h} {s j : ℕ} (ho : off = ![s, 8 * j, 0]) : (dstM off h).view.set = grp s j := by
  subst ho
  refine (View.set_reshape _ _).trans ?_
  rw [show (((Memref.whole cc0_scratch0 : Memref sig .tc .vmem S5x256x640 .i32).slice (Rect.unit (s := S5x256x640) ![s, 8 * j, 0] S1x8x640.size h) (fun _ => rfl)).view.set)
    = (Rect.unit (s := S5x256x640) ![s, 8 * j, 0] S1x8x640.size h).set from View.set_slice_whole _ _]
  ext i
  rw [Rect.mem_set_unit, mem_grp]
  constructor
  · intro hi
    have h0 := hi 0; have h1 := hi 1
    simp at h0 h1
    omega
  · rintro ⟨h0, h1⟩ a
    have h2 : (i 2).val < 640 := (i 2).isLt
    match a with
    | ⟨0, _⟩ => show s ≤ (i 0).val ∧ (i 0).val < s + 1; omega
    | ⟨1, _⟩ => show 8 * j ≤ (i 1).val ∧ (i 1).val < 8 * j + 8; omega
    | ⟨2, _⟩ => show 0 ≤ (i 2).val ∧ (i 2).val < 0 + 640; omega

theorem src_set {off : Fin 2 → ℕ} {h} {r : ℕ} (ho : off = ![r, 0]) : (srcM off h).view.set = rows8 r := by
  subst ho
  rw [show (srcM ![r, 0] h).view.set = (Rect.unit (s := S40960x640) ![r, 0] S8x640.size h).set from View.set_slice_whole _ _]
  ext i
  rw [Rect.mem_set_unit, mem_rows8]
  constructor
  · intro hi; exact hi 0
  · intro h0 a
    have h1 : (i 1).val < 640 := (i 1).isLt
    match a with
    | ⟨0, _⟩ => exact h0
    | ⟨1, _⟩ => show 0 ≤ (i 1).val ∧ (i 1).val < 0 + 640; omega

/-- What the copy of one group writes is the gathered tile's group. -/
theorem dst_write (X : S40960x640.Idx → BitVec 32) (src : S6272.Idx → BitVec 32) {T s j : ℕ} (hj : j < 32) {off : Fin 3 → ℕ} {h} {off' : Fin 2 → ℕ} {h'}
    (ho : off = ![s, 8 * j, 0]) (ho' : off' = ![(at1 src (32 * T + j)).toNat, 0])
    (fd : S5x256x640.Idx → BitVec 32) :
    ∀ i ∈ grp s j, (dstM off h).view.write (Elt F) fd (ReadAs.same.apply ((srcM off' h').view.read (Elt F) X)) Finset.univ i = tileBuf X src T i := by
  intro i hi
  rw [← dst_set (h := h) ho] at hi
  obtain ⟨y, -, rfl⟩ := Finset.mem_map.mp hi
  have hw := congrFun ((dstM off h).view.read_write_univ (Val := Elt F) fd (ReadAs.same.apply ((srcM off' h').view.read (Elt F) X))) y
  refine Eq.trans (show _ = _ from hw) ?_
  subst ho ho'
  have hy : Shape.reshapeEquiv squeezes_S1x8x640_S8x640.numel_eq y = ix3 (⟨0, Nat.one_pos⟩ : Fin 1) (y 0) (y 1) := by
    conv_lhs => rw [eq_ix2 y]
    exact Idealize.ShloMosaic.ValueIdx.reshapeEquiv_ix2_1ab _ _ _
  have hemb : (dstM ![s, 8 * j, 0] h).view.emb y
      = (Rect.unit (s := S5x256x640) ![s, 8 * j, 0] S1x8x640.size h).emb (Shape.reshapeEquiv squeezes_S1x8x640_S8x640.numel_eq y) := rfl
  have e1 : ((dstM ![s, 8 * j, 0] h).view.emb y 1).val = 8 * j + (y 0).val := by
    rw [hemb, hy]; show 8 * j + 1 * (y 0).val = _; omega
  have e2 : ((dstM ![s, 8 * j, 0] h).view.emb y 2) = y 1 := by
    rw [hemb, hy]; apply Fin.ext; show 0 + 1 * (y 1).val = _; omega
  unfold tileBuf
  rw [e1, e2]
  show X _ = X _
  congr 1
  funext a
  have hy0 : (y 0).val < 8 := (y 0).isLt
  have hb := h' 0
  have hb : (at1 src (32 * T + j)).toNat + 8 ≤ 40960 := hb
  unfold rowIx srcRow
  rw [show (8 * j + (y 0).val) / 8 = j by omega, show (8 * j + (y 0).val) % 8 = (y 0).val by omega]
  match a with
  | ⟨0, _⟩ => apply Fin.ext; show (at1 src (32 * T + j)).toNat + 1 * (y 0).val = _ % 40960; rw [Nat.mod_eq_of_lt (by omega)]; omega
  | ⟨1, _⟩ => apply Fin.ext; show 0 + 1 * (y 1).val = _; rw [Nat.zero_add, Nat.one_mul]

/-- The semaphore of slot `s`. -/
def cell (s : ℕ) : DmaSem sig := ⟨2 + s % 5, by show _ < 10; omega⟩

theorem sem_eq {off : Fin 1 → ℕ} {h} {s : ℕ} (hs : s < 5) (ho : off = ![s]) :
    ((cc0_scratch7.slice (Rect.unit (s := S5) off S1.size h)).squeeze S_ squeezes_S1_S_).sem = cell s := by
  subst ho
  apply Fin.ext
  have e : ∀ x : S5.Idx, (S5.rowMajor x).val = (x 0).val := by
    intro x
    have e' : ∀ k : Fin 5, (S5.rowMajor (ix1 k)).val = k.val := by decide
    exact (congrArg (fun z => (S5.rowMajor z).val) (eq_ix1 x)).trans (e' (x 0))
  show 2 + (S5.rowMajor ((Rect.unit (s := S5) ![s] S1.size h).emb _)).val = 2 + s % 5
  rw [e]
  have : ∀ x : S1.Idx, ((Rect.unit (s := S5) ![s] S1.size h).emb x 0).val = s := by
    intro x; show s + 1 * (x 0).val = s; have : (x 0).val < 1 := (x 0).isLt; omega
  rw [this, Nat.mod_eq_of_lt hs]

/-- A group's copy credits its semaphore alike wherever the group lies. -/
theorem dst_amount (off : Fin 3 → ℕ) (h) (k : DmaSem sig) : (dstM off h).view.amount (SemLoc.dma k) = (dstM ![0, 0, 0] inb_S5x256x640_S1x8x640_0_0_0).view.amount (SemLoc.dma k) := rfl

/-- The credit of one group's copy. -/
def grpN : ℕ := (dstM ![0, 0, 0] inb_S5x256x640_S1x8x640_0_0_0).view.dmaCredit
theorem grpN_pos : 0 < grpN := by decide +kernel
theorem slot_credit (off : Fin 3 → ℕ) (h) : (slotM off h).view.dmaCredit = grpN * 32 := by
  show (slotM ![0, 0, 0] (by decide)).view.dmaCredit = grpN * 32
  decide +kernel
end Cert.KernelIdeal.Hand
-- ==== Proof.Rules.lean ====
/-
  The resources of the gather ring and the rules for the operations it is filled by. A slot of the ring is free (its
  semaphore at zero, its thirty-two groups in hand, each with a share of the packed array to read from), or being filled
  with a tile (a batch of copies on its semaphore, some started), or full. Each rule takes one operation of the body off
  the front of a program.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

/-- The kernel's inputs on one device. -/
structure Env (F : FTy → Type) where
  exp : S196.Idx → BitVec 32
  toff : S32.Idx → BitVec 32
  tend : S32.Idx → BitVec 32
  src : S6272.Idx → BitVec 32
  X : S40960x640.Idx → BitVec 32
  w1 : S32x1024x512.Idx → F .f32
  w3 : S32x1024x512.Idx → F .f32
  w2 : S32x512x1024.Idx → F .f32

variable (c : Dev nD) (E : Env F)

/-- The counters of the batches. -/
abbrev EC : UEmb Counters 𝕄 := countersEmb (U := Pipeline.UD sig nD τ)

/-- A program of the body, run to a postcondition. -/
abbrev W {α : Type} (p : Prog (TpuEff nD τ sig (Elt F) Λ₀ .tc) α) (Q : α → sProp 𝕄) : sProp 𝕄 :=
  wp frame (wpE (defs₀ (F := F)) Variants.none (c : Thread nD τ) none) Set.univ p Q

/-- The ring buffer's elements `S` at contents `f`. -/
abbrev ringPt (S : Finset S5x256x640.Idx) (f : S5x256x640.Idx → BitVec 32) : sProp 𝕄 :=
  ((c : Thread nD τ).loc cc0_scratch0) ↦[S]{fullShare} f
/-- The packed array's elements `S` at share `q`. -/
abbrev xPt (S : Finset S40960x640.Idx) (q : PosShare TreeShare) : sProp 𝕄 := ((c : Thread nD τ).loc main_arg4) ↦[S]{q} E.X
/-- The four tables, at the share the body reads them by. -/
def Tabs : sProp 𝕄 :=
  iprop((((c : Thread nD τ).loc main_arg0) ↦{fullShare.right} E.exp) ∗ (((c : Thread nD τ).loc main_arg1) ↦{fullShare.right} E.toff)
    ∗ (((c : Thread nD τ).loc main_arg2) ↦{fullShare.right} E.tend) ∗ (((c : Thread nD τ).loc main_arg3) ↦{fullShare.right} E.src))

/-- The share of the packed array that group `j` of slot `s` reads by. -/
def tok (s j : ℕ) : PosShare TreeShare := shareTokN fullShare (32 * s + j)

/-- A group in hand: its eight rows of the ring at some contents, and its share of the packed array. -/
def gFree (s j : ℕ) : sProp 𝕄 := iprop((∃ f, ringPt c (grp s j) f) ∗ xPt c E Finset.univ (tok s j))
/-- What a started copy leaves in hand: its share of the rows it does not read. -/
def gRest (s T j : ℕ) : sProp 𝕄 := xPt c E (Finset.univ \ rows8 (at1 E.src (32 * T + j)).toNat) (tok s j)
/-- What a landed copy delivers: its group of the gathered tile, and the rows it read. -/
def gDone (s T : ℕ) (j : Fin 32) : sProp 𝕄 :=
  iprop(ringPt c (grp s j.val) (tileBuf E.X E.src T) ∗ xPt c E (rows8 (at1 E.src (32 * T + j.val)).toNat) (tok s j.val))
/-- A group of a full slot. -/
def gFull (s T j : ℕ) : sProp 𝕄 := iprop(ringPt c (grp s j) (tileBuf E.X E.src T) ∗ xPt c E Finset.univ (tok s j))

/-- Slot `s` free. -/
def Free (s : ℕ) : sProp 𝕄 := iprop(semVal ((c : Thread nD τ), SemLoc.dma (cell s)) 0 ∗ bigSep (Finset.univ : Finset (Fin 32)) (fun j => gFree c E s j.val))
/-- Slot `s` being filled with tile `T`, `k` copies started. -/
def Fill (s T k : ℕ) : sProp 𝕄 :=
  iprop(Batch EC (c : Thread nD τ) (SemLoc.dma (cell s)) () grpN (gDone c E s T) k 0
    ∗ bigSep (pending k : Finset (Fin 32)) (fun j => gFree c E s j.val) ∗ bigSep (Finset.univ \ pending k : Finset (Fin 32)) (fun j => gRest c E s T j.val))
/-- Slot `s` full of tile `T`. -/
def Full (s T : ℕ) : sProp 𝕄 := iprop(semVal ((c : Thread nD τ), SemLoc.dma (cell s)) 0 ∗ bigSep (Finset.univ : Finset (Fin 32)) (fun j => gFull c E s T j.val))

instance (s T : ℕ) (j : Fin 32) : Storable (upEmb : UEmb _ 𝕄) (gDone c E s T j) := by unfold gDone; infer_instance

/-! ## Programs -/

variable {c E}

theorem pure_rule {α : Type} {a : α} {Q : α → sProp 𝕄} {P : sProp 𝕄} (h : P ⊢ Q a) : P ⊢ W c (.ret a) Q := h.trans (le_wp_ret _ _ _ _ _)
theorem bind_rule {α β : Type} {p : Prog (TpuEff nD τ sig (Elt F) Λ₀ .tc) α} {k : α → Prog (TpuEff nD τ sig (Elt F) Λ₀ .tc) β} {Q : β → sProp 𝕄} {P : sProp 𝕄}
    (h : P ⊢ W c p (fun a => W c (k a) Q)) : P ⊢ W c (p >>= k) Q := h.trans (Entails.of_eq (wp_bind _ _ _ _ _ _).symm)

theorem assume_rule {β : Type} {X : Prop} {d : Decidable X} (hX : X) {k : PLift X → Prog (TpuEff nD τ sig (Elt F) Λ₀ .tc) β} {Q : β → sProp 𝕄} {P : sProp 𝕄}
    (h : P ⊢ W c (k ⟨hX⟩) Q) : P ⊢ W c (Prog.lift (TpuEff.assume X d) >>= k) Q :=
  h.trans (wp_assume Variants.none (c : Thread nD τ) none Set.univ hX)

/-- The one word of a table at offset `t` is word `t`. -/
theorem emb_one {n t : ℕ} (h : ∀ a, ![t] a + S1.size a ≤ (⟨1, ![n]⟩ : Shape).size a) (x : (Rect.unit (s := ⟨1, ![n]⟩) ![t] S1.size h).shape.Idx) :
    (Rect.unit (s := ⟨1, ![n]⟩) ![t] S1.size h).emb x = ix1 ⟨t, h 0⟩ := by
  funext a
  have hx : (x 0).val < 1 := (x 0).isLt
  match a with
  | ⟨0, _⟩ => apply Fin.ext; show t + 1 * (x 0).val = t; omega

theorem Tabs_intro : iprop((((c : Thread nD τ).loc main_arg0) ↦{fullShare.right} E.exp) ∗ (((c : Thread nD τ).loc main_arg1) ↦{fullShare.right} E.toff)
    ∗ (((c : Thread nD τ).loc main_arg2) ↦{fullShare.right} E.tend) ∗ (((c : Thread nD τ).loc main_arg3) ↦{fullShare.right} E.src)) ⊢ (Tabs c E : sProp 𝕄) := .rfl

/-- Reading word `t` of the table of each tile's expert. -/
theorem exp_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.exp t)) Q) :
    iprop(A ∗ Tabs c E ∗ Z) ⊢ W c (smemLoad (Memref.whole main_arg0 : Memref sig .tc .smem S196 .i32) (Rect.unit (s := S196) off S1.size h) h1 hp >>= k) Q := by
  subst ho
  have ht : t < 196 := h 0
  refine BIBase.Entails.trans ?_ (bind_rule .rfl)
  iintro ⟨HA, HT, HZ⟩
  unfold Tabs
  icases HT with ⟨H0, H1, H2, H3⟩
  iapply (wp_smemLoadElt (m := (Memref.whole main_arg0 : Memref sig .tc .smem S196 .i32)) (r := Rect.unit (s := S196) ![t] S1.size h) (f := E.exp) (q := fullShare.right) (k := .ret) Variants.none (c : Thread nD τ) none Set.univ (Finset.subset_univ _)) $$ H0
  iintro H0
  iapply (le_wp_ret _ _ _ _ _)
  rw [show ((Memref.whole main_arg0 : Memref sig .tc .smem S196 .i32).access (Rect.unit (s := S196) ![t] S1.size h)).read (Elt F) E.exp (Shape.Idx.first (h1.symm ▸ Nat.one_pos))
    = at1 E.exp t from (congrArg E.exp (emb_one h _)).trans (at1_of_lt _ ht).symm]
  iapply hk
  isplitl [HA]; · iexact HA
  isplitr [HZ]; swap; · iexact HZ
  iapply Tabs_intro
  isplitl [H0]; · iexact H0
  isplitl [H1]; · iexact H1
  isplitl [H2]; · iexact H2
  iexact H3

/-- Reading word `t` of the table of each expert's first tile. -/
theorem toff_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.toff t)) Q) :
    iprop(A ∗ Tabs c E ∗ Z) ⊢ W c (smemLoad (Memref.whole main_arg1 : Memref sig .tc .smem S32 .i32) (Rect.unit (s := S32) off S1.size h) h1 hp >>= k) Q := by
  subst ho
  have ht : t < 32 := h 0
  refine BIBase.Entails.trans ?_ (bind_rule .rfl)
  iintro ⟨HA, HT, HZ⟩
  unfold Tabs
  icases HT with ⟨H0, H1, H2, H3⟩
  iapply (wp_smemLoadElt (m := (Memref.whole main_arg1 : Memref sig .tc .smem S32 .i32)) (r := Rect.unit (s := S32) ![t] S1.size h) (f := E.toff) (q := fullShare.right) (k := .ret) Variants.none (c : Thread nD τ) none Set.univ (Finset.subset_univ _)) $$ H1
  iintro H1
  iapply (le_wp_ret _ _ _ _ _)
  rw [show ((Memref.whole main_arg1 : Memref sig .tc .smem S32 .i32).access (Rect.unit (s := S32) ![t] S1.size h)).read (Elt F) E.toff (Shape.Idx.first (h1.symm ▸ Nat.one_pos))
    = at1 E.toff t from (congrArg E.toff (emb_one h _)).trans (at1_of_lt _ ht).symm]
  iapply hk
  isplitl [HA]; · iexact HA
  isplitr [HZ]; swap; · iexact HZ
  iapply Tabs_intro
  isplitl [H0]; · iexact H0
  isplitl [H1]; · iexact H1
  isplitl [H2]; · iexact H2
  iexact H3

/-- Reading word `t` of the table of each expert's tile after its last. -/
theorem tend_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.tend t)) Q) :
    iprop(A ∗ Tabs c E ∗ Z) ⊢ W c (smemLoad (Memref.whole main_arg2 : Memref sig .tc .smem S32 .i32) (Rect.unit (s := S32) off S1.size h) h1 hp >>= k) Q := by
  subst ho
  have ht : t < 32 := h 0
  refine BIBase.Entails.trans ?_ (bind_rule .rfl)
  iintro ⟨HA, HT, HZ⟩
  unfold Tabs
  icases HT with ⟨H0, H1, H2, H3⟩
  iapply (wp_smemLoadElt (m := (Memref.whole main_arg2 : Memref sig .tc .smem S32 .i32)) (r := Rect.unit (s := S32) ![t] S1.size h) (f := E.tend) (q := fullShare.right) (k := .ret) Variants.none (c : Thread nD τ) none Set.univ (Finset.subset_univ _)) $$ H2
  iintro H2
  iapply (le_wp_ret _ _ _ _ _)
  rw [show ((Memref.whole main_arg2 : Memref sig .tc .smem S32 .i32).access (Rect.unit (s := S32) ![t] S1.size h)).read (Elt F) E.tend (Shape.Idx.first (h1.symm ▸ Nat.one_pos))
    = at1 E.tend t from (congrArg E.tend (emb_one h _)).trans (at1_of_lt _ ht).symm]
  iapply hk
  isplitl [HA]; · iexact HA
  isplitr [HZ]; swap; · iexact HZ
  iapply Tabs_intro
  isplitl [H0]; · iexact H0
  isplitl [H1]; · iexact H1
  isplitl [H2]; · iexact H2
  iexact H3

/-- Reading word `t` of the source table. -/
theorem src_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.src t)) Q) :
    iprop(A ∗ Tabs c E ∗ Z) ⊢ W c (smemLoad (Memref.whole main_arg3 : Memref sig .tc .smem S6272 .i32) (Rect.unit (s := S6272) off S1.size h) h1 hp >>= k) Q := by
  subst ho
  have ht : t < 6272 := h 0
  refine BIBase.Entails.trans ?_ (bind_rule .rfl)
  iintro ⟨HA, HT, HZ⟩
  unfold Tabs
  icases HT with ⟨H0, H1, H2, H3⟩
  iapply (wp_smemLoadElt (m := (Memref.whole main_arg3 : Memref sig .tc .smem S6272 .i32)) (r := Rect.unit (s := S6272) ![t] S1.size h) (f := E.src) (q := fullShare.right) (k := .ret) Variants.none (c : Thread nD τ) none Set.univ (Finset.subset_univ _)) $$ H3
  iintro H3
  iapply (le_wp_ret _ _ _ _ _)
  rw [show ((Memref.whole main_arg3 : Memref sig .tc .smem S6272 .i32).access (Rect.unit (s := S6272) ![t] S1.size h)).read (Elt F) E.src (Shape.Idx.first (h1.symm ▸ Nat.one_pos))
    = at1 E.src t from (congrArg E.src (emb_one h _)).trans (at1_of_lt _ ht).symm]
  iapply hk
  isplitl [HA]; · iexact HA
  isplitr [HZ]; swap; · iexact HZ
  iapply Tabs_intro
  isplitl [H0]; · iexact H0
  isplitl [H1]; · iexact H1
  isplitl [H2]; · iexact H2
  iexact H3

/-! ## The ring -/

/-- A free slot becomes one being filled, with nothing started. -/
theorem fill_start (s T : ℕ) : (Free c E s : sProp 𝕄) ⊢ |={Set.univ}=> Fill c E s T 0 := by
  unfold Free Fill
  iintro ⟨Hq, HG⟩
  imod (batch_alloc' (Lvl := ℕ) (EC (F := F)) (c : Thread nD τ) () grpN (gDone c E s T) (sm := SemLoc.dma (cell s)) (E := Set.univ)) $$ Hq with HB
  imodintro
  isplitl [HB]; · iexact HB
  rw [pending_zero, Finset.sdiff_self, bigSep_empty]
  isplitl [HG]; · iexact HG
  iempintro

/-- Starting the copy of the next group. -/
theorem start_one {β : Type} {s T j : ℕ} {off : Fin 1 → ℕ} {h} {off' : Fin 3 → ℕ} {h'} {offs : Fin 2 → ℕ} {hs} {hw1 hw2 hty}
    (hs5 : s < 5) (hj : j < 32) (ho : off = ![s]) (ho' : off' = ![s, 8 * j, 0]) (hos : offs = ![(at1 E.src (32 * T + j)).toNat, 0])
    {k : PUnit → Prog (TpuEff nD τ sig (Elt F) Λ₀ .tc) β} {Q : β → sProp 𝕄} {Z : sProp 𝕄} (hk : iprop(Fill c E s T (j + 1) ∗ Z) ⊢ W c (k ⟨⟩) Q) :
    iprop(Fill c E s T j ∗ Z) ⊢ W c (.op (.enqueueDma (srcM offs hs) (.here (dstM off' h'))
      (.dma ((cc0_scratch7.slice (Rect.unit (s := S5) off S1.size h)).squeeze S_ squeezes_S1_S_).sem) hw1 hw2 hty) k) Q := by
  have e := sem_eq (h := h) hs5 ho
  revert hty
  rw [e]
  intro hty
  have hsrc : (srcM offs hs).view.set = rows8 (at1 E.src (32 * T + j)).toNat := src_set hos
  have hdst : (dstM off' h').view.set = grp s j := dst_set ho'
  have hins : (Finset.univ \ pending (j + 1) : Finset (Fin 32)) = insert ⟨j, hj⟩ (Finset.univ \ pending j) := by
    rw [pending_succ hj]; ext x
    have := not_mem_pending_succ hj
    simp only [Finset.mem_sdiff, Finset.mem_univ, true_and, Finset.mem_insert, not_or]
    constructor
    · intro hx; by_cases hxj : x = ⟨j, hj⟩; · exact .inl hxj
      · exact .inr ⟨hxj, hx⟩
    · rintro (rfl | hx)
      · exact this
      · exact hx.2
  have hni : (⟨j, hj⟩ : Fin 32) ∉ (Finset.univ \ pending j : Finset (Fin 32)) := by
    rw [pending_succ hj]; simp
  unfold Fill
  iintro ⟨⟨HB, HP, HR⟩, HZ⟩
  ihave HP' := (show bigSep (pending j : Finset (Fin 32)) (fun g => gFree c E s g.val) ⊢ iprop(gFree c E s j ∗ bigSep (pending (j + 1) : Finset (Fin 32)) (fun g => gFree c E s g.val))
    from Entails.of_eq (by rw [pending_succ hj, bigSep_insert (not_mem_pending_succ hj)]; rfl)) $$ HP
  icases HP' with ⟨HG, HP⟩
  unfold gFree
  icases HG with ⟨⟨%f, Hd⟩, Hx⟩
  ihave Hx' := (pointsTo_split_subset (Finset.subset_univ (rows8 (at1 E.src (32 * T + j)).toNat))).1 $$ Hx
  icases Hx' with ⟨Hx, Hr⟩
  iapply (wp_dmaBatch (EC (F := F)) Variants.none (c : Thread nD τ) none (src := srcM offs hs) (dst := dstM off' h') (via := ReadAs.same) (sm := SemLoc.dma (cell s))
    (Sd := grp s j) (fs := E.X) (fd := f) (D := gDone c E s T) (q := tok s j) () grpN rfl (Finset.subset_of_eq hdst) hj (Nat.zero_le _) ?_) $$ [Hx Hd HB]
  · rw [hsrc]
    unfold gDone
    refine sep_mono (Entails.of_eq (pointsTo_congr ?_)) .rfl
    exact dst_write E.X E.src hj ho' hos f
  · rw [hsrc]
    isplitl [Hx]; · iexact Hx
    isplitl [Hd]; · iexact Hd
    iexact HB
  iintro HB
  iapply hk
  unfold Fill
  isplitr [HZ]; swap; · iexact HZ
  isplitl [HB]; · iexact HB
  isplitl [HP]; · iexact HP
  iapply (show iprop(gRest c E s T j ∗ bigSep (Finset.univ \ pending j : Finset (Fin 32)) (fun g => gRest c E s T g.val))
    ⊢ bigSep (Finset.univ \ pending (j + 1) : Finset (Fin 32)) (fun g => gRest c E s T g.val) from Entails.of_eq (by rw [hins, bigSep_insert hni]; rfl))
  isplitl [Hr]; · unfold gRest; iexact Hr
  iexact HR

/-- The same, the copy at the head of a sequence. -/
theorem start_rule {β : Type} {s T j : ℕ} {off : Fin 1 → ℕ} {h} {off' : Fin 3 → ℕ} {h'} {offs : Fin 2 → ℕ} {hs} {hw1 hw2 hty}
    (hs5 : s < 5) (hj : j < 32) (ho : off = ![s]) (ho' : off' = ![s, 8 * j, 0]) (hos : offs = ![(at1 E.src (32 * T + j)).toNat, 0])
    {k : PUnit → Prog (TpuEff nD τ sig (Elt F) Λ₀ .tc) β} {Q : β → sProp 𝕄} {Z : sProp 𝕄} (hk : iprop(Fill c E s T (j + 1) ∗ Z) ⊢ W c (k ⟨⟩) Q) :
    iprop(Fill c E s T j ∗ Z) ⊢ W c (Prog.lift (.enqueueDma (srcM offs hs) (.here (dstM off' h'))
      (.dma ((cc0_scratch7.slice (Rect.unit (s := S5) off S1.size h)).squeeze S_ squeezes_S1_S_).sem) hw1 hw2 hty) >>= k) Q :=
  bind_rule (start_one hs5 hj ho ho' hos (pure_rule hk))

/-- The same, the copy at the end of a sequence. -/
theorem start_last {s T j : ℕ} {off : Fin 1 → ℕ} {h} {off' : Fin 3 → ℕ} {h'} {offs : Fin 2 → ℕ} {hs} {hw1 hw2 hty}
    (hs5 : s < 5) (hj : j < 32) (ho : off = ![s]) (ho' : off' = ![s, 8 * j, 0]) (hos : offs = ![(at1 E.src (32 * T + j)).toNat, 0])
    {Q : PUnit → sProp 𝕄} {Z : sProp 𝕄} (hk : iprop(Fill c E s T (j + 1) ∗ Z) ⊢ Q ⟨⟩) :
    iprop(Fill c E s T j ∗ Z) ⊢ W c (Prog.lift (.enqueueDma (srcM offs hs) (.here (dstM off' h'))
      (.dma ((cc0_scratch7.slice (Rect.unit (s := S5) off S1.size h)).squeeze S_ squeezes_S1_S_).sem) hw1 hw2 hty)) Q :=
  start_one hs5 hj ho ho' hos (pure_rule hk)

/-- A landed group with what its copy left is a group of the full slot. -/
theorem gFull_of (s T : ℕ) (g : Fin 32) : iprop(gDone c E s T g ∗ gRest c E s T g.val) ⊢ (gFull c E s T g.val : sProp 𝕄) := by
  unfold gDone gRest gFull
  iintro ⟨⟨Hr, Hx⟩, Hx'⟩
  isplitl [Hr]; · iexact Hr
  iapply (pointsTo_split_subset (Finset.subset_univ (rows8 (at1 E.src (32 * T + g.val)).toNat))).2
  isplitl [Hx]; · iexact Hx
  iexact Hx'

theorem gFull_free (s T j : ℕ) : (gFull c E s T j : sProp 𝕄) ⊢ gFree c E s j := by
  unfold gFull gFree
  iintro ⟨H, Hx⟩
  isplitl [H]
  · iexists _; iexact H
  iexact Hx

/-- A slot with every group started, waited for: it is full. -/
theorem wait_rule {β : Type} {s T : ℕ} {off : Fin 1 → ℕ} {h} {off' : Fin 3 → ℕ} {h'} (hs5 : s < 5) (ho : off = ![s])
    {srcw : Memref sig .tc .hbm S256x640 .i32} {hw1 : srcw.view.WordExact} {hw2 : (slotM off' h').view.WordExact} {k : PUnit → Prog (TpuEff nD τ sig (Elt F) Λ₀ .tc) β} {Q : β → sProp 𝕄} {Z : sProp 𝕄}
    (hk : iprop(Full c E s T ∗ (∃ Ws, owes (c : Thread nD τ) 0 Ws) ∗ Z) ⊢ W c (k ⟨⟩) Q) :
    iprop(Fill c E s T 32 ∗ (∃ Ws, owes (c : Thread nD τ) 0 Ws) ∗ Z) ⊢ W c (.op (.waitDma2 ((cc0_scratch7.slice (Rect.unit (s := S5) off S1.size h)).squeeze S_ squeezes_S1_S_).sem
      srcw (slotM off' h') hw1 hw2) k) Q := by
  rw [sem_eq (h := h) hs5 ho]
  have hp : (pending 32 : Finset (Fin 32)) = ∅ := by decide
  unfold Fill
  iintro ⟨⟨HB, -, HR⟩, ⟨%Ws, HO⟩, HZ⟩
  iapply (wp_waitBatchAll (EC (F := F)) Variants.none (c : Thread nD τ) none () (slot_credit off' h') grpN_pos (D := gDone c E s T) (by rw [Nat.zero_add])) $$ [HB HO]
  · isplitl [HB]; · iexact HB
    iexact HO
  iintro ⟨HD, Hq, HO⟩
  iapply hk
  isplitr [HO HZ]; swap
  · isplitl [HO]; · iexists _; iexact HO
    iexact HZ
  unfold Full
  isplitl [Hq]; · iexact Hq
  rw [hp, Finset.sdiff_empty]
  iapply (show iprop(bigSep (Finset.univ : Finset (Fin 32)) (gDone c E s T) ∗ bigSep (Finset.univ : Finset (Fin 32)) (fun g => gRest c E s T g.val))
    ⊢ bigSep (Finset.univ : Finset (Fin 32)) (fun g => gFull c E s T g.val) from ?_) $$ [HD HR]
  · rw [← bigSep_sep']
    exact bigSep_mono fun g _ => gFull_of s T g
  · isplitl [HD]; · iexact HD
    iexact HR

/-- A full slot is free again. -/
theorem Full_free (s T : ℕ) : (Full c E s T : sProp 𝕄) ⊢ Free c E s := by
  unfold Full Free
  exact sep_mono .rfl (bigSep_mono fun g _ => gFull_free s T g.val)

end Cert.KernelIdeal.Hand
-- ==== Proof.Weights.lean ====
/-
  The expert weights: three copies, each of one expert's slice of a stacked array into a buffer of its own, on a
  semaphore of its own. A copy is idle, or in flight for an expert `e`; beside them are the three buffers that hold the
  weights rounded to bfloat16.
-/
module

public import proofs.«01_k».proof.Proof.Rules

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- The core's record of what it waited for, whatever it is. -/
def Owes (c : Dev nD) : sProp 𝕄 := iprop(∃ Ws, owes (c : Thread nD τ) 0 Ws)

/-! ## One copy of a slice into a whole buffer -/

/-- A copy in flight on cell `sm`: it delivers `f` in the buffer at `b` and hands back the elements `S` of the array at `a`, whose others stay in hand. -/
def CopyFly (c : Dev nD) (sm : DmaSem sig) (N : ℕ) {a b : Loc nD τ sig} (S : Finset (Idx a)) (w : Buf (Elt F) a) (f : Buf (Elt F) b) : sProp 𝕄 :=
  iprop(Batch EC (c : Thread nD τ) (SemLoc.dma sm) () N (fun _ : Fin 1 => iprop((b ↦{fullShare} f) ∗ (a ↦[S]{fullShare} w))) 1 0
    ∗ (a ↦[Finset.univ \ S]{fullShare} w))

/-- Starting a copy. -/
theorem copy_start {β : Type} {sp sp' : Space} {s : Shape} {e : EltTy} {src : Memref sig .tc sp s e} {dst : Memref sig .tc sp' s e} {sm sm' : DmaSem sig} (hsm : sm' = sm)
    {hw1 hw2 hty}
    {S : Finset (Idx (src.view.loc (c : Thread nD τ)))} (hS : src.view.set = S) {w : Buf (Elt F) (src.view.loc (c : Thread nD τ))} {f : Buf (Elt F) (dst.view.loc (c : Thread nD τ))}
    (hf : ∀ fd, dst.view.write (Elt F) fd (ReadAs.same.apply (src.view.read (Elt F) w)) Finset.univ = f)
    {k : PUnit → Prog (TpuEff nD τ sig (Elt F) Λ₀ .tc) β} {Q : β → sProp 𝕄} :
    iprop(semVal ((c : Thread nD τ), SemLoc.dma sm) 0 ∗ (∃ f0, dst.view.loc (c : Thread nD τ) ↦{fullShare} f0) ∗ (src.view.loc (c : Thread nD τ) ↦{fullShare} w))
      ⊢ iprop((CopyFly c sm dst.view.dmaCredit S w f -∗ W c (k ⟨⟩) Q) -∗ W c (Prog.lift (.enqueueDma src (.here dst) (.dma sm') hw1 hw2 hty) >>= k) Q) := by
  subst hsm hS
  iintro ⟨Hq, ⟨%f0, Hd⟩, Hs⟩ Hk
  imod (batch_alloc' (Lvl := ℕ) (EC (F := F)) (c : Thread nD τ) () dst.view.dmaCredit
    (fun _ : Fin 1 => iprop((dst.view.loc (c : Thread nD τ) ↦{fullShare} f) ∗ (src.view.loc (c : Thread nD τ) ↦[src.view.set]{fullShare} w)))
    (sm := SemLoc.dma sm') (E := Set.univ)) $$ Hq with HB
  ihave Hs' := (pointsTo_split_subset (Finset.subset_univ src.view.set)).1 $$ Hs
  icases Hs' with ⟨Hs, Hr⟩
  iapply (wp_dmaBatch (EC (F := F)) Variants.none (c : Thread nD τ) none (src := src) (dst := dst) (via := ReadAs.same) (sm := SemLoc.dma sm')
    (Sd := Finset.univ) (fs := w) (fd := f0) (q := fullShare) (n := 1)
    (D := fun _ : Fin 1 => iprop((dst.view.loc (c : Thread nD τ) ↦{fullShare} f) ∗ (src.view.loc (c : Thread nD τ) ↦[src.view.set]{fullShare} w)))
    (j := 0) (u := 0) () dst.view.dmaCredit rfl (Finset.subset_univ _) Nat.one_pos (Nat.zero_le _) (by rw [hf])) $$ [Hs Hd HB]
  · isplitl [Hs]; · iexact Hs
    isplitl [Hd]; · iexact Hd
    iexact HB
  iintro HB
  iapply Hk
  unfold CopyFly
  isplitl [HB]; · iexact HB
  iexact Hr

/-- Waiting for a copy. -/
theorem copy_wait {β : Type} {sp sp' : Space} {s s' : Shape} {e e' : EltTy} {srcw : Memref sig .tc sp s' e'} {dst : Memref sig .tc sp' s e} {sm sm' : DmaSem sig} (hsm : sm' = sm)
    {hw1 : srcw.view.WordExact} {hw2 : dst.view.WordExact} {a b : Loc nD τ sig} {S : Finset (Idx a)} {w : Buf (Elt F) a} {f : Buf (Elt F) b} {N : ℕ} (hN : dst.view.dmaCredit = N) (hN0 : 0 < N)
    {k : PUnit → Prog (TpuEff nD τ sig (Elt F) Λ₀ .tc) β} {Q : β → sProp 𝕄} :
    iprop(CopyFly c sm N S w f ∗ Owes c)
      ⊢ iprop((iprop(semVal ((c : Thread nD τ), SemLoc.dma sm) 0 ∗ (b ↦{fullShare} f) ∗ (a ↦{fullShare} w) ∗ Owes c) -∗ W c (k ⟨⟩) Q)
        -∗ W c (Prog.lift (.waitDma2 sm' srcw dst hw1 hw2) >>= k) Q) := by
  subst hsm
  unfold CopyFly Owes
  iintro ⟨⟨HB, Hr⟩, ⟨%Ws, HO⟩⟩ Hk
  iapply (wp_waitBatchAll (EC (F := F)) Variants.none (c : Thread nD τ) none () hN hN0 (n := 1)
    (D := fun _ : Fin 1 => iprop((b ↦{fullShare} f) ∗ (a ↦[S]{fullShare} w))) (by rw [Nat.zero_add, Nat.mul_one])) $$ [HB HO]
  · isplitl [HB]; · iexact HB
    iexact HO
  rw [bigSep_univ_of_subsingleton (0 : Fin 1)]
  iintro ⟨HD, Hq, HO⟩
  icases HD with ⟨Hb, Hs⟩
  iapply Hk
  isplitl [Hq]; · iexact Hq
  isplitl [Hb]; · iexact Hb
  isplitl [Hs Hr]
  · iapply (pointsTo_split_subset (Finset.subset_univ S)).2
    isplitl [Hs]; · iexact Hs
    iexact Hr
  iexists _; iexact HO

/-! ## Loads and stores of whole buffers -/

theorem zero2 : (![0, 0] : Fin 2 → ℕ) = fun _ => 0 := funext fun a => match a with | ⟨0, _⟩ => rfl | ⟨1, _⟩ => rfl

/-- A load, as the value it reads. -/
theorem load_rule {β : Type} {cs : CoreSpace} {s : Shape} {e : EltTy} {m : Memref sig .tc cs s e} {r : LoadRect s} {hl : m.view.LoadsAt r} {q : PosShare TreeShare}
    {f : Buf (Elt F) (m.view.loc (c : Thread nD τ))} {v : r.shape.Idx → Elt F e} (hv : m.view.readAt (Elt F) r f = v)
    {k : (r.shape.Idx → Elt F e) → Prog (TpuEff nD τ sig (Elt F) Λ₀ .tc) β} {Q : β → sProp 𝕄} :
    (m.view.loc (c : Thread nD τ) ↦{q} f : sProp 𝕄)
      ⊢ iprop(((m.view.loc (c : Thread nD τ) ↦{q} f) -∗ W c (k v) Q) -∗ W c (Prog.lift (.load m r hl) >>= k) Q) := by
  subst hv
  iintro Hf Hk
  iapply (wp_load Variants.none (c : Thread nD τ) none Set.univ (Finset.subset_univ _)) $$ Hf
  iintro Hf
  iapply Hk
  iexact Hf

/-- A store, as the contents it leaves. -/
theorem store_rule {β : Type} {cs : CoreSpace} {s : Shape} {e : EltTy} {m : Memref sig .tc cs s e} {r : Rect s} {w : r.shape.Idx → Elt F e} {hx hm}
    {f' : Buf (Elt F) ((m.access r).loc (c : Thread nD τ))} (hw : ∀ f : Buf (Elt F) ((m.access r).loc (c : Thread nD τ)), (m.access r).write (Elt F) f w Finset.univ = f')
    {k : PUnit → Prog (TpuEff nD τ sig (Elt F) Λ₀ .tc) β} {Q : β → sProp 𝕄} :
    iprop(∃ f, (m.access r).loc (c : Thread nD τ) ↦{fullShare} f)
      ⊢ iprop((((m.access r).loc (c : Thread nD τ) ↦{fullShare} f') -∗ W c (k ⟨⟩) Q) -∗ W c (Prog.lift (.store m r w Finset.univ hx hm) >>= k) Q) := by
  iintro ⟨%f, Hf⟩ Hk
  iapply (wp_store Variants.none (c : Thread nD τ) none Set.univ (hx := hx) (hm := hm) (Finset.subset_univ _)) $$ Hf
  rw [hw]
  iintro Hf
  iapply Hk
  iexact Hf

/-! ## The three copies of one expert's weights -/

/-- Expert `e`'s slice of a stacked array, and its elements. -/
def wslice {a b : ℕ} (e : ℕ) (w : (⟨3, ![32, a, b]⟩ : Shape).Idx → F .f32) : (⟨2, ![a, b]⟩ : Shape).Idx → F .f32 :=
  fun i => w (ix3 ⟨e % 32, Nat.mod_lt _ (by decide)⟩ (i 0) (i 1))
def wset (a b e : ℕ) : Finset (⟨3, ![32, a, b]⟩ : Shape).Idx := Finset.univ.filter fun i => (i 0).val = e

theorem wset_eq {a b e : ℕ} {off : Fin 3 → ℕ} {h} (ho : off = ![e, 0, 0]) : (Rect.unit (s := ⟨3, ![32, a, b]⟩) off ![1, a, b] h).set = wset a b e := by
  subst ho
  ext i
  unfold wset
  rw [Rect.mem_set_unit, Finset.mem_filter]
  constructor
  · intro hi
    have h0 := hi 0
    simp at h0
    exact ⟨Finset.mem_univ _, by omega⟩
  · rintro ⟨-, h0⟩ x
    have h1 : (i 1).val < a := (i 1).isLt
    have h2 : (i 2).val < b := (i 2).isLt
    match x with
    | ⟨0, _⟩ => show e ≤ (i 0).val ∧ (i 0).val < e + 1; omega
    | ⟨1, _⟩ => show 0 ≤ (i 1).val ∧ (i 1).val < 0 + a; omega
    | ⟨2, _⟩ => show 0 ≤ (i 2).val ∧ (i 2).val < 0 + b; omega

theorem wslice_eq {a b e : ℕ} {off : Fin 3 → ℕ} {h} (ho : off = ![e, 0, 0]) (hc : (⟨3, ![1, a, b]⟩ : Shape).numel = (⟨2, ![a, b]⟩ : Shape).numel) (w : (⟨3, ![32, a, b]⟩ : Shape).Idx → F .f32)
    (y : (⟨2, ![a, b]⟩ : Shape).Idx) :
    w ((Rect.unit (s := ⟨3, ![32, a, b]⟩) off ![1, a, b] h).emb (Shape.reshapeEquiv hc.symm y)) = wslice e w y := by
  subst ho
  have he : e < 32 := by have := h 0; exact this
  have hy : Shape.reshapeEquiv hc.symm y = ix3 (⟨0, Nat.one_pos⟩ : Fin 1) (y 0) (y 1) := by
    conv_lhs => rw [eq_ix2 y]
    exact Idealize.ShloMosaic.ValueIdx.reshapeEquiv_ix2_1ab _ _ _
  unfold wslice
  rw [hy]
  congr 1
  funext x
  match x with
  | ⟨0, _⟩ => apply Fin.ext; show e + 1 * 0 = e % 32; rw [Nat.mod_eq_of_lt he]; rfl
  | ⟨1, _⟩ => apply Fin.ext; show 0 + 1 * (y 0).val = (y 0).val; omega
  | ⟨2, _⟩ => apply Fin.ext; show 0 + 1 * (y 1).val = (y 1).val; omega

end Cert.KernelIdeal.Hand
-- ==== Proof.Copies.lean ====
/-
  The state of the expert weights: the three copies idle or in flight for an expert, and the three rounded buffers.
  The body starts the three copies together and waits for them together; then it rounds the weights.
-/
module

public import proofs.«01_k».proof.Proof.Weights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-! ## The memory references the three copies name -/

abbrev wsrc1 (off : Fin 3 → ℕ) (h : ∀ a, off a + S1x1024x512.size a ≤ S32x1024x512.size a) : Memref sig .tc .hbm S1024x512 .f32 :=
  ((Memref.whole main_arg5 : Memref sig .tc .hbm S32x1024x512 .f32).slice (Rect.unit (s := S32x1024x512) off S1x1024x512.size h) (fun _ => rfl)).squeeze S1024x512 squeezes_S1x1024x512_S1024x512
abbrev wsrc3 (off : Fin 3 → ℕ) (h : ∀ a, off a + S1x1024x512.size a ≤ S32x1024x512.size a) : Memref sig .tc .hbm S1024x512 .f32 :=
  ((Memref.whole main_arg6 : Memref sig .tc .hbm S32x1024x512 .f32).slice (Rect.unit (s := S32x1024x512) off S1x1024x512.size h) (fun _ => rfl)).squeeze S1024x512 squeezes_S1x1024x512_S1024x512
abbrev wsrc2 (off : Fin 3 → ℕ) (h : ∀ a, off a + S1x512x1024.size a ≤ S32x512x1024.size a) : Memref sig .tc .hbm S512x1024 .f32 :=
  ((Memref.whole main_arg7 : Memref sig .tc .hbm S32x512x1024 .f32).slice (Rect.unit (s := S32x512x1024) off S1x512x1024.size h) (fun _ => rfl)).squeeze S512x1024 squeezes_S1x512x1024_S512x1024

abbrev wsem (off : Fin 1 → ℕ) (h : ∀ a, off a + S1.size a ≤ S3.size a) : DmaSem sig := ((cc0_scratch8.slice (Rect.unit (s := S3) off S1.size h)).squeeze S_ squeezes_S1_S_).sem

/-- The cells of the three copies. -/
def wcell (k : ℕ) : DmaSem sig := ⟨7 + k % 3, by have := Nat.mod_lt k (show 0 < 3 by decide); show _ < 10; omega⟩

theorem wsem0 : wsem ![0] inb_S3_S1_0 = wcell 0 := by decide +kernel
theorem wsem1 : wsem ![1] inb_S3_S1_1 = wcell 1 := by decide +kernel
theorem wsem2 : wsem ![2] inb_S3_S1_2 = wcell 2 := by decide +kernel

/-! ## Idle, in flight, rounded -/

variable (c E)

abbrev wN1 : ℕ := (Memref.whole cc0_scratch1 : Memref sig .tc .vmem S1024x512 .f32).view.dmaCredit
abbrev wN2 : ℕ := (Memref.whole cc0_scratch3 : Memref sig .tc .vmem S512x1024 .f32).view.dmaCredit
theorem wN1_eq1 : (Memref.whole cc0_scratch1 : Memref sig .tc .vmem S1024x512 .f32).view.dmaCredit = wN1 := rfl
theorem wN1_eq2 : (Memref.whole cc0_scratch2 : Memref sig .tc .vmem S1024x512 .f32).view.dmaCredit = wN1 := rfl
theorem wN2_eq : (Memref.whole cc0_scratch3 : Memref sig .tc .vmem S512x1024 .f32).view.dmaCredit = wN2 := rfl
theorem wN1_pos : 0 < wN1 := by decide +kernel
theorem wN2_pos : 0 < wN2 := by decide +kernel

def Idle1 : sProp 𝕄 := iprop(semVal ((c : Thread nD τ), SemLoc.dma (wcell 0)) 0 ∗ (∃ f, ((c : Thread nD τ).loc cc0_scratch1) ↦{fullShare} f) ∗ (((c : Thread nD τ).loc main_arg5) ↦{fullShare} E.w1))
def Idle3 : sProp 𝕄 := iprop(semVal ((c : Thread nD τ), SemLoc.dma (wcell 1)) 0 ∗ (∃ f, ((c : Thread nD τ).loc cc0_scratch2) ↦{fullShare} f) ∗ (((c : Thread nD τ).loc main_arg6) ↦{fullShare} E.w3))
def Idle2 : sProp 𝕄 := iprop(semVal ((c : Thread nD τ), SemLoc.dma (wcell 2)) 0 ∗ (∃ f, ((c : Thread nD τ).loc cc0_scratch3) ↦{fullShare} f) ∗ (((c : Thread nD τ).loc main_arg7) ↦{fullShare} E.w2))
/-- No copy in flight. -/
def WIdle : sProp 𝕄 := iprop(Idle1 c E ∗ Idle3 c E ∗ Idle2 c E)

def Fly1 (e : ℕ) : sProp 𝕄 := CopyFly c (wcell 0) wN1 (a := (c : Thread nD τ).loc main_arg5) (b := (c : Thread nD τ).loc cc0_scratch1) (wset 1024 512 e) E.w1 (wslice e E.w1)
def Fly3 (e : ℕ) : sProp 𝕄 := CopyFly c (wcell 1) wN1 (a := (c : Thread nD τ).loc main_arg6) (b := (c : Thread nD τ).loc cc0_scratch2) (wset 1024 512 e) E.w3 (wslice e E.w3)
def Fly2 (e : ℕ) : sProp 𝕄 := CopyFly c (wcell 2) wN2 (a := (c : Thread nD τ).loc main_arg7) (b := (c : Thread nD τ).loc cc0_scratch3) (wset 512 1024 e) E.w2 (wslice e E.w2)
/-- The three copies in flight for expert `e`. -/
def WFly (e : ℕ) : sProp 𝕄 := iprop(Fly1 c E e ∗ Fly3 c E e ∗ Fly2 c E e)

/-- The rounded weights of expert `e`. -/
def b1 (e : ℕ) : S1024x512.Idx → F .bf16 := k0_pay3 (wslice e E.w1)
def b3 (e : ℕ) : S1024x512.Idx → F .bf16 := k0_pay4 (wslice e E.w3)
def b2 (e : ℕ) : S512x1024.Idx → F .bf16 := k0_pay5 (wslice e E.w2)

/-- The rounded buffers hold expert `e`'s weights. -/
def Bf (e : ℕ) : sProp 𝕄 := iprop((((c : Thread nD τ).loc cc0_scratch4) ↦{fullShare} b1 E e) ∗ (((c : Thread nD τ).loc cc0_scratch5) ↦{fullShare} b3 E e) ∗ (((c : Thread nD τ).loc cc0_scratch6) ↦{fullShare} b2 E e))
/-- The rounded buffers hold anything. -/
def BfAny : sProp 𝕄 := iprop((∃ f : S1024x512.Idx → F .bf16, ((c : Thread nD τ).loc cc0_scratch4) ↦{fullShare} f) ∗ (∃ f : S1024x512.Idx → F .bf16, ((c : Thread nD τ).loc cc0_scratch5) ↦{fullShare} f) ∗ (∃ f : S512x1024.Idx → F .bf16, ((c : Thread nD τ).loc cc0_scratch6) ↦{fullShare} f))

variable {c E}

theorem Bf_any (e : ℕ) : (Bf c E e : sProp 𝕄) ⊢ BfAny c := by
  unfold Bf BfAny
  iintro ⟨H1, H2, H3⟩
  isplitl [H1]; · iexists _; iexact H1
  isplitl [H2]; · iexists _; iexact H2
  iexists _; iexact H3

/-! ## Starting the three copies -/

theorem set1 {off h} {e : ℕ} (ho : off = ![e, 0, 0]) : (wsrc1 off h).view.set = wset 1024 512 e := (View.set_reshape _ _).trans ((View.set_slice_whole _ _).trans (wset_eq ho))
theorem set3 {off h} {e : ℕ} (ho : off = ![e, 0, 0]) : (wsrc3 off h).view.set = wset 1024 512 e := (View.set_reshape _ _).trans ((View.set_slice_whole _ _).trans (wset_eq ho))
theorem set2 {off h} {e : ℕ} (ho : off = ![e, 0, 0]) : (wsrc2 off h).view.set = wset 512 1024 e := (View.set_reshape _ _).trans ((View.set_slice_whole _ _).trans (wset_eq ho))

theorem start3 {β : Type} {e : ℕ} {off1 off2 : Fin 3 → ℕ} (ho1 : off1 = ![e, 0, 0]) (ho2 : off2 = ![e, 0, 0]) {h1 h3 h2} {p1 p2 p3 q1 q2 q3 r1 r2 r3}
    {k : PUnit → Prog (TpuEff nD τ sig (Elt F) Λ₀ .tc) β} {Q : β → sProp 𝕄} {Z : sProp 𝕄} (hk : iprop(WFly c E e ∗ Z) ⊢ W c (k ⟨⟩) Q) :
    iprop(WIdle c E ∗ Z) ⊢ W c (Prog.lift (.enqueueDma (wsrc1 off1 h1) (.here (Memref.whole cc0_scratch1 : Memref sig .tc .vmem S1024x512 .f32)) (.dma (wsem ![0] inb_S3_S1_0)) p1 q1 r1) >>= fun _ =>
      Prog.lift (.enqueueDma (wsrc3 off1 h3) (.here (Memref.whole cc0_scratch2 : Memref sig .tc .vmem S1024x512 .f32)) (.dma (wsem ![1] inb_S3_S1_1)) p2 q2 r2) >>= fun _ =>
      Prog.lift (.enqueueDma (wsrc2 off2 h2) (.here (Memref.whole cc0_scratch3 : Memref sig .tc .vmem S512x1024 .f32)) (.dma (wsem ![2] inb_S3_S1_2)) p3 q3 r3) >>= k) Q := by
  unfold WIdle Idle1 Idle3 Idle2
  iintro ⟨⟨H1, H3, H2⟩, HZ⟩
  iapply (copy_start (c := c) (src := wsrc1 off1 h1) (dst := (Memref.whole cc0_scratch1 : Memref sig .tc .vmem S1024x512 .f32)) (w := E.w1) (f := wslice e E.w1) wsem0 (set1 ho1) (fun fd => (View.write_whole_univ _ _ _).trans (funext fun y => wslice_eq ho1 (by decide +kernel) E.w1 y))) $$ H1
  iintro F1
  iapply (copy_start (c := c) (src := wsrc3 off1 h3) (dst := (Memref.whole cc0_scratch2 : Memref sig .tc .vmem S1024x512 .f32)) (w := E.w3) (f := wslice e E.w3) wsem1 (set3 ho1) (fun fd => (View.write_whole_univ _ _ _).trans (funext fun y => wslice_eq ho1 (by decide +kernel) E.w3 y))) $$ H3
  iintro F3
  iapply (copy_start (c := c) (src := wsrc2 off2 h2) (dst := (Memref.whole cc0_scratch3 : Memref sig .tc .vmem S512x1024 .f32)) (w := E.w2) (f := wslice e E.w2) wsem2 (set2 ho2) (fun fd => (View.write_whole_univ _ _ _).trans (funext fun y => wslice_eq ho2 (by decide +kernel) E.w2 y))) $$ H2
  iintro F2
  iapply hk
  isplitr [HZ]; swap; · iexact HZ
  unfold WFly Fly1 Fly3 Fly2
  isplitl [F1]; · iexact F1
  isplitl [F3]; · iexact F3
  iexact F2

/-! ## Waiting for them -/

theorem wait3 {β : Type} {e : ℕ} {s1 s3 s2 : Memref sig .tc .hbm _ .f32} {p1 p2 p3 q1 q2 q3}
    {k : PUnit → Prog (TpuEff nD τ sig (Elt F) Λ₀ .tc) β} {Q : β → sProp 𝕄} {Z : sProp 𝕄} (hk : iprop(((((c : Thread nD τ).loc cc0_scratch1) ↦{fullShare} wslice e E.w1) ∗ (((c : Thread nD τ).loc cc0_scratch2) ↦{fullShare} wslice e E.w3) ∗ (((c : Thread nD τ).loc cc0_scratch3) ↦{fullShare} wslice e E.w2))
      ∗ (semVal ((c : Thread nD τ), SemLoc.dma (wcell 0)) 0 ∗ (((c : Thread nD τ).loc main_arg5) ↦{fullShare} E.w1)) ∗ (semVal ((c : Thread nD τ), SemLoc.dma (wcell 1)) 0 ∗ (((c : Thread nD τ).loc main_arg6) ↦{fullShare} E.w3)) ∗ (semVal ((c : Thread nD τ), SemLoc.dma (wcell 2)) 0 ∗ (((c : Thread nD τ).loc main_arg7) ↦{fullShare} E.w2)) ∗ Owes c ∗ Z) ⊢ W c (k ⟨⟩) Q) :
    iprop(WFly c E e ∗ Owes c ∗ Z) ⊢ W c (Prog.lift (.waitDma2 (wsem ![0] inb_S3_S1_0) (s1 : Memref sig .tc .hbm S1024x512 .f32) (Memref.whole cc0_scratch1 : Memref sig .tc .vmem S1024x512 .f32) p1 q1) >>= fun _ =>
      Prog.lift (.waitDma2 (wsem ![1] inb_S3_S1_1) (s3 : Memref sig .tc .hbm S1024x512 .f32) (Memref.whole cc0_scratch2 : Memref sig .tc .vmem S1024x512 .f32) p2 q2) >>= fun _ =>
      Prog.lift (.waitDma2 (wsem ![2] inb_S3_S1_2) (s2 : Memref sig .tc .hbm S512x1024 .f32) (Memref.whole cc0_scratch3 : Memref sig .tc .vmem S512x1024 .f32) p3 q3) >>= k) Q := by
  unfold WFly Fly1 Fly3 Fly2
  iintro ⟨⟨H1, H3, H2⟩, HO, HZ⟩
  iapply (copy_wait (c := c) (srcw := s1) (dst := (Memref.whole cc0_scratch1 : Memref sig .tc .vmem S1024x512 .f32)) (a := (c : Thread nD τ).loc main_arg5) (b := (c : Thread nD τ).loc cc0_scratch1) (S := wset 1024 512 e) (w := E.w1) (f := wslice e E.w1) wsem0 wN1_eq1 wN1_pos) $$ [H1 HO]
  · isplitl [H1]; · iexact H1
    iexact HO
  iintro ⟨S1, D1, A1, HO⟩
  iapply (copy_wait (c := c) (srcw := s3) (dst := (Memref.whole cc0_scratch2 : Memref sig .tc .vmem S1024x512 .f32)) (a := (c : Thread nD τ).loc main_arg6) (b := (c : Thread nD τ).loc cc0_scratch2) (S := wset 1024 512 e) (w := E.w3) (f := wslice e E.w3) wsem1 wN1_eq2 wN1_pos) $$ [H3 HO]
  · isplitl [H3]; · iexact H3
    iexact HO
  iintro ⟨S3, D3, A3, HO⟩
  iapply (copy_wait (c := c) (srcw := s2) (dst := (Memref.whole cc0_scratch3 : Memref sig .tc .vmem S512x1024 .f32)) (a := (c : Thread nD τ).loc main_arg7) (b := (c : Thread nD τ).loc cc0_scratch3) (S := wset 512 1024 e) (w := E.w2) (f := wslice e E.w2) wsem2 wN2_eq wN2_pos) $$ [H2 HO]
  · isplitl [H2]; · iexact H2
    iexact HO
  iintro ⟨S2, D2, A2, HO⟩
  iapply hk
  isplitl [D1 D3 D2]
  · isplitl [D1]; · iexact D1
    isplitl [D3]; · iexact D3
    iexact D2
  isplitl [S1 A1]
  · isplitl [S1]; · iexact S1
    iexact A1
  isplitl [S3 A3]
  · isplitl [S3]; · iexact S3
    iexact A3
  isplitl [S2 A2]
  · isplitl [S2]; · iexact S2
    iexact A2
  isplitl [HO]; · iexact HO
  iexact HZ

end Cert.KernelIdeal.Hand
-- ==== Proof.Plan.lean ====
/-
  What the body needs of the four tables, as facts about naturals, and what follows from them: the tiles of one expert are
  an interval, the intervals follow one another, and so a tile either opens its expert's interval or has its expert's
  weights rounded already. Then the weights' state before and after a tile.
-/
module

public import proofs.«01_k».proof.Proof.Copies
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-! ## The tables as naturals -/

variable (E)
/-- How many tiles hold rows. -/
def nT : ℕ := (at1 E.tend 31).toNat
/-- The expert of a tile, and the interval of tiles of an expert. -/
def ex (t : ℕ) : ℕ := (at1 E.exp t).toNat
def lo (e : ℕ) : ℕ := (at1 E.toff e).toNat
def hi (e : ℕ) : ℕ := (at1 E.tend e).toNat

/-- What the body needs of the tables. -/
structure Ok (E : Env F) : Prop where
  src : ∀ k, 8 ∣ (at1 E.src k).toNat ∧ (at1 E.src k).toNat + 8 ≤ 40960
  ex_lt : ∀ t, ex E t < 32
  n_le : nT E ≤ 192
  n_pos : 0 < nT E
  lo_succ : ∀ e, e + 1 < 32 → lo E (e + 1) = hi E e
  lo_hi : ∀ e, e < 32 → lo E e ≤ hi E e
  own : ∀ t, t < nT E → lo E (ex E t) ≤ t ∧ t < hi E (ex E t)

variable {E}

theorem Ok.hi_lo (ok : Ok E) {e : ℕ} : ∀ {e' : ℕ}, e < e' → e' < 32 → hi E e ≤ lo E e'
  | 0, h, _ => absurd h (Nat.not_lt_zero _)
  | e' + 1, h, h' => by
    rw [ok.lo_succ e' h']
    rcases Nat.lt_succ_iff_lt_or_eq.1 h with h1 | rfl
    · exact (ok.hi_lo h1 (by omega)).trans (ok.lo_hi e' (by omega))
    · exact Nat.le_refl _

theorem Ok.hi_le (ok : Ok E) {e : ℕ} (he : e < 32) : hi E e ≤ nT E := by
  rcases Nat.lt_or_ge e 31 with h | h
  · exact (ok.hi_lo h (by decide)).trans (ok.lo_hi 31 (by decide))
  · obtain rfl : e = 31 := by omega
    exact Nat.le_refl _

theorem Ok.uniq (ok : Ok E) {e e' t : ℕ} (he : e < 32) (he' : e' < 32) (h : lo E e ≤ t ∧ t < hi E e) (h' : lo E e' ≤ t ∧ t < hi E e') : e = e' := by
  rcases Nat.lt_trichotomy e e' with h1 | h1 | h1
  · have := ok.hi_lo h1 he'; omega
  · exact h1
  · have := ok.hi_lo h1 he; omega

/-- Where the next tile opens an interval, this tile's interval ends. -/
theorem Ok.opens (ok : Ok E) {t : ℕ} (h1 : t + 1 < nT E) (h : lo E (ex E (t + 1)) = t + 1) : hi E (ex E t) = t + 1 := by
  have h2 := ok.own t (by omega)
  by_contra h3
  have h4 := ok.own (t + 1) h1
  have h5 := ok.uniq (ok.ex_lt t) (ok.ex_lt (t + 1)) (t := t + 1) ⟨by omega, by omega⟩ h4
  rw [h5] at h2
  omega

/-- Where it does not, it has this tile's expert. -/
theorem Ok.same (ok : Ok E) {t : ℕ} (h1 : t + 1 < nT E) (h : lo E (ex E (t + 1)) ≠ t + 1) : ex E (t + 1) = ex E t := by
  have h4 := ok.own (t + 1) h1
  exact ok.uniq (ok.ex_lt _) (ok.ex_lt _) (t := t) ⟨by omega, by omega⟩ (ok.own t (by omega))

theorem Ok.first (ok : Ok E) : lo E (ex E 0) = 0 := by have := ok.own 0 ok.n_pos; omega

/-! ## The body's conditions -/

theorem ne_zero_extui : ∀ b : BitVec 1, Scalar.cmpi .ne (Scalar.extui b : BitVec 32) 0#32 = b := by decide

theorem word_eq (x : BitVec 32) : x = BitVec.ofNat 32 x.toNat := by rw [BitVec.ofNat_toNat, BitVec.setWidth_eq]

theorem slt_iff {x y : BitVec 32} (hx : x.toNat < 2 ^ 31) (hy : y.toNat < 2 ^ 31) : Scalar.cmpi .slt x y = 1#1 ↔ x.toNat < y.toNat := by
  conv_lhs => rw [word_eq x, word_eq y]
  exact Idealize.ShloMosaic.WordCmp.cmpi_slt_ofNat_eq_one_iff hx hy
theorem sge_iff {x y : BitVec 32} (hx : x.toNat < 2 ^ 31) (hy : y.toNat < 2 ^ 31) : Scalar.cmpi .sge x y = 1#1 ↔ y.toNat ≤ x.toNat := by
  conv_lhs => rw [word_eq x, word_eq y]
  exact Idealize.ShloMosaic.WordCmp.cmpi_sge_ofNat_eq_one_iff hx hy
theorem eq_iff' {x y : BitVec 32} : Scalar.cmpi .eq x y = 1#1 ↔ x.toNat = y.toNat := by
  conv_lhs => rw [word_eq x, word_eq y]
  exact Idealize.ShloMosaic.WordCmp.cmpi_eq_ofNat_eq_one_iff x.isLt y.isLt

theorem step_nat (i : grid0.Coords) : (BitVec.ofNat 32 (i 0).val).toNat = (i 0).val := by
  have hq : (i 0).val < 192 := (i 0).isLt
  rw [BitVec.toNat_ofNat]; omega

theorem cond1_iff (i : grid0.Coords) : k0_cond1 i = 1#1 ↔ (i 0).val = 0 := by
  unfold k0_cond1; dsimp only; rw [ne_zero_extui, eq_iff', step_nat]; exact Iff.rfl
theorem cond6_iff (i : grid0.Coords) : k0_cond6 i = 1#1 ↔ (i 0).val = 191 := by
  unfold k0_cond6; dsimp only; rw [ne_zero_extui, eq_iff', step_nat]; exact Iff.rfl
theorem cond3_iff (i : grid0.Coords) (v : BitVec 32) : k0_cond3 i v = 1#1 ↔ (i 0).val = v.toNat := by
  unfold k0_cond3; dsimp only; rw [ne_zero_extui, eq_iff', step_nat]
theorem cond2_iff (i : grid0.Coords) {v : BitVec 32} (hv : v.toNat ≤ 192) : k0_cond2 i v = 1#1 ↔ (i 0).val < v.toNat := by
  have hq : (i 0).val < 192 := (i 0).isLt
  unfold k0_cond2; dsimp only; rw [ne_zero_extui, slt_iff (by rw [step_nat]; omega) (by omega), step_nat]
theorem cond5_iff (i : grid0.Coords) {v : BitVec 32} (hv : v.toNat ≤ 192) : k0_cond5 i v = 1#1 ↔ v.toNat ≤ (i 0).val := by
  have hq : (i 0).val < 192 := (i 0).isLt
  unfold k0_cond5; dsimp only; rw [ne_zero_extui, sge_iff (by rw [step_nat]; omega) (by omega), step_nat]
theorem cond4_iff {v w : BitVec 32} (hv : v.toNat ≤ 192) (hw : w.toNat ≤ 192) : k0_cond4 v w = 1#1 ↔ w.toNat < v.toNat := by
  unfold k0_cond4; dsimp only; rw [ne_zero_extui, slt_iff (by omega) (by omega)]

/-! ## The weights' state -/

variable (c E)

/-- After the copies of expert `e` were rounded: the next expert's are in flight, if there is a next expert. -/
def WNext (e : ℕ) : sProp 𝕄 := if hi E e < nT E then WFly c E (ex E (hi E e)) else WIdle c E
/-- After tile `t`. -/
def WPost (t : ℕ) : sProp 𝕄 := iprop(Bf c E (ex E t) ∗ WNext c E (ex E t))
/-- Before tile `t`. -/
def WPre (t : ℕ) : sProp 𝕄 :=
  if t < nT E then (if lo E (ex E t) = t then iprop(BfAny c ∗ WFly c E (ex E t)) else WPost c E t) else iprop(BfAny c ∗ WIdle c E)

variable {c E}

theorem WPost_pre (ok : Ok E) {t : ℕ} (ht : t < nT E) : (WPost c E t : sProp 𝕄) ⊢ WPre c E (t + 1) := by
  unfold WPre
  by_cases h : t + 1 < nT E
  · rw [if_pos h]
    by_cases h' : lo E (ex E (t + 1)) = t + 1
    · rw [if_pos h']
      unfold WPost WNext
      rw [ok.opens h h', if_pos h]
      exact sep_mono (Bf_any _) .rfl
    · rw [if_neg h']
      unfold WPost
      rw [ok.same h h']
  · rw [if_neg h]
    have h1 := ok.own t ht
    unfold WPost WNext
    rw [if_neg (by omega)]
    exact sep_mono (Bf_any _) .rfl

theorem WPre_next {t : ℕ} (ht : nT E ≤ t) : (WPre c E t : sProp 𝕄) ⊢ WPre c E (t + 1) := by
  unfold WPre
  rw [if_neg (by omega), if_neg (by omega)]

end Cert.KernelIdeal.Hand
-- ==== Proof.Gath2.lean ====
/-
  Walking the copies of one tile's gather. Thirty-two copies start in a row, each for one word of the source table; the
  first four tiles name their slot by a literal, the later ones by the grid step.
-/
module

public import proofs.«01_k».proof.Proof.Rules

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- A word's two side conditions, from the range the plan keeps it in. -/
theorem chk_of {v : BitVec 32} (h : 8 ∣ v.toNat ∧ v.toNat + 8 ≤ 40960) (p q : Prop) :
    (∀ _ : p, 8 ∣ v.toNat) ∧ (∀ _ : q, ∀ a, (![v.toNat, 0] : Fin 2 → ℕ) a + S8x640.size a ≤ S40960x640.size a) :=
  ⟨fun _ => h.1, fun _ a => match a with | ⟨0, _⟩ => h.2 | ⟨1, _⟩ => Nat.le_refl 640⟩

/-! ## The slot and the table word of a grid step -/

/-- The remainder by five, as the body computes it. -/
def slotW (x : BitVec 32) : BitVec 32 :=
  let m : BitVec 32 := Scalar.select (Scalar.cmpi .eq 5#32 0#32) 1#32 5#32
  let r : BitVec 32 := Scalar.remsi x m
  Scalar.select (Scalar.andi (Scalar.xori (Scalar.cmpi .slt r 0#32) (Scalar.cmpi .slt m 0#32)) (Scalar.cmpi .ne r 0#32)) (Scalar.addi r m) r

theorem slotW_here (i : grid0.Coords) : (slotW (BitVec.ofNat 32 (i 0).val)).toNat = (i 0).val % 5 :=
  (by decide +kernel : ∀ q : Fin 192, (slotW (BitVec.ofNat 32 q.val)).toNat = q.val % 5) (i 0)
theorem slotW_ahead (i : grid0.Coords) : (slotW (Scalar.addi (BitVec.ofNat 32 (i 0).val) 4#32)).toNat = ((i 0).val + 4) % 5 :=
  (by decide +kernel : ∀ q : Fin 192, (slotW (Scalar.addi (BitVec.ofNat 32 q.val) 4#32)).toNat = (q.val + 4) % 5) (i 0)

theorem word_ahead (i : grid0.Coords) {g : ℕ} (hg : g < 32) :
    (![(Scalar.addi (Scalar.muli (Scalar.addi (BitVec.ofNat 32 (i 0).val) 4#32) 32#32) (BitVec.ofNat 32 g)).toNat] : Fin 1 → ℕ) = ![32 * ((i 0).val + 4) + g] := by
  have hq : (i 0).val < 192 := (i 0).isLt
  congr 1
  show ((BitVec.ofNat 32 (i 0).val + 4#32) * 32#32 + BitVec.ofNat 32 g).toNat = _
  simp only [BitVec.toNat_add, BitVec.toNat_mul, BitVec.toNat_ofNat]
  omega

theorem slot_here (i : grid0.Coords) : (![(slotW (BitVec.ofNat 32 (i 0).val)).toNat] : Fin 1 → ℕ) = ![(i 0).val % 5] :=
  congrArg (fun e => ![e]) (slotW_here i)
theorem slot_sem (i : grid0.Coords) : (![(slotW (Scalar.addi (BitVec.ofNat 32 (i 0).val) 4#32)).toNat] : Fin 1 → ℕ) = ![((i 0).val + 4) % 5] :=
  congrArg (fun e => ![e]) (slotW_ahead i)
theorem slot_grp (i : grid0.Coords) (j : ℕ) : (![(slotW (Scalar.addi (BitVec.ofNat 32 (i 0).val) 4#32)).toNat, 8 * j, 0] : Fin 3 → ℕ) = ![((i 0).val + 4) % 5, 8 * j, 0] :=
  congrArg (fun e => ![e, 8 * j, 0]) (slotW_ahead i)

end Cert.KernelIdeal.Hand
-- ==== Proof.Round.lean ====
/-
  Rounding one expert's weights: the body waits for the three copies, rounds each buffer into its bfloat16 buffer, and
  starts the copies of the next expert, if there is one.
-/
module

public import proofs.«01_k».proof.Proof.Plan
public import proofs.«01_k».proof.Proof.Gath2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- Before a rule, the resources in another arrangement. -/
theorem arr {P P' R : sProp 𝕄} (h : P ⊢ P') (h' : P' ⊢ R) : P ⊢ R := h.trans h'

/-- Reading one buffer, reading what another holds, and storing there. -/
theorem round1 {β : Type} {sp sp' : CoreSpace} {s s' : Shape} {e e' : EltTy} {m : Memref sig .tc sp s e} {m' : Memref sig .tc sp' s' e'} {r : LoadRect s} {r' : Rect s'} {hl hl' hx hm}
    {f : Buf (Elt F) (m.view.loc (c : Thread nD τ))} {v : r.shape.Idx → Elt F e} (hv : m.view.readAt (Elt F) r f = v)
    {pay : (r.shape.Idx → Elt F e) → r'.shape.Idx → Elt F e'}
    {f' : Buf (Elt F) (m'.view.loc (c : Thread nD τ))} (hw : ∀ f : Buf (Elt F) (m'.view.loc (c : Thread nD τ)), (m'.access r').write (Elt F) f (pay v) Finset.univ = f')
    {k : PUnit → Prog (TpuEff nD τ sig (Elt F) Λ₀ .tc) β} {Q : β → sProp 𝕄} {Z : sProp 𝕄}
    (hk : iprop((m.view.loc (c : Thread nD τ) ↦{fullShare} f) ∗ (m'.view.loc (c : Thread nD τ) ↦{fullShare} f') ∗ Z) ⊢ W c (k ⟨⟩) Q) :
    iprop((m.view.loc (c : Thread nD τ) ↦{fullShare} f) ∗ (∃ f0, m'.view.loc (c : Thread nD τ) ↦{fullShare} f0) ∗ Z)
      ⊢ W c (Prog.lift (.load m r hl) >>= fun v => Prog.lift (.load m' r'.toLoadRect hl') >>= fun _ => Prog.lift (.store m' r' (pay v) Finset.univ hx hm) >>= k) Q := by
  iintro ⟨H, ⟨%f0, H'⟩, HZ⟩
  iapply (load_rule hv) $$ H
  iintro H
  iapply (load_rule rfl) $$ H'
  iintro H'
  iapply (store_rule hw) $$ [H']
  · iexists _; iexact H'
  iintro H'
  iapply hk
  isplitl [H]; · iexact H
  isplitl [H']; · iexact H'
  iexact HZ

/-- The numbered words of part 33's result are the checks of the table word it reads. -/
theorem part33 {t : ℕ} (i : grid0.Coords) (om : Memref sig .tc .vmem S256x1024 .f32) (hom : om.IsWhole) (v10 v31 : BitVec 32) (ok : Ok E) (h2) (h30) (h3)
    {β : Type} (k : _ → Prog (TpuEff nD τ sig (Elt F) Λ₀ .tc) β) (Q : β → sProp 𝕄) (Z : sProp 𝕄)
    (hQ : ∀ w x y, iprop((Bf c E (ex E t) ∗ WIdle c E ∗ Owes c) ∗ Tabs c E ∗ Z) ⊢ W c (k ⟨at1 E.tend (ex E t), w, x, y⟩) Q) :
    iprop((BfAny c ∗ WFly c E (ex E t)) ∗ Owes c ∗ Tabs c E ∗ Z) ⊢ W c (k0_part33 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) om hom (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v10 (at1 E.exp t) h2 v31 h30 h3 >>= k) Q := by
  refine bind_rule ?_
  rw [k0_part33_eq_skeleton]
  unfold k0_part33_skel
  refine arr (P' := iprop(WFly c E (ex E t) ∗ Owes c ∗ BfAny c ∗ Tabs c E ∗ Z)) (by iintro ⟨⟨H1, H2⟩, H3, H4⟩; iframe) ?_
  refine wait3 ?_
  unfold BfAny
  refine arr (P' := iprop((((c : Thread nD τ).loc cc0_scratch1) ↦{fullShare} wslice (ex E t) E.w1) ∗ (∃ f : S1024x512.Idx → F .bf16, ((c : Thread nD τ).loc cc0_scratch4) ↦{fullShare} f)
    ∗ (((c : Thread nD τ).loc cc0_scratch2) ↦{fullShare} wslice (ex E t) E.w3) ∗ (((c : Thread nD τ).loc cc0_scratch3) ↦{fullShare} wslice (ex E t) E.w2)
    ∗ (semVal ((c : Thread nD τ), SemLoc.dma (wcell 0)) 0 ∗ (((c : Thread nD τ).loc main_arg5) ↦{fullShare} E.w1)) ∗ (semVal ((c : Thread nD τ), SemLoc.dma (wcell 1)) 0 ∗ (((c : Thread nD τ).loc main_arg6) ↦{fullShare} E.w3)) ∗ (semVal ((c : Thread nD τ), SemLoc.dma (wcell 2)) 0 ∗ (((c : Thread nD τ).loc main_arg7) ↦{fullShare} E.w2))
    ∗ (∃ f : S1024x512.Idx → F .bf16, ((c : Thread nD τ).loc cc0_scratch5) ↦{fullShare} f) ∗ (∃ f : S512x1024.Idx → F .bf16, ((c : Thread nD τ).loc cc0_scratch6) ↦{fullShare} f) ∗ Owes c ∗ Tabs c E ∗ Z)) (by iintro ⟨⟨H1, H2, H3⟩, H4, H5, H6, H7, ⟨H8, H9, H10⟩, H11, H12⟩; iframe) ?_
  refine round1 (m := (Memref.whole cc0_scratch1 : Memref sig .tc .vmem S1024x512 .f32)) (m' := (Memref.whole cc0_scratch4 : Memref sig .tc .vmem S1024x512 .bf16)) (r := (Rect.unit (s := S1024x512) ![0, 0] S1024x512.size inb_S1024x512_S1024x512_0_0).toLoadRect) (r' := Rect.unit (s := S1024x512) ![0, 0] S1024x512.size inb_S1024x512_S1024x512_0_0) (pay := k0_pay3 (F := F)) (f := wslice (ex E t) E.w1) (f' := b1 E (ex E t)) (Memref.readAt_unit_zero _ _ zero2 _ _) (fun f => Memref.write_access_unit_zero_univ (Elt F) cc0_scratch4 zero2 _ f _) ?_
  refine arr (P' := iprop((((c : Thread nD τ).loc cc0_scratch2) ↦{fullShare} wslice (ex E t) E.w3) ∗ (∃ f : S1024x512.Idx → F .bf16, ((c : Thread nD τ).loc cc0_scratch5) ↦{fullShare} f)
    ∗ (((c : Thread nD τ).loc cc0_scratch4) ↦{fullShare} b1 E (ex E t)) ∗ (((c : Thread nD τ).loc cc0_scratch1) ↦{fullShare} wslice (ex E t) E.w1) ∗ (((c : Thread nD τ).loc cc0_scratch3) ↦{fullShare} wslice (ex E t) E.w2)
    ∗ (semVal ((c : Thread nD τ), SemLoc.dma (wcell 0)) 0 ∗ (((c : Thread nD τ).loc main_arg5) ↦{fullShare} E.w1)) ∗ (semVal ((c : Thread nD τ), SemLoc.dma (wcell 1)) 0 ∗ (((c : Thread nD τ).loc main_arg6) ↦{fullShare} E.w3)) ∗ (semVal ((c : Thread nD τ), SemLoc.dma (wcell 2)) 0 ∗ (((c : Thread nD τ).loc main_arg7) ↦{fullShare} E.w2))
    ∗ (∃ f : S512x1024.Idx → F .bf16, ((c : Thread nD τ).loc cc0_scratch6) ↦{fullShare} f) ∗ Owes c ∗ Tabs c E ∗ Z)) (by iintro ⟨H1, H2, H3, H4, H5, H6, H7, H8, H9, H10, H11, H12⟩; iframe) ?_
  refine round1 (m := (Memref.whole cc0_scratch2 : Memref sig .tc .vmem S1024x512 .f32)) (m' := (Memref.whole cc0_scratch5 : Memref sig .tc .vmem S1024x512 .bf16)) (r := (Rect.unit (s := S1024x512) ![0, 0] S1024x512.size inb_S1024x512_S1024x512_0_0).toLoadRect) (r' := Rect.unit (s := S1024x512) ![0, 0] S1024x512.size inb_S1024x512_S1024x512_0_0) (pay := k0_pay4 (F := F)) (f := wslice (ex E t) E.w3) (f' := b3 E (ex E t)) (Memref.readAt_unit_zero _ _ zero2 _ _) (fun f => Memref.write_access_unit_zero_univ (Elt F) cc0_scratch5 zero2 _ f _) ?_
  refine arr (P' := iprop((((c : Thread nD τ).loc cc0_scratch3) ↦{fullShare} wslice (ex E t) E.w2) ∗ (∃ f : S512x1024.Idx → F .bf16, ((c : Thread nD τ).loc cc0_scratch6) ↦{fullShare} f)
    ∗ (((c : Thread nD τ).loc cc0_scratch4) ↦{fullShare} b1 E (ex E t)) ∗ (((c : Thread nD τ).loc cc0_scratch5) ↦{fullShare} b3 E (ex E t)) ∗ (((c : Thread nD τ).loc cc0_scratch1) ↦{fullShare} wslice (ex E t) E.w1) ∗ (((c : Thread nD τ).loc cc0_scratch2) ↦{fullShare} wslice (ex E t) E.w3)
    ∗ (semVal ((c : Thread nD τ), SemLoc.dma (wcell 0)) 0 ∗ (((c : Thread nD τ).loc main_arg5) ↦{fullShare} E.w1)) ∗ (semVal ((c : Thread nD τ), SemLoc.dma (wcell 1)) 0 ∗ (((c : Thread nD τ).loc main_arg6) ↦{fullShare} E.w3)) ∗ (semVal ((c : Thread nD τ), SemLoc.dma (wcell 2)) 0 ∗ (((c : Thread nD τ).loc main_arg7) ↦{fullShare} E.w2))
    ∗ Owes c ∗ Tabs c E ∗ Z)) (by unfold b1; iintro ⟨H1, H2, H3, H4, H5, H6, H7, H8, H9, H10, H11, H12⟩; iframe) ?_
  refine round1 (m := (Memref.whole cc0_scratch3 : Memref sig .tc .vmem S512x1024 .f32)) (m' := (Memref.whole cc0_scratch6 : Memref sig .tc .vmem S512x1024 .bf16)) (r := (Rect.unit (s := S512x1024) ![0, 0] S512x1024.size inb_S512x1024_S512x1024_0_0).toLoadRect) (r' := Rect.unit (s := S512x1024) ![0, 0] S512x1024.size inb_S512x1024_S512x1024_0_0) (pay := k0_pay5 (F := F)) (f := wslice (ex E t) E.w2) (f' := b2 E (ex E t)) (Memref.readAt_unit_zero _ _ zero2 _ _) (fun f => Memref.write_access_unit_zero_univ (Elt F) cc0_scratch6 zero2 _ f _) ?_
  refine arr (P' := iprop((Bf c E (ex E t) ∗ WIdle c E ∗ Owes c) ∗ Tabs c E ∗ Z)) ?_ ?_
  · unfold Bf WIdle Idle1 Idle3 Idle2 b2
    iintro ⟨H1, H2, H3, H4, H5, H6, ⟨H7, H7'⟩, ⟨H8, H8'⟩, ⟨H9, H9'⟩, H10, H11, H12⟩
    iframe
    isplitl [H5]; · iexists _; iexact H5
    isplitl [H6]; · iexists _; iexact H6
    iexists _; iexact H1
  refine tend_rule rfl ?_
  refine assume_rule (fun _ _ _ a => ?_) ?_
  · match a with | ⟨0, _⟩ => exact ok.ex_lt t
  exact pure_rule (hQ _ _ _)

end Cert.KernelIdeal.Hand
-- ==== Proof.Tile34.lean ====
/-
  The start of a tile that holds rows: the body waits for the tile, brings the weights up to it, and starts the first
  copy of the tile four steps ahead.
-/
module

public import proofs.«01_k».proof.Proof.Round

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

theorem inb_up {e : ℕ} (h : e < 32) : ∀ a, (![e, 0, 0] : Fin 3 → ℕ) a + S1x1024x512.size a ≤ S32x1024x512.size a :=
  fun a => match a with | ⟨0, _⟩ => h | ⟨1, _⟩ => Nat.le_refl 1024 | ⟨2, _⟩ => Nat.le_refl 512
theorem inb_down {e : ℕ} (h : e < 32) : ∀ a, (![e, 0, 0] : Fin 3 → ℕ) a + S1x512x1024.size a ≤ S32x512x1024.size a :=
  fun a => match a with | ⟨0, _⟩ => h | ⟨1, _⟩ => Nat.le_refl 512 | ⟨2, _⟩ => Nat.le_refl 1024
theorem inb_tab {e : ℕ} (h : e < 32) : ∀ a, (![e] : Fin 1 → ℕ) a + S1.size a ≤ S32.size a := fun a => match a with | ⟨0, _⟩ => h
theorem inb_exp {t : ℕ} (h : t < 192) : ∀ a, (![t] : Fin 1 → ℕ) a + S1.size a ≤ S196.size a :=
  fun a => match a with | ⟨0, _⟩ => (show t + 1 ≤ 196 by omega)

theorem dite_rule {β : Type} {p : Prop} {d : Decidable p} {a : p → Prog (TpuEff nD τ sig (Elt F) Λ₀ .tc) β} {b : ¬ p → Prog (TpuEff nD τ sig (Elt F) Λ₀ .tc) β} {Q : β → sProp 𝕄} {P : sProp 𝕄}
    (h1 : ∀ h : p, P ⊢ W c (a h) Q) (h2 : ∀ h : ¬ p, P ⊢ W c (b h) Q) : P ⊢ W c (dite p a b) Q := by
  by_cases h : p
  · rw [dif_pos h]; exact h1 h
  · rw [dif_neg h]; exact h2 h

/-- Waiting for a slot at the head of a sequence. -/
theorem wait_step {β : Type} {s T : ℕ} {off : Fin 1 → ℕ} {h} {off' : Fin 3 → ℕ} {h'} (hs5 : s < 5) (ho : off = ![s])
    {srcw : Memref sig .tc .hbm S256x640 .i32} {hw1 : srcw.view.WordExact} {hw2 : (slotM off' h').view.WordExact} {k : PUnit → Prog (TpuEff nD τ sig (Elt F) Λ₀ .tc) β} {Q : β → sProp 𝕄} {Z : sProp 𝕄}
    (hk : iprop(Full c E s T ∗ Owes c ∗ Z) ⊢ W c (k ⟨⟩) Q) :
    iprop(Fill c E s T 32 ∗ Owes c ∗ Z) ⊢ W c (Prog.lift (.waitDma2 ((cc0_scratch7.slice (Rect.unit (s := S5) off S1.size h)).squeeze S_ squeezes_S1_S_).sem
      srcw (slotM off' h') hw1 hw2) >>= k) Q :=
  bind_rule (wait_rule hs5 ho (pure_rule hk))

theorem part34 (i : grid0.Coords) (om : Memref sig .tc .vmem S256x1024 .f32) (hom : om.IsWhole) (a0 : BitVec 32) (ok : Ok E) (hq : (i 0).val < nT E) (hw) (h2)
    {β : Type} (k : BitVec 32 → Prog (TpuEff nD τ sig (Elt F) Λ₀ .tc) β) (Q : β → sProp 𝕄) (Z : sProp 𝕄)
    (hQ : ∀ x, iprop(Fill c E (((i 0).val + 4) % 5) ((i 0).val + 4) 1 ∗ Tabs c E ∗ Full c E ((i 0).val % 5) (i 0).val ∗ Owes c ∗ WPost c E (i 0).val ∗ Z) ⊢ W c (k x) Q) :
    iprop(Fill c E ((i 0).val % 5) (i 0).val 32 ∗ Owes c ∗ Tabs c E ∗ WPre c E (i 0).val ∗ Fill c E (((i 0).val + 4) % 5) ((i 0).val + 4) 0 ∗ Z)
      ⊢ W c (k0_part34 i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) om hom (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 a0 (at1 E.tend 31) (at1 E.exp (i 0).val) hw h2 >>= k) Q := by
  refine bind_rule ?_
  rw [k0_part34_eq_skeleton]
  unfold k0_part34_skel
  refine wait_step (Nat.mod_lt _ (by decide)) (slot_here i) ?_
  refine arr (P' := iprop((Full c E ((i 0).val % 5) (i 0).val ∗ Owes c ∗ WPre c E (i 0).val) ∗ Tabs c E ∗ Fill c E (((i 0).val + 4) % 5) ((i 0).val + 4) 0 ∗ Z)) (by iintro ⟨H1, H2, H3, H4, H5⟩; iframe) ?_
  refine toff_rule (t := ex E (i 0).val) rfl ?_
  refine assume_rule ⟨fun _ _ => inb_up (ok.ex_lt _), fun _ _ => inb_down (ok.ex_lt _), fun _ _ => inb_tab (ok.ex_lt _)⟩ ?_
  have he := ok.ex_lt (i 0).val
  refine dite_rule (fun h3 => ?_) (fun h3 => ?_)
  · have hlo : lo E (ex E (i 0).val) = (i 0).val := ((cond3_iff i _).1 h3).symm
    rw [show WPre c E (i 0).val = iprop(BfAny c ∗ WFly c E (ex E (i 0).val)) by unfold WPre; rw [if_pos hq, if_pos hlo]]
    refine arr (P' := iprop((BfAny c ∗ WFly c E (ex E (i 0).val)) ∗ Owes c ∗ Tabs c E ∗ Fill c E (((i 0).val + 4) % 5) ((i 0).val + 4) 0 ∗ Full c E ((i 0).val % 5) (i 0).val ∗ Z)) (by iintro ⟨⟨H1, H2, H3⟩, H4, H5, H6⟩; iframe) ?_
    refine part33 i om hom _ _ ok _ _ _ _ _ _ (fun w x y => ?_)
    refine dite_rule (fun h4 => ?_) (fun h4 => ?_)
    · have hlt : hi E (ex E (i 0).val) < nT E := (cond4_iff (v := at1 E.tend 31) ok.n_le ((ok.hi_le he).trans ok.n_le)).1 h4
      refine tend_rule (t := ex E (i 0).val) rfl ?_
      refine assume_rule (fun _ _ _ => inb_exp (hlt.trans_le ok.n_le)) ?_
      refine exp_rule (t := hi E (ex E (i 0).val)) rfl ?_
      refine assume_rule ⟨fun _ _ _ => inb_up (ok.ex_lt _), fun _ _ _ => inb_down (ok.ex_lt _)⟩ ?_
      refine arr (P' := iprop(WIdle c E ∗ Bf c E (ex E (i 0).val) ∗ Owes c ∗ Tabs c E ∗ Fill c E (((i 0).val + 4) % 5) ((i 0).val + 4) 0 ∗ Full c E ((i 0).val % 5) (i 0).val ∗ Z)) (by iintro ⟨⟨H1, H2, H3⟩, H4, H5, H6, H7⟩; iframe) ?_
      refine start3 (e := ex E (hi E (ex E (i 0).val))) rfl rfl ?_
      refine arr (P' := iprop(Fill c E (((i 0).val + 4) % 5) ((i 0).val + 4) 0 ∗ Tabs c E ∗ Full c E ((i 0).val % 5) (i 0).val ∗ Owes c ∗ WPost c E (i 0).val ∗ Z)) (by unfold WPost WNext; rw [if_pos hlt]; iintro ⟨H1, H2, H3, H4, H5, H6, H7⟩; iframe) ?_
      refine src_rule (word_ahead i (by decide)) ?_
      refine assume_rule (chk_of (ok.src _) _ _) ?_
      refine start_rule (Nat.mod_lt _ (by decide)) (by decide) (slot_sem i) (slot_grp i _) rfl ?_
      exact pure_rule (hQ _)
    · have hlt : ¬ hi E (ex E (i 0).val) < nT E := fun h => h4 ((cond4_iff (v := at1 E.tend 31) ok.n_le ((ok.hi_le he).trans ok.n_le)).2 h)
      refine arr (P' := iprop(Fill c E (((i 0).val + 4) % 5) ((i 0).val + 4) 0 ∗ Tabs c E ∗ Full c E ((i 0).val % 5) (i 0).val ∗ Owes c ∗ WPost c E (i 0).val ∗ Z)) (by unfold WPost WNext; rw [if_neg hlt]; iintro ⟨⟨H1, H2, H3⟩, H4, H5, H6, H7⟩; iframe) ?_
      refine src_rule (word_ahead i (by decide)) ?_
      refine assume_rule (chk_of (ok.src _) _ _) ?_
      refine start_rule (Nat.mod_lt _ (by decide)) (by decide) (slot_sem i) (slot_grp i _) rfl ?_
      exact pure_rule (hQ _)
  · have hlo : lo E (ex E (i 0).val) ≠ (i 0).val := fun h => h3 ((cond3_iff i _).2 h.symm)
    rw [show WPre c E (i 0).val = WPost c E (i 0).val by unfold WPre; rw [if_pos hq, if_neg hlo]]
    refine arr (P' := iprop(Fill c E (((i 0).val + 4) % 5) ((i 0).val + 4) 0 ∗ Tabs c E ∗ Full c E ((i 0).val % 5) (i 0).val ∗ Owes c ∗ WPost c E (i 0).val ∗ Z)) (by iintro ⟨⟨H1, H2, H3⟩, H4, H5, H6⟩; iframe) ?_
    refine src_rule (word_ahead i (by decide)) ?_
    refine assume_rule (chk_of (ok.src _) _ _) ?_
    refine start_rule (Nat.mod_lt _ (by decide)) (by decide) (slot_sem i) (slot_grp i _) rfl ?_
    exact pure_rule (hQ _)
end Cert.KernelIdeal.Hand
-- ==== Proof.Loads.lean ====
/-
  Reading a full slot of the ring as a tile, and storing a whole output block.
-/
module

public import proofs.«01_k».proof.Proof.Tile34

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- Tile `T` as the body loads it. -/
def tileVec (E : Env F) (T : ℕ) : Vec F S1x256x640 .i32 := fun y => E.X (rowIx (srcRow E.src T (y 1).val) (y 2))

theorem grp_disj (s : ℕ) (g g' : Fin 32) (hg : g ≠ g') : Disjoint (grp s g.val) (grp s g'.val) := by
  rw [Finset.disjoint_left]
  intro x hx hx'
  rw [mem_grp] at hx hx'
  exact hg (Fin.ext (hx.2.symm.trans hx'.2))

theorem grp_union (s : ℕ) : (Finset.univ : Finset (Fin 32)).biUnion (fun g => grp s g.val) = slot s := by
  ext x
  have h1 : (x 1).val < 256 := (x 1).isLt
  simp only [Finset.mem_biUnion, Finset.mem_univ, true_and, mem_grp, mem_slot]
  exact ⟨fun ⟨_, h⟩ => h.1, fun h => ⟨⟨(x 1).val / 8, by omega⟩, h, rfl⟩⟩

theorem grps_slot (s : ℕ) (f : S5x256x640.Idx → BitVec 32) :
    (ringPt c (slot s) f : sProp 𝕄) = bigSep (Finset.univ : Finset (Fin 32)) fun g => ringPt c (grp s g.val) f := by
  have h := pointsTo_biUnion (Ix := Unit) (Val := Elt F) (Name := ℕ) (U := Pipeline.UD sig nD τ) (Lvl := ℕ) (ℓ := (c : Thread nD τ).loc cc0_scratch0) (q := fullShare) (f := f) (Finset.univ : Finset (Fin 32)) (fun g => grp s g.val)
    (fun g _ g' _ hg => grp_disj s g g' hg)
  rw [grp_union] at h
  exact h

/-- A full slot's elements beside the rest of it. -/
theorem Full_split (s T : ℕ) : (Full c E s T : sProp 𝕄) = iprop(semVal ((c : Thread nD τ), SemLoc.dma (cell s)) 0 ∗ ringPt c (slot s) (tileBuf E.X E.src T)
    ∗ bigSep (Finset.univ : Finset (Fin 32)) fun g => xPt c E Finset.univ (tok s g.val)) := by
  unfold Full gFull
  rw [grps_slot, bigSep_sep']

theorem load_full {β : Type} {s T : ℕ} {off : Fin 3 → ℕ} {h} {hl} (ho : off = ![s, 0, 0])
    {k : Vec F S1x256x640 .i32 → Prog (TpuEff nD τ sig (Elt F) Λ₀ .tc) β} {Q : β → sProp 𝕄} {Z : sProp 𝕄}
    (hk : iprop(Full c E s T ∗ Z) ⊢ W c (k (tileVec E T)) Q) :
    iprop(Full c E s T ∗ Z) ⊢ W c (Prog.lift (.load (Memref.whole cc0_scratch0 : Memref sig .tc .vmem S5x256x640 .i32) (Rect.unit (s := S5x256x640) off S1x256x640.size h).toLoadRect hl) >>= k) Q := by
  subst ho
  rw [Full_split] at hk ⊢
  iintro ⟨⟨H1, H2, H3⟩, HZ⟩
  iapply (wp_load_rect Variants.none (c : Thread nD τ) none Set.univ (m := (Memref.whole cc0_scratch0 : Memref sig .tc .vmem S5x256x640 .i32)) (r := Rect.unit (s := S5x256x640) ![s, 0, 0] S1x256x640.size h) (S := slot s) (f := tileBuf E.X E.src T) (hl := hl) (q := fullShare) ?_) $$ H2
  · rw [show ((Memref.whole cc0_scratch0 : Memref sig .tc .vmem S5x256x640 .i32).access (Rect.unit (s := S5x256x640) ![s, 0, 0] S1x256x640.size h)).set
      = (Rect.unit (s := S5x256x640) ![s, 0, 0] S1x256x640.size h).set from View.set_slice_whole _ _]
    intro x hx
    rw [Rect.mem_set_unit] at hx
    have h0 := hx 0
    simp at h0
    exact mem_slot.2 (by omega)
  iintro H2
  rw [show ((Memref.whole cc0_scratch0 : Memref sig .tc .vmem S5x256x640 .i32).access (Rect.unit (s := S5x256x640) ![s, 0, 0] S1x256x640.size h)).read (Elt F) (tileBuf E.X E.src T) = tileVec E T from ?_]
  · iapply hk
    iframe
  · funext y
    show E.X _ = E.X _
    have e1 : ((Rect.unit (s := S5x256x640) ![s, 0, 0] S1x256x640.size h).emb y 1).val = (y 1).val := by show 0 + 1 * (y 1).val = _; omega
    have e2 : (Rect.unit (s := S5x256x640) ![s, 0, 0] S1x256x640.size h).emb y 2 = y 2 := by apply Fin.ext; show 0 + 1 * (y 2).val = _; omega
    show E.X (rowIx (srcRow E.src T ((Rect.unit (s := S5x256x640) ![s, 0, 0] S1x256x640.size h).emb y 1).val) ((Rect.unit (s := S5x256x640) ![s, 0, 0] S1x256x640.size h).emb y 2)) = _
    rw [e1, e2]

/-! ## The output block -/

theorem whole_store {sp : Space} {s : Shape} {e : EltTy} {m : Memref sig .tc sp s e} (hm : m.IsWhole) {off : Fin s.rank → ℕ} (h0 : off = fun _ => 0) (inb : ∀ a, off a + s.size a ≤ s.size a) (f) (w : s.Idx → Elt F e) :
    m.view.read (Elt F) ((m.access (Rect.unit off s.size inb)).write (Elt F) f w Finset.univ) = w := by
  obtain ⟨b, rfl, rfl, rfl, hb⟩ := hm
  obtain rfl := eq_of_heq hb
  exact (congrArg (fun g => (Memref.whole b).view.read (Elt F) g) (Memref.write_access_unit_zero_univ (Elt F) b h0 inb f w)).trans rfl

theorem out_store {β : Type} {om : Memref sig .tc .vmem S256x1024 .f32} (hom : om.IsWhole) {off} (h0 : off = fun _ => 0) {h} {hl hx hm} {w : FVec F S256x1024 .f32}
    {k : PUnit → Prog (TpuEff nD τ sig (Elt F) Λ₀ .tc) β} {Q : β → sProp 𝕄} {Z : sProp 𝕄}
    (hk : iprop(owns (c : Thread nD τ) om fullShare w ∗ Z) ⊢ W c (k ⟨⟩) Q) :
    iprop((∃ d, owns (c : Thread nD τ) om fullShare d) ∗ Z)
      ⊢ W c (Prog.lift (.load om (Rect.unit (s := S256x1024) off S256x1024.size h).toLoadRect hl) >>= fun _ => Prog.lift (.store om (Rect.unit (s := S256x1024) off S256x1024.size h) w Finset.univ hx hm) >>= k) Q := by
  unfold owns at hk ⊢
  rw [hom.set_eq_univ] at hk ⊢
  iintro ⟨⟨%d, %f, -, H⟩, HZ⟩
  iapply (load_rule rfl) $$ H
  iintro H
  iapply (wp_store Variants.none (c : Thread nD τ) none Set.univ (hx := hx) (hm := hm) (Finset.subset_univ _)) $$ H
  iintro H
  iapply hk
  isplitr [HZ]; swap; · iexact HZ
  iexists _
  isplitr; swap; · iexact H
  ipureintro
  exact whole_store hom h0 h f w

end Cert.KernelIdeal.Hand
-- ==== Proof.Work.lean ====
/-
  The arithmetic of one tile, as the body performs it.
-/
module

public import proofs.«01_k».proof.Proof.Loads

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- The expert's arithmetic: the three rounded weights are read, and the block is stored. -/
theorem work_end {β : Type} {om : Memref sig .tc .vmem S256x1024 .f32} (hom : om.IsWhole) {e : ℕ} {h h' h''} {hl1 hl2 hl3 hl4 hx hm}
    {g : Vec F S1024x512 .bf16 → Vec F S1024x512 .bf16 → Vec F S512x1024 .bf16 → FVec F S256x1024 .f32}
    {k : PUnit → Prog (TpuEff nD τ sig (Elt F) Λ₀ .tc) β} {Q : β → sProp 𝕄} {Z : sProp 𝕄}
    (hk : iprop(owns (c : Thread nD τ) om fullShare (g (b1 E e) (b3 E e) (b2 E e)) ∗ Bf c E e ∗ Z) ⊢ W c (k ⟨⟩) Q) :
    iprop((∃ d, owns (c : Thread nD τ) om fullShare d) ∗ Bf c E e ∗ Z) ⊢ W c
      (Prog.lift (.load (Memref.whole cc0_scratch4 : Memref sig .tc .vmem S1024x512 .bf16) (Rect.unit (s := S1024x512) ![0, 0] S1024x512.size h).toLoadRect hl1) >>= fun (x : Vec F S1024x512 .bf16) =>
       Prog.lift (.load (Memref.whole cc0_scratch5 : Memref sig .tc .vmem S1024x512 .bf16) (Rect.unit (s := S1024x512) ![0, 0] S1024x512.size h).toLoadRect hl2) >>= fun (y : Vec F S1024x512 .bf16) =>
       Prog.lift (.load (Memref.whole cc0_scratch6 : Memref sig .tc .vmem S512x1024 .bf16) (Rect.unit (s := S512x1024) ![0, 0] S512x1024.size h').toLoadRect hl3) >>= fun (z : Vec F S512x1024 .bf16) =>
       Prog.lift (.load om (Rect.unit (s := S256x1024) ![0, 0] S256x1024.size h'').toLoadRect hl4) >>= fun _ =>
       Prog.lift (.store om (Rect.unit (s := S256x1024) ![0, 0] S256x1024.size h'') (g x y z) Finset.univ hx hm) >>= k) Q := by
  unfold Bf at hk ⊢
  iintro ⟨HO, ⟨H1, H3, H2⟩, HZ⟩
  iapply (load_rule (m := (Memref.whole cc0_scratch4 : Memref sig .tc .vmem S1024x512 .bf16)) (r := (Rect.unit (s := S1024x512) ![0, 0] S1024x512.size h).toLoadRect) (f := b1 E e) (q := fullShare) (v := b1 E e)
    (Memref.readAt_unit_zero (Elt F) cc0_scratch4 zero2 _ _)) $$ H1
  iintro H1
  iapply (load_rule (m := (Memref.whole cc0_scratch5 : Memref sig .tc .vmem S1024x512 .bf16)) (r := (Rect.unit (s := S1024x512) ![0, 0] S1024x512.size h).toLoadRect) (f := b3 E e) (q := fullShare) (v := b3 E e)
    (Memref.readAt_unit_zero (Elt F) cc0_scratch5 zero2 _ _)) $$ H3
  iintro H3
  iapply (load_rule (m := (Memref.whole cc0_scratch6 : Memref sig .tc .vmem S512x1024 .bf16)) (r := (Rect.unit (s := S512x1024) ![0, 0] S512x1024.size h').toLoadRect) (f := b2 E e) (q := fullShare) (v := b2 E e)
    (Memref.readAt_unit_zero (Elt F) cc0_scratch6 zero2 _ _)) $$ H2
  iintro H2
  iapply (out_store (c := c) hom zero2 (Z := iprop(((((c : Thread nD τ).loc cc0_scratch4) ↦{fullShare} b1 E e) ∗ (((c : Thread nD τ).loc cc0_scratch5) ↦{fullShare} b3 E e) ∗ (((c : Thread nD τ).loc cc0_scratch6) ↦{fullShare} b2 E e)) ∗ Z)) hk)
  iframe

end Cert.KernelIdeal.Hand
-- ==== Proof.Body.lean ====
/-
  The whole body of the kernel, one grid step: what it finds in hand, and what it leaves.
-/
module

public import proofs.«01_k».proof.Proof.Work

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- A two-way choice whose second branch is the rest of the program. -/
theorem dite_tail {β : Type} {p : Prop} {d : Decidable p} {a : p → Prog (TpuEff nD τ sig (Elt F) Λ₀ .tc) β} {b : Prog (TpuEff nD τ sig (Elt F) Λ₀ .tc) β} {Q : β → sProp 𝕄} {P P' : sProp 𝕄}
    (h2 : ¬ p → P ⊢ P') (h1 : (P' ⊢ W c b Q) → ∀ h : p, P ⊢ W c (a h) Q) (hb : P' ⊢ W c b Q) : P ⊢ W c (dite p a (fun _ => b)) Q := by
  by_cases h : p
  · rw [dif_pos h]; exact h1 hb h
  · rw [dif_neg h]; exact BIBase.Entails.trans (h2 h) hb

/-- A load of a whole buffer at the head of a sequence. -/
theorem load_step {β : Type} {cs : CoreSpace} {s : Shape} {e : EltTy} {m : Memref sig .tc cs s e} {r : LoadRect s} {hl : m.view.LoadsAt r}
    {f : Buf (Elt F) (m.view.loc (c : Thread nD τ))} {v : r.shape.Idx → Elt F e} (hv : m.view.readAt (Elt F) r f = v)
    {k : (r.shape.Idx → Elt F e) → Prog (TpuEff nD τ sig (Elt F) Λ₀ .tc) β} {Q : β → sProp 𝕄} {Z : sProp 𝕄}
    (hk : iprop((m.view.loc (c : Thread nD τ) ↦{fullShare} f) ∗ Z) ⊢ W c (k v) Q) :
    iprop((m.view.loc (c : Thread nD τ) ↦{fullShare} f) ∗ Z) ⊢ W c (Prog.lift (.load m r hl) >>= k) Q := by
  iintro ⟨H, HZ⟩
  iapply (load_rule hv) $$ H
  iintro H
  iapply hk
  iframe

/-- A table word read at the end of a sequence. -/
theorem src_end {off : Fin 1 → ℕ} {h} {h1} {hp} {t : ℕ} (ho : off = ![t]) {Q : BitVec 32 → sProp 𝕄} {A Z : sProp 𝕄} (hk : iprop(A ∗ Tabs c E ∗ Z) ⊢ Q (at1 E.src t)) :
    iprop(A ∗ Tabs c E ∗ Z) ⊢ W c (smemLoad (Memref.whole main_arg3 : Memref sig .tc .smem S6272 .i32) (Rect.unit (s := S6272) off S1.size h) h1 hp) Q := by
  have := src_rule (c := c) (E := E) (h := h) (h1 := h1) (hp := hp) ho (k := fun v => pure v) (Q := Q) (pure_rule hk)
  exact BIBase.Entails.trans this (Entails.of_eq (congrArg (fun p => W c p Q) (bind_pure _)))

theorem upd_step {α : Type} {p : Prog (TpuEff nD τ sig (Elt F) Λ₀ .tc) α} {Q : α → sProp 𝕄} {P P' : sProp 𝕄} (h : P ⊢ |={Set.univ}=> P') (h' : P' ⊢ W c p Q) : P ⊢ W c p Q :=
  BIBase.Entails.trans h (BIBase.Entails.trans (BI.fupd_mono h') (fupd_wp _ _ _ _ _))

/-- The block the step of tile `t` leaves. -/
def outVal (E : Env F) (t : ℕ) : FVec F S256x1024 .f32 :=
  if t < nT E then k0_pay1 (at1 E.exp t) (k0_pay7 (tileVec E t)) (k0_pay8 (tileVec E t)) (k0_pay9 (tileVec E t)) (b1 E (ex E t)) (b3 E (ex E t)) (b2 E (ex E t))
  else k0_pay2

variable (c E) in
/-- The ring between two tiles: four tiles on the way, one slot free. -/
def Mid (t : ℕ) : sProp 𝕄 :=
  iprop(Fill c E (t % 5) t 32 ∗ Fill c E ((t + 1) % 5) (t + 1) 32 ∗ Fill c E ((t + 2) % 5) (t + 2) 32 ∗ Fill c E ((t + 3) % 5) (t + 3) 32 ∗ Free c E ((t + 4) % 5))
variable (c E) in
def AllFree : sProp 𝕄 := iprop(Free c E 0 ∗ Free c E 1 ∗ Free c E 2 ∗ Free c E 3 ∗ Free c E 4)
variable (c E) in
/-- The ring before step `t`. -/
def RingSt (t : ℕ) : sProp 𝕄 := if t = 0 ∨ t = 192 then AllFree c E else Mid c E t
variable (c E) in
/-- The weights before step `t`. -/
def WSt (t : ℕ) : sProp 𝕄 := if t = 0 then iprop(BfAny c ∗ WIdle c E) else WPre c E t
variable (c E) in
/-- The ring after the body's work on tile `t`, before the last waits. -/
def Late (t : ℕ) : sProp 𝕄 :=
  iprop(Free c E (t % 5) ∗ Fill c E ((t + 1) % 5) (t + 1) 32 ∗ Fill c E ((t + 2) % 5) (t + 2) 32 ∗ Fill c E ((t + 3) % 5) (t + 3) 32 ∗ Fill c E ((t + 4) % 5) (t + 4) 32)

theorem Late_mid (t : ℕ) : (Late c E t : sProp 𝕄) ⊢ Mid c E (t + 1) := by
  unfold Late Mid
  rw [show (t + 1 + 4) % 5 = t % 5 by omega]
  iintro ⟨H0, H1, H2, H3, H4⟩
  isplitl [H1]; · iexact H1
  isplitl [H2]; · iexact H2
  isplitl [H3]; · iexact H3
  isplitl [H4]; · iexact H4
  iexact H0

theorem slot_late (i : grid0.Coords) (r : Fin 4) : (slotW (Scalar.addi (BitVec.ofNat 32 (i 0).val) (BitVec.ofNat 32 (r.val + 1)))).toNat = ((i 0).val + (r.val + 1)) % 5 :=
  (by decide +kernel : ∀ (q : Fin 192) (r : Fin 4), (slotW (Scalar.addi (BitVec.ofNat 32 q.val) (BitVec.ofNat 32 (r.val + 1)))).toNat = (q.val + (r.val + 1)) % 5) (i 0) r
theorem slot_last (i : grid0.Coords) (r : Fin 4) : (![(slotW (Scalar.addi (BitVec.ofNat 32 (i 0).val) (BitVec.ofNat 32 (r.val + 1)))).toNat] : Fin 1 → ℕ) = ![((i 0).val + (r.val + 1)) % 5] :=
  congrArg (fun e => ![e]) (slot_late i r)
theorem slot_load (i : grid0.Coords) : (![(slotW (BitVec.ofNat 32 (i 0).val)).toNat, 0, 0] : Fin 3 → ℕ) = ![(i 0).val % 5, 0, 0] :=
  congrArg (fun e => ![e, 0, 0]) (slotW_here i)

theorem fill4 : (AllFree c E : sProp 𝕄) ⊢ |={Set.univ}=> iprop(Fill c E 0 0 0 ∗ Fill c E 1 1 0 ∗ Fill c E 2 2 0 ∗ Fill c E 3 3 0 ∗ Free c E 4) := by
  unfold AllFree
  iintro ⟨H0, H1, H2, H3, H4⟩
  imod (fill_start 0 0) $$ H0 with H0
  imod (fill_start 1 1) $$ H1 with H1
  imod (fill_start 2 2) $$ H2 with H2
  imod (fill_start 3 3) $$ H3 with H3
  imodintro
  iframe

theorem fill4_step {Z : sProp 𝕄} : iprop(AllFree c E ∗ Z) ⊢ |={Set.univ}=> iprop(Fill c E 0 0 0 ∗ Fill c E 1 1 0 ∗ Fill c E 2 2 0 ∗ Fill c E 3 3 0 ∗ Free c E 4 ∗ Z) := by
  iintro ⟨H, HZ⟩
  imod (fill4 (c := c) (E := E)) $$ H with ⟨H0, H1, H2, H3, H4⟩
  imodintro
  iframe

/-- The free slot made ready for the tile four steps ahead. -/
theorem open_step {t : ℕ} {Z : sProp 𝕄} : iprop(Mid c E t ∗ Z) ⊢ |={Set.univ}=> iprop((Fill c E (t % 5) t 32 ∗ Fill c E ((t + 1) % 5) (t + 1) 32 ∗ Fill c E ((t + 2) % 5) (t + 2) 32 ∗ Fill c E ((t + 3) % 5) (t + 3) 32 ∗ Fill c E ((t + 4) % 5) (t + 4) 0) ∗ Z) := by
  unfold Mid
  iintro ⟨⟨H0, H1, H2, H3, H4⟩, HZ⟩
  imod (fill_start ((t + 4) % 5) (t + 4)) $$ H4 with H4
  imodintro
  iframe

variable (c E) in
/-- The ring while tile `t` is worked on, before a copy of the tile four steps ahead starts. -/
def Open (t : ℕ) : sProp 𝕄 :=
  iprop(Fill c E (t % 5) t 32 ∗ Fill c E ((t + 1) % 5) (t + 1) 32 ∗ Fill c E ((t + 2) % 5) (t + 2) 32 ∗ Fill c E ((t + 3) % 5) (t + 3) 32 ∗ Fill c E ((t + 4) % 5) (t + 4) 0)
variable (c E) in
/-- What a tile that holds rows leaves, or what a tile that holds none finds. -/
def Half (om : Memref sig .tc .vmem S256x1024 .f32) (t : ℕ) : sProp 𝕄 :=
  if t < nT E then iprop(Late c E t ∗ WPost c E t ∗ owns (c : Thread nD τ) om fullShare (outVal E t))
  else iprop(Open c E t ∗ WPre c E t ∗ (∃ d, owns (c : Thread nD τ) om fullShare d))

set_option maxHeartbeats 600000 in
theorem sound_body (ok : Ok E) (i : grid0.Coords) (om : Memref sig .tc .vmem S256x1024 .f32) (hom : om.IsWhole) (Z : sProp 𝕄) :
    iprop(RingSt c E (i 0).val ∗ WSt c E (i 0).val ∗ Tabs c E ∗ Owes c ∗ (∃ d, owns (c : Thread nD τ) om fullShare d) ∗ Z)
      ⊢ W c (cc0_experts i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) om hom (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8)
        (fun _ => iprop(RingSt c E ((i 0).val + 1) ∗ WSt c E ((i 0).val + 1) ∗ Tabs c E ∗ Owes c ∗ owns (c : Thread nD τ) om fullShare (outVal E (i 0).val) ∗ Z)) := by
  have hq : (i 0).val < 192 := (i 0).isLt
  rw [cc0_experts_eq_skeleton]
  unfold cc0_experts_skel
  refine arr (P' := iprop((RingSt c E (i 0).val ∗ WSt c E (i 0).val) ∗ Tabs c E ∗ Owes c ∗ (∃ d, owns (c : Thread nD τ) om fullShare d) ∗ Z)) (by iintro ⟨H1, H2, H3, H4⟩; iframe) ?_
  refine tend_rule (t := 31) rfl ?_
  refine exp_rule (t := (i 0).val) (congrArg (fun e => ![e]) (step_nat i)) ?_
  refine assume_rule ⟨fun _ => inb_up (ok.ex_lt _), fun _ => inb_down (ok.ex_lt _), fun _ => inb_tab (ok.ex_lt _)⟩ ?_
  refine dite_tail (P' := iprop(Mid c E (i 0).val ∗ WPre c E (i 0).val ∗ Tabs c E ∗ Owes c ∗ (∃ d, owns (c : Thread nD τ) om fullShare d) ∗ Z)) (fun h => ?_) (fun hb h => ?_) ?_
  · have h0 : (i 0).val ≠ 0 := fun e => h ((cond1_iff i).2 e)
    unfold RingSt WSt
    rw [if_neg (by omega), if_neg h0]
    iintro ⟨⟨H1, H2⟩, H3⟩; iframe
  · have h0 : (i 0).val = 0 := (cond1_iff i).1 h
    unfold RingSt WSt
    rw [if_pos (Or.inl h0), if_pos h0]
    refine arr (P' := iprop(AllFree c E ∗ Tabs c E ∗ BfAny c ∗ WIdle c E ∗ Owes c ∗ (∃ d, owns (c : Thread nD τ) om fullShare d) ∗ Z)) (by iintro ⟨⟨H1, H2, H3⟩, H4, H5, H6⟩; iframe) ?_
    refine upd_step fill4_step ?_
    refine arr (P' := iprop(Fill c E 0 0 0 ∗ Tabs c E ∗ Fill c E 1 1 0 ∗ Fill c E 2 2 0 ∗ Fill c E 3 3 0 ∗ Free c E 4 ∗ BfAny c ∗ WIdle c E ∗ Owes c ∗ (∃ d, owns (c : Thread nD τ) om fullShare d) ∗ Z)) (by iintro ⟨H1, H2, H3, H4, H5, H6, H7⟩; iframe) ?_
    iterate 8
      refine bind_rule ?_
      iterate 4
        refine src_rule rfl ?_
        refine assume_rule (chk_of (ok.src _) _ _) ?_
        refine start_rule (by decide) (by decide) rfl rfl rfl ?_
      refine pure_rule ?_
    refine arr (P' := iprop(Fill c E 1 1 0 ∗ Tabs c E ∗ Fill c E 0 0 32 ∗ Fill c E 2 2 0 ∗ Fill c E 3 3 0 ∗ Free c E 4 ∗ BfAny c ∗ WIdle c E ∗ Owes c ∗ (∃ d, owns (c : Thread nD τ) om fullShare d) ∗ Z)) (by iintro ⟨H1, H2, H3, H4⟩; iframe) ?_
    iterate 8
      refine bind_rule ?_
      iterate 4
        refine src_rule rfl ?_
        refine assume_rule (chk_of (ok.src _) _ _) ?_
        refine start_rule (by decide) (by decide) rfl rfl rfl ?_
      refine pure_rule ?_
    refine arr (P' := iprop(Fill c E 2 2 0 ∗ Tabs c E ∗ Fill c E 0 0 32 ∗ Fill c E 1 1 32 ∗ Fill c E 3 3 0 ∗ Free c E 4 ∗ BfAny c ∗ WIdle c E ∗ Owes c ∗ (∃ d, owns (c : Thread nD τ) om fullShare d) ∗ Z)) (by iintro ⟨H1, H2, H3, H4, H5⟩; iframe) ?_
    iterate 8
      refine bind_rule ?_
      iterate 4
        refine src_rule rfl ?_
        refine assume_rule (chk_of (ok.src _) _ _) ?_
        refine start_rule (by decide) (by decide) rfl rfl rfl ?_
      refine pure_rule ?_
    refine arr (P' := iprop(Fill c E 3 3 0 ∗ Tabs c E ∗ Fill c E 0 0 32 ∗ Fill c E 1 1 32 ∗ Fill c E 2 2 32 ∗ Free c E 4 ∗ BfAny c ∗ WIdle c E ∗ Owes c ∗ (∃ d, owns (c : Thread nD τ) om fullShare d) ∗ Z)) (by iintro ⟨H1, H2, H3, H4, H5, H6⟩; iframe) ?_
    iterate 8
      refine bind_rule ?_
      iterate 4
        refine src_rule rfl ?_
        refine assume_rule (chk_of (ok.src _) _ _) ?_
        refine start_rule (by decide) (by decide) rfl rfl rfl ?_
      refine pure_rule ?_
    refine arr (P' := iprop(WIdle c E ∗ Tabs c E ∗ Fill c E 0 0 32 ∗ Fill c E 1 1 32 ∗ Fill c E 2 2 32 ∗ Fill c E 3 3 32 ∗ Free c E 4 ∗ BfAny c ∗ Owes c ∗ (∃ d, owns (c : Thread nD τ) om fullShare d) ∗ Z)) (by iintro ⟨H1, H2, H3, H4, H5, H6, H7, H8, H9⟩; iframe) ?_
    refine start3 (e := ex E (i 0).val) rfl rfl ?_
    refine arr ?_ hb
    have hl : lo E (ex E (i 0).val) = (i 0).val := by rw [h0]; exact ok.first
    unfold Mid WPre
    rw [if_pos (by rw [h0]; exact ok.n_pos), if_pos hl, h0]
    iintro ⟨H1, H2, H3, H4, H5, H6, H7, H8, H9⟩
    isplitl [H3 H4 H5 H6 H7]
    · isplitl [H3]; · iexact H3
      isplitl [H4]; · iexact H4
      isplitl [H5]; · iexact H5
      isplitl [H6]; · iexact H6
      iexact H7
    · iframe
  refine upd_step open_step ?_
  have hn : (at1 E.tend 31).toNat ≤ 192 := ok.n_le
  refine dite_tail (P' := iprop(Half c E om (i 0).val ∗ Tabs c E ∗ Owes c ∗ Z)) (fun h => ?_) (fun hb h => ?_) ?_
  · have ht : ¬ (i 0).val < nT E := fun h' => h ((cond2_iff i hn).2 h')
    unfold Half Open
    rw [if_neg ht]
    iintro ⟨H1, H2, H3, H4, H5, H6⟩; iframe
  · have ht : (i 0).val < nT E := (cond2_iff i hn).1 h
    refine arr (P' := iprop(Fill c E ((i 0).val % 5) (i 0).val 32 ∗ Owes c ∗ Tabs c E ∗ WPre c E (i 0).val ∗ Fill c E (((i 0).val + 4) % 5) ((i 0).val + 4) 0 ∗
      Fill c E (((i 0).val + 1) % 5) ((i 0).val + 1) 32 ∗ Fill c E (((i 0).val + 2) % 5) ((i 0).val + 2) 32 ∗ Fill c E (((i 0).val + 3) % 5) ((i 0).val + 3) 32 ∗ (∃ d, owns (c : Thread nD τ) om fullShare d) ∗ Z))
      (by iintro ⟨⟨H1, H2, H3, H4, H5⟩, H6, H7, H8, H9, H10⟩; iframe) ?_
    refine part34 i om hom _ ok ht _ _ _ _ _ (fun x => ?_)
    refine bind_rule ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine src_end (word_ahead i (by decide)) ?_
    refine bind_rule ?_
    refine assume_rule (chk_of (ok.src _) _ _) ?_
    refine start_rule (Nat.mod_lt _ (by decide)) (by decide) (slot_sem i) (slot_grp i _) rfl ?_
    iterate 2
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 2
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine pure_rule ?_
    refine bind_rule ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 2
      refine src_rule (word_ahead i (by decide)) ?_
      refine assume_rule (chk_of (ok.src _) _ _) ?_
      refine start_rule (Nat.mod_lt _ (by decide)) (by decide) (slot_sem i) (slot_grp i _) rfl ?_
    refine arr (P' := iprop(Full c E ((i 0).val % 5) (i 0).val ∗ Tabs c E ∗ Fill c E (((i 0).val + 4) % 5) ((i 0).val + 4) 32 ∗ Owes c ∗ WPost c E (i 0).val ∗
      Fill c E (((i 0).val + 1) % 5) ((i 0).val + 1) 32 ∗ Fill c E (((i 0).val + 2) % 5) ((i 0).val + 2) 32 ∗ Fill c E (((i 0).val + 3) % 5) ((i 0).val + 3) 32 ∗ (∃ d, owns (c : Thread nD τ) om fullShare d) ∗ Z))
      (by iintro ⟨H1, H2, H3, H4, H5, H6, H7, H8, H9, H10⟩; iframe) ?_
    refine load_full (slot_load i) ?_
    refine pure_rule ?_
    unfold WPost
    refine arr (P' := iprop((∃ d, owns (c : Thread nD τ) om fullShare d) ∗ Bf c E (ex E (i 0).val) ∗ WNext c E (ex E (i 0).val) ∗ Late c E (i 0).val ∗ Tabs c E ∗ Owes c ∗ Z))
      (by
        unfold Late
        iintro ⟨H1, H2, H3, H4, ⟨H5, H6⟩, H9, H10, H11, H12, H13⟩
        ihave H1 := (Full_free ((i 0).val % 5) (i 0).val) $$ H1
        iframe) ?_
    refine work_end hom (g := fun x y z => k0_pay1 (at1 E.exp (i 0).val) (k0_pay7 (tileVec E (i 0).val)) (k0_pay8 (tileVec E (i 0).val)) (k0_pay9 (tileVec E (i 0).val)) x y z) ?_
    refine arr ?_ hb
    unfold Half outVal WPost
    rw [if_pos ht, if_pos ht]
    iintro ⟨H1, H2, H3, H4, H5, H6, H7⟩
    iframe
  refine dite_tail (P' := iprop(Late c E (i 0).val ∗ WSt c E ((i 0).val + 1) ∗ owns (c : Thread nD τ) om fullShare (outVal E (i 0).val) ∗ Tabs c E ∗ Owes c ∗ Z)) (fun h => ?_) (fun hb h => ?_) ?_
  · have ht : (i 0).val < nT E := by
      by_contra h'
      exact h ((cond5_iff i hn).2 (Nat.le_of_not_lt h'))
    unfold Half WSt
    rw [if_pos ht, if_neg (Nat.succ_ne_zero _)]
    iintro ⟨⟨H1, H2, H3⟩, H4, H5, H6⟩
    ihave H2 := (WPost_pre ok ht) $$ H2
    iframe
  · have ht : nT E ≤ (i 0).val := (cond5_iff i hn).1 h
    unfold Half
    rw [if_neg (Nat.not_lt.2 ht)]
    unfold Open
    refine arr (P' := iprop(Fill c E (((i 0).val + 4) % 5) ((i 0).val + 4) 0 ∗ Tabs c E ∗ Fill c E ((i 0).val % 5) (i 0).val 32 ∗ Owes c ∗ WPre c E (i 0).val ∗
      Fill c E (((i 0).val + 1) % 5) ((i 0).val + 1) 32 ∗ Fill c E (((i 0).val + 2) % 5) ((i 0).val + 2) 32 ∗ Fill c E (((i 0).val + 3) % 5) ((i 0).val + 3) 32 ∗ (∃ d, owns (c : Thread nD τ) om fullShare d) ∗ Z))
      (by iintro ⟨⟨⟨H1, H2, H3, H4, H5⟩, H6, H7⟩, H8, H9, H10⟩; iframe) ?_
    refine bind_rule ?_
    iterate 2
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine pure_rule ?_
    refine bind_rule ?_
    refine assume_rule (chk_of (ok.src _) _ _) ?_
    refine start_rule (Nat.mod_lt _ (by decide)) (by decide) (slot_sem i) (slot_grp i _) rfl ?_
    iterate 2
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 2
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine pure_rule ?_
    refine bind_rule ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine bind_rule ?_
    refine start_rule (Nat.mod_lt _ (by decide)) (by decide) (slot_sem i) (slot_grp i _) rfl ?_
    iterate 3
      refine src_rule (word_ahead i (by decide)) ?_
      refine assume_rule (chk_of (ok.src _) _ _) ?_
      refine start_rule (Nat.mod_lt _ (by decide)) (by decide) (slot_sem i) (slot_grp i _) rfl ?_
    refine pure_rule ?_
    refine bind_rule ?_
    iterate 3
      refine src_rule (word_ahead i (by decide)) ?_
      refine assume_rule (chk_of (ok.src _) _ _) ?_
      refine start_rule (Nat.mod_lt _ (by decide)) (by decide) (slot_sem i) (slot_grp i _) rfl ?_
    refine src_rule (word_ahead i (by decide)) ?_
    refine assume_rule (chk_of (ok.src _) _ _) ?_
    refine pure_rule ?_
    refine start_rule (Nat.mod_lt _ (by decide)) (by decide) (slot_sem i) (slot_grp i _) rfl ?_
    refine src_rule (word_ahead i (by decide)) ?_
    refine assume_rule (chk_of (ok.src _) _ _) ?_
    refine start_rule (Nat.mod_lt _ (by decide)) (by decide) (slot_sem i) (slot_grp i _) rfl ?_
    refine arr (P' := iprop(Fill c E ((i 0).val % 5) (i 0).val 32 ∗ Owes c ∗ Fill c E (((i 0).val + 4) % 5) ((i 0).val + 4) 32 ∗ Tabs c E ∗ WPre c E (i 0).val ∗
      Fill c E (((i 0).val + 1) % 5) ((i 0).val + 1) 32 ∗ Fill c E (((i 0).val + 2) % 5) ((i 0).val + 2) 32 ∗ Fill c E (((i 0).val + 3) % 5) ((i 0).val + 3) 32 ∗ (∃ d, owns (c : Thread nD τ) om fullShare d) ∗ Z))
      (by iintro ⟨H1, H2, H3, H4, H5, H6, H7, H8, H9, H10⟩; iframe) ?_
    refine wait_step (Nat.mod_lt _ (by decide)) (slot_here i) ?_
    refine arr (P' := iprop((∃ d, owns (c : Thread nD τ) om fullShare d) ∗ Late c E (i 0).val ∗ WSt c E ((i 0).val + 1) ∗ Tabs c E ∗ Owes c ∗ Z))
      (by
        unfold Late WSt
        rw [if_neg (Nat.succ_ne_zero _)]
        iintro ⟨H1, H2, H3, H4, H5, H6, H7, H8, H9, H10⟩
        ihave H1 := (Full_free ((i 0).val % 5) (i 0).val) $$ H1
        ihave H5 := (WPre_next (c := c) ht) $$ H5
        iframe) ?_
    refine out_store hom zero2 ?_
    refine arr ?_ hb
    unfold outVal
    rw [if_neg (Nat.not_lt.2 ht)]
    iintro ⟨H1, H2, H3, H4, H5, H6⟩
    iframe
  refine dite_rule (fun h => ?_) (fun h => ?_)
  · have hl : (i 0).val = 191 := (cond6_iff i).1 h
    unfold Late
    refine arr (P' := iprop(Fill c E (((i 0).val + 1) % 5) ((i 0).val + 1) 32 ∗ Owes c ∗ Free c E ((i 0).val % 5) ∗ Fill c E (((i 0).val + 2) % 5) ((i 0).val + 2) 32 ∗ Fill c E (((i 0).val + 3) % 5) ((i 0).val + 3) 32 ∗ Fill c E (((i 0).val + 4) % 5) ((i 0).val + 4) 32
      ∗ WSt c E ((i 0).val + 1) ∗ Tabs c E ∗ owns (c : Thread nD τ) om fullShare (outVal E (i 0).val) ∗ Z)) (by iintro ⟨⟨H1, H2, H3, H4, H5⟩, H6, H7, H8, H9, H10⟩; iframe) ?_
    refine bind_rule ?_
    refine wait_step (Nat.mod_lt _ (by decide)) (slot_last i 0) ?_
    refine arr (P' := iprop(Fill c E (((i 0).val + 2) % 5) ((i 0).val + 2) 32 ∗ Owes c ∗ Full c E (((i 0).val + 1) % 5) ((i 0).val + 1) ∗ Free c E ((i 0).val % 5) ∗ Fill c E (((i 0).val + 3) % 5) ((i 0).val + 3) 32 ∗ Fill c E (((i 0).val + 4) % 5) ((i 0).val + 4) 32
      ∗ WSt c E ((i 0).val + 1) ∗ Tabs c E ∗ owns (c : Thread nD τ) om fullShare (outVal E (i 0).val) ∗ Z)) (by iintro ⟨H1, H2, H3, H4, H5, H6, H7, H8, H9, H10⟩; iframe) ?_
    refine wait_step (Nat.mod_lt _ (by decide)) (slot_last i 1) ?_
    refine pure_rule ?_
    refine arr (P' := iprop(Fill c E (((i 0).val + 3) % 5) ((i 0).val + 3) 32 ∗ Owes c ∗ Full c E (((i 0).val + 2) % 5) ((i 0).val + 2) ∗ Full c E (((i 0).val + 1) % 5) ((i 0).val + 1) ∗ Free c E ((i 0).val % 5) ∗ Fill c E (((i 0).val + 4) % 5) ((i 0).val + 4) 32
      ∗ WSt c E ((i 0).val + 1) ∗ Tabs c E ∗ owns (c : Thread nD τ) om fullShare (outVal E (i 0).val) ∗ Z)) (by iintro ⟨H1, H2, H3, H4, H5, H6, H7, H8, H9, H10⟩; iframe) ?_
    refine wait_step (Nat.mod_lt _ (by decide)) (slot_last i 2) ?_
    refine arr (P' := iprop(Fill c E (((i 0).val + 4) % 5) ((i 0).val + 4) 32 ∗ Owes c ∗ Full c E (((i 0).val + 3) % 5) ((i 0).val + 3) ∗ Full c E (((i 0).val + 2) % 5) ((i 0).val + 2) ∗ Full c E (((i 0).val + 1) % 5) ((i 0).val + 1) ∗ Free c E ((i 0).val % 5)
      ∗ WSt c E ((i 0).val + 1) ∗ Tabs c E ∗ owns (c : Thread nD τ) om fullShare (outVal E (i 0).val) ∗ Z)) (by iintro ⟨H1, H2, H3, H4, H5, H6, H7, H8, H9, H10⟩; iframe) ?_
    refine wait_step (Nat.mod_lt _ (by decide)) (slot_last i 3) ?_
    refine pure_rule ?_
    unfold RingSt AllFree
    rw [if_pos (by omega), hl]
    iintro ⟨H4, HO, H3, H2, H1, H0, HW, HT, HR, HZ⟩
    ihave H1 := (Full_free 2 192) $$ H1
    ihave H2 := (Full_free 3 193) $$ H2
    ihave H3 := (Full_free 4 194) $$ H3
    ihave H4 := (Full_free 0 195) $$ H4
    isplitl [H0 H1 H2 H3 H4]
    · isplitl [H4]; · iexact H4
      isplitl [H0]; · iexact H0
      isplitl [H1]; · iexact H1
      isplitl [H2]; · iexact H2
      iexact H3
    · iframe
  · have hl : (i 0).val ≠ 191 := fun e => h ((cond6_iff i).2 e)
    refine pure_rule ?_
    unfold RingSt
    rw [if_neg (by omega)]
    iintro ⟨H1, H2, H3, H4, H5, H6⟩
    ihave H1 := (Late_mid (i 0).val) $$ H1
    iframe

end Cert.KernelIdeal.Hand
-- ==== Proof.Deal.lean ====
/-
  Dealing the ring out at the start of the run, and gathering it in at the end: the ring buffer as its 160 groups of
  eight rows, the packed array's permission as 160 shares and a remainder.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

abbrev G := Fin 5 × Fin 32

theorem g_disj (g g' : G) (h : g ≠ g') : Disjoint (grp g.1.val g.2.val) (grp g'.1.val g'.2.val) := by
  rw [Finset.disjoint_left]
  intro x hx hx'
  rw [mem_grp] at hx hx'
  exact h (Prod.ext (Fin.ext (hx.1.symm.trans hx'.1)) (Fin.ext (hx.2.symm.trans hx'.2)))

theorem g_union : (Finset.univ : Finset G).biUnion (fun g => grp g.1.val g.2.val) = Finset.univ := by
  ext x
  have h0 : (x 0).val < 5 := (x 0).isLt
  have h1 : (x 1).val < 256 := (x 1).isLt
  simp only [Finset.mem_biUnion, Finset.mem_univ, true_and, mem_grp, iff_true]
  exact ⟨(⟨(x 0).val, h0⟩, ⟨(x 1).val / 8, by omega⟩), rfl, rfl⟩

theorem ring_split (f : S5x256x640.Idx → BitVec 32) :
    (ringPt c Finset.univ f : sProp 𝕄) = bigSep (Finset.univ : Finset G) fun g => ringPt c (grp g.1.val g.2.val) f := by
  have h := pointsTo_biUnion (Ix := Unit) (Val := Elt F) (Name := ℕ) (U := Pipeline.UD sig nD τ) (Lvl := ℕ) (ℓ := (c : Thread nD τ).loc cc0_scratch0) (q := fullShare) (f := f) (Finset.univ : Finset G) (fun g => grp g.1.val g.2.val)
    (fun g _ g' _ hg => g_disj g g' hg)
  rw [g_union] at h
  exact h

theorem ring_join : bigSep (Finset.univ : Finset G) (fun g => iprop(∃ f, ringPt c (grp g.1.val g.2.val) f)) ⊢ (iprop(∃ f, ringPt c Finset.univ f) : sProp 𝕄) :=
  Ring.pointsTo_blocks_join_exists (Ix := Unit) (Val := Elt F) (Name := ℕ) (U := Pipeline.UD sig nD τ) (Lvl := ℕ) (ℓ := (c : Thread nD τ).loc cc0_scratch0) (q := fullShare) (fun g : G => grp g.1.val g.2.val)
    g_disj g_union (fun _ => (0#32 : BitVec 32))

theorem toks_eq : (bigSep (Finset.univ : Finset (Fin (5 * 32))) (fun i => xPt c E Finset.univ (shareTok fullShare (5 * 32) i)) : sProp 𝕄)
    = bigSep (Finset.univ : Finset G) fun g => xPt c E Finset.univ (tok g.1.val g.2.val) := by
  rw [bigSep_univ_equiv (finProdFinEquiv (m := 5) (n := 32))]
  refine congrArg (bigSep Finset.univ) (funext fun g => ?_)
  show xPt c E Finset.univ (shareTokN fullShare (g.2.val + 32 * g.1.val)) = xPt c E Finset.univ (shareTokN fullShare (32 * g.1.val + g.2.val))
  rw [Nat.add_comm]

variable (c E) in
/-- The groups of all five slots, in hand. -/
def Groups : sProp 𝕄 := bigSep (Finset.univ : Finset G) fun g => gFree c E g.1.val g.2.val

theorem groups_eq : (Groups c E : sProp 𝕄) = iprop(bigSep (Finset.univ : Finset G) (fun g => iprop(∃ f, ringPt c (grp g.1.val g.2.val) f)) ∗ bigSep (Finset.univ : Finset G) fun g => xPt c E Finset.univ (tok g.1.val g.2.val)) := by
  unfold Groups gFree
  rw [bigSep_sep']

theorem groups_five : (Groups c E : sProp 𝕄) = iprop(bigSep (Finset.univ : Finset (Fin 32)) (fun j => gFree c E 0 j.val) ∗ bigSep (Finset.univ : Finset (Fin 32)) (fun j => gFree c E 1 j.val)
    ∗ bigSep (Finset.univ : Finset (Fin 32)) (fun j => gFree c E 2 j.val) ∗ bigSep (Finset.univ : Finset (Fin 32)) (fun j => gFree c E 3 j.val) ∗ bigSep (Finset.univ : Finset (Fin 32)) (fun j => gFree c E 4 j.val)) := by
  unfold Groups
  rw [bigSep_univ_prod, bigSep_univ_eq_bigSepL [(0 : Fin 5), 1, 2, 3, 4] (by decide) (by decide)]
  rfl

variable (c) in
/-- The ring's five semaphores, at rest. -/
def RingSems : sProp 𝕄 := iprop(semVal ((c : Thread nD τ), SemLoc.dma (cell 0)) 0 ∗ semVal ((c : Thread nD τ), SemLoc.dma (cell 1)) 0 ∗ semVal ((c : Thread nD τ), SemLoc.dma (cell 2)) 0
  ∗ semVal ((c : Thread nD τ), SemLoc.dma (cell 3)) 0 ∗ semVal ((c : Thread nD τ), SemLoc.dma (cell 4)) 0)

theorem free_eq : (AllFree c E : sProp 𝕄) ⊣⊢ iprop(RingSems c ∗ Groups c E) := by
  rw [groups_five]
  unfold AllFree Free RingSems
  constructor
  · iintro ⟨⟨A0, B0⟩, ⟨A1, B1⟩, ⟨A2, B2⟩, ⟨A3, B3⟩, ⟨A4, B4⟩⟩; iframe
  · iintro ⟨⟨A0, A1, A2, A3, A4⟩, ⟨B0, B1, B2, B3, B4⟩⟩; iframe

theorem x_split : (xPt c E Finset.univ fullShare : sProp 𝕄) ⊢ iprop(xPt c E Finset.univ (shareDrop fullShare (5 * 32)) ∗ bigSep (Finset.univ : Finset G) fun g => xPt c E Finset.univ (tok g.1.val g.2.val)) := by
  rw [← toks_eq]
  exact pointsTo_toks_split (Ix := Unit) (Val := Elt F) (Name := ℕ) (U := Pipeline.UD sig nD τ) (Lvl := ℕ) (ℓ := (c : Thread nD τ).loc main_arg4) (S := Finset.univ) (f := E.X) fullShare (5 * 32)

theorem x_join : iprop(xPt c E Finset.univ (shareDrop fullShare (5 * 32)) ∗ bigSep (Finset.univ : Finset G) fun g => xPt c E Finset.univ (tok g.1.val g.2.val)) ⊢ (xPt c E Finset.univ fullShare : sProp 𝕄) := by
  rw [← toks_eq]
  exact pointsTo_toks_join (Ix := Unit) (Val := Elt F) (Name := ℕ) (U := Pipeline.UD sig nD τ) (Lvl := ℕ) (ℓ := (c : Thread nD τ).loc main_arg4) (S := Finset.univ) (f := E.X) fullShare (5 * 32)

theorem ring_piece (f : S5x256x640.Idx → BitVec 32) (g : G) : (ringPt c (grp g.1.val g.2.val) f : sProp 𝕄) ⊢ iprop(∃ f, ringPt c (grp g.1.val g.2.val) f) := by
  iintro H; iexists f; iexact H

theorem free_in : (iprop(RingSems c ∗ bigSep (Finset.univ : Finset G) (fun g => iprop(∃ f, ringPt c (grp g.1.val g.2.val) f)) ∗ bigSep (Finset.univ : Finset G) fun g => xPt c E Finset.univ (tok g.1.val g.2.val)) : sProp 𝕄) ⊢ AllFree c E := by
  rw [← groups_eq]; exact free_eq.2
theorem free_out : (AllFree c E : sProp 𝕄) ⊢ iprop(RingSems c ∗ bigSep (Finset.univ : Finset G) (fun g => iprop(∃ f, ringPt c (grp g.1.val g.2.val) f)) ∗ bigSep (Finset.univ : Finset G) fun g => xPt c E Finset.univ (tok g.1.val g.2.val)) := by
  rw [← groups_eq]; exact free_eq.1

theorem ring_open (f : S5x256x640.Idx → BitVec 32) : (ringPt c Finset.univ f : sProp 𝕄) ⊢ bigSep (Finset.univ : Finset G) (fun g => iprop(∃ f, ringPt c (grp g.1.val g.2.val) f)) := by
  rw [ring_split]
  exact bigSep_mono fun g _ => ring_piece f g

theorem deal : iprop(RingSems c ∗ (∃ f, ringPt c Finset.univ f) ∗ xPt c E Finset.univ fullShare) ⊢ (iprop(AllFree c E ∗ xPt c E Finset.univ (shareDrop fullShare (5 * 32))) : sProp 𝕄) := by
  iintro ⟨HS, ⟨%f, HR⟩, HX⟩
  ihave HX := x_split $$ HX
  icases HX with ⟨HX, HT⟩
  ihave HR := (ring_open f) $$ HR
  isplitr [HX]; swap; · iexact HX
  iapply free_in
  iframe

theorem gather_in : (iprop(AllFree c E ∗ xPt c E Finset.univ (shareDrop fullShare (5 * 32))) : sProp 𝕄) ⊢ iprop(RingSems c ∗ (∃ f, ringPt c Finset.univ f) ∗ xPt c E Finset.univ fullShare) := by
  iintro ⟨HF, HX⟩
  ihave HF := free_out $$ HF
  icases HF with ⟨HS, HR, HT⟩
  ihave HR := ring_join $$ HR
  isplitl [HS]; · iexact HS
  isplitl [HR]; · iexact HR
  iapply x_join
  iframe

end Cert.KernelIdeal.Hand
-- ==== Proof.Run.lean ====
/-
  The launch: what every grid step finds and leaves, the pipeline's proof data, and the run of the whole program.
-/
module

public import proofs.«01_k».proof.Proof.Deal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers
open Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The kernel's arguments on a device. -/
def envOf (c : Dev nD) : Env F :=
  ⟨V m c main_arg0, V m c main_arg1, V m c main_arg2, V m c main_arg3, V m c main_arg4, V m c main_arg5, V m c main_arg6, V m c main_arg7⟩

/-- The prefetched tables' contents. -/
def tbl : (pre0.Contents (Elt F)) := fun k => V m 0 (pre0.ref k)
/-- They are admissible: the region checks nothing of them. -/
def adm (p : Fin 1) : (pcfgs (F := F) p).Adm := ⟨tbl m, trivial⟩

/-! ## The kernel's own cells and buffers -/

/-- The ring's five semaphores and the weights' three. -/
abbrev osem0 : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0 ∗ semVal ((c : Thread nD τ), SemLoc.dma (cell 2)) 0
          ∗ semVal ((c : Thread nD τ), SemLoc.dma (cell 3)) 0 ∗ semVal ((c : Thread nD τ), SemLoc.dma (cell 4)) 0
          ∗ semVal ((c : Thread nD τ), SemLoc.dma (wcell 0)) 0 ∗ semVal ((c : Thread nD τ), SemLoc.dma (wcell 1)) 0 ∗ semVal ((c : Thread nD τ), SemLoc.dma (wcell 2)) 0) := by
  rw [Pipeline.ownSems0_eq_of_list c osem0 [0, 1, 2, 3, 4, 5, 6, 7] (by decide) (by decide)]; rfl

/-- The arrays the body's copies read. -/
def H0 : Finset (Ref sig .tc) := {main_arg4, main_arg5, main_arg6, main_arg7}
theorem H0_sub : H0 ⊆ Pipeline.restRefsP sig pre0 spec0 := by decide
theorem hbm_eq (c : Dev nD) :
    (bigSep H0 (fun b => ((c : Thread nD τ).loc b) ↦{fullShare} V m c b) : sProp 𝕄)
      = iprop((((c : Thread nD τ).loc main_arg4) ↦{fullShare} V m c main_arg4) ∗ (((c : Thread nD τ).loc main_arg5) ↦{fullShare} V m c main_arg5)
        ∗ (((c : Thread nD τ).loc main_arg6) ↦{fullShare} V m c main_arg6) ∗ (((c : Thread nD τ).loc main_arg7) ↦{fullShare} V m c main_arg7)) := by
  rw [BI.bigSep_eq_bigSepL_of_eq [main_arg4, main_arg5, main_arg6, main_arg7] (by decide) (by decide)]; rfl

theorem tabs_eq (c : Dev nD) : (Pipeline.prefHeld (Ix := Unit) (Name := ℕ) (U := Pipeline.UD sig nD τ) (Lvl := ℕ) (Val := Elt F) pre0 c (fun _ => fullShare.right) (tbl m) : sProp 𝕄) = Tabs c (envOf m c) := by
  unfold Pipeline.prefHeld
  rw [bigSep_univ_eq_bigSepL [(0 : Fin 4), 1, 2, 3] (by decide) (by decide)]
  obtain rfl : c = 0 := Subsingleton.elim _ _
  rfl

/-! ## The invariant between steps -/

variable (c : Dev nD) (E : Env F)

/-- What the steps hand on: the ring, the weights, the tables, the rest of the packed array, the random registers. -/
def Inv (t : ℕ) : sProp 𝕄 :=
  iprop(RingSt c E t ∗ WSt c E t ∗ Tabs c E ∗ xPt c E Finset.univ (shareDrop fullShare (5 * 32)) ∗ (∃ r, prngReg c r))

theorem WPre_last {E : Env F} (ok : Ok E) : (WPre c E 192 : sProp 𝕄) = iprop(BfAny c ∗ WIdle c E) := by
  unfold WPre
  rw [if_neg (Nat.not_lt.2 ok.n_le)]

theorem inv_first {E : Env F} : iprop(AllFree c E ∗ BfAny c ∗ WIdle c E ∗ Tabs c E ∗ xPt c E Finset.univ (shareDrop fullShare (5 * 32)) ∗ (∃ r, prngReg c r)) ⊢ (Inv c E 0 : sProp 𝕄) := by
  unfold Inv RingSt WSt
  rw [if_pos (Or.inl rfl), if_pos rfl]
  iintro ⟨H1, H2, H3, H4, H5, H6⟩
  iframe

theorem inv_last {E : Env F} (ok : Ok E) : (Inv c E 192 : sProp 𝕄) ⊢ iprop(AllFree c E ∗ BfAny c ∗ WIdle c E ∗ Tabs c E ∗ xPt c E Finset.univ (shareDrop fullShare (5 * 32)) ∗ (∃ r, prngReg c r)) := by
  unfold Inv RingSt WSt
  rw [if_pos (Or.inr rfl), if_neg (by decide), WPre_last c ok]
  iintro ⟨H1, ⟨H2, H3⟩, H4, H5, H6⟩
  iframe

theorem hin0 : iprop(Pipeline.ΦD osem0 spec0 H0 (V m) c ∗ Pipeline.ΦT pre0 (tbl m) c) ⊢ (Inv c (envOf m c) 0 : sProp 𝕄) := by
  refine arr ?_ (inv_first c)
  rw [Pipeline.ΦD_eq, scopedRest0_eq, ownSems00_eq, hbm_eq]
  unfold Pipeline.ΦT
  rw [tabs_eq]
  iintro ⟨⟨⟨HR, HS1, HS2, HS3, HB1, HB2, HB3⟩, HG, ⟨C0, C1, C2, C3, C4, D0, D1, D2⟩, ⟨HX, HW1, HW3, HW2⟩⟩, HT⟩
  ihave HF := (deal (c := c) (E := envOf m c)) $$ [C0 C1 C2 C3 C4 HR HX]
  · isplitl [C0 C1 C2 C3 C4]
    · unfold RingSems; iframe
    isplitl [HR]
    · iexact HR
    iexact HX
  icases HF with ⟨HF, HX⟩
  isplitl [HF]; · iexact HF
  isplitl [HB1 HB2 HB3]
  · unfold BfAny
    isplitl [HB1]; · iexact HB1
    isplitl [HB2]; · iexact HB2
    iexact HB3
  isplitl [D0 D1 D2 HS1 HS2 HS3 HW1 HW3 HW2]
  · unfold WIdle Idle1 Idle3 Idle2
    isplitl [D0 HS1 HW1]
    · isplitl [D0]; · iexact D0
      isplitl [HS1]; · iexact HS1
      iexact HW1
    isplitl [D1 HS2 HW3]
    · isplitl [D1]; · iexact D1
      isplitl [HS2]; · iexact HS2
      iexact HW3
    isplitl [D2]; · iexact D2
    isplitl [HS3]; · iexact HS3
    iexact HW2
  isplitl [HT]; · iexact HT
  isplitl [HX]; · iexact HX
  iexact HG

theorem hout0 (ok : Ok (envOf m c)) : (Inv c (envOf m c) 192 : sProp 𝕄) ⊢ Pipeline.ΦD osem0 spec0 H0 (V m) c := by
  refine arr (inv_last c ok) ?_
  rw [Pipeline.ΦD_eq, scopedRest0_eq, ownSems00_eq, hbm_eq]
  iintro ⟨HF, HB, HI, HT, HX, HG⟩
  ihave HF := (gather_in (c := c) (E := envOf m c)) $$ [HF HX]
  · isplitl [HF]; · iexact HF
    iexact HX
  unfold RingSems BfAny WIdle Idle1 Idle3 Idle2
  icases HF with ⟨⟨C0, C1, C2, C3, C4⟩, HR, HX⟩
  icases HB with ⟨HB1, HB2, HB3⟩
  icases HI with ⟨⟨D0, HS1, HW1⟩, ⟨D1, HS2, HW3⟩, ⟨D2, HS3, HW2⟩⟩
  isplitl [HR HS1 HS2 HS3 HB1 HB2 HB3]
  · isplitl [HR]; · iexact HR
    isplitl [HS1]; · iexact HS1
    isplitl [HS2]; · iexact HS2
    isplitl [HS3]; · iexact HS3
    isplitl [HB1]; · iexact HB1
    isplitl [HB2]; · iexact HB2
    iexact HB3
  isplitl [HG]; · iexact HG
  isplitl [C0 C1 C2 C3 C4 D0 D1 D2]
  · iframe
  isplitl [HX]; · iexact HX
  isplitl [HW1]; · iexact HW1
  isplitl [HW3]; · iexact HW3
  iexact HW2

/-! ## The proof data and the body obligation -/

/-- The pipeline at the tables' contents. -/
abbrev pcf : Pipeline.Cfg sig Λ₀ := Pipeline.pin (pcfgs (F := F)) (adm m) 0

/-- The point's one coordinate is its number. -/
theorem coord_val (t : Fin (pcf m).N) : (grid0.coords t 0).val = t.val := by
  have h : ∀ t : Fin grid0.N, (grid0.coords t 0).val = t.val := by decide +kernel
  exact h t

/-- The proof data of the one pipeline: the result's block after step `t` is `outVal t`; the invariant is `Inv`. -/
def dats (_ : Fin 1) (c : Dev nD) : Dat τ (Elt F) Unit ℕ (Pipeline.UD sig nD τ) ℕ (pcf m) c where
  A w := V m c (Pipeline.arrRef spec0 w)
  after w t := match w with
    | ⟨0, _⟩ => outVal (envOf m c) t.val
  Φ t := Inv c (envOf m c) t.val
  q _ := fullShare
  owed _ := 0

theorem A_eq (w : Fin (pcf m).W) : (dats m 0 c).A w = V m c (Pipeline.arrRef spec0 w) := by
  dsimp only [dats]
theorem after0_0 (t : Fin (pcf m).N) : (dats m 0 c).after 0 t = outVal (envOf m c) t.val := rfl

/-- The result's staging buffer at point `t`. -/
abbrev ms0_0 (t : Fin (pcf m).N) : Memref sig .tc .vmem S256x1024 .f32 := (pcf m).win 0 |>.stage ((pcf m).slots t 0)

def bodyPre (t : Fin (pcf m).N) : sProp 𝕄 :=
  iprop((dats m 0 c).Φ t.castSucc ∗ (dats m 0 c).owesAt () t.castSucc
    ∗ (∃ d, owns (c : Thread nD τ) (ms0_0 m t) fullShare ((dats m 0 c).before 0 t d)))
def bodyPost (t : Fin (pcf m).N) : sProp 𝕄 :=
  iprop((dats m 0 c).Φ t.succ ∗ (dats m 0 c).owesAt () t.succ
    ∗ owns (c : Thread nD τ) (ms0_0 m t) fullShare ((dats m 0 c).after 0 t))

theorem step_body (ok : Ok (envOf m c)) (t : Fin (pcf m).N) :
    bodyPre m c t ⊢ W c (defs₀ (F := F) .tc (pcf m).body ((pcf m).bodyArgs t ((pcf m).slots t))) (fun _ => bodyPost m c t) := by
  have key := sound_body (c := c) (E := envOf m c) ok (grid0.coords t) (ms0_0 m t) (hstage0_0 _) iprop(xPt c (envOf m c) Finset.univ (shareDrop fullShare (5 * 32)) ∗ (∃ r, prngReg c r))
  rw [coord_val m t] at key
  unfold defs₀; rw [Defs.onTc_tc]
  refine triple_restated key rfl ?_ fun _ => ?_
  · unfold bodyPre Dat.owesAt Pipeline.owesWithin
    rw [show (dats m 0 c).owed t.castSucc = 0 from rfl, show (dats m 0 c).Φ t.castSucc = Inv c (envOf m c) t.val from rfl]
    unfold Inv Owes
    iintro ⟨⟨H1, H2, H3, H4, H5⟩, ⟨%Ws, -, HW⟩, ⟨%d, Ho⟩⟩
    isplitl [H1]; · iexact H1
    isplitl [H2]; · iexact H2
    isplitl [H3]; · iexact H3
    isplitl [HW]; · iexists Ws; iexact HW
    isplitl [Ho]; · iexists _; iexact Ho
    isplitl [H4]; · iexact H4
    iexact H5
  · unfold bodyPost Dat.owesAt Pipeline.owesWithin
    rw [show (dats m 0 c).owed t.succ = 0 from rfl, show (dats m 0 c).Φ t.succ = Inv c (envOf m c) (t.val + 1) from rfl, after0_0]
    unfold Inv Owes
    iintro ⟨H1, H2, H3, ⟨%Ws, HW⟩, Ho, H4, H5⟩
    isplitl [H1 H2 H3 H4 H5]
    · isplitl [H1]; · iexact H1
      isplitl [H2]; · iexact H2
      isplitl [H3]; · iexact H3
      isplitl [H4]; · iexact H4
      iexact H5
    isplitl [HW]
    · iexists Ws; isplitr; · ipureintro; exact fun _ _ => Or.inl trivial
      iexact HW
    iexact Ho

/-- No step leaves the result's block alone. -/
theorem never_idle (ok : ∀ c, Ok (envOf m c)) (t : Fin (pcf m).N) : (pcf m).idle 0 ((pcf m).grid.coords t) = false := by
  have hn : (at1 (envOf m 0).tend 31).toNat ≤ 192 := (ok 0).n_le
  have e : (tbl m).atD 2 ![31] = at1 (envOf m 0).tend 31 := by
    refine (dif_pos (fun a => ?_)).trans ?_
    · match a with
      | ⟨0, _⟩ => show 31 + 1 ≤ 32; decide
    · refine Eq.trans ?_ (at1_of_lt (envOf m 0).tend (by decide)).symm
      refine congrArg (V m 0 main_arg2) (funext fun a => ?_)
      match a with
      | ⟨0, _⟩ => rfl
  show (!(k0_cond2 (grid0.coords t) ((tbl m).atD 2 ![31]) == 1#1) && !(k0_cond5 (grid0.coords t) ((tbl m).atD 2 ![31]) == 1#1)) = false
  rw [e]
  by_cases h : (grid0.coords t 0).val < (at1 (envOf m 0).tend 31).toNat
  · rw [(cond2_iff _ hn).2 h]; rfl
  · rw [(cond5_iff _ hn).2 (Nat.le_of_not_lt h)]; simp

theorem body_obligation (ok : ∀ c, Ok (envOf m c)) : BodyObligation (dats (F := F) m 0 c) (defs₀ (F := F)) Variants.none () Set.univ := fun t => by
  rw [bigSep_W0, bigSep_W0]
  refine triple_restated (step_body m c (ok c) t) rfl .rfl fun _ => ?_
  dsimp only
  split
  · rename_i h
    exact absurd (h.symm.trans (never_idle m ok t)) (by decide)
  · exact .rfl

/-! ## The run -/

set_option backward.isDefEq.respectTransparency.types false in
theorem run_main (ok : ∀ c, Ok (envOf m c)) : θ_run defs (onTc (τ := τ) (main (F := F))) (s₀ m ρ) (fun r => Pipeline.FramePost (Pipeline.pin (pcfgs (F := F)) (adm m)) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m c ok).loose) (hshare := fun c => (dats m 0 c).share_full fun _ => rfl)
    (howed := fun _ _ => rfl) (V := V m) (hmain := Pipeline.hmainP_region pcfgs 0 defs₀ Variants.none m main fun c => (main_chain c).trans rfl)
    (hA := A_eq m) (hpf := fun c k => by obtain rfl : c = 0 := Subsingleton.elim _ _; rfl)
    (hin := fun c => hin0 m c) (hout := fun c => hout0 m c (ok c))

/-- What the run leaves: the arguments as they were, the result what the steps wrote, every counter at zero. -/
theorem run_out (ok : ∀ c, Ok (envOf m c)) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v0) = (dats m 0 c).arrAt 0 (pcf m).N)
      ∧ r.2.sem = fun _ => 0) :=
  (θ_run defs _ _).mono (fun _ h => ⟨fun c => ⟨⟨(h.1 c).2 main_arg0 (Pipeline.mem_restRefs_of (win := spec0) main_arg0 (by decide) (by decide)),
      (h.1 c).2 main_arg1 (Pipeline.mem_restRefs_of (win := spec0) main_arg1 (by decide) (by decide)),
      (h.1 c).2 main_arg2 (Pipeline.mem_restRefs_of (win := spec0) main_arg2 (by decide) (by decide)),
      (h.1 c).2 main_arg3 (Pipeline.mem_restRefs_of (win := spec0) main_arg3 (by decide) (by decide)),
      (h.1 c).2 main_arg4 (Pipeline.mem_restRefs_of (win := spec0) main_arg4 (by decide) (by decide)),
      (h.1 c).2 main_arg5 (Pipeline.mem_restRefs_of (win := spec0) main_arg5 (by decide) (by decide)),
      (h.1 c).2 main_arg6 (Pipeline.mem_restRefs_of (win := spec0) main_arg6 (by decide) (by decide)),
      (h.1 c).2 main_arg7 (Pipeline.mem_restRefs_of (win := spec0) main_arg7 (by decide) (by decide))⟩, (h.1 c).1 0⟩, h.2⟩) (run_main m ρ ok)

end Cert.KernelIdeal.Hand
-- ==== Proof.PlanPre.lean ====
/-
  The precondition on the plan's tables, decoded: what it says of every word, and that it is what the body needs.
-/
module

public import proofs.«01_k».proof.Proof.Plan
public import proofs.«01_k».proof.Proof.Gen.Pre_plan_tables
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the precondition says at tile `i` and number `j`: the group's row, the tile's expert, the interval of expert
    `j`, the number of tiles, and the tile's place if its expert is `j`. -/
structure Said (E : Env F) (i j : ℕ) : Prop where
  src_le : (at1 E.src (i * 32 + j)).toNat ≤ 40952
  src_al : (at1 E.src (i * 32 + j)).toNat % 8 = 0
  ex_lt : (at1 E.exp i).toNat < 32
  lo_eq : at1 E.toff j = if j < 1 then 0#32 else at1 E.tend (j - 1)
  lo_hi : (at1 E.toff j).toInt ≤ (at1 E.tend j).toInt
  n_pos : 1 ≤ (at1 E.tend 31).toInt
  n_le : (at1 E.tend 31).toInt ≤ 192
  own : (at1 E.exp i).toNat = j → (i : ℤ) < (at1 E.tend 31).toInt → (at1 E.toff j).toInt ≤ i ∧ (i : ℤ) < (at1 E.tend j).toInt

theorem toInt_small {n : ℕ} (h : n < 200) : (BitVec.ofNat 32 n).toInt = n := by
  rw [BitVec.toInt_eq_toNat_cond, BitVec.toNat_ofNat]; split <;> omega

theorem low3 (v : BitVec 32) (h : v &&& 7#32 = 0#32) : v.toNat % 8 = 0 := by
  have := congrArg BitVec.toNat h
  rw [BitVec.toNat_and] at this
  have e : (7#32 : BitVec 32).toNat = 2 ^ 3 - 1 := rfl
  rw [e, Nat.and_two_pow_sub_one_eq_mod] at this
  exact this

theorem nat_of_toInt {v : BitVec 32} (h : 0 ≤ v.toInt) : (v.toNat : ℤ) = v.toInt := by
  rw [BitVec.toInt_eq_toNat_cond] at h ⊢; have := v.isLt; split at h <;> split <;> omega

theorem decoded (E : Env F) (h : Cert.Pre_plan_tables.fn (F := F) E.exp E.toff E.tend E.src E.X E.w1 E.w3 E.w2 = fun _ => 1#1) (i : Fin 196) (j : Fin 32) :
    Said E i.val j.val := by
  have andi_ofBool (p q : Bool) : IntOp.andi (BitVec.ofBool p) (BitVec.ofBool q) = BitVec.ofBool (p && q) := by
    cases p <;> cases q <;> decide
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  have e := congrFun h (ValueIdx.ix2 i j)
  unfold Cert.Pre_plan_tables.fn Cert.Pre_plan_tables.fn_part1 Cert.Pre_plan_tables.fn_part2 at e
  pointwise at e
  have s0 : at1 E.src (i.val * 32 + j.val) = E.src (ix1 ⟨i.val * 32 + j.val, by omega⟩) := at1_of_lt E.src (by omega)
  have s1 : at1 E.exp i.val = E.exp (ix1 i) := at1_of_lt E.exp i.isLt
  have s2 : at1 E.toff j.val = E.toff (ix1 j) := at1_of_lt E.toff j.isLt
  have s3 : at1 E.tend j.val = E.tend (ix1 j) := at1_of_lt E.tend j.isLt
  have s4 : at1 E.tend 31 = E.tend (ix1 31) := at1_of_lt E.tend (by decide)
  change _ = E.src (ix1 ⟨(ValueIdx.ix2 i j 0).val * 32 + (ValueIdx.ix2 i j 1).val, _⟩) at s0
  change _ = E.exp (ix1 (ValueIdx.ix2 i j 0)) at s1
  change _ = E.toff (ix1 (ValueIdx.ix2 i j 1)) at s2
  change _ = E.tend (ix1 (ValueIdx.ix2 i j 1)) at s3
  have s5 : (if j.val < 1 then 0#32 else at1 E.tend (j.val - 1)) = if h : (ValueIdx.ix2 i j 1).val < 1 then 0#32 else E.tend (ix1 ⟨(ValueIdx.ix2 i j 1).val - 1, by show j.val - 1 < 32; omega⟩) := by
    by_cases h : j.val < 1
    · rw [if_pos h]; split
      · rfl
      · rename_i h'; exact absurd h h'
    · rw [if_neg h]; split
      · rename_i h'; exact absurd h' h
      · exact at1_of_lt E.tend (by omega)
  rw [← s0, ← s1, ← s2, ← s3, ← s4, ← s5] at e
  change _ = 1#1 at e
  simp only [IntOp.cmpi, andi_ofBool, ori_ofBool, ofBool_eq_one, Bool.and_eq_true, Bool.or_eq_true, BitVec.sle_iff_toInt_le, BitVec.slt_iff_toInt_lt, beq_iff_eq, bne_iff_ne] at e
  obtain ⟨⟨⟨⟨⟨⟨⟨⟨h1, h2⟩, h3⟩, h4⟩, h5⟩, ⟨h6, h7⟩⟩, h8⟩, h9⟩, h10⟩ := e
  rw [show (0#32 : BitVec 32).toInt = 0 from rfl] at h1 h4
  rw [show (40952#32 : BitVec 32).toInt = 40952 from rfl] at h2
  rw [show (32#32 : BitVec 32).toInt = 32 from rfl] at h5
  rw [show (1#32 : BitVec 32).toInt = 1 from rfl] at h8
  rw [show (192#32 : BitVec 32).toInt = 192 from rfl] at h9
  rw [show (BitVec.ofNat 32 (ValueIdx.ix2 i j 0).val).toInt = i.val from toInt_small (show i.val < 200 by omega)] at h10
  have a1 := nat_of_toInt h1
  have a4 := nat_of_toInt h4
  refine ⟨by omega, low3 _ h3, by omega, h6, h7, h8, h9, fun hj hn => ?_⟩
  rcases h10 with (h | h) | h
  · refine absurd ?_ h
    apply BitVec.eq_of_toNat_eq
    rw [BitVec.toNat_ofNat]
    show _ = j.val % _
    omega
  · omega
  · exact h

theorem at1_past {n : ℕ} (f : (⟨1, ![n]⟩ : Shape).Idx → BitVec 32) {k : ℕ} (h : n ≤ k) : at1 f k = 0 := dif_neg (Nat.not_lt.2 h)

/-- The precondition gives all the body needs. -/
theorem ok_of_pre (E : Env F) (h : Cert.Pre_plan_tables.fn (F := F) E.exp E.toff E.tend E.src E.X E.w1 E.w3 E.w2 = fun _ => 1#1) : Ok E := by
  have d : ∀ i j : ℕ, i < 196 → j < 32 → Said E i j := fun i j hi hj => decoded E h ⟨i, hi⟩ ⟨j, hj⟩
  have d0 := d 0 0 (by decide) (by decide)
  have n0 := nat_of_toInt (v := at1 E.tend 31) (by have := d0.n_pos; omega)
  -- the offsets and ends are not negative
  have pos : ∀ j, j < 32 → 0 ≤ (at1 E.toff j).toInt := by
    intro j
    induction j with
    | zero =>
      intro _
      rw [d0.lo_eq, if_pos (by decide)]; decide
    | succ j ih =>
      intro hj
      rw [(d 0 (j + 1) (by decide) hj).lo_eq, if_neg (by omega), Nat.add_sub_cancel]
      exact le_trans (ih (by omega)) (d 0 j (by decide) (by omega)).lo_hi
  have pos' : ∀ j, j < 32 → 0 ≤ (at1 E.tend j).toInt := fun j hj => le_trans (pos j hj) (d 0 j (by decide) hj).lo_hi
  have ex_lt : ∀ t, ex E t < 32 := by
    intro t
    by_cases ht : t < 196
    · exact (d t 0 ht (by decide)).ex_lt
    · unfold ex; rw [at1_past E.exp (Nat.le_of_not_lt ht)]; decide
  refine ⟨fun k => ?_, ex_lt, ?_, ?_, fun e he => ?_, fun e he => ?_, fun t ht => ?_⟩
  · by_cases hk : k < 6272
    · have a := d (k / 32) (k % 32) (by omega) (by omega)
      have e : k / 32 * 32 + k % 32 = k := Nat.div_add_mod' k 32
      have a1 := a.src_le
      have a2 := a.src_al
      rw [e] at a1 a2
      exact ⟨Nat.dvd_of_mod_eq_zero a2, by omega⟩
    · rw [at1_past E.src (Nat.le_of_not_lt hk)]; decide
  · have := d0.n_le; unfold nT; omega
  · have := d0.n_pos; unfold nT; omega
  · have := (d 0 (e + 1) (by decide) he).lo_eq
    rw [if_neg (by omega), Nat.add_sub_cancel] at this
    exact congrArg BitVec.toNat this
  · have h1 := nat_of_toInt (pos e he)
    have h2 := nat_of_toInt (pos' e he)
    have h3 := (d 0 e (by decide) he).lo_hi
    unfold lo hi; omega
  · have hn : nT E ≤ 192 := by have := d0.n_le; unfold nT; omega
    have h4 := (d t (ex E t) (by omega) (ex_lt t)).own rfl (by unfold nT at ht; omega)
    have h1 := nat_of_toInt (pos (ex E t) (ex_lt t))
    have h2 := nat_of_toInt (pos' (ex E t) (ex_lt t))
    unfold lo hi; omega

end Cert.KernelIdeal.Hand
-- ==== Proof.Frames.lean ====
/-
  The frames: the kernel's at the machine's floats and at the ideal ones, from one run; the reference's.
-/
module

public import proofs.«01_k».proof.Defs
public import proofs.«01_k».proof.Proof.Run
public import proofs.«01_k».proof.Proof.PlanPre
public import proofs.«01_k».proof.Proof.Gen.Kernel
public import proofs.«01_k».proof.Proof.Gen.ReferenceIdeal
public import proofs.«01_k».proof.Proof.Gen.ReferenceIdeal.Run

@[expose] public section

noncomputable section

namespace Cert.Frames

open Idealize.ShloMosaic Idealize.SL.Sem

theorem ok_ideal (m : (ℓ : Loc Cert.KernelIdeal.nD Cert.KernelIdeal.τ Cert.KernelIdeal.sig) → Buf (Elt Ideal) ℓ) (h : Cert.Pre_KernelIdeal m) :
    ∀ c, Cert.KernelIdeal.Hand.Ok (Cert.KernelIdeal.Hand.envOf m c) := fun c => Cert.KernelIdeal.Hand.ok_of_pre _ (h c)

theorem kernel_ideal : Cert.quiescent_KernelIdeal := fun m ρ h =>
  (θ_run Cert.KernelIdeal.defs _ _).mono (fun _ h => ⟨fun c => (h.1 c).1, h.2⟩) (Cert.KernelIdeal.Hand.run_out (F := Ideal) m ρ (ok_ideal m h))

/-- The frame at the machine's floats, of the text that is read at the ideal ones. -/
def BitsFrame : Prop :=
  ∀ (m : (ℓ : Loc Cert.KernelIdeal.nD Cert.KernelIdeal.τ Cert.KernelIdeal.sig) → Buf (Elt Bits) ℓ)
    (g : Dev Cert.KernelIdeal.nD → PrngReg),
    (∀ c : Dev Cert.KernelIdeal.nD, Cert.Pre_plan_tables.fn (F := Bits)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1) →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
        ∧ r.2.sem = fun _ => 0)

theorem bits_frame : BitsFrame := fun m ρ h =>
  (θ_run Cert.KernelIdeal.defs _ _).mono (fun _ h => ⟨fun c => (h.1 c).1, h.2⟩)
    (Cert.KernelIdeal.Hand.run_out (F := Bits) m ρ (fun c => Cert.KernelIdeal.Hand.ok_of_pre (F := Bits) _ (h c)))

/-- The two texts are one, so the two frames are one proposition. -/
theorem frames_agree : BitsFrame = Cert.quiescent_Kernel := by sl_kernel_rfl

theorem kernel_bits : Cert.quiescent_Kernel := frames_agree ▸ bits_frame

theorem reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem reference_ideal_pre : Cert.quiescent_ReferenceIdeal_pre_plan_tables := fun m ρ _ =>
  reference_ideal m ρ trivial

end Cert.Frames

end
-- ==== Proof.Result.lean ====
/-
  The array that the run leaves: the steps' blocks side by side.
-/
module

public import proofs.«01_k».proof.Proof.Run
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.SL.Sem Idealize.ShloMosaic.Pipeline

variable {F : FTy → Type} [FloatOps F]

/-- The steps' blocks side by side. -/
def blocks (E : Env F) : S49152x1024.Idx → F .f32 := fun i =>
  outVal E ((i 0).val / 256) (ix2 ⟨(i 0).val % 256, Nat.mod_lt _ (by decide)⟩ (i 1))

theorem blocks_at (E : Env F) (t : ℕ) (y : S256x1024.Idx) (i : S49152x1024.Idx) (h0 : (i 0).val = t * 256 + (y 0).val) (h1 : (i 1).val = (y 1).val) :
    blocks E i = outVal E t y := by
  have hy : (y 0).val < 256 := (y 0).isLt
  unfold blocks
  rw [show (i 0).val / 256 = t by omega]
  refine congrArg _ (funext fun a => ?_)
  match a with
  | ⟨0, _⟩ => exact Fin.ext (by show (i 0).val % 256 = (y 0).val; omega)
  | ⟨1, _⟩ => exact Fin.ext h1

variable (m : (ℓ : Loc nD τ sig) → Buf (Elt F) ℓ) (c : Dev nD)

theorem result_covers : ((pcf m).win 0).Covers := of_decide_eq_true (by sl_kernel_rfl)

theorem result_eq : (dats m 0 c).arrAt 0 (pcf m).N = blocks (envOf m c) := by
  refine (dats m 0 c).arrAt_eq_of_covers 0 _ (result_covers m) fun t hf y => ?_
  rw [after0_0]
  refine (blocks_at (envOf m c) t.val _ _ ?_ ?_).symm
  · show (BitVec.ofNat 32 (grid0.coords t 0).val).toNat * 256 + 1 * (y (0 : Fin 2)).val = t.val * 256 + (y (0 : Fin 2)).val
    have h : (grid0.coords t 0).val < 192 := (grid0.coords t 0).isLt
    rw [BitVec.toNat_ofNat, Nat.mod_eq_of_lt (by omega), coord_val m t, Nat.one_mul]
  · show 0 * 1024 + 1 * (y (1 : Fin 2)).val = (y (1 : Fin 2)).val
    omega

end Cert.KernelIdeal.Hand
-- ==== Proof.Row.lean ====
/-
  One packed row through one expert, in the extended reals: its features through the gated layer, weighted.
-/
module

public import Idealize.ShloMosaic.Lib.Pointwise

@[expose] public section

noncomputable section

namespace Cert.Expert

open Idealize.ShloMosaic

/-- The low and the high half of a packed word, as numbers. -/
def low (w : BitVec 32) : EReal := Ideal.ofBits .bf16 (w.extractLsb' 0 16)
def high (w : BitVec 32) : EReal := Ideal.ofBits .bf16 (w.extractLsb' 16 16)

/-- Feature `k` of a packed row: the low halves of its first 512 words, then the high halves. -/
def feat (x : Fin 640 → BitVec 32) (k : Fin 1024) : EReal :=
  if k.val < 512 then low (x ⟨k.val % 512, by omega⟩) else high (x ⟨k.val % 512, by omega⟩)

/-- Routing lane `l` of a packed row. -/
def lane (x : Fin 640 → BitVec 32) (l : Fin 128) : EReal := low (x ⟨512 + l.val, by omega⟩)

/-- The weight of expert `e` in a row that lists it: the first weight if `e` is the first expert, else the second. -/
def weight (x : Fin 640 → BitVec 32) (e : BitVec 32) : EReal :=
  if lane x 6 = ((e.toInt : ℝ) : EReal) then lane x 0 + lane x 1 + lane x 2 else lane x 3 + lane x 4 + lane x 5

/-- Entry `f` of a projection of the row. -/
def proj (x : Fin 640 → BitVec 32) (w : Fin 1024 → Fin 512 → EReal) (f : Fin 512) : EReal := ∑ k, feat x k * w k f

/-- Entry `f` of the gated hidden layer. -/
def gated (x : Fin 640 → BitVec 32) (w1 w3 : Fin 1024 → Fin 512 → EReal) (f : Fin 512) : EReal :=
  proj x w1 f * Ideal.logistic (proj x w1 f) * proj x w3 f

/-- Entry `c` of the weighted output of the row. -/
def rowOut (x : Fin 640 → BitVec 32) (e : BitVec 32) (w1 w3 : Fin 1024 → Fin 512 → EReal) (w2 : Fin 512 → Fin 1024 → EReal)
    (c : Fin 1024) : EReal :=
  weight x e * ∑ f, gated x w1 w3 f * w2 f c

end Cert.Expert

end
-- ==== Proof.BlockValue.lean ====
/-
  What one tile's block holds at the ideal instance, element by element.
-/
module

public import proofs.«01_k».proof.Proof.Body
public import proofs.«01_k».proof.Proof.Row
public import Idealize.ShloMosaic.Lib.Pointwise

@[expose] public section

noncomputable section

namespace Cert.Expert

open Idealize.ShloMosaic Cert.KernelIdeal Cert.KernelIdeal.Gen Cert.KernelIdeal.Hand

set_option maxRecDepth 16384

/-- The features, from the gathered words. -/
theorem pay7_at (v : Vec Ideal S1x256x640 .i32) (r : Fin 256) (k : Fin 1024) :
    k0_pay7 (F := Ideal) v (ix2 r k) = feat (fun l => v (ix3 0 r l)) k := by
  have hk := k.isLt
  pointwise [k0_pay7, k0_pay6, unpackElementwise]
  unfold feat low high
  by_cases h : k.val < 512
  · rw [dif_pos h, if_pos h]
    simp only [Nat.mod_eq_of_lt h]
  · rw [dif_neg h, if_neg h]
    simp only [show k.val % 512 = k.val - 512 by omega]

/-- The routing lanes. -/
theorem pay8_at (v : Vec Ideal S1x256x640 .i32) (r : Fin 256) (l : Fin 128) :
    k0_pay8 (F := Ideal) v (ix2 r l) = lane (fun l => v (ix3 0 r l)) l := by
  pointwise [k0_pay8, k0_pay6, unpackElementwise]
  rfl

theorem pay9_at (v : Vec Ideal S1x256x640 .i32) (r : Fin 256) :
    k0_pay9 (F := Ideal) v (ix2 r 0) = lane (fun l => v (ix3 0 r l)) 0 + lane (fun l => v (ix3 0 r l)) 1 + lane (fun l => v (ix3 0 r l)) 2 := by
  pointwise [k0_pay9]
  rw [pay8_at, pay8_at, pay8_at]

theorem pay3_at (w : Vec Ideal S1024x512 .f32) (a : Fin 1024) (b : Fin 512) : k0_pay3 (F := Ideal) w (ix2 a b) = w (ix2 a b) := by
  pointwise [k0_pay3]
theorem pay4_at (w : Vec Ideal S1024x512 .f32) (a : Fin 1024) (b : Fin 512) : k0_pay4 (F := Ideal) w (ix2 a b) = w (ix2 a b) := by
  pointwise [k0_pay4]
theorem pay5_at (w : Vec Ideal S512x1024 .f32) (a : Fin 512) (b : Fin 1024) : k0_pay5 (F := Ideal) w (ix2 a b) = w (ix2 a b) := by
  pointwise [k0_pay5]

theorem pay1_at (e : BitVec 32) (v : Vec Ideal S1x256x640 .i32) (w1 w3 : Vec Ideal S1024x512 .f32) (w2 : Vec Ideal S512x1024 .f32)
    (r : Fin 256) (c : Fin 1024) :
    k0_pay1 (F := Ideal) e (k0_pay7 v) (k0_pay8 v) (k0_pay9 v) (k0_pay3 w1) (k0_pay4 w3) (k0_pay5 w2) (ix2 r c)
      = rowOut (fun l => v (ix3 0 r l)) e (fun a b => w1 (ix2 a b)) (fun a b => w3 (ix2 a b)) (fun a b => w2 (ix2 a b)) c := by
  pointwise [k0_pay1]
  simp only [pay7_at, pay8_at, pay9_at, pay3_at, pay4_at, pay5_at]
  rfl

theorem pay2_at (r : Fin 256) (c : Fin 1024) : k0_pay2 (F := Ideal) (ix2 r c) = (0 : EReal) := by
  pointwise [k0_pay2]

/-- Row `r` of tile `t`, as the packed words that the table names. -/
def rowWords (E : Env Ideal) (t r : ℕ) : Fin 640 → BitVec 32 := fun l => E.X (rowIx (srcRow E.src t r) l)

/-- The block of tile `t`, an element at a time. -/
theorem outVal_at (E : Env Ideal) (t : ℕ) (r : Fin 256) (c : Fin 1024) :
    outVal E t (ix2 r c) = if t < nT E then rowOut (rowWords E t r.val) (at1 E.exp t)
      (fun a b => E.w1 (ix3 ⟨ex E t % 32, Nat.mod_lt _ (by decide)⟩ a b)) (fun a b => E.w3 (ix3 ⟨ex E t % 32, Nat.mod_lt _ (by decide)⟩ a b))
      (fun a b => E.w2 (ix3 ⟨ex E t % 32, Nat.mod_lt _ (by decide)⟩ a b)) c else 0 := by
  unfold outVal
  by_cases h : t < nT E
  · rw [if_pos h, if_pos h]
    unfold b1 b3 b2
    exact pay1_at _ _ _ _ _ r c
  · rw [if_neg h, if_neg h]
    exact pay2_at r c

end Cert.Expert

end
-- ==== Proof.RefSteps.lean ====
/-
  What the reference computes, in the steps of its text.
-/
module

public import proofs.«01_k».proof.Proof.Gen.ReferenceIdeal.Run

@[expose] public section

noncomputable section

namespace Cert.Expert.Ref

open Idealize.ShloMosaic Cert.ReferenceIdeal Cert.ReferenceIdeal.Gen Cert.ReferenceIdeal.Value Idealize.SL.Sem

variable {F : FTy → Type} [FloatOps F]

/-- The row of `xc` at each place: its group's first row and its position there. -/
def rows (src : IVec S6272 32) : IVec S49152x1 32 :=
  have v0 : IVec S6144 32 := extractStridedSlice S6144 ![0] src slices_S6272_S6144_0
  have v1 : IVec S6144x1 32 := broadcastInDim S6144x1 ![0] bcast_S6144_S6144x1_0 v0
  have v4 : IVec S6144x8 32 := broadcastInDim S6144x8 ![0, 1] bcast_S6144x1_S6144x8_0_1 v1
  have v2 : IVec S8 32 := (iotaInDim S8 32 0)
  have v3 : IVec S1x8 32 := broadcastInDim S1x8 ![1] bcast_S8_S1x8_1 v2
  have v5 : IVec S6144x8 32 := broadcastInDim S6144x8 ![0, 1] bcast_S1x8_S6144x8_0_1 v3
  have v6 : IVec S6144x8 32 := addi v4 v5
  have v7 : IVec S49152 32 := shapeCast S49152 v6 shapeCasts_S6144x8_S49152
  have c : IVec S_ 32 := (constantI S_ 32 0#32)
  have v8 : IVec S49152 32 := broadcastInDim S49152 ![] bcast_S_S49152 c
  have v9 : IVec S49152 1 := cmpi .slt v7 v8
  have c_0 : IVec S_ 32 := (constantI S_ 32 40960#32)
  have v10 : IVec S49152 32 := broadcastInDim S49152 ![] bcast_S_S49152 c_0
  have v11 : IVec S49152 32 := addi v7 v10
  have v12 : IVec S49152 32 := select v9 v11 v7
  have idx : IVec S49152x1 32 := broadcastInDim S49152x1 ![0] bcast_S49152_S49152x1_0 v12
  idx

/-- The two halves of every word of the rows listed. -/
def halves (xc : IVec S40960x640 32) (idx : IVec S49152x1 32) : FVec F S49152x640x2 .f32 :=
  have v14 : IVec S49152x640 32 := Host.gather gather_S40960x640_S49152x1_S49152x640_1_0_n_n_0_1_1640 xc idx
  have v15 : FVec F S49152x640x2 .bf16 := bitcastToFloat (F := F) .bf16 (Host.bitcastConvertNarrow S49152x640x2 16 v14 splits_S49152x640_w32_S49152x640x2_w16)
  have pairs : FVec F S49152x640x2 .f32 := extf .f32 v15 bitsLt_bf16_f32
  pairs

/-- The features. -/
def toks (pairs : FVec F S49152x640x2 .f32) : FVec F S49152x1024 .f32 :=
  have v17 : FVec F S49152x512x1 .f32 := extractStridedSlice S49152x512x1 ![0, 0, 0] pairs slices_S49152x640x2_S49152x512x1_0_0_0
  have v18 : FVec F S49152x512 .f32 := shapeCast S49152x512 v17 shapeCasts_S49152x512x1_S49152x512
  have v19 : FVec F S49152x512x1 .f32 := extractStridedSlice S49152x512x1 ![0, 0, 1] pairs slices_S49152x640x2_S49152x512x1_0_0_1
  have v20 : FVec F S49152x512 .f32 := shapeCast S49152x512 v19 shapeCasts_S49152x512x1_S49152x512
  have t : FVec F S49152x1024 .f32 := concatenate S49152x1024 1 [⟨S49152x512, v18⟩, ⟨S49152x512, v20⟩] concatenates_S49152x512_S49152x512_S49152x1024_d1
  t

/-- The routing lanes. -/
def sides (pairs : FVec F S49152x640x2 .f32) : FVec F S49152x128 .f32 :=
  have v22 : FVec F S49152x128x1 .f32 := extractStridedSlice S49152x128x1 ![0, 512, 0] pairs slices_S49152x640x2_S49152x128x1_0_512_0
  have side : FVec F S49152x128 .f32 := shapeCast S49152x128 v22 shapeCasts_S49152x128x1_S49152x128
  side

/-- Every place's expert: its tile's. -/
def owner (exp : IVec S196 32) : IVec S49152 32 :=
  have v40 : IVec S192 32 := extractStridedSlice S192 ![0] exp slices_S196_S192_0
  have v41 : IVec S192x1 32 := broadcastInDim S192x1 ![0] bcast_S192_S192x1_0 v40
  have v42 : IVec S192x256 32 := broadcastInDim S192x256 ![0, 1] bcast_S192x1_S192x256_0_1 v41
  have own : IVec S49152 32 := shapeCast S49152 v42 shapeCasts_S192x256_S49152
  own

/-- Every place's weight, zero outside the tiles in use. -/
def weights (side : FVec F S49152x128 .f32) (own : IVec S49152 32) (tend : IVec S32 32) : FVec F S49152 .f32 :=
  have v44 : IVec S192 32 := (iotaInDim S192 32 0)
  have v45 : IVec S1 32 := extractStridedSlice S1 ![31] tend slices_S32_S1_31
  have v46 : IVec S_ 32 := shapeCast S_ v45 shapeCasts_S1_S_
  have v47 : IVec S192 32 := broadcastInDim S192 ![] bcast_S_S192 v46
  have v48 : IVec S192 1 := cmpi .slt v44 v47
  have v49 : IVec S192x1 1 := broadcastInDim S192x1 ![0] bcast_S192_S192x1_0 v48
  have v50 : IVec S192x256 1 := broadcastInDim S192x256 ![0, 1] bcast_S192x1_S192x256_0_1 v49
  have v51 : IVec S49152 1 := shapeCast S49152 v50 shapeCasts_S192x256_S49152
  have v52 : FVec F S49152x1 .f32 := extractStridedSlice S49152x1 ![0, 6] side slices_S49152x128_S49152x1_0_6
  have v53 : FVec F S49152 .f32 := shapeCast S49152 v52 shapeCasts_S49152x1_S49152
  have v54 : FVec F S49152 .f32 := sitofp .f32 own
  have v55 : IVec S49152 1 := cmpf .oeq v53 v54
  have v24 : FVec F S49152x1 .f32 := extractStridedSlice S49152x1 ![0, 0] side slices_S49152x128_S49152x1_0_0
  have v25 : FVec F S49152 .f32 := shapeCast S49152 v24 shapeCasts_S49152x1_S49152
  have v26 : FVec F S49152x1 .f32 := extractStridedSlice S49152x1 ![0, 1] side slices_S49152x128_S49152x1_0_1
  have v27 : FVec F S49152 .f32 := shapeCast S49152 v26 shapeCasts_S49152x1_S49152
  have v28 : FVec F S49152 .f32 := addf v25 v27
  have v29 : FVec F S49152x1 .f32 := extractStridedSlice S49152x1 ![0, 2] side slices_S49152x128_S49152x1_0_2
  have v30 : FVec F S49152 .f32 := shapeCast S49152 v29 shapeCasts_S49152x1_S49152
  have v31 : FVec F S49152 .f32 := addf v28 v30
  have v32 : FVec F S49152x1 .f32 := extractStridedSlice S49152x1 ![0, 3] side slices_S49152x128_S49152x1_0_3
  have v33 : FVec F S49152 .f32 := shapeCast S49152 v32 shapeCasts_S49152x1_S49152
  have v34 : FVec F S49152x1 .f32 := extractStridedSlice S49152x1 ![0, 4] side slices_S49152x128_S49152x1_0_4
  have v35 : FVec F S49152 .f32 := shapeCast S49152 v34 shapeCasts_S49152x1_S49152
  have v36 : FVec F S49152 .f32 := addf v33 v35
  have v37 : FVec F S49152x1 .f32 := extractStridedSlice S49152x1 ![0, 5] side slices_S49152x128_S49152x1_0_5
  have v38 : FVec F S49152 .f32 := shapeCast S49152 v37 shapeCasts_S49152x1_S49152
  have v39 : FVec F S49152 .f32 := addf v36 v38
  have v56 : FVec F S49152 .f32 := select v55 v31 v39
  have cst : FVec F S_ .f32 := (constant S_ .f32 0x00000000#32)
  have call1_v0 : FVec F S_ .f32 := cst
  have call1_v1 : FVec F S49152 .f32 := broadcastInDim S49152 ![] bcast_S_S49152 call1_v0
  have wgt : FVec F S49152 .f32 := select v51 v56 call1_v1
  wgt

/-- The weight of each expert at each place. -/
def combine (own : IVec S49152 32) (wgt : FVec F S49152 .f32) : FVec F S49152x32 .f32 :=
  have v58 : IVec S49152x1 32 := broadcastInDim S49152x1 ![0] bcast_S49152_S49152x1_0 own
  have v61 : IVec S49152x32 32 := broadcastInDim S49152x32 ![0, 1] bcast_S49152x1_S49152x32_0_1 v58
  have v59 : IVec S32 32 := (iotaInDim S32 32 0)
  have v60 : IVec S1x32 32 := broadcastInDim S1x32 ![1] bcast_S32_S1x32_1 v59
  have v62 : IVec S49152x32 32 := broadcastInDim S49152x32 ![0, 1] bcast_S1x32_S49152x32_0_1 v60
  have v63 : IVec S49152x32 1 := cmpi .eq v61 v62
  have v64 : FVec F S49152x1 .f32 := broadcastInDim S49152x1 ![0] bcast_S49152_S49152x1_0 wgt
  have call2_v1 : FVec F S49152x32 .f32 := broadcastInDim S49152x32 ![0, 1] bcast_S49152x1_S49152x32_0_1 v64
  have cst_1 : FVec F S_ .f32 := (constant S_ .f32 0x00000000#32)
  have call2_v0 : FVec F S_ .f32 := cst_1
  have call2_v2 : FVec F S49152x32 .f32 := broadcastInDim S49152x32 ![] bcast_S_S49152x32 call2_v0
  have comb : FVec F S49152x32 .f32 := select v63 call2_v1 call2_v2
  comb

/-- The gated hidden layer of every expert at every place. -/
def hidden (t : FVec F S49152x1024 .f32) (w1 : FVec F S32x1024x512 .f32) (w3 : FVec F S32x1024x512 .f32) : FVec F S32x49152x512 .f32 :=
  have v66 : FVec F S32x512x49152 .f32 := Host.dotGeneral dot_S32x1024x512_S49152x1024_S32x512x49152_1_1_02_0_n_n none w1 t
  have v67 : FVec F S32x49152x512 .f32 := transpose S32x49152x512 [0, 2, 1] v66 transposes_S32x512x49152_S32x49152x512_0_2_1
  have call3_cst_0 : FVec F S_ .f32 := (constant S_ .f32 0x3F800000#32)
  have call3_v4 : FVec F S32x49152x512 .f32 := broadcastInDim S32x49152x512 ![] bcast_S_S32x49152x512 call3_cst_0
  have call3_cst : FVec F S_ .f32 := (constant S_ .f32 0x3F800000#32)
  have call3_v2 : FVec F S32x49152x512 .f32 := broadcastInDim S32x49152x512 ![] bcast_S_S32x49152x512 call3_cst
  have call3_v0 : FVec F S32x49152x512 .f32 := Host.negf v67
  have call3_v1 : FVec F S32x49152x512 .f32 := Host.exp call3_v0
  have call3_v3 : FVec F S32x49152x512 .f32 := addf call3_v2 call3_v1
  have call3_v5 : FVec F S32x49152x512 .f32 := Host.divf call3_v4 call3_v3
  have v68 : FVec F S32x49152x512 .f32 := mulf v67 call3_v5
  have v69 : FVec F S32x512x49152 .f32 := Host.dotGeneral dot_S32x1024x512_S49152x1024_S32x512x49152_1_1_02_0_n_n none w3 t
  have v70 : FVec F S32x49152x512 .f32 := transpose S32x49152x512 [0, 2, 1] v69 transposes_S32x512x49152_S32x49152x512_0_2_1
  have hid : FVec F S32x49152x512 .f32 := mulf v68 v70
  hid

/-- The experts' outputs, weighted and added. -/
def mixed (comb : FVec F S49152x32 .f32) (hid : FVec F S32x49152x512 .f32) (w2 : FVec F S32x512x1024 .f32) : FVec F S49152x1024 .f32 :=
  have v72 : FVec F S32x49152 .f32 := transpose S32x49152 [1, 0] comb transposes_S49152x32_S32x49152_1_0
  have v73 : FVec F S32x49152x1 .f32 := broadcastInDim S32x49152x1 ![0, 1] bcast_S32x49152_S32x49152x1_0_1 v72
  have v75 : FVec F S32x49152x1024 .f32 := broadcastInDim S32x49152x1024 ![0, 1, 2] bcast_S32x49152x1_S32x49152x1024_0_1_2 v73
  have v74 : FVec F S32x49152x1024 .f32 := Host.dotGeneral dot_S32x49152x512_S32x512x1024_S32x49152x1024_2_1_1_2_0_0 none hid w2
  have v76 : FVec F S32x49152x1024 .f32 := mulf v75 v74
  have cst_2 : FVec F S_ .f32 := (constant S_ .f32 0x00000000#32)
  have v77 : FVec F S49152x1024 .f32 := Host.reduceAdd v76 cst_2 reducesTo_S32x49152x1024_S49152x1024_d0 h_S_
  v77

/-- The whole reference. -/
def whole (exp : IVec S196 32) (tend : IVec S32 32) (src : IVec S6272 32) (xc : IVec S40960x640 32) (w1 w3 : FVec F S32x1024x512 .f32)
    (w2 : FVec F S32x512x1024 .f32) : FVec F S49152x1024 .f32 :=
  mixed (combine (owner exp) (weights (sides (halves xc (rows src))) (owner exp) tend)) (hidden (toks (halves xc (rows src))) w1 w3) w2

theorem res_eq (m : (ℓ : Loc nD τ sig) → Buf (Elt F) ℓ) (d : Dev nD) :
    res_main_v77 m d = whole (m ((d.tc : Thread nD τ).loc main_arg0)) (m ((d.tc : Thread nD τ).loc main_arg2)) (m ((d.tc : Thread nD τ).loc main_arg3))
      (m ((d.tc : Thread nD τ).loc main_arg4)) (m ((d.tc : Thread nD τ).loc main_arg5)) (m ((d.tc : Thread nD τ).loc main_arg6))
      (m ((d.tc : Thread nD τ).loc main_arg7)) := rfl

end Cert.Expert.Ref

end
-- ==== Proof.RefValue.lean ====
/-
  What the reference computes, element by element.
-/
module

public import proofs.«01_k».proof.Proof.RefSteps
public import proofs.«01_k».proof.Proof.Row
public import Idealize.ShloMosaic.Lib.Pointwise
public import Idealize.ShloMosaic.Lib.BitcastConvert
public import Idealize.ShloMosaic.Lib.Routing.Ops

@[expose] public section

noncomputable section

namespace Cert.Expert.Ref

open Idealize.ShloMosaic Cert.ReferenceIdeal Cert.ReferenceIdeal.Gen

set_option maxRecDepth 16384

theorem slt_of_small {a b : BitVec 32} (ha : a.toNat < 2 ^ 31) (hb : b.toNat < 2 ^ 31) :
    IntOp.cmpi .slt a b = if a.toNat < b.toNat then 1#1 else 0#1 := by
  have e : a.slt b = decide (a.toNat < b.toNat) := by
    rw [BitVec.slt_eq_decide, BitVec.toInt_eq_toNat_of_lt (by omega), BitVec.toInt_eq_toNat_of_lt (by omega)]
    simp
  show BitVec.ofBool (a.slt b) = _
  rw [e]
  by_cases h : a.toNat < b.toNat
  · rw [if_pos h, decide_eq_true h]; rfl
  · rw [if_neg h, decide_eq_false h]; rfl

/-- The row listed at place `r`. -/
theorem rows_at (src : IVec S6272 32) (r : Fin 49152) (h : (src (ix1 ⟨r.val / 8, by omega⟩)).toNat + 8 ≤ 40960) :
    rows src (ix2 r 0) = BitVec.ofNat 32 ((src (ix1 ⟨r.val / 8, by omega⟩)).toNat + r.val % 8) := by
  pointwise [rows]
  have hv : IntOp.addi (src (ix1 ⟨r.val / 8, by omega⟩)) (BitVec.ofNat 32 (r.val % 8))
      = BitVec.ofNat 32 ((src (ix1 ⟨r.val / 8, by omega⟩)).toNat + r.val % 8) := by
    apply BitVec.eq_of_toNat_eq
    show (src (ix1 ⟨r.val / 8, by omega⟩) + BitVec.ofNat 32 (r.val % 8)).toNat = _
    simp only [BitVec.toNat_add, BitVec.toNat_ofNat]
    omega
  rw [hv, slt_of_small (by simp only [BitVec.toNat_ofNat]; omega) (by decide), if_neg (by simp)]
  rfl

/-- A half of a word of the row listed. -/
theorem halves_at (xc : IVec S40960x640 32) (idx : IVec S49152x1 32) (r : Fin 49152) (k : Fin 640) (p : Fin 2) (b : Fin 40960)
    (hb : idx (ix2 r 0) = BitVec.ofNat 32 b.val) :
    halves (F := Ideal) xc idx (ix3 r k p) = Ideal.ofBits .bf16 ((xc (ix2 b k)).extractLsb' (p.val * 16) 16) := by
  pointwise [halves]
  have hd : splits_S49152x640_w32_S49152x640x2_w16.drop (ix3 r k p) = ix2 r k := by
    funext a; match a with
    | ⟨0, _⟩ => rfl
    | ⟨1, _⟩ => rfl
  rw [hd]
  refine congrArg (fun w => Ideal.ofBits .bf16 (BitVec.extractLsb' (p.val * 16) 16 w)) ?_
  exact Routing.gather_row _ rfl rfl rfl rfl rfl xc idx r k b hb (by decide)

theorem toks_at (h : FVec Ideal S49152x640x2 .f32) (r : Fin 49152) (k : Fin 1024) :
    toks (F := Ideal) h (ix2 r k) = if k.val < 512 then h (ix3 r ⟨k.val % 512, by omega⟩ 0) else h (ix3 r ⟨k.val % 512, by omega⟩ 1) := by
  have hk := k.isLt
  pointwise [toks]
  by_cases h : k.val < 512
  · rw [dif_pos h, if_pos h]
    simp only [Nat.mod_eq_of_lt h]
  · rw [dif_neg h, if_neg h]
    simp only [show k.val % 512 = k.val - 512 by omega]

theorem sides_at (h : FVec Ideal S49152x640x2 .f32) (r : Fin 49152) (l : Fin 128) :
    sides (F := Ideal) h (ix2 r l) = h (ix3 r ⟨512 + l.val, by omega⟩ 0) := by
  pointwise [sides]

theorem owner_at (exp : IVec S196 32) (r : Fin 49152) : owner exp (ix1 r) = exp (ix1 ⟨r.val / 256, by omega⟩) := by
  pointwise [owner]

theorem weights_at (s : FVec Ideal S49152x128 .f32) (own : IVec S49152 32) (tend : IVec S32 32) (r : Fin 49152)
    (hn : (tend (ix1 31)).toNat ≤ 192) :
    weights (F := Ideal) s own tend (ix1 r) = if r.val / 256 < (tend (ix1 31)).toNat then
      (if s (ix2 r 6) = (((own (ix1 r)).toInt : ℝ) : EReal) then s (ix2 r 0) + s (ix2 r 1) + s (ix2 r 2) else s (ix2 r 3) + s (ix2 r 4) + s (ix2 r 5))
      else (0 : EReal) := by
  pointwise [weights]
  rw [slt_of_small (by simp only [BitVec.toNat_ofNat]; omega) (by omega),
    show (BitVec.ofNat 32 (r.val / 256)).toNat = r.val / 256 by simp only [BitVec.toNat_ofNat]; omega]
  by_cases h : r.val / 256 < (tend (ix1 31)).toNat
  · rw [if_pos h, if_pos h]; rfl
  · rw [if_neg h, if_neg h]; rfl

theorem combine_at (own : IVec S49152 32) (w : FVec Ideal S49152 .f32) (r : Fin 49152) (e : Fin 32) :
    combine (F := Ideal) own w (ix2 r e) = if own (ix1 r) = BitVec.ofNat 32 e.val then w (ix1 r) else (0 : EReal) := by
  pointwise [combine]
  by_cases h : own (ix1 r) = BitVec.ofNat 32 e.val
  · rw [if_pos h, h, IntOp.cmpi_eq_self]; rfl
  · rw [if_neg h]
    have : IntOp.cmpi .eq (own (ix1 r)) (BitVec.ofNat 32 e.val) = 0#1 := by
      show BitVec.ofBool (own (ix1 r) == BitVec.ofNat 32 e.val) = _
      rw [beq_eq_false_iff_ne.2 h]; rfl
    rw [this]; rfl

theorem hidden_at (t : FVec Ideal S49152x1024 .f32) (w1 w3 : FVec Ideal S32x1024x512 .f32) (e : Fin 32) (r : Fin 49152) (f : Fin 512) :
    hidden (F := Ideal) t w1 w3 (ix3 e r f) = ((∑ k, t (ix2 r k) * w1 (ix3 e k f)) * Ideal.logistic (∑ k, t (ix2 r k) * w1 (ix3 e k f))
      * ∑ k, t (ix2 r k) * w3 (ix3 e k f) : EReal) := by
  pointwise [hidden]
  simp only [mul_comm (w1 _), mul_comm (w3 _)]
  rfl

theorem mixed_at (comb : FVec Ideal S49152x32 .f32) (hid : FVec Ideal S32x49152x512 .f32) (w2 : FVec Ideal S32x512x1024 .f32)
    (r : Fin 49152) (c : Fin 1024) :
    mixed (F := Ideal) comb hid w2 (ix2 r c) = (∑ e, comb (ix2 r e) * ∑ f, hid (ix3 e r f) * w2 (ix3 e f c) : EReal) := by
  pointwise [mixed]

/-- The whole reference at one element: the row listed there through its tile's expert, zero outside the tiles in use. -/
theorem whole_at (exp : IVec S196 32) (tend : IVec S32 32) (src : IVec S6272 32) (xc : IVec S40960x640 32) (w1 w3 : FVec Ideal S32x1024x512 .f32)
    (w2 : FVec Ideal S32x512x1024 .f32) (r : Fin 49152) (c : Fin 1024) (e : Fin 32) (b : Fin 40960)
    (he : exp (ix1 ⟨r.val / 256, by omega⟩) = BitVec.ofNat 32 e.val)
    (hs : (src (ix1 ⟨r.val / 8, by omega⟩)).toNat + 8 ≤ 40960) (hb : b.val = (src (ix1 ⟨r.val / 8, by omega⟩)).toNat + r.val % 8)
    (hn : (tend (ix1 31)).toNat ≤ 192) :
    whole (F := Ideal) exp tend src xc w1 w3 w2 (ix2 r c) = if r.val / 256 < (tend (ix1 31)).toNat then
      rowOut (fun l => xc (ix2 b l)) (exp (ix1 ⟨r.val / 256, by omega⟩)) (fun k f => w1 (ix3 e k f)) (fun k f => w3 (ix3 e k f))
        (fun f c => w2 (ix3 e f c)) c else 0 := by
  have hr := (rows_at src r hs).trans (congrArg (BitVec.ofNat 32) hb.symm)
  have ht : ∀ k, toks (F := Ideal) (halves xc (rows src)) (ix2 r k) = feat (fun l => xc (ix2 b l)) k := fun k => by
    rw [toks_at, halves_at xc _ r _ 0 b hr, halves_at xc _ r _ 1 b hr]; rfl
  have hl : ∀ l, sides (F := Ideal) (halves xc (rows src)) (ix2 r l) = lane (fun l => xc (ix2 b l)) l := fun l => by
    rw [sides_at, halves_at xc _ r _ 0 b hr]; rfl
  unfold whole
  rw [mixed_at, Finset.sum_eq_single e]
  · rw [combine_at, owner_at, if_pos he, weights_at _ _ _ _ hn, owner_at]
    simp only [hidden_at, ht, hl]
    by_cases h : r.val / 256 < (tend (ix1 31)).toNat
    · rw [if_pos h, if_pos h]; rfl
    · rw [if_neg h, if_neg h, zero_mul]
  · intro e' _ hne
    rw [combine_at, owner_at, if_neg, zero_mul]
    intro h
    have := congrArg BitVec.toNat (he.symm.trans h)
    simp only [BitVec.toNat_ofNat] at this
    exact hne (Fin.ext (by omega))
  · exact fun h => absurd (Finset.mem_univ _) h

end Cert.Expert.Ref

end
-- ==== Proof.Equation.lean ====
/-
  The kernel's array is the reference's, element by element, and so the two runs end alike.
-/
module

public import proofs.«01_k».proof.Defs
public import proofs.«01_k».proof.Proof.Frames
public import proofs.«01_k».proof.Proof.Result
public import proofs.«01_k».proof.Proof.BlockValue
public import proofs.«01_k».proof.Proof.RefValue

@[expose] public section

noncomputable section

namespace Cert.Expert

open Idealize.ShloMosaic Idealize.SL.Sem Cert.KernelIdeal.Hand

theorem at1_eq {n : ℕ} (f : (⟨1, ![n]⟩ : Shape).Idx → BitVec 32) (k : Fin n) : at1 f k.val = f (ix1 k) := by
  unfold at1
  rw [dif_pos k.isLt]
  rfl

/-- Over tables that describe a plan, the steps' blocks are the reference. -/
theorem blocks_eq (E : Env Ideal) (ok : Ok E) :
    blocks E = Ref.whole (F := Ideal) E.exp E.tend E.src E.X E.w1 E.w3 E.w2 := by
  funext i
  obtain ⟨r, c, rfl⟩ : ∃ (r : Fin 49152) (c : Fin 1024), i = ix2 r c := ⟨i 0, i 1, eq_ix2 i⟩
  have hr := r.isLt
  have hexp := at1_eq E.exp ⟨r.val / 256, by omega⟩
  have hsrc := at1_eq E.src ⟨r.val / 8, by omega⟩
  have hend := at1_eq E.tend 31
  have hlt : (at1 E.exp (r.val / 256)).toNat < 32 := ok.ex_lt (r.val / 256)
  have hrow : (at1 E.src (r.val / 8)).toNat + 8 ≤ 40960 := (ok.src (r.val / 8)).2
  have hn : nT E ≤ 192 := ok.n_le
  have hw : srcRow E.src (r.val / 256) (r.val % 256) = (at1 E.src (r.val / 8)).toNat + r.val % 8 := by
    unfold srcRow
    rw [show 32 * (r.val / 256) + r.val % 256 / 8 = r.val / 8 by omega, show r.val % 256 % 8 = r.val % 8 by omega]
  refine (outVal_at E (r.val / 256) ⟨r.val % 256, Nat.mod_lt _ (by decide)⟩ c).trans (Eq.symm ?_)
  refine (Ref.whole_at E.exp E.tend E.src E.X E.w1 E.w3 E.w2 r c ⟨ex E (r.val / 256) % 32, Nat.mod_lt _ (by decide)⟩
    ⟨srcRow E.src (r.val / 256) (r.val % 256) % 40960, Nat.mod_lt _ (by decide)⟩ ?_ ?_ ?_ ?_).trans ?_
  · rw [← hexp]
    apply BitVec.eq_of_toNat_eq
    unfold ex
    simp only [BitVec.toNat_ofNat]
    omega
  · rw [← hsrc]; exact hrow
  · rw [← hsrc]
    show srcRow E.src (r.val / 256) (r.val % 256) % 40960 = _
    rw [hw]
    exact Nat.mod_eq_of_lt (by omega)
  · rw [← hend]; exact hn
  · rw [← hend, ← hexp]; rfl

/-- The two runs end with equal results. -/
theorem algebraic : Cert.algebraic_KernelIdeal_ReferenceIdeal := fun m g m' g' h hag => by
  refine ⟨fun c => blocks (envOf m c),
    (θ_run Cert.KernelIdeal.defs _ _).mono (fun _ k c => ⟨((k.1 c).2).trans (result_eq m c), (k.1 c).1⟩)
      (run_out (F := Ideal) m g (Cert.Frames.ok_ideal m h)), ?_⟩
  refine (θ_run Cert.ReferenceIdeal.defs _ _).mono (fun _ k c => ⟨((k c).1).trans ?_, (k c).2⟩) (Cert.ReferenceIdeal.Value.run (F := Ideal) m' g')
  obtain ⟨h0, _, h2, h3, h4, h5, h6, h7⟩ := hag c
  rw [Ref.res_eq, h0, h2, h3, h4, h5, h6, h7]
  exact (blocks_eq _ (Cert.Frames.ok_ideal m h c)).symm

end Cert.Expert

end
-- ==== Proof.CombineSteps.lean ====
/-
  The kernel's buffers and tables as plain functions, and the geometry of its gather: which elements of the ring
  buffer the copy of one group of eight rows writes, which rows of the array of rows it reads, which semaphore it
  signals, and that what it leaves in the ring is the gathered tile. A group is named by its slot `s` (of four) and
  its number `j` (of one hundred and sixty); the tile by its number `T`.
-/
module

public import proofs.«01_k».proof.Proof.Gen.CombineIdeal.Launch
public import proofs.«01_k».proof.Proof.Gen.CombineIdeal.Skeleton
public import Idealize.ShloMosaic.Lib.Pipeline.FrameBody
public import Idealize.ShloMosaic.Lib.Batch
public import Idealize.ShloMosaic.Lib.Ring
public import Idealize.ShloMosaic.Lib.ValueLayout
public import Idealize.ShloMosaic.Lib.Tactic

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)

variable {F : FTy → Type} [FloatOps F]

local notation "𝕄" => MT nD τ sig Unit (Elt F) ℕ (Pipeline.UD sig nD τ) ℕ

/-! ## The tables and the rows, read at natural numbers -/

/-- Word `k` of a table of `n` words (zero past its end). -/
def at1 {n : ℕ} (f : (⟨1, ![n]⟩ : Shape).Idx → BitVec 32) (k : ℕ) : BitVec 32 :=
  if h : k < n then f (ix1 ⟨k, h⟩) else 0

theorem at1_of_lt {n : ℕ} (f : (⟨1, ![n]⟩ : Shape).Idx → BitVec 32) {k : ℕ} (h : k < n) : at1 f k = f (ix1 ⟨k, h⟩) := dif_pos h

/-- Row `r` of the array of rows (taken modulo the number of rows, so that every natural names one). -/
def rowIx (r : ℕ) (l : Fin 1024) : S49152x1024.Idx := ix2 ⟨r % 49152, Nat.mod_lt _ (by decide)⟩ l

/-- The row of the array of rows that row `r` of tile `T` is gathered from. -/
def srcRow (src : S5120.Idx → BitVec 32) (T r : ℕ) : ℕ := (at1 src (160 * T + r / 8)).toNat + r % 8

/-- Contents of the ring buffer with tile `T` in every slot: row `r` of each slot is the row the table names. -/
def tileBuf (X : S49152x1024.Idx → F .f32) (src : S5120.Idx → BitVec 32) (T : ℕ) : S4x1280x1024.Idx → F .f32 :=
  fun i => X (rowIx (srcRow src T (i 1).val) (i 2))

/-! ## The element sets of the ring buffer and of the array of rows -/

/-- Group `j` of slot `s` in the ring buffer: eight rows. -/
def grp (s j : ℕ) : Finset S4x1280x1024.Idx := Finset.univ.filter fun i => (i 0).val = s ∧ (i 1).val / 8 = j
/-- Slot `s` of the ring buffer. -/
def slot (s : ℕ) : Finset S4x1280x1024.Idx := Finset.univ.filter fun i => (i 0).val = s
/-- The eight rows of the array of rows from row `r`. -/
def rows8 (r : ℕ) : Finset S49152x1024.Idx := Finset.univ.filter fun i => r ≤ (i 0).val ∧ (i 0).val < r + 8

theorem mem_grp {s j : ℕ} {i : S4x1280x1024.Idx} : i ∈ grp s j ↔ (i 0).val = s ∧ (i 1).val / 8 = j := by
  unfold grp; rw [Finset.mem_filter]; exact and_iff_right (Finset.mem_univ _)
theorem mem_slot {s : ℕ} {i : S4x1280x1024.Idx} : i ∈ slot s ↔ (i 0).val = s := by
  unfold slot; rw [Finset.mem_filter]; exact and_iff_right (Finset.mem_univ _)
theorem mem_rows8 {r : ℕ} {i : S49152x1024.Idx} : i ∈ rows8 r ↔ r ≤ (i 0).val ∧ (i 0).val < r + 8 := by
  unfold rows8; rw [Finset.mem_filter]; exact and_iff_right (Finset.mem_univ _)

/-- The ring buffer's group as the kernel names it. -/
abbrev dstM (off : Fin 3 → ℕ) (h : ∀ a, off a + S1x8x1024.size a ≤ S4x1280x1024.size a) : Memref sig .tc .vmem S8x1024 .f32 :=
  ((Memref.whole cc0_scratch0 : Memref sig .tc .vmem S4x1280x1024 .f32).slice (Rect.unit (s := S4x1280x1024) off S1x8x1024.size h) (fun _ => rfl)).squeeze S8x1024 squeezes_S1x8x1024_S8x1024
/-- Eight rows of the array of rows as the kernel names them. -/
abbrev srcM (off : Fin 2 → ℕ) (h : ∀ a, off a + S8x1024.size a ≤ S49152x1024.size a) : Memref sig .tc .hbm S8x1024 .f32 :=
  (Memref.whole main_arg5 : Memref sig .tc .hbm S49152x1024 .f32).slice (Rect.unit (s := S49152x1024) off S8x1024.size h) (fun _ => rfl)
/-- A slot of the ring buffer as a wait names it. -/
abbrev slotM (off : Fin 3 → ℕ) (h : ∀ a, off a + S1x1280x1024.size a ≤ S4x1280x1024.size a) : Memref sig .tc .vmem S1280x1024 .f32 :=
  ((Memref.whole cc0_scratch0 : Memref sig .tc .vmem S4x1280x1024 .f32).slice (Rect.unit (s := S4x1280x1024) off S1x1280x1024.size h) (fun _ => rfl)).squeeze S1280x1024 squeezes_S1x1280x1024_S1280x1024

theorem dst_set {off : Fin 3 → ℕ} {h} {s j : ℕ} (ho : off = ![s, 8 * j, 0]) : (dstM off h).view.set = grp s j := by
  subst ho
  refine (View.set_reshape _ _).trans ?_
  rw [show (((Memref.whole cc0_scratch0 : Memref sig .tc .vmem S4x1280x1024 .f32).slice (Rect.unit (s := S4x1280x1024) ![s, 8 * j, 0] S1x8x1024.size h) (fun _ => rfl)).view.set)
    = (Rect.unit (s := S4x1280x1024) ![s, 8 * j, 0] S1x8x1024.size h).set from View.set_slice_whole _ _]
  ext i
  rw [Rect.mem_set_unit, mem_grp]
  constructor
  · intro hi
    have h0 := hi 0; have h1 := hi 1
    simp at h0 h1
    omega
  · rintro ⟨h0, h1⟩ a
    have h2 : (i 2).val < 1024 := (i 2).isLt
    match a with
    | ⟨0, _⟩ => show s ≤ (i 0).val ∧ (i 0).val < s + 1; omega
    | ⟨1, _⟩ => show 8 * j ≤ (i 1).val ∧ (i 1).val < 8 * j + 8; omega
    | ⟨2, _⟩ => show 0 ≤ (i 2).val ∧ (i 2).val < 0 + 1024; omega

theorem src_set {off : Fin 2 → ℕ} {h} {r : ℕ} (ho : off = ![r, 0]) : (srcM off h).view.set = rows8 r := by
  subst ho
  rw [show (srcM ![r, 0] h).view.set = (Rect.unit (s := S49152x1024) ![r, 0] S8x1024.size h).set from View.set_slice_whole _ _]
  ext i
  rw [Rect.mem_set_unit, mem_rows8]
  constructor
  · intro hi; exact hi 0
  · intro h0 a
    have h1 : (i 1).val < 1024 := (i 1).isLt
    match a with
    | ⟨0, _⟩ => exact h0
    | ⟨1, _⟩ => show 0 ≤ (i 1).val ∧ (i 1).val < 0 + 1024; omega

/-- What the copy of one group writes is the gathered tile's group. -/
theorem dst_write (X : S49152x1024.Idx → F .f32) (src : S5120.Idx → BitVec 32) {T s j : ℕ} (hj : j < 160) {off : Fin 3 → ℕ} {h} {off' : Fin 2 → ℕ} {h'}
    (ho : off = ![s, 8 * j, 0]) (ho' : off' = ![(at1 src (160 * T + j)).toNat, 0])
    (fd : S4x1280x1024.Idx → F .f32) :
    ∀ i ∈ grp s j, (dstM off h).view.write (Elt F) fd (ReadAs.same.apply ((srcM off' h').view.read (Elt F) X)) Finset.univ i = tileBuf X src T i := by
  intro i hi
  rw [← dst_set (h := h) ho] at hi
  obtain ⟨y, -, rfl⟩ := Finset.mem_map.mp hi
  have hw := congrFun ((dstM off h).view.read_write_univ (Val := Elt F) fd (ReadAs.same.apply ((srcM off' h').view.read (Elt F) X))) y
  refine Eq.trans (show _ = _ from hw) ?_
  subst ho ho'
  have hy : Shape.reshapeEquiv squeezes_S1x8x1024_S8x1024.numel_eq y = ix3 (⟨0, Nat.one_pos⟩ : Fin 1) (y 0) (y 1) := by
    conv_lhs => rw [eq_ix2 y]
    exact Idealize.ShloMosaic.ValueIdx.reshapeEquiv_ix2_1ab _ _ _
  have hemb : (dstM ![s, 8 * j, 0] h).view.emb y
      = (Rect.unit (s := S4x1280x1024) ![s, 8 * j, 0] S1x8x1024.size h).emb (Shape.reshapeEquiv squeezes_S1x8x1024_S8x1024.numel_eq y) := rfl
  have e1 : ((dstM ![s, 8 * j, 0] h).view.emb y 1).val = 8 * j + (y 0).val := by
    rw [hemb, hy]; show 8 * j + 1 * (y 0).val = _; omega
  have e2 : ((dstM ![s, 8 * j, 0] h).view.emb y 2) = y 1 := by
    rw [hemb, hy]; apply Fin.ext; show 0 + 1 * (y 1).val = _; omega
  unfold tileBuf
  rw [e1, e2]
  show X _ = X _
  congr 1
  funext a
  have hy0 : (y 0).val < 8 := (y 0).isLt
  have hb := h' 0
  have hb : (at1 src (160 * T + j)).toNat + 8 ≤ 49152 := hb
  unfold rowIx srcRow
  rw [show (8 * j + (y 0).val) / 8 = j by omega, show (8 * j + (y 0).val) % 8 = (y 0).val by omega]
  match a with
  | ⟨0, _⟩ => apply Fin.ext; show (at1 src (160 * T + j)).toNat + 1 * (y 0).val = _ % 49152; rw [Nat.mod_eq_of_lt (by omega)]; omega
  | ⟨1, _⟩ => apply Fin.ext; show 0 + 1 * (y 1).val = _; rw [Nat.zero_add, Nat.one_mul]

/-- The semaphore of slot `s`. -/
def cell (s : ℕ) : DmaSem sig := ⟨7 + s % 4, by show _ < 11; omega⟩

theorem sem_eq {off : Fin 1 → ℕ} {h} {s : ℕ} (hs : s < 4) (ho : off = ![s]) :
    ((cc0_scratch1.slice (Rect.unit (s := S4) off S1.size h)).squeeze S_ squeezes_S1_S_).sem = cell s := by
  subst ho
  apply Fin.ext
  have e : ∀ x : S4.Idx, (S4.rowMajor x).val = (x 0).val := by
    intro x
    have e' : ∀ k : Fin 4, (S4.rowMajor (ix1 k)).val = k.val := by decide
    exact (congrArg (fun z => (S4.rowMajor z).val) (eq_ix1 x)).trans (e' (x 0))
  show 7 + (S4.rowMajor ((Rect.unit (s := S4) ![s] S1.size h).emb _)).val = 7 + s % 4
  rw [e]
  have : ∀ x : S1.Idx, ((Rect.unit (s := S4) ![s] S1.size h).emb x 0).val = s := by
    intro x; show s + 1 * (x 0).val = s; have : (x 0).val < 1 := (x 0).isLt; omega
  rw [this, Nat.mod_eq_of_lt hs]

/-- A group's copy credits its semaphore alike wherever the group lies. -/
theorem dst_amount (off : Fin 3 → ℕ) (h) (k : DmaSem sig) : (dstM off h).view.amount (SemLoc.dma k) = (dstM ![0, 0, 0] (by decide)).view.amount (SemLoc.dma k) := rfl

/-- The credit of one group's copy. -/
def grpN : ℕ := (dstM ![0, 0, 0] (by decide)).view.dmaCredit
theorem grpN_pos : 0 < grpN := by decide +kernel
theorem slot_credit (off : Fin 3 → ℕ) (h) : (slotM off h).view.dmaCredit = grpN * 160 := by
  show (slotM ![0, 0, 0] (by decide)).view.dmaCredit = grpN * 160
  decide +kernel
end Cert.CombineIdeal.Hand
-- ==== Proof.CombineRules.lean ====
/-
  The resources of the gather ring and the rules for the operations it is filled by. A slot of the ring is free (its
  semaphore at zero, its one hundred and sixty groups in hand, each with a share of the array of rows to read from), or being filled
  with a tile (a batch of copies on its semaphore, some started), or full. Each rule takes one operation of the body off
  the front of a program.
-/
module

public import proofs.«01_k».proof.Proof.CombineSteps

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

/-- The kernel's inputs on one device. -/
structure Env (F : FTy → Type) where
  dst : S5120.Idx → BitVec 32
  used : S32.Idx → BitVec 32
  x1 : S16384x1024.Idx → F .f32
  mf : S16384x128.Idx → F .f32
  gfin : S1x1024.Idx → F .f32
  ys : S49152x1024.Idx → F .f32

variable (c : Dev nD) (E : Env F)

/-- The counters of the batches. -/
abbrev EC : UEmb Counters 𝕄 := countersEmb (U := Pipeline.UD sig nD τ)

/-- A program of the body, run to a postcondition. -/
abbrev W {α : Type} (p : Prog (TpuEff nD τ sig (Elt F) Λ₀ .tc) α) (Q : α → sProp 𝕄) : sProp 𝕄 :=
  wp frame (wpE (defs₀ (F := F)) Variants.none (c : Thread nD τ) none) Set.univ p Q

/-- The ring buffer's elements `S` at contents `f`. -/
abbrev ringPt (S : Finset S4x1280x1024.Idx) (f : S4x1280x1024.Idx → F .f32) : sProp 𝕄 :=
  ((c : Thread nD τ).loc cc0_scratch0) ↦[S]{fullShare} f
/-- The array of rows's elements `S` at share `q`. -/
abbrev xPt (S : Finset S49152x1024.Idx) (q : PosShare TreeShare) : sProp 𝕄 := ((c : Thread nD τ).loc main_arg5) ↦[S]{q} E.ys
/-- The two tables, at the share the body reads them by. -/
def Tabs : sProp 𝕄 :=
  iprop((((c : Thread nD τ).loc main_arg0) ↦{fullShare.right} E.dst) ∗ (((c : Thread nD τ).loc main_arg1) ↦{fullShare.right} E.used))

/-- The share of the array of rows that group `j` of slot `s` reads by. -/
def tok (s j : ℕ) : PosShare TreeShare := shareTokN fullShare (160 * s + j)

/-- A group in hand: its eight rows of the ring at some contents, and its share of the array of rows. -/
def gFree (s j : ℕ) : sProp 𝕄 := iprop((∃ f, ringPt c (grp s j) f) ∗ xPt c E Finset.univ (tok s j))
/-- What a started copy leaves in hand: its share of the rows it does not read. -/
def gRest (s T j : ℕ) : sProp 𝕄 := xPt c E (Finset.univ \ rows8 (at1 E.dst (160 * T + j)).toNat) (tok s j)
/-- What a landed copy delivers: its group of the gathered tile, and the rows it read. -/
def gDone (s T : ℕ) (j : Fin 160) : sProp 𝕄 :=
  iprop(ringPt c (grp s j.val) (tileBuf E.ys E.dst T) ∗ xPt c E (rows8 (at1 E.dst (160 * T + j.val)).toNat) (tok s j.val))
/-- A group of a full slot. -/
def gFull (s T j : ℕ) : sProp 𝕄 := iprop(ringPt c (grp s j) (tileBuf E.ys E.dst T) ∗ xPt c E Finset.univ (tok s j))

/-- Slot `s` free. -/
def Free (s : ℕ) : sProp 𝕄 := iprop(semVal ((c : Thread nD τ), SemLoc.dma (cell s)) 0 ∗ bigSep (Finset.univ : Finset (Fin 160)) (fun j => gFree c E s j.val))
/-- Slot `s` being filled with tile `T`, `k` copies started. -/
def Fill (s T k : ℕ) : sProp 𝕄 :=
  iprop(Batch EC (c : Thread nD τ) (SemLoc.dma (cell s)) () grpN (gDone c E s T) k 0
    ∗ bigSep (pending k : Finset (Fin 160)) (fun j => gFree c E s j.val) ∗ bigSep (Finset.univ \ pending k : Finset (Fin 160)) (fun j => gRest c E s T j.val))
/-- Slot `s` full of tile `T`. -/
def Full (s T : ℕ) : sProp 𝕄 := iprop(semVal ((c : Thread nD τ), SemLoc.dma (cell s)) 0 ∗ bigSep (Finset.univ : Finset (Fin 160)) (fun j => gFull c E s T j.val))

instance (s T : ℕ) (j : Fin 160) : Storable (upEmb : UEmb _ 𝕄) (gDone c E s T j) := by unfold gDone; infer_instance

/-! ## Programs -/

variable {c E}

theorem pure_rule {α : Type} {a : α} {Q : α → sProp 𝕄} {P : sProp 𝕄} (h : P ⊢ Q a) : P ⊢ W c (.ret a) Q := h.trans (le_wp_ret _ _ _ _ _)
theorem bind_rule {α β : Type} {p : Prog (TpuEff nD τ sig (Elt F) Λ₀ .tc) α} {k : α → Prog (TpuEff nD τ sig (Elt F) Λ₀ .tc) β} {Q : β → sProp 𝕄} {P : sProp 𝕄}
    (h : P ⊢ W c p (fun a => W c (k a) Q)) : P ⊢ W c (p >>= k) Q := h.trans (Entails.of_eq (wp_bind _ _ _ _ _ _).symm)

theorem assume_rule {β : Type} {X : Prop} {d : Decidable X} (hX : X) {k : PLift X → Prog (TpuEff nD τ sig (Elt F) Λ₀ .tc) β} {Q : β → sProp 𝕄} {P : sProp 𝕄}
    (h : P ⊢ W c (k ⟨hX⟩) Q) : P ⊢ W c (Prog.lift (TpuEff.assume X d) >>= k) Q :=
  h.trans (wp_assume Variants.none (c : Thread nD τ) none Set.univ hX)

/-- The one word of a table at offset `t` is word `t`. -/
theorem emb_one {n t : ℕ} (h : ∀ a, ![t] a + S1.size a ≤ (⟨1, ![n]⟩ : Shape).size a) (x : (Rect.unit (s := ⟨1, ![n]⟩) ![t] S1.size h).shape.Idx) :
    (Rect.unit (s := ⟨1, ![n]⟩) ![t] S1.size h).emb x = ix1 ⟨t, h 0⟩ := by
  funext a
  have hx : (x 0).val < 1 := (x 0).isLt
  match a with
  | ⟨0, _⟩ => apply Fin.ext; show t + 1 * (x 0).val = t; omega

theorem Tabs_intro : iprop((((c : Thread nD τ).loc main_arg0) ↦{fullShare.right} E.dst) ∗ (((c : Thread nD τ).loc main_arg1) ↦{fullShare.right} E.used)) ⊢ (Tabs c E : sProp 𝕄) := .rfl

/-- Reading word `t` of the table of the groups. -/
theorem dst_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.dst t)) Q) :
    iprop(A ∗ Tabs c E ∗ Z) ⊢ W c (smemLoad (Memref.whole main_arg0 : Memref sig .tc .smem S5120 .i32) (Rect.unit (s := S5120) off S1.size h) h1 hp >>= k) Q := by
  subst ho
  have ht : t < 5120 := h 0
  refine BIBase.Entails.trans ?_ (bind_rule .rfl)
  iintro ⟨HA, HT, HZ⟩
  unfold Tabs
  icases HT with ⟨H0, H1⟩
  iapply (wp_smemLoadElt (m := (Memref.whole main_arg0 : Memref sig .tc .smem S5120 .i32)) (r := Rect.unit (s := S5120) ![t] S1.size h) (f := E.dst) (q := fullShare.right) (k := .ret) Variants.none (c : Thread nD τ) none Set.univ (Finset.subset_univ _)) $$ H0
  iintro H0
  iapply (le_wp_ret _ _ _ _ _)
  rw [show ((Memref.whole main_arg0 : Memref sig .tc .smem S5120 .i32).access (Rect.unit (s := S5120) ![t] S1.size h)).read (Elt F) E.dst (Shape.Idx.first (h1.symm ▸ Nat.one_pos))
    = at1 E.dst t from (congrArg E.dst (emb_one h _)).trans (at1_of_lt _ ht).symm]
  iapply hk
  isplitl [HA]; · iexact HA
  isplitr [HZ]; swap; · iexact HZ
  iapply Tabs_intro
  isplitl [H0]; · iexact H0
  iexact H1

/-- Reading word `t` of the table of the counts. -/
theorem used_rule {β : Type} {off : Fin 1 → ℕ} {h} {h1} {hp} {t : ℕ} (ho : off = ![t]) {k : BitVec 32 → Prog (TpuEff nD τ sig (Elt F) Λ₀ .tc) β} {Q : β → sProp 𝕄}
    {A Z : sProp 𝕄} (hk : iprop(A ∗ Tabs c E ∗ Z) ⊢ W c (k (at1 E.used t)) Q) :
    iprop(A ∗ Tabs c E ∗ Z) ⊢ W c (smemLoad (Memref.whole main_arg1 : Memref sig .tc .smem S32 .i32) (Rect.unit (s := S32) off S1.size h) h1 hp >>= k) Q := by
  subst ho
  have ht : t < 32 := h 0
  refine BIBase.Entails.trans ?_ (bind_rule .rfl)
  iintro ⟨HA, HT, HZ⟩
  unfold Tabs
  icases HT with ⟨H0, H1⟩
  iapply (wp_smemLoadElt (m := (Memref.whole main_arg1 : Memref sig .tc .smem S32 .i32)) (r := Rect.unit (s := S32) ![t] S1.size h) (f := E.used) (q := fullShare.right) (k := .ret) Variants.none (c : Thread nD τ) none Set.univ (Finset.subset_univ _)) $$ H1
  iintro H1
  iapply (le_wp_ret _ _ _ _ _)
  rw [show ((Memref.whole main_arg1 : Memref sig .tc .smem S32 .i32).access (Rect.unit (s := S32) ![t] S1.size h)).read (Elt F) E.used (Shape.Idx.first (h1.symm ▸ Nat.one_pos))
    = at1 E.used t from (congrArg E.used (emb_one h _)).trans (at1_of_lt _ ht).symm]
  iapply hk
  isplitl [HA]; · iexact HA
  isplitr [HZ]; swap; · iexact HZ
  iapply Tabs_intro
  isplitl [H0]; · iexact H0
  iexact H1

/-! ## The ring -/

/-- A free slot becomes one being filled, with nothing started. -/
theorem fill_start (s T : ℕ) : (Free c E s : sProp 𝕄) ⊢ |={Set.univ}=> Fill c E s T 0 := by
  unfold Free Fill
  iintro ⟨Hq, HG⟩
  imod (batch_alloc' (Lvl := ℕ) (EC (F := F)) (c : Thread nD τ) () grpN (gDone c E s T) (sm := SemLoc.dma (cell s)) (E := Set.univ)) $$ Hq with HB
  imodintro
  isplitl [HB]; · iexact HB
  rw [pending_zero, Finset.sdiff_self, bigSep_empty]
  isplitl [HG]; · iexact HG
  iempintro

/-- Starting the copy of the next group. -/
theorem start_one {β : Type} {s T j : ℕ} {off : Fin 1 → ℕ} {h} {off' : Fin 3 → ℕ} {h'} {offs : Fin 2 → ℕ} {hs} {hw1 hw2 hty}
    (hs5 : s < 4) (hj : j < 160) (ho : off = ![s]) (ho' : off' = ![s, 8 * j, 0]) (hos : offs = ![(at1 E.dst (160 * T + j)).toNat, 0])
    {k : PUnit → Prog (TpuEff nD τ sig (Elt F) Λ₀ .tc) β} {Q : β → sProp 𝕄} {Z : sProp 𝕄} (hk : iprop(Fill c E s T (j + 1) ∗ Z) ⊢ W c (k ⟨⟩) Q) :
    iprop(Fill c E s T j ∗ Z) ⊢ W c (.op (.enqueueDma (srcM offs hs) (.here (dstM off' h'))
      (.dma ((cc0_scratch1.slice (Rect.unit (s := S4) off S1.size h)).squeeze S_ squeezes_S1_S_).sem) hw1 hw2 hty) k) Q := by
  have e := sem_eq (h := h) hs5 ho
  revert hty
  rw [e]
  intro hty
  have hsrc : (srcM offs hs).view.set = rows8 (at1 E.dst (160 * T + j)).toNat := src_set hos
  have hdst : (dstM off' h').view.set = grp s j := dst_set ho'
  have hins : (Finset.univ \ pending (j + 1) : Finset (Fin 160)) = insert ⟨j, hj⟩ (Finset.univ \ pending j) := by
    rw [pending_succ hj]; ext x
    have := not_mem_pending_succ hj
    simp only [Finset.mem_sdiff, Finset.mem_univ, true_and, Finset.mem_insert, not_or]
    constructor
    · intro hx; by_cases hxj : x = ⟨j, hj⟩; · exact .inl hxj
      · exact .inr ⟨hxj, hx⟩
    · rintro (rfl | hx)
      · exact this
      · exact hx.2
  have hni : (⟨j, hj⟩ : Fin 160) ∉ (Finset.univ \ pending j : Finset (Fin 160)) := by
    rw [pending_succ hj]; simp
  unfold Fill
  iintro ⟨⟨HB, HP, HR⟩, HZ⟩
  ihave HP' := (show bigSep (pending j : Finset (Fin 160)) (fun g => gFree c E s g.val) ⊢ iprop(gFree c E s j ∗ bigSep (pending (j + 1) : Finset (Fin 160)) (fun g => gFree c E s g.val))
    from Entails.of_eq (by rw [pending_succ hj, bigSep_insert (not_mem_pending_succ hj)]; rfl)) $$ HP
  icases HP' with ⟨HG, HP⟩
  unfold gFree
  icases HG with ⟨⟨%f, Hd⟩, Hx⟩
  ihave Hx' := (pointsTo_split_subset (Finset.subset_univ (rows8 (at1 E.dst (160 * T + j)).toNat))).1 $$ Hx
  icases Hx' with ⟨Hx, Hr⟩
  iapply (wp_dmaBatch (EC (F := F)) Variants.none (c : Thread nD τ) none (src := srcM offs hs) (dst := dstM off' h') (via := ReadAs.same) (sm := SemLoc.dma (cell s))
    (Sd := grp s j) (fs := E.ys) (fd := f) (D := gDone c E s T) (q := tok s j) () grpN rfl (Finset.subset_of_eq hdst) hj (Nat.zero_le _) ?_) $$ [Hx Hd HB]
  · rw [hsrc]
    unfold gDone
    refine sep_mono (Entails.of_eq (pointsTo_congr ?_)) .rfl
    exact dst_write E.ys E.dst hj ho' hos f
  · rw [hsrc]
    isplitl [Hx]; · iexact Hx
    isplitl [Hd]; · iexact Hd
    iexact HB
  iintro HB
  iapply hk
  unfold Fill
  isplitr [HZ]; swap; · iexact HZ
  isplitl [HB]; · iexact HB
  isplitl [HP]; · iexact HP
  iapply (show iprop(gRest c E s T j ∗ bigSep (Finset.univ \ pending j : Finset (Fin 160)) (fun g => gRest c E s T g.val))
    ⊢ bigSep (Finset.univ \ pending (j + 1) : Finset (Fin 160)) (fun g => gRest c E s T g.val) from Entails.of_eq (by rw [hins, bigSep_insert hni]; rfl))
  isplitl [Hr]; · unfold gRest; iexact Hr
  iexact HR

/-- The same, the copy at the head of a sequence. -/
theorem start_rule {β : Type} {s T j : ℕ} {off : Fin 1 → ℕ} {h} {off' : Fin 3 → ℕ} {h'} {offs : Fin 2 → ℕ} {hs} {hw1 hw2 hty}
    (hs5 : s < 4) (hj : j < 160) (ho : off = ![s]) (ho' : off' = ![s, 8 * j, 0]) (hos : offs = ![(at1 E.dst (160 * T + j)).toNat, 0])
    {k : PUnit → Prog (TpuEff nD τ sig (Elt F) Λ₀ .tc) β} {Q : β → sProp 𝕄} {Z : sProp 𝕄} (hk : iprop(Fill c E s T (j + 1) ∗ Z) ⊢ W c (k ⟨⟩) Q) :
    iprop(Fill c E s T j ∗ Z) ⊢ W c (Prog.lift (.enqueueDma (srcM offs hs) (.here (dstM off' h'))
      (.dma ((cc0_scratch1.slice (Rect.unit (s := S4) off S1.size h)).squeeze S_ squeezes_S1_S_).sem) hw1 hw2 hty) >>= k) Q :=
  bind_rule (start_one hs5 hj ho ho' hos (pure_rule hk))

/-- The same, the copy at the end of a sequence. -/
theorem start_last {s T j : ℕ} {off : Fin 1 → ℕ} {h} {off' : Fin 3 → ℕ} {h'} {offs : Fin 2 → ℕ} {hs} {hw1 hw2 hty}
    (hs5 : s < 4) (hj : j < 160) (ho : off = ![s]) (ho' : off' = ![s, 8 * j, 0]) (hos : offs = ![(at1 E.dst (160 * T + j)).toNat, 0])
    {Q : PUnit → sProp 𝕄} {Z : sProp 𝕄} (hk : iprop(Fill c E s T (j + 1) ∗ Z) ⊢ Q ⟨⟩) :
    iprop(Fill c E s T j ∗ Z) ⊢ W c (Prog.lift (.enqueueDma (srcM offs hs) (.here (dstM off' h'))
      (.dma ((cc0_scratch1.slice (Rect.unit (s := S4) off S1.size h)).squeeze S_ squeezes_S1_S_).sem) hw1 hw2 hty)) Q :=
  start_one hs5 hj ho ho' hos (pure_rule hk)

/-- A landed group with what its copy left is a group of the full slot. -/
theorem gFull_of (s T : ℕ) (g : Fin 160) : iprop(gDone c E s T g ∗ gRest c E s T g.val) ⊢ (gFull c E s T g.val : sProp 𝕄) := by
  unfold gDone gRest gFull
  iintro ⟨⟨Hr, Hx⟩, Hx'⟩
  isplitl [Hr]; · iexact Hr
  iapply (pointsTo_split_subset (Finset.subset_univ (rows8 (at1 E.dst (160 * T + g.val)).toNat))).2
  isplitl [Hx]; · iexact Hx
  iexact Hx'

theorem gFull_free (s T j : ℕ) : (gFull c E s T j : sProp 𝕄) ⊢ gFree c E s j := by
  unfold gFull gFree
  iintro ⟨H, Hx⟩
  isplitl [H]
  · iexists _; iexact H
  iexact Hx

/-- A slot with every group started, waited for: it is full. -/
theorem wait_rule {β : Type} {s T : ℕ} {off : Fin 1 → ℕ} {h} {off' : Fin 3 → ℕ} {h'} (hs5 : s < 4) (ho : off = ![s])
    {srcw : Memref sig .tc .hbm S1280x1024 .f32} {hw1 : srcw.view.WordExact} {hw2 : (slotM off' h').view.WordExact} {k : PUnit → Prog (TpuEff nD τ sig (Elt F) Λ₀ .tc) β} {Q : β → sProp 𝕄} {Z : sProp 𝕄}
    (hk : iprop(Full c E s T ∗ (∃ Ws, owes (c : Thread nD τ) 0 Ws) ∗ Z) ⊢ W c (k ⟨⟩) Q) :
    iprop(Fill c E s T 160 ∗ (∃ Ws, owes (c : Thread nD τ) 0 Ws) ∗ Z) ⊢ W c (.op (.waitDma2 ((cc0_scratch1.slice (Rect.unit (s := S4) off S1.size h)).squeeze S_ squeezes_S1_S_).sem
      srcw (slotM off' h') hw1 hw2) k) Q := by
  rw [sem_eq (h := h) hs5 ho]
  have hp : (pending 160 : Finset (Fin 160)) = ∅ := Finset.filter_false_of_mem fun x _ => by have := x.isLt; omega
  unfold Fill
  iintro ⟨⟨HB, -, HR⟩, ⟨%Ws, HO⟩, HZ⟩
  iapply (wp_waitBatchAll (EC (F := F)) Variants.none (c : Thread nD τ) none () (slot_credit off' h') grpN_pos (D := gDone c E s T) (by rw [Nat.zero_add])) $$ [HB HO]
  · isplitl [HB]; · iexact HB
    iexact HO
  iintro ⟨HD, Hq, HO⟩
  iapply hk
  isplitr [HO HZ]; swap
  · isplitl [HO]; · iexists _; iexact HO
    iexact HZ
  unfold Full
  isplitl [Hq]; · iexact Hq
  rw [hp, Finset.sdiff_empty]
  iapply (show iprop(bigSep (Finset.univ : Finset (Fin 160)) (gDone c E s T) ∗ bigSep (Finset.univ : Finset (Fin 160)) (fun g => gRest c E s T g.val))
    ⊢ bigSep (Finset.univ : Finset (Fin 160)) (fun g => gFull c E s T g.val) from ?_) $$ [HD HR]
  · rw [← bigSep_sep']
    exact bigSep_mono fun g _ => gFull_of s T g
  · isplitl [HD]; · iexact HD
    iexact HR

/-- A full slot is free again. -/
theorem Full_free (s T : ℕ) : (Full c E s T : sProp 𝕄) ⊢ Free c E s := by
  unfold Full Free
  exact sep_mono .rfl (bigSep_mono fun g _ => gFull_free s T g.val)

end Cert.CombineIdeal.Hand
-- ==== Proof.CombineTrips.lean ====
/-
  Walking the copies of one chunk's gather: twenty trips of eight copies, each for one word of the table. The first
  three chunks name their slot by a literal, the later ones by the grid step.
-/
module

public import proofs.«01_k».proof.Proof.CombineRules

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-- A word's two side conditions, from the range the table keeps it in. -/
theorem chk_of {v : BitVec 32} (h : 8 ∣ v.toNat ∧ v.toNat + 8 ≤ 49152) (p q : Prop) :
    (∀ _ : p, 8 ∣ v.toNat) ∧ (∀ _ : q, ∀ a, (![v.toNat, 0] : Fin 2 → ℕ) a + S8x1024.size a ≤ S49152x1024.size a) :=
  ⟨fun _ => h.1, fun _ a => match a with | ⟨0, _⟩ => h.2 | ⟨1, _⟩ => Nat.le_refl 1024⟩

/-- What the proof asks of the table: every word names eight rows of the array, from a multiple of eight. -/
def Ok (E : Env F) : Prop := ∀ k, 8 ∣ (at1 E.dst k).toNat ∧ (at1 E.dst k).toNat + 8 ≤ 49152

/-- Before a rule, the resources in another arrangement. -/
theorem arr {P P' R : sProp 𝕄} (h : P ⊢ P') (h' : P' ⊢ R) : P ⊢ R := h.trans h'

/-! ## The offsets of a trip's eight copies -/

theorem trips1 : k0_t1_loop.trips = 20 := by decide +kernel
theorem trips2 : k0_t2_loop.trips = 20 := by decide +kernel
theorem trips3 : k0_t3_loop.trips = 20 := by decide +kernel
theorem trips4 : k0_t4_loop.trips = 20 := by decide +kernel

theorem iv_nat {k : ℕ} (hk : k < 20) : (Scf.iv 0#32 1#32 k).toNat = k := by
  simp only [Scf.iv, BitVec.toNat_add, BitVec.toNat_mul, BitVec.toNat_ofNat]; omega

/-- The table's word of copy `8 * k + u` of chunk `T`, the chunk's first word a literal. -/
theorem word_lit {k : ℕ} (hk : k < 20) {T u : ℕ} (hT : T < 3) (hu : u < 8) :
    (![(Scalar.addi (BitVec.ofNat 32 (160 * T)) (Scalar.addi (Scalar.muli (Scf.iv 0#32 1#32 k) 8#32) (BitVec.ofNat 32 u))).toNat] : Fin 1 → ℕ) = ![160 * T + (8 * k + u)] := by
  congr 1
  show (BitVec.ofNat 32 (160 * T) + (Scf.iv 0#32 1#32 k * 8#32 + BitVec.ofNat 32 u)).toNat = _
  simp only [BitVec.toNat_add, BitVec.toNat_mul, BitVec.toNat_ofNat, iv_nat hk]
  omega
/-- The same, the chunk three ahead of the grid step. -/
theorem word_ahead (i : grid0.Coords) {k : ℕ} (hk : k < 20) {u : ℕ} (hu : u < 8) :
    (![(Scalar.addi (Scalar.muli (Scalar.addi (BitVec.ofNat 32 (i 0).val) 3#32) 160#32) (Scalar.addi (Scalar.muli (Scf.iv 0#32 1#32 k) 8#32) (BitVec.ofNat 32 u))).toNat] : Fin 1 → ℕ)
      = ![160 * ((i 0).val + 3) + (8 * k + u)] := by
  have hq : (i 0).val < 32 := (i 0).isLt
  congr 1
  show ((BitVec.ofNat 32 (i 0).val + 3#32) * 160#32 + (Scf.iv 0#32 1#32 k * 8#32 + BitVec.ofNat 32 u)).toNat = _
  simp only [BitVec.toNat_add, BitVec.toNat_mul, BitVec.toNat_ofNat, iv_nat hk]
  omega

/-- The first row of a slot's group `8 * k + u`. -/
theorem row_nat {k : ℕ} (hk : k < 20) {u : ℕ} (hu : u < 8) :
    (Scalar.muli (Scalar.addi (Scalar.muli (Scf.iv 0#32 1#32 k) 8#32) (BitVec.ofNat 32 u)) 8#32).toNat = 8 * (8 * k + u) := by
  show ((Scf.iv 0#32 1#32 k * 8#32 + BitVec.ofNat 32 u) * 8#32).toNat = _
  simp only [BitVec.toNat_add, BitVec.toNat_mul, BitVec.toNat_ofNat, iv_nat hk]
  omega
theorem grp_lit {k : ℕ} (hk : k < 20) {s u : ℕ} (hu : u < 8) :
    (![s, (Scalar.muli (Scalar.addi (Scalar.muli (Scf.iv 0#32 1#32 k) 8#32) (BitVec.ofNat 32 u)) 8#32).toNat, 0] : Fin 3 → ℕ) = ![s, 8 * (8 * k + u), 0] :=
  congrArg (fun e => ![s, e, 0]) (row_nat hk hu)

/-- The remainder by four, as the body computes it. -/
def slotW (x : BitVec 32) : BitVec 32 :=
  let m : BitVec 32 := Scalar.select (Scalar.cmpi .eq 4#32 0#32) 1#32 4#32
  let r : BitVec 32 := Scalar.remsi x m
  Scalar.select (Scalar.andi (Scalar.xori (Scalar.cmpi .slt r 0#32) (Scalar.cmpi .slt m 0#32)) (Scalar.cmpi .ne r 0#32)) (Scalar.addi r m) r

theorem slotW_here (i : grid0.Coords) : (slotW (BitVec.ofNat 32 (i 0).val)).toNat = (i 0).val % 4 :=
  (by decide +kernel : ∀ q : Fin 32, (slotW (BitVec.ofNat 32 q.val)).toNat = q.val % 4) (i 0)
theorem slotW_ahead (i : grid0.Coords) : (slotW (Scalar.addi (BitVec.ofNat 32 (i 0).val) 3#32)).toNat = ((i 0).val + 3) % 4 :=
  (by decide +kernel : ∀ q : Fin 32, (slotW (Scalar.addi (BitVec.ofNat 32 q.val) 3#32)).toNat = (q.val + 3) % 4) (i 0)
theorem slot_here (i : grid0.Coords) : (![(slotW (BitVec.ofNat 32 (i 0).val)).toNat] : Fin 1 → ℕ) = ![(i 0).val % 4] :=
  congrArg (fun e => ![e]) (slotW_here i)
theorem slot_load (i : grid0.Coords) : (![(slotW (BitVec.ofNat 32 (i 0).val)).toNat, 0, 0] : Fin 3 → ℕ) = ![(i 0).val % 4, 0, 0] :=
  congrArg (fun e => ![e, 0, 0]) (slotW_here i)
theorem slot_sem (i : grid0.Coords) : (![(slotW (Scalar.addi (BitVec.ofNat 32 (i 0).val) 3#32)).toNat] : Fin 1 → ℕ) = ![((i 0).val + 3) % 4] :=
  congrArg (fun e => ![e]) (slotW_ahead i)
theorem slot_grp (i : grid0.Coords) {k : ℕ} (hk : k < 20) {u : ℕ} (hu : u < 8) :
    (![(slotW (Scalar.addi (BitVec.ofNat 32 (i 0).val) 3#32)).toNat, (Scalar.muli (Scalar.addi (Scalar.muli (Scf.iv 0#32 1#32 k) 8#32) (BitVec.ofNat 32 u)) 8#32).toNat, 0] : Fin 3 → ℕ)
      = ![((i 0).val + 3) % 4, 8 * (8 * k + u), 0] := by
  rw [slotW_ahead, row_nat hk hu]

/-! ## The trips -/

/-- A trip of chunk 0's gather. -/
theorem trip1 (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (hc : k0_cond1 i = 1#1) (k : Fin k0_t1_loop.trips) (Z : sProp 𝕄) :
    iprop(Fill c E 0 0 (8 * k.val) ∗ Tabs c E ∗ Z) ⊢ W c (k0_t1_body i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1 hc k ⟨⟩) (fun _ => iprop(Fill c E 0 0 (8 * (k.val + 1)) ∗ Tabs c E ∗ Z)) := by
  have hk : k.val < 20 := trips1 ▸ k.isLt
  unfold k0_t1_body
  refine bind_rule ?_
  rw [k0_part1_eq_skeleton]
  unfold k0_part1_skel
  refine dst_rule (word_lit (T := 0) (u := 0) hk (by decide) (by decide)) ?_
  refine assume_rule (chk_of (ok _) _ _) ?_
  refine start_rule (s := 0) (T := 0) (j := 8 * k.val + 0) (by decide) (by omega) rfl (grp_lit (u := 0) hk (by decide)) rfl ?_
  refine dst_rule (word_lit (T := 0) (u := 1) hk (by decide) (by decide)) ?_
  refine assume_rule (chk_of (ok _) _ _) ?_
  refine start_rule (s := 0) (T := 0) (j := 8 * k.val + 1) (by decide) (by omega) rfl (grp_lit (u := 1) hk (by decide)) rfl ?_
  refine dst_rule (word_lit (T := 0) (u := 2) hk (by decide) (by decide)) ?_
  refine assume_rule (chk_of (ok _) _ _) ?_
  refine pure_rule ?_
  refine bind_rule ?_
  rw [k0_part2_eq_skeleton]
  unfold k0_part2_skel
  refine start_rule (s := 0) (T := 0) (j := 8 * k.val + 2) (by decide) (by omega) rfl (grp_lit (u := 2) hk (by decide)) rfl ?_
  refine dst_rule (word_lit (T := 0) (u := 3) hk (by decide) (by decide)) ?_
  refine assume_rule (chk_of (ok _) _ _) ?_
  refine start_rule (s := 0) (T := 0) (j := 8 * k.val + 3) (by decide) (by omega) rfl (grp_lit (u := 3) hk (by decide)) rfl ?_
  refine dst_rule (word_lit (T := 0) (u := 4) hk (by decide) (by decide)) ?_
  refine assume_rule (chk_of (ok _) _ _) ?_
  refine start_rule (s := 0) (T := 0) (j := 8 * k.val + 4) (by decide) (by omega) rfl (grp_lit (u := 4) hk (by decide)) rfl ?_
  refine pure_rule ?_
  refine bind_rule ?_
  rw [k0_part3_eq_skeleton]
  unfold k0_part3_skel
  refine dst_rule (word_lit (T := 0) (u := 5) hk (by decide) (by decide)) ?_
  refine assume_rule (chk_of (ok _) _ _) ?_
  refine start_rule (s := 0) (T := 0) (j := 8 * k.val + 5) (by decide) (by omega) rfl (grp_lit (u := 5) hk (by decide)) rfl ?_
  refine dst_rule (word_lit (T := 0) (u := 6) hk (by decide) (by decide)) ?_
  refine assume_rule (chk_of (ok _) _ _) ?_
  refine start_rule (s := 0) (T := 0) (j := 8 * k.val + 6) (by decide) (by omega) rfl (grp_lit (u := 6) hk (by decide)) rfl ?_
  refine dst_rule (word_lit (T := 0) (u := 7) hk (by decide) (by decide)) ?_
  refine assume_rule (chk_of (ok _) _ _) ?_
  refine pure_rule ?_
  refine start_rule (s := 0) (T := 0) (j := 8 * k.val + 7) (by decide) (by omega) rfl (grp_lit (u := 7) hk (by decide)) rfl ?_
  exact pure_rule .rfl

/-- A trip of chunk 1's gather. -/
theorem trip2 (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (hc : k0_cond1 i = 1#1) (k : Fin k0_t2_loop.trips) (Z : sProp 𝕄) :
    iprop(Fill c E 1 1 (8 * k.val) ∗ Tabs c E ∗ Z) ⊢ W c (k0_t2_body i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1 hc k ⟨⟩) (fun _ => iprop(Fill c E 1 1 (8 * (k.val + 1)) ∗ Tabs c E ∗ Z)) := by
  have hk : k.val < 20 := trips2 ▸ k.isLt
  unfold k0_t2_body
  refine bind_rule ?_
  rw [k0_part4_eq_skeleton]
  unfold k0_part4_skel
  refine dst_rule (word_lit (T := 1) (u := 0) hk (by decide) (by decide)) ?_
  refine assume_rule (chk_of (ok _) _ _) ?_
  refine start_rule (s := 1) (T := 1) (j := 8 * k.val + 0) (by decide) (by omega) rfl (grp_lit (u := 0) hk (by decide)) rfl ?_
  refine dst_rule (word_lit (T := 1) (u := 1) hk (by decide) (by decide)) ?_
  refine assume_rule (chk_of (ok _) _ _) ?_
  refine start_rule (s := 1) (T := 1) (j := 8 * k.val + 1) (by decide) (by omega) rfl (grp_lit (u := 1) hk (by decide)) rfl ?_
  refine dst_rule (word_lit (T := 1) (u := 2) hk (by decide) (by decide)) ?_
  refine assume_rule (chk_of (ok _) _ _) ?_
  refine pure_rule ?_
  refine bind_rule ?_
  rw [k0_part5_eq_skeleton]
  unfold k0_part5_skel
  refine start_rule (s := 1) (T := 1) (j := 8 * k.val + 2) (by decide) (by omega) rfl (grp_lit (u := 2) hk (by decide)) rfl ?_
  refine dst_rule (word_lit (T := 1) (u := 3) hk (by decide) (by decide)) ?_
  refine assume_rule (chk_of (ok _) _ _) ?_
  refine start_rule (s := 1) (T := 1) (j := 8 * k.val + 3) (by decide) (by omega) rfl (grp_lit (u := 3) hk (by decide)) rfl ?_
  refine dst_rule (word_lit (T := 1) (u := 4) hk (by decide) (by decide)) ?_
  refine assume_rule (chk_of (ok _) _ _) ?_
  refine start_rule (s := 1) (T := 1) (j := 8 * k.val + 4) (by decide) (by omega) rfl (grp_lit (u := 4) hk (by decide)) rfl ?_
  refine pure_rule ?_
  refine bind_rule ?_
  rw [k0_part6_eq_skeleton]
  unfold k0_part6_skel
  refine dst_rule (word_lit (T := 1) (u := 5) hk (by decide) (by decide)) ?_
  refine assume_rule (chk_of (ok _) _ _) ?_
  refine start_rule (s := 1) (T := 1) (j := 8 * k.val + 5) (by decide) (by omega) rfl (grp_lit (u := 5) hk (by decide)) rfl ?_
  refine dst_rule (word_lit (T := 1) (u := 6) hk (by decide) (by decide)) ?_
  refine assume_rule (chk_of (ok _) _ _) ?_
  refine start_rule (s := 1) (T := 1) (j := 8 * k.val + 6) (by decide) (by omega) rfl (grp_lit (u := 6) hk (by decide)) rfl ?_
  refine dst_rule (word_lit (T := 1) (u := 7) hk (by decide) (by decide)) ?_
  refine assume_rule (chk_of (ok _) _ _) ?_
  refine pure_rule ?_
  refine start_rule (s := 1) (T := 1) (j := 8 * k.val + 7) (by decide) (by omega) rfl (grp_lit (u := 7) hk (by decide)) rfl ?_
  exact pure_rule .rfl

/-- A trip of chunk 2's gather. -/
theorem trip3 (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (hc : k0_cond1 i = 1#1) (k : Fin k0_t3_loop.trips) (Z : sProp 𝕄) :
    iprop(Fill c E 2 2 (8 * k.val) ∗ Tabs c E ∗ Z) ⊢ W c (k0_t3_body i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1 hc k ⟨⟩) (fun _ => iprop(Fill c E 2 2 (8 * (k.val + 1)) ∗ Tabs c E ∗ Z)) := by
  have hk : k.val < 20 := trips3 ▸ k.isLt
  unfold k0_t3_body
  refine bind_rule ?_
  rw [k0_part7_eq_skeleton]
  unfold k0_part7_skel
  refine dst_rule (word_lit (T := 2) (u := 0) hk (by decide) (by decide)) ?_
  refine assume_rule (chk_of (ok _) _ _) ?_
  refine start_rule (s := 2) (T := 2) (j := 8 * k.val + 0) (by decide) (by omega) rfl (grp_lit (u := 0) hk (by decide)) rfl ?_
  refine dst_rule (word_lit (T := 2) (u := 1) hk (by decide) (by decide)) ?_
  refine assume_rule (chk_of (ok _) _ _) ?_
  refine start_rule (s := 2) (T := 2) (j := 8 * k.val + 1) (by decide) (by omega) rfl (grp_lit (u := 1) hk (by decide)) rfl ?_
  refine dst_rule (word_lit (T := 2) (u := 2) hk (by decide) (by decide)) ?_
  refine assume_rule (chk_of (ok _) _ _) ?_
  refine pure_rule ?_
  refine bind_rule ?_
  rw [k0_part8_eq_skeleton]
  unfold k0_part8_skel
  refine start_rule (s := 2) (T := 2) (j := 8 * k.val + 2) (by decide) (by omega) rfl (grp_lit (u := 2) hk (by decide)) rfl ?_
  refine dst_rule (word_lit (T := 2) (u := 3) hk (by decide) (by decide)) ?_
  refine assume_rule (chk_of (ok _) _ _) ?_
  refine start_rule (s := 2) (T := 2) (j := 8 * k.val + 3) (by decide) (by omega) rfl (grp_lit (u := 3) hk (by decide)) rfl ?_
  refine dst_rule (word_lit (T := 2) (u := 4) hk (by decide) (by decide)) ?_
  refine assume_rule (chk_of (ok _) _ _) ?_
  refine start_rule (s := 2) (T := 2) (j := 8 * k.val + 4) (by decide) (by omega) rfl (grp_lit (u := 4) hk (by decide)) rfl ?_
  refine pure_rule ?_
  refine bind_rule ?_
  rw [k0_part9_eq_skeleton]
  unfold k0_part9_skel
  refine dst_rule (word_lit (T := 2) (u := 5) hk (by decide) (by decide)) ?_
  refine assume_rule (chk_of (ok _) _ _) ?_
  refine start_rule (s := 2) (T := 2) (j := 8 * k.val + 5) (by decide) (by omega) rfl (grp_lit (u := 5) hk (by decide)) rfl ?_
  refine dst_rule (word_lit (T := 2) (u := 6) hk (by decide) (by decide)) ?_
  refine assume_rule (chk_of (ok _) _ _) ?_
  refine start_rule (s := 2) (T := 2) (j := 8 * k.val + 6) (by decide) (by omega) rfl (grp_lit (u := 6) hk (by decide)) rfl ?_
  refine dst_rule (word_lit (T := 2) (u := 7) hk (by decide) (by decide)) ?_
  refine assume_rule (chk_of (ok _) _ _) ?_
  refine pure_rule ?_
  refine start_rule (s := 2) (T := 2) (j := 8 * k.val + 7) (by decide) (by omega) rfl (grp_lit (u := 7) hk (by decide)) rfl ?_
  exact pure_rule .rfl

/-- A trip of the gather of the chunk three ahead. -/
theorem trip4 (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (hc : k0_cond2 i = 1#1) (v : BitVec 32) (k : Fin k0_t4_loop.trips) (Z : sProp 𝕄) :
    iprop(Fill c E (((i 0).val + 3) % 4) ((i 0).val + 3) (8 * k.val) ∗ Tabs c E ∗ Z)
      ⊢ W c (k0_t4_body i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1 hc v k ⟨⟩) (fun _ => iprop(Fill c E (((i 0).val + 3) % 4) ((i 0).val + 3) (8 * (k.val + 1)) ∗ Tabs c E ∗ Z)) := by
  have hk : k.val < 20 := trips4 ▸ k.isLt
  have hs : ((i 0).val + 3) % 4 < 4 := Nat.mod_lt _ (by decide)
  unfold k0_t4_body
  refine bind_rule ?_
  rw [k0_part10_eq_skeleton]
  unfold k0_part10_skel
  refine dst_rule (word_ahead (u := 0) i hk (by decide)) ?_
  refine assume_rule (chk_of (ok _) _ _) ?_
  refine start_rule (s := ((i 0).val + 3) % 4) (T := (i 0).val + 3) (j := 8 * k.val + 0) hs (by omega) (slot_sem i) (slot_grp (u := 0) i hk (by decide)) rfl ?_
  refine dst_rule (word_ahead (u := 1) i hk (by decide)) ?_
  refine assume_rule (chk_of (ok _) _ _) ?_
  refine start_rule (s := ((i 0).val + 3) % 4) (T := (i 0).val + 3) (j := 8 * k.val + 1) hs (by omega) (slot_sem i) (slot_grp (u := 1) i hk (by decide)) rfl ?_
  refine dst_rule (word_ahead (u := 2) i hk (by decide)) ?_
  refine assume_rule (chk_of (ok _) _ _) ?_
  refine pure_rule ?_
  refine bind_rule ?_
  rw [k0_part11_eq_skeleton]
  unfold k0_part11_skel
  refine start_rule (s := ((i 0).val + 3) % 4) (T := (i 0).val + 3) (j := 8 * k.val + 2) hs (by omega) (slot_sem i) (slot_grp (u := 2) i hk (by decide)) rfl ?_
  refine dst_rule (word_ahead (u := 3) i hk (by decide)) ?_
  refine assume_rule (chk_of (ok _) _ _) ?_
  refine start_rule (s := ((i 0).val + 3) % 4) (T := (i 0).val + 3) (j := 8 * k.val + 3) hs (by omega) (slot_sem i) (slot_grp (u := 3) i hk (by decide)) rfl ?_
  refine dst_rule (word_ahead (u := 4) i hk (by decide)) ?_
  refine assume_rule (chk_of (ok _) _ _) ?_
  refine start_rule (s := ((i 0).val + 3) % 4) (T := (i 0).val + 3) (j := 8 * k.val + 4) hs (by omega) (slot_sem i) (slot_grp (u := 4) i hk (by decide)) rfl ?_
  refine dst_rule (word_ahead (u := 5) i hk (by decide)) ?_
  refine pure_rule ?_
  refine assume_rule (chk_of (ok _) _ _) ?_
  refine start_rule (s := ((i 0).val + 3) % 4) (T := (i 0).val + 3) (j := 8 * k.val + 5) hs (by omega) (slot_sem i) (slot_grp (u := 5) i hk (by decide)) rfl ?_
  refine dst_rule (word_ahead (u := 6) i hk (by decide)) ?_
  refine assume_rule (chk_of (ok _) _ _) ?_
  refine start_rule (s := ((i 0).val + 3) % 4) (T := (i 0).val + 3) (j := 8 * k.val + 6) hs (by omega) (slot_sem i) (slot_grp (u := 6) i hk (by decide)) rfl ?_
  refine dst_rule (word_ahead (u := 7) i hk (by decide)) ?_
  refine assume_rule (chk_of (ok _) _ _) ?_
  refine start_rule (s := ((i 0).val + 3) % 4) (T := (i 0).val + 3) (j := 8 * k.val + 7) hs (by omega) (slot_sem i) (slot_grp (u := 7) i hk (by decide)) rfl ?_
  exact pure_rule .rfl

end Cert.CombineIdeal.Hand
-- ==== Proof.CombineLoads.lean ====
/-
  Reading a full slot of the ring as a tile, and storing a whole output block.
-/
module

public import proofs.«01_k».proof.Proof.CombineTrips

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

variable (c) in
/-- What a core has announced, at anything. -/
def Owes : sProp 𝕄 := iprop(∃ Ws, owes (c : Thread nD τ) 0 Ws)

/-! ## Choices, waits, loops -/

theorem dite_rule {β : Type} {p : Prop} {d : Decidable p} {a : p → Prog (TpuEff nD τ sig (Elt F) Λ₀ .tc) β} {b : ¬ p → Prog (TpuEff nD τ sig (Elt F) Λ₀ .tc) β} {Q : β → sProp 𝕄} {P : sProp 𝕄}
    (h1 : ∀ h : p, P ⊢ W c (a h) Q) (h2 : ∀ h : ¬ p, P ⊢ W c (b h) Q) : P ⊢ W c (dite p a b) Q := by
  by_cases h : p
  · rw [dif_pos h]; exact h1 h
  · rw [dif_neg h]; exact h2 h

/-- A two-way choice whose second branch is the rest of the program. -/
theorem dite_tail {β : Type} {p : Prop} {d : Decidable p} {a : p → Prog (TpuEff nD τ sig (Elt F) Λ₀ .tc) β} {b : Prog (TpuEff nD τ sig (Elt F) Λ₀ .tc) β} {Q : β → sProp 𝕄} {P P' : sProp 𝕄}
    (h2 : ¬ p → P ⊢ P') (h1 : (P' ⊢ W c b Q) → ∀ h : p, P ⊢ W c (a h) Q) (hb : P' ⊢ W c b Q) : P ⊢ W c (dite p a (fun _ => b)) Q := by
  by_cases h : p
  · rw [dif_pos h]; exact h1 hb h
  · rw [dif_neg h]; exact BIBase.Entails.trans (h2 h) hb

theorem upd_step {α : Type} {p : Prog (TpuEff nD τ sig (Elt F) Λ₀ .tc) α} {Q : α → sProp 𝕄} {P P' : sProp 𝕄} (h : P ⊢ |={Set.univ}=> P') (h' : P' ⊢ W c p Q) : P ⊢ W c p Q :=
  BIBase.Entails.trans h (BIBase.Entails.trans (BI.fupd_mono h') (fupd_wp _ _ _ _ _))

/-- Waiting for a slot at the head of a sequence. -/
theorem wait_step {β : Type} {s T : ℕ} {off : Fin 1 → ℕ} {h} {off' : Fin 3 → ℕ} {h'} (hs5 : s < 4) (ho : off = ![s])
    {srcw : Memref sig .tc .hbm S1280x1024 .f32} {hw1 : srcw.view.WordExact} {hw2 : (slotM off' h').view.WordExact} {k : PUnit → Prog (TpuEff nD τ sig (Elt F) Λ₀ .tc) β} {Q : β → sProp 𝕄} {Z : sProp 𝕄}
    (hk : iprop(Full c E s T ∗ Owes c ∗ Z) ⊢ W c (k ⟨⟩) Q) :
    iprop(Fill c E s T 160 ∗ Owes c ∗ Z) ⊢ W c (Prog.lift (.waitDma2 ((cc0_scratch1.slice (Rect.unit (s := S4) off S1.size h)).squeeze S_ squeezes_S1_S_).sem
      srcw (slotM off' h') hw1 hw2) >>= k) Q :=
  bind_rule (wait_rule hs5 ho (pure_rule hk))

/-- A counted loop, by what holds before each trip. -/
theorem loop_rule (lp : Scf.Loop 32) (hok : lp.OK) (body : Fin lp.trips → PUnit → Prog (TpuEff nD τ sig (Elt F) Λ₀ .tc) PUnit) (I : ℕ → sProp 𝕄)
    (hstep : ∀ k : Fin lp.trips, I k.val ⊢ W c (body k ⟨⟩) (fun _ => I (k.val + 1))) :
    I 0 ⊢ W c (Scf.Loop.for lp hok ⟨⟩ body) (fun _ => I lp.trips) := by
  have h := exec_loop_last (M := 𝕄) frame (wpE (defs₀ (F := F)) Variants.none (c : Thread nD τ) none) Set.univ lp.lb lp.ub lp.st hok ⟨⟩ body
    { inv := fun k _ => I k, step := fun k _ => hstep k } (Q := fun _ => I lp.trips)
  have h' : I 0 ⊢ iprop((∀ acc : PUnit, I lp.trips -∗ I lp.trips) -∗ W c (Scf.Loop.for lp hok ⟨⟩ body) (fun _ => I lp.trips)) := h
  iintro HI
  iapply h' $$ [HI]
  · iexact HI
  iintro %acc H
  iexact H

/-! ## Loads and stores of whole buffers -/

theorem zero2 : (![0, 0] : Fin 2 → ℕ) = fun _ => 0 := funext fun a => match a with | ⟨0, _⟩ => rfl | ⟨1, _⟩ => rfl

/-- A load, as the value it reads. -/
theorem load_rule {β : Type} {cs : CoreSpace} {s : Shape} {e : EltTy} {m : Memref sig .tc cs s e} {r : LoadRect s} {hl : m.view.LoadsAt r} {q : PosShare TreeShare}
    {f : Buf (Elt F) (m.view.loc (c : Thread nD τ))} {v : r.shape.Idx → Elt F e} (hv : m.view.readAt (Elt F) r f = v)
    {k : (r.shape.Idx → Elt F e) → Prog (TpuEff nD τ sig (Elt F) Λ₀ .tc) β} {Q : β → sProp 𝕄} :
    (m.view.loc (c : Thread nD τ) ↦{q} f : sProp 𝕄)
      ⊢ iprop(((m.view.loc (c : Thread nD τ) ↦{q} f) -∗ W c (k v) Q) -∗ W c (Prog.lift (.load m r hl) >>= k) Q) := by
  subst hv
  iintro Hf Hk
  iapply (wp_load Variants.none (c : Thread nD τ) none Set.univ (Finset.subset_univ _)) $$ Hf
  iintro Hf
  iapply Hk
  iexact Hf

/-- Tile `T` as the body loads it. -/
def tileVec (E : Env F) (T : ℕ) : Vec F S1x1280x1024 .f32 := fun y => E.ys (rowIx (srcRow E.dst T (y 1).val) (y 2))

theorem grp_disj (s : ℕ) (g g' : Fin 160) (hg : g ≠ g') : Disjoint (grp s g.val) (grp s g'.val) := by
  rw [Finset.disjoint_left]
  intro x hx hx'
  rw [mem_grp] at hx hx'
  exact hg (Fin.ext (hx.2.symm.trans hx'.2))

theorem grp_union (s : ℕ) : (Finset.univ : Finset (Fin 160)).biUnion (fun g => grp s g.val) = slot s := by
  ext x
  have h1 : (x 1).val < 1280 := (x 1).isLt
  simp only [Finset.mem_biUnion, Finset.mem_univ, true_and, mem_grp, mem_slot]
  exact ⟨fun ⟨_, h⟩ => h.1, fun h => ⟨⟨(x 1).val / 8, by omega⟩, h, rfl⟩⟩

theorem grps_slot (s : ℕ) (f : S4x1280x1024.Idx → F .f32) :
    (ringPt c (slot s) f : sProp 𝕄) = bigSep (Finset.univ : Finset (Fin 160)) fun g => ringPt c (grp s g.val) f := by
  have h := pointsTo_biUnion (Ix := Unit) (Val := Elt F) (Name := ℕ) (U := Pipeline.UD sig nD τ) (Lvl := ℕ) (ℓ := (c : Thread nD τ).loc cc0_scratch0) (q := fullShare) (f := f) (Finset.univ : Finset (Fin 160)) (fun g => grp s g.val)
    (fun g _ g' _ hg => grp_disj s g g' hg)
  rw [grp_union] at h
  exact h

/-- A full slot's elements beside the rest of it. -/
theorem Full_split (s T : ℕ) : (Full c E s T : sProp 𝕄) = iprop(semVal ((c : Thread nD τ), SemLoc.dma (cell s)) 0 ∗ ringPt c (slot s) (tileBuf E.ys E.dst T)
    ∗ bigSep (Finset.univ : Finset (Fin 160)) fun g => xPt c E Finset.univ (tok s g.val)) := by
  unfold Full gFull
  rw [grps_slot, bigSep_sep']

theorem load_full {β : Type} {s T : ℕ} {off : Fin 3 → ℕ} {h} {hl} (ho : off = ![s, 0, 0])
    {k : Vec F S1x1280x1024 .f32 → Prog (TpuEff nD τ sig (Elt F) Λ₀ .tc) β} {Q : β → sProp 𝕄} {Z : sProp 𝕄}
    (hk : iprop(Full c E s T ∗ Z) ⊢ W c (k (tileVec E T)) Q) :
    iprop(Full c E s T ∗ Z) ⊢ W c (Prog.lift (.load (Memref.whole cc0_scratch0 : Memref sig .tc .vmem S4x1280x1024 .f32) (Rect.unit (s := S4x1280x1024) off S1x1280x1024.size h).toLoadRect hl) >>= k) Q := by
  subst ho
  rw [Full_split] at hk ⊢
  iintro ⟨⟨H1, H2, H3⟩, HZ⟩
  iapply (wp_load_rect Variants.none (c : Thread nD τ) none Set.univ (m := (Memref.whole cc0_scratch0 : Memref sig .tc .vmem S4x1280x1024 .f32)) (r := Rect.unit (s := S4x1280x1024) ![s, 0, 0] S1x1280x1024.size h) (S := slot s) (f := tileBuf E.ys E.dst T) (hl := hl) (q := fullShare) ?_) $$ H2
  · rw [show ((Memref.whole cc0_scratch0 : Memref sig .tc .vmem S4x1280x1024 .f32).access (Rect.unit (s := S4x1280x1024) ![s, 0, 0] S1x1280x1024.size h)).set
      = (Rect.unit (s := S4x1280x1024) ![s, 0, 0] S1x1280x1024.size h).set from View.set_slice_whole _ _]
    intro x hx
    rw [Rect.mem_set_unit] at hx
    have h0 := hx 0
    simp at h0
    exact mem_slot.2 (by omega)
  iintro H2
  rw [show ((Memref.whole cc0_scratch0 : Memref sig .tc .vmem S4x1280x1024 .f32).access (Rect.unit (s := S4x1280x1024) ![s, 0, 0] S1x1280x1024.size h)).read (Elt F) (tileBuf E.ys E.dst T) = tileVec E T from ?_]
  · iapply hk
    iframe
  · funext y
    show E.ys _ = E.ys _
    have e1 : ((Rect.unit (s := S4x1280x1024) ![s, 0, 0] S1x1280x1024.size h).emb y 1).val = (y 1).val := by show 0 + 1 * (y 1).val = _; omega
    have e2 : (Rect.unit (s := S4x1280x1024) ![s, 0, 0] S1x1280x1024.size h).emb y 2 = y 2 := by apply Fin.ext; show 0 + 1 * (y 2).val = _; omega
    show E.ys (rowIx (srcRow E.dst T ((Rect.unit (s := S4x1280x1024) ![s, 0, 0] S1x1280x1024.size h).emb y 1).val) ((Rect.unit (s := S4x1280x1024) ![s, 0, 0] S1x1280x1024.size h).emb y 2)) = _
    rw [e1, e2]

/-! ## The output block -/

theorem whole_store {sp : Space} {s : Shape} {e : EltTy} {m : Memref sig .tc sp s e} (hm : m.IsWhole) {off : Fin s.rank → ℕ} (h0 : off = fun _ => 0) (inb : ∀ a, off a + s.size a ≤ s.size a) (f) (w : s.Idx → Elt F e) :
    m.view.read (Elt F) ((m.access (Rect.unit off s.size inb)).write (Elt F) f w Finset.univ) = w := by
  obtain ⟨b, rfl, rfl, rfl, hb⟩ := hm
  obtain rfl := eq_of_heq hb
  exact (congrArg (fun g => (Memref.whole b).view.read (Elt F) g) (Memref.write_access_unit_zero_univ (Elt F) b h0 inb f w)).trans rfl

theorem out_store {β : Type} {om : Memref sig .tc .vmem S512x1024 .f32} (hom : om.IsWhole) {off} (h0 : off = fun _ => 0) {h} {hl hx hm} {w : FVec F S512x1024 .f32}
    {k : PUnit → Prog (TpuEff nD τ sig (Elt F) Λ₀ .tc) β} {Q : β → sProp 𝕄} {Z : sProp 𝕄}
    (hk : iprop(owns (c : Thread nD τ) om fullShare w ∗ Z) ⊢ W c (k ⟨⟩) Q) :
    iprop((∃ d, owns (c : Thread nD τ) om fullShare d) ∗ Z)
      ⊢ W c (Prog.lift (.load om (Rect.unit (s := S512x1024) off S512x1024.size h).toLoadRect hl) >>= fun _ => Prog.lift (.store om (Rect.unit (s := S512x1024) off S512x1024.size h) w Finset.univ hx hm) >>= k) Q := by
  unfold owns at hk ⊢
  rw [hom.set_eq_univ] at hk ⊢
  iintro ⟨⟨%d, %f, -, H⟩, HZ⟩
  iapply (load_rule rfl) $$ H
  iintro H
  iapply (wp_store Variants.none (c : Thread nD τ) none Set.univ (hx := hx) (hm := hm) (Finset.subset_univ _)) $$ H
  iintro H
  iapply hk
  isplitr [HZ]; swap; · iexact HZ
  iexists _
  isplitr; swap; · iexact H
  ipureintro
  exact whole_store hom h0 h f w

/-! ## The input blocks -/

theorem whole_load {sp : Space} {s : Shape} {e : EltTy} {m : Memref sig .tc sp s e} (hm : m.IsWhole) {off : Fin s.rank → ℕ} (h0 : off = fun _ => 0) (inb : ∀ a, off a + s.size a ≤ s.size a) (f) :
    m.view.readAt (Elt F) (Rect.unit off s.size inb).toLoadRect f = m.view.read (Elt F) f := by
  obtain ⟨b, rfl, rfl, rfl, hb⟩ := hm
  obtain rfl := eq_of_heq hb
  exact (Memref.readAt_unit_zero (Elt F) b h0 inb f).trans rfl

/-- A load of a whole input block. -/
theorem in_load {β : Type} {s : Shape} {e : EltTy} {m : Memref sig .tc .vmem s e} (hm : m.IsWhole) {off : Fin s.rank → ℕ} (h0 : off = fun _ => 0) {h} {hl} {v : s.Idx → Elt F e}
    {k : (s.Idx → Elt F e) → Prog (TpuEff nD τ sig (Elt F) Λ₀ .tc) β} {Q : β → sProp 𝕄} {Z : sProp 𝕄}
    (hk : iprop(owns (c : Thread nD τ) m fullShare v ∗ Z) ⊢ W c (k v) Q) :
    iprop(owns (c : Thread nD τ) m fullShare v ∗ Z)
      ⊢ W c (Prog.lift (.load m (Rect.unit off s.size h).toLoadRect hl) >>= (k : ((Rect.unit off s.size h).toLoadRect.shape.Idx → Elt F e) → _)) Q := by
  unfold owns at hk ⊢
  rw [hm.set_eq_univ] at hk ⊢
  iintro ⟨⟨%f, %hf, H⟩, HZ⟩
  iapply (load_rule (v := v) ((whole_load hm h0 h f).trans hf)) $$ H
  iintro H
  iapply hk
  isplitr [HZ]; swap; · iexact HZ
  iexists _
  isplitr; swap; · iexact H
  ipureintro
  exact hf

end Cert.CombineIdeal.Hand
-- ==== Proof.CombineBody.lean ====
/-
  The whole body of the combining kernel, one grid step: what it finds in hand, and what it leaves.
-/
module

public import proofs.«01_k».proof.Proof.CombineLoads

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

/-! ## The body's conditions -/

theorem cond1_iff (i : grid0.Coords) : k0_cond1 i = 1#1 ↔ (i 0).val = 0 :=
  (by decide +kernel : ∀ q : Fin 32, Scalar.cmpi .ne (Scalar.extui (Scalar.cmpi .eq (BitVec.ofNat 32 q.val) 0#32) : BitVec 32) 0#32 = 1#1 ↔ q.val = 0) (i 0)
theorem cond2_iff (i : grid0.Coords) : k0_cond2 i = 1#1 ↔ (i 0).val + 3 < 32 :=
  (by decide +kernel : ∀ q : Fin 32, Scalar.cmpi .ne (Scalar.extui (Scalar.cmpi .slt (Scalar.addi (BitVec.ofNat 32 q.val) 3#32) 32#32) : BitVec 32) 0#32 = 1#1 ↔ q.val + 3 < 32) (i 0)
theorem step_word (i : grid0.Coords) : (![(Scalar.indexCast (BitVec.ofNat 32 (i 0).val) : Index).toNat] : Fin 1 → ℕ) = ![(i 0).val] :=
  congrArg (fun e => ![e]) ((by decide +kernel : ∀ q : Fin 32, (Scalar.indexCast (BitVec.ofNat 32 q.val) : Index).toNat = q.val) (i 0))

/-- A counted loop at the head of a sequence. -/
theorem loop_step {β : Type} {lp : Scf.Loop 32} {hok : lp.OK} {body : Fin lp.trips → PUnit → Prog (TpuEff nD τ sig (Elt F) Λ₀ .tc) PUnit} (I : ℕ → sProp 𝕄) {n : ℕ} (hn : lp.trips = n)
    (hstep : ∀ k : Fin lp.trips, I k.val ⊢ W c (body k ⟨⟩) (fun _ => I (k.val + 1))) {k : PUnit → Prog (TpuEff nD τ sig (Elt F) Λ₀ .tc) β} {Q : β → sProp 𝕄} (hk : I n ⊢ W c (k ⟨⟩) Q) :
    I 0 ⊢ W c (Scf.Loop.for lp hok ⟨⟩ body >>= k) Q := by
  subst hn
  exact bind_rule ((loop_rule lp hok body I hstep).trans (wp_mono _ _ _ fun _ => hk))

theorem pure_front {φ : Prop} {P R : sProp 𝕄} (h : φ → P ⊢ R) : iprop(⌜φ⌝ ∗ P) ⊢ R := by
  iintro ⟨%h', H⟩
  iapply (h h') $$ H

/-! ## What a step finds and leaves -/

/-- Chunk `t` of the residual stream and of the tokens' places. -/
def x1B (E : Env F) (t : ℕ) : FVec F S512x1024 .f32 := fun y => E.x1 (ix2 ⟨(512 * t + (y 0).val) % 16384, Nat.mod_lt _ (by decide)⟩ (y 1))
def mfB (E : Env F) (t : ℕ) : FVec F S512x128 .f32 := fun y => E.mf (ix2 ⟨(512 * t + (y 0).val) % 16384, Nat.mod_lt _ (by decide)⟩ (y 1))

/-- The block the step of chunk `t` leaves. -/
def outVal (E : Env F) (t : ℕ) : FVec F S512x1024 .f32 :=
  k0_pay1 (k0_pay2 (at1 E.used t) (tileVec E t)) (mfB E t) (x1B E t) E.gfin

variable (c E) in
def AllFree : sProp 𝕄 := iprop(Free c E 0 ∗ Free c E 1 ∗ Free c E 2 ∗ Free c E 3)
variable (c E) in
/-- The slot of tile `u`: on the way where there is such a tile, else free. -/
def Slot (u : ℕ) : sProp 𝕄 := if u < 32 then Fill c E (u % 4) u 160 else Free c E (u % 4)
variable (c E) in
/-- The ring between two steps: three tiles on the way, one slot free. -/
def Mid (t : ℕ) : sProp 𝕄 := iprop(Slot c E t ∗ Slot c E (t + 1) ∗ Slot c E (t + 2) ∗ Free c E ((t + 3) % 4))
variable (c E) in
/-- The ring before step `t`. -/
def RingSt (t : ℕ) : sProp 𝕄 := if t = 0 then AllFree c E else Mid c E t

theorem slot_on {u : ℕ} (h : u < 32) : (Slot c E u : sProp 𝕄) = Fill c E (u % 4) u 160 := if_pos h
theorem slot_off {u : ℕ} (h : ¬ u < 32) : (Slot c E u : sProp 𝕄) = Free c E (u % 4) := if_neg h

theorem fill3 {Z : sProp 𝕄} : iprop(AllFree c E ∗ Z) ⊢ |={Set.univ}=> iprop(Fill c E 0 0 0 ∗ Fill c E 1 1 0 ∗ Fill c E 2 2 0 ∗ Free c E 3 ∗ Z) := by
  unfold AllFree
  iintro ⟨⟨H0, H1, H2, H3⟩, HZ⟩
  imod (fill_start 0 0) $$ H0 with H0
  imod (fill_start 1 1) $$ H1 with H1
  imod (fill_start 2 2) $$ H2 with H2
  imodintro
  iframe

theorem fill_step {s T : ℕ} {Z : sProp 𝕄} : iprop(Free c E s ∗ Z) ⊢ |={Set.univ}=> iprop(Fill c E s T 0 ∗ Z) := by
  iintro ⟨H, HZ⟩
  imod (fill_start s T) $$ H with H
  imodintro
  iframe

variable (c E) in
/-- The blocks a step reads. -/
def Ins (m3 : Memref sig .tc .vmem S512x1024 .f32) (m4 : Memref sig .tc .vmem S512x128 .f32) (m5 : Memref sig .tc .vmem S1x1024 .f32) (t : ℕ) : sProp 𝕄 :=
  iprop(owns (c : Thread nD τ) m3 fullShare (x1B E t) ∗ owns (c : Thread nD τ) m4 fullShare (mfB E t) ∗ owns (c : Thread nD τ) m5 fullShare E.gfin)

/-- The ring's part of the body: the gathers started, this chunk's rows waited for and read. -/
theorem part12 (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (Z : sProp 𝕄) :
    iprop(RingSt c E (i 0).val ∗ Tabs c E ∗ Owes c ∗ Z)
      ⊢ W c (k0_part12 i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1)
        (fun v => iprop(⌜v = k0_pay2 (at1 E.used (i 0).val) (tileVec E (i 0).val)⌝ ∗ RingSt c E ((i 0).val + 1) ∗ Tabs c E ∗ Owes c ∗ Z)) := by
  have hq : (i 0).val < 32 := (i 0).isLt
  rw [k0_part12_eq_skeleton]
  unfold k0_part12_skel
  refine dite_tail (P' := iprop(Mid c E (i 0).val ∗ Tabs c E ∗ Owes c ∗ Z)) (fun h => ?_) (fun hb h => ?_) ?_
  · have h0 : (i 0).val ≠ 0 := fun e => h ((cond1_iff i).2 e)
    unfold RingSt
    rw [if_neg h0]
  · have h0 : (i 0).val = 0 := (cond1_iff i).1 h
    unfold RingSt
    rw [if_pos h0]
    refine upd_step fill3 ?_
    refine arr (P' := iprop(Fill c E 0 0 (8 * 0) ∗ Tabs c E ∗ Fill c E 1 1 0 ∗ Fill c E 2 2 0 ∗ Free c E 3 ∗ Owes c ∗ Z)) (by iintro ⟨H1, H2, H3, H4, H5, H6, H7⟩; iframe) ?_
    refine loop_step (fun k => iprop(Fill c E 0 0 (8 * k) ∗ Tabs c E ∗ Fill c E 1 1 0 ∗ Fill c E 2 2 0 ∗ Free c E 3 ∗ Owes c ∗ Z)) trips1 (fun k => trip1 ok i m3 h3 m4 h4 m5 h5 m7 h7 h k _) ?_
    refine arr (P' := iprop(Fill c E 1 1 (8 * 0) ∗ Tabs c E ∗ Fill c E 0 0 160 ∗ Fill c E 2 2 0 ∗ Free c E 3 ∗ Owes c ∗ Z)) (by iintro ⟨H1, H2, H3, H4, H5, H6, H7⟩; iframe) ?_
    refine loop_step (fun k => iprop(Fill c E 1 1 (8 * k) ∗ Tabs c E ∗ Fill c E 0 0 160 ∗ Fill c E 2 2 0 ∗ Free c E 3 ∗ Owes c ∗ Z)) trips2 (fun k => trip2 ok i m3 h3 m4 h4 m5 h5 m7 h7 h k _) ?_
    refine arr (P' := iprop(Fill c E 2 2 (8 * 0) ∗ Tabs c E ∗ Fill c E 0 0 160 ∗ Fill c E 1 1 160 ∗ Free c E 3 ∗ Owes c ∗ Z)) (by iintro ⟨H1, H2, H3, H4, H5, H6, H7⟩; iframe) ?_
    refine loop_step (fun k => iprop(Fill c E 2 2 (8 * k) ∗ Tabs c E ∗ Fill c E 0 0 160 ∗ Fill c E 1 1 160 ∗ Free c E 3 ∗ Owes c ∗ Z)) trips3 (fun k => trip3 ok i m3 h3 m4 h4 m5 h5 m7 h7 h k _) ?_
    refine arr ?_ hb
    unfold Mid
    rw [h0, slot_on (by decide), slot_on (by decide), slot_on (by decide)]
    iintro ⟨H1, H2, H3, H4, H5, H6, H7⟩
    isplitl [H1 H3 H4 H5]
    · isplitl [H3]; · iexact H3
      isplitl [H4]; · iexact H4
      isplitl [H1]; · iexact H1
      iexact H5
    · iframe
  refine dite_tail (P' := iprop((Slot c E (i 0).val ∗ Slot c E ((i 0).val + 1) ∗ Slot c E ((i 0).val + 2) ∗ Slot c E ((i 0).val + 3)) ∗ Tabs c E ∗ Owes c ∗ Z)) (fun h => ?_) (fun hb h => ?_) ?_
  · have h0 : ¬ (i 0).val + 3 < 32 := fun e => h ((cond2_iff i).2 e)
    unfold Mid
    rw [slot_off h0]
  · have h0 : (i 0).val + 3 < 32 := (cond2_iff i).1 h
    unfold Mid
    refine arr (P' := iprop(Free c E (((i 0).val + 3) % 4) ∗ Tabs c E ∗ Slot c E (i 0).val ∗ Slot c E ((i 0).val + 1) ∗ Slot c E ((i 0).val + 2) ∗ Owes c ∗ Z)) (by iintro ⟨⟨H1, H2, H3, H4⟩, H5, H6, H7⟩; iframe) ?_
    refine upd_step (fill_step (T := (i 0).val + 3)) ?_
    refine loop_step (fun k => iprop(Fill c E (((i 0).val + 3) % 4) ((i 0).val + 3) (8 * k) ∗ Tabs c E ∗ Slot c E (i 0).val ∗ Slot c E ((i 0).val + 1) ∗ Slot c E ((i 0).val + 2) ∗ Owes c ∗ Z)) trips4 (fun k => trip4 ok i m3 h3 m4 h4 m5 h5 m7 h7 h _ k _) ?_
    refine arr ?_ hb
    rw [slot_on h0]
    iintro ⟨H1, H2, H3, H4, H5, H6, H7⟩
    iframe
  refine arr (P' := iprop(Fill c E ((i 0).val % 4) (i 0).val 160 ∗ Owes c ∗ Tabs c E ∗ Slot c E ((i 0).val + 1) ∗ Slot c E ((i 0).val + 2) ∗ Slot c E ((i 0).val + 3) ∗ Z))
    (by rw [slot_on hq]; iintro ⟨⟨H1, H2, H3, H4⟩, H5, H6, H7⟩; iframe) ?_
  refine wait_step (Nat.mod_lt _ (by decide)) (slot_here i) ?_
  refine arr (P' := iprop(Full c E ((i 0).val % 4) (i 0).val ∗ Tabs c E ∗ Owes c ∗ Slot c E ((i 0).val + 1) ∗ Slot c E ((i 0).val + 2) ∗ Slot c E ((i 0).val + 3) ∗ Z))
    (by iintro ⟨H1, H2, H3, H4, H5, H6, H7⟩; iframe) ?_
  refine used_rule (t := (i 0).val) (step_word i) ?_
  refine load_full (slot_load i) ?_
  refine pure_rule ?_
  unfold RingSt Mid
  rw [if_neg (Nat.succ_ne_zero _), show ((i 0).val + 1 + 3) % 4 = (i 0).val % 4 by omega]
  iintro ⟨H1, H2, H3, H4, H5, H6, H7⟩
  ihave H1 := (Full_free ((i 0).val % 4) (i 0).val) $$ H1
  isplitr; · ipureintro; rfl
  isplitl [H1 H4 H5 H6]
  · isplitl [H4]; · iexact H4
    isplitl [H5]; · iexact H5
    isplitl [H6]; · iexact H6
    iexact H1
  · iframe

theorem sound_body (ok : Ok E) (i : grid0.Coords) (m3 : Memref sig .tc .vmem S512x1024 .f32) (h3 : m3.IsWhole) (m4 : Memref sig .tc .vmem S512x128 .f32) (h4 : m4.IsWhole) (m5 : Memref sig .tc .vmem S1x1024 .f32) (h5 : m5.IsWhole) (m7 : Memref sig .tc .vmem S512x1024 .f32) (h7 : m7.IsWhole) (Z : sProp 𝕄) :
    iprop(RingSt c E (i 0).val ∗ Tabs c E ∗ Owes c ∗ Ins c E m3 m4 m5 (i 0).val ∗ (∃ d, owns (c : Thread nD τ) m7 fullShare d) ∗ Z)
      ⊢ W c (cc0_combine i (Memref.whole main_arg0) (Memref.isWhole_whole _) (Memref.whole main_arg1) (Memref.isWhole_whole _) m3 h3 m4 h4 m5 h5 (Memref.whole main_arg5) (Memref.isWhole_whole _) m7 h7 (Memref.whole cc0_scratch0) (Memref.isWhole_whole _) cc0_scratch1)
        (fun _ => iprop(RingSt c E ((i 0).val + 1) ∗ Tabs c E ∗ Owes c ∗ Ins c E m3 m4 m5 (i 0).val ∗ owns (c : Thread nD τ) m7 fullShare (outVal E (i 0).val) ∗ Z)) := by
  rw [cc0_combine_eq_skeleton]
  unfold cc0_combine_skel
  refine bind_rule ((part12 ok i m3 h3 m4 h4 m5 h5 m7 h7 _).trans (wp_mono _ _ _ fun v => ?_))
  unfold Ins
  refine pure_front fun hv => ?_
  subst hv
  refine arr (P' := iprop(owns (c : Thread nD τ) m4 fullShare (mfB E (i 0).val) ∗ owns (c : Thread nD τ) m3 fullShare (x1B E (i 0).val) ∗ owns (c : Thread nD τ) m5 fullShare E.gfin ∗ (∃ d, owns (c : Thread nD τ) m7 fullShare d) ∗ RingSt c E ((i 0).val + 1) ∗ Tabs c E ∗ Owes c ∗ Z))
    (by iintro ⟨H1, H2, H3, ⟨H4, H5, H6⟩, H7, H8⟩; iframe) ?_
  refine in_load h4 zero2 ?_
  refine arr (P' := iprop(owns (c : Thread nD τ) m3 fullShare (x1B E (i 0).val) ∗ owns (c : Thread nD τ) m5 fullShare E.gfin ∗ owns (c : Thread nD τ) m4 fullShare (mfB E (i 0).val) ∗ (∃ d, owns (c : Thread nD τ) m7 fullShare d) ∗ RingSt c E ((i 0).val + 1) ∗ Tabs c E ∗ Owes c ∗ Z))
    (by iintro ⟨H1, H2, H3, H4⟩; iframe) ?_
  refine in_load h3 zero2 ?_
  refine arr (P' := iprop(owns (c : Thread nD τ) m5 fullShare E.gfin ∗ owns (c : Thread nD τ) m3 fullShare (x1B E (i 0).val) ∗ owns (c : Thread nD τ) m4 fullShare (mfB E (i 0).val) ∗ (∃ d, owns (c : Thread nD τ) m7 fullShare d) ∗ RingSt c E ((i 0).val + 1) ∗ Tabs c E ∗ Owes c ∗ Z))
    (by iintro ⟨H1, H2, H3, H4⟩; iframe) ?_
  refine in_load h5 zero2 ?_
  refine arr (P' := iprop((∃ d, owns (c : Thread nD τ) m7 fullShare d) ∗ owns (c : Thread nD τ) m5 fullShare E.gfin ∗ owns (c : Thread nD τ) m3 fullShare (x1B E (i 0).val) ∗ owns (c : Thread nD τ) m4 fullShare (mfB E (i 0).val) ∗ RingSt c E ((i 0).val + 1) ∗ Tabs c E ∗ Owes c ∗ Z))
    (by iintro ⟨H1, H2, H3, H4, H5⟩; iframe) ?_
  refine out_store h7 zero2 ?_
  refine pure_rule ?_
  unfold outVal
  iintro ⟨H1, H2, H3, H4, H5, H6, H7, H8⟩
  iframe

end Cert.CombineIdeal.Hand
-- ==== Proof.CombineDeal.lean ====
/-
  Dealing the ring out at the start of the run, and gathering it in at the end: the ring buffer as its 160 groups of
  eight rows, the array of rows's permission as 160 shares and a remainder.
-/
module

public import proofs.«01_k».proof.Proof.CombineBody

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers

variable {F : FTy → Type} [FloatOps F]

local notation "𝕄" => MT nD τ sig Unit (Elt F) ℕ (Pipeline.UD sig nD τ) ℕ

variable {c : Dev nD} {E : Env F}

abbrev G := Fin 4 × Fin 160

theorem g_disj (g g' : G) (h : g ≠ g') : Disjoint (grp g.1.val g.2.val) (grp g'.1.val g'.2.val) := by
  rw [Finset.disjoint_left]
  intro x hx hx'
  rw [mem_grp] at hx hx'
  exact h (Prod.ext (Fin.ext (hx.1.symm.trans hx'.1)) (Fin.ext (hx.2.symm.trans hx'.2)))

theorem g_union : (Finset.univ : Finset G).biUnion (fun g => grp g.1.val g.2.val) = Finset.univ := by
  ext x
  have h0 : (x 0).val < 4 := (x 0).isLt
  have h1 : (x 1).val < 1280 := (x 1).isLt
  simp only [Finset.mem_biUnion, Finset.mem_univ, true_and, mem_grp, iff_true]
  exact ⟨(⟨(x 0).val, h0⟩, ⟨(x 1).val / 8, by omega⟩), rfl, rfl⟩

theorem ring_split (f : S4x1280x1024.Idx → F .f32) :
    (ringPt c Finset.univ f : sProp 𝕄) = bigSep (Finset.univ : Finset G) fun g => ringPt c (grp g.1.val g.2.val) f := by
  have h := pointsTo_biUnion (Ix := Unit) (Val := Elt F) (Name := ℕ) (U := Pipeline.UD sig nD τ) (Lvl := ℕ) (ℓ := (c : Thread nD τ).loc cc0_scratch0) (q := fullShare) (f := f) (Finset.univ : Finset G) (fun g => grp g.1.val g.2.val)
    (fun g _ g' _ hg => g_disj g g' hg)
  rw [g_union] at h
  exact h

theorem ring_join : bigSep (Finset.univ : Finset G) (fun g => iprop(∃ f, ringPt c (grp g.1.val g.2.val) f)) ⊢ (iprop(∃ f, ringPt c Finset.univ f) : sProp 𝕄) :=
  Ring.pointsTo_blocks_join_exists (Ix := Unit) (Val := Elt F) (Name := ℕ) (U := Pipeline.UD sig nD τ) (Lvl := ℕ) (ℓ := (c : Thread nD τ).loc cc0_scratch0) (q := fullShare) (fun g : G => grp g.1.val g.2.val)
    g_disj g_union (fun _ => (Scalar.ofBits .f32 0#32 : F .f32))

theorem toks_eq : (bigSep (Finset.univ : Finset (Fin (4 * 160))) (fun i => xPt c E Finset.univ (shareTok fullShare (4 * 160) i)) : sProp 𝕄)
    = bigSep (Finset.univ : Finset G) fun g => xPt c E Finset.univ (tok g.1.val g.2.val) := by
  rw [bigSep_univ_equiv (finProdFinEquiv (m := 4) (n := 160))]
  refine congrArg (bigSep Finset.univ) (funext fun g => ?_)
  show xPt c E Finset.univ (shareTokN fullShare (g.2.val + 160 * g.1.val)) = xPt c E Finset.univ (shareTokN fullShare (160 * g.1.val + g.2.val))
  rw [Nat.add_comm]

variable (c E) in
/-- The groups of all four slots, in hand. -/
def Groups : sProp 𝕄 := bigSep (Finset.univ : Finset G) fun g => gFree c E g.1.val g.2.val

theorem groups_eq : (Groups c E : sProp 𝕄) = iprop(bigSep (Finset.univ : Finset G) (fun g => iprop(∃ f, ringPt c (grp g.1.val g.2.val) f)) ∗ bigSep (Finset.univ : Finset G) fun g => xPt c E Finset.univ (tok g.1.val g.2.val)) := by
  unfold Groups gFree
  rw [bigSep_sep']

theorem groups_four : (Groups c E : sProp 𝕄) = iprop(bigSep (Finset.univ : Finset (Fin 160)) (fun j => gFree c E 0 j.val) ∗ bigSep (Finset.univ : Finset (Fin 160)) (fun j => gFree c E 1 j.val)
    ∗ bigSep (Finset.univ : Finset (Fin 160)) (fun j => gFree c E 2 j.val) ∗ bigSep (Finset.univ : Finset (Fin 160)) (fun j => gFree c E 3 j.val)) := by
  unfold Groups
  rw [bigSep_univ_prod, bigSep_univ_eq_bigSepL [(0 : Fin 4), 1, 2, 3] (by decide) (by decide)]
  rfl

variable (c) in
/-- The ring's four semaphores, at rest. -/
def RingSems : sProp 𝕄 := iprop(semVal ((c : Thread nD τ), SemLoc.dma (cell 0)) 0 ∗ semVal ((c : Thread nD τ), SemLoc.dma (cell 1)) 0 ∗ semVal ((c : Thread nD τ), SemLoc.dma (cell 2)) 0
  ∗ semVal ((c : Thread nD τ), SemLoc.dma (cell 3)) 0)

theorem free_eq : (AllFree c E : sProp 𝕄) ⊣⊢ iprop(RingSems c ∗ Groups c E) := by
  rw [groups_four]
  unfold AllFree Free RingSems
  constructor
  · iintro ⟨⟨A0, B0⟩, ⟨A1, B1⟩, ⟨A2, B2⟩, ⟨A3, B3⟩⟩; iframe
  · iintro ⟨⟨A0, A1, A2, A3⟩, ⟨B0, B1, B2, B3⟩⟩; iframe

theorem x_split : (xPt c E Finset.univ fullShare : sProp 𝕄) ⊢ iprop(xPt c E Finset.univ (shareDrop fullShare (4 * 160)) ∗ bigSep (Finset.univ : Finset G) fun g => xPt c E Finset.univ (tok g.1.val g.2.val)) := by
  rw [← toks_eq]
  exact pointsTo_toks_split (Ix := Unit) (Val := Elt F) (Name := ℕ) (U := Pipeline.UD sig nD τ) (Lvl := ℕ) (ℓ := (c : Thread nD τ).loc main_arg5) (S := Finset.univ) (f := E.ys) fullShare (4 * 160)

theorem x_join : iprop(xPt c E Finset.univ (shareDrop fullShare (4 * 160)) ∗ bigSep (Finset.univ : Finset G) fun g => xPt c E Finset.univ (tok g.1.val g.2.val)) ⊢ (xPt c E Finset.univ fullShare : sProp 𝕄) := by
  rw [← toks_eq]
  exact pointsTo_toks_join (Ix := Unit) (Val := Elt F) (Name := ℕ) (U := Pipeline.UD sig nD τ) (Lvl := ℕ) (ℓ := (c : Thread nD τ).loc main_arg5) (S := Finset.univ) (f := E.ys) fullShare (4 * 160)

theorem ring_piece (f : S4x1280x1024.Idx → F .f32) (g : G) : (ringPt c (grp g.1.val g.2.val) f : sProp 𝕄) ⊢ iprop(∃ f, ringPt c (grp g.1.val g.2.val) f) := by
  iintro H; iexists f; iexact H

theorem free_in : (iprop(RingSems c ∗ bigSep (Finset.univ : Finset G) (fun g => iprop(∃ f, ringPt c (grp g.1.val g.2.val) f)) ∗ bigSep (Finset.univ : Finset G) fun g => xPt c E Finset.univ (tok g.1.val g.2.val)) : sProp 𝕄) ⊢ AllFree c E := by
  rw [← groups_eq]; exact free_eq.2
theorem free_out : (AllFree c E : sProp 𝕄) ⊢ iprop(RingSems c ∗ bigSep (Finset.univ : Finset G) (fun g => iprop(∃ f, ringPt c (grp g.1.val g.2.val) f)) ∗ bigSep (Finset.univ : Finset G) fun g => xPt c E Finset.univ (tok g.1.val g.2.val)) := by
  rw [← groups_eq]; exact free_eq.1

theorem ring_open (f : S4x1280x1024.Idx → F .f32) : (ringPt c Finset.univ f : sProp 𝕄) ⊢ bigSep (Finset.univ : Finset G) (fun g => iprop(∃ f, ringPt c (grp g.1.val g.2.val) f)) := by
  rw [ring_split]
  exact bigSep_mono fun g _ => ring_piece f g

theorem deal : iprop(RingSems c ∗ (∃ f, ringPt c Finset.univ f) ∗ xPt c E Finset.univ fullShare) ⊢ (iprop(AllFree c E ∗ xPt c E Finset.univ (shareDrop fullShare (4 * 160))) : sProp 𝕄) := by
  iintro ⟨HS, ⟨%f, HR⟩, HX⟩
  ihave HX := x_split $$ HX
  icases HX with ⟨HX, HT⟩
  ihave HR := (ring_open f) $$ HR
  isplitr [HX]; swap; · iexact HX
  iapply free_in
  iframe

theorem gather_in : (iprop(AllFree c E ∗ xPt c E Finset.univ (shareDrop fullShare (4 * 160))) : sProp 𝕄) ⊢ iprop(RingSems c ∗ (∃ f, ringPt c Finset.univ f) ∗ xPt c E Finset.univ fullShare) := by
  iintro ⟨HF, HX⟩
  ihave HF := free_out $$ HF
  icases HF with ⟨HS, HR, HT⟩
  ihave HR := ring_join $$ HR
  isplitl [HS]; · iexact HS
  isplitl [HR]; · iexact HR
  iapply x_join
  iframe

end Cert.CombineIdeal.Hand
-- ==== Proof.CombineRun.lean ====
/-
  The run of the combining kernel: the invariant between steps, the proof data of its one pipeline, the body obligation at
  every step, and what the run leaves.
-/
module

public import proofs.«01_k».proof.Proof.CombineDeal

@[expose] public section

noncomputable section

namespace Cert.CombineIdeal.Hand

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3 eq_ix1 eq_ix2 eq_ix3)
open Idealize.ShloMosaic.Transfers
open Idealize.ShloMosaic.Pipeline

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's buffers at the launch. -/
abbrev V (c : Dev nD) (b : Ref sig .tc) : Buf (Elt F) ((c : Thread nD τ).loc b) := m ((c : Thread nD τ).loc b)

/-- The kernel's arguments on a device. -/
def envOf (c : Dev nD) : Env F := ⟨V m c main_arg0, V m c main_arg1, V m c main_arg2, V m c main_arg3, V m c main_arg4, V m c main_arg5⟩

/-- The prefetched tables' contents. -/
def tbl : (pre0.Contents (Elt F)) := fun k => V m 0 (pre0.ref k)
/-- They are admissible: the region checks nothing of them. -/
def adm (p : Fin 1) : (pcfgs (F := F) p).Adm := ⟨tbl m, trivial⟩

/-! ## The kernel's own cells and buffers -/

/-- The ring's four semaphores. -/
abbrev osem0 : Fin 4 → SemLoc sig := fun j => (![SemLoc.dma 7, SemLoc.dma 8, SemLoc.dma 9, SemLoc.dma 10] : Fin 4 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = RingSems c := by
  rw [Pipeline.ownSems0_eq_of_list c osem0 [0, 1, 2, 3] (by decide) (by decide)]; rfl

/-- The array the body's copies read. -/
def H0 : Finset (Ref sig .tc) := {main_arg5}
theorem H0_sub : H0 ⊆ Pipeline.restRefsP sig pre0 spec0 := by decide
theorem hbm_eq (c : Dev nD) :
    (bigSep H0 (fun b => ((c : Thread nD τ).loc b) ↦{fullShare} V m c b) : sProp 𝕄) = (((c : Thread nD τ).loc main_arg5) ↦{fullShare} V m c main_arg5) := by
  rw [BI.bigSep_eq_bigSepL_of_eq [main_arg5] (by decide) (by decide)]; rfl

theorem tabs_eq (c : Dev nD) : (Pipeline.prefHeld (Ix := Unit) (Name := ℕ) (U := Pipeline.UD sig nD τ) (Lvl := ℕ) (Val := Elt F) pre0 c (fun _ => fullShare.right) (tbl m) : sProp 𝕄) = Tabs c (envOf m c) := by
  unfold Pipeline.prefHeld
  rw [bigSep_univ_eq_bigSepL [(0 : Fin 2), 1] (by decide) (by decide)]
  obtain rfl : c = 0 := Subsingleton.elim _ _
  rfl

/-! ## The invariant between steps -/

variable (c : Dev nD) (E : Env F)

/-- What the steps hand on: the ring, the tables, the rest of the array of rows, the random registers. -/
def Inv (t : ℕ) : sProp 𝕄 :=
  iprop(RingSt c E t ∗ Tabs c E ∗ xPt c E Finset.univ (shareDrop fullShare (4 * 160)) ∗ (∃ r, prngReg c r))

theorem inv_first {E : Env F} : iprop(AllFree c E ∗ Tabs c E ∗ xPt c E Finset.univ (shareDrop fullShare (4 * 160)) ∗ (∃ r, prngReg c r)) ⊢ (Inv c E 0 : sProp 𝕄) := by
  unfold Inv RingSt
  rw [if_pos rfl]

theorem ring_last {E : Env F} : (RingSt c E 32 : sProp 𝕄) ⊢ AllFree c E := by
  unfold RingSt Mid AllFree
  rw [if_neg (by decide), slot_off (by decide), slot_off (by decide), slot_off (by decide)]

theorem hin0 : iprop(Pipeline.ΦD osem0 spec0 H0 (V m) c ∗ Pipeline.ΦT pre0 (tbl m) c) ⊢ (Inv c (envOf m c) 0 : sProp 𝕄) := by
  refine arr ?_ (inv_first c)
  rw [Pipeline.ΦD_eq, scopedRest0_eq, ownSems00_eq, hbm_eq]
  unfold Pipeline.ΦT
  rw [tabs_eq]
  iintro ⟨⟨HR, HG, HS, HX⟩, HT⟩
  ihave HF := (deal (c := c) (E := envOf m c)) $$ [HS HR HX]
  · isplitl [HS]
    · iexact HS
    isplitl [HR]
    · iexact HR
    iexact HX
  icases HF with ⟨HF, HX⟩
  isplitl [HF]; · iexact HF
  isplitl [HT]; · iexact HT
  isplitl [HX]; · iexact HX
  iexact HG

theorem hout0 : (Inv c (envOf m c) 32 : sProp 𝕄) ⊢ Pipeline.ΦD osem0 spec0 H0 (V m) c := by
  rw [Pipeline.ΦD_eq, scopedRest0_eq, ownSems00_eq, hbm_eq]
  unfold Inv
  iintro ⟨HF, HT, HX, HG⟩
  ihave HF := (ring_last c) $$ HF
  ihave HF := (gather_in (c := c) (E := envOf m c)) $$ [HF HX]
  · isplitl [HF]; · iexact HF
    iexact HX
  icases HF with ⟨HS, HR, HX⟩
  isplitl [HR]; · iexact HR
  isplitl [HG]; · iexact HG
  isplitl [HS]; · iexact HS
  iexact HX

/-! ## The proof data and the body obligation -/

/-- The pipeline at the tables' contents. -/
abbrev pcf : Pipeline.Cfg sig Λ₀ := Pipeline.pin (pcfgs (F := F)) (adm m) 0

/-- The point's one coordinate is its number. -/
theorem coord_val (t : Fin (pcf m).N) : (grid0.coords t 0).val = t.val := by
  have h : ∀ t : Fin grid0.N, (grid0.coords t 0).val = t.val := by decide +kernel
  exact h t

/-- The proof data of the one pipeline: each input's block as the step finds it, the result's block after step `t`; the invariant is `Inv`. -/
def dats (_ : Fin 1) (c : Dev nD) : Dat τ (Elt F) Unit ℕ (Pipeline.UD sig nD τ) ℕ (pcf m) c where
  A w := V m c (Pipeline.arrRef spec0 w)
  after w t := match w with
    | ⟨0, _⟩ => x1B (envOf m c) t.val
    | ⟨1, _⟩ => mfB (envOf m c) t.val
    | ⟨2, _⟩ => (envOf m c).gfin
    | ⟨3, _⟩ => outVal (envOf m c) t.val
  Φ t := Inv c (envOf m c) t.val
  q _ := fullShare
  owed _ := 0

theorem A_eq (w : Fin (pcf m).W) : (dats m 0 c).A w = V m c (Pipeline.arrRef spec0 w) := by
  dsimp only [dats]
theorem after0 (t : Fin (pcf m).N) : (dats m 0 c).after 0 t = x1B (envOf m c) t.val := rfl
theorem after1 (t : Fin (pcf m).N) : (dats m 0 c).after 1 t = mfB (envOf m c) t.val := rfl
theorem after2 (t : Fin (pcf m).N) : (dats m 0 c).after 2 t = (envOf m c).gfin := rfl
theorem after3 (t : Fin (pcf m).N) : (dats m 0 c).after 3 t = outVal (envOf m c) t.val := rfl

/-! ## What a step finds of its inputs -/

theorem step_word' (t : Fin (pcf m).N) : (BitVec.ofNat 32 (grid0.coords t 0).val).toNat = t.val := by
  have h : (grid0.coords t 0).val < 32 := (grid0.coords t 0).isLt
  rw [BitVec.toNat_ofNat, Nat.mod_eq_of_lt (by omega), coord_val m t]

theorem fetch0 : ∀ t : Fin (pcf m).N, ((pcf m).win 0).fetch t = true := of_decide_eq_true (by sl_kernel_rfl)
theorem fetch1 : ∀ t : Fin (pcf m).N, ((pcf m).win 1).fetch t = true := of_decide_eq_true (by sl_kernel_rfl)
theorem fetch2 : ∀ t : Fin (pcf m).N, ((pcf m).win 2).fetch t = decide (t.val = 0) := of_decide_eq_true (by sl_kernel_rfl)

theorem before0 (t : Fin (pcf m).N) (d) : (dats m 0 c).before 0 t d = x1B (envOf m c) t.val := by
  unfold Dat.before
  rw [if_pos (fetch0 m t)]
  funext y
  show V m c main_arg2 _ = V m c main_arg2 _
  refine congrArg _ (funext fun a => ?_)
  have ht : t.val < 32 := t.isLt
  have hy : (y (0 : Fin 2)).val < 512 := (y (0 : Fin 2)).isLt
  match a with
  | ⟨0, _⟩ =>
    apply Fin.ext
    show (BitVec.ofNat 32 (grid0.coords t 0).val).toNat * 512 + 1 * (y (0 : Fin 2)).val = (512 * t.val + (y (0 : Fin 2)).val) % 16384
    rw [step_word' m t]; omega
  | ⟨1, _⟩ =>
    apply Fin.ext
    show 0 * 1024 + 1 * (y (1 : Fin 2)).val = (y (1 : Fin 2)).val
    omega
theorem before1 (t : Fin (pcf m).N) (d) : (dats m 0 c).before 1 t d = mfB (envOf m c) t.val := by
  unfold Dat.before
  rw [if_pos (fetch1 m t)]
  funext y
  show V m c main_arg3 _ = V m c main_arg3 _
  refine congrArg _ (funext fun a => ?_)
  have ht : t.val < 32 := t.isLt
  have hy : (y (0 : Fin 2)).val < 512 := (y (0 : Fin 2)).isLt
  match a with
  | ⟨0, _⟩ =>
    apply Fin.ext
    show (BitVec.ofNat 32 (grid0.coords t 0).val).toNat * 512 + 1 * (y (0 : Fin 2)).val = (512 * t.val + (y (0 : Fin 2)).val) % 16384
    rw [step_word' m t]; omega
  | ⟨1, _⟩ =>
    apply Fin.ext
    show 0 * 128 + 1 * (y (1 : Fin 2)).val = (y (1 : Fin 2)).val
    omega
theorem before2 (t : Fin (pcf m).N) (d) : (dats m 0 c).before 2 t d = (envOf m c).gfin := by
  have hf := fetch2 m t
  by_cases h0 : t.val = 0
  · rw [decide_eq_true h0] at hf
    unfold Dat.before
    rw [if_pos hf]
    funext y
    show V m c main_arg4 _ = V m c main_arg4 _
    refine congrArg _ (funext fun a => ?_)
    match a with
    | ⟨0, _⟩ =>
      apply Fin.ext
      show 0 * 1 + 1 * (y (0 : Fin 2)).val = (y (0 : Fin 2)).val
      omega
    | ⟨1, _⟩ =>
      apply Fin.ext
      show 0 * 1024 + 1 * (y (1 : Fin 2)).val = (y (1 : Fin 2)).val
      omega
  · rw [decide_eq_false h0] at hf
    rw [Dat.before_unfetched_in (dats m 0 c) 2 rfl t hf (fun _ => rfl)]
    rfl

/-- The staging buffers at point `t`. -/
abbrev ms0 (t : Fin (pcf m).N) : Memref sig .tc .vmem S512x1024 .f32 := (pcf m).win 0 |>.stage ((pcf m).slots t 0)
abbrev ms1 (t : Fin (pcf m).N) : Memref sig .tc .vmem S512x128 .f32 := (pcf m).win 1 |>.stage ((pcf m).slots t 1)
abbrev ms2 (t : Fin (pcf m).N) : Memref sig .tc .vmem S1x1024 .f32 := (pcf m).win 2 |>.stage ((pcf m).slots t 2)
abbrev ms3 (t : Fin (pcf m).N) : Memref sig .tc .vmem S512x1024 .f32 := (pcf m).win 3 |>.stage ((pcf m).slots t 3)

def bodyPre (t : Fin (pcf m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
def bodyPost (t : Fin (pcf m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem step_body (ok : Ok (envOf m c)) (t : Fin (pcf m).N) :
    bodyPre m c t ⊢ W c (defs₀ (F := F) .tc (pcf m).body ((pcf m).bodyArgs t ((pcf m).slots t))) (fun _ => bodyPost m c t) := by
  have key := sound_body (c := c) (E := envOf m c) ok (grid0.coords t) (ms0 m t) (hstage0_0 _) (ms1 m t) (hstage0_1 _) (ms2 m t) (hstage0_2 _) (ms3 m t) (hstage0_3 _) iprop(xPt c (envOf m c) Finset.univ (shareDrop fullShare (4 * 160)) ∗ (∃ r, prngReg c r))
  rw [coord_val m t] at key
  unfold defs₀; rw [Defs.onTc_tc]
  refine triple_restated key rfl ?_ fun _ => ?_
  · unfold bodyPre Dat.owesAt Pipeline.owesWithin
    rw [show (dats m 0 c).owed t.castSucc = 0 from rfl, show (dats m 0 c).Φ t.castSucc = Inv c (envOf m c) t.val from rfl]
    simp only [before0, before1, before2]
    unfold Inv Owes Ins
    iintro ⟨⟨H1, H3, H4, H5⟩, ⟨%Ws, -, HW⟩, ⟨%d0, Hi0⟩, ⟨%d1, Hi1⟩, ⟨%d2, Hi2⟩, ⟨%d, Ho⟩⟩
    isplitl [H1]; · iexact H1
    isplitl [H3]; · iexact H3
    isplitl [HW]; · iexists Ws; iexact HW
    isplitl [Hi0 Hi1 Hi2]
    · isplitl [Hi0]; · iexact Hi0
      isplitl [Hi1]; · iexact Hi1
      iexact Hi2
    isplitl [Ho]; · iexists _; iexact Ho
    isplitl [H4]; · iexact H4
    iexact H5
  · unfold bodyPost Dat.owesAt Pipeline.owesWithin
    rw [show (dats m 0 c).owed t.succ = 0 from rfl, show (dats m 0 c).Φ t.succ = Inv c (envOf m c) (t.val + 1) from rfl, after0, after1, after2, after3]
    unfold Inv Owes Ins
    iintro ⟨H1, H3, ⟨%Ws, HW⟩, ⟨Hi0, Hi1, Hi2⟩, Ho, H4, H5⟩
    isplitl [H1 H3 H4 H5]
    · isplitl [H1]; · iexact H1
      isplitl [H3]; · iexact H3
      isplitl [H4]; · iexact H4
      iexact H5
    isplitl [HW]
    · iexists Ws; isplitr; · ipureintro; exact fun _ _ => Or.inl trivial
      iexact HW
    isplitl [Hi0]; · iexact Hi0
    isplitl [Hi1]; · iexact Hi1
    isplitl [Hi2]; · iexact Hi2
    iexact Ho

theorem body_obligation (ok : ∀ c, Ok (envOf m c)) : BodyObligation (dats (F := F) m 0 c) (defs₀ (F := F)) Variants.none () Set.univ := fun t => by
  rw [bigSep_W0, bigSep_W0]
  exact triple_restated (step_body m c (ok c) t) rfl .rfl fun _ => .rfl

/-! ## The run -/

set_option backward.isDefEq.respectTransparency.types false in
theorem run_main (ok : ∀ c, Ok (envOf m c)) : θ_run defs (onTc (τ := τ) (main (F := F))) (s₀ m ρ) (fun r => Pipeline.FramePost (Pipeline.pin (pcfgs (F := F)) (adm m)) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m c ok).loose) (hshare := fun c => (dats m 0 c).share_full fun _ => rfl)
    (howed := fun _ _ => rfl) (V := V m) (hmain := Pipeline.hmainP_region pcfgs 0 defs₀ Variants.none m main fun c => (main_chain c).trans rfl)
    (hA := A_eq m) (hpf := fun c k => by obtain rfl : c = 0 := Subsingleton.elim _ _; rfl)
    (hin := fun c => hin0 m c) (hout := fun c => hout0 m c)

/-- What the run leaves: the arguments as they were, the result what the steps wrote, every counter at zero. -/
theorem run_out (ok : ∀ c, Ok (envOf m c)) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m 0 c).arrAt 3 (pcf m).N)
      ∧ r.2.sem = fun _ => 0) :=
  (θ_run defs _ _).mono (fun _ h => ⟨fun c => ⟨⟨(h.1 c).2 main_arg0 (Pipeline.mem_restRefs_of (win := spec0) main_arg0 (by decide) (by decide)),
      (h.1 c).2 main_arg1 (Pipeline.mem_restRefs_of (win := spec0) main_arg1 (by decide) (by decide)),
      ((h.1 c).1 0).trans ((dats m 0 c).arrAt_in 0 rfl _),
      ((h.1 c).1 1).trans ((dats m 0 c).arrAt_in 1 rfl _),
      ((h.1 c).1 2).trans ((dats m 0 c).arrAt_in 2 rfl _),
      (h.1 c).2 main_arg5 (Pipeline.mem_restRefs_of (win := spec0) main_arg5 (by decide) (by decide))⟩, (h.1 c).1 3⟩, h.2⟩) (run_main m ρ ok)

end Cert.CombineIdeal.Hand
-- ==== Proof.CombinePre.lean ====
/-
  The precondition on the table of the groups, decoded: every word names eight rows of the array, from a multiple of eight.
-/
module

public import proofs.«01_k».proof.Proof.CombineTrips
public import proofs.«01_k».proof.Proof.Gen.Pre_row_groups
public import Idealize.ShloMosaic.Lib.Pointwise

@[expose] public section

noncomputable section

namespace Cert.CombineIdeal.Hand

open Cert.CombineIdeal Cert.CombineIdeal.Gen
open Idealize.ShloMosaic

variable {F : FTy → Type} [FloatOps F]

theorem low3 (v : BitVec 32) (h : v &&& 7#32 = 0#32) : v.toNat % 8 = 0 := by
  have := congrArg BitVec.toNat h
  rw [BitVec.toNat_and] at this
  have e : (7#32 : BitVec 32).toNat = 2 ^ 3 - 1 := rfl
  rw [e, Nat.and_two_pow_sub_one_eq_mod] at this
  exact this

theorem nat_of_toInt {v : BitVec 32} (h : 0 ≤ v.toInt) : (v.toNat : ℤ) = v.toInt := by
  rw [BitVec.toInt_eq_toNat_cond] at h ⊢; have := v.isLt; split at h <;> split <;> omega

theorem ok_of_pre (E : Env F) (h : Cert.Pre_row_groups.fn (F := F) E.dst E.used E.x1 E.mf E.gfin E.ys = fun _ => 1#1) : Ok E := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro k
  unfold at1
  split
  · rename_i hk
    have e := congrFun h (ValueIdx.ix1 ⟨k, hk⟩)
    unfold Cert.Pre_row_groups.fn at e
    pointwise at e
    change _ = 1#1 at e
    simp only [IntOp.cmpi, andi_ofBool, ofBool_eq_one, Bool.and_eq_true, BitVec.sle_iff_toInt_le, beq_iff_eq] at e
    obtain ⟨⟨h1, h2⟩, h3⟩ := e
    rw [show (0#32 : BitVec 32).toInt = 0 from rfl] at h1
    rw [show (49144#32 : BitVec 32).toInt = 49144 from rfl] at h2
    have a1 := nat_of_toInt h1
    have a3 := low3 _ h3
    exact ⟨Nat.dvd_of_mod_eq_zero a3, by omega⟩
  · exact ⟨⟨0, rfl⟩, by decide⟩

end Cert.CombineIdeal.Hand

end
-- ==== Proof.CombineFrames.lean ====
/-
  The frames: the combining kernel's at the machine's floats and at the ideal ones, from one run; the reference's.
-/
module

public import proofs.«01_k».proof.Defs
public import proofs.«01_k».proof.Proof.CombineRun
public import proofs.«01_k».proof.Proof.CombinePre
public import proofs.«01_k».proof.Proof.Gen.Combine
public import proofs.«01_k».proof.Proof.Gen.CombineReferenceIdeal
public import proofs.«01_k».proof.Proof.Gen.CombineReferenceIdeal.Run

@[expose] public section

noncomputable section

namespace Cert.CombineFrames

open Idealize.ShloMosaic Idealize.SL.Sem

theorem ok_ideal (m : (ℓ : Loc Cert.CombineIdeal.nD Cert.CombineIdeal.τ Cert.CombineIdeal.sig) → Buf (Elt Ideal) ℓ) (h : Cert.Pre_CombineIdeal m) :
    ∀ c, Cert.CombineIdeal.Hand.Ok (Cert.CombineIdeal.Hand.envOf m c) := fun c => Cert.CombineIdeal.Hand.ok_of_pre _ (h c)

theorem combine_ideal : Cert.quiescent_CombineIdeal := fun m ρ h =>
  (θ_run Cert.CombineIdeal.defs _ _).mono (fun _ h => ⟨fun c => (h.1 c).1, h.2⟩) (Cert.CombineIdeal.Hand.run_out (F := Ideal) m ρ (ok_ideal m h))

/-- The frame at the machine's floats, of the text that is read at the ideal ones. -/
def BitsFrame : Prop :=
  ∀ (m : (ℓ : Loc Cert.CombineIdeal.nD Cert.CombineIdeal.τ Cert.CombineIdeal.sig) → Buf (Elt Bits) ℓ)
    (g : Dev Cert.CombineIdeal.nD → PrngReg),
    (∀ c : Dev Cert.CombineIdeal.nD, Cert.Pre_row_groups.fn (F := Bits)
      (m ((c.tc : Thread Cert.CombineIdeal.nD Cert.CombineIdeal.τ).loc Cert.CombineIdeal.main_arg0))
      (m ((c.tc : Thread Cert.CombineIdeal.nD Cert.CombineIdeal.τ).loc Cert.CombineIdeal.main_arg1))
      (m ((c.tc : Thread Cert.CombineIdeal.nD Cert.CombineIdeal.τ).loc Cert.CombineIdeal.main_arg2))
      (m ((c.tc : Thread Cert.CombineIdeal.nD Cert.CombineIdeal.τ).loc Cert.CombineIdeal.main_arg3))
      (m ((c.tc : Thread Cert.CombineIdeal.nD Cert.CombineIdeal.τ).loc Cert.CombineIdeal.main_arg4))
      (m ((c.tc : Thread Cert.CombineIdeal.nD Cert.CombineIdeal.τ).loc Cert.CombineIdeal.main_arg5)) = fun _ => 1#1) →
    θ_run (Cert.CombineIdeal.defs (F := Bits)) (onTc (τ := Cert.CombineIdeal.τ) (Cert.CombineIdeal.main (F := Bits)))
      ⟨m, fun _ => 0, g⟩ (fun r => (∀ c : Dev Cert.CombineIdeal.nD,
        r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
        ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
        ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
        ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
        ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
        ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
        ∧ r.2.sem = fun _ => 0)

theorem bits_frame : BitsFrame := fun m ρ h =>
  (θ_run Cert.CombineIdeal.defs _ _).mono (fun _ h => ⟨fun c => (h.1 c).1, h.2⟩)
    (Cert.CombineIdeal.Hand.run_out (F := Bits) m ρ (fun c => Cert.CombineIdeal.Hand.ok_of_pre (F := Bits) _ (h c)))

/-- The two texts are one, so the two frames are one proposition. -/
theorem frames_agree : BitsFrame = Cert.quiescent_Combine := by sl_kernel_rfl

theorem combine_bits : Cert.quiescent_Combine := frames_agree ▸ bits_frame

theorem reference_ideal : Cert.quiescent_CombineReferenceIdeal := fun m ρ _ =>
  (θ_run Cert.CombineReferenceIdeal.defs _ _).mono
    (fun r h => ⟨fun c => (h c).2, Idealize.ShloMosaic.sem_eq_zero_of_no_sems (by decide) r.2⟩)
    (Cert.CombineReferenceIdeal.Value.run (F := Ideal) m ρ)

theorem reference_ideal_pre : Cert.quiescent_CombineReferenceIdeal_pre_row_groups := fun m ρ _ =>
  reference_ideal m ρ trivial

end Cert.CombineFrames

end
-- ==== Proof.CombineResult.lean ====
/-
  The array that the run leaves: the steps' blocks side by side.
-/
module

public import proofs.«01_k».proof.Proof.CombineRun
public import Idealize.ShloMosaic.Lib.Pipeline.ValueKit

@[expose] public section

noncomputable section

namespace Cert.CombineIdeal.Hand

open Cert.CombineIdeal Cert.CombineIdeal.Gen
open Idealize.ShloMosaic Idealize.ShloMosaic.TcCoe Idealize.SL.Sem Idealize.ShloMosaic.Pipeline

variable {F : FTy → Type} [FloatOps F]

/-- The steps' blocks side by side. -/
def blocks (E : Env F) : S16384x1024.Idx → F .f32 := fun i =>
  outVal E ((i 0).val / 512) (ix2 ⟨(i 0).val % 512, Nat.mod_lt _ (by decide)⟩ (i 1))

theorem blocks_at (E : Env F) (t : ℕ) (y : S512x1024.Idx) (i : S16384x1024.Idx) (h0 : (i 0).val = t * 512 + (y 0).val) (h1 : (i 1).val = (y 1).val) :
    blocks E i = outVal E t y := by
  have hy : (y 0).val < 512 := (y 0).isLt
  unfold blocks
  rw [show (i 0).val / 512 = t by omega]
  refine congrArg _ (funext fun a => ?_)
  match a with
  | ⟨0, _⟩ => exact Fin.ext (by show (i 0).val % 512 = (y 0).val; omega)
  | ⟨1, _⟩ => exact Fin.ext h1

variable (m : (ℓ : Loc nD τ sig) → Buf (Elt F) ℓ) (c : Dev nD)

theorem result_covers : ((pcf m).win 3).Covers := of_decide_eq_true (by sl_kernel_rfl)

theorem result_eq : (dats m 0 c).arrAt 3 (pcf m).N = blocks (envOf m c) := by
  refine (dats m 0 c).arrAt_eq_of_covers 3 _ (result_covers m) fun t hf y => ?_
  rw [after3]
  refine (blocks_at (envOf m c) t.val _ _ ?_ ?_).symm
  · show (BitVec.ofNat 32 (grid0.coords t 0).val).toNat * 512 + 1 * (y (0 : Fin 2)).val = t.val * 512 + (y (0 : Fin 2)).val
    have h : (grid0.coords t 0).val < 32 := (grid0.coords t 0).isLt
    rw [BitVec.toNat_ofNat, Nat.mod_eq_of_lt (by omega), coord_val m t, Nat.one_mul]
  · show 0 * 1024 + 1 * (y (1 : Fin 2)).val = (y (1 : Fin 2)).val
    omega

end Cert.CombineIdeal.Hand
-- ==== Proof.CombineRow.lean ====
/-
  One token's row of the combine, as one formula of the arrays' entries: the kernel's block and the reference are both read to it.
-/
module

public import Idealize.ShloMosaic.Lib.Pointwise

@[expose] public section

noncomputable section

namespace Cert.Combiner

open Idealize.ShloMosaic

/-- An output of the experts at place `p` of a tile of which `n` groups of eight rows are in use. -/
def keptAt (n : BitVec 32) (p : ℕ) (y : EReal) : EReal :=
  Scalar.select (IntOp.cmpi .slt (BitVec.ofNat 32 p) (IntOp.muli n 8#32)) y (0 : EReal)

/-- Whether place `p` is one of the two that a token names. -/
def takesAt (a b : EReal) (p : ℕ) : BitVec 1 :=
  IntOp.ori (BitVec.ofBool (decide ((FloatOps.sitofp .f32 (BitVec.ofNat 32 p) : Ideal .f32) = a)))
    (BitVec.ofBool (decide ((FloatOps.sitofp .f32 (BitVec.ofNat 32 p) : Ideal .f32) = b)))

/-- A token's residual at one feature with the outputs at its places added. -/
def sumAt (x a b : EReal) (y : Fin 1280 → EReal) : EReal :=
  x + ∑ p : Fin 1280, Scalar.select (takesAt a b p.val) (y p) (0 : EReal)

/-- A row over the root of its mean square, scaled. -/
def normAt (x : Fin 1024 → EReal) (g : EReal) (c : Fin 1024) : EReal :=
  x c * Ideal.rsqrt (Ideal.div (∑ k, x k * x k) (Ideal.ofBits .f32 0x44800000#32) + Ideal.ofBits .f32 0x358637BD#32) * g

end Cert.Combiner

end
-- ==== Proof.CombineValue.lean ====
/-
  What one step's block holds at the ideal instance, element by element.
-/
module

public import proofs.«01_k».proof.Proof.CombineBody
public import proofs.«01_k».proof.Proof.CombineRow
public import Idealize.ShloMosaic.Lib.Pointwise

@[expose] public section

noncomputable section

namespace Cert.Combiner

open Idealize.ShloMosaic Cert.CombineIdeal Cert.CombineIdeal.Gen Cert.CombineIdeal.Hand

set_option maxRecDepth 16384

theorem pay2_at (n : BitVec 32) (v : Vec Ideal S1x1280x1024 .f32) (p : Fin 1280) (c : Fin 1024) :
    k0_pay2 (F := Ideal) n v (ix2 p c) = keptAt n p.val (v (ix3 0 p c)) := by
  pointwise [k0_pay2]
  rfl

theorem pay1_at (y : FVec Ideal S1280x1024 .bf16) (m : Vec Ideal S512x128 .f32) (x : Vec Ideal S512x1024 .f32) (g : Vec Ideal S1x1024 .f32)
    (r : Fin 512) (c : Fin 1024) :
    k0_pay1 (F := Ideal) y m x g (ix2 r c)
      = normAt (fun k => sumAt (x (ix2 r k)) (m (ix2 r 0)) (m (ix2 r 1)) fun p => y (ix2 p k)) (g (ix2 0 c)) c := by
  pointwise [k0_pay1]
  rfl

/-- Row `r` of the array at step `t`: token `512 * t + r`, through the places of tile `t`. -/
theorem outVal_at (E : Env Ideal) (t : ℕ) (r : Fin 512) (c : Fin 1024) :
    outVal E t (ix2 r c) = normAt
      (fun k => sumAt (E.x1 (ix2 ⟨(512 * t + r.val) % 16384, Nat.mod_lt _ (by decide)⟩ k))
        (E.mf (ix2 ⟨(512 * t + r.val) % 16384, Nat.mod_lt _ (by decide)⟩ 0)) (E.mf (ix2 ⟨(512 * t + r.val) % 16384, Nat.mod_lt _ (by decide)⟩ 1))
        fun p => keptAt (at1 E.used t) p.val (E.ys (rowIx (srcRow E.dst t p.val) k)))
      (E.gfin (ix2 0 c)) c := by
  unfold outVal
  rw [pay1_at]
  simp only [pay2_at]
  rfl

end Cert.Combiner

end
-- ==== Proof.CombineRefSteps.lean ====
/-
  What the reference of the combine computes, in the steps of its text.
-/
module

public import proofs.«01_k».proof.Proof.Gen.CombineReferenceIdeal.Run

@[expose] public section

noncomputable section

namespace Cert.Combiner.Ref

open Idealize.ShloMosaic Cert.CombineReferenceIdeal Cert.CombineReferenceIdeal.Gen Cert.CombineReferenceIdeal.Value Idealize.SL.Sem

variable {F : FTy → Type} [FloatOps F]

/-- The row of `ys` at each place: its group's first row and its position there. -/
def rows (dst : IVec S5120 32) : IVec S40960x1 32 :=
  have v0 : IVec S5120x1 32 := broadcastInDim S5120x1 ![0] bcast_S5120_S5120x1_0 dst
  have v3 : IVec S5120x8 32 := broadcastInDim S5120x8 ![0, 1] bcast_S5120x1_S5120x8_0_1 v0
  have v1 : IVec S8 32 := (iotaInDim S8 32 0)
  have v2 : IVec S1x8 32 := broadcastInDim S1x8 ![1] bcast_S8_S1x8_1 v1
  have v4 : IVec S5120x8 32 := broadcastInDim S5120x8 ![0, 1] bcast_S1x8_S5120x8_0_1 v2
  have v5 : IVec S5120x8 32 := addi v3 v4
  have v6 : IVec S40960 32 := shapeCast S40960 v5 shapeCasts_S5120x8_S40960
  have c_0 : IVec S_ 32 := (constantI S_ 32 0#32)
  have v16 : IVec S40960 32 := broadcastInDim S40960 ![] bcast_S_S40960 c_0
  have v17 : IVec S40960 1 := cmpi .slt v6 v16
  have c_1 : IVec S_ 32 := (constantI S_ 32 49152#32)
  have v18 : IVec S40960 32 := broadcastInDim S40960 ![] bcast_S_S40960 c_1
  have v19 : IVec S40960 32 := addi v6 v18
  have v20 : IVec S40960 32 := select v17 v19 v6
  have idx : IVec S40960x1 32 := broadcastInDim S40960x1 ![0] bcast_S40960_S40960x1_0 v20
  idx

/-- The rows listed, zero past the tile's groups in use. -/
def kept (used : IVec S32 32) (ys : FVec F S49152x1024 .f32) (idx : IVec S40960x1 32) : FVec F S32x1280x1024 .f32 :=
  have v7 : IVec S1280 32 := (iotaInDim S1280 32 0)
  have v8 : IVec S1x1280 32 := broadcastInDim S1x1280 ![1] bcast_S1280_S1x1280_1 v7
  have v12 : IVec S32x1280 32 := broadcastInDim S32x1280 ![0, 1] bcast_S1x1280_S32x1280_0_1 v8
  have v9 : IVec S32x1 32 := broadcastInDim S32x1 ![0] bcast_S32_S32x1_0 used
  have c : IVec S_ 32 := (constantI S_ 32 8#32)
  have v10 : IVec S32x1 32 := broadcastInDim S32x1 ![] bcast_S_S32x1 c
  have v11 : IVec S32x1 32 := muli v9 v10
  have v13 : IVec S32x1280 32 := broadcastInDim S32x1280 ![0, 1] bcast_S32x1_S32x1280_0_1 v11
  have v14 : IVec S32x1280 1 := cmpi .slt v12 v13
  have v15 : IVec S32x1280x1 1 := broadcastInDim S32x1280x1 ![0, 1] bcast_S32x1280_S32x1280x1_0_1 v14
  have kv1 : IVec S32x1280x1024 1 := broadcastInDim S32x1280x1024 ![0, 1, 2] bcast_S32x1280x1_S32x1280x1024_0_1_2 v15
  have v22 : FVec F S40960x1024 .f32 := Host.gather gather_S49152x1024_S40960x1_S40960x1024_1_0_n_n_0_1_11024 ys idx
  have v23 : FVec F S32x1280x1024 .f32 := shapeCast S32x1280x1024 v22 shapeCasts_S40960x1024_S32x1280x1024
  have cst : FVec F S_ .f32 := (constant S_ .f32 0x00000000#32)
  have kv0 : FVec F S_ .f32 := cst
  have kv2 : FVec F S32x1280x1024 .f32 := broadcastInDim S32x1280x1024 ![] bcast_S_S32x1280x1024 kv0
  have y : FVec F S32x1280x1024 .f32 := select kv1 v23 kv2
  y

/-- Whether a token takes a place. -/
def takes (mf : FVec F S16384x128 .f32) : IVec S32x512x1280 1 :=
  have v7 : IVec S1280 32 := (iotaInDim S1280 32 0)
  have v31 : FVec F S1280 .f32 := sitofp .f32 v7
  have v32 : FVec F S1x1x1280 .f32 := broadcastInDim S1x1x1280 ![2] bcast_S1280_S1x1x1280_2 v31
  have v33 : FVec F S32x512x1280 .f32 := broadcastInDim S32x512x1280 ![0, 1, 2] bcast_S1x1x1280_S32x512x1280_0_1_2 v32
  have v25 : FVec F S16384x1 .f32 := extractStridedSlice S16384x1 ![0, 0] mf slices_S16384x128_S16384x1_0_0
  have v26 : FVec F S16384 .f32 := shapeCast S16384 v25 shapeCasts_S16384x1_S16384
  have v27 : FVec F S32x512x1 .f32 := shapeCast S32x512x1 v26 shapeCasts_S16384_S32x512x1
  have v34 : FVec F S32x512x1280 .f32 := broadcastInDim S32x512x1280 ![0, 1, 2] bcast_S32x512x1_S32x512x1280_0_1_2 v27
  have v35 : IVec S32x512x1280 1 := cmpf .oeq v33 v34
  have v36 : FVec F S32x512x1280 .f32 := broadcastInDim S32x512x1280 ![0, 1, 2] bcast_S1x1x1280_S32x512x1280_0_1_2 v32
  have v28 : FVec F S16384x1 .f32 := extractStridedSlice S16384x1 ![0, 1] mf slices_S16384x128_S16384x1_0_1
  have v29 : FVec F S16384 .f32 := shapeCast S16384 v28 shapeCasts_S16384x1_S16384
  have v30 : FVec F S32x512x1 .f32 := shapeCast S32x512x1 v29 shapeCasts_S16384_S32x512x1
  have v37 : FVec F S32x512x1280 .f32 := broadcastInDim S32x512x1280 ![0, 1, 2] bcast_S32x512x1_S32x512x1280_0_1_2 v30
  have v38 : IVec S32x512x1280 1 := cmpf .oeq v36 v37
  have taken : IVec S32x512x1280 1 := ori v35 v38
  taken

/-- The places that each token takes, added. -/
def added (taken : IVec S32x512x1280 1) (y : FVec F S32x1280x1024 .f32) : FVec F S16384x1024 .f32 :=
  have v40 : IVec S32x512x1280x1 1 := broadcastInDim S32x512x1280x1 ![0, 1, 2] bcast_S32x512x1280_S32x512x1280x1_0_1_2 taken
  have tv1 : IVec S32x512x1280x1024 1 := broadcastInDim S32x512x1280x1024 ![0, 1, 2, 3] bcast_S32x512x1280x1_S32x512x1280x1024_0_1_2_3 v40
  have v41 : FVec F S32x1x1280x1024 .f32 := broadcastInDim S32x1x1280x1024 ![0, 2, 3] bcast_S32x1280x1024_S32x1x1280x1024_0_2_3 y
  have tv2 : FVec F S32x512x1280x1024 .f32 := broadcastInDim S32x512x1280x1024 ![0, 1, 2, 3] bcast_S32x1x1280x1024_S32x512x1280x1024_0_1_2_3 v41
  have cst_2 : FVec F S_ .f32 := (constant S_ .f32 0x00000000#32)
  have tv0 : FVec F S_ .f32 := cst_2
  have tv3 : FVec F S32x512x1280x1024 .f32 := broadcastInDim S32x512x1280x1024 ![] bcast_S_S32x512x1280x1024 tv0
  have v42 : FVec F S32x512x1280x1024 .f32 := select tv1 tv2 tv3
  have cst_3 : FVec F S_ .f32 := (constant S_ .f32 0x00000000#32)
  have v43 : FVec F S32x512x1024 .f32 := Host.reduceAdd v42 cst_3 reducesTo_S32x512x1280x1024_S32x512x1024_d2 h_S_
  have moe : FVec F S16384x1024 .f32 := shapeCast S16384x1024 v43 shapeCasts_S32x512x1024_S16384x1024
  moe

/-- The residual with the tokens' sums. -/
def summed (x1 : FVec F S16384x1024 .f32) (moe : FVec F S16384x1024 .f32) : FVec F S16384x1024 .f32 :=
  have x : FVec F S16384x1024 .f32 := addf x1 moe
  x

/-- The norm over the features, scaled. -/
def normed (x : FVec F S16384x1024 .f32) (gfin : FVec F S1x1024 .f32) : FVec F S16384x1024 .f32 :=
  have v46 : FVec F S16384x1024 .f32 := mulf x x
  have cst_4 : FVec F S_ .f32 := (constant S_ .f32 0x00000000#32)
  have v47 : FVec F S16384 .f32 := Host.reduceAdd v46 cst_4 reducesTo_S16384x1024_S16384_d1 h_S_
  have v48 : FVec F S16384x1 .f32 := broadcastInDim S16384x1 ![0] bcast_S16384_S16384x1_0 v47
  have cst_5 : FVec F S_ .f32 := (constant S_ .f32 0x44800000#32)
  have v49 : FVec F S16384x1 .f32 := broadcastInDim S16384x1 ![] bcast_S_S16384x1 cst_5
  have v50 : FVec F S16384x1 .f32 := Host.divf v48 v49
  have cst_6 : FVec F S_ .f32 := (constant S_ .f32 0x358637BD#32)
  have v51 : FVec F S16384x1 .f32 := broadcastInDim S16384x1 ![] bcast_S_S16384x1 cst_6
  have v52 : FVec F S16384x1 .f32 := addf v50 v51
  have v53 : FVec F S16384x1 .f32 := Host.rsqrt v52
  have v54 : FVec F S16384x1024 .f32 := broadcastInDim S16384x1024 ![0, 1] bcast_S16384x1_S16384x1024_0_1 v53
  have v55 : FVec F S16384x1024 .f32 := mulf x v54
  have v56 : FVec F S16384x1024 .f32 := broadcastInDim S16384x1024 ![0, 1] bcast_S1x1024_S16384x1024_0_1 gfin
  have v57 : FVec F S16384x1024 .f32 := mulf v55 v56
  v57

/-- The whole reference. -/
def whole (dst : IVec S5120 32) (used : IVec S32 32) (x1 : FVec F S16384x1024 .f32) (mf : FVec F S16384x128 .f32) (gfin : FVec F S1x1024 .f32)
    (ys : FVec F S49152x1024 .f32) : FVec F S16384x1024 .f32 :=
  normed (summed x1 (added (takes mf) (kept used ys (rows dst)))) gfin

theorem res_eq (m : (ℓ : Loc nD τ sig) → Buf (Elt F) ℓ) (d : Dev nD) :
    res_main_v57 m d = whole (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) := rfl

end Cert.Combiner.Ref

end
-- ==== Proof.CombineRefValue.lean ====
/-
  What the reference of the combine computes, element by element.
-/
module

public import proofs.«01_k».proof.Proof.CombineRefSteps
public import proofs.«01_k».proof.Proof.CombineRow
public import Idealize.ShloMosaic.Lib.Pointwise
public import Idealize.ShloMosaic.Lib.Routing.Ops

@[expose] public section

noncomputable section

namespace Cert.Combiner.Ref

open Idealize.ShloMosaic Cert.CombineReferenceIdeal Cert.CombineReferenceIdeal.Gen

set_option maxRecDepth 16384

theorem slt_of_small {a b : BitVec 32} (ha : a.toNat < 2 ^ 31) (hb : b.toNat < 2 ^ 31) :
    IntOp.cmpi .slt a b = if a.toNat < b.toNat then 1#1 else 0#1 := by
  have e : a.slt b = decide (a.toNat < b.toNat) := by
    rw [BitVec.slt_eq_decide, BitVec.toInt_eq_toNat_of_lt (by omega), BitVec.toInt_eq_toNat_of_lt (by omega)]
    simp
  show BitVec.ofBool (a.slt b) = _
  rw [e]
  by_cases h : a.toNat < b.toNat
  · rw [if_pos h, decide_eq_true h]; rfl
  · rw [if_neg h, decide_eq_false h]; rfl

/-- The row listed at place `r`. -/
theorem rows_at (dst : IVec S5120 32) (r : Fin 40960) (h : (dst (ix1 ⟨r.val / 8, by omega⟩)).toNat + 8 ≤ 49152) :
    rows dst (ix2 r 0) = BitVec.ofNat 32 ((dst (ix1 ⟨r.val / 8, by omega⟩)).toNat + r.val % 8) := by
  pointwise [rows]
  have hv : IntOp.addi (dst (ix1 ⟨r.val / 8, by omega⟩)) (BitVec.ofNat 32 (r.val % 8))
      = BitVec.ofNat 32 ((dst (ix1 ⟨r.val / 8, by omega⟩)).toNat + r.val % 8) := by
    apply BitVec.eq_of_toNat_eq
    show (dst (ix1 ⟨r.val / 8, by omega⟩) + BitVec.ofNat 32 (r.val % 8)).toNat = _
    simp only [BitVec.toNat_add, BitVec.toNat_ofNat]
    omega
  rw [hv, slt_of_small (by simp only [BitVec.toNat_ofNat]; omega) (by decide), if_neg (by simp)]
  rfl

/-- The output listed at place `p` of tile `t`, zero past the groups in use. -/
theorem kept_at (used : IVec S32 32) (ys : FVec Ideal S49152x1024 .f32) (idx : IVec S40960x1 32) (t : Fin 32) (p : Fin 1280) (c : Fin 1024)
    (b : Fin 49152) (hb : idx (ix2 ⟨t.val * 1280 + p.val, by omega⟩ 0) = BitVec.ofNat 32 b.val) :
    kept (F := Ideal) used ys idx (ix3 t p c) = keptAt (used (ix1 t)) p.val (ys (ix2 b c)) := by
  pointwise [kept]
  unfold keptAt
  refine congrArg (fun v => Scalar.select _ v (0 : EReal)) ?_
  exact Routing.gather_row _ rfl rfl rfl rfl rfl ys idx _ c b hb (by decide)

theorem takes_at (mf : FVec Ideal S16384x128 .f32) (t : Fin 32) (r : Fin 512) (p : Fin 1280) :
    takes (F := Ideal) mf (ix3 t r p) = takesAt (mf (ix2 ⟨t.val * 512 + r.val, by omega⟩ 0)) (mf (ix2 ⟨t.val * 512 + r.val, by omega⟩ 1)) p.val := by
  pointwise [takes]
  rfl

theorem added_at (w : IVec S32x512x1280 1) (y : FVec Ideal S32x1280x1024 .f32) (r : Fin 16384) (c : Fin 1024) :
    added (F := Ideal) w y (ix2 r c) = ∑ p : Fin 1280, Scalar.select (w (ix3 ⟨r.val / 512, by omega⟩ ⟨r.val % 512, by omega⟩ p))
      (y (ix3 ⟨r.val / 512, by omega⟩ p c)) (0 : EReal) := by
  pointwise [added]

theorem normed_at (x : FVec Ideal S16384x1024 .f32) (g : FVec Ideal S1x1024 .f32) (r : Fin 16384) (c : Fin 1024) :
    normed (F := Ideal) x g (ix2 r c) = normAt (fun k => x (ix2 r k)) (g (ix2 0 c)) c := by
  pointwise [normed]
  rfl

theorem summed_at (x y : FVec Ideal S16384x1024 .f32) (i : S16384x1024.Idx) : summed (F := Ideal) x y i = (x i + y i : EReal) := rfl

/-- The whole reference at one element: the token's residual with the outputs at its tile's places that it names, over the root of the mean
    square. -/
theorem whole_at (dst : IVec S5120 32) (used : IVec S32 32) (x1 : FVec Ideal S16384x1024 .f32) (mf : FVec Ideal S16384x128 .f32)
    (gfin : FVec Ideal S1x1024 .f32) (ys : FVec Ideal S49152x1024 .f32) (r : Fin 16384) (c : Fin 1024) (b : Fin 1280 → Fin 49152)
    (hd : ∀ k, (dst (ix1 k)).toNat + 8 ≤ 49152)
    (hb : ∀ p : Fin 1280, (b p).val = (dst (ix1 ⟨(r.val / 512 * 1280 + p.val) / 8, by omega⟩)).toNat + (r.val / 512 * 1280 + p.val) % 8) :
    whole (F := Ideal) dst used x1 mf gfin ys (ix2 r c) = normAt
      (fun k => sumAt (x1 (ix2 r k)) (mf (ix2 r 0)) (mf (ix2 r 1)) fun p => keptAt (used (ix1 ⟨r.val / 512, by omega⟩)) p.val (ys (ix2 (b p) k)))
      (gfin (ix2 0 c)) c := by
  unfold whole
  rw [normed_at]
  refine congrArg (fun f => normAt f (gfin (ix2 0 c)) c) (funext fun k => ?_)
  have hr : (⟨r.val / 512 * 512 + r.val % 512, by omega⟩ : Fin 16384) = r := Fin.ext (by
    show r.val / 512 * 512 + r.val % 512 = r.val; omega)
  rw [summed_at, added_at]
  unfold sumAt
  refine congrArg (fun z : EReal => x1 (ix2 r k) + z) (Finset.sum_congr rfl fun p _ => ?_)
  have e : rows dst (ix2 ⟨r.val / 512 * 1280 + p.val, by omega⟩ 0) = BitVec.ofNat 32 (b p).val := by
    rw [hb p]
    exact rows_at dst ⟨r.val / 512 * 1280 + p.val, by omega⟩ (hd _)
  rw [takes_at, kept_at used ys (rows dst) ⟨r.val / 512, by omega⟩ p k (b p) e]
  simp only [hr]

end Cert.Combiner.Ref

end
-- ==== Proof.CombineEquation.lean ====
/-
  The combining kernel's array is the reference's, element by element, and so the two runs end alike.
-/
module

public import proofs.«01_k».proof.Defs
public import proofs.«01_k».proof.Proof.CombineFrames
public import proofs.«01_k».proof.Proof.CombineResult
public import proofs.«01_k».proof.Proof.CombineValue
public import proofs.«01_k».proof.Proof.CombineRefValue

@[expose] public section

noncomputable section

namespace Cert.Combiner

open Idealize.ShloMosaic Idealize.SL.Sem Cert.CombineIdeal.Hand

theorem at1_eq {n : ℕ} (f : (⟨1, ![n]⟩ : Shape).Idx → BitVec 32) (k : Fin n) : at1 f k.val = f (ix1 k) := by
  unfold at1
  rw [dif_pos k.isLt]
  rfl

/-- Over a table of groups inside the array, the steps' blocks are the reference. -/
theorem blocks_eq (E : Env Ideal) (ok : Ok E) :
    blocks E = Ref.whole (F := Ideal) E.dst E.used E.x1 E.mf E.gfin E.ys := by
  funext i
  obtain ⟨r, c, rfl⟩ : ∃ (r : Fin 16384) (c : Fin 1024), i = ix2 r c := ⟨i 0, i 1, eq_ix2 i⟩
  have hr := r.isLt
  have hw : ∀ p : Fin 1280, srcRow E.dst (r.val / 512) p.val
      = (E.dst (ix1 ⟨(r.val / 512 * 1280 + p.val) / 8, by omega⟩)).toNat + (r.val / 512 * 1280 + p.val) % 8 := fun p => by
    rw [← at1_eq E.dst ⟨(r.val / 512 * 1280 + p.val) / 8, by omega⟩]
    unfold srcRow
    rw [show 160 * (r.val / 512) + p.val / 8 = (r.val / 512 * 1280 + p.val) / 8 by omega,
      show p.val % 8 = (r.val / 512 * 1280 + p.val) % 8 by omega]
  have hd : ∀ k, (E.dst (ix1 k)).toNat + 8 ≤ 49152 := fun k => by
    rw [← at1_eq E.dst k]; exact (ok k.val).2
  have hu := at1_eq E.used ⟨r.val / 512, by omega⟩
  have hrow : (⟨(512 * (r.val / 512) + r.val % 512) % 16384, Nat.mod_lt _ (by decide)⟩ : Fin 16384) = r :=
    Fin.ext (by show (512 * (r.val / 512) + r.val % 512) % 16384 = r.val; omega)
  refine (outVal_at E (r.val / 512) ⟨r.val % 512, Nat.mod_lt _ (by decide)⟩ c).trans (Eq.symm ?_)
  refine (Ref.whole_at E.dst E.used E.x1 E.mf E.gfin E.ys r c
    (fun p => ⟨srcRow E.dst (r.val / 512) p.val % 49152, Nat.mod_lt _ (by decide)⟩) hd fun p => ?_).trans ?_
  · have := hd ⟨(r.val / 512 * 1280 + p.val) / 8, by omega⟩
    show srcRow E.dst (r.val / 512) p.val % 49152 = _
    rw [hw p]
    exact Nat.mod_eq_of_lt (by omega)
  · simp only [hrow]
    rw [← hu]
    rfl

/-- The two runs end with equal results. -/
theorem algebraic : Cert.algebraic_CombineIdeal_CombineReferenceIdeal := fun m g m' g' h hag => by
  refine ⟨fun c => blocks (envOf m c),
    (θ_run Cert.CombineIdeal.defs _ _).mono (fun _ k c => ⟨((k.1 c).2).trans (result_eq m c), (k.1 c).1⟩)
      (run_out (F := Ideal) m g (Cert.CombineFrames.ok_ideal m h)), ?_⟩
  refine (θ_run Cert.CombineReferenceIdeal.defs _ _).mono (fun _ k c => ⟨((k c).1).trans ?_, (k c).2⟩)
    (Cert.CombineReferenceIdeal.Value.run (F := Ideal) m' g')
  obtain ⟨h0, h1, h2, h3, h4, h5⟩ := hag c
  rw [Ref.res_eq, h0, h1, h2, h3, h4, h5]
  exact (blocks_eq _ (Cert.CombineFrames.ok_ideal m h c)).symm

end Cert.Combiner

end
-- ==== Proof.lean ====
/-
  The certificate: for the experts' call and for the combining call after it, the frames of the kernel and of its reference,
  that the two readings of the kernel are one text, and that the kernel computes the reference.
-/
module

public import proofs.«01_k».proof.Defs
public import proofs.«01_k».proof.Proof.Gen.Pre_plan_tables
public import proofs.«01_k».proof.Proof.Gen.Pre_row_groups
public import proofs.«01_k».proof.Proof.Frames
public import proofs.«01_k».proof.Proof.Equation
public import proofs.«01_k».proof.Proof.CombineFrames
public import proofs.«01_k».proof.Proof.CombineEquation

@[expose] public section

noncomputable section

namespace Cert.Proof

theorem claim : Cert.Claim :=
  ⟨Cert.Kernel.Gen.facts, Cert.KernelIdeal.Gen.facts, Cert.ReferenceIdeal.Gen.facts, Cert.Combine.Gen.facts, Cert.CombineIdeal.Gen.facts,
    Cert.CombineReferenceIdeal.Gen.facts, Cert.Pre_plan_tables.Gen.facts, Cert.Pre_row_groups.Gen.facts,
    Cert.Frames.kernel_bits, Cert.Frames.kernel_ideal, Cert.Frames.reference_ideal, Cert.Frames.reference_ideal_pre,
    Cert.CombineFrames.combine_bits, Cert.CombineFrames.combine_ideal, Cert.CombineFrames.reference_ideal, Cert.CombineFrames.reference_ideal_pre,
    trivial, Cert.Expert.algebraic, trivial, Cert.Combiner.algebraic⟩

end Cert.Proof

end
